-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite [hPre_finite : Cert.Pre_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite [hPre_finite : Cert.Pre_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) = (fun _ => 1#1)

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_DwBr (m : (ℓ : Loc Cert.DwBr.nD Cert.DwBr.τ Cert.DwBr.sig) → Buf (Elt Bits) ℓ) : Prop :=
  True

def Pre_DwBrIdeal (m : (ℓ : Loc Cert.DwBrIdeal.nD Cert.DwBrIdeal.τ Cert.DwBrIdeal.sig) → Buf (Elt Ideal) ℓ) : Prop :=
  True

def Pre_DwBrRefIdeal (m : (ℓ : Loc Cert.DwBrRefIdeal.nD Cert.DwBrRefIdeal.τ Cert.DwBrRefIdeal.sig) → Buf (Elt Ideal) ℓ) : Prop :=
  True

def Pre_DwPle (m : (ℓ : Loc Cert.DwPle.nD Cert.DwPle.τ Cert.DwPle.sig) → Buf (Elt Bits) ℓ) : Prop :=
  True

def Pre_DwPleIdeal (m : (ℓ : Loc Cert.DwPleIdeal.nD Cert.DwPleIdeal.τ Cert.DwPleIdeal.sig) → Buf (Elt Ideal) ℓ) : Prop :=
  True

def Pre_DwPleRefIdeal (m : (ℓ : Loc Cert.DwPleRefIdeal.nD Cert.DwPleRefIdeal.τ Cert.DwPleRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head [hPre_finite_head : Cert.Pre_finite_head.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10)) (m ((c.tc : Thread Cert.FfnBwdIdeal.nD Cert.FfnBwdIdeal.τ).loc Cert.FfnBwdIdeal.main_arg11))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8)) (m ((c.tc : Thread Cert.FfnBwdRefIdeal.nD Cert.FfnBwdRefIdeal.τ).loc Cert.FfnBwdRefIdeal.main_arg9)) (m ((c.tc : Thread Cert.FfnBwdRefIdeal.nD Cert.FfnBwdRefIdeal.τ).loc Cert.FfnBwdRefIdeal.main_arg10)) (m ((c.tc : Thread Cert.FfnBwdRefIdeal.nD Cert.FfnBwdRefIdeal.τ).loc Cert.FfnBwdRefIdeal.main_arg11))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdBr (m : (ℓ : Loc Cert.AdBr.nD Cert.AdBr.τ Cert.AdBr.sig) → Buf (Elt Bits) ℓ) : Prop :=
  True

def Pre_AdBrIdeal (m : (ℓ : Loc Cert.AdBrIdeal.nD Cert.AdBrIdeal.τ Cert.AdBrIdeal.sig) → Buf (Elt Ideal) ℓ) : Prop :=
  True

def Pre_AdBrRefIdeal (m : (ℓ : Loc Cert.AdBrRefIdeal.nD Cert.AdBrRefIdeal.τ Cert.AdBrRefIdeal.sig) → Buf (Elt Ideal) ℓ) : Prop :=
  True

def Pre_AdSq (m : (ℓ : Loc Cert.AdSq.nD Cert.AdSq.τ Cert.AdSq.sig) → Buf (Elt Bits) ℓ) : Prop :=
  True

def Pre_AdSqIdeal (m : (ℓ : Loc Cert.AdSqIdeal.nD Cert.AdSqIdeal.τ Cert.AdSqIdeal.sig) → Buf (Elt Ideal) ℓ) : Prop :=
  True

def Pre_AdSqRefIdeal (m : (ℓ : Loc Cert.AdSqRefIdeal.nD Cert.AdSqRefIdeal.τ Cert.AdSqRefIdeal.sig) → Buf (Elt Ideal) ℓ) : Prop :=
  True

def Pre_AdFf1 (m : (ℓ : Loc Cert.AdFf1.nD Cert.AdFf1.τ Cert.AdFf1.sig) → Buf (Elt Bits) ℓ) : Prop :=
  True

def Pre_AdFf1Ideal (m : (ℓ : Loc Cert.AdFf1Ideal.nD Cert.AdFf1Ideal.τ Cert.AdFf1Ideal.sig) → Buf (Elt Ideal) ℓ) : Prop :=
  True

def Pre_AdFf1RefIdeal (m : (ℓ : Loc Cert.AdFf1RefIdeal.nD Cert.AdFf1RefIdeal.τ Cert.AdFf1RefIdeal.sig) → Buf (Elt Ideal) ℓ) : Prop :=
  True

def Pre_AdFf2 (m : (ℓ : Loc Cert.AdFf2.nD Cert.AdFf2.τ Cert.AdFf2.sig) → Buf (Elt Bits) ℓ) : Prop :=
  True

def Pre_AdFf2Ideal (m : (ℓ : Loc Cert.AdFf2Ideal.nD Cert.AdFf2Ideal.τ Cert.AdFf2Ideal.sig) → Buf (Elt Ideal) ℓ) : Prop :=
  True

def Pre_AdFf2RefIdeal (m : (ℓ : Loc Cert.AdFf2RefIdeal.nD Cert.AdFf2RefIdeal.τ Cert.AdFf2RefIdeal.sig) → Buf (Elt Ideal) ℓ) : Prop :=
  True

def Pre_AdPle (m : (ℓ : Loc Cert.AdPle.nD Cert.AdPle.τ Cert.AdPle.sig) → Buf (Elt Bits) ℓ) : Prop :=
  True

def Pre_AdPleIdeal (m : (ℓ : Loc Cert.AdPleIdeal.nD Cert.AdPleIdeal.τ Cert.AdPleIdeal.sig) → Buf (Elt Ideal) ℓ) : Prop :=
  True

def Pre_AdPleRefIdeal (m : (ℓ : Loc Cert.AdPleRefIdeal.nD Cert.AdPleRefIdeal.τ Cert.AdPleRefIdeal.sig) → Buf (Elt Ideal) ℓ) : Prop :=
  True

def Pre_AdSmall (m : (ℓ : Loc Cert.AdSmall.nD Cert.AdSmall.τ Cert.AdSmall.sig) → Buf (Elt Bits) ℓ) : Prop :=
  True

def Pre_AdSmallIdeal (m : (ℓ : Loc Cert.AdSmallIdeal.nD Cert.AdSmallIdeal.τ Cert.AdSmallIdeal.sig) → Buf (Elt Ideal) ℓ) : Prop :=
  True

def Pre_AdSmallRefIdeal (m : (ℓ : Loc Cert.AdSmallRefIdeal.nD Cert.AdSmallRefIdeal.τ Cert.AdSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_finite [hInBwdIdeal : Cert.InBwdIdeal.Facts] [hPre_finite : Cert.Pre_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_finite [hInBwdRefIdeal : Cert.InBwdRefIdeal.Facts] [hPre_finite : Cert.Pre_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1))
      ∧ r.2.sem = fun _ => 0)

def quiescent_DwBr [hDwBr : Cert.DwBr.Facts] : Prop :=
  ∀ (m : (ℓ : Loc Cert.DwBr.nD Cert.DwBr.τ Cert.DwBr.sig) → Buf (Elt Bits) ℓ) (g : Dev Cert.DwBr.nD → PrngReg), Pre_DwBr m →
    θ_run (Cert.DwBr.defs (F := Bits)) (onTc (τ := Cert.DwBr.τ) (Cert.DwBr.main (F := Bits))) ⟨m, fun _ => 0, g⟩ (fun r => (∀ c : Dev Cert.DwBr.nD,
      r.2.mem ((c.tc : Thread Cert.DwBr.nD Cert.DwBr.τ).loc Cert.DwBr.main_arg0) = m ((c.tc : Thread Cert.DwBr.nD Cert.DwBr.τ).loc Cert.DwBr.main_arg0)
      ∧ r.2.mem ((c.tc : Thread Cert.DwBr.nD Cert.DwBr.τ).loc Cert.DwBr.main_arg1) = m ((c.tc : Thread Cert.DwBr.nD Cert.DwBr.τ).loc Cert.DwBr.main_arg1))
      ∧ r.2.sem = fun _ => 0)

def quiescent_DwBrIdeal [hDwBrIdeal : Cert.DwBrIdeal.Facts] : Prop :=
  ∀ (m : (ℓ : Loc Cert.DwBrIdeal.nD Cert.DwBrIdeal.τ Cert.DwBrIdeal.sig) → Buf (Elt Ideal) ℓ) (g : Dev Cert.DwBrIdeal.nD → PrngReg), Pre_DwBrIdeal m →
    θ_run (Cert.DwBrIdeal.defs (F := Ideal)) (onTc (τ := Cert.DwBrIdeal.τ) (Cert.DwBrIdeal.main (F := Ideal))) ⟨m, fun _ => 0, g⟩ (fun r => (∀ c : Dev Cert.DwBrIdeal.nD,
      r.2.mem ((c.tc : Thread Cert.DwBrIdeal.nD Cert.DwBrIdeal.τ).loc Cert.DwBrIdeal.main_arg0) = m ((c.tc : Thread Cert.DwBrIdeal.nD Cert.DwBrIdeal.τ).loc Cert.DwBrIdeal.main_arg0)
      ∧ r.2.mem ((c.tc : Thread Cert.DwBrIdeal.nD Cert.DwBrIdeal.τ).loc Cert.DwBrIdeal.main_arg1) = m ((c.tc : Thread Cert.DwBrIdeal.nD Cert.DwBrIdeal.τ).loc Cert.DwBrIdeal.main_arg1))
      ∧ r.2.sem = fun _ => 0)

def quiescent_DwBrRefIdeal [hDwBrRefIdeal : Cert.DwBrRefIdeal.Facts] : Prop :=
  ∀ (m : (ℓ : Loc Cert.DwBrRefIdeal.nD Cert.DwBrRefIdeal.τ Cert.DwBrRefIdeal.sig) → Buf (Elt Ideal) ℓ) (g : Dev Cert.DwBrRefIdeal.nD → PrngReg), Pre_DwBrRefIdeal m →
    θ_run (Cert.DwBrRefIdeal.defs (F := Ideal)) (onTc (τ := Cert.DwBrRefIdeal.τ) (Cert.DwBrRefIdeal.main (F := Ideal))) ⟨m, fun _ => 0, g⟩ (fun r => (∀ c : Dev Cert.DwBrRefIdeal.nD,
      r.2.mem ((c.tc : Thread Cert.DwBrRefIdeal.nD Cert.DwBrRefIdeal.τ).loc Cert.DwBrRefIdeal.main_arg0) = m ((c.tc : Thread Cert.DwBrRefIdeal.nD Cert.DwBrRefIdeal.τ).loc Cert.DwBrRefIdeal.main_arg0)
      ∧ r.2.mem ((c.tc : Thread Cert.DwBrRefIdeal.nD Cert.DwBrRefIdeal.τ).loc Cert.DwBrRefIdeal.main_arg1) = m ((c.tc : Thread Cert.DwBrRefIdeal.nD Cert.DwBrRefIdeal.τ).loc Cert.DwBrRefIdeal.main_arg1))
      ∧ r.2.sem = fun _ => 0)

def quiescent_DwPle [hDwPle : Cert.DwPle.Facts] : Prop :=
  ∀ (m : (ℓ : Loc Cert.DwPle.nD Cert.DwPle.τ Cert.DwPle.sig) → Buf (Elt Bits) ℓ) (g : Dev Cert.DwPle.nD → PrngReg), Pre_DwPle m →
    θ_run (Cert.DwPle.defs (F := Bits)) (onTc (τ := Cert.DwPle.τ) (Cert.DwPle.main (F := Bits))) ⟨m, fun _ => 0, g⟩ (fun r => (∀ c : Dev Cert.DwPle.nD,
      r.2.mem ((c.tc : Thread Cert.DwPle.nD Cert.DwPle.τ).loc Cert.DwPle.main_arg0) = m ((c.tc : Thread Cert.DwPle.nD Cert.DwPle.τ).loc Cert.DwPle.main_arg0)
      ∧ r.2.mem ((c.tc : Thread Cert.DwPle.nD Cert.DwPle.τ).loc Cert.DwPle.main_arg1) = m ((c.tc : Thread Cert.DwPle.nD Cert.DwPle.τ).loc Cert.DwPle.main_arg1))
      ∧ r.2.sem = fun _ => 0)

def quiescent_DwPleIdeal [hDwPleIdeal : Cert.DwPleIdeal.Facts] : Prop :=
  ∀ (m : (ℓ : Loc Cert.DwPleIdeal.nD Cert.DwPleIdeal.τ Cert.DwPleIdeal.sig) → Buf (Elt Ideal) ℓ) (g : Dev Cert.DwPleIdeal.nD → PrngReg), Pre_DwPleIdeal m →
    θ_run (Cert.DwPleIdeal.defs (F := Ideal)) (onTc (τ := Cert.DwPleIdeal.τ) (Cert.DwPleIdeal.main (F := Ideal))) ⟨m, fun _ => 0, g⟩ (fun r => (∀ c : Dev Cert.DwPleIdeal.nD,
      r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
      ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ r.2.sem = fun _ => 0)

def quiescent_DwPleRefIdeal [hDwPleRefIdeal : Cert.DwPleRefIdeal.Facts] : Prop :=
  ∀ (m : (ℓ : Loc Cert.DwPleRefIdeal.nD Cert.DwPleRefIdeal.τ Cert.DwPleRefIdeal.sig) → Buf (Elt Ideal) ℓ) (g : Dev Cert.DwPleRefIdeal.nD → PrngReg), Pre_DwPleRefIdeal m →
    θ_run (Cert.DwPleRefIdeal.defs (F := Ideal)) (onTc (τ := Cert.DwPleRefIdeal.τ) (Cert.DwPleRefIdeal.main (F := Ideal))) ⟨m, fun _ => 0, g⟩ (fun r => (∀ c : Dev Cert.DwPleRefIdeal.nD,
      r.2.mem ((c.tc : Thread Cert.DwPleRefIdeal.nD Cert.DwPleRefIdeal.τ).loc Cert.DwPleRefIdeal.main_arg0) = m ((c.tc : Thread Cert.DwPleRefIdeal.nD Cert.DwPleRefIdeal.τ).loc Cert.DwPleRefIdeal.main_arg0)
      ∧ r.2.mem ((c.tc : Thread Cert.DwPleRefIdeal.nD Cert.DwPleRefIdeal.τ).loc Cert.DwPleRefIdeal.main_arg1) = m ((c.tc : Thread Cert.DwPleRefIdeal.nD Cert.DwPleRefIdeal.τ).loc Cert.DwPleRefIdeal.main_arg1))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_HeadRefIdeal_pre_finite_head [hHeadRefIdeal : Cert.HeadRefIdeal.Facts] [hPre_finite_head : Cert.Pre_finite_head.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7)
      ∧ r.2.mem ((c.tc : Thread Cert.FfnBwd.nD Cert.FfnBwd.τ).loc Cert.FfnBwd.main_arg8) = m ((c.tc : Thread Cert.FfnBwd.nD Cert.FfnBwd.τ).loc Cert.FfnBwd.main_arg8)
      ∧ r.2.mem ((c.tc : Thread Cert.FfnBwd.nD Cert.FfnBwd.τ).loc Cert.FfnBwd.main_arg9) = m ((c.tc : Thread Cert.FfnBwd.nD Cert.FfnBwd.τ).loc Cert.FfnBwd.main_arg9)
      ∧ r.2.mem ((c.tc : Thread Cert.FfnBwd.nD Cert.FfnBwd.τ).loc Cert.FfnBwd.main_arg10) = m ((c.tc : Thread Cert.FfnBwd.nD Cert.FfnBwd.τ).loc Cert.FfnBwd.main_arg10)
      ∧ r.2.mem ((c.tc : Thread Cert.FfnBwd.nD Cert.FfnBwd.τ).loc Cert.FfnBwd.main_arg11) = m ((c.tc : Thread Cert.FfnBwd.nD Cert.FfnBwd.τ).loc Cert.FfnBwd.main_arg11))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
      ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9)
      ∧ r.2.mem ((c.tc : Thread Cert.FfnBwdIdeal.nD Cert.FfnBwdIdeal.τ).loc Cert.FfnBwdIdeal.main_arg10) = m ((c.tc : Thread Cert.FfnBwdIdeal.nD Cert.FfnBwdIdeal.τ).loc Cert.FfnBwdIdeal.main_arg10)
      ∧ r.2.mem ((c.tc : Thread Cert.FfnBwdIdeal.nD Cert.FfnBwdIdeal.τ).loc Cert.FfnBwdIdeal.main_arg11) = m ((c.tc : Thread Cert.FfnBwdIdeal.nD Cert.FfnBwdIdeal.τ).loc Cert.FfnBwdIdeal.main_arg11))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
      ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9)
      ∧ r.2.mem ((c.tc : Thread Cert.FfnBwdIdeal.nD Cert.FfnBwdIdeal.τ).loc Cert.FfnBwdIdeal.main_arg10) = m ((c.tc : Thread Cert.FfnBwdIdeal.nD Cert.FfnBwdIdeal.τ).loc Cert.FfnBwdIdeal.main_arg10)
      ∧ r.2.mem ((c.tc : Thread Cert.FfnBwdIdeal.nD Cert.FfnBwdIdeal.τ).loc Cert.FfnBwdIdeal.main_arg11) = m ((c.tc : Thread Cert.FfnBwdIdeal.nD Cert.FfnBwdIdeal.τ).loc Cert.FfnBwdIdeal.main_arg11))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7)
      ∧ r.2.mem ((c.tc : Thread Cert.FfnBwdRefIdeal.nD Cert.FfnBwdRefIdeal.τ).loc Cert.FfnBwdRefIdeal.main_arg8) = m ((c.tc : Thread Cert.FfnBwdRefIdeal.nD Cert.FfnBwdRefIdeal.τ).loc Cert.FfnBwdRefIdeal.main_arg8)
      ∧ r.2.mem ((c.tc : Thread Cert.FfnBwdRefIdeal.nD Cert.FfnBwdRefIdeal.τ).loc Cert.FfnBwdRefIdeal.main_arg9) = m ((c.tc : Thread Cert.FfnBwdRefIdeal.nD Cert.FfnBwdRefIdeal.τ).loc Cert.FfnBwdRefIdeal.main_arg9)
      ∧ r.2.mem ((c.tc : Thread Cert.FfnBwdRefIdeal.nD Cert.FfnBwdRefIdeal.τ).loc Cert.FfnBwdRefIdeal.main_arg10) = m ((c.tc : Thread Cert.FfnBwdRefIdeal.nD Cert.FfnBwdRefIdeal.τ).loc Cert.FfnBwdRefIdeal.main_arg10)
      ∧ r.2.mem ((c.tc : Thread Cert.FfnBwdRefIdeal.nD Cert.FfnBwdRefIdeal.τ).loc Cert.FfnBwdRefIdeal.main_arg11) = m ((c.tc : Thread Cert.FfnBwdRefIdeal.nD Cert.FfnBwdRefIdeal.τ).loc Cert.FfnBwdRefIdeal.main_arg11))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7)
      ∧ r.2.mem ((c.tc : Thread Cert.FfnBwdRefIdeal.nD Cert.FfnBwdRefIdeal.τ).loc Cert.FfnBwdRefIdeal.main_arg8) = m ((c.tc : Thread Cert.FfnBwdRefIdeal.nD Cert.FfnBwdRefIdeal.τ).loc Cert.FfnBwdRefIdeal.main_arg8)
      ∧ r.2.mem ((c.tc : Thread Cert.FfnBwdRefIdeal.nD Cert.FfnBwdRefIdeal.τ).loc Cert.FfnBwdRefIdeal.main_arg9) = m ((c.tc : Thread Cert.FfnBwdRefIdeal.nD Cert.FfnBwdRefIdeal.τ).loc Cert.FfnBwdRefIdeal.main_arg9)
      ∧ r.2.mem ((c.tc : Thread Cert.FfnBwdRefIdeal.nD Cert.FfnBwdRefIdeal.τ).loc Cert.FfnBwdRefIdeal.main_arg10) = m ((c.tc : Thread Cert.FfnBwdRefIdeal.nD Cert.FfnBwdRefIdeal.τ).loc Cert.FfnBwdRefIdeal.main_arg10)
      ∧ r.2.mem ((c.tc : Thread Cert.FfnBwdRefIdeal.nD Cert.FfnBwdRefIdeal.τ).loc Cert.FfnBwdRefIdeal.main_arg11) = m ((c.tc : Thread Cert.FfnBwdRefIdeal.nD Cert.FfnBwdRefIdeal.τ).loc Cert.FfnBwdRefIdeal.main_arg11))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdBr [hAdBr : Cert.AdBr.Facts] : Prop :=
  ∀ (m : (ℓ : Loc Cert.AdBr.nD Cert.AdBr.τ Cert.AdBr.sig) → Buf (Elt Bits) ℓ) (g : Dev Cert.AdBr.nD → PrngReg), Pre_AdBr m →
    θ_run (Cert.AdBr.defs (F := Bits)) (onTc (τ := Cert.AdBr.τ) (Cert.AdBr.main (F := Bits))) ⟨m, fun _ => 0, g⟩ (fun r => (∀ c : Dev Cert.AdBr.nD,
      r.2.mem ((c.tc : Thread Cert.AdBr.nD Cert.AdBr.τ).loc Cert.AdBr.main_arg0) = m ((c.tc : Thread Cert.AdBr.nD Cert.AdBr.τ).loc Cert.AdBr.main_arg0)
      ∧ r.2.mem ((c.tc : Thread Cert.AdBr.nD Cert.AdBr.τ).loc Cert.AdBr.main_arg1) = m ((c.tc : Thread Cert.AdBr.nD Cert.AdBr.τ).loc Cert.AdBr.main_arg1)
      ∧ r.2.mem ((c.tc : Thread Cert.AdBr.nD Cert.AdBr.τ).loc Cert.AdBr.main_arg2) = m ((c.tc : Thread Cert.AdBr.nD Cert.AdBr.τ).loc Cert.AdBr.main_arg2)
      ∧ r.2.mem ((c.tc : Thread Cert.AdBr.nD Cert.AdBr.τ).loc Cert.AdBr.main_arg3) = m ((c.tc : Thread Cert.AdBr.nD Cert.AdBr.τ).loc Cert.AdBr.main_arg3))
      ∧ r.2.sem = fun _ => 0)

def quiescent_AdBrIdeal [hAdBrIdeal : Cert.AdBrIdeal.Facts] : Prop :=
  ∀ (m : (ℓ : Loc Cert.AdBrIdeal.nD Cert.AdBrIdeal.τ Cert.AdBrIdeal.sig) → Buf (Elt Ideal) ℓ) (g : Dev Cert.AdBrIdeal.nD → PrngReg), Pre_AdBrIdeal m →
    θ_run (Cert.AdBrIdeal.defs (F := Ideal)) (onTc (τ := Cert.AdBrIdeal.τ) (Cert.AdBrIdeal.main (F := Ideal))) ⟨m, fun _ => 0, g⟩ (fun r => (∀ c : Dev Cert.AdBrIdeal.nD,
      r.2.mem ((c.tc : Thread Cert.AdBrIdeal.nD Cert.AdBrIdeal.τ).loc Cert.AdBrIdeal.main_arg0) = m ((c.tc : Thread Cert.AdBrIdeal.nD Cert.AdBrIdeal.τ).loc Cert.AdBrIdeal.main_arg0)
      ∧ r.2.mem ((c.tc : Thread Cert.AdBrIdeal.nD Cert.AdBrIdeal.τ).loc Cert.AdBrIdeal.main_arg1) = m ((c.tc : Thread Cert.AdBrIdeal.nD Cert.AdBrIdeal.τ).loc Cert.AdBrIdeal.main_arg1)
      ∧ r.2.mem ((c.tc : Thread Cert.AdBrIdeal.nD Cert.AdBrIdeal.τ).loc Cert.AdBrIdeal.main_arg2) = m ((c.tc : Thread Cert.AdBrIdeal.nD Cert.AdBrIdeal.τ).loc Cert.AdBrIdeal.main_arg2)
      ∧ r.2.mem ((c.tc : Thread Cert.AdBrIdeal.nD Cert.AdBrIdeal.τ).loc Cert.AdBrIdeal.main_arg3) = m ((c.tc : Thread Cert.AdBrIdeal.nD Cert.AdBrIdeal.τ).loc Cert.AdBrIdeal.main_arg3))
      ∧ r.2.sem = fun _ => 0)

def quiescent_AdBrRefIdeal [hAdBrRefIdeal : Cert.AdBrRefIdeal.Facts] : Prop :=
  ∀ (m : (ℓ : Loc Cert.AdBrRefIdeal.nD Cert.AdBrRefIdeal.τ Cert.AdBrRefIdeal.sig) → Buf (Elt Ideal) ℓ) (g : Dev Cert.AdBrRefIdeal.nD → PrngReg), Pre_AdBrRefIdeal m →
    θ_run (Cert.AdBrRefIdeal.defs (F := Ideal)) (onTc (τ := Cert.AdBrRefIdeal.τ) (Cert.AdBrRefIdeal.main (F := Ideal))) ⟨m, fun _ => 0, g⟩ (fun r => (∀ c : Dev Cert.AdBrRefIdeal.nD,
      r.2.mem ((c.tc : Thread Cert.AdBrRefIdeal.nD Cert.AdBrRefIdeal.τ).loc Cert.AdBrRefIdeal.main_arg0) = m ((c.tc : Thread Cert.AdBrRefIdeal.nD Cert.AdBrRefIdeal.τ).loc Cert.AdBrRefIdeal.main_arg0)
      ∧ r.2.mem ((c.tc : Thread Cert.AdBrRefIdeal.nD Cert.AdBrRefIdeal.τ).loc Cert.AdBrRefIdeal.main_arg1) = m ((c.tc : Thread Cert.AdBrRefIdeal.nD Cert.AdBrRefIdeal.τ).loc Cert.AdBrRefIdeal.main_arg1)
      ∧ r.2.mem ((c.tc : Thread Cert.AdBrRefIdeal.nD Cert.AdBrRefIdeal.τ).loc Cert.AdBrRefIdeal.main_arg2) = m ((c.tc : Thread Cert.AdBrRefIdeal.nD Cert.AdBrRefIdeal.τ).loc Cert.AdBrRefIdeal.main_arg2)
      ∧ r.2.mem ((c.tc : Thread Cert.AdBrRefIdeal.nD Cert.AdBrRefIdeal.τ).loc Cert.AdBrRefIdeal.main_arg3) = m ((c.tc : Thread Cert.AdBrRefIdeal.nD Cert.AdBrRefIdeal.τ).loc Cert.AdBrRefIdeal.main_arg3))
      ∧ r.2.sem = fun _ => 0)

def quiescent_AdSq [hAdSq : Cert.AdSq.Facts] : Prop :=
  ∀ (m : (ℓ : Loc Cert.AdSq.nD Cert.AdSq.τ Cert.AdSq.sig) → Buf (Elt Bits) ℓ) (g : Dev Cert.AdSq.nD → PrngReg), Pre_AdSq m →
    θ_run (Cert.AdSq.defs (F := Bits)) (onTc (τ := Cert.AdSq.τ) (Cert.AdSq.main (F := Bits))) ⟨m, fun _ => 0, g⟩ (fun r => (∀ c : Dev Cert.AdSq.nD,
      r.2.mem ((c.tc : Thread Cert.AdSq.nD Cert.AdSq.τ).loc Cert.AdSq.main_arg0) = m ((c.tc : Thread Cert.AdSq.nD Cert.AdSq.τ).loc Cert.AdSq.main_arg0)
      ∧ r.2.mem ((c.tc : Thread Cert.AdSq.nD Cert.AdSq.τ).loc Cert.AdSq.main_arg1) = m ((c.tc : Thread Cert.AdSq.nD Cert.AdSq.τ).loc Cert.AdSq.main_arg1)
      ∧ r.2.mem ((c.tc : Thread Cert.AdSq.nD Cert.AdSq.τ).loc Cert.AdSq.main_arg2) = m ((c.tc : Thread Cert.AdSq.nD Cert.AdSq.τ).loc Cert.AdSq.main_arg2)
      ∧ r.2.mem ((c.tc : Thread Cert.AdSq.nD Cert.AdSq.τ).loc Cert.AdSq.main_arg3) = m ((c.tc : Thread Cert.AdSq.nD Cert.AdSq.τ).loc Cert.AdSq.main_arg3))
      ∧ r.2.sem = fun _ => 0)

def quiescent_AdSqIdeal [hAdSqIdeal : Cert.AdSqIdeal.Facts] : Prop :=
  ∀ (m : (ℓ : Loc Cert.AdSqIdeal.nD Cert.AdSqIdeal.τ Cert.AdSqIdeal.sig) → Buf (Elt Ideal) ℓ) (g : Dev Cert.AdSqIdeal.nD → PrngReg), Pre_AdSqIdeal m →
    θ_run (Cert.AdSqIdeal.defs (F := Ideal)) (onTc (τ := Cert.AdSqIdeal.τ) (Cert.AdSqIdeal.main (F := Ideal))) ⟨m, fun _ => 0, g⟩ (fun r => (∀ c : Dev Cert.AdSqIdeal.nD,
      r.2.mem ((c.tc : Thread Cert.AdSqIdeal.nD Cert.AdSqIdeal.τ).loc Cert.AdSqIdeal.main_arg0) = m ((c.tc : Thread Cert.AdSqIdeal.nD Cert.AdSqIdeal.τ).loc Cert.AdSqIdeal.main_arg0)
      ∧ r.2.mem ((c.tc : Thread Cert.AdSqIdeal.nD Cert.AdSqIdeal.τ).loc Cert.AdSqIdeal.main_arg1) = m ((c.tc : Thread Cert.AdSqIdeal.nD Cert.AdSqIdeal.τ).loc Cert.AdSqIdeal.main_arg1)
      ∧ r.2.mem ((c.tc : Thread Cert.AdSqIdeal.nD Cert.AdSqIdeal.τ).loc Cert.AdSqIdeal.main_arg2) = m ((c.tc : Thread Cert.AdSqIdeal.nD Cert.AdSqIdeal.τ).loc Cert.AdSqIdeal.main_arg2)
      ∧ r.2.mem ((c.tc : Thread Cert.AdSqIdeal.nD Cert.AdSqIdeal.τ).loc Cert.AdSqIdeal.main_arg3) = m ((c.tc : Thread Cert.AdSqIdeal.nD Cert.AdSqIdeal.τ).loc Cert.AdSqIdeal.main_arg3))
      ∧ r.2.sem = fun _ => 0)

def quiescent_AdSqRefIdeal [hAdSqRefIdeal : Cert.AdSqRefIdeal.Facts] : Prop :=
  ∀ (m : (ℓ : Loc Cert.AdSqRefIdeal.nD Cert.AdSqRefIdeal.τ Cert.AdSqRefIdeal.sig) → Buf (Elt Ideal) ℓ) (g : Dev Cert.AdSqRefIdeal.nD → PrngReg), Pre_AdSqRefIdeal m →
    θ_run (Cert.AdSqRefIdeal.defs (F := Ideal)) (onTc (τ := Cert.AdSqRefIdeal.τ) (Cert.AdSqRefIdeal.main (F := Ideal))) ⟨m, fun _ => 0, g⟩ (fun r => (∀ c : Dev Cert.AdSqRefIdeal.nD,
      r.2.mem ((c.tc : Thread Cert.AdSqRefIdeal.nD Cert.AdSqRefIdeal.τ).loc Cert.AdSqRefIdeal.main_arg0) = m ((c.tc : Thread Cert.AdSqRefIdeal.nD Cert.AdSqRefIdeal.τ).loc Cert.AdSqRefIdeal.main_arg0)
      ∧ r.2.mem ((c.tc : Thread Cert.AdSqRefIdeal.nD Cert.AdSqRefIdeal.τ).loc Cert.AdSqRefIdeal.main_arg1) = m ((c.tc : Thread Cert.AdSqRefIdeal.nD Cert.AdSqRefIdeal.τ).loc Cert.AdSqRefIdeal.main_arg1)
      ∧ r.2.mem ((c.tc : Thread Cert.AdSqRefIdeal.nD Cert.AdSqRefIdeal.τ).loc Cert.AdSqRefIdeal.main_arg2) = m ((c.tc : Thread Cert.AdSqRefIdeal.nD Cert.AdSqRefIdeal.τ).loc Cert.AdSqRefIdeal.main_arg2)
      ∧ r.2.mem ((c.tc : Thread Cert.AdSqRefIdeal.nD Cert.AdSqRefIdeal.τ).loc Cert.AdSqRefIdeal.main_arg3) = m ((c.tc : Thread Cert.AdSqRefIdeal.nD Cert.AdSqRefIdeal.τ).loc Cert.AdSqRefIdeal.main_arg3))
      ∧ r.2.sem = fun _ => 0)

def quiescent_AdFf1 [hAdFf1 : Cert.AdFf1.Facts] : Prop :=
  ∀ (m : (ℓ : Loc Cert.AdFf1.nD Cert.AdFf1.τ Cert.AdFf1.sig) → Buf (Elt Bits) ℓ) (g : Dev Cert.AdFf1.nD → PrngReg), Pre_AdFf1 m →
    θ_run (Cert.AdFf1.defs (F := Bits)) (onTc (τ := Cert.AdFf1.τ) (Cert.AdFf1.main (F := Bits))) ⟨m, fun _ => 0, g⟩ (fun r => (∀ c : Dev Cert.AdFf1.nD,
      r.2.mem ((c.tc : Thread Cert.AdFf1.nD Cert.AdFf1.τ).loc Cert.AdFf1.main_arg0) = m ((c.tc : Thread Cert.AdFf1.nD Cert.AdFf1.τ).loc Cert.AdFf1.main_arg0)
      ∧ r.2.mem ((c.tc : Thread Cert.AdFf1.nD Cert.AdFf1.τ).loc Cert.AdFf1.main_arg1) = m ((c.tc : Thread Cert.AdFf1.nD Cert.AdFf1.τ).loc Cert.AdFf1.main_arg1)
      ∧ r.2.mem ((c.tc : Thread Cert.AdFf1.nD Cert.AdFf1.τ).loc Cert.AdFf1.main_arg2) = m ((c.tc : Thread Cert.AdFf1.nD Cert.AdFf1.τ).loc Cert.AdFf1.main_arg2)
      ∧ r.2.mem ((c.tc : Thread Cert.AdFf1.nD Cert.AdFf1.τ).loc Cert.AdFf1.main_arg3) = m ((c.tc : Thread Cert.AdFf1.nD Cert.AdFf1.τ).loc Cert.AdFf1.main_arg3))
      ∧ r.2.sem = fun _ => 0)

def quiescent_AdFf1Ideal [hAdFf1Ideal : Cert.AdFf1Ideal.Facts] : Prop :=
  ∀ (m : (ℓ : Loc Cert.AdFf1Ideal.nD Cert.AdFf1Ideal.τ Cert.AdFf1Ideal.sig) → Buf (Elt Ideal) ℓ) (g : Dev Cert.AdFf1Ideal.nD → PrngReg), Pre_AdFf1Ideal m →
    θ_run (Cert.AdFf1Ideal.defs (F := Ideal)) (onTc (τ := Cert.AdFf1Ideal.τ) (Cert.AdFf1Ideal.main (F := Ideal))) ⟨m, fun _ => 0, g⟩ (fun r => (∀ c : Dev Cert.AdFf1Ideal.nD,
      r.2.mem ((c.tc : Thread Cert.AdFf1Ideal.nD Cert.AdFf1Ideal.τ).loc Cert.AdFf1Ideal.main_arg0) = m ((c.tc : Thread Cert.AdFf1Ideal.nD Cert.AdFf1Ideal.τ).loc Cert.AdFf1Ideal.main_arg0)
      ∧ r.2.mem ((c.tc : Thread Cert.AdFf1Ideal.nD Cert.AdFf1Ideal.τ).loc Cert.AdFf1Ideal.main_arg1) = m ((c.tc : Thread Cert.AdFf1Ideal.nD Cert.AdFf1Ideal.τ).loc Cert.AdFf1Ideal.main_arg1)
      ∧ r.2.mem ((c.tc : Thread Cert.AdFf1Ideal.nD Cert.AdFf1Ideal.τ).loc Cert.AdFf1Ideal.main_arg2) = m ((c.tc : Thread Cert.AdFf1Ideal.nD Cert.AdFf1Ideal.τ).loc Cert.AdFf1Ideal.main_arg2)
      ∧ r.2.mem ((c.tc : Thread Cert.AdFf1Ideal.nD Cert.AdFf1Ideal.τ).loc Cert.AdFf1Ideal.main_arg3) = m ((c.tc : Thread Cert.AdFf1Ideal.nD Cert.AdFf1Ideal.τ).loc Cert.AdFf1Ideal.main_arg3))
      ∧ r.2.sem = fun _ => 0)

def quiescent_AdFf1RefIdeal [hAdFf1RefIdeal : Cert.AdFf1RefIdeal.Facts] : Prop :=
  ∀ (m : (ℓ : Loc Cert.AdFf1RefIdeal.nD Cert.AdFf1RefIdeal.τ Cert.AdFf1RefIdeal.sig) → Buf (Elt Ideal) ℓ) (g : Dev Cert.AdFf1RefIdeal.nD → PrngReg), Pre_AdFf1RefIdeal m →
    θ_run (Cert.AdFf1RefIdeal.defs (F := Ideal)) (onTc (τ := Cert.AdFf1RefIdeal.τ) (Cert.AdFf1RefIdeal.main (F := Ideal))) ⟨m, fun _ => 0, g⟩ (fun r => (∀ c : Dev Cert.AdFf1RefIdeal.nD,
      r.2.mem ((c.tc : Thread Cert.AdFf1RefIdeal.nD Cert.AdFf1RefIdeal.τ).loc Cert.AdFf1RefIdeal.main_arg0) = m ((c.tc : Thread Cert.AdFf1RefIdeal.nD Cert.AdFf1RefIdeal.τ).loc Cert.AdFf1RefIdeal.main_arg0)
      ∧ r.2.mem ((c.tc : Thread Cert.AdFf1RefIdeal.nD Cert.AdFf1RefIdeal.τ).loc Cert.AdFf1RefIdeal.main_arg1) = m ((c.tc : Thread Cert.AdFf1RefIdeal.nD Cert.AdFf1RefIdeal.τ).loc Cert.AdFf1RefIdeal.main_arg1)
      ∧ r.2.mem ((c.tc : Thread Cert.AdFf1RefIdeal.nD Cert.AdFf1RefIdeal.τ).loc Cert.AdFf1RefIdeal.main_arg2) = m ((c.tc : Thread Cert.AdFf1RefIdeal.nD Cert.AdFf1RefIdeal.τ).loc Cert.AdFf1RefIdeal.main_arg2)
      ∧ r.2.mem ((c.tc : Thread Cert.AdFf1RefIdeal.nD Cert.AdFf1RefIdeal.τ).loc Cert.AdFf1RefIdeal.main_arg3) = m ((c.tc : Thread Cert.AdFf1RefIdeal.nD Cert.AdFf1RefIdeal.τ).loc Cert.AdFf1RefIdeal.main_arg3))
      ∧ r.2.sem = fun _ => 0)

def quiescent_AdFf2 [hAdFf2 : Cert.AdFf2.Facts] : Prop :=
  ∀ (m : (ℓ : Loc Cert.AdFf2.nD Cert.AdFf2.τ Cert.AdFf2.sig) → Buf (Elt Bits) ℓ) (g : Dev Cert.AdFf2.nD → PrngReg), Pre_AdFf2 m →
    θ_run (Cert.AdFf2.defs (F := Bits)) (onTc (τ := Cert.AdFf2.τ) (Cert.AdFf2.main (F := Bits))) ⟨m, fun _ => 0, g⟩ (fun r => (∀ c : Dev Cert.AdFf2.nD,
      r.2.mem ((c.tc : Thread Cert.AdFf2.nD Cert.AdFf2.τ).loc Cert.AdFf2.main_arg0) = m ((c.tc : Thread Cert.AdFf2.nD Cert.AdFf2.τ).loc Cert.AdFf2.main_arg0)
      ∧ r.2.mem ((c.tc : Thread Cert.AdFf2.nD Cert.AdFf2.τ).loc Cert.AdFf2.main_arg1) = m ((c.tc : Thread Cert.AdFf2.nD Cert.AdFf2.τ).loc Cert.AdFf2.main_arg1)
      ∧ r.2.mem ((c.tc : Thread Cert.AdFf2.nD Cert.AdFf2.τ).loc Cert.AdFf2.main_arg2) = m ((c.tc : Thread Cert.AdFf2.nD Cert.AdFf2.τ).loc Cert.AdFf2.main_arg2)
      ∧ r.2.mem ((c.tc : Thread Cert.AdFf2.nD Cert.AdFf2.τ).loc Cert.AdFf2.main_arg3) = m ((c.tc : Thread Cert.AdFf2.nD Cert.AdFf2.τ).loc Cert.AdFf2.main_arg3))
      ∧ r.2.sem = fun _ => 0)

def quiescent_AdFf2Ideal [hAdFf2Ideal : Cert.AdFf2Ideal.Facts] : Prop :=
  ∀ (m : (ℓ : Loc Cert.AdFf2Ideal.nD Cert.AdFf2Ideal.τ Cert.AdFf2Ideal.sig) → Buf (Elt Ideal) ℓ) (g : Dev Cert.AdFf2Ideal.nD → PrngReg), Pre_AdFf2Ideal m →
    θ_run (Cert.AdFf2Ideal.defs (F := Ideal)) (onTc (τ := Cert.AdFf2Ideal.τ) (Cert.AdFf2Ideal.main (F := Ideal))) ⟨m, fun _ => 0, g⟩ (fun r => (∀ c : Dev Cert.AdFf2Ideal.nD,
      r.2.mem ((c.tc : Thread Cert.AdFf2Ideal.nD Cert.AdFf2Ideal.τ).loc Cert.AdFf2Ideal.main_arg0) = m ((c.tc : Thread Cert.AdFf2Ideal.nD Cert.AdFf2Ideal.τ).loc Cert.AdFf2Ideal.main_arg0)
      ∧ r.2.mem ((c.tc : Thread Cert.AdFf2Ideal.nD Cert.AdFf2Ideal.τ).loc Cert.AdFf2Ideal.main_arg1) = m ((c.tc : Thread Cert.AdFf2Ideal.nD Cert.AdFf2Ideal.τ).loc Cert.AdFf2Ideal.main_arg1)
      ∧ r.2.mem ((c.tc : Thread Cert.AdFf2Ideal.nD Cert.AdFf2Ideal.τ).loc Cert.AdFf2Ideal.main_arg2) = m ((c.tc : Thread Cert.AdFf2Ideal.nD Cert.AdFf2Ideal.τ).loc Cert.AdFf2Ideal.main_arg2)
      ∧ r.2.mem ((c.tc : Thread Cert.AdFf2Ideal.nD Cert.AdFf2Ideal.τ).loc Cert.AdFf2Ideal.main_arg3) = m ((c.tc : Thread Cert.AdFf2Ideal.nD Cert.AdFf2Ideal.τ).loc Cert.AdFf2Ideal.main_arg3))
      ∧ r.2.sem = fun _ => 0)

def quiescent_AdFf2RefIdeal [hAdFf2RefIdeal : Cert.AdFf2RefIdeal.Facts] : Prop :=
  ∀ (m : (ℓ : Loc Cert.AdFf2RefIdeal.nD Cert.AdFf2RefIdeal.τ Cert.AdFf2RefIdeal.sig) → Buf (Elt Ideal) ℓ) (g : Dev Cert.AdFf2RefIdeal.nD → PrngReg), Pre_AdFf2RefIdeal m →
    θ_run (Cert.AdFf2RefIdeal.defs (F := Ideal)) (onTc (τ := Cert.AdFf2RefIdeal.τ) (Cert.AdFf2RefIdeal.main (F := Ideal))) ⟨m, fun _ => 0, g⟩ (fun r => (∀ c : Dev Cert.AdFf2RefIdeal.nD,
      r.2.mem ((c.tc : Thread Cert.AdFf2RefIdeal.nD Cert.AdFf2RefIdeal.τ).loc Cert.AdFf2RefIdeal.main_arg0) = m ((c.tc : Thread Cert.AdFf2RefIdeal.nD Cert.AdFf2RefIdeal.τ).loc Cert.AdFf2RefIdeal.main_arg0)
      ∧ r.2.mem ((c.tc : Thread Cert.AdFf2RefIdeal.nD Cert.AdFf2RefIdeal.τ).loc Cert.AdFf2RefIdeal.main_arg1) = m ((c.tc : Thread Cert.AdFf2RefIdeal.nD Cert.AdFf2RefIdeal.τ).loc Cert.AdFf2RefIdeal.main_arg1)
      ∧ r.2.mem ((c.tc : Thread Cert.AdFf2RefIdeal.nD Cert.AdFf2RefIdeal.τ).loc Cert.AdFf2RefIdeal.main_arg2) = m ((c.tc : Thread Cert.AdFf2RefIdeal.nD Cert.AdFf2RefIdeal.τ).loc Cert.AdFf2RefIdeal.main_arg2)
      ∧ r.2.mem ((c.tc : Thread Cert.AdFf2RefIdeal.nD Cert.AdFf2RefIdeal.τ).loc Cert.AdFf2RefIdeal.main_arg3) = m ((c.tc : Thread Cert.AdFf2RefIdeal.nD Cert.AdFf2RefIdeal.τ).loc Cert.AdFf2RefIdeal.main_arg3))
      ∧ r.2.sem = fun _ => 0)

def quiescent_AdPle [hAdPle : Cert.AdPle.Facts] : Prop :=
  ∀ (m : (ℓ : Loc Cert.AdPle.nD Cert.AdPle.τ Cert.AdPle.sig) → Buf (Elt Bits) ℓ) (g : Dev Cert.AdPle.nD → PrngReg), Pre_AdPle m →
    θ_run (Cert.AdPle.defs (F := Bits)) (onTc (τ := Cert.AdPle.τ) (Cert.AdPle.main (F := Bits))) ⟨m, fun _ => 0, g⟩ (fun r => (∀ c : Dev Cert.AdPle.nD,
      r.2.mem ((c.tc : Thread Cert.AdPle.nD Cert.AdPle.τ).loc Cert.AdPle.main_arg0) = m ((c.tc : Thread Cert.AdPle.nD Cert.AdPle.τ).loc Cert.AdPle.main_arg0)
      ∧ r.2.mem ((c.tc : Thread Cert.AdPle.nD Cert.AdPle.τ).loc Cert.AdPle.main_arg1) = m ((c.tc : Thread Cert.AdPle.nD Cert.AdPle.τ).loc Cert.AdPle.main_arg1)
      ∧ r.2.mem ((c.tc : Thread Cert.AdPle.nD Cert.AdPle.τ).loc Cert.AdPle.main_arg2) = m ((c.tc : Thread Cert.AdPle.nD Cert.AdPle.τ).loc Cert.AdPle.main_arg2)
      ∧ r.2.mem ((c.tc : Thread Cert.AdPle.nD Cert.AdPle.τ).loc Cert.AdPle.main_arg3) = m ((c.tc : Thread Cert.AdPle.nD Cert.AdPle.τ).loc Cert.AdPle.main_arg3))
      ∧ r.2.sem = fun _ => 0)

def quiescent_AdPleIdeal [hAdPleIdeal : Cert.AdPleIdeal.Facts] : Prop :=
  ∀ (m : (ℓ : Loc Cert.AdPleIdeal.nD Cert.AdPleIdeal.τ Cert.AdPleIdeal.sig) → Buf (Elt Ideal) ℓ) (g : Dev Cert.AdPleIdeal.nD → PrngReg), Pre_AdPleIdeal m →
    θ_run (Cert.AdPleIdeal.defs (F := Ideal)) (onTc (τ := Cert.AdPleIdeal.τ) (Cert.AdPleIdeal.main (F := Ideal))) ⟨m, fun _ => 0, g⟩ (fun r => (∀ c : Dev Cert.AdPleIdeal.nD,
      r.2.mem ((c.tc : Thread Cert.AdPleIdeal.nD Cert.AdPleIdeal.τ).loc Cert.AdPleIdeal.main_arg0) = m ((c.tc : Thread Cert.AdPleIdeal.nD Cert.AdPleIdeal.τ).loc Cert.AdPleIdeal.main_arg0)
      ∧ r.2.mem ((c.tc : Thread Cert.AdPleIdeal.nD Cert.AdPleIdeal.τ).loc Cert.AdPleIdeal.main_arg1) = m ((c.tc : Thread Cert.AdPleIdeal.nD Cert.AdPleIdeal.τ).loc Cert.AdPleIdeal.main_arg1)
      ∧ r.2.mem ((c.tc : Thread Cert.AdPleIdeal.nD Cert.AdPleIdeal.τ).loc Cert.AdPleIdeal.main_arg2) = m ((c.tc : Thread Cert.AdPleIdeal.nD Cert.AdPleIdeal.τ).loc Cert.AdPleIdeal.main_arg2)
      ∧ r.2.mem ((c.tc : Thread Cert.AdPleIdeal.nD Cert.AdPleIdeal.τ).loc Cert.AdPleIdeal.main_arg3) = m ((c.tc : Thread Cert.AdPleIdeal.nD Cert.AdPleIdeal.τ).loc Cert.AdPleIdeal.main_arg3))
      ∧ r.2.sem = fun _ => 0)

def quiescent_AdPleRefIdeal [hAdPleRefIdeal : Cert.AdPleRefIdeal.Facts] : Prop :=
  ∀ (m : (ℓ : Loc Cert.AdPleRefIdeal.nD Cert.AdPleRefIdeal.τ Cert.AdPleRefIdeal.sig) → Buf (Elt Ideal) ℓ) (g : Dev Cert.AdPleRefIdeal.nD → PrngReg), Pre_AdPleRefIdeal m →
    θ_run (Cert.AdPleRefIdeal.defs (F := Ideal)) (onTc (τ := Cert.AdPleRefIdeal.τ) (Cert.AdPleRefIdeal.main (F := Ideal))) ⟨m, fun _ => 0, g⟩ (fun r => (∀ c : Dev Cert.AdPleRefIdeal.nD,
      r.2.mem ((c.tc : Thread Cert.AdPleRefIdeal.nD Cert.AdPleRefIdeal.τ).loc Cert.AdPleRefIdeal.main_arg0) = m ((c.tc : Thread Cert.AdPleRefIdeal.nD Cert.AdPleRefIdeal.τ).loc Cert.AdPleRefIdeal.main_arg0)
      ∧ r.2.mem ((c.tc : Thread Cert.AdPleRefIdeal.nD Cert.AdPleRefIdeal.τ).loc Cert.AdPleRefIdeal.main_arg1) = m ((c.tc : Thread Cert.AdPleRefIdeal.nD Cert.AdPleRefIdeal.τ).loc Cert.AdPleRefIdeal.main_arg1)
      ∧ r.2.mem ((c.tc : Thread Cert.AdPleRefIdeal.nD Cert.AdPleRefIdeal.τ).loc Cert.AdPleRefIdeal.main_arg2) = m ((c.tc : Thread Cert.AdPleRefIdeal.nD Cert.AdPleRefIdeal.τ).loc Cert.AdPleRefIdeal.main_arg2)
      ∧ r.2.mem ((c.tc : Thread Cert.AdPleRefIdeal.nD Cert.AdPleRefIdeal.τ).loc Cert.AdPleRefIdeal.main_arg3) = m ((c.tc : Thread Cert.AdPleRefIdeal.nD Cert.AdPleRefIdeal.τ).loc Cert.AdPleRefIdeal.main_arg3))
      ∧ r.2.sem = fun _ => 0)

def quiescent_AdSmall [hAdSmall : Cert.AdSmall.Facts] : Prop :=
  ∀ (m : (ℓ : Loc Cert.AdSmall.nD Cert.AdSmall.τ Cert.AdSmall.sig) → Buf (Elt Bits) ℓ) (g : Dev Cert.AdSmall.nD → PrngReg), Pre_AdSmall m →
    θ_run (Cert.AdSmall.defs (F := Bits)) (onTc (τ := Cert.AdSmall.τ) (Cert.AdSmall.main (F := Bits))) ⟨m, fun _ => 0, g⟩ (fun r => (∀ c : Dev Cert.AdSmall.nD,
      r.2.mem ((c.tc : Thread Cert.AdSmall.nD Cert.AdSmall.τ).loc Cert.AdSmall.main_arg0) = m ((c.tc : Thread Cert.AdSmall.nD Cert.AdSmall.τ).loc Cert.AdSmall.main_arg0)
      ∧ r.2.mem ((c.tc : Thread Cert.AdSmall.nD Cert.AdSmall.τ).loc Cert.AdSmall.main_arg1) = m ((c.tc : Thread Cert.AdSmall.nD Cert.AdSmall.τ).loc Cert.AdSmall.main_arg1)
      ∧ r.2.mem ((c.tc : Thread Cert.AdSmall.nD Cert.AdSmall.τ).loc Cert.AdSmall.main_arg2) = m ((c.tc : Thread Cert.AdSmall.nD Cert.AdSmall.τ).loc Cert.AdSmall.main_arg2)
      ∧ r.2.mem ((c.tc : Thread Cert.AdSmall.nD Cert.AdSmall.τ).loc Cert.AdSmall.main_arg3) = m ((c.tc : Thread Cert.AdSmall.nD Cert.AdSmall.τ).loc Cert.AdSmall.main_arg3))
      ∧ r.2.sem = fun _ => 0)

def quiescent_AdSmallIdeal [hAdSmallIdeal : Cert.AdSmallIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg), Pre_AdSmallIdeal m →
    θ_run (Cert.AdSmallIdeal.defs (F := Ideal)) (onTc (τ := Cert.AdSmallIdeal.τ) (Cert.AdSmallIdeal.main (F := Ideal))) ⟨m, fun _ => 0, g⟩ (fun r => (∀ c : Dev Cert.AdSmallIdeal.nD,
      r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
      ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
      ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
      ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ r.2.sem = fun _ => 0)

def quiescent_AdSmallRefIdeal [hAdSmallRefIdeal : Cert.AdSmallRefIdeal.Facts] : Prop :=
  ∀ (m : (ℓ : Loc Cert.AdSmallRefIdeal.nD Cert.AdSmallRefIdeal.τ Cert.AdSmallRefIdeal.sig) → Buf (Elt Ideal) ℓ) (g : Dev Cert.AdSmallRefIdeal.nD → PrngReg), Pre_AdSmallRefIdeal m →
    θ_run (Cert.AdSmallRefIdeal.defs (F := Ideal)) (onTc (τ := Cert.AdSmallRefIdeal.τ) (Cert.AdSmallRefIdeal.main (F := Ideal))) ⟨m, fun _ => 0, g⟩ (fun r => (∀ c : Dev Cert.AdSmallRefIdeal.nD,
      r.2.mem ((c.tc : Thread Cert.AdSmallRefIdeal.nD Cert.AdSmallRefIdeal.τ).loc Cert.AdSmallRefIdeal.main_arg0) = m ((c.tc : Thread Cert.AdSmallRefIdeal.nD Cert.AdSmallRefIdeal.τ).loc Cert.AdSmallRefIdeal.main_arg0)
      ∧ r.2.mem ((c.tc : Thread Cert.AdSmallRefIdeal.nD Cert.AdSmallRefIdeal.τ).loc Cert.AdSmallRefIdeal.main_arg1) = m ((c.tc : Thread Cert.AdSmallRefIdeal.nD Cert.AdSmallRefIdeal.τ).loc Cert.AdSmallRefIdeal.main_arg1)
      ∧ r.2.mem ((c.tc : Thread Cert.AdSmallRefIdeal.nD Cert.AdSmallRefIdeal.τ).loc Cert.AdSmallRefIdeal.main_arg2) = m ((c.tc : Thread Cert.AdSmallRefIdeal.nD Cert.AdSmallRefIdeal.τ).loc Cert.AdSmallRefIdeal.main_arg2)
      ∧ r.2.mem ((c.tc : Thread Cert.AdSmallRefIdeal.nD Cert.AdSmallRefIdeal.τ).loc Cert.AdSmallRefIdeal.main_arg3) = m ((c.tc : Thread Cert.AdSmallRefIdeal.nD Cert.AdSmallRefIdeal.τ).loc Cert.AdSmallRefIdeal.main_arg3))
      ∧ r.2.sem = fun _ => 0)

def preserves_Kernel_KernelIdeal : Prop :=
  IdealRules.named_const.Statement Cert.KernelIdeal.κ "mask" .f32 0xF149F2CA#32 ⊥

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v6) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v8) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1))

def preserves_InBwd_InBwdIdeal : Prop :=
  True

def algebraic_InBwdIdeal_InBwdRefIdeal_pre_finite [hInBwdIdeal : Cert.InBwdIdeal.Facts] [hInBwdRefIdeal : Cert.InBwdRefIdeal.Facts] [hPre_finite : Cert.Pre_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v40) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v6) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1))

def preserves_DwBr_DwBrIdeal : Prop :=
  True

def algebraic_DwBrIdeal_DwBrRefIdeal [hDwBrIdeal : Cert.DwBrIdeal.Facts] [hDwBrRefIdeal : Cert.DwBrRefIdeal.Facts] : Prop :=
  ∀ (m : (ℓ : Loc Cert.DwBrIdeal.nD Cert.DwBrIdeal.τ Cert.DwBrIdeal.sig) → Buf (Elt Ideal) ℓ) (g : Dev Cert.DwBrIdeal.nD → PrngReg)
    (m' : (ℓ : Loc Cert.DwBrRefIdeal.nD Cert.DwBrRefIdeal.τ Cert.DwBrRefIdeal.sig) → Buf (Elt Ideal) ℓ) (g' : Dev Cert.DwBrRefIdeal.nD → PrngReg), Pre_DwBrIdeal m →
    (∀ c : Dev Cert.DwBrIdeal.nD,
      m' ((c.tc : Thread Cert.DwBrRefIdeal.nD Cert.DwBrRefIdeal.τ).loc Cert.DwBrRefIdeal.main_arg0) = m ((c.tc : Thread Cert.DwBrIdeal.nD Cert.DwBrIdeal.τ).loc Cert.DwBrIdeal.main_arg0)
      ∧ m' ((c.tc : Thread Cert.DwBrRefIdeal.nD Cert.DwBrRefIdeal.τ).loc Cert.DwBrRefIdeal.main_arg1) = m ((c.tc : Thread Cert.DwBrIdeal.nD Cert.DwBrIdeal.τ).loc Cert.DwBrIdeal.main_arg1)) →
    ∃ (v0 : (c : Dev Cert.DwBrIdeal.nD) → Buf (Elt Ideal) ((c.tc : Thread Cert.DwBrIdeal.nD Cert.DwBrIdeal.τ).loc Cert.DwBrIdeal.main_v0)),
      θ_run (Cert.DwBrIdeal.defs (F := Ideal)) (onTc (τ := Cert.DwBrIdeal.τ) (Cert.DwBrIdeal.main (F := Ideal))) ⟨m, fun _ => 0, g⟩ (fun r => ∀ c : Dev Cert.DwBrIdeal.nD,
          r.2.mem ((c.tc : Thread Cert.DwBrIdeal.nD Cert.DwBrIdeal.τ).loc Cert.DwBrIdeal.main_v0) = v0 c
          ∧ r.2.mem ((c.tc : Thread Cert.DwBrIdeal.nD Cert.DwBrIdeal.τ).loc Cert.DwBrIdeal.main_arg0) = m ((c.tc : Thread Cert.DwBrIdeal.nD Cert.DwBrIdeal.τ).loc Cert.DwBrIdeal.main_arg0)
          ∧ r.2.mem ((c.tc : Thread Cert.DwBrIdeal.nD Cert.DwBrIdeal.τ).loc Cert.DwBrIdeal.main_arg1) = m ((c.tc : Thread Cert.DwBrIdeal.nD Cert.DwBrIdeal.τ).loc Cert.DwBrIdeal.main_arg1))
      ∧ θ_run (Cert.DwBrRefIdeal.defs (F := Ideal)) (onTc (τ := Cert.DwBrRefIdeal.τ) (Cert.DwBrRefIdeal.main (F := Ideal))) ⟨m', fun _ => 0, g'⟩ (fun r => ∀ c : Dev Cert.DwBrRefIdeal.nD,
          r.2.mem ((c.tc : Thread Cert.DwBrRefIdeal.nD Cert.DwBrRefIdeal.τ).loc Cert.DwBrRefIdeal.main_v8) = v0 c
          ∧ r.2.mem ((c.tc : Thread Cert.DwBrRefIdeal.nD Cert.DwBrRefIdeal.τ).loc Cert.DwBrRefIdeal.main_arg0) = m' ((c.tc : Thread Cert.DwBrRefIdeal.nD Cert.DwBrRefIdeal.τ).loc Cert.DwBrRefIdeal.main_arg0)
          ∧ r.2.mem ((c.tc : Thread Cert.DwBrRefIdeal.nD Cert.DwBrRefIdeal.τ).loc Cert.DwBrRefIdeal.main_arg1) = m' ((c.tc : Thread Cert.DwBrRefIdeal.nD Cert.DwBrRefIdeal.τ).loc Cert.DwBrRefIdeal.main_arg1))

def preserves_DwPle_DwPleIdeal : Prop :=
  True

def algebraic_DwPleIdeal_DwPleRefIdeal [hDwPleIdeal : Cert.DwPleIdeal.Facts] [hDwPleRefIdeal : Cert.DwPleRefIdeal.Facts] : Prop :=
  ∀ (m : (ℓ : Loc Cert.DwPleIdeal.nD Cert.DwPleIdeal.τ Cert.DwPleIdeal.sig) → Buf (Elt Ideal) ℓ) (g : Dev Cert.DwPleIdeal.nD → PrngReg)
    (m' : (ℓ : Loc Cert.DwPleRefIdeal.nD Cert.DwPleRefIdeal.τ Cert.DwPleRefIdeal.sig) → Buf (Elt Ideal) ℓ) (g' : Dev Cert.DwPleRefIdeal.nD → PrngReg), Pre_DwPleIdeal m →
    (∀ c : Dev Cert.DwPleIdeal.nD,
      m' ((c.tc : Thread Cert.DwPleRefIdeal.nD Cert.DwPleRefIdeal.τ).loc Cert.DwPleRefIdeal.main_arg0) = m ((c.tc : Thread Cert.DwPleIdeal.nD Cert.DwPleIdeal.τ).loc Cert.DwPleIdeal.main_arg0)
      ∧ m' ((c.tc : Thread Cert.DwPleRefIdeal.nD Cert.DwPleRefIdeal.τ).loc Cert.DwPleRefIdeal.main_arg1) = m ((c.tc : Thread Cert.DwPleIdeal.nD Cert.DwPleIdeal.τ).loc Cert.DwPleIdeal.main_arg1)) →
    ∃ (v0 : (c : Dev Cert.DwPleIdeal.nD) → Buf (Elt Ideal) ((c.tc : Thread Cert.DwPleIdeal.nD Cert.DwPleIdeal.τ).loc Cert.DwPleIdeal.main_v0)),
      θ_run (Cert.DwPleIdeal.defs (F := Ideal)) (onTc (τ := Cert.DwPleIdeal.τ) (Cert.DwPleIdeal.main (F := Ideal))) ⟨m, fun _ => 0, g⟩ (fun r => ∀ c : Dev Cert.DwPleIdeal.nD,
          r.2.mem ((c.tc : Thread Cert.DwPleIdeal.nD Cert.DwPleIdeal.τ).loc Cert.DwPleIdeal.main_v0) = v0 c
          ∧ r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
          ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ θ_run (Cert.DwPleRefIdeal.defs (F := Ideal)) (onTc (τ := Cert.DwPleRefIdeal.τ) (Cert.DwPleRefIdeal.main (F := Ideal))) ⟨m', fun _ => 0, g'⟩ (fun r => ∀ c : Dev Cert.DwPleRefIdeal.nD,
          r.2.mem ((c.tc : Thread Cert.DwPleRefIdeal.nD Cert.DwPleRefIdeal.τ).loc Cert.DwPleRefIdeal.main_v7) = v0 c
          ∧ r.2.mem ((c.tc : Thread Cert.DwPleRefIdeal.nD Cert.DwPleRefIdeal.τ).loc Cert.DwPleRefIdeal.main_arg0) = m' ((c.tc : Thread Cert.DwPleRefIdeal.nD Cert.DwPleRefIdeal.τ).loc Cert.DwPleRefIdeal.main_arg0)
          ∧ r.2.mem ((c.tc : Thread Cert.DwPleRefIdeal.nD Cert.DwPleRefIdeal.τ).loc Cert.DwPleRefIdeal.main_arg1) = m' ((c.tc : Thread Cert.DwPleRefIdeal.nD Cert.DwPleRefIdeal.τ).loc Cert.DwPleRefIdeal.main_arg1))

def preserves_Head_HeadIdeal : Prop :=
  True

def algebraic_HeadIdeal_HeadRefIdeal_pre_finite_head [hHeadIdeal : Cert.HeadIdeal.Facts] [hHeadRefIdeal : Cert.HeadRefIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)) (v7 : (c : Dev Cert.HeadIdeal.nD) → Buf (Elt Ideal) ((c.tc : Thread Cert.HeadIdeal.nD Cert.HeadIdeal.τ).loc Cert.HeadIdeal.main_v0_7)) (v8 : (c : Dev Cert.HeadIdeal.nD) → Buf (Elt Ideal) ((c.tc : Thread Cert.HeadIdeal.nD Cert.HeadIdeal.τ).loc Cert.HeadIdeal.main_v0_8)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_v0_7) = v7 c
          ∧ r.2.mem ((c.tc : Thread Cert.HeadIdeal.nD Cert.HeadIdeal.τ).loc Cert.HeadIdeal.main_v0_8) = v8 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v126) = v0 c
          ∧ r.2.mem ((c.tc : Thread Cert.HeadRefIdeal.nD Cert.HeadRefIdeal.τ).loc Cert.HeadRefIdeal.main_v127) = v1 c
          ∧ r.2.mem ((c.tc : Thread Cert.HeadRefIdeal.nD Cert.HeadRefIdeal.τ).loc Cert.HeadRefIdeal.main_v128) = v2 c
          ∧ r.2.mem ((c.tc : Thread Cert.HeadRefIdeal.nD Cert.HeadRefIdeal.τ).loc Cert.HeadRefIdeal.main_v104) = v3 c
          ∧ r.2.mem ((c.tc : Thread Cert.HeadRefIdeal.nD Cert.HeadRefIdeal.τ).loc Cert.HeadRefIdeal.main_v129) = v4 c
          ∧ r.2.mem ((c.tc : Thread Cert.HeadRefIdeal.nD Cert.HeadRefIdeal.τ).loc Cert.HeadRefIdeal.main_v130) = v5 c
          ∧ r.2.mem ((c.tc : Thread Cert.HeadRefIdeal.nD Cert.HeadRefIdeal.τ).loc Cert.HeadRefIdeal.main_v131) = v6 c
          ∧ r.2.mem ((c.tc : Thread Cert.HeadRefIdeal.nD Cert.HeadRefIdeal.τ).loc Cert.HeadRefIdeal.main_v132) = v7 c
          ∧ r.2.mem ((c.tc : Thread Cert.HeadRefIdeal.nD Cert.HeadRefIdeal.τ).loc Cert.HeadRefIdeal.main_v133) = v8 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)
      ∧ m' ((c.tc : Thread Cert.FfnBwdRefIdeal.nD Cert.FfnBwdRefIdeal.τ).loc Cert.FfnBwdRefIdeal.main_arg8) = m ((c.tc : Thread Cert.FfnBwdIdeal.nD Cert.FfnBwdIdeal.τ).loc Cert.FfnBwdIdeal.main_arg8)
      ∧ m' ((c.tc : Thread Cert.FfnBwdRefIdeal.nD Cert.FfnBwdRefIdeal.τ).loc Cert.FfnBwdRefIdeal.main_arg9) = m ((c.tc : Thread Cert.FfnBwdIdeal.nD Cert.FfnBwdIdeal.τ).loc Cert.FfnBwdIdeal.main_arg9)
      ∧ m' ((c.tc : Thread Cert.FfnBwdRefIdeal.nD Cert.FfnBwdRefIdeal.τ).loc Cert.FfnBwdRefIdeal.main_arg10) = m ((c.tc : Thread Cert.FfnBwdIdeal.nD Cert.FfnBwdIdeal.τ).loc Cert.FfnBwdIdeal.main_arg10)
      ∧ m' ((c.tc : Thread Cert.FfnBwdRefIdeal.nD Cert.FfnBwdRefIdeal.τ).loc Cert.FfnBwdRefIdeal.main_arg11) = m ((c.tc : Thread Cert.FfnBwdIdeal.nD Cert.FfnBwdIdeal.τ).loc Cert.FfnBwdIdeal.main_arg11)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)) (v4 : (c : Dev Cert.FfnBwdIdeal.nD) → Buf (Elt Ideal) ((c.tc : Thread Cert.FfnBwdIdeal.nD Cert.FfnBwdIdeal.τ).loc Cert.FfnBwdIdeal.main_v0_4)) (v5 : (c : Dev Cert.FfnBwdIdeal.nD) → Buf (Elt Ideal) ((c.tc : Thread Cert.FfnBwdIdeal.nD Cert.FfnBwdIdeal.τ).loc Cert.FfnBwdIdeal.main_v0_5)) (v6 : (c : Dev Cert.FfnBwdIdeal.nD) → Buf (Elt Ideal) ((c.tc : Thread Cert.FfnBwdIdeal.nD Cert.FfnBwdIdeal.τ).loc Cert.FfnBwdIdeal.main_v0_6)) (v7 : (c : Dev Cert.FfnBwdIdeal.nD) → Buf (Elt Ideal) ((c.tc : Thread Cert.FfnBwdIdeal.nD Cert.FfnBwdIdeal.τ).loc Cert.FfnBwdIdeal.main_v0_7)) (v8 : (c : Dev Cert.FfnBwdIdeal.nD) → Buf (Elt Ideal) ((c.tc : Thread Cert.FfnBwdIdeal.nD Cert.FfnBwdIdeal.τ).loc Cert.FfnBwdIdeal.main_v0_8)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_v0_4) = v4 c
          ∧ r.2.mem ((c.tc : Thread Cert.FfnBwdIdeal.nD Cert.FfnBwdIdeal.τ).loc Cert.FfnBwdIdeal.main_v0_5) = v5 c
          ∧ r.2.mem ((c.tc : Thread Cert.FfnBwdIdeal.nD Cert.FfnBwdIdeal.τ).loc Cert.FfnBwdIdeal.main_v0_6) = v6 c
          ∧ r.2.mem ((c.tc : Thread Cert.FfnBwdIdeal.nD Cert.FfnBwdIdeal.τ).loc Cert.FfnBwdIdeal.main_v0_7) = v7 c
          ∧ r.2.mem ((c.tc : Thread Cert.FfnBwdIdeal.nD Cert.FfnBwdIdeal.τ).loc Cert.FfnBwdIdeal.main_v0_8) = v8 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
          ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
          ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9)
          ∧ r.2.mem ((c.tc : Thread Cert.FfnBwdIdeal.nD Cert.FfnBwdIdeal.τ).loc Cert.FfnBwdIdeal.main_arg10) = m ((c.tc : Thread Cert.FfnBwdIdeal.nD Cert.FfnBwdIdeal.τ).loc Cert.FfnBwdIdeal.main_arg10)
          ∧ r.2.mem ((c.tc : Thread Cert.FfnBwdIdeal.nD Cert.FfnBwdIdeal.τ).loc Cert.FfnBwdIdeal.main_arg11) = m ((c.tc : Thread Cert.FfnBwdIdeal.nD Cert.FfnBwdIdeal.τ).loc Cert.FfnBwdIdeal.main_arg11))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v41) = v0 c
          ∧ r.2.mem ((c.tc : Thread Cert.FfnBwdRefIdeal.nD Cert.FfnBwdRefIdeal.τ).loc Cert.FfnBwdRefIdeal.main_v92) = v1 c
          ∧ r.2.mem ((c.tc : Thread Cert.FfnBwdRefIdeal.nD Cert.FfnBwdRefIdeal.τ).loc Cert.FfnBwdRefIdeal.main_v94) = v2 c
          ∧ r.2.mem ((c.tc : Thread Cert.FfnBwdRefIdeal.nD Cert.FfnBwdRefIdeal.τ).loc Cert.FfnBwdRefIdeal.main_v95) = v3 c
          ∧ r.2.mem ((c.tc : Thread Cert.FfnBwdRefIdeal.nD Cert.FfnBwdRefIdeal.τ).loc Cert.FfnBwdRefIdeal.main_v96) = v4 c
          ∧ r.2.mem ((c.tc : Thread Cert.FfnBwdRefIdeal.nD Cert.FfnBwdRefIdeal.τ).loc Cert.FfnBwdRefIdeal.main_v97) = v5 c
          ∧ r.2.mem ((c.tc : Thread Cert.FfnBwdRefIdeal.nD Cert.FfnBwdRefIdeal.τ).loc Cert.FfnBwdRefIdeal.main_v98) = v6 c
          ∧ r.2.mem ((c.tc : Thread Cert.FfnBwdRefIdeal.nD Cert.FfnBwdRefIdeal.τ).loc Cert.FfnBwdRefIdeal.main_v100) = v7 c
          ∧ r.2.mem ((c.tc : Thread Cert.FfnBwdRefIdeal.nD Cert.FfnBwdRefIdeal.τ).loc Cert.FfnBwdRefIdeal.main_v101) = v8 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7)
          ∧ r.2.mem ((c.tc : Thread Cert.FfnBwdRefIdeal.nD Cert.FfnBwdRefIdeal.τ).loc Cert.FfnBwdRefIdeal.main_arg8) = m' ((c.tc : Thread Cert.FfnBwdRefIdeal.nD Cert.FfnBwdRefIdeal.τ).loc Cert.FfnBwdRefIdeal.main_arg8)
          ∧ r.2.mem ((c.tc : Thread Cert.FfnBwdRefIdeal.nD Cert.FfnBwdRefIdeal.τ).loc Cert.FfnBwdRefIdeal.main_arg9) = m' ((c.tc : Thread Cert.FfnBwdRefIdeal.nD Cert.FfnBwdRefIdeal.τ).loc Cert.FfnBwdRefIdeal.main_arg9)
          ∧ r.2.mem ((c.tc : Thread Cert.FfnBwdRefIdeal.nD Cert.FfnBwdRefIdeal.τ).loc Cert.FfnBwdRefIdeal.main_arg10) = m' ((c.tc : Thread Cert.FfnBwdRefIdeal.nD Cert.FfnBwdRefIdeal.τ).loc Cert.FfnBwdRefIdeal.main_arg10)
          ∧ r.2.mem ((c.tc : Thread Cert.FfnBwdRefIdeal.nD Cert.FfnBwdRefIdeal.τ).loc Cert.FfnBwdRefIdeal.main_arg11) = m' ((c.tc : Thread Cert.FfnBwdRefIdeal.nD Cert.FfnBwdRefIdeal.τ).loc Cert.FfnBwdRefIdeal.main_arg11))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)) →
    ∃ (v0 : (c : Dev Cert.MixFwdIdeal.nD) → Buf (Elt Ideal) ((c.tc : Thread Cert.MixFwdIdeal.nD Cert.MixFwdIdeal.τ).loc Cert.MixFwdIdeal.main_v0_0)) (v1 : (c : Dev Cert.MixFwdIdeal.nD) → Buf (Elt Ideal) ((c.tc : Thread Cert.MixFwdIdeal.nD Cert.MixFwdIdeal.τ).loc Cert.MixFwdIdeal.main_v0_1)) (v2 : (c : Dev Cert.MixFwdIdeal.nD) → Buf (Elt Ideal) ((c.tc : Thread Cert.MixFwdIdeal.nD Cert.MixFwdIdeal.τ).loc Cert.MixFwdIdeal.main_v0_2)) (v3 : (c : Dev Cert.MixFwdIdeal.nD) → Buf (Elt Ideal) ((c.tc : Thread Cert.MixFwdIdeal.nD Cert.MixFwdIdeal.τ).loc Cert.MixFwdIdeal.main_v0_3)) (v4 : (c : Dev Cert.MixFwdIdeal.nD) → Buf (Elt Ideal) ((c.tc : Thread Cert.MixFwdIdeal.nD Cert.MixFwdIdeal.τ).loc Cert.MixFwdIdeal.main_v0_4)) (v5 : (c : Dev Cert.MixFwdIdeal.nD) → Buf (Elt Ideal) ((c.tc : Thread Cert.MixFwdIdeal.nD Cert.MixFwdIdeal.τ).loc Cert.MixFwdIdeal.main_v0_5)) (v6 : (c : Dev Cert.MixFwdIdeal.nD) → Buf (Elt Ideal) ((c.tc : Thread Cert.MixFwdIdeal.nD Cert.MixFwdIdeal.τ).loc Cert.MixFwdIdeal.main_v0_6)) (v7 : (c : Dev Cert.MixFwdIdeal.nD) → Buf (Elt Ideal) ((c.tc : Thread Cert.MixFwdIdeal.nD Cert.MixFwdIdeal.τ).loc Cert.MixFwdIdeal.main_v0_7)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0_0) = v0 c
          ∧ r.2.mem ((c.tc : Thread Cert.MixFwdIdeal.nD Cert.MixFwdIdeal.τ).loc Cert.MixFwdIdeal.main_v0_1) = v1 c
          ∧ r.2.mem ((c.tc : Thread Cert.MixFwdIdeal.nD Cert.MixFwdIdeal.τ).loc Cert.MixFwdIdeal.main_v0_2) = v2 c
          ∧ r.2.mem ((c.tc : Thread Cert.MixFwdIdeal.nD Cert.MixFwdIdeal.τ).loc Cert.MixFwdIdeal.main_v0_3) = v3 c
          ∧ r.2.mem ((c.tc : Thread Cert.MixFwdIdeal.nD Cert.MixFwdIdeal.τ).loc Cert.MixFwdIdeal.main_v0_4) = v4 c
          ∧ r.2.mem ((c.tc : Thread Cert.MixFwdIdeal.nD Cert.MixFwdIdeal.τ).loc Cert.MixFwdIdeal.main_v0_5) = v5 c
          ∧ r.2.mem ((c.tc : Thread Cert.MixFwdIdeal.nD Cert.MixFwdIdeal.τ).loc Cert.MixFwdIdeal.main_v0_6) = v6 c
          ∧ r.2.mem ((c.tc : Thread Cert.MixFwdIdeal.nD Cert.MixFwdIdeal.τ).loc Cert.MixFwdIdeal.main_v0_7) = v7 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v48) = v0 c
          ∧ r.2.mem ((c.tc : Thread Cert.MixFwdRefIdeal.nD Cert.MixFwdRefIdeal.τ).loc Cert.MixFwdRefIdeal.main_v49) = v1 c
          ∧ r.2.mem ((c.tc : Thread Cert.MixFwdRefIdeal.nD Cert.MixFwdRefIdeal.τ).loc Cert.MixFwdRefIdeal.main_v50) = v2 c
          ∧ r.2.mem ((c.tc : Thread Cert.MixFwdRefIdeal.nD Cert.MixFwdRefIdeal.τ).loc Cert.MixFwdRefIdeal.main_v24) = v3 c
          ∧ r.2.mem ((c.tc : Thread Cert.MixFwdRefIdeal.nD Cert.MixFwdRefIdeal.τ).loc Cert.MixFwdRefIdeal.main_v51) = v4 c
          ∧ r.2.mem ((c.tc : Thread Cert.MixFwdRefIdeal.nD Cert.MixFwdRefIdeal.τ).loc Cert.MixFwdRefIdeal.main_v52) = v5 c
          ∧ r.2.mem ((c.tc : Thread Cert.MixFwdRefIdeal.nD Cert.MixFwdRefIdeal.τ).loc Cert.MixFwdRefIdeal.main_v53) = v6 c
          ∧ r.2.mem ((c.tc : Thread Cert.MixFwdRefIdeal.nD Cert.MixFwdRefIdeal.τ).loc Cert.MixFwdRefIdeal.main_v47) = v7 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v1) = v0 c
          ∧ r.2.mem ((c.tc : Thread Cert.AdInRefIdeal.nD Cert.AdInRefIdeal.τ).loc Cert.AdInRefIdeal.main_v25) = v1 c
          ∧ r.2.mem ((c.tc : Thread Cert.AdInRefIdeal.nD Cert.AdInRefIdeal.τ).loc Cert.AdInRefIdeal.main_v6) = v2 c
          ∧ r.2.mem ((c.tc : Thread Cert.AdInRefIdeal.nD Cert.AdInRefIdeal.τ).loc Cert.AdInRefIdeal.main_v12) = v3 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdBr_AdBrIdeal : Prop :=
  True

def algebraic_AdBrIdeal_AdBrRefIdeal [hAdBrIdeal : Cert.AdBrIdeal.Facts] [hAdBrRefIdeal : Cert.AdBrRefIdeal.Facts] : Prop :=
  ∀ (m : (ℓ : Loc Cert.AdBrIdeal.nD Cert.AdBrIdeal.τ Cert.AdBrIdeal.sig) → Buf (Elt Ideal) ℓ) (g : Dev Cert.AdBrIdeal.nD → PrngReg)
    (m' : (ℓ : Loc Cert.AdBrRefIdeal.nD Cert.AdBrRefIdeal.τ Cert.AdBrRefIdeal.sig) → Buf (Elt Ideal) ℓ) (g' : Dev Cert.AdBrRefIdeal.nD → PrngReg), Pre_AdBrIdeal m →
    (∀ c : Dev Cert.AdBrIdeal.nD,
      m' ((c.tc : Thread Cert.AdBrRefIdeal.nD Cert.AdBrRefIdeal.τ).loc Cert.AdBrRefIdeal.main_arg0) = m ((c.tc : Thread Cert.AdBrIdeal.nD Cert.AdBrIdeal.τ).loc Cert.AdBrIdeal.main_arg0)
      ∧ m' ((c.tc : Thread Cert.AdBrRefIdeal.nD Cert.AdBrRefIdeal.τ).loc Cert.AdBrRefIdeal.main_arg1) = m ((c.tc : Thread Cert.AdBrIdeal.nD Cert.AdBrIdeal.τ).loc Cert.AdBrIdeal.main_arg1)
      ∧ m' ((c.tc : Thread Cert.AdBrRefIdeal.nD Cert.AdBrRefIdeal.τ).loc Cert.AdBrRefIdeal.main_arg2) = m ((c.tc : Thread Cert.AdBrIdeal.nD Cert.AdBrIdeal.τ).loc Cert.AdBrIdeal.main_arg2)
      ∧ m' ((c.tc : Thread Cert.AdBrRefIdeal.nD Cert.AdBrRefIdeal.τ).loc Cert.AdBrRefIdeal.main_arg3) = m ((c.tc : Thread Cert.AdBrIdeal.nD Cert.AdBrIdeal.τ).loc Cert.AdBrIdeal.main_arg3)) →
    ∃ (v0 : (c : Dev Cert.AdBrIdeal.nD) → Buf (Elt Ideal) ((c.tc : Thread Cert.AdBrIdeal.nD Cert.AdBrIdeal.τ).loc Cert.AdBrIdeal.main_v0_0)) (v1 : (c : Dev Cert.AdBrIdeal.nD) → Buf (Elt Ideal) ((c.tc : Thread Cert.AdBrIdeal.nD Cert.AdBrIdeal.τ).loc Cert.AdBrIdeal.main_v0_1)) (v2 : (c : Dev Cert.AdBrIdeal.nD) → Buf (Elt Ideal) ((c.tc : Thread Cert.AdBrIdeal.nD Cert.AdBrIdeal.τ).loc Cert.AdBrIdeal.main_v0_2)) (v3 : (c : Dev Cert.AdBrIdeal.nD) → Buf (Elt Ideal) ((c.tc : Thread Cert.AdBrIdeal.nD Cert.AdBrIdeal.τ).loc Cert.AdBrIdeal.main_v0_3)),
      θ_run (Cert.AdBrIdeal.defs (F := Ideal)) (onTc (τ := Cert.AdBrIdeal.τ) (Cert.AdBrIdeal.main (F := Ideal))) ⟨m, fun _ => 0, g⟩ (fun r => ∀ c : Dev Cert.AdBrIdeal.nD,
          r.2.mem ((c.tc : Thread Cert.AdBrIdeal.nD Cert.AdBrIdeal.τ).loc Cert.AdBrIdeal.main_v0_0) = v0 c
          ∧ r.2.mem ((c.tc : Thread Cert.AdBrIdeal.nD Cert.AdBrIdeal.τ).loc Cert.AdBrIdeal.main_v0_1) = v1 c
          ∧ r.2.mem ((c.tc : Thread Cert.AdBrIdeal.nD Cert.AdBrIdeal.τ).loc Cert.AdBrIdeal.main_v0_2) = v2 c
          ∧ r.2.mem ((c.tc : Thread Cert.AdBrIdeal.nD Cert.AdBrIdeal.τ).loc Cert.AdBrIdeal.main_v0_3) = v3 c
          ∧ r.2.mem ((c.tc : Thread Cert.AdBrIdeal.nD Cert.AdBrIdeal.τ).loc Cert.AdBrIdeal.main_arg0) = m ((c.tc : Thread Cert.AdBrIdeal.nD Cert.AdBrIdeal.τ).loc Cert.AdBrIdeal.main_arg0)
          ∧ r.2.mem ((c.tc : Thread Cert.AdBrIdeal.nD Cert.AdBrIdeal.τ).loc Cert.AdBrIdeal.main_arg1) = m ((c.tc : Thread Cert.AdBrIdeal.nD Cert.AdBrIdeal.τ).loc Cert.AdBrIdeal.main_arg1)
          ∧ r.2.mem ((c.tc : Thread Cert.AdBrIdeal.nD Cert.AdBrIdeal.τ).loc Cert.AdBrIdeal.main_arg2) = m ((c.tc : Thread Cert.AdBrIdeal.nD Cert.AdBrIdeal.τ).loc Cert.AdBrIdeal.main_arg2)
          ∧ r.2.mem ((c.tc : Thread Cert.AdBrIdeal.nD Cert.AdBrIdeal.τ).loc Cert.AdBrIdeal.main_arg3) = m ((c.tc : Thread Cert.AdBrIdeal.nD Cert.AdBrIdeal.τ).loc Cert.AdBrIdeal.main_arg3))
      ∧ θ_run (Cert.AdBrRefIdeal.defs (F := Ideal)) (onTc (τ := Cert.AdBrRefIdeal.τ) (Cert.AdBrRefIdeal.main (F := Ideal))) ⟨m', fun _ => 0, g'⟩ (fun r => ∀ c : Dev Cert.AdBrRefIdeal.nD,
          r.2.mem ((c.tc : Thread Cert.AdBrRefIdeal.nD Cert.AdBrRefIdeal.τ).loc Cert.AdBrRefIdeal.main_v1) = v0 c
          ∧ r.2.mem ((c.tc : Thread Cert.AdBrRefIdeal.nD Cert.AdBrRefIdeal.τ).loc Cert.AdBrRefIdeal.main_v25) = v1 c
          ∧ r.2.mem ((c.tc : Thread Cert.AdBrRefIdeal.nD Cert.AdBrRefIdeal.τ).loc Cert.AdBrRefIdeal.main_v6) = v2 c
          ∧ r.2.mem ((c.tc : Thread Cert.AdBrRefIdeal.nD Cert.AdBrRefIdeal.τ).loc Cert.AdBrRefIdeal.main_v12) = v3 c
          ∧ r.2.mem ((c.tc : Thread Cert.AdBrRefIdeal.nD Cert.AdBrRefIdeal.τ).loc Cert.AdBrRefIdeal.main_arg0) = m' ((c.tc : Thread Cert.AdBrRefIdeal.nD Cert.AdBrRefIdeal.τ).loc Cert.AdBrRefIdeal.main_arg0)
          ∧ r.2.mem ((c.tc : Thread Cert.AdBrRefIdeal.nD Cert.AdBrRefIdeal.τ).loc Cert.AdBrRefIdeal.main_arg1) = m' ((c.tc : Thread Cert.AdBrRefIdeal.nD Cert.AdBrRefIdeal.τ).loc Cert.AdBrRefIdeal.main_arg1)
          ∧ r.2.mem ((c.tc : Thread Cert.AdBrRefIdeal.nD Cert.AdBrRefIdeal.τ).loc Cert.AdBrRefIdeal.main_arg2) = m' ((c.tc : Thread Cert.AdBrRefIdeal.nD Cert.AdBrRefIdeal.τ).loc Cert.AdBrRefIdeal.main_arg2)
          ∧ r.2.mem ((c.tc : Thread Cert.AdBrRefIdeal.nD Cert.AdBrRefIdeal.τ).loc Cert.AdBrRefIdeal.main_arg3) = m' ((c.tc : Thread Cert.AdBrRefIdeal.nD Cert.AdBrRefIdeal.τ).loc Cert.AdBrRefIdeal.main_arg3))

def preserves_AdSq_AdSqIdeal : Prop :=
  True

def algebraic_AdSqIdeal_AdSqRefIdeal [hAdSqIdeal : Cert.AdSqIdeal.Facts] [hAdSqRefIdeal : Cert.AdSqRefIdeal.Facts] : Prop :=
  ∀ (m : (ℓ : Loc Cert.AdSqIdeal.nD Cert.AdSqIdeal.τ Cert.AdSqIdeal.sig) → Buf (Elt Ideal) ℓ) (g : Dev Cert.AdSqIdeal.nD → PrngReg)
    (m' : (ℓ : Loc Cert.AdSqRefIdeal.nD Cert.AdSqRefIdeal.τ Cert.AdSqRefIdeal.sig) → Buf (Elt Ideal) ℓ) (g' : Dev Cert.AdSqRefIdeal.nD → PrngReg), Pre_AdSqIdeal m →
    (∀ c : Dev Cert.AdSqIdeal.nD,
      m' ((c.tc : Thread Cert.AdSqRefIdeal.nD Cert.AdSqRefIdeal.τ).loc Cert.AdSqRefIdeal.main_arg0) = m ((c.tc : Thread Cert.AdSqIdeal.nD Cert.AdSqIdeal.τ).loc Cert.AdSqIdeal.main_arg0)
      ∧ m' ((c.tc : Thread Cert.AdSqRefIdeal.nD Cert.AdSqRefIdeal.τ).loc Cert.AdSqRefIdeal.main_arg1) = m ((c.tc : Thread Cert.AdSqIdeal.nD Cert.AdSqIdeal.τ).loc Cert.AdSqIdeal.main_arg1)
      ∧ m' ((c.tc : Thread Cert.AdSqRefIdeal.nD Cert.AdSqRefIdeal.τ).loc Cert.AdSqRefIdeal.main_arg2) = m ((c.tc : Thread Cert.AdSqIdeal.nD Cert.AdSqIdeal.τ).loc Cert.AdSqIdeal.main_arg2)
      ∧ m' ((c.tc : Thread Cert.AdSqRefIdeal.nD Cert.AdSqRefIdeal.τ).loc Cert.AdSqRefIdeal.main_arg3) = m ((c.tc : Thread Cert.AdSqIdeal.nD Cert.AdSqIdeal.τ).loc Cert.AdSqIdeal.main_arg3)) →
    ∃ (v0 : (c : Dev Cert.AdSqIdeal.nD) → Buf (Elt Ideal) ((c.tc : Thread Cert.AdSqIdeal.nD Cert.AdSqIdeal.τ).loc Cert.AdSqIdeal.main_v0_0)) (v1 : (c : Dev Cert.AdSqIdeal.nD) → Buf (Elt Ideal) ((c.tc : Thread Cert.AdSqIdeal.nD Cert.AdSqIdeal.τ).loc Cert.AdSqIdeal.main_v0_1)) (v2 : (c : Dev Cert.AdSqIdeal.nD) → Buf (Elt Ideal) ((c.tc : Thread Cert.AdSqIdeal.nD Cert.AdSqIdeal.τ).loc Cert.AdSqIdeal.main_v0_2)) (v3 : (c : Dev Cert.AdSqIdeal.nD) → Buf (Elt Ideal) ((c.tc : Thread Cert.AdSqIdeal.nD Cert.AdSqIdeal.τ).loc Cert.AdSqIdeal.main_v0_3)),
      θ_run (Cert.AdSqIdeal.defs (F := Ideal)) (onTc (τ := Cert.AdSqIdeal.τ) (Cert.AdSqIdeal.main (F := Ideal))) ⟨m, fun _ => 0, g⟩ (fun r => ∀ c : Dev Cert.AdSqIdeal.nD,
          r.2.mem ((c.tc : Thread Cert.AdSqIdeal.nD Cert.AdSqIdeal.τ).loc Cert.AdSqIdeal.main_v0_0) = v0 c
          ∧ r.2.mem ((c.tc : Thread Cert.AdSqIdeal.nD Cert.AdSqIdeal.τ).loc Cert.AdSqIdeal.main_v0_1) = v1 c
          ∧ r.2.mem ((c.tc : Thread Cert.AdSqIdeal.nD Cert.AdSqIdeal.τ).loc Cert.AdSqIdeal.main_v0_2) = v2 c
          ∧ r.2.mem ((c.tc : Thread Cert.AdSqIdeal.nD Cert.AdSqIdeal.τ).loc Cert.AdSqIdeal.main_v0_3) = v3 c
          ∧ r.2.mem ((c.tc : Thread Cert.AdSqIdeal.nD Cert.AdSqIdeal.τ).loc Cert.AdSqIdeal.main_arg0) = m ((c.tc : Thread Cert.AdSqIdeal.nD Cert.AdSqIdeal.τ).loc Cert.AdSqIdeal.main_arg0)
          ∧ r.2.mem ((c.tc : Thread Cert.AdSqIdeal.nD Cert.AdSqIdeal.τ).loc Cert.AdSqIdeal.main_arg1) = m ((c.tc : Thread Cert.AdSqIdeal.nD Cert.AdSqIdeal.τ).loc Cert.AdSqIdeal.main_arg1)
          ∧ r.2.mem ((c.tc : Thread Cert.AdSqIdeal.nD Cert.AdSqIdeal.τ).loc Cert.AdSqIdeal.main_arg2) = m ((c.tc : Thread Cert.AdSqIdeal.nD Cert.AdSqIdeal.τ).loc Cert.AdSqIdeal.main_arg2)
          ∧ r.2.mem ((c.tc : Thread Cert.AdSqIdeal.nD Cert.AdSqIdeal.τ).loc Cert.AdSqIdeal.main_arg3) = m ((c.tc : Thread Cert.AdSqIdeal.nD Cert.AdSqIdeal.τ).loc Cert.AdSqIdeal.main_arg3))
      ∧ θ_run (Cert.AdSqRefIdeal.defs (F := Ideal)) (onTc (τ := Cert.AdSqRefIdeal.τ) (Cert.AdSqRefIdeal.main (F := Ideal))) ⟨m', fun _ => 0, g'⟩ (fun r => ∀ c : Dev Cert.AdSqRefIdeal.nD,
          r.2.mem ((c.tc : Thread Cert.AdSqRefIdeal.nD Cert.AdSqRefIdeal.τ).loc Cert.AdSqRefIdeal.main_v1) = v0 c
          ∧ r.2.mem ((c.tc : Thread Cert.AdSqRefIdeal.nD Cert.AdSqRefIdeal.τ).loc Cert.AdSqRefIdeal.main_v25) = v1 c
          ∧ r.2.mem ((c.tc : Thread Cert.AdSqRefIdeal.nD Cert.AdSqRefIdeal.τ).loc Cert.AdSqRefIdeal.main_v6) = v2 c
          ∧ r.2.mem ((c.tc : Thread Cert.AdSqRefIdeal.nD Cert.AdSqRefIdeal.τ).loc Cert.AdSqRefIdeal.main_v12) = v3 c
          ∧ r.2.mem ((c.tc : Thread Cert.AdSqRefIdeal.nD Cert.AdSqRefIdeal.τ).loc Cert.AdSqRefIdeal.main_arg0) = m' ((c.tc : Thread Cert.AdSqRefIdeal.nD Cert.AdSqRefIdeal.τ).loc Cert.AdSqRefIdeal.main_arg0)
          ∧ r.2.mem ((c.tc : Thread Cert.AdSqRefIdeal.nD Cert.AdSqRefIdeal.τ).loc Cert.AdSqRefIdeal.main_arg1) = m' ((c.tc : Thread Cert.AdSqRefIdeal.nD Cert.AdSqRefIdeal.τ).loc Cert.AdSqRefIdeal.main_arg1)
          ∧ r.2.mem ((c.tc : Thread Cert.AdSqRefIdeal.nD Cert.AdSqRefIdeal.τ).loc Cert.AdSqRefIdeal.main_arg2) = m' ((c.tc : Thread Cert.AdSqRefIdeal.nD Cert.AdSqRefIdeal.τ).loc Cert.AdSqRefIdeal.main_arg2)
          ∧ r.2.mem ((c.tc : Thread Cert.AdSqRefIdeal.nD Cert.AdSqRefIdeal.τ).loc Cert.AdSqRefIdeal.main_arg3) = m' ((c.tc : Thread Cert.AdSqRefIdeal.nD Cert.AdSqRefIdeal.τ).loc Cert.AdSqRefIdeal.main_arg3))

def preserves_AdFf1_AdFf1Ideal : Prop :=
  True

def algebraic_AdFf1Ideal_AdFf1RefIdeal [hAdFf1Ideal : Cert.AdFf1Ideal.Facts] [hAdFf1RefIdeal : Cert.AdFf1RefIdeal.Facts] : Prop :=
  ∀ (m : (ℓ : Loc Cert.AdFf1Ideal.nD Cert.AdFf1Ideal.τ Cert.AdFf1Ideal.sig) → Buf (Elt Ideal) ℓ) (g : Dev Cert.AdFf1Ideal.nD → PrngReg)
    (m' : (ℓ : Loc Cert.AdFf1RefIdeal.nD Cert.AdFf1RefIdeal.τ Cert.AdFf1RefIdeal.sig) → Buf (Elt Ideal) ℓ) (g' : Dev Cert.AdFf1RefIdeal.nD → PrngReg), Pre_AdFf1Ideal m →
    (∀ c : Dev Cert.AdFf1Ideal.nD,
      m' ((c.tc : Thread Cert.AdFf1RefIdeal.nD Cert.AdFf1RefIdeal.τ).loc Cert.AdFf1RefIdeal.main_arg0) = m ((c.tc : Thread Cert.AdFf1Ideal.nD Cert.AdFf1Ideal.τ).loc Cert.AdFf1Ideal.main_arg0)
      ∧ m' ((c.tc : Thread Cert.AdFf1RefIdeal.nD Cert.AdFf1RefIdeal.τ).loc Cert.AdFf1RefIdeal.main_arg1) = m ((c.tc : Thread Cert.AdFf1Ideal.nD Cert.AdFf1Ideal.τ).loc Cert.AdFf1Ideal.main_arg1)
      ∧ m' ((c.tc : Thread Cert.AdFf1RefIdeal.nD Cert.AdFf1RefIdeal.τ).loc Cert.AdFf1RefIdeal.main_arg2) = m ((c.tc : Thread Cert.AdFf1Ideal.nD Cert.AdFf1Ideal.τ).loc Cert.AdFf1Ideal.main_arg2)
      ∧ m' ((c.tc : Thread Cert.AdFf1RefIdeal.nD Cert.AdFf1RefIdeal.τ).loc Cert.AdFf1RefIdeal.main_arg3) = m ((c.tc : Thread Cert.AdFf1Ideal.nD Cert.AdFf1Ideal.τ).loc Cert.AdFf1Ideal.main_arg3)) →
    ∃ (v0 : (c : Dev Cert.AdFf1Ideal.nD) → Buf (Elt Ideal) ((c.tc : Thread Cert.AdFf1Ideal.nD Cert.AdFf1Ideal.τ).loc Cert.AdFf1Ideal.main_v0_0)) (v1 : (c : Dev Cert.AdFf1Ideal.nD) → Buf (Elt Ideal) ((c.tc : Thread Cert.AdFf1Ideal.nD Cert.AdFf1Ideal.τ).loc Cert.AdFf1Ideal.main_v0_1)) (v2 : (c : Dev Cert.AdFf1Ideal.nD) → Buf (Elt Ideal) ((c.tc : Thread Cert.AdFf1Ideal.nD Cert.AdFf1Ideal.τ).loc Cert.AdFf1Ideal.main_v0_2)) (v3 : (c : Dev Cert.AdFf1Ideal.nD) → Buf (Elt Ideal) ((c.tc : Thread Cert.AdFf1Ideal.nD Cert.AdFf1Ideal.τ).loc Cert.AdFf1Ideal.main_v0_3)),
      θ_run (Cert.AdFf1Ideal.defs (F := Ideal)) (onTc (τ := Cert.AdFf1Ideal.τ) (Cert.AdFf1Ideal.main (F := Ideal))) ⟨m, fun _ => 0, g⟩ (fun r => ∀ c : Dev Cert.AdFf1Ideal.nD,
          r.2.mem ((c.tc : Thread Cert.AdFf1Ideal.nD Cert.AdFf1Ideal.τ).loc Cert.AdFf1Ideal.main_v0_0) = v0 c
          ∧ r.2.mem ((c.tc : Thread Cert.AdFf1Ideal.nD Cert.AdFf1Ideal.τ).loc Cert.AdFf1Ideal.main_v0_1) = v1 c
          ∧ r.2.mem ((c.tc : Thread Cert.AdFf1Ideal.nD Cert.AdFf1Ideal.τ).loc Cert.AdFf1Ideal.main_v0_2) = v2 c
          ∧ r.2.mem ((c.tc : Thread Cert.AdFf1Ideal.nD Cert.AdFf1Ideal.τ).loc Cert.AdFf1Ideal.main_v0_3) = v3 c
          ∧ r.2.mem ((c.tc : Thread Cert.AdFf1Ideal.nD Cert.AdFf1Ideal.τ).loc Cert.AdFf1Ideal.main_arg0) = m ((c.tc : Thread Cert.AdFf1Ideal.nD Cert.AdFf1Ideal.τ).loc Cert.AdFf1Ideal.main_arg0)
          ∧ r.2.mem ((c.tc : Thread Cert.AdFf1Ideal.nD Cert.AdFf1Ideal.τ).loc Cert.AdFf1Ideal.main_arg1) = m ((c.tc : Thread Cert.AdFf1Ideal.nD Cert.AdFf1Ideal.τ).loc Cert.AdFf1Ideal.main_arg1)
          ∧ r.2.mem ((c.tc : Thread Cert.AdFf1Ideal.nD Cert.AdFf1Ideal.τ).loc Cert.AdFf1Ideal.main_arg2) = m ((c.tc : Thread Cert.AdFf1Ideal.nD Cert.AdFf1Ideal.τ).loc Cert.AdFf1Ideal.main_arg2)
          ∧ r.2.mem ((c.tc : Thread Cert.AdFf1Ideal.nD Cert.AdFf1Ideal.τ).loc Cert.AdFf1Ideal.main_arg3) = m ((c.tc : Thread Cert.AdFf1Ideal.nD Cert.AdFf1Ideal.τ).loc Cert.AdFf1Ideal.main_arg3))
      ∧ θ_run (Cert.AdFf1RefIdeal.defs (F := Ideal)) (onTc (τ := Cert.AdFf1RefIdeal.τ) (Cert.AdFf1RefIdeal.main (F := Ideal))) ⟨m', fun _ => 0, g'⟩ (fun r => ∀ c : Dev Cert.AdFf1RefIdeal.nD,
          r.2.mem ((c.tc : Thread Cert.AdFf1RefIdeal.nD Cert.AdFf1RefIdeal.τ).loc Cert.AdFf1RefIdeal.main_v1) = v0 c
          ∧ r.2.mem ((c.tc : Thread Cert.AdFf1RefIdeal.nD Cert.AdFf1RefIdeal.τ).loc Cert.AdFf1RefIdeal.main_v25) = v1 c
          ∧ r.2.mem ((c.tc : Thread Cert.AdFf1RefIdeal.nD Cert.AdFf1RefIdeal.τ).loc Cert.AdFf1RefIdeal.main_v6) = v2 c
          ∧ r.2.mem ((c.tc : Thread Cert.AdFf1RefIdeal.nD Cert.AdFf1RefIdeal.τ).loc Cert.AdFf1RefIdeal.main_v12) = v3 c
          ∧ r.2.mem ((c.tc : Thread Cert.AdFf1RefIdeal.nD Cert.AdFf1RefIdeal.τ).loc Cert.AdFf1RefIdeal.main_arg0) = m' ((c.tc : Thread Cert.AdFf1RefIdeal.nD Cert.AdFf1RefIdeal.τ).loc Cert.AdFf1RefIdeal.main_arg0)
          ∧ r.2.mem ((c.tc : Thread Cert.AdFf1RefIdeal.nD Cert.AdFf1RefIdeal.τ).loc Cert.AdFf1RefIdeal.main_arg1) = m' ((c.tc : Thread Cert.AdFf1RefIdeal.nD Cert.AdFf1RefIdeal.τ).loc Cert.AdFf1RefIdeal.main_arg1)
          ∧ r.2.mem ((c.tc : Thread Cert.AdFf1RefIdeal.nD Cert.AdFf1RefIdeal.τ).loc Cert.AdFf1RefIdeal.main_arg2) = m' ((c.tc : Thread Cert.AdFf1RefIdeal.nD Cert.AdFf1RefIdeal.τ).loc Cert.AdFf1RefIdeal.main_arg2)
          ∧ r.2.mem ((c.tc : Thread Cert.AdFf1RefIdeal.nD Cert.AdFf1RefIdeal.τ).loc Cert.AdFf1RefIdeal.main_arg3) = m' ((c.tc : Thread Cert.AdFf1RefIdeal.nD Cert.AdFf1RefIdeal.τ).loc Cert.AdFf1RefIdeal.main_arg3))

def preserves_AdFf2_AdFf2Ideal : Prop :=
  True

def algebraic_AdFf2Ideal_AdFf2RefIdeal [hAdFf2Ideal : Cert.AdFf2Ideal.Facts] [hAdFf2RefIdeal : Cert.AdFf2RefIdeal.Facts] : Prop :=
  ∀ (m : (ℓ : Loc Cert.AdFf2Ideal.nD Cert.AdFf2Ideal.τ Cert.AdFf2Ideal.sig) → Buf (Elt Ideal) ℓ) (g : Dev Cert.AdFf2Ideal.nD → PrngReg)
    (m' : (ℓ : Loc Cert.AdFf2RefIdeal.nD Cert.AdFf2RefIdeal.τ Cert.AdFf2RefIdeal.sig) → Buf (Elt Ideal) ℓ) (g' : Dev Cert.AdFf2RefIdeal.nD → PrngReg), Pre_AdFf2Ideal m →
    (∀ c : Dev Cert.AdFf2Ideal.nD,
      m' ((c.tc : Thread Cert.AdFf2RefIdeal.nD Cert.AdFf2RefIdeal.τ).loc Cert.AdFf2RefIdeal.main_arg0) = m ((c.tc : Thread Cert.AdFf2Ideal.nD Cert.AdFf2Ideal.τ).loc Cert.AdFf2Ideal.main_arg0)
      ∧ m' ((c.tc : Thread Cert.AdFf2RefIdeal.nD Cert.AdFf2RefIdeal.τ).loc Cert.AdFf2RefIdeal.main_arg1) = m ((c.tc : Thread Cert.AdFf2Ideal.nD Cert.AdFf2Ideal.τ).loc Cert.AdFf2Ideal.main_arg1)
      ∧ m' ((c.tc : Thread Cert.AdFf2RefIdeal.nD Cert.AdFf2RefIdeal.τ).loc Cert.AdFf2RefIdeal.main_arg2) = m ((c.tc : Thread Cert.AdFf2Ideal.nD Cert.AdFf2Ideal.τ).loc Cert.AdFf2Ideal.main_arg2)
      ∧ m' ((c.tc : Thread Cert.AdFf2RefIdeal.nD Cert.AdFf2RefIdeal.τ).loc Cert.AdFf2RefIdeal.main_arg3) = m ((c.tc : Thread Cert.AdFf2Ideal.nD Cert.AdFf2Ideal.τ).loc Cert.AdFf2Ideal.main_arg3)) →
    ∃ (v0 : (c : Dev Cert.AdFf2Ideal.nD) → Buf (Elt Ideal) ((c.tc : Thread Cert.AdFf2Ideal.nD Cert.AdFf2Ideal.τ).loc Cert.AdFf2Ideal.main_v0_0)) (v1 : (c : Dev Cert.AdFf2Ideal.nD) → Buf (Elt Ideal) ((c.tc : Thread Cert.AdFf2Ideal.nD Cert.AdFf2Ideal.τ).loc Cert.AdFf2Ideal.main_v0_1)) (v2 : (c : Dev Cert.AdFf2Ideal.nD) → Buf (Elt Ideal) ((c.tc : Thread Cert.AdFf2Ideal.nD Cert.AdFf2Ideal.τ).loc Cert.AdFf2Ideal.main_v0_2)) (v3 : (c : Dev Cert.AdFf2Ideal.nD) → Buf (Elt Ideal) ((c.tc : Thread Cert.AdFf2Ideal.nD Cert.AdFf2Ideal.τ).loc Cert.AdFf2Ideal.main_v0_3)),
      θ_run (Cert.AdFf2Ideal.defs (F := Ideal)) (onTc (τ := Cert.AdFf2Ideal.τ) (Cert.AdFf2Ideal.main (F := Ideal))) ⟨m, fun _ => 0, g⟩ (fun r => ∀ c : Dev Cert.AdFf2Ideal.nD,
          r.2.mem ((c.tc : Thread Cert.AdFf2Ideal.nD Cert.AdFf2Ideal.τ).loc Cert.AdFf2Ideal.main_v0_0) = v0 c
          ∧ r.2.mem ((c.tc : Thread Cert.AdFf2Ideal.nD Cert.AdFf2Ideal.τ).loc Cert.AdFf2Ideal.main_v0_1) = v1 c
          ∧ r.2.mem ((c.tc : Thread Cert.AdFf2Ideal.nD Cert.AdFf2Ideal.τ).loc Cert.AdFf2Ideal.main_v0_2) = v2 c
          ∧ r.2.mem ((c.tc : Thread Cert.AdFf2Ideal.nD Cert.AdFf2Ideal.τ).loc Cert.AdFf2Ideal.main_v0_3) = v3 c
          ∧ r.2.mem ((c.tc : Thread Cert.AdFf2Ideal.nD Cert.AdFf2Ideal.τ).loc Cert.AdFf2Ideal.main_arg0) = m ((c.tc : Thread Cert.AdFf2Ideal.nD Cert.AdFf2Ideal.τ).loc Cert.AdFf2Ideal.main_arg0)
          ∧ r.2.mem ((c.tc : Thread Cert.AdFf2Ideal.nD Cert.AdFf2Ideal.τ).loc Cert.AdFf2Ideal.main_arg1) = m ((c.tc : Thread Cert.AdFf2Ideal.nD Cert.AdFf2Ideal.τ).loc Cert.AdFf2Ideal.main_arg1)
          ∧ r.2.mem ((c.tc : Thread Cert.AdFf2Ideal.nD Cert.AdFf2Ideal.τ).loc Cert.AdFf2Ideal.main_arg2) = m ((c.tc : Thread Cert.AdFf2Ideal.nD Cert.AdFf2Ideal.τ).loc Cert.AdFf2Ideal.main_arg2)
          ∧ r.2.mem ((c.tc : Thread Cert.AdFf2Ideal.nD Cert.AdFf2Ideal.τ).loc Cert.AdFf2Ideal.main_arg3) = m ((c.tc : Thread Cert.AdFf2Ideal.nD Cert.AdFf2Ideal.τ).loc Cert.AdFf2Ideal.main_arg3))
      ∧ θ_run (Cert.AdFf2RefIdeal.defs (F := Ideal)) (onTc (τ := Cert.AdFf2RefIdeal.τ) (Cert.AdFf2RefIdeal.main (F := Ideal))) ⟨m', fun _ => 0, g'⟩ (fun r => ∀ c : Dev Cert.AdFf2RefIdeal.nD,
          r.2.mem ((c.tc : Thread Cert.AdFf2RefIdeal.nD Cert.AdFf2RefIdeal.τ).loc Cert.AdFf2RefIdeal.main_v1) = v0 c
          ∧ r.2.mem ((c.tc : Thread Cert.AdFf2RefIdeal.nD Cert.AdFf2RefIdeal.τ).loc Cert.AdFf2RefIdeal.main_v25) = v1 c
          ∧ r.2.mem ((c.tc : Thread Cert.AdFf2RefIdeal.nD Cert.AdFf2RefIdeal.τ).loc Cert.AdFf2RefIdeal.main_v6) = v2 c
          ∧ r.2.mem ((c.tc : Thread Cert.AdFf2RefIdeal.nD Cert.AdFf2RefIdeal.τ).loc Cert.AdFf2RefIdeal.main_v12) = v3 c
          ∧ r.2.mem ((c.tc : Thread Cert.AdFf2RefIdeal.nD Cert.AdFf2RefIdeal.τ).loc Cert.AdFf2RefIdeal.main_arg0) = m' ((c.tc : Thread Cert.AdFf2RefIdeal.nD Cert.AdFf2RefIdeal.τ).loc Cert.AdFf2RefIdeal.main_arg0)
          ∧ r.2.mem ((c.tc : Thread Cert.AdFf2RefIdeal.nD Cert.AdFf2RefIdeal.τ).loc Cert.AdFf2RefIdeal.main_arg1) = m' ((c.tc : Thread Cert.AdFf2RefIdeal.nD Cert.AdFf2RefIdeal.τ).loc Cert.AdFf2RefIdeal.main_arg1)
          ∧ r.2.mem ((c.tc : Thread Cert.AdFf2RefIdeal.nD Cert.AdFf2RefIdeal.τ).loc Cert.AdFf2RefIdeal.main_arg2) = m' ((c.tc : Thread Cert.AdFf2RefIdeal.nD Cert.AdFf2RefIdeal.τ).loc Cert.AdFf2RefIdeal.main_arg2)
          ∧ r.2.mem ((c.tc : Thread Cert.AdFf2RefIdeal.nD Cert.AdFf2RefIdeal.τ).loc Cert.AdFf2RefIdeal.main_arg3) = m' ((c.tc : Thread Cert.AdFf2RefIdeal.nD Cert.AdFf2RefIdeal.τ).loc Cert.AdFf2RefIdeal.main_arg3))

def preserves_AdPle_AdPleIdeal : Prop :=
  True

def algebraic_AdPleIdeal_AdPleRefIdeal [hAdPleIdeal : Cert.AdPleIdeal.Facts] [hAdPleRefIdeal : Cert.AdPleRefIdeal.Facts] : Prop :=
  ∀ (m : (ℓ : Loc Cert.AdPleIdeal.nD Cert.AdPleIdeal.τ Cert.AdPleIdeal.sig) → Buf (Elt Ideal) ℓ) (g : Dev Cert.AdPleIdeal.nD → PrngReg)
    (m' : (ℓ : Loc Cert.AdPleRefIdeal.nD Cert.AdPleRefIdeal.τ Cert.AdPleRefIdeal.sig) → Buf (Elt Ideal) ℓ) (g' : Dev Cert.AdPleRefIdeal.nD → PrngReg), Pre_AdPleIdeal m →
    (∀ c : Dev Cert.AdPleIdeal.nD,
      m' ((c.tc : Thread Cert.AdPleRefIdeal.nD Cert.AdPleRefIdeal.τ).loc Cert.AdPleRefIdeal.main_arg0) = m ((c.tc : Thread Cert.AdPleIdeal.nD Cert.AdPleIdeal.τ).loc Cert.AdPleIdeal.main_arg0)
      ∧ m' ((c.tc : Thread Cert.AdPleRefIdeal.nD Cert.AdPleRefIdeal.τ).loc Cert.AdPleRefIdeal.main_arg1) = m ((c.tc : Thread Cert.AdPleIdeal.nD Cert.AdPleIdeal.τ).loc Cert.AdPleIdeal.main_arg1)
      ∧ m' ((c.tc : Thread Cert.AdPleRefIdeal.nD Cert.AdPleRefIdeal.τ).loc Cert.AdPleRefIdeal.main_arg2) = m ((c.tc : Thread Cert.AdPleIdeal.nD Cert.AdPleIdeal.τ).loc Cert.AdPleIdeal.main_arg2)
      ∧ m' ((c.tc : Thread Cert.AdPleRefIdeal.nD Cert.AdPleRefIdeal.τ).loc Cert.AdPleRefIdeal.main_arg3) = m ((c.tc : Thread Cert.AdPleIdeal.nD Cert.AdPleIdeal.τ).loc Cert.AdPleIdeal.main_arg3)) →
    ∃ (v0 : (c : Dev Cert.AdPleIdeal.nD) → Buf (Elt Ideal) ((c.tc : Thread Cert.AdPleIdeal.nD Cert.AdPleIdeal.τ).loc Cert.AdPleIdeal.main_v0_0)) (v1 : (c : Dev Cert.AdPleIdeal.nD) → Buf (Elt Ideal) ((c.tc : Thread Cert.AdPleIdeal.nD Cert.AdPleIdeal.τ).loc Cert.AdPleIdeal.main_v0_1)) (v2 : (c : Dev Cert.AdPleIdeal.nD) → Buf (Elt Ideal) ((c.tc : Thread Cert.AdPleIdeal.nD Cert.AdPleIdeal.τ).loc Cert.AdPleIdeal.main_v0_2)) (v3 : (c : Dev Cert.AdPleIdeal.nD) → Buf (Elt Ideal) ((c.tc : Thread Cert.AdPleIdeal.nD Cert.AdPleIdeal.τ).loc Cert.AdPleIdeal.main_v0_3)),
      θ_run (Cert.AdPleIdeal.defs (F := Ideal)) (onTc (τ := Cert.AdPleIdeal.τ) (Cert.AdPleIdeal.main (F := Ideal))) ⟨m, fun _ => 0, g⟩ (fun r => ∀ c : Dev Cert.AdPleIdeal.nD,
          r.2.mem ((c.tc : Thread Cert.AdPleIdeal.nD Cert.AdPleIdeal.τ).loc Cert.AdPleIdeal.main_v0_0) = v0 c
          ∧ r.2.mem ((c.tc : Thread Cert.AdPleIdeal.nD Cert.AdPleIdeal.τ).loc Cert.AdPleIdeal.main_v0_1) = v1 c
          ∧ r.2.mem ((c.tc : Thread Cert.AdPleIdeal.nD Cert.AdPleIdeal.τ).loc Cert.AdPleIdeal.main_v0_2) = v2 c
          ∧ r.2.mem ((c.tc : Thread Cert.AdPleIdeal.nD Cert.AdPleIdeal.τ).loc Cert.AdPleIdeal.main_v0_3) = v3 c
          ∧ r.2.mem ((c.tc : Thread Cert.AdPleIdeal.nD Cert.AdPleIdeal.τ).loc Cert.AdPleIdeal.main_arg0) = m ((c.tc : Thread Cert.AdPleIdeal.nD Cert.AdPleIdeal.τ).loc Cert.AdPleIdeal.main_arg0)
          ∧ r.2.mem ((c.tc : Thread Cert.AdPleIdeal.nD Cert.AdPleIdeal.τ).loc Cert.AdPleIdeal.main_arg1) = m ((c.tc : Thread Cert.AdPleIdeal.nD Cert.AdPleIdeal.τ).loc Cert.AdPleIdeal.main_arg1)
          ∧ r.2.mem ((c.tc : Thread Cert.AdPleIdeal.nD Cert.AdPleIdeal.τ).loc Cert.AdPleIdeal.main_arg2) = m ((c.tc : Thread Cert.AdPleIdeal.nD Cert.AdPleIdeal.τ).loc Cert.AdPleIdeal.main_arg2)
          ∧ r.2.mem ((c.tc : Thread Cert.AdPleIdeal.nD Cert.AdPleIdeal.τ).loc Cert.AdPleIdeal.main_arg3) = m ((c.tc : Thread Cert.AdPleIdeal.nD Cert.AdPleIdeal.τ).loc Cert.AdPleIdeal.main_arg3))
      ∧ θ_run (Cert.AdPleRefIdeal.defs (F := Ideal)) (onTc (τ := Cert.AdPleRefIdeal.τ) (Cert.AdPleRefIdeal.main (F := Ideal))) ⟨m', fun _ => 0, g'⟩ (fun r => ∀ c : Dev Cert.AdPleRefIdeal.nD,
          r.2.mem ((c.tc : Thread Cert.AdPleRefIdeal.nD Cert.AdPleRefIdeal.τ).loc Cert.AdPleRefIdeal.main_v1) = v0 c
          ∧ r.2.mem ((c.tc : Thread Cert.AdPleRefIdeal.nD Cert.AdPleRefIdeal.τ).loc Cert.AdPleRefIdeal.main_v25) = v1 c
          ∧ r.2.mem ((c.tc : Thread Cert.AdPleRefIdeal.nD Cert.AdPleRefIdeal.τ).loc Cert.AdPleRefIdeal.main_v6) = v2 c
          ∧ r.2.mem ((c.tc : Thread Cert.AdPleRefIdeal.nD Cert.AdPleRefIdeal.τ).loc Cert.AdPleRefIdeal.main_v12) = v3 c
          ∧ r.2.mem ((c.tc : Thread Cert.AdPleRefIdeal.nD Cert.AdPleRefIdeal.τ).loc Cert.AdPleRefIdeal.main_arg0) = m' ((c.tc : Thread Cert.AdPleRefIdeal.nD Cert.AdPleRefIdeal.τ).loc Cert.AdPleRefIdeal.main_arg0)
          ∧ r.2.mem ((c.tc : Thread Cert.AdPleRefIdeal.nD Cert.AdPleRefIdeal.τ).loc Cert.AdPleRefIdeal.main_arg1) = m' ((c.tc : Thread Cert.AdPleRefIdeal.nD Cert.AdPleRefIdeal.τ).loc Cert.AdPleRefIdeal.main_arg1)
          ∧ r.2.mem ((c.tc : Thread Cert.AdPleRefIdeal.nD Cert.AdPleRefIdeal.τ).loc Cert.AdPleRefIdeal.main_arg2) = m' ((c.tc : Thread Cert.AdPleRefIdeal.nD Cert.AdPleRefIdeal.τ).loc Cert.AdPleRefIdeal.main_arg2)
          ∧ r.2.mem ((c.tc : Thread Cert.AdPleRefIdeal.nD Cert.AdPleRefIdeal.τ).loc Cert.AdPleRefIdeal.main_arg3) = m' ((c.tc : Thread Cert.AdPleRefIdeal.nD Cert.AdPleRefIdeal.τ).loc Cert.AdPleRefIdeal.main_arg3))

def preserves_AdSmall_AdSmallIdeal : Prop :=
  True

def algebraic_AdSmallIdeal_AdSmallRefIdeal [hAdSmallIdeal : Cert.AdSmallIdeal.Facts] [hAdSmallRefIdeal : Cert.AdSmallRefIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg)
    (m' : (ℓ : Loc Cert.AdSmallRefIdeal.nD Cert.AdSmallRefIdeal.τ Cert.AdSmallRefIdeal.sig) → Buf (Elt Ideal) ℓ) (g' : Dev Cert.AdSmallRefIdeal.nD → PrngReg), Pre_AdSmallIdeal m →
    (∀ c : Dev Cert.AdSmallIdeal.nD,
      m' ((c.tc : Thread Cert.AdSmallRefIdeal.nD Cert.AdSmallRefIdeal.τ).loc Cert.AdSmallRefIdeal.main_arg0) = m ((c.tc : Thread Cert.AdSmallIdeal.nD Cert.AdSmallIdeal.τ).loc Cert.AdSmallIdeal.main_arg0)
      ∧ m' ((c.tc : Thread Cert.AdSmallRefIdeal.nD Cert.AdSmallRefIdeal.τ).loc Cert.AdSmallRefIdeal.main_arg1) = m ((c.tc : Thread Cert.AdSmallIdeal.nD Cert.AdSmallIdeal.τ).loc Cert.AdSmallIdeal.main_arg1)
      ∧ m' ((c.tc : Thread Cert.AdSmallRefIdeal.nD Cert.AdSmallRefIdeal.τ).loc Cert.AdSmallRefIdeal.main_arg2) = m ((c.tc : Thread Cert.AdSmallIdeal.nD Cert.AdSmallIdeal.τ).loc Cert.AdSmallIdeal.main_arg2)
      ∧ m' ((c.tc : Thread Cert.AdSmallRefIdeal.nD Cert.AdSmallRefIdeal.τ).loc Cert.AdSmallRefIdeal.main_arg3) = m ((c.tc : Thread Cert.AdSmallIdeal.nD Cert.AdSmallIdeal.τ).loc Cert.AdSmallIdeal.main_arg3)) →
    ∃ (v0 : (c : Dev Cert.AdSmallIdeal.nD) → Buf (Elt Ideal) ((c.tc : Thread Cert.AdSmallIdeal.nD Cert.AdSmallIdeal.τ).loc Cert.AdSmallIdeal.main_v0_0)) (v1 : (c : Dev Cert.AdSmallIdeal.nD) → Buf (Elt Ideal) ((c.tc : Thread Cert.AdSmallIdeal.nD Cert.AdSmallIdeal.τ).loc Cert.AdSmallIdeal.main_v0_1)) (v2 : (c : Dev Cert.AdSmallIdeal.nD) → Buf (Elt Ideal) ((c.tc : Thread Cert.AdSmallIdeal.nD Cert.AdSmallIdeal.τ).loc Cert.AdSmallIdeal.main_v0_2)) (v3 : (c : Dev Cert.AdSmallIdeal.nD) → Buf (Elt Ideal) ((c.tc : Thread Cert.AdSmallIdeal.nD Cert.AdSmallIdeal.τ).loc Cert.AdSmallIdeal.main_v0_3)),
      θ_run (Cert.AdSmallIdeal.defs (F := Ideal)) (onTc (τ := Cert.AdSmallIdeal.τ) (Cert.AdSmallIdeal.main (F := Ideal))) ⟨m, fun _ => 0, g⟩ (fun r => ∀ c : Dev Cert.AdSmallIdeal.nD,
          r.2.mem ((c.tc : Thread Cert.AdSmallIdeal.nD Cert.AdSmallIdeal.τ).loc Cert.AdSmallIdeal.main_v0_0) = v0 c
          ∧ r.2.mem ((c.tc : Thread Cert.AdSmallIdeal.nD Cert.AdSmallIdeal.τ).loc Cert.AdSmallIdeal.main_v0_1) = v1 c
          ∧ r.2.mem ((c.tc : Thread Cert.AdSmallIdeal.nD Cert.AdSmallIdeal.τ).loc Cert.AdSmallIdeal.main_v0_2) = v2 c
          ∧ r.2.mem ((c.tc : Thread Cert.AdSmallIdeal.nD Cert.AdSmallIdeal.τ).loc Cert.AdSmallIdeal.main_v0_3) = v3 c
          ∧ r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
          ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
          ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
          ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ θ_run (Cert.AdSmallRefIdeal.defs (F := Ideal)) (onTc (τ := Cert.AdSmallRefIdeal.τ) (Cert.AdSmallRefIdeal.main (F := Ideal))) ⟨m', fun _ => 0, g'⟩ (fun r => ∀ c : Dev Cert.AdSmallRefIdeal.nD,
          r.2.mem ((c.tc : Thread Cert.AdSmallRefIdeal.nD Cert.AdSmallRefIdeal.τ).loc Cert.AdSmallRefIdeal.main_v0) = v0 c
          ∧ r.2.mem ((c.tc : Thread Cert.AdSmallRefIdeal.nD Cert.AdSmallRefIdeal.τ).loc Cert.AdSmallRefIdeal.main_v24) = v1 c
          ∧ r.2.mem ((c.tc : Thread Cert.AdSmallRefIdeal.nD Cert.AdSmallRefIdeal.τ).loc Cert.AdSmallRefIdeal.main_v5) = v2 c
          ∧ r.2.mem ((c.tc : Thread Cert.AdSmallRefIdeal.nD Cert.AdSmallRefIdeal.τ).loc Cert.AdSmallRefIdeal.main_v11) = v3 c
          ∧ r.2.mem ((c.tc : Thread Cert.AdSmallRefIdeal.nD Cert.AdSmallRefIdeal.τ).loc Cert.AdSmallRefIdeal.main_arg0) = m' ((c.tc : Thread Cert.AdSmallRefIdeal.nD Cert.AdSmallRefIdeal.τ).loc Cert.AdSmallRefIdeal.main_arg0)
          ∧ r.2.mem ((c.tc : Thread Cert.AdSmallRefIdeal.nD Cert.AdSmallRefIdeal.τ).loc Cert.AdSmallRefIdeal.main_arg1) = m' ((c.tc : Thread Cert.AdSmallRefIdeal.nD Cert.AdSmallRefIdeal.τ).loc Cert.AdSmallRefIdeal.main_arg1)
          ∧ r.2.mem ((c.tc : Thread Cert.AdSmallRefIdeal.nD Cert.AdSmallRefIdeal.τ).loc Cert.AdSmallRefIdeal.main_arg2) = m' ((c.tc : Thread Cert.AdSmallRefIdeal.nD Cert.AdSmallRefIdeal.τ).loc Cert.AdSmallRefIdeal.main_arg2)
          ∧ r.2.mem ((c.tc : Thread Cert.AdSmallRefIdeal.nD Cert.AdSmallRefIdeal.τ).loc Cert.AdSmallRefIdeal.main_arg3) = m' ((c.tc : Thread Cert.AdSmallRefIdeal.nD Cert.AdSmallRefIdeal.τ).loc Cert.AdSmallRefIdeal.main_arg3))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDwFf2 : Cert.DwFf2.Facts) (hDwFf2Ideal : Cert.DwFf2Ideal.Facts) (hDwFf2RefIdeal : Cert.DwFf2RefIdeal.Facts) (hDwFf1 : Cert.DwFf1.Facts) (hDwFf1Ideal : Cert.DwFf1Ideal.Facts) (hDwFf1RefIdeal : Cert.DwFf1RefIdeal.Facts) (hInBwd : Cert.InBwd.Facts) (hInBwdIdeal : Cert.InBwdIdeal.Facts) (hInBwdRefIdeal : Cert.InBwdRefIdeal.Facts) (hDwSq : Cert.DwSq.Facts) (hDwSqIdeal : Cert.DwSqIdeal.Facts) (hDwSqRefIdeal : Cert.DwSqRefIdeal.Facts) (hDwBr : Cert.DwBr.Facts) (hDwBrIdeal : Cert.DwBrIdeal.Facts) (hDwBrRefIdeal : Cert.DwBrRefIdeal.Facts) (hDwPle : Cert.DwPle.Facts) (hDwPleIdeal : Cert.DwPleIdeal.Facts) (hDwPleRefIdeal : Cert.DwPleRefIdeal.Facts) (hHead : Cert.Head.Facts) (hHeadIdeal : Cert.HeadIdeal.Facts) (hHeadRefIdeal : Cert.HeadRefIdeal.Facts) (hFfnBwd : Cert.FfnBwd.Facts) (hFfnBwdIdeal : Cert.FfnBwdIdeal.Facts) (hFfnBwdRefIdeal : Cert.FfnBwdRefIdeal.Facts) (hMixFwd : Cert.MixFwd.Facts) (hMixFwdIdeal : Cert.MixFwdIdeal.Facts) (hMixFwdRefIdeal : Cert.MixFwdRefIdeal.Facts) (hAdIn : Cert.AdIn.Facts) (hAdInIdeal : Cert.AdInIdeal.Facts) (hAdInRefIdeal : Cert.AdInRefIdeal.Facts) (hAdBr : Cert.AdBr.Facts) (hAdBrIdeal : Cert.AdBrIdeal.Facts) (hAdBrRefIdeal : Cert.AdBrRefIdeal.Facts) (hAdSq : Cert.AdSq.Facts) (hAdSqIdeal : Cert.AdSqIdeal.Facts) (hAdSqRefIdeal : Cert.AdSqRefIdeal.Facts) (hAdFf1 : Cert.AdFf1.Facts) (hAdFf1Ideal : Cert.AdFf1Ideal.Facts) (hAdFf1RefIdeal : Cert.AdFf1RefIdeal.Facts) (hAdFf2 : Cert.AdFf2.Facts) (hAdFf2Ideal : Cert.AdFf2Ideal.Facts) (hAdFf2RefIdeal : Cert.AdFf2RefIdeal.Facts) (hAdPle : Cert.AdPle.Facts) (hAdPleIdeal : Cert.AdPleIdeal.Facts) (hAdPleRefIdeal : Cert.AdPleRefIdeal.Facts) (hAdSmall : Cert.AdSmall.Facts) (hAdSmallIdeal : Cert.AdSmallIdeal.Facts) (hAdSmallRefIdeal : Cert.AdSmallRefIdeal.Facts) (hPre_finite : Cert.Pre_finite.Facts) (hPre_finite_head : Cert.Pre_finite_head.Facts) (hPre_finite_ffn : Cert.Pre_finite_ffn.Facts),
    quiescent_Kernel (hKernel := hKernel)
    ∧ quiescent_KernelIdeal (hKernelIdeal := hKernelIdeal)
    ∧ quiescent_ReferenceIdeal (hReferenceIdeal := hReferenceIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_InBwd (hInBwd := hInBwd)
    ∧ quiescent_InBwdIdeal (hInBwdIdeal := hInBwdIdeal)
    ∧ quiescent_InBwdIdeal_pre_finite (hInBwdIdeal := hInBwdIdeal) (hPre_finite := hPre_finite)
    ∧ quiescent_InBwdRefIdeal (hInBwdRefIdeal := hInBwdRefIdeal)
    ∧ quiescent_InBwdRefIdeal_pre_finite (hInBwdRefIdeal := hInBwdRefIdeal) (hPre_finite := hPre_finite)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_DwBr (hDwBr := hDwBr)
    ∧ quiescent_DwBrIdeal (hDwBrIdeal := hDwBrIdeal)
    ∧ quiescent_DwBrRefIdeal (hDwBrRefIdeal := hDwBrRefIdeal)
    ∧ quiescent_DwPle (hDwPle := hDwPle)
    ∧ quiescent_DwPleIdeal (hDwPleIdeal := hDwPleIdeal)
    ∧ quiescent_DwPleRefIdeal (hDwPleRefIdeal := hDwPleRefIdeal)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadRefIdeal (hHeadRefIdeal := hHeadRefIdeal)
    ∧ quiescent_HeadRefIdeal_pre_finite_head (hHeadRefIdeal := hHeadRefIdeal) (hPre_finite_head := hPre_finite_head)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdBr (hAdBr := hAdBr)
    ∧ quiescent_AdBrIdeal (hAdBrIdeal := hAdBrIdeal)
    ∧ quiescent_AdBrRefIdeal (hAdBrRefIdeal := hAdBrRefIdeal)
    ∧ quiescent_AdSq (hAdSq := hAdSq)
    ∧ quiescent_AdSqIdeal (hAdSqIdeal := hAdSqIdeal)
    ∧ quiescent_AdSqRefIdeal (hAdSqRefIdeal := hAdSqRefIdeal)
    ∧ quiescent_AdFf1 (hAdFf1 := hAdFf1)
    ∧ quiescent_AdFf1Ideal (hAdFf1Ideal := hAdFf1Ideal)
    ∧ quiescent_AdFf1RefIdeal (hAdFf1RefIdeal := hAdFf1RefIdeal)
    ∧ quiescent_AdFf2 (hAdFf2 := hAdFf2)
    ∧ quiescent_AdFf2Ideal (hAdFf2Ideal := hAdFf2Ideal)
    ∧ quiescent_AdFf2RefIdeal (hAdFf2RefIdeal := hAdFf2RefIdeal)
    ∧ quiescent_AdPle (hAdPle := hAdPle)
    ∧ quiescent_AdPleIdeal (hAdPleIdeal := hAdPleIdeal)
    ∧ quiescent_AdPleRefIdeal (hAdPleRefIdeal := hAdPleRefIdeal)
    ∧ quiescent_AdSmall (hAdSmall := hAdSmall)
    ∧ quiescent_AdSmallIdeal (hAdSmallIdeal := hAdSmallIdeal)
    ∧ quiescent_AdSmallRefIdeal (hAdSmallRefIdeal := hAdSmallRefIdeal)
    ∧ preserves_Kernel_KernelIdeal
    ∧ preserves_DwIn_DwInIdeal
    ∧ algebraic_DwInIdeal_DwInRefIdeal (hDwInIdeal := hDwInIdeal) (hDwInRefIdeal := hDwInRefIdeal)
    ∧ preserves_DwFf2_DwFf2Ideal
    ∧ algebraic_DwFf2Ideal_DwFf2RefIdeal (hDwFf2Ideal := hDwFf2Ideal) (hDwFf2RefIdeal := hDwFf2RefIdeal)
    ∧ preserves_DwFf1_DwFf1Ideal
    ∧ algebraic_DwFf1Ideal_DwFf1RefIdeal (hDwFf1Ideal := hDwFf1Ideal) (hDwFf1RefIdeal := hDwFf1RefIdeal)
    ∧ preserves_InBwd_InBwdIdeal
    ∧ algebraic_InBwdIdeal_InBwdRefIdeal_pre_finite (hInBwdIdeal := hInBwdIdeal) (hInBwdRefIdeal := hInBwdRefIdeal) (hPre_finite := hPre_finite)
    ∧ preserves_DwSq_DwSqIdeal
    ∧ algebraic_DwSqIdeal_DwSqRefIdeal (hDwSqIdeal := hDwSqIdeal) (hDwSqRefIdeal := hDwSqRefIdeal)
    ∧ preserves_DwBr_DwBrIdeal
    ∧ algebraic_DwBrIdeal_DwBrRefIdeal (hDwBrIdeal := hDwBrIdeal) (hDwBrRefIdeal := hDwBrRefIdeal)
    ∧ preserves_DwPle_DwPleIdeal
    ∧ algebraic_DwPleIdeal_DwPleRefIdeal (hDwPleIdeal := hDwPleIdeal) (hDwPleRefIdeal := hDwPleRefIdeal)
    ∧ preserves_Head_HeadIdeal
    ∧ algebraic_HeadIdeal_HeadRefIdeal_pre_finite_head (hHeadIdeal := hHeadIdeal) (hHeadRefIdeal := hHeadRefIdeal) (hPre_finite_head := hPre_finite_head)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_MixFwd_MixFwdIdeal
    ∧ algebraic_MixFwdIdeal_MixFwdRefIdeal (hMixFwdIdeal := hMixFwdIdeal) (hMixFwdRefIdeal := hMixFwdRefIdeal)
    ∧ preserves_AdIn_AdInIdeal
    ∧ algebraic_AdInIdeal_AdInRefIdeal (hAdInIdeal := hAdInIdeal) (hAdInRefIdeal := hAdInRefIdeal)
    ∧ preserves_AdBr_AdBrIdeal
    ∧ algebraic_AdBrIdeal_AdBrRefIdeal (hAdBrIdeal := hAdBrIdeal) (hAdBrRefIdeal := hAdBrRefIdeal)
    ∧ preserves_AdSq_AdSqIdeal
    ∧ algebraic_AdSqIdeal_AdSqRefIdeal (hAdSqIdeal := hAdSqIdeal) (hAdSqRefIdeal := hAdSqRefIdeal)
    ∧ preserves_AdFf1_AdFf1Ideal
    ∧ algebraic_AdFf1Ideal_AdFf1RefIdeal (hAdFf1Ideal := hAdFf1Ideal) (hAdFf1RefIdeal := hAdFf1RefIdeal)
    ∧ preserves_AdFf2_AdFf2Ideal
    ∧ algebraic_AdFf2Ideal_AdFf2RefIdeal (hAdFf2Ideal := hAdFf2Ideal) (hAdFf2RefIdeal := hAdFf2RefIdeal)
    ∧ preserves_AdPle_AdPleIdeal
    ∧ algebraic_AdPleIdeal_AdPleRefIdeal (hAdPleIdeal := hAdPleIdeal) (hAdPleRefIdeal := hAdPleRefIdeal)
    ∧ preserves_AdSmall_AdSmallIdeal
    ∧ algebraic_AdSmallIdeal_AdSmallRefIdeal (hAdSmallIdeal := hAdSmallIdeal) (hAdSmallRefIdeal := hAdSmallRefIdeal)
-- ==== Pre_finite.lean ====
abbrev S8192x4480 : Shape := ⟨2, ![8192, 4480]⟩
abbrev S8192x1024 : Shape := ⟨2, ![8192, 1024]⟩
abbrev S4480x1024 : Shape := ⟨2, ![4480, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4480 : S_.BroadcastsInDim S8192x4480 (![] : Fin 0 → Fin S8192x4480.rank)
  reducesTo_S8192x4480_S_d0_1 : S8192x4480.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4480x1024 : S_.BroadcastsInDim S4480x1024 (![] : Fin 0 → Fin S4480x1024.rank)
  reducesTo_S4480x1024_S_d0_1 : S4480x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8192x4480 .bf16) (main_arg1 : FVec F S8192x1024 .f32) (main_arg2 : FVec F S8192x1024 .f32) (main_arg3 : FVec F S4480x1024 .bf16) (main_arg4 : FVec F S1x1024 .f32) : IVec S_ 1 :=
  let main_v0 : FVec F S8192x4480 .f32 := (extf .f32 · bitsLt_bf16_f32) main_arg0
  let main_v1 : FVec F S8192x4480 .f32 := Host.absf main_v0
  let main_cst : FVec F S_ .f32 := constant S_ .f32 0x7F800000#32
  let main_v2 : FVec F S8192x4480 .f32 := broadcastInDim S8192x4480 ![] bcast_S_S8192x4480 main_cst
  let main_v3 : IVec S8192x4480 1 := cmpf .olt main_v1 main_v2
  let main_c : IVec S_ 1 := constantI S_ 1 1#1
  let main_v4 : IVec S_ 1 := (fun x v => Host.reduce IntOp.andi x v reducesTo_S8192x4480_S_d0_1 h_S_) main_v3 main_c
  let main_v5 : FVec F S8192x1024 .f32 := Host.absf main_arg2
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S4480x1024 .f32 := (extf .f32 · bitsLt_bf16_f32) main_arg3
  let main_v11 : FVec F S4480x1024 .f32 := Host.absf main_v10
  let main_cst_2 : FVec F S_ .f32 := constant S_ .f32 0x7F800000#32
  let main_v12 : FVec F S4480x1024 .f32 := broadcastInDim S4480x1024 ![] bcast_S_S4480x1024 main_cst_2
  let main_v13 : IVec S4480x1024 1 := cmpf .olt main_v11 main_v12
  let main_c_3 : IVec S_ 1 := constantI S_ 1 1#1
  let main_v14 : IVec S_ 1 := (fun x v => Host.reduce IntOp.andi x v reducesTo_S4480x1024_S_d0_1 h_S_) main_v13 main_c_3
  let main_v15 : IVec S_ 1 := andi main_v9 main_v14
  let main_v16 : FVec F S1x1024 .f32 := Host.absf main_arg4
  let main_cst_4 : FVec F S_ .f32 := constant S_ .f32 0x7F800000#32
  fn_part1 (F := F) main_v15 main_v16 main_cst_4
-- ==== Pre_finite_ffn.lean ====
abbrev S8192x4096 : Shape := ⟨2, ![8192, 4096]⟩
abbrev S8192x1024 : Shape := ⟨2, ![8192, 1024]⟩
abbrev S8192x2176 : Shape := ⟨2, ![8192, 2176]⟩
abbrev S8192x512 : Shape := ⟨2, ![8192, 512]⟩
abbrev S8x1024x512 : Shape := ⟨3, ![8, 1024, 512]⟩
abbrev S1x1024 : Shape := ⟨2, ![1, 1024]⟩
abbrev S1024x1024 : Shape := ⟨2, ![1024, 1024]⟩
abbrev S8x512x128 : Shape := ⟨3, ![8, 512, 128]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S8x1024x512 : S_.BroadcastsInDim S8x1024x512 (![] : Fin 0 → Fin S8x1024x512.rank)
  reducesTo_S8x1024x512_S_d0_1_2 : S8x1024x512.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8x512x128 : S_.BroadcastsInDim S8x512x128 (![] : Fin 0 → Fin S8x512x128.rank)
  reducesTo_S8x512x128_S_d0_1_2 : S8x512x128.ReducesTo [0, 1, 2] S_

variable [Facts]

def fn_part2 {F : FTy → Type} [FloatOps F] (main_arg11 : FVec F S8x512x128 .bf16) (main_v31 : IVec S_ 1) (main_v33 : FVec F S1024x1024 .f32) (main_v34 : FVec F S1024x1024 .f32) : IVec S_ 1 :=
  let main_v35 : IVec S1024x1024 1 := cmpf .olt main_v33 main_v34
  let main_c_11 : IVec S_ 1 := constantI S_ 1 1#1
  let main_v36 : IVec S_ 1 := (fun x v => Host.reduce IntOp.andi x v reducesTo_S1024x1024_S_d0_1 h_S_) main_v35 main_c_11
  let main_v37 : IVec S_ 1 := andi main_v31 main_v36
  let main_v38 : FVec F S8x512x128 .f32 := (extf .f32 · bitsLt_bf16_f32) main_arg11
  let main_v39 : FVec F S8x512x128 .f32 := Host.absf main_v38
  let main_cst_12 : FVec F S_ .f32 := constant S_ .f32 0x7F800000#32
  let main_v40 : FVec F S8x512x128 .f32 := broadcastInDim S8x512x128 ![] bcast_S_S8x512x128 main_cst_12
  let main_v41 : IVec S8x512x128 1 := cmpf .olt main_v39 main_v40
  let main_c_13 : IVec S_ 1 := constantI S_ 1 1#1
  let main_v42 : IVec S_ 1 := (fun x v => Host.reduce IntOp.andi x v reducesTo_S8x512x128_S_d0_1_2 h_S_) main_v41 main_c_13
  let main_v43 : IVec S_ 1 := andi main_v37 main_v42
  main_v43

def fn_part1 {F : FTy → Type} [FloatOps F] (main_arg7 : FVec F S8x1024x512 .bf16) (main_arg8 : FVec F S1x1024 .f32) (main_arg9 : FVec F S1024x1024 .bf16) (main_arg11 : FVec F S8x512x128 .bf16) (main_v14 : IVec S_ 1) (main_v16 : FVec F S8192x512 .f32) (main_cst_4 : FVec F S_ .f32) : IVec S_ 1 :=
  let main_v17 : FVec F S8192x512 .f32 := broadcastInDim S8192x512 ![] bcast_S_S8192x512 main_cst_4
  let main_v18 : IVec S8192x512 1 := cmpf .olt main_v16 main_v17
  let main_c_5 : IVec S_ 1 := constantI S_ 1 1#1
  let main_v19 : IVec S_ 1 := (fun x v => Host.reduce IntOp.andi x v reducesTo_S8192x512_S_d0_1 h_S_) main_v18 main_c_5
  let main_v20 : IVec S_ 1 := andi main_v14 main_v19
  let main_v21 : FVec F S8x1024x512 .f32 := (extf .f32 · bitsLt_bf16_f32) main_arg7
  let main_v22 : FVec F S8x1024x512 .f32 := Host.absf main_v21
  let main_cst_6 : FVec F S_ .f32 := constant S_ .f32 0x7F800000#32
  let main_v23 : FVec F S8x1024x512 .f32 := broadcastInDim S8x1024x512 ![] bcast_S_S8x1024x512 main_cst_6
  let main_v24 : IVec S8x1024x512 1 := cmpf .olt main_v22 main_v23
  let main_c_7 : IVec S_ 1 := constantI S_ 1 1#1
  let main_v25 : IVec S_ 1 := (fun x v => Host.reduce IntOp.andi x v reducesTo_S8x1024x512_S_d0_1_2 h_S_) main_v24 main_c_7
  let main_v26 : IVec S_ 1 := andi main_v20 main_v25
  let main_v27 : FVec F S1x1024 .f32 := Host.absf main_arg8
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_c_9 : IVec S_ 1 := constantI S_ 1 1#1
  let main_v30 : IVec S_ 1 := (fun x v => Host.reduce IntOp.andi x v reducesTo_S1x1024_S_d0_1 h_S_) main_v29 main_c_9
  let main_v31 : IVec S_ 1 := andi main_v26 main_v30
  let main_v32 : FVec F S1024x1024 .f32 := (extf .f32 · bitsLt_bf16_f32) main_arg9
  let main_v33 : FVec F S1024x1024 .f32 := Host.absf main_v32
  let main_cst_10 : FVec F S_ .f32 := constant S_ .f32 0x7F800000#32
  let main_v34 : FVec F S1024x1024 .f32 := broadcastInDim S1024x1024 ![] bcast_S_S1024x1024 main_cst_10
  fn_part2 (F := F) main_arg11 main_v31 main_v33 main_v34

def fn {F : FTy → Type} [FloatOps F] (main_arg0 : FVec F S8192x4096 .bf16) (main_arg1 : FVec F S8192x1024 .f32) (main_arg2 : FVec F S8192x1024 .f32) (main_arg3 : FVec F S8192x1024 .bf16) (main_arg4 : FVec F S8192x1024 .bf16) (main_arg5 : FVec F S8192x2176 .f32) (main_arg6 : FVec F S8192x512 .bf16) (main_arg7 : FVec F S8x1024x512 .bf16) (main_arg8 : FVec F S1x1024 .f32) (main_arg9 : FVec F S1024x1024 .bf16) (main_arg10 : FVec F S8x512x128 .bf16) (main_arg11 : FVec F S8x512x128 .bf16) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S8192x512 .f32 := (extf .f32 · bitsLt_bf16_f32) main_arg6
  let main_v16 : FVec F S8192x512 .f32 := Host.absf main_v15
  let main_cst_4 : FVec F S_ .f32 := constant S_ .f32 0x7F800000#32
  fn_part1 (F := F) main_arg7 main_arg8 main_arg9 main_arg11 main_v14 main_v16 main_cst_4
-- ==== Pre_finite_head.lean ====
abbrev S8192x1024 : Shape := ⟨2, ![8192, 1024]⟩
abbrev S8192x256 : Shape := ⟨2, ![8192, 256]⟩
abbrev S8192x4096 : Shape := ⟨2, ![8192, 4096]⟩
abbrev S1x1024 : Shape := ⟨2, ![1, 1024]⟩
abbrev S1024x1024 : Shape := ⟨2, ![1024, 1024]⟩
abbrev S8x256x128 : Shape := ⟨3, ![8, 256, 128]⟩
abbrev S8x512x1024 : Shape := ⟨3, ![8, 512, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S8x256x128 : S_.BroadcastsInDim S8x256x128 (![] : Fin 0 → Fin S8x256x128.rank)
  reducesTo_S8x256x128_S_d0_1_2 : S8x256x128.ReducesTo [0, 1, 2] S_

variable [Facts]

def fn_part2 {F : FTy → Type} [FloatOps F] (main_v30 : IVec S_ 1) (main_v33 : IVec S1x1024 1) (main_c_11 : IVec S_ 1) : IVec S_ 1 :=
  let main_v34 : IVec S_ 1 := (fun x v => Host.reduce IntOp.andi x v reducesTo_S1x1024_S_d0_1 h_S_) main_v33 main_c_11
  let main_v35 : IVec S_ 1 := andi main_v30 main_v34
  main_v35

def fn_part1 {F : FTy → Type} [FloatOps F] (main_arg5 : FVec F S1024x1024 .bf16) (main_arg6 : FVec F S8x256x128 .bf16) (main_arg7 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x1024 .f32 := (extf .f32 · bitsLt_bf16_f32) main_arg5
  let main_v20 : FVec F S1024x1024 .f32 := Host.absf main_v19
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : IVec S_ 1 := andi main_v18 main_v23
  let main_v25 : FVec F S8x256x128 .f32 := (extf .f32 · bitsLt_bf16_f32) main_arg6
  let main_v26 : FVec F S8x256x128 .f32 := Host.absf main_v25
  let main_cst_8 : FVec F S_ .f32 := constant S_ .f32 0x7F800000#32
  let main_v27 : FVec F S8x256x128 .f32 := broadcastInDim S8x256x128 ![] bcast_S_S8x256x128 main_cst_8
  let main_v28 : IVec S8x256x128 1 := cmpf .olt main_v26 main_v27
  let main_c_9 : IVec S_ 1 := constantI S_ 1 1#1
  let main_v29 : IVec S_ 1 := (fun x v => Host.reduce IntOp.andi x v reducesTo_S8x256x128_S_d0_1_2 h_S_) main_v28 main_c_9
  let main_v30 : IVec S_ 1 := andi main_v24 main_v29
  let main_v31 : FVec F S1x1024 .f32 := Host.absf main_arg7
  let main_cst_10 : FVec F S_ .f32 := constant S_ .f32 0x7F800000#32
  let main_v32 : FVec F S1x1024 .f32 := broadcastInDim S1x1024 ![] bcast_S_S1x1024 main_cst_10
  let main_v33 : IVec S1x1024 1 := cmpf .olt main_v31 main_v32
  let main_c_11 : IVec S_ 1 := constantI S_ 1 1#1
  fn_part2 (F := F) main_v30 main_v33 main_c_11

def fn {F : FTy → Type} [FloatOps F] (main_arg0 : FVec F S8192x1024 .f32) (main_arg1 : FVec F S8192x256 .f32) (main_arg2 : FVec F S8192x1024 .f32) (main_arg3 : FVec F S8192x4096 .bf16) (main_arg4 : FVec F S1x1024 .f32) (main_arg5 : FVec F S1024x1024 .bf16) (main_arg6 : FVec F S8x256x128 .bf16) (main_arg7 : FVec F S1x1024 .f32) (main_arg8 : FVec F S8x512x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_arg7 main_v13 main_v16
-- ==== Kernel.lean ====
abbrev S8192x2304 : Shape := ⟨2, ![8192, 2304]⟩
abbrev S8x8192 : Shape := ⟨2, ![8, 8192]⟩
abbrev S8x128 : Shape := ⟨2, ![8, 128]⟩
abbrev S8192x512 : Shape := ⟨2, ![8192, 512]⟩
abbrev S36 : Shape := ⟨1, ![36]⟩
abbrev S8192x8x64 : Shape := ⟨3, ![8192, 8, 64]⟩
abbrev S8x8192x64 : Shape := ⟨3, ![8, 8192, 64]⟩
abbrev S_ : Shape := ⟨0, ![]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192x8192 : Shape := ⟨2, ![8192, 8192]⟩
abbrev S1x8192x8192 : Shape := ⟨3, ![1, 8192, 8192]⟩
abbrev S8192x8x1 : Shape := ⟨3, ![8192, 8, 1]⟩
abbrev S8192x8x128 : Shape := ⟨3, ![8192, 8, 128]⟩
abbrev S8192x1024 : Shape := ⟨2, ![8192, 1024]⟩
abbrev S4x2x8192 : Shape := ⟨3, ![4, 2, 8192]⟩
abbrev S1024x128 : Shape := ⟨2, ![1024, 128]⟩
abbrev S1 : Shape := ⟨1, ![1]⟩
abbrev S1x2x1024 : Shape := ⟨3, ![1, 2, 1024]⟩
abbrev S1024x256 : Shape := ⟨2, ![1024, 256]⟩
abbrev S8192x128 : Shape := ⟨2, ![8192, 128]⟩
abbrev S2x1024x128 : Shape := ⟨3, ![2, 1024, 128]⟩
abbrev S2x1024x256 : Shape := ⟨3, ![2, 1024, 256]⟩
abbrev S1x1024x128 : Shape := ⟨3, ![1, 1024, 128]⟩
abbrev S1x1024x256 : Shape := ⟨3, ![1, 1024, 256]⟩
abbrev S1x1 : Shape := ⟨2, ![1, 1]⟩
abbrev S1x512x128 : Shape := ⟨3, ![1, 512, 128]⟩
abbrev S512x128 : Shape := ⟨2, ![512, 128]⟩
abbrev S512x1024 : Shape := ⟨2, ![512, 1024]⟩
abbrev S1x1x1024 : Shape := ⟨3, ![1, 1, 1024]⟩
abbrev S1x1024 : Shape := ⟨2, ![1, 1024]⟩
abbrev S1x512x256 : Shape := ⟨3, ![1, 512, 256]⟩
abbrev S512x256 : Shape := ⟨2, ![512, 256]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 70
  | .vmem => 30
  | .smem => 4
  | _ => 0

abbrev bufTy : (tb : Table) → Fin (tcTables nBuf tb) → BufTy
  | .hbm, ⟨0, _⟩ => ⟨S8192x2304, .bf16⟩
  | .hbm, ⟨1, _⟩ => ⟨S8x8192, .f32⟩
  | .hbm, ⟨2, _⟩ => ⟨S8x128, .f32⟩
  | .hbm, ⟨3, _⟩ => ⟨S8192x512, .bf16⟩
  | .hbm, ⟨4, _⟩ => ⟨S8192x512, .bf16⟩
  | .hbm, ⟨5, _⟩ => ⟨S8192x8x64, .bf16⟩
  | .hbm, ⟨6, _⟩ => ⟨S8x8192x64, .bf16⟩
  | .hbm, ⟨7, _⟩ => ⟨S8192x512, .bf16⟩
  | .hbm, ⟨8, _⟩ => ⟨S8192x8x64, .bf16⟩
  | .hbm, ⟨9, _⟩ => ⟨S8x8192x64, .bf16⟩
  | .hbm, ⟨10, _⟩ => ⟨S8192x512, .bf16⟩
  | .hbm, ⟨11, _⟩ => ⟨S8192x8x64, .bf16⟩
  | .hbm, ⟨12, _⟩ => ⟨S8x8192x64, .bf16⟩
  | .hbm, ⟨13, _⟩ => ⟨S_, .f32⟩
  | .hbm, ⟨14, _⟩ => ⟨S8x8192, .f32⟩
  | .hbm, ⟨15, _⟩ => ⟨S8x8192x8192, .f32⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S8x8192x1, .f32⟩
  | .hbm, ⟨20, _⟩ => ⟨S8x8192x8192, .f32⟩
  | .hbm, ⟨21, _⟩ => ⟨S8x8192x8192, .f32⟩
  | .hbm, ⟨22, _⟩ => ⟨S8x1x8192, .f32⟩
  | .hbm, ⟨23, _⟩ => ⟨S8x8192x8192, .f32⟩
  | .hbm, ⟨24, _⟩ => ⟨S8x8192x8192, .f32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x8192, .bf16⟩
  | .hbm, ⟨46, _⟩ => ⟨S8x8192x64, .f32⟩
  | .hbm, ⟨47, _⟩ => ⟨S8x8192x64, .bf16⟩
  | .hbm, ⟨48, _⟩ => ⟨S8x8192x1, .f32⟩
  | .hbm, ⟨49, _⟩ => ⟨S8x8192x1, .f32⟩
  | .hbm, ⟨50, _⟩ => ⟨S8192x8x1, .f32⟩
  | .hbm, ⟨51, _⟩ => ⟨S8192x8x128, .f32⟩
  | .hbm, ⟨52, _⟩ => ⟨S8192x1024, .f32⟩
  | .hbm, ⟨53, _⟩ => ⟨S8192x8x64, .bf16⟩
  | .hbm, ⟨54, _⟩ => ⟨S8x8192x64, .bf16⟩
  | .hbm, ⟨55, _⟩ => ⟨S8x8192x64, .f32⟩
  | .hbm, ⟨56, _⟩ => ⟨S8x8192x64, .f32⟩
  | .hbm, ⟨57, _⟩ => ⟨S8x8192x64, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S8192x8x1, .f32⟩
  | .hbm, ⟨62, _⟩ => ⟨S8192x8x128, .f32⟩
  | .hbm, ⟨63, _⟩ => ⟨S8192x1024, .f32⟩
  | .hbm, ⟨64, _⟩ => ⟨S4x2x8192, .f32⟩
  | .hbm, ⟨65, _⟩ => ⟨S8192x512, .bf16⟩
  | .hbm, ⟨66, _⟩ => ⟨S8192x512, .bf16⟩
  | .hbm, ⟨67, _⟩ => ⟨S8192x512, .bf16⟩
  | .hbm, ⟨68, _⟩ => ⟨S8192x512, .f32⟩
  | .hbm, ⟨69, _⟩ => ⟨S8192x512, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x2x1024, .f32⟩
  | .local _ .vmem, ⟨7, _⟩ => ⟨S1x2x1024, .f32⟩
  | .local _ .vmem, ⟨8, _⟩ => ⟨S1024x128, .bf16⟩
  | .local _ .vmem, ⟨9, _⟩ => ⟨S1024x128, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x128, .bf16⟩
  | .local _ .vmem, ⟨15, _⟩ => ⟨S1024x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .bf16⟩
  | .local _ .vmem, ⟨20, _⟩ => ⟨S8192x128, .f32⟩
  | .local _ .vmem, ⟨21, _⟩ => ⟨S8192x128, .f32⟩
  | .local _ .vmem, ⟨22, _⟩ => ⟨S1024x128, .f32⟩
  | .local _ .vmem, ⟨23, _⟩ => ⟨S1024x128, .f32⟩
  | .local _ .vmem, ⟨24, _⟩ => ⟨S2x1024x128, .bf16⟩
  | .local _ .vmem, ⟨25, _⟩ => ⟨S2x1024x256, .bf16⟩
  | .local _ .vmem, ⟨26, _⟩ => ⟨S2x1024x128, .bf16⟩
  | .local _ .vmem, ⟨27, _⟩ => ⟨S2x1024x256, .f32⟩
  | .local _ .vmem, ⟨28, _⟩ => ⟨S8192x128, .f32⟩
  | .local _ .vmem, ⟨29, _⟩ => ⟨S8192x128, .f32⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S8x128, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨3, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev main_v52_3 : Ref sig .tc := ⟨.hbm, 68, rfl⟩
abbrev main_v52_4 : Ref sig .tc := ⟨.hbm, 69, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_stg4_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 36], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v14 : Index := Scalar.indexCast arg1
  ![v14.toNat]
def k0_off3 (i : grid0.Coords) (v1 : BitVec 32) (v15 : BitVec 32) : Fin 2 → Nat :=
  let c2_i32 : BitVec 32 := 2#32
  let arg0 : BitVec 32 := BitVec.ofNat 32 (i 0).val
  let v13 : BitVec 32 := Scalar.muli c2_i32 arg0
  let v21 : Index := Scalar.indexCast v13
  let c16_i32 : BitVec 32 := 16#32
  let v16 : BitVec 32 := Scalar.muli v15 c16_i32
  let c2_i32_3 : BitVec 32 := 2#32
  let v17 : BitVec 32 := Scalar.muli c2_i32_3 v1
  let v18 : BitVec 32 := Scalar.addi v16 v17
  let v22 : Index := Scalar.indexCast v18
  ![v21.toNat, v22.toNat]

def k0_off4 (i : grid0.Coords) (v1 : BitVec 32) (v15 : BitVec 32) : Fin 2 → Nat :=
  let c2_i32 : BitVec 32 := 2#32
  let arg0 : BitVec 32 := BitVec.ofNat 32 (i 0).val
  let v13 : BitVec 32 := Scalar.muli c2_i32 arg0
  let v26 : Index := Scalar.indexCast v13
  let c16_i32 : BitVec 32 := 16#32
  let v16 : BitVec 32 := Scalar.muli v15 c16_i32
  let c2_i32_3 : BitVec 32 := 2#32
  let v17 : BitVec 32 := Scalar.muli c2_i32_3 v1
  let v18 : BitVec 32 := Scalar.addi v16 v17
  let c1_i32_5 : BitVec 32 := 1#32
  let v25 : BitVec 32 := Scalar.addi v18 c1_i32_5
  let v27 : Index := Scalar.indexCast v25
  ![v26.toNat, v27.toNat]
def k0_off5 (i : grid0.Coords) (v1 : BitVec 32) (v15 : BitVec 32) : Fin 2 → Nat :=
  let c2_i32 : BitVec 32 := 2#32
  let arg0 : BitVec 32 := BitVec.ofNat 32 (i 0).val
  let v13 : BitVec 32 := Scalar.muli c2_i32 arg0
  let c1_i32 : BitVec 32 := 1#32
  let v20 : BitVec 32 := Scalar.addi v13 c1_i32
  let v32 : Index := Scalar.indexCast v20
  let c16_i32 : BitVec 32 := 16#32
  let v16 : BitVec 32 := Scalar.muli v15 c16_i32
  let c2_i32_3 : BitVec 32 := 2#32
  let v17 : BitVec 32 := Scalar.muli c2_i32_3 v1
  let v18 : BitVec 32 := Scalar.addi v16 v17
  let v33 : Index := Scalar.indexCast v18
  ![v32.toNat, v33.toNat]
def k0_off6 (i : grid0.Coords) (v1 : BitVec 32) (v15 : BitVec 32) : Fin 2 → Nat :=
  let c2_i32 : BitVec 32 := 2#32
  let arg0 : BitVec 32 := BitVec.ofNat 32 (i 0).val
  let v13 : BitVec 32 := Scalar.muli c2_i32 arg0
  let c1_i32 : BitVec 32 := 1#32
  let v20 : BitVec 32 := Scalar.addi v13 c1_i32
  let v37 : Index := Scalar.indexCast v20
  let c16_i32 : BitVec 32 := 16#32
  let v16 : BitVec 32 := Scalar.muli v15 c16_i32
  let c2_i32_3 : BitVec 32 := 2#32
  let v17 : BitVec 32 := Scalar.muli c2_i32_3 v1
  let v18 : BitVec 32 := Scalar.addi v16 v17
  let c1_i32_8 : BitVec 32 := 1#32
  let v36 : BitVec 32 := Scalar.addi v18 c1_i32_8
  let v38 : Index := Scalar.indexCast v36
  ![v37.toNat, v38.toNat]

def k0_chk1 (i : grid0.Coords) (v1 : BitVec 32) (v15 : BitVec 32) : Prop :=
  (∀ a, (k0_off3 i v1 v15) a + S1x1.size a ≤ S8x128.size a) ∧
  (∀ a, (k0_off4 i v1 v15) a + S1x1.size a ≤ S8x128.size a) ∧
  (∀ a, (k0_off5 i v1 v15) a + S1x1.size a ≤ S8x128.size a) ∧
  (∀ a, (k0_off6 i v1 v15) a + S1x1.size a ≤ S8x128.size a)
theorem k0_off3_inb : ∀ (i : grid0.Coords) (v1 : BitVec 32) (v15 : BitVec 32) (k0_hw1 : k0_chk1 i v1 v15), ∀ a, (k0_off3 i v1 v15) a + S1x1.size a ≤ S8x128.size a := fun i v1 v15 k0_hw1 => k0_hw1.1
theorem k0_off4_inb : ∀ (i : grid0.Coords) (v1 : BitVec 32) (v15 : BitVec 32) (k0_hw1 : k0_chk1 i v1 v15), ∀ a, (k0_off4 i v1 v15) a + S1x1.size a ≤ S8x128.size a := fun i v1 v15 k0_hw1 => k0_hw1.2.1
theorem k0_off5_inb : ∀ (i : grid0.Coords) (v1 : BitVec 32) (v15 : BitVec 32) (k0_hw1 : k0_chk1 i v1 v15), ∀ a, (k0_off5 i v1 v15) a + S1x1.size a ≤ S8x128.size a := fun i v1 v15 k0_hw1 => k0_hw1.2.2.1
theorem k0_off6_inb : ∀ (i : grid0.Coords) (v1 : BitVec 32) (v15 : BitVec 32) (k0_hw1 : k0_chk1 i v1 v15), ∀ a, (k0_off6 i v1 v15) a + S1x1.size a ≤ S8x128.size a := fun i v1 v15 k0_hw1 => k0_hw1.2.2.2

def k0_mult1 (v1 : BitVec 32) : BitVec 32 :=
  let c2_i32_161 : BitVec 32 := 2#32
  let v245 : BitVec 32 := Scalar.muli c2_i32_161 v1
  let c0_i32_162 : BitVec 32 := 0#32
  let v246 : BitVec 32 := Scalar.addi v245 c0_i32_162
  let c512_i32 : BitVec 32 := 512#32
  let v247 : BitVec 32 := Scalar.muli v246 c512_i32
  v247
def k0_cond3 (v3 : BitVec 32) (v24 : BitVec 1) (v35 : BitVec 1) : BitVec 1 :=
  let c0_i32_4 : BitVec 32 := 0#32
  let v19 : BitVec 1 := Scalar.cmpi .eq v3 c0_i32_4
  let v43 : BitVec 1 := Scalar.andi v24 v35
  let v44 : BitVec 1 := Scalar.andi v19 v43
  let v45 : BitVec 32 := Scalar.extui v44
  let c0_i32_11 : BitVec 32 := 0#32
  let v46 : BitVec 1 := Scalar.cmpi .ne v45 c0_i32_11
  v46

def k0_off7 (v1 : BitVec 32) : Fin 2 → Nat :=
  let c2_i32_161 : BitVec 32 := 2#32
  let v245 : BitVec 32 := Scalar.muli c2_i32_161 v1
  let c0_i32_162 : BitVec 32 := 0#32
  let v246 : BitVec 32 := Scalar.addi v245 c0_i32_162
  let c512_i32 : BitVec 32 := 512#32
  let v247 : BitVec 32 := Scalar.muli v246 c512_i32
  let v248 : BitVec 32 := v247
  let v249 : Index := Scalar.indexCast v248
  let c0_163 : Index := 0#32
  ![v249.toNat, 0]
def k0_mult2 (v1 : BitVec 32) : BitVec 32 :=
  let c2_i32_94 : BitVec 32 := 2#32
  let v160 : BitVec 32 := Scalar.muli c2_i32_94 v1
  let c0_i32_95 : BitVec 32 := 0#32
  let v161 : BitVec 32 := Scalar.addi v160 c0_i32_95
  let c512_i32 : BitVec 32 := 512#32
  let v162 : BitVec 32 := Scalar.muli v161 c512_i32
  v162
def k0_cond4 (v3 : BitVec 32) (v24 : BitVec 1) (v35 : BitVec 1) : BitVec 1 :=
  let c0_i32_4 : BitVec 32 := 0#32
  let v19 : BitVec 1 := Scalar.cmpi .eq v3 c0_i32_4
  let v43 : BitVec 1 := Scalar.andi v24 v35
  let true_12 : BitVec 1 := 1#1
  let v47 : BitVec 1 := Scalar.xori v43 true_12
  let v48 : BitVec 1 := Scalar.andi v19 v47
  let v49 : BitVec 1 := Scalar.andi v48 v24
  let v50 : BitVec 32 := Scalar.extui v49
  let c0_i32_13 : BitVec 32 := 0#32
  let v51 : BitVec 1 := Scalar.cmpi .ne v50 c0_i32_13
  v51

def k0_off8 (v1 : BitVec 32) : Fin 2 → Nat :=
  let c2_i32_94 : BitVec 32 := 2#32
  let v160 : BitVec 32 := Scalar.muli c2_i32_94 v1
  let c0_i32_95 : BitVec 32 := 0#32
  let v161 : BitVec 32 := Scalar.addi v160 c0_i32_95
  let c512_i32 : BitVec 32 := 512#32
  let v162 : BitVec 32 := Scalar.muli v161 c512_i32
  let v163 : BitVec 32 := v162
  let v164 : Index := Scalar.indexCast v163
  let c0_96 : Index := 0#32
  ![v164.toNat, 0]
def k0_mult3 (v1 : BitVec 32) : BitVec 32 :=
  let c2_i32_94 : BitVec 32 := 2#32
  let v162 : BitVec 32 := Scalar.muli c2_i32_94 v1
  let c1_i32_95 : BitVec 32 := 1#32
  let v163 : BitVec 32 := Scalar.addi v162 c1_i32_95
  let c512_i32 : BitVec 32 := 512#32
  let v164 : BitVec 32 := Scalar.muli v163 c512_i32
  v164
def k0_cond5 (v3 : BitVec 32) (v24 : BitVec 1) (v29 : BitVec 1) : BitVec 1 :=
  let c0_i32_4 : BitVec 32 := 0#32
  let v19 : BitVec 1 := Scalar.cmpi .eq v3 c0_i32_4
  let v_true : BitVec 1 := 1#1
  let v30 : BitVec 1 := Scalar.xori v24 v_true
  let v31 : BitVec 1 := Scalar.andi v30 v29
  let v52 : BitVec 1 := Scalar.andi v19 v31
  let v53 : BitVec 32 := Scalar.extui v52
  let c0_i32_14 : BitVec 32 := 0#32
  let v54 : BitVec 1 := Scalar.cmpi .ne v53 c0_i32_14
  v54

def k0_off9 (v1 : BitVec 32) : Fin 2 → Nat :=
  let c2_i32_94 : BitVec 32 := 2#32
  let v162 : BitVec 32 := Scalar.muli c2_i32_94 v1
  let c1_i32_95 : BitVec 32 := 1#32
  let v163 : BitVec 32 := Scalar.addi v162 c1_i32_95
  let c512_i32 : BitVec 32 := 512#32
  let v164 : BitVec 32 := Scalar.muli v163 c512_i32
  let v165 : BitVec 32 := v164
  let v166 : Index := Scalar.indexCast v165
  let c0_96 : Index := 0#32
  ![v166.toNat, 0]

def k0_chk3 (v1 : BitVec 32) (v3 : BitVec 32) (v24 : BitVec 1) (v29 : BitVec 1) : Prop :=
  (∀ (k0_h5 : k0_cond5 v3 v24 v29 = 1#1), 512 ∣ (k0_mult3 v1).toNat) ∧
  (∀ (k0_h5 : k0_cond5 v3 v24 v29 = 1#1), ∀ a, (k0_off9 v1) a + S512x128.size a ≤ S8192x128.size a)
theorem k0_mult3_dvd : ∀ (v1 : BitVec 32) (v3 : BitVec 32) (v24 : BitVec 1) (v29 : BitVec 1) (k0_hw3 : k0_chk3 v1 v3 v24 v29), ∀ (k0_h5 : k0_cond5 v3 v24 v29 = 1#1), 512 ∣ (k0_mult3 v1).toNat := fun v1 v3 v24 v29 k0_hw3 k0_h5 => k0_hw3.1 k0_h5
theorem k0_off9_inb : ∀ (v1 : BitVec 32) (v3 : BitVec 32) (v24 : BitVec 1) (v29 : BitVec 1) (k0_hw3 : k0_chk3 v1 v3 v24 v29), ∀ (k0_h5 : k0_cond5 v3 v24 v29 = 1#1), ∀ a, (k0_off9 v1) a + S512x128.size a ≤ S8192x128.size a := fun v1 v3 v24 v29 k0_hw3 k0_h5 => k0_hw3.2 k0_h5

def k0_mult4 (v1 : BitVec 32) : BitVec 32 :=
  let c2_i32_92 : BitVec 32 := 2#32
  let v160 : BitVec 32 := Scalar.muli c2_i32_92 v1
  let c0_i32_93 : BitVec 32 := 0#32
  let v161 : BitVec 32 := Scalar.addi v160 c0_i32_93
  let c512_i32 : BitVec 32 := 512#32
  let v162 : BitVec 32 := Scalar.muli v161 c512_i32
  v162
def k0_cond6 (v3 : BitVec 32) (v24 : BitVec 1) (v35 : BitVec 1) : BitVec 1 :=
  let c0_i32_4 : BitVec 32 := 0#32
  let v19 : BitVec 1 := Scalar.cmpi .eq v3 c0_i32_4
  let v43 : BitVec 1 := Scalar.andi v24 v35
  let true_12 : BitVec 1 := 1#1
  let v47 : BitVec 1 := Scalar.xori v43 true_12
  let v48 : BitVec 1 := Scalar.andi v19 v47
  let v55 : BitVec 1 := Scalar.andi v48 v35
  let v56 : BitVec 32 := Scalar.extui v55
  let c0_i32_15 : BitVec 32 := 0#32
  let v57 : BitVec 1 := Scalar.cmpi .ne v56 c0_i32_15
  v57

def k0_off10 (v1 : BitVec 32) : Fin 2 → Nat :=
  let c2_i32_92 : BitVec 32 := 2#32
  let v160 : BitVec 32 := Scalar.muli c2_i32_92 v1
  let c0_i32_93 : BitVec 32 := 0#32
  let v161 : BitVec 32 := Scalar.addi v160 c0_i32_93
  let c512_i32 : BitVec 32 := 512#32
  let v162 : BitVec 32 := Scalar.muli v161 c512_i32
  let v163 : BitVec 32 := v162
  let v164 : Index := Scalar.indexCast v163
  let c0_94 : Index := 0#32
  ![v164.toNat, 0]

def k0_chk2 (v1 : BitVec 32) (v3 : BitVec 32) (v24 : BitVec 1) (v35 : BitVec 1) : Prop :=
  (∀ (k0_h3 : k0_cond3 v3 v24 v35 = 1#1), 512 ∣ (k0_mult1 v1).toNat) ∧
  (∀ (k0_h3 : k0_cond3 v3 v24 v35 = 1#1), ∀ a, (k0_off7 v1) a + S1024x128.size a ≤ S8192x128.size a) ∧
  (∀ (k0_h4 : k0_cond4 v3 v24 v35 = 1#1), 512 ∣ (k0_mult2 v1).toNat) ∧
  (∀ (k0_h4 : k0_cond4 v3 v24 v35 = 1#1), ∀ a, (k0_off8 v1) a + S1024x128.size a ≤ S8192x128.size a) ∧
  (∀ (k0_h6 : k0_cond6 v3 v24 v35 = 1#1), 512 ∣ (k0_mult4 v1).toNat) ∧
  (∀ (k0_h6 : k0_cond6 v3 v24 v35 = 1#1), ∀ a, (k0_off10 v1) a + S1024x128.size a ≤ S8192x128.size a)
theorem k0_mult1_dvd : ∀ (v1 : BitVec 32) (v3 : BitVec 32) (v24 : BitVec 1) (v35 : BitVec 1) (k0_hw2 : k0_chk2 v1 v3 v24 v35), ∀ (k0_h3 : k0_cond3 v3 v24 v35 = 1#1), 512 ∣ (k0_mult1 v1).toNat := fun v1 v3 v24 v35 k0_hw2 k0_h3 => k0_hw2.1 k0_h3
theorem k0_off7_inb : ∀ (v1 : BitVec 32) (v3 : BitVec 32) (v24 : BitVec 1) (v35 : BitVec 1) (k0_hw2 : k0_chk2 v1 v3 v24 v35), ∀ (k0_h3 : k0_cond3 v3 v24 v35 = 1#1), ∀ a, (k0_off7 v1) a + S1024x128.size a ≤ S8192x128.size a := fun v1 v3 v24 v35 k0_hw2 k0_h3 => k0_hw2.2.1 k0_h3
theorem k0_mult2_dvd : ∀ (v1 : BitVec 32) (v3 : BitVec 32) (v24 : BitVec 1) (v35 : BitVec 1) (k0_hw2 : k0_chk2 v1 v3 v24 v35), ∀ (k0_h4 : k0_cond4 v3 v24 v35 = 1#1), 512 ∣ (k0_mult2 v1).toNat := fun v1 v3 v24 v35 k0_hw2 k0_h4 => k0_hw2.2.2.1 k0_h4
theorem k0_off8_inb : ∀ (v1 : BitVec 32) (v3 : BitVec 32) (v24 : BitVec 1) (v35 : BitVec 1) (k0_hw2 : k0_chk2 v1 v3 v24 v35), ∀ (k0_h4 : k0_cond4 v3 v24 v35 = 1#1), ∀ a, (k0_off8 v1) a + S1024x128.size a ≤ S8192x128.size a := fun v1 v3 v24 v35 k0_hw2 k0_h4 => k0_hw2.2.2.2.1 k0_h4
theorem k0_mult4_dvd : ∀ (v1 : BitVec 32) (v3 : BitVec 32) (v24 : BitVec 1) (v35 : BitVec 1) (k0_hw2 : k0_chk2 v1 v3 v24 v35), ∀ (k0_h6 : k0_cond6 v3 v24 v35 = 1#1), 512 ∣ (k0_mult4 v1).toNat := fun v1 v3 v24 v35 k0_hw2 k0_h6 => k0_hw2.2.2.2.2.1 k0_h6
theorem k0_off10_inb : ∀ (v1 : BitVec 32) (v3 : BitVec 32) (v24 : BitVec 1) (v35 : BitVec 1) (k0_hw2 : k0_chk2 v1 v3 v24 v35), ∀ (k0_h6 : k0_cond6 v3 v24 v35 = 1#1), ∀ a, (k0_off10 v1) a + S1024x128.size a ≤ S8192x128.size a := fun v1 v3 v24 v35 k0_hw2 k0_h6 => k0_hw2.2.2.2.2.2 k0_h6

def k0_mult5 (v1 : BitVec 32) : BitVec 32 :=
  let c2_i32_92 : BitVec 32 := 2#32
  let v162 : BitVec 32 := Scalar.muli c2_i32_92 v1
  let c1_i32_93 : BitVec 32 := 1#32
  let v163 : BitVec 32 := Scalar.addi v162 c1_i32_93
  let c512_i32 : BitVec 32 := 512#32
  let v164 : BitVec 32 := Scalar.muli v163 c512_i32
  v164
def k0_cond7 (v3 : BitVec 32) (v35 : BitVec 1) (v40 : BitVec 1) : BitVec 1 :=
  let c0_i32_4 : BitVec 32 := 0#32
  let v19 : BitVec 1 := Scalar.cmpi .eq v3 c0_i32_4
  let true_10 : BitVec 1 := 1#1
  let v41 : BitVec 1 := Scalar.xori v35 true_10
  let v42 : BitVec 1 := Scalar.andi v41 v40
  let v58 : BitVec 1 := Scalar.andi v19 v42
  let v59 : BitVec 32 := Scalar.extui v58
  let c0_i32_16 : BitVec 32 := 0#32
  let v60 : BitVec 1 := Scalar.cmpi .ne v59 c0_i32_16
  v60

def k0_off11 (v1 : BitVec 32) : Fin 2 → Nat :=
  let c2_i32_92 : BitVec 32 := 2#32
  let v162 : BitVec 32 := Scalar.muli c2_i32_92 v1
  let c1_i32_93 : BitVec 32 := 1#32
  let v163 : BitVec 32 := Scalar.addi v162 c1_i32_93
  let c512_i32 : BitVec 32 := 512#32
  let v164 : BitVec 32 := Scalar.muli v163 c512_i32
  let v165 : BitVec 32 := v164
  let v166 : Index := Scalar.indexCast v165
  let c0_94 : Index := 0#32
  ![v166.toNat, 0]

def k0_chk4 (v1 : BitVec 32) (v3 : BitVec 32) (v35 : BitVec 1) (v40 : BitVec 1) : Prop :=
  (∀ (k0_h7 : k0_cond7 v3 v35 v40 = 1#1), 512 ∣ (k0_mult5 v1).toNat) ∧
  (∀ (k0_h7 : k0_cond7 v3 v35 v40 = 1#1), ∀ a, (k0_off11 v1) a + S512x128.size a ≤ S8192x128.size a)
theorem k0_mult5_dvd : ∀ (v1 : BitVec 32) (v3 : BitVec 32) (v35 : BitVec 1) (v40 : BitVec 1) (k0_hw4 : k0_chk4 v1 v3 v35 v40), ∀ (k0_h7 : k0_cond7 v3 v35 v40 = 1#1), 512 ∣ (k0_mult5 v1).toNat := fun v1 v3 v35 v40 k0_hw4 k0_h7 => k0_hw4.1 k0_h7
theorem k0_off11_inb : ∀ (v1 : BitVec 32) (v3 : BitVec 32) (v35 : BitVec 1) (v40 : BitVec 1) (k0_hw4 : k0_chk4 v1 v3 v35 v40), ∀ (k0_h7 : k0_cond7 v3 v35 v40 = 1#1), ∀ a, (k0_off11 v1) a + S512x128.size a ≤ S8192x128.size a := fun v1 v3 v35 v40 k0_hw4 k0_h7 => k0_hw4.2 k0_h7

def k0_mult6 (v1 : BitVec 32) : BitVec 32 :=
  let c2_i32_172 : BitVec 32 := 2#32
  let v279 : BitVec 32 := Scalar.muli c2_i32_172 v1
  let c0_i32_173 : BitVec 32 := 0#32
  let v280 : BitVec 32 := Scalar.addi v279 c0_i32_173
  let c512_i32_174 : BitVec 32 := 512#32
  let v281 : BitVec 32 := Scalar.muli v280 c512_i32_174
  v281
def k0_cond8 (v3 : BitVec 32) : BitVec 1 :=
  let c1_i32_17 : BitVec 32 := 1#32
  let v61 : BitVec 1 := Scalar.cmpi .eq v3 c1_i32_17
  let v62 : BitVec 32 := Scalar.extui v61
  let c0_i32_18 : BitVec 32 := 0#32
  let v63 : BitVec 1 := Scalar.cmpi .ne v62 c0_i32_18
  v63

def k0_off12 (v1 : BitVec 32) : Fin 2 → Nat :=
  let c2_i32_172 : BitVec 32 := 2#32
  let v279 : BitVec 32 := Scalar.muli c2_i32_172 v1
  let c0_i32_173 : BitVec 32 := 0#32
  let v280 : BitVec 32 := Scalar.addi v279 c0_i32_173
  let c512_i32_174 : BitVec 32 := 512#32
  let v281 : BitVec 32 := Scalar.muli v280 c512_i32_174
  let v282 : BitVec 32 := v281
  let v283 : Index := Scalar.indexCast v282
  let c0_175 : Index := 0#32
  ![v283.toNat, 0]
def k0_mult7 (v1 : BitVec 32) : BitVec 32 :=
  let c2_i32_181 : BitVec 32 := 2#32
  let v305 : BitVec 32 := Scalar.muli c2_i32_181 v1
  let c0_i32_182 : BitVec 32 := 0#32
  let v306 : BitVec 32 := Scalar.addi v305 c0_i32_182
  let c512_i32_183 : BitVec 32 := 512#32
  let v307 : BitVec 32 := Scalar.muli v306 c512_i32_183
  v307
def k0_off13 (v1 : BitVec 32) : Fin 2 → Nat :=
  let c2_i32_181 : BitVec 32 := 2#32
  let v305 : BitVec 32 := Scalar.muli c2_i32_181 v1
  let c0_i32_182 : BitVec 32 := 0#32
  let v306 : BitVec 32 := Scalar.addi v305 c0_i32_182
  let c512_i32_183 : BitVec 32 := 512#32
  let v307 : BitVec 32 := Scalar.muli v306 c512_i32_183
  let v308 : BitVec 32 := v307
  let v309 : Index := Scalar.indexCast v308
  let c0_184 : Index := 0#32
  ![v309.toNat, 0]

def k0_chk5 (v1 : BitVec 32) (v3 : BitVec 32) : Prop :=
  (∀ (k0_h8 : k0_cond8 v3 = 1#1), 512 ∣ (k0_mult6 v1).toNat) ∧
  (∀ (k0_h8 : k0_cond8 v3 = 1#1), ∀ a, (k0_off12 v1) a + S512x128.size a ≤ S8192x128.size a) ∧
  (∀ (k0_h8 : k0_cond8 v3 = 1#1), 512 ∣ (k0_mult7 v1).toNat) ∧
  (∀ (k0_h8 : k0_cond8 v3 = 1#1), ∀ a, (k0_off13 v1) a + S1024x128.size a ≤ S8192x128.size a)
theorem k0_mult6_dvd : ∀ (v1 : BitVec 32) (v3 : BitVec 32) (k0_hw5 : k0_chk5 v1 v3), ∀ (k0_h8 : k0_cond8 v3 = 1#1), 512 ∣ (k0_mult6 v1).toNat := fun v1 v3 k0_hw5 k0_h8 => k0_hw5.1 k0_h8
theorem k0_off12_inb : ∀ (v1 : BitVec 32) (v3 : BitVec 32) (k0_hw5 : k0_chk5 v1 v3), ∀ (k0_h8 : k0_cond8 v3 = 1#1), ∀ a, (k0_off12 v1) a + S512x128.size a ≤ S8192x128.size a := fun v1 v3 k0_hw5 k0_h8 => k0_hw5.2.1 k0_h8
theorem k0_mult7_dvd : ∀ (v1 : BitVec 32) (v3 : BitVec 32) (k0_hw5 : k0_chk5 v1 v3), ∀ (k0_h8 : k0_cond8 v3 = 1#1), 512 ∣ (k0_mult7 v1).toNat := fun v1 v3 k0_hw5 k0_h8 => k0_hw5.2.2.1 k0_h8
theorem k0_off13_inb : ∀ (v1 : BitVec 32) (v3 : BitVec 32) (k0_hw5 : k0_chk5 v1 v3), ∀ (k0_h8 : k0_cond8 v3 = 1#1), ∀ a, (k0_off13 v1) a + S1024x128.size a ≤ S8192x128.size a := fun v1 v3 k0_hw5 k0_h8 => k0_hw5.2.2.2 k0_h8

def k0_cond9 (v3 : BitVec 32) : BitVec 1 :=
  let c1_i32_19 : BitVec 32 := 1#32
  let v64 : BitVec 1 := Scalar.cmpi .eq v3 c1_i32_19
  let v65 : BitVec 32 := Scalar.extui v64
  let c0_i32_20 : BitVec 32 := 0#32
  let v66 : BitVec 1 := Scalar.cmpi .ne v65 c0_i32_20
  v66

def k0_cond10 (i : grid0.Coords) : BitVec 1 :=
  let arg1 : BitVec 32 := BitVec.ofNat 32 (i 1).val
  let c35_i32 : BitVec 32 := 35#32
  let v67 : BitVec 1 := Scalar.cmpi .eq arg1 c35_i32
  let v68 : BitVec 32 := Scalar.extui v67
  let c0_i32_21 : BitVec 32 := 0#32
  let v69 : BitVec 1 := Scalar.cmpi .ne v68 c0_i32_21
  v69

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c6_i32 : BitVec 32 := 6#32
  let v2 : BitVec 32 := Scalar.addi c6_i32 arg0
  let c0_i32 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c10_i32 : BitVec 32 := 10#32
  let v2 : BitVec 32 := Scalar.addi c10_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c14_i32 : BitVec 32 := 14#32
  let v2 : BitVec 32 := Scalar.addi c14_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2304 : Shape := ⟨2, ![8192, 2304]⟩
abbrev S8x8192 : Shape := ⟨2, ![8, 8192]⟩
abbrev S8x128 : Shape := ⟨2, ![8, 128]⟩
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192x8192 : Shape := ⟨2, ![8192, 8192]⟩
abbrev S1x8192x8192 : Shape := ⟨3, ![1, 8192, 8192]⟩
abbrev S8x64x8192 : Shape := ⟨3, ![8, 64, 8192]⟩
abbrev S8192x8 : Shape := ⟨2, ![8192, 8]⟩

abbrev nBuf : Space → Nat
  | .hbm => 132
  | .vmem => 0
  | .smem => 0
  | _ => 0

abbrev hbmTy0_0 (i : Nat) : BufTy := match i % 128 with
  | 0 => ⟨S8192x2304, .bf16⟩
  | 1 => ⟨S8x8192, .f32⟩
  | 2 => ⟨S8x128, .f32⟩
  | 3 => ⟨S8192x512, .bf16⟩
  | 4 => ⟨S8192x512, .bf16⟩
  | 5 => ⟨S8192x8x64, .bf16⟩
  | 6 => ⟨S8x8192x64, .bf16⟩
  | 7 => ⟨S8192x512, .bf16⟩
  | 8 => ⟨S8192x8x64, .bf16⟩
  | 9 => ⟨S8x8192x64, .bf16⟩
  | 10 => ⟨S8192x512, .bf16⟩
  | 11 => ⟨S8192x8x64, .bf16⟩
  | 12 => ⟨S8x8192x64, .bf16⟩
  | 13 => ⟨S8x8192x8192, .f32⟩
  | 14 => ⟨S_, .f32⟩
  | 15 => ⟨S8x8192x8192, .f32⟩
  | 16 => ⟨S8x8192x8192, .f32⟩
  | 17 => ⟨S8x8192x1, .f32⟩
  | 18 => ⟨S8x8192x8192, .f32⟩
  | 19 => ⟨S8x8192x8192, .f32⟩
  | 20 => ⟨S8x1x8192, .f32⟩
  | 21 => ⟨S8x8192x8192, .f32⟩
  | 22 => ⟨S8x8192x8192, .f32⟩
  | 23 => ⟨S8192x8192, .i32⟩
  | 24 => ⟨S8192x8192, .i32⟩
  | 25 => ⟨S8192x8192, .i1⟩
  | 26 => ⟨S1x8192x8192, .i1⟩
  | 27 => ⟨S_, .f32⟩
  | 28 => ⟨S_, .f32⟩
  | 29 => ⟨S8x8192x8192, .i1⟩
  | 30 => ⟨S8x8192x8192, .f32⟩
  | 31 => ⟨S8x8192x8192, .f32⟩
  | 32 => ⟨S_, .f32⟩
  | 33 => ⟨S8x8192x8192, .f32⟩
  | 34 => ⟨S_, .f32⟩
  | 35 => ⟨S8x8192, .f32⟩
  | 36 => ⟨S8x8192x1, .f32⟩
  | 37 => ⟨S8x8192x8192, .f32⟩
  | 38 => ⟨S8x8192x8192, .i1⟩
  | 39 => ⟨S8x8192x8192, .f32⟩
  | 40 => ⟨S_, .f32⟩
  | 41 => ⟨S8x8192, .f32⟩
  | 42 => ⟨S_, .f32⟩
  | 43 => ⟨S8x8192, .f32⟩
  | 44 => ⟨S8x8192, .f32⟩
  | 45 => ⟨S_, .f32⟩
  | 46 => ⟨S8x8192, .f32⟩
  | 47 => ⟨S8x8192, .i1⟩
  | 48 => ⟨S_, .f32⟩
  | 49 => ⟨S8x8192, .f32⟩
  | 50 => ⟨S8x8192, .i1⟩
  | 51 => ⟨S_, .f32⟩
  | 52 => ⟨S8x8192, .f32⟩
  | 53 => ⟨S_, .f32⟩
  | 54 => ⟨S8x8192, .f32⟩
  | 55 => ⟨S_, .f32⟩
  | 56 => ⟨S8x8192, .f32⟩
  | 57 => ⟨S8x8192, .f32⟩
  | 58 => ⟨S8x8192, .f32⟩
  | 59 => ⟨S8x8192x1, .f32⟩
  | 60 => ⟨S8x8192x8192, .f32⟩
  | 61 => ⟨S8x8192x8192, .f32⟩
  | 62 => ⟨S8x8192x8192, .f32⟩
  | 63 => ⟨S_, .f32⟩
  | 64 => ⟨S8x8192, .f32⟩
  | 65 => ⟨S8x8192x1, .f32⟩
  | 66 => ⟨S8x8192x8192, .f32⟩
  | 67 => ⟨S8x8192x8192, .f32⟩
  | 68 => ⟨S8x8192x1, .f32⟩
  | 69 => ⟨S_, .f32⟩
  | 70 => ⟨S8x8192x1, .f32⟩
  | 71 => ⟨S8x8192x1, .f32⟩
  | 72 => ⟨S8x8192x8192, .bf16⟩
  | 73 => ⟨S8x8192x64, .f32⟩
  | 74 => ⟨S8x8192x64, .bf16⟩
  | 75 => ⟨S8192x8x64, .bf16⟩
  | 76 => ⟨S8x8192x64, .bf16⟩
  | 77 => ⟨S8x8192x64, .f32⟩
  | 78 => ⟨S8x64x8192, .f32⟩
  | 79 => ⟨S8x8192x64, .f32⟩
  | 80 => ⟨S8x8192x64, .bf16⟩
  | 81 => ⟨S8x8192x8192, .f32⟩
  | 82 => ⟨S8x8192x8192, .bf16⟩
  | 83 => ⟨S8x8192x8192, .f32⟩
  | 84 => ⟨S8x8192x8192, .f32⟩
  | 85 => ⟨S8x8192x8192, .f32⟩
  | 86 => ⟨S8x8192x8192, .f32⟩
  | 87 => ⟨S_, .f32⟩
  | 88 => ⟨S8x8192, .f32⟩
  | 89 => ⟨S8x8192x1, .f32⟩
  | 90 => ⟨S8x8192x1, .f32⟩
  | 91 => ⟨S8x8192x8192, .f32⟩
  | 92 => ⟨S8x8192x8192, .f32⟩
  | 93 => ⟨S_, .f32⟩
  | 94 => ⟨S8x8192, .f32⟩
  | 95 => ⟨S8x8192x8192, .f32⟩
  | 96 => ⟨S8x8192x8192, .f32⟩
  | 97 => ⟨S8x8192x8192, .f32⟩
  | 98 => ⟨S_, .f32⟩
  | 99 => ⟨S8x8192x8192, .f32⟩
  | 100 => ⟨S8x8192x8192, .f32⟩
  | 101 => ⟨S8x8192x8192, .f32⟩
  | 102 => ⟨S_, .f32⟩
  | 103 => ⟨S8x8192, .f32⟩
  | 104 => ⟨S8x1x8192, .f32⟩
  | 105 => ⟨S_, .f32⟩
  | 106 => ⟨S8x8192, .f32⟩
  | 107 => ⟨S_, .f32⟩
  | 108 => ⟨S8x8192, .f32⟩
  | 109 => ⟨S8x8192x1, .f32⟩
  | 110 => ⟨S_, .f32⟩
  | 111 => ⟨S8x8192, .f32⟩
  | 112 => ⟨S_, .f32⟩
  | 113 => ⟨S8x8192x8192, .f32⟩
  | 114 => ⟨S8x8192x8192, .f32⟩
  | 115 => ⟨S8x8192x64, .f32⟩
  | 116 => ⟨S8x8192x64, .bf16⟩
  | 117 => ⟨S8x8192x64, .f32⟩
  | 118 => ⟨S8x8192x64, .bf16⟩
  | 119 => ⟨S8192x8x64, .bf16⟩
  | 120 => ⟨S8192x512, .bf16⟩
  | 121 => ⟨S8192x8x64, .bf16⟩
  | 122 => ⟨S8192x512, .bf16⟩
  | 123 => ⟨S8192x8x64, .bf16⟩
  | 124 => ⟨S8192x512, .bf16⟩
  | 125 => ⟨S8x8192, .f32⟩
  | 126 => ⟨S8192x8, .f32⟩
  | 127 => ⟨S8192x8x64, .f32⟩
  | _ => ⟨S8192x2304, .bf16⟩

abbrev hbmTy0_1 (i : Nat) : BufTy := match i % 128 with
  | 0 => ⟨S8192x512, .f32⟩
  | 1 => ⟨S8192x8, .f32⟩
  | 2 => ⟨S8192x8x64, .f32⟩
  | 3 => ⟨S8192x512, .f32⟩
  | _ => ⟨S8192x2304, .bf16⟩

abbrev hbmTy (i : Nat) : BufTy := match i / 128 with
  | 0 => hbmTy0_0 i
  | 1 => hbmTy0_1 i
  | _ => ⟨S8192x2304, .bf16⟩

abbrev bufTy : (tb : Table) → Fin (tcTables nBuf tb) → BufTy
  | .hbm, ⟨i, _⟩ => hbmTy i
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_v22_1 : Ref sig .tc := ⟨.hbm, 29, rfl⟩
abbrev main_call0_v2 : Ref sig .tc := ⟨.hbm, 30, rfl⟩
abbrev main_v22_0 : Ref sig .tc := ⟨.hbm, 31, rfl⟩
abbrev main_call0_cst : Ref sig .tc := ⟨.hbm, 32, rfl⟩
abbrev main_v22_2 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩

abbrev nD : Nat := 1
abbrev τ : Topo := Topo.v7x

variable {F : FTy → Type} [FloatOps F]
-- ==== DwIn.lean ====
abbrev S8192x4480 : Shape := ⟨2, ![8192, 4480]⟩
abbrev S8192x1024 : Shape := ⟨2, ![8192, 1024]⟩
abbrev S4480x1024 : Shape := ⟨2, ![4480, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4480, .bf16⟩
  | .hbm, ⟨1, _⟩ => ⟨S8192x1024, .bf16⟩
  | .hbm, ⟨2, _⟩ => ⟨S4480x1024, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S8192x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x4480 : Shape := ⟨2, ![8192, 4480]⟩
abbrev S8192x1024 : Shape := ⟨2, ![8192, 1024]⟩
abbrev S_ : Shape := ⟨0, ![]⟩
abbrev S1024x4480 : Shape := ⟨2, ![1024, 4480]⟩
abbrev S4480x1024 : Shape := ⟨2, ![4480, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x4480, .bf16⟩
  | .hbm, ⟨1, _⟩ => ⟨S8192x1024, .bf16⟩
  | .hbm, ⟨2, _⟩ => ⟨S_, .f32⟩
  | .hbm, ⟨3, _⟩ => ⟨S1024x4480, .f32⟩
  | .hbm, ⟨4, _⟩ => ⟨S8192x1024, .f32⟩
  | .hbm, ⟨5, _⟩ => ⟨S8192x4480, .f32⟩
  | .hbm, ⟨6, _⟩ => ⟨S8192x4480, .f32⟩
  | .hbm, ⟨7, _⟩ => ⟨S4480x1024, .f32⟩
  | .hbm, ⟨8, _⟩ => ⟨S1024x4480, .f32⟩
  | .hbm, ⟨9, _⟩ => ⟨S4480x1024, .f32⟩
  | .hbm, ⟨10, _⟩ => ⟨S4480x1024, .bf16⟩
  | _, _ => ⟨S8192x4480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwFf2.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2RefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwFf1.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwFf1RefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InBwd.lean ====
abbrev S8192x4480 : Shape := ⟨2, ![8192, 4480]⟩
abbrev S8192x1024 : Shape := ⟨2, ![8192, 1024]⟩
abbrev S4480x1024 : Shape := ⟨2, ![4480, 1024]⟩
abbrev S1x1024 : Shape := ⟨2, ![1, 1024]⟩
abbrev S8x1024 : Shape := ⟨2, ![8, 1024]⟩
abbrev S512x4480 : Shape := ⟨2, ![512, 4480]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4480, .bf16⟩
  | .hbm, ⟨1, _⟩ => ⟨S8192x1024, .f32⟩
  | .hbm, ⟨2, _⟩ => ⟨S8192x1024, .f32⟩
  | .hbm, ⟨3, _⟩ => ⟨S4480x1024, .bf16⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S512x4480, .bf16⟩
  | .local _ .vmem, ⟨1, _⟩ => ⟨S512x4480, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4480x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4480x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S8192x4480 : Shape := ⟨2, ![8192, 4480]⟩
abbrev S8192x1024 : Shape := ⟨2, ![8192, 1024]⟩
abbrev S4480x1024 : Shape := ⟨2, ![4480, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x4480 : Shape := ⟨2, ![1024, 4480]⟩
abbrev S1024 : Shape := ⟨1, ![1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4480, .bf16⟩
  | .hbm, ⟨1, _⟩ => ⟨S8192x1024, .f32⟩
  | .hbm, ⟨2, _⟩ => ⟨S8192x1024, .f32⟩
  | .hbm, ⟨3, _⟩ => ⟨S4480x1024, .bf16⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S4480x1024, .f32⟩
  | .hbm, ⟨28, _⟩ => ⟨S1024x4480, .f32⟩
  | .hbm, ⟨29, _⟩ => ⟨S8192x4480, .f32⟩
  | .hbm, ⟨30, _⟩ => ⟨S8192x4480, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8x1024, .f32⟩
  | _, _ => ⟨S8192x4480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DwSq.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSqRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwBr.lean ====
abbrev S8192x512 : Shape := ⟨2, ![8192, 512]⟩
abbrev S8192x1024 : Shape := ⟨2, ![8192, 1024]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== DwBrRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwPle.lean ====
abbrev S8192x256 : Shape := ⟨2, ![8192, 256]⟩
abbrev S8192x1024 : Shape := ⟨2, ![8192, 1024]⟩
abbrev S8x256x128 : Shape := ⟨3, ![8, 256, 128]⟩
abbrev S2048x256 : Shape := ⟨2, ![2048, 256]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8x256x128, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S8x256x128, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== DwPleRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x8x128, .f32⟩
  | .hbm, ⟨9, _⟩ => ⟨S8x256x128, .f32⟩
  | .hbm, ⟨10, _⟩ => ⟨S8x256x128, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Head.lean ====
abbrev S8192x1024 : Shape := ⟨2, ![8192, 1024]⟩
abbrev S8192x256 : Shape := ⟨2, ![8192, 256]⟩
abbrev S8192x4096 : Shape := ⟨2, ![8192, 4096]⟩
abbrev S1x1024 : Shape := ⟨2, ![1, 1024]⟩
abbrev S1024x1024 : Shape := ⟨2, ![1024, 1024]⟩
abbrev S8x256x128 : Shape := ⟨3, ![8, 256, 128]⟩
abbrev S8x512x1024 : Shape := ⟨3, ![8, 512, 1024]⟩
abbrev S8x128 : Shape := ⟨2, ![8, 128]⟩
abbrev S8x1024 : Shape := ⟨2, ![8, 1024]⟩
abbrev S256x1024 : Shape := ⟨2, ![256, 1024]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1 : Shape := ⟨1, ![1]⟩
abbrev S1x1 : Shape := ⟨2, ![1, 1]⟩
abbrev S1x128 : Shape := ⟨2, ![1, 128]⟩
abbrev S1024 : Shape := ⟨1, ![1024]⟩
abbrev S1x512x1024 : Shape := ⟨3, ![1, 512, 1024]⟩
abbrev S512x1024 : Shape := ⟨2, ![512, 1024]⟩
abbrev S256x512 : Shape := ⟨2, ![256, 512]⟩

abbrev nBuf : Space → Nat
  | .hbm => 18
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S8192x4096, .bf16⟩
  | .hbm, ⟨4, _⟩ => ⟨S1x1024, .f32⟩
  | .hbm, ⟨5, _⟩ => ⟨S1024x1024, .bf16⟩
  | .hbm, ⟨6, _⟩ => ⟨S8x256x128, .bf16⟩
  | .hbm, ⟨7, _⟩ => ⟨S1x1024, .f32⟩
  | .hbm, ⟨8, _⟩ => ⟨S8x512x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x4096, .bf16⟩
  | .hbm, ⟨15, _⟩ => ⟨S8x128, .f32⟩
  | .hbm, ⟨16, _⟩ => ⟨S8x1024, .f32⟩
  | .hbm, ⟨17, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S1x1024, .f32⟩
  | .local _ .vmem, ⟨9, _⟩ => ⟨S1024x1024, .bf16⟩
  | .local _ .vmem, ⟨10, _⟩ => ⟨S8x256x128, .bf16⟩
  | .local _ .vmem, ⟨11, _⟩ => ⟨S1x1024, .f32⟩
  | .local _ .vmem, ⟨12, _⟩ => ⟨S8x512x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x4096, .bf16⟩
  | .local _ .vmem, ⟨24, _⟩ => ⟨S256x4096, .bf16⟩
  | .local _ .vmem, ⟨25, _⟩ => ⟨S8x128, .f32⟩
  | .local _ .vmem, ⟨26, _⟩ => ⟨S8x1024, .f32⟩
  | .local _ .vmem, ⟨27, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== HeadRefIdeal.lean ====
abbrev S8192x1024 : Shape := ⟨2, ![8192, 1024]⟩
abbrev S8192x256 : Shape := ⟨2, ![8192, 256]⟩
abbrev S8192x4096 : Shape := ⟨2, ![8192, 4096]⟩
abbrev S1x1024 : Shape := ⟨2, ![1, 1024]⟩
abbrev S1024x1024 : Shape := ⟨2, ![1024, 1024]⟩
abbrev S8x256x128 : Shape := ⟨3, ![8, 256, 128]⟩
abbrev S8x512x1024 : Shape := ⟨3, ![8, 512, 1024]⟩
abbrev S_ : Shape := ⟨0, ![]⟩
abbrev S8192 : Shape := ⟨1, ![8192]⟩
abbrev S8192x1 : Shape := ⟨2, ![8192, 1]⟩
abbrev S256x8x128 : Shape := ⟨3, ![256, 8, 128]⟩
abbrev S256x1024 : Shape := ⟨2, ![256, 1024]⟩
abbrev S1024 : Shape := ⟨1, ![1024]⟩
abbrev S4096x1024 : Shape := ⟨2, ![4096, 1024]⟩
abbrev S8x128 : Shape := ⟨2, ![8, 128]⟩
abbrev S8x1024 : Shape := ⟨2, ![8, 1024]⟩

abbrev nBuf : Space → Nat
  | .hbm => 179
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S8192x4096, .bf16⟩
  | 4 => ⟨S1x1024, .f32⟩
  | 5 => ⟨S1024x1024, .bf16⟩
  | 6 => ⟨S8x256x128, .bf16⟩
  | 7 => ⟨S1x1024, .f32⟩
  | 8 => ⟨S8x512x1024, .bf16⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S8192x1024, .f32⟩
  | 31 => ⟨S1024x1024, .f32⟩
  | 32 => ⟨S8192x1024, .f32⟩
  | 33 => ⟨S8x256x128, .f32⟩
  | 34 => ⟨S256x8x128, .f32⟩
  | 35 => ⟨S256x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192, .f32⟩
  | 80 => ⟨S_, .f32⟩
  | 81 => ⟨S8192, .f32⟩
  | 82 => ⟨S8192, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8192, .f32⟩
  | 91 => ⟨S_, .f32⟩
  | 92 => ⟨S8192, .f32⟩
  | 93 => ⟨S8192, .f32⟩
  | 94 => ⟨S8192x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x1024, .f32⟩
  | 12 => ⟨S8192x1024, .f32⟩
  | 13 => ⟨S8192x1024, .f32⟩
  | 14 => ⟨S8192x1024, .f32⟩
  | 15 => ⟨S8192x4096, .f32⟩
  | 16 => ⟨S_, .f32⟩
  | 17 => ⟨S8192x4096, .f32⟩
  | 18 => ⟨S8192x4096, .f32⟩
  | 19 => ⟨S_, .f32⟩
  | 20 => ⟨S8192x4096, .f32⟩
  | 21 => ⟨S8192x4096, .i1⟩
  | 22 => ⟨S_, .f32⟩
  | 23 => ⟨S8192x4096, .f32⟩
  | 24 => ⟨S8192x4096, .i1⟩
  | 25 => ⟨S_, .f32⟩
  | 26 => ⟨S8192x4096, .f32⟩
  | 27 => ⟨S_, .f32⟩
  | 28 => ⟨S8192x4096, .f32⟩
  | 29 => ⟨S_, .f32⟩
  | 30 => ⟨S8192x4096, .f32⟩
  | 31 => ⟨S8192x4096, .f32⟩
  | 32 => ⟨S8192x4096, .f32⟩
  | 33 => ⟨S8192x4096, .f32⟩
  | 34 => ⟨S_, .f32⟩
  | 35 => ⟨S8192x4096, .f32⟩
  | 36 => ⟨S8192x4096, .f32⟩
  | 37 => ⟨S8x512x1024, .f32⟩
  | 38 => ⟨S4096x1024, .f32⟩
  | 39 => ⟨S8192x1024, .f32⟩
  | 40 => ⟨S8192x4096, .f32⟩
  | 41 => ⟨S8192x4096, .f32⟩
  | 42 => ⟨S8192x4096, .f32⟩
  | 43 => ⟨S8192x1024, .bf16⟩
  | 44 => ⟨S8192x1024, .bf16⟩
  | 45 => ⟨S8192x1024, .bf16⟩
  | 46 => ⟨S8192x1024, .bf16⟩
  | 47 => ⟨S8192x4096, .bf16⟩
  | 48 => ⟨S8x128, .f32⟩
  | 49 => ⟨S8x1024, .f32⟩
  | 50 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_cst_17 : Ref sig .tc := ⟨.hbm, 87, rfl⟩
abbrev main_cst_18 : Ref sig .tc := ⟨.hbm, 88, rfl⟩
abbrev main_v60 : Ref sig .tc := ⟨.hbm, 89, rfl⟩
abbrev main_v61 : Ref sig .tc := ⟨.hbm, 90, rfl⟩
abbrev main_cst_19 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_20 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_21 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_cst_23 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_24 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_25 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_26 : Ref sig .tc := ⟨.hbm, 134, rfl⟩
abbrev main_v98 : Ref sig .tc := ⟨.hbm, 135, rfl⟩
abbrev main_v99 : Ref sig .tc := ⟨.hbm, 136, rfl⟩
abbrev main_cst_27 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_28 : Ref sig .tc := ⟨.hbm, 144, rfl⟩
abbrev main_v106 : Ref sig .tc := ⟨.hbm, 145, rfl⟩
abbrev main_v107 : Ref sig .tc := ⟨.hbm, 146, rfl⟩
abbrev main_cst_29 : Ref sig .tc := ⟨.hbm, 147, rfl⟩
abbrev main_v108 : Ref sig .tc := ⟨.hbm, 148, rfl⟩
abbrev main_v109 : Ref sig .tc := ⟨.hbm, 149, rfl⟩
abbrev main_cst_30 : Ref sig .tc := ⟨.hbm, 150, rfl⟩
abbrev main_v110 : Ref sig .tc := ⟨.hbm, 151, rfl⟩
abbrev main_v111 : Ref sig .tc := ⟨.hbm, 152, rfl⟩
abbrev main_cst_31 : Ref sig .tc := ⟨.hbm, 153, rfl⟩
abbrev main_v112 : Ref sig .tc := ⟨.hbm, 154, rfl⟩
abbrev main_cst_32 : Ref sig .tc := ⟨.hbm, 155, rfl⟩
abbrev main_v113 : Ref sig .tc := ⟨.hbm, 156, rfl⟩
abbrev main_cst_33 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_34 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩

abbrev nD : Nat := 1
abbrev τ : Topo := Topo.v7x

variable {F : FTy → Type} [FloatOps F]
-- ==== FfnBwd.lean ====
abbrev S8192x4096 : Shape := ⟨2, ![8192, 4096]⟩
abbrev S8192x1024 : Shape := ⟨2, ![8192, 1024]⟩
abbrev S8192x2176 : Shape := ⟨2, ![8192, 2176]⟩
abbrev S8192x512 : Shape := ⟨2, ![8192, 512]⟩
abbrev S8x1024x512 : Shape := ⟨3, ![8, 1024, 512]⟩
abbrev S1x1024 : Shape := ⟨2, ![1, 1024]⟩
abbrev S1024x1024 : Shape := ⟨2, ![1024, 1024]⟩
abbrev S8x512x128 : Shape := ⟨3, ![8, 512, 128]⟩
abbrev S8192x2048 : Shape := ⟨2, ![8192, 2048]⟩
abbrev S8x1024 : Shape := ⟨2, ![8, 1024]⟩
abbrev S256x4096 : Shape := ⟨2, ![256, 4096]⟩
abbrev S256x1024 : Shape := ⟨2, ![256, 1024]⟩
abbrev S256x2176 : Shape := ⟨2, ![256, 2176]⟩
abbrev S256x512 : Shape := ⟨2, ![256, 512]⟩
abbrev S256x2048 : Shape := ⟨2, ![256, 2048]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩
abbrev S1x512x128 : Shape := ⟨3, ![1, 512, 128]⟩
abbrev S512x128 : Shape := ⟨2, ![512, 128]⟩
abbrev S512x1024 : Shape := ⟨2, ![512, 1024]⟩
abbrev S128x256 : Shape := ⟨2, ![128, 256]⟩
abbrev S256x128 : Shape := ⟨2, ![256, 128]⟩
abbrev S256x256 : Shape := ⟨2, ![256, 256]⟩

abbrev nBuf : Space → Nat
  | .hbm => 21
  | .vmem => 36
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S8192x2176, .f32⟩
  | .hbm, ⟨6, _⟩ => ⟨S8192x512, .bf16⟩
  | .hbm, ⟨7, _⟩ => ⟨S8x1024x512, .bf16⟩
  | .hbm, ⟨8, _⟩ => ⟨S1x1024, .f32⟩
  | .hbm, ⟨9, _⟩ => ⟨S1024x1024, .bf16⟩
  | .hbm, ⟨10, _⟩ => ⟨S8x512x128, .bf16⟩
  | .hbm, ⟨11, _⟩ => ⟨S8x512x128, .bf16⟩
  | .hbm, ⟨12, _⟩ => ⟨S8192x1024, .f32⟩
  | .hbm, ⟨13, _⟩ => ⟨S8192x1024, .bf16⟩
  | .hbm, ⟨14, _⟩ => ⟨S8192x2048, .bf16⟩
  | .hbm, ⟨15, _⟩ => ⟨S8192x1024, .bf16⟩
  | .hbm, ⟨16, _⟩ => ⟨S8192x1024, .bf16⟩
  | .hbm, ⟨17, _⟩ => ⟨S8192x512, .bf16⟩
  | .hbm, ⟨18, _⟩ => ⟨S8192x512, .bf16⟩
  | .hbm, ⟨19, _⟩ => ⟨S8192x1024, .f32⟩
  | .hbm, ⟨20, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2176, .f32⟩
  | .local _ .vmem, ⟨11, _⟩ => ⟨S256x2176, .f32⟩
  | .local _ .vmem, ⟨12, _⟩ => ⟨S256x512, .bf16⟩
  | .local _ .vmem, ⟨13, _⟩ => ⟨S256x512, .bf16⟩
  | .local _ .vmem, ⟨14, _⟩ => ⟨S8x1024x512, .bf16⟩
  | .local _ .vmem, ⟨15, _⟩ => ⟨S1x1024, .f32⟩
  | .local _ .vmem, ⟨16, _⟩ => ⟨S1024x1024, .bf16⟩
  | .local _ .vmem, ⟨17, _⟩ => ⟨S8x512x128, .bf16⟩
  | .local _ .vmem, ⟨18, _⟩ => ⟨S8x512x128, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x2048, .bf16⟩
  | .local _ .vmem, ⟨24, _⟩ => ⟨S256x2048, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x1024, .f32⟩
  | .local _ .vmem, ⟨34, _⟩ => ⟨S256x1024, .f32⟩
  | .local _ .vmem, ⟨35, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== FfnBwdRefIdeal.lean ====
abbrev S8192x4096 : Shape := ⟨2, ![8192, 4096]⟩
abbrev S8192x1024 : Shape := ⟨2, ![8192, 1024]⟩
abbrev S8192x2176 : Shape := ⟨2, ![8192, 2176]⟩
abbrev S8192x512 : Shape := ⟨2, ![8192, 512]⟩
abbrev S8x1024x512 : Shape := ⟨3, ![8, 1024, 512]⟩
abbrev S1x1024 : Shape := ⟨2, ![1, 1024]⟩
abbrev S1024x1024 : Shape := ⟨2, ![1024, 1024]⟩
abbrev S8x512x128 : Shape := ⟨3, ![8, 512, 128]⟩
abbrev S_ : Shape := ⟨0, ![]⟩
abbrev S1024x8x512 : Shape := ⟨3, ![1024, 8, 512]⟩
abbrev S1024x4096 : Shape := ⟨2, ![1024, 4096]⟩
abbrev S8192 : Shape := ⟨1, ![8192]⟩
abbrev S8192x1 : Shape := ⟨2, ![8192, 1]⟩
abbrev S1024 : Shape := ⟨1, ![1024]⟩
abbrev S512x8x128 : Shape := ⟨3, ![512, 8, 128]⟩
abbrev S512x1024 : Shape := ⟨2, ![512, 1024]⟩
abbrev S8192x8x64 : Shape := ⟨3, ![8192, 8, 64]⟩
abbrev S8192x8 : Shape := ⟨2, ![8192, 8]⟩
abbrev S8192x2048 : Shape := ⟨2, ![8192, 2048]⟩
abbrev S8192x8x128 : Shape := ⟨3, ![8192, 8, 128]⟩
abbrev S8x1024 : Shape := ⟨2, ![8, 1024]⟩

abbrev nBuf : Space → Nat
  | .hbm => 133
  | .vmem => 0
  | .smem => 0
  | _ => 0

abbrev hbmTy0_0 (i : Nat) : BufTy := match i % 128 with
  | 0 => ⟨S8192x4096, .bf16⟩
  | 1 => ⟨S8192x1024, .f32⟩
  | 2 => ⟨S8192x1024, .f32⟩
  | 3 => ⟨S8192x1024, .bf16⟩
  | 4 => ⟨S8192x1024, .bf16⟩
  | 5 => ⟨S8192x2176, .f32⟩
  | 6 => ⟨S8192x512, .bf16⟩
  | 7 => ⟨S8x1024x512, .bf16⟩
  | 8 => ⟨S1x1024, .f32⟩
  | 9 => ⟨S1024x1024, .bf16⟩
  | 10 => ⟨S8x512x128, .bf16⟩
  | 11 => ⟨S8x512x128, .bf16⟩
  | 12 => ⟨S_, .f32⟩
  | 13 => ⟨S8192x1024, .f32⟩
  | 14 => ⟨S8x1024x512, .f32⟩
  | 15 => ⟨S1024x8x512, .f32⟩
  | 16 => ⟨S1024x4096, .f32⟩
  | 17 => ⟨S8192x4096, .f32⟩
  | 18 => ⟨S8192x4096, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S1024, .f32⟩
  | 45 => ⟨S1x1024, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S8192x1024, .f32⟩
  | 53 => ⟨S8192x1024, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S1024x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S8192x512, .f32⟩
  | 108 => ⟨S8x512x128, .f32⟩
  | 109 => ⟨S512x8x128, .f32⟩
  | 110 => ⟨S512x1024, .f32⟩
  | 111 => ⟨S8192x1024, .f32⟩
  | 112 => ⟨S8192x512, .f32⟩
  | 113 => ⟨S8x512x128, .f32⟩
  | 114 => ⟨S512x8x128, .f32⟩
  | 115 => ⟨S512x1024, .f32⟩
  | 116 => ⟨S8192x1024, .f32⟩
  | 117 => ⟨S8192x512, .f32⟩
  | 118 => ⟨S8192x512, .f32⟩
  | 119 => ⟨S8192x512, .f32⟩
  | 120 => ⟨S8192x8x64, .f32⟩
  | 121 => ⟨S_, .f32⟩
  | 122 => ⟨S8192x8, .f32⟩
  | 123 => ⟨S8192x1024, .bf16⟩
  | 124 => ⟨S8192x2048, .f32⟩
  | 125 => ⟨S8192x2048, .bf16⟩
  | 126 => ⟨S8192x1024, .bf16⟩
  | 127 => ⟨S8192x1024, .bf16⟩
  | _ => ⟨S8192x4096, .bf16⟩

abbrev hbmTy0_1 (i : Nat) : BufTy := match i % 128 with
  | 0 => ⟨S8192x512, .bf16⟩
  | 1 => ⟨S8192x512, .bf16⟩
  | 2 => ⟨S8192x8x128, .f32⟩
  | 3 => ⟨S8192x1024, .f32⟩
  | 4 => ⟨S8x1024, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩

abbrev nD : Nat := 1
abbrev τ : Topo := Topo.v7x

variable {F : FTy → Type} [FloatOps F]
-- ==== MixFwd.lean ====
abbrev S8192x512 : Shape := ⟨2, ![8192, 512]⟩
abbrev S8192x2176 : Shape := ⟨2, ![8192, 2176]⟩
abbrev S8192x1024 : Shape := ⟨2, ![8192, 1024]⟩
abbrev S8x512x128 : Shape := ⟨3, ![8, 512, 128]⟩
abbrev S1024x1024 : Shape := ⟨2, ![1024, 1024]⟩
abbrev S1x1024 : Shape := ⟨2, ![1, 1024]⟩
abbrev S8x1024x512 : Shape := ⟨3, ![8, 1024, 512]⟩
abbrev S8x512x1024 : Shape := ⟨3, ![8, 512, 1024]⟩
abbrev S8192x4096 : Shape := ⟨2, ![8192, 4096]⟩
abbrev S256x512 : Shape := ⟨2, ![256, 512]⟩
abbrev S256x2176 : Shape := ⟨2, ![256, 2176]⟩
abbrev S256x1024 : Shape := ⟨2, ![256, 1024]⟩
abbrev S256x4096 : Shape := ⟨2, ![256, 4096]⟩
abbrev S1x512x128 : Shape := ⟨3, ![1, 512, 128]⟩
abbrev S512x128 : Shape := ⟨2, ![512, 128]⟩
abbrev S512x1024 : Shape := ⟨2, ![512, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S1x512x1024 : Shape := ⟨3, ![1, 512, 1024]⟩

abbrev nBuf : Space → Nat
  | .hbm => 18
  | .vmem => 30
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2176, .f32⟩
  | .hbm, ⟨3, _⟩ => ⟨S8192x1024, .f32⟩
  | .hbm, ⟨4, _⟩ => ⟨S8x512x128, .bf16⟩
  | .hbm, ⟨5, _⟩ => ⟨S8x512x128, .bf16⟩
  | .hbm, ⟨6, _⟩ => ⟨S1024x1024, .bf16⟩
  | .hbm, ⟨7, _⟩ => ⟨S1x1024, .f32⟩
  | .hbm, ⟨8, _⟩ => ⟨S8x1024x512, .bf16⟩
  | .hbm, ⟨9, _⟩ => ⟨S8x512x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x4096, .bf16⟩
  | .hbm, ⟨16, _⟩ => ⟨S8192x4096, .bf16⟩
  | .hbm, ⟨17, _⟩ => ⟨S8192x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x2176, .f32⟩
  | .local _ .vmem, ⟨5, _⟩ => ⟨S256x2176, .f32⟩
  | .local _ .vmem, ⟨6, _⟩ => ⟨S256x1024, .f32⟩
  | .local _ .vmem, ⟨7, _⟩ => ⟨S256x1024, .f32⟩
  | .local _ .vmem, ⟨8, _⟩ => ⟨S8x512x128, .bf16⟩
  | .local _ .vmem, ⟨9, _⟩ => ⟨S8x512x128, .bf16⟩
  | .local _ .vmem, ⟨10, _⟩ => ⟨S1024x1024, .bf16⟩
  | .local _ .vmem, ⟨11, _⟩ => ⟨S1x1024, .f32⟩
  | .local _ .vmem, ⟨12, _⟩ => ⟨S8x1024x512, .bf16⟩
  | .local _ .vmem, ⟨13, _⟩ => ⟨S8x512x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x4096, .bf16⟩
  | .local _ .vmem, ⟨25, _⟩ => ⟨S256x4096, .bf16⟩
  | .local _ .vmem, ⟨26, _⟩ => ⟨S256x4096, .bf16⟩
  | .local _ .vmem, ⟨27, _⟩ => ⟨S256x4096, .bf16⟩
  | .local _ .vmem, ⟨28, _⟩ => ⟨S256x1024, .f32⟩
  | .local _ .vmem, ⟨29, _⟩ => ⟨S256x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixFwdRefIdeal.lean ====
abbrev S8192x512 : Shape := ⟨2, ![8192, 512]⟩
abbrev S8192x2176 : Shape := ⟨2, ![8192, 2176]⟩
abbrev S8192x1024 : Shape := ⟨2, ![8192, 1024]⟩
abbrev S8x512x128 : Shape := ⟨3, ![8, 512, 128]⟩
abbrev S1024x1024 : Shape := ⟨2, ![1024, 1024]⟩
abbrev S1x1024 : Shape := ⟨2, ![1, 1024]⟩
abbrev S8x1024x512 : Shape := ⟨3, ![8, 1024, 512]⟩
abbrev S8x512x1024 : Shape := ⟨3, ![8, 512, 1024]⟩
abbrev S512x8x128 : Shape := ⟨3, ![512, 8, 128]⟩
abbrev S512x1024 : Shape := ⟨2, ![512, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024x8x512 : Shape := ⟨3, ![1024, 8, 512]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x2176, .f32⟩
  | .hbm, ⟨3, _⟩ => ⟨S8192x1024, .f32⟩
  | .hbm, ⟨4, _⟩ => ⟨S8x512x128, .bf16⟩
  | .hbm, ⟨5, _⟩ => ⟨S8x512x128, .bf16⟩
  | .hbm, ⟨6, _⟩ => ⟨S1024x1024, .bf16⟩
  | .hbm, ⟨7, _⟩ => ⟨S1x1024, .f32⟩
  | .hbm, ⟨8, _⟩ => ⟨S8x1024x512, .bf16⟩
  | .hbm, ⟨9, _⟩ => ⟨S8x512x1024, .bf16⟩
  | .hbm, ⟨10, _⟩ => ⟨S8192x512, .f32⟩
  | .hbm, ⟨11, _⟩ => ⟨S8x512x128, .f32⟩
  | .hbm, ⟨12, _⟩ => ⟨S512x8x128, .f32⟩
  | .hbm, ⟨13, _⟩ => ⟨S512x1024, .f32⟩
  | .hbm, ⟨14, _⟩ => ⟨S8192x1024, .f32⟩
  | .hbm, ⟨15, _⟩ => ⟨S8192x512, .f32⟩
  | .hbm, ⟨16, _⟩ => ⟨S8x512x128, .f32⟩
  | .hbm, ⟨17, _⟩ => ⟨S512x8x128, .f32⟩
  | .hbm, ⟨18, _⟩ => ⟨S512x1024, .f32⟩
  | .hbm, ⟨19, _⟩ => ⟨S8192x1024, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8x1024x512, .f32⟩
  | .hbm, ⟨53, _⟩ => ⟨S1024x8x512, .f32⟩
  | .hbm, ⟨54, _⟩ => ⟨S1024x4096, .f32⟩
  | .hbm, ⟨55, _⟩ => ⟨S8192x4096, .f32⟩
  | .hbm, ⟨56, _⟩ => ⟨S_, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S8x512x1024, .f32⟩
  | .hbm, ⟨61, _⟩ => ⟨S4096x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S8192x1024, .bf16⟩
  | .hbm, ⟨66, _⟩ => ⟨S8192x1024, .bf16⟩
  | .hbm, ⟨67, _⟩ => ⟨S8192x1024, .bf16⟩
  | .hbm, ⟨68, _⟩ => ⟨S8192x4096, .bf16⟩
  | .hbm, ⟨69, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== AdIn.lean ====
abbrev S8x560x1024 : Shape := ⟨3, ![8, 560, 1024]⟩
abbrev S560x1024 : Shape := ⟨2, ![560, 1024]⟩
abbrev S8x112x1024 : Shape := ⟨3, ![8, 112, 1024]⟩
abbrev S112x1024 : Shape := ⟨2, ![112, 1024]⟩
abbrev S1x112x1024 : Shape := ⟨3, ![1, 112, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x560x1024, .bf16⟩
  | .hbm, ⟨1, _⟩ => ⟨S560x1024, .f32⟩
  | .hbm, ⟨2, _⟩ => ⟨S560x1024, .f32⟩
  | .hbm, ⟨3, _⟩ => ⟨S560x1024, .f32⟩
  | .hbm, ⟨4, _⟩ => ⟨S560x1024, .f32⟩
  | .hbm, ⟨5, _⟩ => ⟨S560x1024, .f32⟩
  | .hbm, ⟨6, _⟩ => ⟨S560x1024, .f32⟩
  | .hbm, ⟨7, _⟩ => ⟨S560x1024, .f32⟩
  | .local _ .vmem, ⟨0, _⟩ => ⟨S8x112x1024, .bf16⟩
  | .local _ .vmem, ⟨1, _⟩ => ⟨S8x112x1024, .bf16⟩
  | .local _ .vmem, ⟨2, _⟩ => ⟨S112x1024, .f32⟩
  | .local _ .vmem, ⟨3, _⟩ => ⟨S112x1024, .f32⟩
  | .local _ .vmem, ⟨4, _⟩ => ⟨S112x1024, .f32⟩
  | .local _ .vmem, ⟨5, _⟩ => ⟨S112x1024, .f32⟩
  | .local _ .vmem, ⟨6, _⟩ => ⟨S112x1024, .f32⟩
  | .local _ .vmem, ⟨7, _⟩ => ⟨S112x1024, .f32⟩
  | .local _ .vmem, ⟨8, _⟩ => ⟨S112x1024, .f32⟩
  | .local _ .vmem, ⟨9, _⟩ => ⟨S112x1024, .f32⟩
  | .local _ .vmem, ⟨10, _⟩ => ⟨S112x1024, .f32⟩
  | .local _ .vmem, ⟨11, _⟩ => ⟨S112x1024, .f32⟩
  | .local _ .vmem, ⟨12, _⟩ => ⟨S112x1024, .f32⟩
  | .local _ .vmem, ⟨13, _⟩ => ⟨S112x1024, .f32⟩
  | .local _ .vmem, ⟨14, _⟩ => ⟨S112x1024, .f32⟩
  | .local _ .vmem, ⟨15, _⟩ => ⟨S112x1024, .f32⟩
  | _, _ => ⟨S8x560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInIdeal.lean ====
abbrev S8x560x1024 : Shape := ⟨3, ![8, 560, 1024]⟩
abbrev S560x1024 : Shape := ⟨2, ![560, 1024]⟩
abbrev S8x112x1024 : Shape := ⟨3, ![8, 112, 1024]⟩
abbrev S112x1024 : Shape := ⟨2, ![112, 1024]⟩
abbrev S1x112x1024 : Shape := ⟨3, ![1, 112, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x560x1024, .bf16⟩
  | .hbm, ⟨1, _⟩ => ⟨S560x1024, .f32⟩
  | .hbm, ⟨2, _⟩ => ⟨S560x1024, .f32⟩
  | .hbm, ⟨3, _⟩ => ⟨S560x1024, .f32⟩
  | .hbm, ⟨4, _⟩ => ⟨S560x1024, .f32⟩
  | .hbm, ⟨5, _⟩ => ⟨S560x1024, .f32⟩
  | .hbm, ⟨6, _⟩ => ⟨S560x1024, .f32⟩
  | .hbm, ⟨7, _⟩ => ⟨S560x1024, .f32⟩
  | .local _ .vmem, ⟨0, _⟩ => ⟨S8x112x1024, .bf16⟩
  | .local _ .vmem, ⟨1, _⟩ => ⟨S8x112x1024, .bf16⟩
  | .local _ .vmem, ⟨2, _⟩ => ⟨S112x1024, .f32⟩
  | .local _ .vmem, ⟨3, _⟩ => ⟨S112x1024, .f32⟩
  | .local _ .vmem, ⟨4, _⟩ => ⟨S112x1024, .f32⟩
  | .local _ .vmem, ⟨5, _⟩ => ⟨S112x1024, .f32⟩
  | .local _ .vmem, ⟨6, _⟩ => ⟨S112x1024, .f32⟩
  | .local _ .vmem, ⟨7, _⟩ => ⟨S112x1024, .f32⟩
  | .local _ .vmem, ⟨8, _⟩ => ⟨S112x1024, .f32⟩
  | .local _ .vmem, ⟨9, _⟩ => ⟨S112x1024, .f32⟩
  | .local _ .vmem, ⟨10, _⟩ => ⟨S112x1024, .f32⟩
  | .local _ .vmem, ⟨11, _⟩ => ⟨S112x1024, .f32⟩
  | .local _ .vmem, ⟨12, _⟩ => ⟨S112x1024, .f32⟩
  | .local _ .vmem, ⟨13, _⟩ => ⟨S112x1024, .f32⟩
  | .local _ .vmem, ⟨14, _⟩ => ⟨S112x1024, .f32⟩
  | .local _ .vmem, ⟨15, _⟩ => ⟨S112x1024, .f32⟩
  | _, _ => ⟨S8x560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInRefIdeal.lean ====
abbrev S8x560x1024 : Shape := ⟨3, ![8, 560, 1024]⟩
abbrev S560x1024 : Shape := ⟨2, ![560, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x560x1024, .bf16⟩
  | .hbm, ⟨1, _⟩ => ⟨S560x1024, .f32⟩
  | .hbm, ⟨2, _⟩ => ⟨S560x1024, .f32⟩
  | .hbm, ⟨3, _⟩ => ⟨S560x1024, .f32⟩
  | .hbm, ⟨4, _⟩ => ⟨S8x560x1024, .f32⟩
  | .hbm, ⟨5, _⟩ => ⟨S_, .f32⟩
  | .hbm, ⟨6, _⟩ => ⟨S560x1024, .f32⟩
  | .hbm, ⟨7, _⟩ => ⟨S_, .f32⟩
  | .hbm, ⟨8, _⟩ => ⟨S560x1024, .f32⟩
  | .hbm, ⟨9, _⟩ => ⟨S560x1024, .f32⟩
  | .hbm, ⟨10, _⟩ => ⟨S_, .f32⟩
  | .hbm, ⟨11, _⟩ => ⟨S560x1024, .f32⟩
  | .hbm, ⟨12, _⟩ => ⟨S560x1024, .f32⟩
  | .hbm, ⟨13, _⟩ => ⟨S560x1024, .f32⟩
  | .hbm, ⟨14, _⟩ => ⟨S_, .f32⟩
  | .hbm, ⟨15, _⟩ => ⟨S560x1024, .f32⟩
  | .hbm, ⟨16, _⟩ => ⟨S560x1024, .f32⟩
  | .hbm, ⟨17, _⟩ => ⟨S560x1024, .f32⟩
  | .hbm, ⟨18, _⟩ => ⟨S_, .f32⟩
  | .hbm, ⟨19, _⟩ => ⟨S560x1024, .f32⟩
  | .hbm, ⟨20, _⟩ => ⟨S560x1024, .f32⟩
  | .hbm, ⟨21, _⟩ => ⟨S560x1024, .f32⟩
  | .hbm, ⟨22, _⟩ => ⟨S_, .f32⟩
  | .hbm, ⟨23, _⟩ => ⟨S560x1024, .f32⟩
  | .hbm, ⟨24, _⟩ => ⟨S560x1024, .f32⟩
  | .hbm, ⟨25, _⟩ => ⟨S_, .f32⟩
  | .hbm, ⟨26, _⟩ => ⟨S560x1024, .f32⟩
  | .hbm, ⟨27, _⟩ => ⟨S560x1024, .f32⟩
  | .hbm, ⟨28, _⟩ => ⟨S560x1024, .f32⟩
  | .hbm, ⟨29, _⟩ => ⟨S_, .f32⟩
  | .hbm, ⟨30, _⟩ => ⟨S560x1024, .f32⟩
  | .hbm, ⟨31, _⟩ => ⟨S560x1024, .f32⟩
  | .hbm, ⟨32, _⟩ => ⟨S560x1024, .f32⟩
  | .hbm, ⟨33, _⟩ => ⟨S_, .f32⟩
  | .hbm, ⟨34, _⟩ => ⟨S560x1024, .f32⟩
  | .hbm, ⟨35, _⟩ => ⟨S560x1024, .f32⟩
  | .hbm, ⟨36, _⟩ => ⟨S560x1024, .f32⟩
  | .hbm, ⟨37, _⟩ => ⟨S_, .f32⟩
  | .hbm, ⟨38, _⟩ => ⟨S560x1024, .f32⟩
  | .hbm, ⟨39, _⟩ => ⟨S560x1024, .f32⟩
  | _, _ => ⟨S8x560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdBr.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdBrIdeal.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdBrRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdSq.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSqIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSqRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdFf1.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf1Ideal.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf1RefIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdFf2.lean ====
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf2Ideal.lean ====
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf2RefIdeal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdPle.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPleIdeal.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPleRefIdeal.lean ====
abbrev S8x256x128 : Shape := ⟨3, ![8, 256, 128]⟩
abbrev S256x128 : Shape := ⟨2, ![256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdSmall.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSmallRefIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Fox.Cuts.lean ====
/- The body of the backward kernel cut into its branches, so that each branch can be proved apart. -/
module

public import proofs.«01_k».proof.Proof.Gen.KernelIdeal.Skeleton
public import Idealize.ShloMosaic.Lib.Tactic.Stretches

@[expose] public section

noncomputable section

namespace Cert.KernelIdeal.Fox

open Idealize.ShloMosaic Idealize.SL.Sem Cert.KernelIdeal.Gen

cut_chain s := Cert.KernelIdeal.Gen.cc0_fox_bwd_skel at 2, 4, 5, 6, 7, 8, 9, 10, 11

cut_chain p := Cert.KernelIdeal.Gen.k0_part27_skel at 4, 5, 6

end Cert.KernelIdeal.Fox

end
-- ==== Proof.Fox.Base.lean ====
/- The buffers that the backward kernel's body works on, as one record of contents. -/
module

public import proofs.«01_k».proof.Proof.Fox.Cuts
public import Idealize.ShloMosaic.Lib.Tactic
public import Idealize.ShloMosaic.Lib.Pipeline.Kit
public import Idealize.ShloMosaic.Lib.Pipeline.Frame

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- The memrefs that the body is given, each the whole of its buffer. -/
structure Args where
  arg2 : Memref sig .tc .smem S36 .i32
  harg2 : arg2.IsWhole
  arg3 : Memref sig .tc .smem S36 .i32
  harg3 : arg3.IsWhole
  arg4 : Memref sig .tc .smem S36 .i32
  harg4 : arg4.IsWhole
  arg5 : Memref sig .tc .vmem S1024x128 .bf16
  harg5 : arg5.IsWhole
  arg6 : Memref sig .tc .vmem S1024x128 .bf16
  harg6 : arg6.IsWhole
  arg7 : Memref sig .tc .vmem S1024x128 .bf16
  harg7 : arg7.IsWhole
  arg8 : Memref sig .tc .vmem S1x2x1024 .f32
  harg8 : arg8.IsWhole
  arg9 : Memref sig .tc .smem S8x128 .f32
  harg9 : arg9.IsWhole
  arg10 : Memref sig .tc .vmem S1024x128 .bf16
  harg10 : arg10.IsWhole
  arg11 : Memref sig .tc .vmem S1024x256 .f32
  harg11 : arg11.IsWhole
  arg12 : Memref sig .tc .vmem S1024x256 .f32
  harg12 : arg12.IsWhole
  arg13 : Memref sig .tc .vmem S1024x128 .bf16
  harg13 : arg13.IsWhole
  arg14 : Memref sig .tc .vmem S8192x128 .bf16
  harg14 : arg14.IsWhole
  arg15 : Memref sig .tc .vmem S8192x128 .bf16
  harg15 : arg15.IsWhole
  arg16 : Memref sig .tc .vmem S8192x128 .f32
  harg16 : arg16.IsWhole
  arg17 : Memref sig .tc .vmem S1024x128 .f32
  harg17 : arg17.IsWhole
  arg18 : Memref sig .tc .vmem S2x1024x128 .bf16
  harg18 : arg18.IsWhole
  arg19 : Memref sig .tc .vmem S2x1024x256 .bf16
  harg19 : arg19.IsWhole
  arg20 : Memref sig .tc .vmem S2x1024x128 .bf16
  harg20 : arg20.IsWhole
  arg21 : Memref sig .tc .vmem S2x1024x256 .f32
  harg21 : arg21.IsWhole
  arg22 : Memref sig .tc .vmem S8192x128 .f32
  harg22 : arg22.IsWhole
  arg23 : Memref sig .tc .vmem S8192x128 .f32
  harg23 : arg23.IsWhole

/-- What the body only reads: the tables, the blocks of the operands and the flags. -/
structure In (F : FTy → Type) where
  ii : S36.Idx → Elt F .i32
  jj : S36.Idx → Elt F .i32
  kk : S36.Idx → Elt F .i32
  q : S1024x128.Idx → Elt F .bf16
  k : S1024x128.Idx → Elt F .bf16
  v : S1024x128.Idx → Elt F .bf16
  ck : S1x2x1024.Idx → Elt F .f32
  dead : S8x128.Idx → Elt F .f32
  dO : S1024x128.Idx → Elt F .bf16
  ln : S1024x256.Idx → Elt F .f32
  delta : S1024x256.Idx → Elt F .f32

/-- What the body writes: the blocks of the results and the scratch. -/
structure Mut (F : FTy → Type) where
  dq : S1024x128.Idx → Elt F .bf16
  dkOut : S8192x128.Idx → Elt F .bf16
  dvOut : S8192x128.Idx → Elt F .bf16
  cs : S8192x128.Idx → Elt F .f32
  rs : S1024x128.Idx → Elt F .f32
  qs : S2x1024x128.Idx → Elt F .bf16
  qo : S2x1024x256.Idx → Elt F .bf16
  dos : S2x1024x128.Idx → Elt F .bf16
  acc : S2x1024x256.Idx → Elt F .f32
  dk : S8192x128.Idx → Elt F .f32
  dv : S8192x128.Idx → Elt F .f32

/-- Every buffer of the body, at the contents `x` and `s`. -/
def held (c : Dev nD) (a : Args) (x : In F) (s : Mut F) : sProp 𝕄 :=
  iprop((a.arg2.view.loc (c : Thread nD τ) ↦{fullShare.right} a.harg2.unread x.ii) ∗
    (a.arg3.view.loc (c : Thread nD τ) ↦{fullShare.right} a.harg3.unread x.jj) ∗
    (a.arg4.view.loc (c : Thread nD τ) ↦{fullShare.right} a.harg4.unread x.kk) ∗
    (a.arg5.view.loc (c : Thread nD τ) ↦{fullShare} a.harg5.unread x.q) ∗
    (a.arg6.view.loc (c : Thread nD τ) ↦{fullShare} a.harg6.unread x.k) ∗
    (a.arg7.view.loc (c : Thread nD τ) ↦{fullShare} a.harg7.unread x.v) ∗
    (a.arg8.view.loc (c : Thread nD τ) ↦{fullShare} a.harg8.unread x.ck) ∗
    (a.arg9.view.loc (c : Thread nD τ) ↦{fullShare} a.harg9.unread x.dead) ∗
    (a.arg10.view.loc (c : Thread nD τ) ↦{fullShare} a.harg10.unread x.dO) ∗
    (a.arg11.view.loc (c : Thread nD τ) ↦{fullShare} a.harg11.unread x.ln) ∗
    (a.arg12.view.loc (c : Thread nD τ) ↦{fullShare} a.harg12.unread x.delta) ∗
    (a.arg13.view.loc (c : Thread nD τ) ↦{fullShare} a.harg13.unread s.dq) ∗
    (a.arg14.view.loc (c : Thread nD τ) ↦{fullShare} a.harg14.unread s.dkOut) ∗
    (a.arg15.view.loc (c : Thread nD τ) ↦{fullShare} a.harg15.unread s.dvOut) ∗
    (a.arg16.view.loc (c : Thread nD τ) ↦{fullShare} a.harg16.unread s.cs) ∗
    (a.arg17.view.loc (c : Thread nD τ) ↦{fullShare} a.harg17.unread s.rs) ∗
    (a.arg18.view.loc (c : Thread nD τ) ↦{fullShare} a.harg18.unread s.qs) ∗
    (a.arg19.view.loc (c : Thread nD τ) ↦{fullShare} a.harg19.unread s.qo) ∗
    (a.arg20.view.loc (c : Thread nD τ) ↦{fullShare} a.harg20.unread s.dos) ∗
    (a.arg21.view.loc (c : Thread nD τ) ↦{fullShare} a.harg21.unread s.acc) ∗
    (a.arg22.view.loc (c : Thread nD τ) ↦{fullShare} a.harg22.unread s.dk) ∗
    (a.arg23.view.loc (c : Thread nD τ) ↦{fullShare} a.harg23.unread s.dv))

/-- A branch of the body: from the record of buffers it goes on with a record that `Rel` holds of. -/
def Branch (c : Dev nD) (a : Args) (x : In F) (s : Mut F) (Rel : Mut F → Prop)
    (b : ∀ {R : Type}, Prog (TpuEff nD τ sig (Elt F) Λ₀ .tc) R → Prog (TpuEff nD τ sig (Elt F) Λ₀ .tc) R) : Prop :=
  ∀ {R : Type} (κ : Prog (TpuEff nD τ sig (Elt F) Λ₀ .tc) R) (Q : R → sProp 𝕄),
    held c a x s ⊢ iprop((∀ s', ⌜Rel s'⌝ -∗ held c a x s' -∗ wp frame (wpE (defs₀ (F := F)) Variants.none (c : Thread nD τ) none) Set.univ κ Q) -∗
      wp frame (wpE (defs₀ (F := F)) Variants.none (c : Thread nD τ) none) Set.univ (b κ) Q)

section Open

variable (c : Dev nD)
    (arg2 : Memref sig .tc .smem S36 .i32) (harg2 : arg2.IsWhole)
    (arg3 : Memref sig .tc .smem S36 .i32) (harg3 : arg3.IsWhole)
    (arg4 : Memref sig .tc .smem S36 .i32) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S1024x128 .bf16) (harg7 : arg7.IsWhole)
    (arg8 : Memref sig .tc .vmem S1x2x1024 .f32) (harg8 : arg8.IsWhole)
    (arg9 : Memref sig .tc .smem S8x128 .f32) (harg9 : arg9.IsWhole)
    (arg10 : Memref sig .tc .vmem S1024x128 .bf16) (harg10 : arg10.IsWhole)
    (arg11 : Memref sig .tc .vmem S1024x256 .f32) (harg11 : arg11.IsWhole)
    (arg12 : Memref sig .tc .vmem S1024x256 .f32) (harg12 : arg12.IsWhole)
    (arg13 : Memref sig .tc .vmem S1024x128 .bf16) (harg13 : arg13.IsWhole)
    (arg14 : Memref sig .tc .vmem S8192x128 .bf16) (harg14 : arg14.IsWhole)
    (arg15 : Memref sig .tc .vmem S8192x128 .bf16) (harg15 : arg15.IsWhole)
    (arg16 : Memref sig .tc .vmem S8192x128 .f32) (harg16 : arg16.IsWhole)
    (arg17 : Memref sig .tc .vmem S1024x128 .f32) (harg17 : arg17.IsWhole)
    (arg18 : Memref sig .tc .vmem S2x1024x128 .bf16) (harg18 : arg18.IsWhole)
    (arg19 : Memref sig .tc .vmem S2x1024x256 .bf16) (harg19 : arg19.IsWhole)
    (arg20 : Memref sig .tc .vmem S2x1024x128 .bf16) (harg20 : arg20.IsWhole)
    (arg21 : Memref sig .tc .vmem S2x1024x256 .f32) (harg21 : arg21.IsWhole)
    (arg22 : Memref sig .tc .vmem S8192x128 .f32) (harg22 : arg22.IsWhole)
    (arg23 : Memref sig .tc .vmem S8192x128 .f32) (harg23 : arg23.IsWhole)
    (ii : S36.Idx → Elt F .i32) (jj : S36.Idx → Elt F .i32) (kk : S36.Idx → Elt F .i32) (q : S1024x128.Idx → Elt F .bf16) (k : S1024x128.Idx → Elt F .bf16) (v : S1024x128.Idx → Elt F .bf16) (ck : S1x2x1024.Idx → Elt F .f32) (dead : S8x128.Idx → Elt F .f32) (dO : S1024x128.Idx → Elt F .bf16) (ln : S1024x256.Idx → Elt F .f32) (delta : S1024x256.Idx → Elt F .f32)

/-- The record of buffers, taken apart. -/
theorem held_open (dq : S1024x128.Idx → Elt F .bf16) (dkOut : S8192x128.Idx → Elt F .bf16) (dvOut : S8192x128.Idx → Elt F .bf16) (cs : S8192x128.Idx → Elt F .f32) (rs : S1024x128.Idx → Elt F .f32) (qs : S2x1024x128.Idx → Elt F .bf16) (qo : S2x1024x256.Idx → Elt F .bf16) (dos : S2x1024x128.Idx → Elt F .bf16) (acc : S2x1024x256.Idx → Elt F .f32) (dk : S8192x128.Idx → Elt F .f32) (dv : S8192x128.Idx → Elt F .f32) :
    held c ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23⟩
        ⟨ii, jj, kk, q, k, v, ck, dead, dO, ln, delta⟩ ⟨dq, dkOut, dvOut, cs, rs, qs, qo, dos, acc, dk, dv⟩
      ⊢ iprop((arg2.view.loc (c : Thread nD τ) ↦{fullShare.right} harg2.unread ii) ∗
        (arg3.view.loc (c : Thread nD τ) ↦{fullShare.right} harg3.unread jj) ∗
        (arg4.view.loc (c : Thread nD τ) ↦{fullShare.right} harg4.unread kk) ∗
        (arg5.view.loc (c : Thread nD τ) ↦{fullShare} harg5.unread q) ∗
        (arg6.view.loc (c : Thread nD τ) ↦{fullShare} harg6.unread k) ∗
        (arg7.view.loc (c : Thread nD τ) ↦{fullShare} harg7.unread v) ∗
        (arg8.view.loc (c : Thread nD τ) ↦{fullShare} harg8.unread ck) ∗
        (arg9.view.loc (c : Thread nD τ) ↦{fullShare} harg9.unread dead) ∗
        (arg10.view.loc (c : Thread nD τ) ↦{fullShare} harg10.unread dO) ∗
        (arg11.view.loc (c : Thread nD τ) ↦{fullShare} harg11.unread ln) ∗
        (arg12.view.loc (c : Thread nD τ) ↦{fullShare} harg12.unread delta) ∗
        (arg13.view.loc (c : Thread nD τ) ↦{fullShare} harg13.unread dq) ∗
        (arg14.view.loc (c : Thread nD τ) ↦{fullShare} harg14.unread dkOut) ∗
        (arg15.view.loc (c : Thread nD τ) ↦{fullShare} harg15.unread dvOut) ∗
        (arg16.view.loc (c : Thread nD τ) ↦{fullShare} harg16.unread cs) ∗
        (arg17.view.loc (c : Thread nD τ) ↦{fullShare} harg17.unread rs) ∗
        (arg18.view.loc (c : Thread nD τ) ↦{fullShare} harg18.unread qs) ∗
        (arg19.view.loc (c : Thread nD τ) ↦{fullShare} harg19.unread qo) ∗
        (arg20.view.loc (c : Thread nD τ) ↦{fullShare} harg20.unread dos) ∗
        (arg21.view.loc (c : Thread nD τ) ↦{fullShare} harg21.unread acc) ∗
        (arg22.view.loc (c : Thread nD τ) ↦{fullShare} harg22.unread dk) ∗
        (arg23.view.loc (c : Thread nD τ) ↦{fullShare} harg23.unread dv)) := .rfl

/-- The record of buffers, put together from whatever the written buffers hold. -/
theorem held_fold (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) :
    (iprop((arg2.view.loc (c : Thread nD τ) ↦{fullShare.right} harg2.unread ii) ∗
        (arg3.view.loc (c : Thread nD τ) ↦{fullShare.right} harg3.unread jj) ∗
        (arg4.view.loc (c : Thread nD τ) ↦{fullShare.right} harg4.unread kk) ∗
        (arg5.view.loc (c : Thread nD τ) ↦{fullShare} harg5.unread q) ∗
        (arg6.view.loc (c : Thread nD τ) ↦{fullShare} harg6.unread k) ∗
        (arg7.view.loc (c : Thread nD τ) ↦{fullShare} harg7.unread v) ∗
        (arg8.view.loc (c : Thread nD τ) ↦{fullShare} harg8.unread ck) ∗
        (arg9.view.loc (c : Thread nD τ) ↦{fullShare} harg9.unread dead) ∗
        (arg10.view.loc (c : Thread nD τ) ↦{fullShare} harg10.unread dO) ∗
        (arg11.view.loc (c : Thread nD τ) ↦{fullShare} harg11.unread ln) ∗
        (arg12.view.loc (c : Thread nD τ) ↦{fullShare} harg12.unread delta) ∗
        (arg13.view.loc (c : Thread nD τ) ↦{fullShare} f13) ∗
        (arg14.view.loc (c : Thread nD τ) ↦{fullShare} f14) ∗
        (arg15.view.loc (c : Thread nD τ) ↦{fullShare} f15) ∗
        (arg16.view.loc (c : Thread nD τ) ↦{fullShare} f16) ∗
        (arg17.view.loc (c : Thread nD τ) ↦{fullShare} f17) ∗
        (arg18.view.loc (c : Thread nD τ) ↦{fullShare} f18) ∗
        (arg19.view.loc (c : Thread nD τ) ↦{fullShare} f19) ∗
        (arg20.view.loc (c : Thread nD τ) ↦{fullShare} f20) ∗
        (arg21.view.loc (c : Thread nD τ) ↦{fullShare} f21) ∗
        (arg22.view.loc (c : Thread nD τ) ↦{fullShare} f22) ∗
        (arg23.view.loc (c : Thread nD τ) ↦{fullShare} f23)) : sProp 𝕄)
      ⊢ held c ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23⟩
        ⟨ii, jj, kk, q, k, v, ck, dead, dO, ln, delta⟩
        ⟨arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23⟩ := by
  unfold held
  simp only [Memref.IsWhole.unread_read]
  exact .rfl

/-- A branch that hands on any record of a certain kind is done once the buffers make up such a record. -/
theorem held_close (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F))
    {Rel : Mut F → Prop} {W : sProp 𝕄} :
    iprop((arg2.view.loc (c : Thread nD τ) ↦{fullShare.right} harg2.unread ii) ∗
        (arg3.view.loc (c : Thread nD τ) ↦{fullShare.right} harg3.unread jj) ∗
        (arg4.view.loc (c : Thread nD τ) ↦{fullShare.right} harg4.unread kk) ∗
        (arg5.view.loc (c : Thread nD τ) ↦{fullShare} harg5.unread q) ∗
        (arg6.view.loc (c : Thread nD τ) ↦{fullShare} harg6.unread k) ∗
        (arg7.view.loc (c : Thread nD τ) ↦{fullShare} harg7.unread v) ∗
        (arg8.view.loc (c : Thread nD τ) ↦{fullShare} harg8.unread ck) ∗
        (arg9.view.loc (c : Thread nD τ) ↦{fullShare} harg9.unread dead) ∗
        (arg10.view.loc (c : Thread nD τ) ↦{fullShare} harg10.unread dO) ∗
        (arg11.view.loc (c : Thread nD τ) ↦{fullShare} harg11.unread ln) ∗
        (arg12.view.loc (c : Thread nD τ) ↦{fullShare} harg12.unread delta) ∗
        (arg13.view.loc (c : Thread nD τ) ↦{fullShare} f13) ∗
        (arg14.view.loc (c : Thread nD τ) ↦{fullShare} f14) ∗
        (arg15.view.loc (c : Thread nD τ) ↦{fullShare} f15) ∗
        (arg16.view.loc (c : Thread nD τ) ↦{fullShare} f16) ∗
        (arg17.view.loc (c : Thread nD τ) ↦{fullShare} f17) ∗
        (arg18.view.loc (c : Thread nD τ) ↦{fullShare} f18) ∗
        (arg19.view.loc (c : Thread nD τ) ↦{fullShare} f19) ∗
        (arg20.view.loc (c : Thread nD τ) ↦{fullShare} f20) ∗
        (arg21.view.loc (c : Thread nD τ) ↦{fullShare} f21) ∗
        (arg22.view.loc (c : Thread nD τ) ↦{fullShare} f22) ∗
        (arg23.view.loc (c : Thread nD τ) ↦{fullShare} f23) ∗
        (∀ s', ⌜Rel s'⌝ -∗ held c ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23⟩ ⟨ii, jj, kk, q, k, v, ck, dead, dO, ln, delta⟩ s' -∗ W) ∗ ⌜Rel ⟨arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23⟩⌝) ⊢ W := by
  iintro ⟨H2, H3, H4, H5, H6, H7, H8, H9, H10, H11, H12, H13, H14, H15, H16, H17, H18, H19, H20, H21, H22, H23, Hκ, %hR⟩
  ihave H := (held_fold c _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ harg23 _ _ _ _ _ _ _ _ _ _ _ f13 f14 f15 f16 f17 f18 f19 f20 f21 f22 f23) $$ [H2 H3 H4 H5 H6 H7 H8 H9 H10 H11 H12 H13 H14 H15 H16 H17 H18 H19 H20 H21 H22 H23]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  iapply Hκ $$ %_ [] [H]
  · ipureintro; exact hR
  · iexact H

end Open

end Cert.KernelIdeal.Fox

end
-- ==== Proof.Fox.Loads.lean ====
/- The words that the body reads of the tables and of the flags. -/
module

public import proofs.«01_k».proof.Proof.Fox.Base
public import Idealize.ShloMosaic.Lib.WholeRead

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- The step's place in the tables. -/
def place (i : grid0.Coords) : S36.Idx := (Rect.unit (s := S36) (k0_off1 i) S1.size (k0_off1_inb i)).toLoadRect.idx (Shape.Idx.first (s := S1) (by rw [numel1_S1]; decide))

/-- The words of the step, of the second and the third table. -/
theorem tables_spec (c : Dev nD) (a : Args) (x : In F) (s : Mut F) (i : grid0.Coords)
    (h5 : k0_chk5 (x.jj (place i)) (x.kk (place i)))
    {R : Type} (κ : (v1 v3 : Elt F .i32) → PLift (k0_chk5 v1 v3) → Prog (TpuEff nD τ sig (Elt F) Λ₀ .tc) R) (Q : R → sProp 𝕄) :
    held c a x s ⊢ iprop((held c a x s -∗ wp frame (wpE (defs₀ (F := F)) Variants.none (c : Thread nD τ) none) Set.univ (κ (x.jj (place i)) (x.kk (place i)) ⟨h5⟩) Q) -∗
      wp frame (wpE (defs₀ (F := F)) Variants.none (c : Thread nD τ) none) Set.univ (p1 i a.arg3 a.arg4 κ) Q) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  iintro H Hκ
  icases (held_open c _ harg2 _ harg3 _ harg4 _ harg5 _ harg6 _ harg7 _ harg8 _ harg9 _ harg10 _ harg11 _ harg12 _ harg13 _ harg14
    _ harg15 _ harg16 _ harg17 _ harg18 _ harg19 _ harg20 _ harg21 _ harg22 _ harg23 _ _ _ _ _ _ _ _ _ _ _ _ _ _ _ _ _ _ _ _ _ _) $$ H
    with ⟨H2, H3, H4, H5, H6, H7, H8, H9, H10, H11, H12, H13, H14, H15, H16, H17, H18, H19, H20, H21, H22, H23⟩
  dsimp only at h5
  unfold p1
  dsimp only
  sl_exec!
  generalize hv : tables_spec.sl.r i arg3 harg3 jj = v1
  generalize hw : tables_spec.sl.r_1 i arg4 harg4 kk = v3
  have e1 : v1 = jj (place i) := by rw [← hv]; unfold tables_spec.sl.r; exact harg3.readAt_unread _ _ _
  have e3 : v3 = kk (place i) := by rw [← hw]; unfold tables_spec.sl.r_1; exact harg4.readAt_unread _ _ _
  subst e1 e3
  iapply (wp_assume _ _ _ _ h5)
  iapply Hκ
  unfold held
  iframe

/-- The word of the first table and the flags of the step's blocks. -/
theorem flags_spec (c : Dev nD) (a : Args) (x : In F) (s : Mut F) (i : grid0.Coords) (v1 v3 : Elt F .i32)
    (h1 : k0_chk1 i v1 (x.ii (place i))) (h3 : ∀ b b', k0_chk3 v1 v3 b b') (h2 : ∀ b b', k0_chk2 v1 v3 b b')
    {R : Type} (κ : (v15 : Elt F .i32) → PLift (k0_chk1 i v1 v15) → (v23 v28 : Elt F .f32) →
      PLift (k0_chk3 v1 v3 (Scalar.cmpf .olt v23 (FloatOps.ofBits .f32 1056964608#32)) (Scalar.cmpf .olt v28 (FloatOps.ofBits .f32 1056964608#32))) →
      (v34 : Elt F .f32) → PLift (k0_chk2 v1 v3 (Scalar.cmpf .olt v23 (FloatOps.ofBits .f32 1056964608#32)) (Scalar.cmpf .olt v34 (FloatOps.ofBits .f32 1056964608#32))) →
      Prog (TpuEff nD τ sig (Elt F) Λ₀ .tc) R) (Q : R → sProp 𝕄) :
    held c a x s ⊢ iprop((∀ y23 y28 y34, held c a x s -∗ wp frame (wpE (defs₀ (F := F)) Variants.none (c : Thread nD τ) none) Set.univ (κ (x.ii (place i)) ⟨h1⟩ (x.dead y23) (x.dead y28) ⟨h3 _ _⟩ (x.dead y34) ⟨h2 _ _⟩) Q) -∗
      wp frame (wpE (defs₀ (F := F)) Variants.none (c : Thread nD τ) none) Set.univ (p4 i a.arg2 a.arg9 v1 v3 κ) Q) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  iintro H Hκ
  icases (held_open c _ harg2 _ harg3 _ harg4 _ harg5 _ harg6 _ harg7 _ harg8 _ harg9 _ harg10 _ harg11 _ harg12 _ harg13 _ harg14
    _ harg15 _ harg16 _ harg17 _ harg18 _ harg19 _ harg20 _ harg21 _ harg22 _ harg23 _ _ _ _ _ _ _ _ _ _ _ _ _ _ _ _ _ _ _ _ _ _) $$ H
    with ⟨H2, H3, H4, H5, H6, H7, H8, H9, H10, H11, H12, H13, H14, H15, H16, H17, H18, H19, H20, H21, H22, H23⟩
  dsimp only at h1
  unfold p4
  dsimp only
  sl_exec!
  generalize hv : flags_spec.sl.r i arg2 harg2 ii = v15
  have e15 : v15 = ii (place i) := by rw [← hv]; unfold flags_spec.sl.r; exact harg2.readAt_unread _ _ _
  clear hv
  subst e15
  iapply (wp_assume _ _ _ _ h1)
  sl_exec!
  generalize hw_1 : flags_spec.sl.r_1 i v1 arg9 harg9 ii dead h1 = w_1
  obtain ⟨y_1, e_1⟩ : ∃ y, w_1 = dead y := by rw [← hw_1]; unfold flags_spec.sl.r_1; exact harg9.exists_readAt_unread _ _ _
  clear hw_1
  subst e_1
  generalize hw_2 : flags_spec.sl.r_2 i v1 arg9 harg9 ii dead h1 = w_2
  obtain ⟨y_2, e_2⟩ : ∃ y, w_2 = dead y := by rw [← hw_2]; unfold flags_spec.sl.r_2; exact harg9.exists_readAt_unread _ _ _
  clear hw_2
  subst e_2
  generalize hw_3 : flags_spec.sl.r_3 i v1 arg9 harg9 ii dead h1 = w_3
  obtain ⟨y_3, e_3⟩ : ∃ y, w_3 = dead y := by rw [← hw_3]; unfold flags_spec.sl.r_3; exact harg9.exists_readAt_unread _ _ _
  clear hw_3
  subst e_3
  iapply Hκ $$ %y_1 %y_2 %y_3
  unfold held
  iframe

/-- The flag of the part next to the diagonal, the second head's. -/
theorem near_flag_spec (c : Dev nD) (a : Args) (x : In F) (s : Mut F) (i : grid0.Coords) (v1 v3 v15 : Elt F .i32)
    (hw1 : k0_chk1 i v1 v15) (v35 : BitVec 1) (h4 : ∀ b, k0_chk4 v1 v3 v35 b)
    {R : Type} (κ : (v39 : Elt F .f32) → PLift (k0_chk4 v1 v3 v35 (Scalar.cmpf .olt v39 (FloatOps.ofBits .f32 1056964608#32))) →
      Prog (TpuEff nD τ sig (Elt F) Λ₀ .tc) R) (Q : R → sProp 𝕄) :
    held c a x s ⊢ iprop((∀ y39, held c a x s -∗ wp frame (wpE (defs₀ (F := F)) Variants.none (c : Thread nD τ) none) Set.univ (κ (x.dead y39) ⟨h4 _⟩) Q) -∗
      wp frame (wpE (defs₀ (F := F)) Variants.none (c : Thread nD τ) none) Set.univ (s2 i a.arg9 v1 v3 v15 hw1 v35 κ) Q) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  iintro H Hκ
  icases (held_open c _ harg2 _ harg3 _ harg4 _ harg5 _ harg6 _ harg7 _ harg8 _ harg9 _ harg10 _ harg11 _ harg12 _ harg13 _ harg14
    _ harg15 _ harg16 _ harg17 _ harg18 _ harg19 _ harg20 _ harg21 _ harg22 _ harg23 _ _ _ _ _ _ _ _ _ _ _ _ _ _ _ _ _ _ _ _ _ _) $$ H
    with ⟨H2, H3, H4, H5, H6, H7, H8, H9, H10, H11, H12, H13, H14, H15, H16, H17, H18, H19, H20, H21, H22, H23⟩
  unfold s2
  dsimp only
  sl_exec!
  generalize hw : near_flag_spec.sl.r i v1 v15 hw1 arg9 harg9 dead = w
  obtain ⟨y, e⟩ : ∃ y, w = dead y := by rw [← hw]; unfold near_flag_spec.sl.r; exact harg9.exists_readAt_unread _ _ _
  clear hw
  subst e
  iapply Hκ $$ %y
  unfold held
  iframe

end Cert.KernelIdeal.Fox

end
-- ==== Proof.Fox.Small.lean ====
/- The branches that clear, load up and write out. -/
module

public import proofs.«01_k».proof.Proof.Fox.Base

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- At the first step of a pair of heads the key sums are cleared. -/
theorem clear_spec (c : Dev nD) (a : Args) (x : In F) (s : Mut F) (i : grid0.Coords) :
    Branch c a x s (fun s' => ¬(Scalar.cmpi .ne (Scalar.extui (Scalar.cmpi .eq (BitVec.ofNat 32 (i 1).val) 0#32)) 0#32 = 1#1) → s' = s) (p2 i a.arg16 a.arg22 a.arg23) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold p2
  by_cases hC : (Scalar.cmpi .ne (Scalar.extui (Scalar.cmpi .eq (BitVec.ofNat 32 (i 1).val) 0#32)) 0#32 = 1#1)
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

/-- At the first block of keys the operands of the rows are laid out and their sums cleared. -/
theorem begin_spec (c : Dev nD) (a : Args) (x : In F) (s : Mut F) (i : grid0.Coords) (v1 : Elt F .i32) :
    Branch c a x s (fun s' => ¬(Scalar.cmpi .ne (Scalar.extui (Scalar.cmpi .eq v1 0#32)) 0#32 = 1#1) → s' = s) (p3 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold p3
  by_cases hC : (Scalar.cmpi .ne (Scalar.extui (Scalar.cmpi .eq v1 0#32)) 0#32 = 1#1)
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

/-- At the last block of keys the sums of the rows are written out. -/
theorem rows_spec (c : Dev nD) (a : Args) (x : In F) (s : Mut F) (v3 : Elt F .i32) (v6 : IVec S1024x128 1) :
    Branch c a x s (fun s' => ¬k0_cond9 v3 = 1#1 → s' = s) (s9 a.arg13 a.harg13 a.arg17 a.arg21 v3 v6) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s9
  by_cases hC : k0_cond9 v3 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

/-- At the last step of a pair of heads the sums of the columns are written out. -/
theorem cols_spec (c : Dev nD) (a : Args) (x : In F) (s : Mut F) (i : grid0.Coords) :
    Branch c a x s (fun s' => ¬k0_cond10 i = 1#1 → s' = s) (s10 i a.arg14 a.harg14 a.arg15 a.harg15 a.arg22 a.arg23) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s10
  by_cases hC : k0_cond10 i = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

end Cert.KernelIdeal.Fox

end
-- ==== Proof.Fox.Joint.lean ====
/- The branch of a block below the diagonal. -/
module

public import proofs.«01_k».proof.Proof.Fox.Base

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- A block below the diagonal, both heads at once. -/
theorem joint_spec (c : Dev nD) (a : Args) (x : In F) (s : Mut F) (i : grid0.Coords) (v1 v3 : Elt F .i32) (v6 : IVec S1024x128 1) (v24 v35 : BitVec 1) (hw2 : k0_chk2 v1 v3 v24 v35) :
    Branch c a x s (fun s' => ¬k0_cond3 v3 v24 v35 = 1#1 → s' = s) (s3 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 v6 v24 v35 hw2) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s3
  by_cases hC : k0_cond3 v3 v24 v35 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

end Cert.KernelIdeal.Fox

end
-- ==== Proof.Fox.Apart.lean ====
/- The branches of a block of which only one head counts. -/
module

public import proofs.«01_k».proof.Proof.Fox.Base

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- A block below the diagonal, the first head alone. -/
theorem first_spec (c : Dev nD) (a : Args) (x : In F) (s : Mut F) (i : grid0.Coords) (v1 v3 : Elt F .i32) (v6 : IVec S1024x128 1) (v24 v35 : BitVec 1) (hw2 : k0_chk2 v1 v3 v24 v35) :
    Branch c a x s (fun s' => ¬k0_cond4 v3 v24 v35 = 1#1 → s' = s) (s4 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 v6 v24 v35 hw2) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s4
  by_cases hC : k0_cond4 v3 v24 v35 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

/-- The part of such a block next to the diagonal, the first head alone. -/
theorem first_near_spec (c : Dev nD) (a : Args) (x : In F) (s : Mut F) (i : grid0.Coords) (v1 v3 : Elt F .i32) (v6 : IVec S1024x128 1) (v24 v29 : BitVec 1) (hw3 : k0_chk3 v1 v3 v24 v29) :
    Branch c a x s (fun s' => ¬k0_cond5 v3 v24 v29 = 1#1 → s' = s) (s5 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 v6 v24 v29 hw3) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s5
  by_cases hC : k0_cond5 v3 v24 v29 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

/-- A block below the diagonal, the second head alone. -/
theorem second_spec (c : Dev nD) (a : Args) (x : In F) (s : Mut F) (i : grid0.Coords) (v1 v3 : Elt F .i32) (v6 : IVec S1024x128 1) (v24 v35 : BitVec 1) (hw2 : k0_chk2 v1 v3 v24 v35) :
    Branch c a x s (fun s' => ¬k0_cond6 v3 v24 v35 = 1#1 → s' = s) (s6 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 v6 v24 v35 hw2) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s6
  by_cases hC : k0_cond6 v3 v24 v35 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

/-- The part of such a block next to the diagonal, the second head alone. -/
theorem second_near_spec (c : Dev nD) (a : Args) (x : In F) (s : Mut F) (i : grid0.Coords) (v1 v3 : Elt F .i32) (v6 : IVec S1024x128 1) (v35 : BitVec 1) (v39 : Elt F .f32) (hw4 : PLift (k0_chk4 v1 v3 v35 (Scalar.cmpf .olt v39 (FloatOps.ofBits .f32 1056964608#32)))) :
    Branch c a x s (fun s' => ¬k0_cond7 v3 v35 (Scalar.cmpf .olt v39 (FloatOps.ofBits .f32 1056964608#32)) = 1#1 → s' = s) (s7 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 v6 v35 v39 hw4) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s7
  by_cases hC : k0_cond7 v3 v35 (Scalar.cmpf .olt v39 (FloatOps.ofBits .f32 1056964608#32)) = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

end Cert.KernelIdeal.Fox

end
-- ==== Proof.Fox.Diag.lean ====
/- The branch of a block on the diagonal. -/
module

public import proofs.«01_k».proof.Proof.Fox.Base

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- A block on the diagonal. -/
theorem diag_spec (c : Dev nD) (a : Args) (x : In F) (s : Mut F) (i : grid0.Coords) (v1 v3 : Elt F .i32) (hw5 : k0_chk5 v1 v3) (v6 : IVec S1024x128 1) :
    Branch c a x s (fun s' => ¬k0_cond8 v3 = 1#1 → s' = s) (s8 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 hw5 v6) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s8
  by_cases hC : k0_cond8 v3 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

end Cert.KernelIdeal.Fox

end
-- ==== Proof.Fox.Body.lean ====
/- The body as a whole. -/
module

public import proofs.«01_k».proof.Proof.Fox.Loads
public import proofs.«01_k».proof.Proof.Fox.Small
public import proofs.«01_k».proof.Proof.Fox.Joint
public import proofs.«01_k».proof.Proof.Fox.Apart
public import proofs.«01_k».proof.Proof.Fox.Diag

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- The side conditions of the body's stores at a step, of the words that the tables hold for it and of any flags. -/
structure Fits (x : In F) (i : grid0.Coords) : Prop where
  h5 : k0_chk5 (x.jj (place i)) (x.kk (place i))
  h1 : k0_chk1 i (x.jj (place i)) (x.ii (place i))
  h2 : ∀ b b', k0_chk2 (x.jj (place i)) (x.kk (place i)) b b'
  h3 : ∀ b b', k0_chk3 (x.jj (place i)) (x.kk (place i)) b b'
  h4 : ∀ b b', k0_chk4 (x.jj (place i)) (x.kk (place i)) b b'

/-- What comes before the blocks: the words are read, and the operands and sums are made ready. -/
theorem prologue_spec (c : Dev nD) (a : Args) (x : In F) (s : Mut F) (i : grid0.Coords) (h : Fits x i)
    {R : Type} (κ : s1.K (F := F) i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 (R := R)) (Q : R → sProp 𝕄) :
    held c a x s ⊢ iprop((∀ s' y23 y28 y34, held c a x s' -∗ wp frame (wpE (defs₀ (F := F)) Variants.none (c : Thread nD τ) none) Set.univ (κ (x.jj (place i)) (x.kk (place i)) h.h5 k0_pay174 (x.ii (place i)) h.h1
        (Scalar.cmpf .olt (x.dead y23) (FloatOps.ofBits .f32 1056964608#32)) (Scalar.cmpf .olt (x.dead y28) (FloatOps.ofBits .f32 1056964608#32)) (h.h3 _ _) (Scalar.cmpf .olt (x.dead y34) (FloatOps.ofBits .f32 1056964608#32)) (h.h2 _ _)) Q) -∗
      wp frame (wpE (defs₀ (F := F)) Variants.none (c : Thread nD τ) none) Set.univ (s1 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 κ) Q) := by
  iintro H Hκ
  unfold s1
  rw [k0_part27_eq_skeleton, wp_bind, p1.eq]
  iapply (tables_spec c a x s i h.h5) $$ [H]
  · iexact H
  iintro H
  rw [p2.eq]
  iapply (clear_spec c a x s i) $$ [H]
  · iexact H
  iintro %s' - H
  rw [p3.eq]
  iapply (begin_spec c a x s' i _) $$ [H]
  · iexact H
  iintro %s'' - H
  rw [p4.eq]
  iapply (flags_spec c a x s'' i _ _ h.h1 h.h3 h.h2) $$ [H]
  · iexact H
  iintro %y23 %y28 %y34 H
  unfold p4.tail
  dsimp only
  rw [wp_pure]; imodintro
  iapply Hκ $$ %s'' %y23 %y28 %y34
  iexact H

set_option maxHeartbeats 1000000 in
/-- The body keeps its buffers. -/
theorem body_spec (c : Dev nD) (a : Args) (x : In F) (s : Mut F) (i : grid0.Coords) (h : Fits x i) :
    held c a x s ⊢ wp frame (wpE (defs₀ (F := F)) Variants.none (c : Thread nD τ) none) Set.univ (cc0_fox_bwd i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23) (fun _ => iprop(∃ s', held c a x s')) := by
  iintro H
  rw [cc0_fox_bwd_eq_skeleton, s1.eq]
  iapply (prologue_spec c a x s i h) $$ [H]
  · iexact H
  iintro %t1 %y23 %y28 %y34 H
  rw [s2.eq]
  iapply (near_flag_spec c a x t1 i _ _ _ h.h1 _ (h.h4 _)) $$ [H]
  · iexact H
  iintro %y39 H
  rw [s3.eq]
  iapply (joint_spec c a x t1 i _ _ _ _ _ (h.h2 _ _)) $$ [H]
  · iexact H
  iintro %t3 - H
  rw [s4.eq]
  iapply (first_spec c a x t3 i _ _ _ _ _ (h.h2 _ _)) $$ [H]
  · iexact H
  iintro %t4 - H
  rw [s5.eq]
  iapply (first_near_spec c a x t4 i _ _ _ _ _ (h.h3 _ _)) $$ [H]
  · iexact H
  iintro %t5 - H
  rw [s6.eq]
  iapply (second_spec c a x t5 i _ _ _ _ _ (h.h2 _ _)) $$ [H]
  · iexact H
  iintro %t6 - H
  rw [s7.eq]
  iapply (second_near_spec c a x t6 i _ _ _ _ _ ⟨h.h4 _ _⟩) $$ [H]
  · iexact H
  iintro %t7 - H
  rw [s8.eq]
  iapply (diag_spec c a x t7 i _ _ h.h5 _) $$ [H]
  · iexact H
  iintro %t8 - H
  rw [s9.eq]
  iapply (rows_spec c a x t8 _ _) $$ [H]
  · iexact H
  iintro %t9 - H
  rw [s10.eq]
  iapply (cols_spec c a x t9 i) $$ [H]
  · iexact H
  iintro %t10 - H
  unfold s10.tail
  rw [wp_pure]; imodintro
  iexists t10
  iexact H

end Cert.KernelIdeal.Fox

end
-- ==== Proof.Fox.Tables.lean ====
/- The contents of the three tables of steps. -/
module

public import proofs.«01_k».proof.Proof.Fox.Body
public import Idealize.ShloMosaic.PureOps.BitExact

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

/-- What the three tables hold: the block of rows, the block of columns, and whether the step is the diagonal's. -/
def steps : pre0.Contents (Elt F)
  | 0 => fun x => lit0 (S36.rowMajor x)
  | 1 => fun x => lit1 (S36.rowMajor x)
  | 2 => fun x => lit2 (S36.rowMajor x)
  | ⟨_ + 3, h⟩ => absurd h (Nat.not_lt.2 (Nat.le_add_left _ _))

/-- The blocks that the tables choose lie in their arrays. -/
theorem steps_ok_bits : ok0 (F := Bits) steps := by decide +kernel

theorem steps_ok : ok0 (F := F) steps := steps_ok_bits

/-- The tables' contents, admitted. -/
def adm : (p : Fin 1) → (pcfgs (F := F) p).Adm := fun _ => ⟨steps, steps_ok⟩

theorem chk5_all : ∀ i : grid0.Coords, k0_chk5 (lit1 (S36.rowMajor (place i))) (lit2 (S36.rowMajor (place i))) := by decide +kernel
theorem chk1_all : ∀ i : grid0.Coords, k0_chk1 i (lit1 (S36.rowMajor (place i))) (lit0 (S36.rowMajor (place i))) := by decide +kernel
theorem chk2_all : ∀ (i : grid0.Coords) (b b' : Fin 2), k0_chk2 (lit1 (S36.rowMajor (place i))) (lit2 (S36.rowMajor (place i))) (BitVec.ofFin b) (BitVec.ofFin b') := by decide +kernel
theorem chk3_all : ∀ (i : grid0.Coords) (b b' : Fin 2), k0_chk3 (lit1 (S36.rowMajor (place i))) (lit2 (S36.rowMajor (place i))) (BitVec.ofFin b) (BitVec.ofFin b') := by decide +kernel
theorem chk4_all : ∀ (i : grid0.Coords) (b b' : Fin 2), k0_chk4 (lit1 (S36.rowMajor (place i))) (lit2 (S36.rowMajor (place i))) (BitVec.ofFin b) (BitVec.ofFin b') := by decide +kernel

/-- At every step the body's stores lie in their buffers. -/
theorem steps_fit (x : In F) (hii : x.ii = (steps 0 : S36.Idx → Elt F .i32)) (hjj : x.jj = (steps 1 : S36.Idx → Elt F .i32)) (hkk : x.kk = (steps 2 : S36.Idx → Elt F .i32)) (i : grid0.Coords) : Fits x i where
  h5 := by rw [hjj, hkk]; exact chk5_all i
  h1 := by rw [hjj, hii]; exact chk1_all i
  h2 b b' := by rw [hjj, hkk]; exact chk2_all i b.toFin b'.toFin
  h3 b b' := by rw [hjj, hkk]; exact chk3_all i b.toFin b'.toFin
  h4 b b' := by rw [hjj, hkk]; exact chk4_all i b.toFin b'.toFin

end Cert.KernelIdeal.Fox

end
-- ==== Proof.Fox.Frame.lean ====
/- The run of the whole program, from what one step does. -/
module

public import proofs.«01_k».proof.Proof.Fox.Tables
public import proofs.«01_k».proof.Proof.Gen.KernelIdeal.Launch

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- The pipeline at the tables' contents. -/
abbrev cfg : Pipeline.Cfg sig Λ₀ := Pipeline.pin (pcfgs (F := F)) adm 0

/-- A whole buffer that is owned at `X` is held at the contents that read `X`. -/
theorem owns_unread (c : Dev nD) {sp : Space} {sh : Shape} {e : EltTy} (M : Memref sig .tc sp sh e) (h : M.IsWhole) (X : sh.Idx → Elt F e) :
    (owns (c : Thread nD τ) M fullShare X : sProp 𝕄) = (M.view.loc (c : Thread nD τ) ↦{fullShare} h.unread X) := by
  have hr := h.read_unread (Val := Elt F) X
  obtain ⟨b, rfl, rfl, rfl, hM⟩ := id h
  cases hM
  rw [owns_whole]
  generalize Memref.IsWhole.unread _ X = f at hr ⊢
  subst hr
  rfl

/-- What a step is known to leave in the blocks of the results, of what it was given. -/
structure Leave (F : FTy → Type) where
  dq : grid0.Coords → (S1024x128.Idx → Elt F .bf16) → (S1024x128.Idx → Elt F .bf16) → Prop
  dkOut : grid0.Coords → (S8192x128.Idx → Elt F .bf16) → (S8192x128.Idx → Elt F .bf16) → Prop
  dvOut : grid0.Coords → (S8192x128.Idx → Elt F .bf16) → (S8192x128.Idx → Elt F .bf16) → Prop
  cs : grid0.Coords → (S8192x128.Idx → Elt F .f32) → (S8192x128.Idx → Elt F .f32) → Prop
  rs : grid0.Coords → (S1024x128.Idx → Elt F .f32) → (S1024x128.Idx → Elt F .f32) → Prop

/-- The buffers of step `t`. -/
def args (t : Fin (cfg (F := F)).N) : Args where
  arg2 := Memref.whole main_c
  harg2 := Memref.isWhole_whole _
  arg3 := Memref.whole main_c_0
  harg3 := Memref.isWhole_whole _
  arg4 := Memref.whole main_c_1
  harg4 := Memref.isWhole_whole _
  arg5 := spec0_0.stage ((cfg (F := F)).slots t (0 : Fin 13))
  harg5 := hstage0_0 (((cfg (F := F)).slots t (0 : Fin 13)).cast nbuf0_0)
  arg6 := spec0_1.stage ((cfg (F := F)).slots t (1 : Fin 13))
  harg6 := hstage0_1 (((cfg (F := F)).slots t (1 : Fin 13)).cast nbuf0_1)
  arg7 := spec0_2.stage ((cfg (F := F)).slots t (2 : Fin 13))
  harg7 := hstage0_2 (((cfg (F := F)).slots t (2 : Fin 13)).cast nbuf0_2)
  arg8 := spec0_3.stage ((cfg (F := F)).slots t (3 : Fin 13))
  harg8 := hstage0_3 (((cfg (F := F)).slots t (3 : Fin 13)).cast nbuf0_3)
  arg9 := spec0_4.stage ((cfg (F := F)).slots t (4 : Fin 13))
  harg9 := hstage0_4 (((cfg (F := F)).slots t (4 : Fin 13)).cast nbuf0_4)
  arg10 := spec0_5.stage ((cfg (F := F)).slots t (5 : Fin 13))
  harg10 := hstage0_5 (((cfg (F := F)).slots t (5 : Fin 13)).cast nbuf0_5)
  arg11 := spec0_6.stage ((cfg (F := F)).slots t (6 : Fin 13))
  harg11 := hstage0_6 (((cfg (F := F)).slots t (6 : Fin 13)).cast nbuf0_6)
  arg12 := spec0_7.stage ((cfg (F := F)).slots t (7 : Fin 13))
  harg12 := hstage0_7 (((cfg (F := F)).slots t (7 : Fin 13)).cast nbuf0_7)
  arg13 := spec0_8.stage ((cfg (F := F)).slots t (8 : Fin 13))
  harg13 := hstage0_8 (((cfg (F := F)).slots t (8 : Fin 13)).cast nbuf0_8)
  arg14 := spec0_9.stage ((cfg (F := F)).slots t (9 : Fin 13))
  harg14 := hstage0_9 (((cfg (F := F)).slots t (9 : Fin 13)).cast nbuf0_9)
  arg15 := spec0_10.stage ((cfg (F := F)).slots t (10 : Fin 13))
  harg15 := hstage0_10 (((cfg (F := F)).slots t (10 : Fin 13)).cast nbuf0_10)
  arg16 := spec0_11.stage ((cfg (F := F)).slots t (11 : Fin 13))
  harg16 := hstage0_11 (((cfg (F := F)).slots t (11 : Fin 13)).cast nbuf0_11)
  arg17 := spec0_12.stage ((cfg (F := F)).slots t (12 : Fin 13))
  harg17 := hstage0_12 (((cfg (F := F)).slots t (12 : Fin 13)).cast nbuf0_12)
  arg18 := Memref.whole cc0_scratch0
  harg18 := Memref.isWhole_whole _
  arg19 := Memref.whole cc0_scratch1
  harg19 := Memref.isWhole_whole _
  arg20 := Memref.whole cc0_scratch2
  harg20 := Memref.isWhole_whole _
  arg21 := Memref.whole cc0_scratch3
  harg21 := Memref.isWhole_whole _
  arg22 := Memref.whole cc0_scratch4
  harg22 := Memref.isWhole_whole _
  arg23 := Memref.whole cc0_scratch5
  harg23 := Memref.isWhole_whole _

/-- The body's table at a step. -/
theorem row (t : Fin (cfg (F := F)).N) :
    defs₀ (F := F) .tc (cfg (F := F)).body ((cfg (F := F)).bodyArgs t ((cfg (F := F)).slots t))
      = cc0_fox_bwd (grid0.coords t) (args t).arg2 (args t).harg2 (args t).arg3 (args t).harg3 (args t).arg4 (args t).harg4 (args t).arg5 (args t).harg5 (args t).arg6 (args t).harg6 (args t).arg7 (args t).harg7 (args t).arg8 (args t).harg8 (args t).arg9 (args t).harg9 (args t).arg10 (args t).harg10 (args t).arg11 (args t).harg11 (args t).arg12 (args t).harg12 (args t).arg13 (args t).harg13 (args t).arg14 (args t).harg14 (args t).arg15 (args t).harg15 (args t).arg16 (args t).harg16 (args t).arg17 (args t).harg17 (args t).arg18 (args t).harg18 (args t).arg19 (args t).harg19 (args t).arg20 (args t).harg20 (args t).arg21 (args t).harg21 (args t).arg22 (args t).harg22 (args t).arg23 (args t).harg23 := by
  unfold defs₀; rw [Defs.onTc_tc]
  rfl

/-- What the steps carry to one another: the tables and the scratch. -/
def carried (c : Dev nD) (s : Mut F) : sProp 𝕄 :=
  iprop(((Memref.whole main_c).view.loc (c : Thread nD τ) ↦{fullShare.right} (Memref.isWhole_whole main_c).unread (steps (F := F) 0)) ∗
    ((Memref.whole main_c_0).view.loc (c : Thread nD τ) ↦{fullShare.right} (Memref.isWhole_whole main_c_0).unread (steps (F := F) 1)) ∗
    ((Memref.whole main_c_1).view.loc (c : Thread nD τ) ↦{fullShare.right} (Memref.isWhole_whole main_c_1).unread (steps (F := F) 2)) ∗
    ((Memref.whole cc0_scratch0).view.loc (c : Thread nD τ) ↦{fullShare} (Memref.isWhole_whole cc0_scratch0).unread s.qs) ∗
    ((Memref.whole cc0_scratch1).view.loc (c : Thread nD τ) ↦{fullShare} (Memref.isWhole_whole cc0_scratch1).unread s.qo) ∗
    ((Memref.whole cc0_scratch2).view.loc (c : Thread nD τ) ↦{fullShare} (Memref.isWhole_whole cc0_scratch2).unread s.dos) ∗
    ((Memref.whole cc0_scratch3).view.loc (c : Thread nD τ) ↦{fullShare} (Memref.isWhole_whole cc0_scratch3).unread s.acc) ∗
    ((Memref.whole cc0_scratch4).view.loc (c : Thread nD τ) ↦{fullShare} (Memref.isWhole_whole cc0_scratch4).unread s.dk) ∗
    ((Memref.whole cc0_scratch5).view.loc (c : Thread nD τ) ↦{fullShare} (Memref.isWhole_whole cc0_scratch5).unread s.dv) ∗
    ∃ r, prngReg c r)

/-- The proof's data: what is in the arrays, what a step leaves, and what the steps carry. -/
def data (m : (ℓ : Loc nD τ sig) → Buf (Elt F) ℓ) (Inv : Fin (grid0.N + 1) → Mut F → Prop) (L : Leave F) (c : Dev nD) :
    Pipeline.RDat τ (Elt F) Unit ℕ (UR sig nD τ) ℕ (cfg (F := F)) c where
  A := fun w => StableHlo.after (hostOps0 ++ (hostOps0_1 ++ (hostOps0_2 ++ []))) (fun b => m (c, b)) (Pipeline.arrRef (cfg (F := F)).spec w)
  after := fun
    | (0 : Fin 13) => fun _ Y X => X = Y
    | (1 : Fin 13) => fun _ Y X => X = Y
    | (2 : Fin 13) => fun _ Y X => X = Y
    | (3 : Fin 13) => fun _ Y X => X = Y
    | (4 : Fin 13) => fun _ Y X => X = Y
    | (5 : Fin 13) => fun _ Y X => X = Y
    | (6 : Fin 13) => fun _ Y X => X = Y
    | (7 : Fin 13) => fun _ Y X => X = Y
    | (8 : Fin 13) => fun t Y X => L.dq (grid0.coords t) Y X
    | (9 : Fin 13) => fun t Y X => L.dkOut (grid0.coords t) Y X
    | (10 : Fin 13) => fun t Y X => L.dvOut (grid0.coords t) Y X
    | (11 : Fin 13) => fun t Y X => L.cs (grid0.coords t) Y X
    | (12 : Fin 13) => fun t Y X => L.rs (grid0.coords t) Y X
    | ⟨_ + 13, h⟩ => absurd h (Nat.not_lt.2 (Nat.le_add_left _ _))
  Φ := fun t => iprop(∃ s : Mut F, ⌜Inv t s⌝ ∗ carried c s)
  q := Pipeline.shareOf (cfg (F := F)).spec
  owed := fun _ => 0

/-- What the step reads, of the blocks it is given. -/
def inOf (Y : (w : Fin 13) → ((cfg (F := F)).win w).block.Idx → Elt F ((cfg (F := F)).win w).elt) : In F where
  ii := steps 0
  jj := steps 1
  kk := steps 2
  q := Y (0 : Fin 13)
  k := Y (1 : Fin 13)
  v := Y (2 : Fin 13)
  ck := Y (3 : Fin 13)
  dead := Y (4 : Fin 13)
  dO := Y (5 : Fin 13)
  ln := Y (6 : Fin 13)
  delta := Y (7 : Fin 13)

/-- What the step writes, of the blocks it is given and the scratch. -/
def mutOf (Y : (w : Fin 13) → ((cfg (F := F)).win w).block.Idx → Elt F ((cfg (F := F)).win w).elt) (s : Mut F) : Mut F :=
  { s with dq := Y (8 : Fin 13), dkOut := Y (9 : Fin 13), dvOut := Y (10 : Fin 13), cs := Y (11 : Fin 13), rs := Y (12 : Fin 13) }

theorem whole_held (c : Dev nD) (b : Ref sig .tc) (q : PosShare TreeShare) (h : (Memref.whole b).IsWhole) (X : b.ty.shape.Idx → Elt F b.ty.elt) :
    (((Memref.whole b).view.loc (c : Thread nD τ) ↦{q} h.unread X : sProp 𝕄)) = (((c : Thread nD τ).loc b) ↦{q} (X : Buf (Elt F) ((c : Thread nD τ).loc b))) := by
  have hr := h.read_unread (Val := Elt F) X
  generalize Memref.IsWhole.unread _ X = f at hr ⊢
  subst hr
  rfl

theorem tables_eq (c : Dev nD) :
    (Pipeline.ΦT (U := UR sig nD τ) pre0 (steps (F := F)) c : sProp 𝕄)
      = iprop((((c : Thread nD τ).loc main_c) ↦{fullShare.right} (steps (F := F) 0 : Buf (Elt F) ((c : Thread nD τ).loc main_c))) ∗
        (((c : Thread nD τ).loc main_c_0) ↦{fullShare.right} (steps (F := F) 1 : Buf (Elt F) ((c : Thread nD τ).loc main_c_0))) ∗
        (((c : Thread nD τ).loc main_c_1) ↦{fullShare.right} (steps (F := F) 2 : Buf (Elt F) ((c : Thread nD τ).loc main_c_1)))) :=
  bigSep_univ_eq_bigSepL [(0 : Fin 3), (1 : Fin 3), (2 : Fin 3)] (by decide) (by decide) _

theorem gathered (c : Dev nD) (a : Args) (x : In F) (s : Mut F) (P : sProp 𝕄) :
    iprop((owns (c : Thread nD τ) a.arg5 fullShare x.q ∗ owns (c : Thread nD τ) a.arg6 fullShare x.k ∗ owns (c : Thread nD τ) a.arg7 fullShare x.v ∗ owns (c : Thread nD τ) a.arg8 fullShare x.ck ∗ owns (c : Thread nD τ) a.arg9 fullShare x.dead ∗ owns (c : Thread nD τ) a.arg10 fullShare x.dO ∗ owns (c : Thread nD τ) a.arg11 fullShare x.ln ∗ owns (c : Thread nD τ) a.arg12 fullShare x.delta ∗ owns (c : Thread nD τ) a.arg13 fullShare s.dq ∗ owns (c : Thread nD τ) a.arg14 fullShare s.dkOut ∗ owns (c : Thread nD τ) a.arg15 fullShare s.dvOut ∗ owns (c : Thread nD τ) a.arg16 fullShare s.cs ∗ owns (c : Thread nD τ) a.arg17 fullShare s.rs) ∗ ((a.arg2.view.loc (c : Thread nD τ) ↦{fullShare.right} a.harg2.unread x.ii) ∗ (a.arg3.view.loc (c : Thread nD τ) ↦{fullShare.right} a.harg3.unread x.jj) ∗ (a.arg4.view.loc (c : Thread nD τ) ↦{fullShare.right} a.harg4.unread x.kk) ∗ (a.arg18.view.loc (c : Thread nD τ) ↦{fullShare} a.harg18.unread s.qs) ∗ (a.arg19.view.loc (c : Thread nD τ) ↦{fullShare} a.harg19.unread s.qo) ∗ (a.arg20.view.loc (c : Thread nD τ) ↦{fullShare} a.harg20.unread s.dos) ∗ (a.arg21.view.loc (c : Thread nD τ) ↦{fullShare} a.harg21.unread s.acc) ∗ (a.arg22.view.loc (c : Thread nD τ) ↦{fullShare} a.harg22.unread s.dk) ∗ (a.arg23.view.loc (c : Thread nD τ) ↦{fullShare} a.harg23.unread s.dv) ∗ P)) ⊢ (iprop(held c a x s ∗ P) : sProp 𝕄) := by
  unfold held
  iintro ⟨⟨H5, H6, H7, H8, H9, H10, H11, H12, H13, H14, H15, H16, H17⟩, T2, T3, T4, S18, S19, S20, S21, S22, S23, P⟩
  ihave H5 := (Entails.of_eq (owns_unread c a.arg5 a.harg5 x.q)) $$ H5
  ihave H6 := (Entails.of_eq (owns_unread c a.arg6 a.harg6 x.k)) $$ H6
  ihave H7 := (Entails.of_eq (owns_unread c a.arg7 a.harg7 x.v)) $$ H7
  ihave H8 := (Entails.of_eq (owns_unread c a.arg8 a.harg8 x.ck)) $$ H8
  ihave H9 := (Entails.of_eq (owns_unread c a.arg9 a.harg9 x.dead)) $$ H9
  ihave H10 := (Entails.of_eq (owns_unread c a.arg10 a.harg10 x.dO)) $$ H10
  ihave H11 := (Entails.of_eq (owns_unread c a.arg11 a.harg11 x.ln)) $$ H11
  ihave H12 := (Entails.of_eq (owns_unread c a.arg12 a.harg12 x.delta)) $$ H12
  ihave H13 := (Entails.of_eq (owns_unread c a.arg13 a.harg13 s.dq)) $$ H13
  ihave H14 := (Entails.of_eq (owns_unread c a.arg14 a.harg14 s.dkOut)) $$ H14
  ihave H15 := (Entails.of_eq (owns_unread c a.arg15 a.harg15 s.dvOut)) $$ H15
  ihave H16 := (Entails.of_eq (owns_unread c a.arg16 a.harg16 s.cs)) $$ H16
  ihave H17 := (Entails.of_eq (owns_unread c a.arg17 a.harg17 s.rs)) $$ H17
  isplitr [P]
  · iframe
  · iexact P

/-- A step's blocks and what is carried to it are all that its body works on. -/
theorem gather (c : Dev nD) (t : Fin (cfg (F := F)).N) (Y : (w : Fin 13) → ((cfg (F := F)).win w).block.Idx → Elt F ((cfg (F := F)).win w).elt) (s : Mut F) :
    iprop((bigSep (Finset.univ : Finset (Fin 13)) fun w => owns (c : Thread nD τ) (((cfg (F := F)).win w).stage ((cfg (F := F)).slots t w)) fullShare (Y w)) ∗ carried c s)
      ⊢ (iprop(held c (args t) (inOf Y) (mutOf Y s) ∗ ∃ r, prngReg c r) : sProp 𝕄) := by
  rw [bigSep_W0]
  exact gathered c (args t) (inOf Y) (mutOf Y s) _

theorem scattered (c : Dev nD) (a : Args) (x : In F) (s : Mut F) (P : sProp 𝕄) :
    (iprop(held c a x s ∗ P) : sProp 𝕄) ⊢ iprop((owns (c : Thread nD τ) a.arg5 fullShare x.q ∗ owns (c : Thread nD τ) a.arg6 fullShare x.k ∗ owns (c : Thread nD τ) a.arg7 fullShare x.v ∗ owns (c : Thread nD τ) a.arg8 fullShare x.ck ∗ owns (c : Thread nD τ) a.arg9 fullShare x.dead ∗ owns (c : Thread nD τ) a.arg10 fullShare x.dO ∗ owns (c : Thread nD τ) a.arg11 fullShare x.ln ∗ owns (c : Thread nD τ) a.arg12 fullShare x.delta ∗ owns (c : Thread nD τ) a.arg13 fullShare s.dq ∗ owns (c : Thread nD τ) a.arg14 fullShare s.dkOut ∗ owns (c : Thread nD τ) a.arg15 fullShare s.dvOut ∗ owns (c : Thread nD τ) a.arg16 fullShare s.cs ∗ owns (c : Thread nD τ) a.arg17 fullShare s.rs) ∗ ((a.arg2.view.loc (c : Thread nD τ) ↦{fullShare.right} a.harg2.unread x.ii) ∗ (a.arg3.view.loc (c : Thread nD τ) ↦{fullShare.right} a.harg3.unread x.jj) ∗ (a.arg4.view.loc (c : Thread nD τ) ↦{fullShare.right} a.harg4.unread x.kk) ∗ (a.arg18.view.loc (c : Thread nD τ) ↦{fullShare} a.harg18.unread s.qs) ∗ (a.arg19.view.loc (c : Thread nD τ) ↦{fullShare} a.harg19.unread s.qo) ∗ (a.arg20.view.loc (c : Thread nD τ) ↦{fullShare} a.harg20.unread s.dos) ∗ (a.arg21.view.loc (c : Thread nD τ) ↦{fullShare} a.harg21.unread s.acc) ∗ (a.arg22.view.loc (c : Thread nD τ) ↦{fullShare} a.harg22.unread s.dk) ∗ (a.arg23.view.loc (c : Thread nD τ) ↦{fullShare} a.harg23.unread s.dv) ∗ P)) := by
  unfold held
  iintro ⟨⟨T2, T3, T4, H5, H6, H7, H8, H9, H10, H11, H12, H13, H14, H15, H16, H17, S18, S19, S20, S21, S22, S23⟩, P⟩
  ihave H5 := (Entails.of_eq (owns_unread c a.arg5 a.harg5 x.q).symm) $$ H5
  ihave H6 := (Entails.of_eq (owns_unread c a.arg6 a.harg6 x.k).symm) $$ H6
  ihave H7 := (Entails.of_eq (owns_unread c a.arg7 a.harg7 x.v).symm) $$ H7
  ihave H8 := (Entails.of_eq (owns_unread c a.arg8 a.harg8 x.ck).symm) $$ H8
  ihave H9 := (Entails.of_eq (owns_unread c a.arg9 a.harg9 x.dead).symm) $$ H9
  ihave H10 := (Entails.of_eq (owns_unread c a.arg10 a.harg10 x.dO).symm) $$ H10
  ihave H11 := (Entails.of_eq (owns_unread c a.arg11 a.harg11 x.ln).symm) $$ H11
  ihave H12 := (Entails.of_eq (owns_unread c a.arg12 a.harg12 x.delta).symm) $$ H12
  ihave H13 := (Entails.of_eq (owns_unread c a.arg13 a.harg13 s.dq).symm) $$ H13
  ihave H14 := (Entails.of_eq (owns_unread c a.arg14 a.harg14 s.dkOut).symm) $$ H14
  ihave H15 := (Entails.of_eq (owns_unread c a.arg15 a.harg15 s.dvOut).symm) $$ H15
  ihave H16 := (Entails.of_eq (owns_unread c a.arg16 a.harg16 s.cs).symm) $$ H16
  ihave H17 := (Entails.of_eq (owns_unread c a.arg17 a.harg17 s.rs).symm) $$ H17
  isplitr [P T2 T3 T4 S18 S19 S20 S21 S22 S23]
  · iframe
  · iframe

/-- What a step left, of what it was given. -/
structure Left (L : Leave F) (i : grid0.Coords) (Y : (w : Fin 13) → ((cfg (F := F)).win w).block.Idx → Elt F ((cfg (F := F)).win w).elt) (s : Mut F) : Prop where
  dq : L.dq i (Y (8 : Fin 13)) s.dq
  dkOut : L.dkOut i (Y (9 : Fin 13)) s.dkOut
  dvOut : L.dvOut i (Y (10 : Fin 13)) s.dvOut
  cs : L.cs i (Y (11 : Fin 13)) s.cs
  rs : L.rs i (Y (12 : Fin 13)) s.rs

/-- What its body worked on is a step's blocks and what is carried from it. -/
theorem scatter (m : (ℓ : Loc nD τ sig) → Buf (Elt F) ℓ) (Inv : Fin (grid0.N + 1) → Mut F → Prop) (L : Leave F) (c : Dev nD)
    (t : Fin (cfg (F := F)).N) (Y : (w : Fin 13) → ((cfg (F := F)).win w).block.Idx → Elt F ((cfg (F := F)).win w).elt) (s : Mut F) (h : Left L (grid0.coords t) Y s) :
    (iprop(held c (args t) (inOf Y) s ∗ ∃ r, prngReg c r) : sProp 𝕄) ⊢
      iprop((bigSep (Finset.univ : Finset (Fin 13)) fun w => iprop(∃ X, ⌜(data m Inv L c).after w t (Y w) X⌝ ∗ owns (c : Thread nD τ) (((cfg (F := F)).win w).stage ((cfg (F := F)).slots t w)) fullShare X)) ∗ carried c s) := by
  refine (show _ ⊢ iprop(_ ∗ carried c s) from scattered c (args t) (inOf Y) s _).trans ?_
  rw [bigSep_W0]
  iintro ⟨⟨H0, H1, H2, H3, H4, H5, H6, H7, H8, H9, H10, H11, H12⟩, C⟩
  isplitr [C]
  · isplitl [H0]
    · iexists (Y (0 : Fin 13)); isplitr; · ipureintro; exact rfl
      iexact H0
    isplitl [H1]
    · iexists (Y (1 : Fin 13)); isplitr; · ipureintro; exact rfl
      iexact H1
    isplitl [H2]
    · iexists (Y (2 : Fin 13)); isplitr; · ipureintro; exact rfl
      iexact H2
    isplitl [H3]
    · iexists (Y (3 : Fin 13)); isplitr; · ipureintro; exact rfl
      iexact H3
    isplitl [H4]
    · iexists (Y (4 : Fin 13)); isplitr; · ipureintro; exact rfl
      iexact H4
    isplitl [H5]
    · iexists (Y (5 : Fin 13)); isplitr; · ipureintro; exact rfl
      iexact H5
    isplitl [H6]
    · iexists (Y (6 : Fin 13)); isplitr; · ipureintro; exact rfl
      iexact H6
    isplitl [H7]
    · iexists (Y (7 : Fin 13)); isplitr; · ipureintro; exact rfl
      iexact H7
    isplitl [H8]
    · iexists s.dq; isplitr; · ipureintro; exact h.dq
      iexact H8
    isplitl [H9]
    · iexists s.dkOut; isplitr; · ipureintro; exact h.dkOut
      iexact H9
    isplitl [H10]
    · iexists s.dvOut; isplitr; · ipureintro; exact h.dvOut
      iexact H10
    isplitl [H11]
    · iexists s.cs; isplitr; · ipureintro; exact h.cs
      iexact H11
    iexists s.rs; isplitr; · ipureintro; exact h.rs
    iexact H12
  · iexact C

/-- The pipeline's obligation, of what one step does. -/
theorem obligation (m : (ℓ : Loc nD τ sig) → Buf (Elt F) ℓ) (Inv : Fin (grid0.N + 1) → Mut F → Prop) (L : Leave F) (c : Dev nD)
    (step : ∀ (t : Fin (cfg (F := F)).N) (Y : (w : Fin 13) → ((cfg (F := F)).win w).block.Idx → Elt F ((cfg (F := F)).win w).elt) (s : Mut F),
      (∀ w, (data m Inv L c).Finds w t (Y w)) → Inv t.castSucc s →
      held c (args t) (inOf Y) (mutOf Y s) ⊢ wp frame (wpE (defs₀ (F := F)) Variants.none (c : Thread nD τ) none) Set.univ
        (cc0_fox_bwd (grid0.coords t) (args t).arg2 (args t).harg2 (args t).arg3 (args t).harg3 (args t).arg4 (args t).harg4 (args t).arg5 (args t).harg5 (args t).arg6 (args t).harg6 (args t).arg7 (args t).harg7 (args t).arg8 (args t).harg8 (args t).arg9 (args t).harg9 (args t).arg10 (args t).harg10 (args t).arg11 (args t).harg11 (args t).arg12 (args t).harg12 (args t).arg13 (args t).harg13 (args t).arg14 (args t).harg14 (args t).arg15 (args t).harg15 (args t).arg16 (args t).harg16 (args t).arg17 (args t).harg17 (args t).arg18 (args t).harg18 (args t).arg19 (args t).harg19 (args t).arg20 (args t).harg20 (args t).arg21 (args t).harg21 (args t).arg22 (args t).harg22 (args t).arg23 (args t).harg23)
        (fun _ => iprop(∃ s', ⌜Inv t.succ s' ∧ Left L (grid0.coords t) Y s'⌝ ∗ held c (args t) (inOf Y) s'))) :
    (data m Inv L c).BodyObligation (defs₀ (F := F)) Variants.none () Set.univ := by
  intro t Y hY
  rw [row]
  refine (show _ ⊢ iprop((∃ s, ⌜Inv t.castSucc s⌝ ∗ carried c s) ∗ (data m Inv L c).owesAt () t.castSucc ∗
    bigSep (Finset.univ : Finset (Fin 13)) fun w => owns (c : Thread nD τ) (((cfg (F := F)).win w).stage ((cfg (F := F)).slots t w)) fullShare (Y w)) from .rfl).trans ?_
  iintro ⟨⟨%s, %hs, C⟩, O, B⟩
  ihave H := (gather c t Y s) $$ [C B]
  · isplitl [B]
    · iexact B
    · iexact C
  icases H with ⟨H, P⟩
  ihave W := (step t Y s hY hs) $$ H
  iapply (wp_wand frame (wpE (defs₀ (F := F)) Variants.none (c : Thread nD τ) none) Set.univ) $$ W
  iintro %_ ⟨%s', %hs', H⟩
  ihave H := (scatter m Inv L c t Y s' hs'.2) $$ [H P]
  · isplitl [H]
    · iexact H
    · iexact P
  icases H with ⟨B, C⟩
  isplitl [C]
  · iapply (show iprop(∃ s, ⌜Inv t.succ s⌝ ∗ carried c s) ⊢ (data m Inv L c).Φ t.succ from .rfl)
    iexists s'
    isplitr
    · ipureintro; exact hs'.1
    · iexact C
  isplitl [O]
  · iexact O
  · iexact B

end Cert.KernelIdeal.Fox

end
-- ==== Proof.Fox.Run.lean ====
/- The run of the program and its frame. -/
module

public import proofs.«01_k».proof.Proof.Fox.Frame
public import Idealize.ShloMosaic.Lib.StableHlo.RunRead

@[expose] public section

set_option maxRecDepth 16384

noncomputable section

namespace Cert.KernelIdeal.Fox

open Idealize.ShloMosaic Idealize.SL.Sem Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- What the operations `hostOps0` write, in order. -/
def firstWritten : List (Ref sig .tc) := [main_c, main_c_0, main_c_1, main_v0, main_v1, main_v2, main_v3, main_v4, main_v5, main_v6, main_v7, main_v8, main_cst, main_v9, main_v10, main_cst_2, main_v11, main_v12, main_v13, main_v14, main_v15, main_v16, main_v17, main_v18, main_v19, main_v20, main_v21, main_v22, main_cst_3]

theorem firstWritten_eq : (hostOps0 (F := F)).map HloOp.writes = firstWritten.map fun w => {Proc.devRef (τ := τ) .tc w} := rfl

/-- What the operations `hostOps0_1` write, in order. -/
def secondWritten : List (Ref sig .tc) := [main_call0_v0, main_call0_v1, main_call0_v2, main_v23]

theorem secondWritten_eq : (hostOps0_1 (F := F)).map HloOp.writes = secondWritten.map fun w => {Proc.devRef (τ := τ) .tc w} := rfl

/-- What the operations `hostOps0_2` write, in order. -/
def thirdWritten : List (Ref sig .tc) := [main_cst_4, main_v24, main_v25, main_v26, main_v27, main_v28, main_cst_5, main_v29, main_v30, main_v31, main_v32, main_v33, main_v34, main_v35, main_v36, main_v37, main_v38, main_v39, main_v40, main_v41, main_v42, main_v43, main_v44, main_v45, main_cst_6, main_v46, main_v47, main_v48, main_v49, main_v50, main_v51]

theorem thirdWritten_eq : (hostOps0_2 (F := F)).map HloOp.writes = thirdWritten.map fun w => {Proc.devRef (τ := τ) .tc w} := rfl

/-- What the buffers hold when the kernel is called. -/
def before (m : (ℓ : Loc nD τ sig) → Buf (Elt F) ℓ) (c : Dev nD) : Valuation τ sig (Elt F) :=
  StableHlo.after (hostOps0 ++ (hostOps0_1 ++ (hostOps0_2 ++ []))) (fun b => m (c, b))

/-- A buffer that no operation writes is as it was. -/
theorem before_unwritten (m : (ℓ : Loc nD τ sig) → Buf (Elt F) ℓ) (c : Dev nD) (r : Ref sig .tc)
    (h₁ : r ∉ firstWritten) (h₂ : r ∉ secondWritten) (h₃ : r ∉ thirdWritten) : before m c r = m ((c : Thread nD τ).loc r) := by
  unfold before
  rw [StableHlo.after_append, StableHlo.after_append, StableHlo.after_append, StableHlo.after_nil,
    StableHlo.after_unwritten thirdWritten thirdWritten_eq h₃, StableHlo.after_unwritten secondWritten secondWritten_eq h₂,
    StableHlo.after_unwritten firstWritten firstWritten_eq h₁]

/-- A table is as the first operations leave it. -/
theorem before_table (m : (ℓ : Loc nD τ sig) → Buf (Elt F) ℓ) (c : Dev nD) (r : Ref sig .tc)
    (h₂ : r ∉ secondWritten) (h₃ : r ∉ thirdWritten) : before m c r = StableHlo.after hostOps0 (fun b => m (c, b)) r := by
  unfold before
  rw [StableHlo.after_append, StableHlo.after_append, StableHlo.after_append, StableHlo.after_nil,
    StableHlo.after_unwritten thirdWritten thirdWritten_eq h₃, StableHlo.after_unwritten secondWritten secondWritten_eq h₂]

theorem before_steps (m : (ℓ : Loc nD τ sig) → Buf (Elt F) ℓ) (c : Dev nD) : ∀ k : Fin 3, before m c (pre0.ref k) = steps (F := F) k
  | 0 => by
    refine (before_table m c main_c (by decide +kernel) (by decide +kernel)).trans ?_
    rw [StableHlo.after_last_write (i := 0) firstWritten.tail rfl rfl (by decide +kernel)]
    exact StableHlo.nullary_result' ..
  | 1 => by
    refine (before_table m c main_c_0 (by decide +kernel) (by decide +kernel)).trans ?_
    rw [StableHlo.after_last_write (i := 1) firstWritten.tail.tail rfl rfl (by decide +kernel)]
    exact StableHlo.nullary_result' ..
  | 2 => by
    refine (before_table m c main_c_1 (by decide +kernel) (by decide +kernel)).trans ?_
    rw [StableHlo.after_last_write (i := 2) firstWritten.tail.tail.tail rfl rfl (by decide +kernel)]
    exact StableHlo.nullary_result' ..

/-- What the scratch holds before the first step is anything. -/
theorem enter (m : (ℓ : Loc nD τ sig) → Buf (Elt F) ℓ) (Inv : Fin (grid0.N + 1) → Mut F → Prop) (L : Leave F) (c : Dev nD) (h0 : ∀ s, Inv 0 s) :
    iprop(Pipeline.ΦA (U := UR sig nD τ) spec0 c ∗ Pipeline.ΦT (U := UR sig nD τ) pre0 (steps (F := F)) c) ⊢ (data m Inv L c).Φ 0 := by
  refine .trans ?_ (show (iprop(∃ s, ⌜Inv 0 s⌝ ∗ carried c s) : sProp 𝕄) ⊢ (data m Inv L c).Φ 0 from .rfl)
  unfold Pipeline.ΦA carried
  rw [tables_eq, scopedRest0_eq]
  iintro ⟨⟨⟨⟨%s0, S0⟩, ⟨%s1, S1⟩, ⟨%s2, S2⟩, ⟨%s3, S3⟩, ⟨%s4, S4⟩, ⟨%s5, S5⟩⟩, P⟩, T0, T1, T2⟩
  iexists ⟨fun _ => FloatOps.ofBits .bf16 0#16, fun _ => FloatOps.ofBits .bf16 0#16, fun _ => FloatOps.ofBits .bf16 0#16, fun _ => FloatOps.ofBits .f32 0#32, fun _ => FloatOps.ofBits .f32 0#32, s0, s1, s2, s3, s4, s5⟩
  isplitr
  · ipureintro; exact h0 _
  ihave S0 := (Entails.of_eq (whole_held c cc0_scratch0 fullShare (Memref.isWhole_whole _) s0).symm) $$ S0
  ihave S1 := (Entails.of_eq (whole_held c cc0_scratch1 fullShare (Memref.isWhole_whole _) s1).symm) $$ S1
  ihave S2 := (Entails.of_eq (whole_held c cc0_scratch2 fullShare (Memref.isWhole_whole _) s2).symm) $$ S2
  ihave S3 := (Entails.of_eq (whole_held c cc0_scratch3 fullShare (Memref.isWhole_whole _) s3).symm) $$ S3
  ihave S4 := (Entails.of_eq (whole_held c cc0_scratch4 fullShare (Memref.isWhole_whole _) s4).symm) $$ S4
  ihave S5 := (Entails.of_eq (whole_held c cc0_scratch5 fullShare (Memref.isWhole_whole _) s5).symm) $$ S5
  ihave T0 := (Entails.of_eq (whole_held c main_c fullShare.right (Memref.isWhole_whole _) (steps (F := F) 0)).symm) $$ T0
  ihave T1 := (Entails.of_eq (whole_held c main_c_0 fullShare.right (Memref.isWhole_whole _) (steps (F := F) 1)).symm) $$ T1
  ihave T2 := (Entails.of_eq (whole_held c main_c_1 fullShare.right (Memref.isWhole_whole _) (steps (F := F) 2)).symm) $$ T2
  iframe

/-- After the last step the scratch is given back. -/
theorem leave (m : (ℓ : Loc nD τ sig) → Buf (Elt F) ℓ) (Inv : Fin (grid0.N + 1) → Mut F → Prop) (L : Leave F) (c : Dev nD) :
    (data m Inv L c).Φ (Fin.last grid0.N) ⊢ Pipeline.ΦA (U := UR sig nD τ) spec0 c := by
  refine (show (data m Inv L c).Φ (Fin.last grid0.N) ⊢ (iprop(∃ s, ⌜Inv (Fin.last grid0.N) s⌝ ∗ carried c s) : sProp 𝕄) from .rfl).trans ?_
  unfold Pipeline.ΦA carried
  rw [scopedRest0_eq]
  iintro ⟨%s, -, -, -, -, S0, S1, S2, S3, S4, S5, P⟩
  ihave S0 := (Entails.of_eq (whole_held c cc0_scratch0 fullShare (Memref.isWhole_whole _) s.qs)) $$ S0
  ihave S1 := (Entails.of_eq (whole_held c cc0_scratch1 fullShare (Memref.isWhole_whole _) s.qo)) $$ S1
  ihave S2 := (Entails.of_eq (whole_held c cc0_scratch2 fullShare (Memref.isWhole_whole _) s.dos)) $$ S2
  ihave S3 := (Entails.of_eq (whole_held c cc0_scratch3 fullShare (Memref.isWhole_whole _) s.acc)) $$ S3
  ihave S4 := (Entails.of_eq (whole_held c cc0_scratch4 fullShare (Memref.isWhole_whole _) s.dk)) $$ S4
  ihave S5 := (Entails.of_eq (whole_held c cc0_scratch5 fullShare (Memref.isWhole_whole _) s.dv)) $$ S5
  isplitr [P]
  · isplitl [S0]
    · iexists _; iexact S0
    isplitl [S1]
    · iexists _; iexact S1
    isplitl [S2]
    · iexists _; iexact S2
    isplitl [S3]
    · iexists _; iexact S3
    isplitl [S4]
    · iexists _; iexact S4
    iexists _; iexact S5
  · iexact P

/-- The program runs, and ends with what its steps leave. -/
theorem run (m : (ℓ : Loc nD τ sig) → Buf (Elt F) ℓ) (g : Dev nD → PrngReg) (Inv : Dev nD → Fin (grid0.N + 1) → Mut F → Prop) (L : Dev nD → Leave F)
    (h0 : ∀ c s, Inv c 0 s) (step : ∀ c, (data m (Inv c) (L c) c).BodyObligation (defs₀ (F := F)) Variants.none () Set.univ) :
    θ_run (defs (F := F)) (onTc (main (F := F))) ⟨m, fun _ => 0, g⟩
      (fun r => Pipeline.RDat.FramePost (cfg (F := F)) (fun c => data m (Inv c) (L c) c) (fun c b => before m c b) r ∧ r.2.sem = fun _ => 0) :=
  Pipeline.RDat.θ_run_frameP_track_shared (pcfgs (F := F)) adm 0 launch₀0 (defs₀ (F := F)) Variants.none (fun c => data m (Inv c) (L c) c) m g (main (F := F))
    step (fun _ _ _ => rfl) (fun _ _ => rfl) (fun c b => before m c b)
    (Pipeline.hmainP_prefixes (pcfgs (F := F)) 0 (defs₀ (F := F)) Variants.none m (main (F := F)) [hostOps0, hostOps0_1, hostOps0_2]
      ⟨hostOps0_sub, hostOps0_1_sub, hostOps0_2_sub⟩ ⟨StableHlo.forall_fresh_of_map rfl, StableHlo.forall_fresh_of_map rfl, StableHlo.forall_fresh_of_map rfl⟩ main_chain)
    (fun _ _ => rfl) (fun c k => before_steps m c k) (fun c => enter m (Inv c) (L c) c (h0 c)) (fun c => leave m (Inv c) (L c) c) _ (fun _ h => h)

/-- A step that is known nothing of. -/
def anything : Leave F := ⟨fun _ _ _ => True, fun _ _ _ => True, fun _ _ _ => True, fun _ _ _ => True, fun _ _ _ => True⟩

theorem any_step (m : (ℓ : Loc nD τ sig) → Buf (Elt F) ℓ) (c : Dev nD) :
    (data m (fun _ _ => True) anything c).BodyObligation (defs₀ (F := F)) Variants.none () Set.univ := by
  refine obligation m _ _ c fun t Y s _ _ => ?_
  refine (body_spec c (args t) (inOf Y) (mutOf Y s) (grid0.coords t) (steps_fit _ rfl rfl rfl _)).trans (wp_mono _ _ _ fun _ => ?_)
  iintro ⟨%s', H⟩
  iexists s'
  isplitr
  · ipureintro; exact ⟨trivial, trivial, trivial, trivial, trivial, trivial⟩
  · iexact H

theorem zm_kept (m : (ℓ : Loc nD τ sig) → Buf (Elt F) ℓ) (Inv : Dev nD → Fin (grid0.N + 1) → Mut F → Prop) (L : Dev nD → Leave F) (r : PUnit × MemSt nD τ sig (Elt F))
    (h : Pipeline.RDat.FramePost (cfg (F := F)) (fun c => data m (Inv c) (L c) c) (fun c b => before m c b) r) (c : Dev nD) :
    r.2.mem ((c.tc : Thread nD τ).loc main_arg0) = m ((c.tc : Thread nD τ).loc main_arg0) := by
  refine Eq.trans ?_ (before_unwritten m c main_arg0 (by decide +kernel) (by decide +kernel) (by decide +kernel))
  exact h.arr_in c (0 : Fin 13) rfl

theorem dead_kept (m : (ℓ : Loc nD τ sig) → Buf (Elt F) ℓ) (Inv : Dev nD → Fin (grid0.N + 1) → Mut F → Prop) (L : Dev nD → Leave F) (r : PUnit × MemSt nD τ sig (Elt F))
    (h : Pipeline.RDat.FramePost (cfg (F := F)) (fun c => data m (Inv c) (L c) c) (fun c b => before m c b) r) (c : Dev nD) :
    r.2.mem ((c.tc : Thread nD τ).loc main_arg2) = m ((c.tc : Thread nD τ).loc main_arg2) := by
  refine Eq.trans ?_ (before_unwritten m c main_arg2 (by decide +kernel) (by decide +kernel) (by decide +kernel))
  exact h.arr_in c (4 : Fin 13) rfl

theorem ct_kept (m : (ℓ : Loc nD τ sig) → Buf (Elt F) ℓ) (Inv : Dev nD → Fin (grid0.N + 1) → Mut F → Prop) (L : Dev nD → Leave F) (r : PUnit × MemSt nD τ sig (Elt F))
    (h : Pipeline.RDat.FramePost (cfg (F := F)) (fun c => data m (Inv c) (L c) c) (fun c b => before m c b) r) (c : Dev nD) :
    r.2.mem ((c.tc : Thread nD τ).loc main_arg3) = m ((c.tc : Thread nD τ).loc main_arg3) := by
  refine Eq.trans ?_ (before_unwritten m c main_arg3 (by decide +kernel) (by decide +kernel) (by decide +kernel))
  exact h.arr_in c (5 : Fin 13) rfl

theorem decay_kept (m : (ℓ : Loc nD τ sig) → Buf (Elt F) ℓ) (Inv : Dev nD → Fin (grid0.N + 1) → Mut F → Prop) (L : Dev nD → Leave F) (r : PUnit × MemSt nD τ sig (Elt F))
    (h : Pipeline.RDat.FramePost (cfg (F := F)) (fun c => data m (Inv c) (L c) c) (fun c b => before m c b) r) (c : Dev nD) :
    r.2.mem ((c.tc : Thread nD τ).loc main_arg1) = m ((c.tc : Thread nD τ).loc main_arg1) := by
  refine Eq.trans ?_ (before_unwritten m c main_arg1 (by decide +kernel) (by decide +kernel) (by decide +kernel))
  exact (h c).2 main_arg1 (Pipeline.mem_restRefs_of main_arg1 rfl (show ∀ w : Fin 13, (spec0 w).arr.view.ref ≠ main_arg1 by decide +kernel))

/-- The program runs, leaves its arguments as they were, and every counter at zero. -/
theorem frame_run (m : (ℓ : Loc nD τ sig) → Buf (Elt F) ℓ) (g : Dev nD → PrngReg) :
    θ_run (defs (F := F)) (onTc (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => ⟨zm_kept m _ _ r h.1 c, decay_kept m _ _ r h.1 c, dead_kept m _ _ r h.1 c, ct_kept m _ _ r h.1 c⟩, h.2⟩)
    (run m g (fun _ _ _ => True) (fun _ => anything) (fun _ _ => trivial) (any_step m))

end Cert.KernelIdeal.Fox

end
-- ==== Proof.Plain.Cuts.lean ====
/- The body of the backward kernel cut into its branches, so that each branch can be proved apart. -/
module

public import proofs.«01_k».proof.Proof.Gen.Kernel.Skeleton
public import Idealize.ShloMosaic.Lib.Tactic.Stretches

@[expose] public section

noncomputable section

namespace Cert.Kernel.Plain

open Idealize.ShloMosaic Idealize.SL.Sem Cert.Kernel.Gen

cut_chain s := Cert.Kernel.Gen.cc0_fox_bwd_skel at 2, 4, 5, 6, 7, 8, 9, 10, 11

cut_chain p := Cert.Kernel.Gen.k0_part27_skel at 4, 5, 6

end Cert.Kernel.Plain

end
-- ==== Proof.Plain.Joint.lean ====
/- The branch of a block below the diagonal. -/
module

public import proofs.«01_k».proof.Proof.Plain.Base

@[expose] public section

set_option maxRecDepth 16384

noncomputable section

namespace Cert.Kernel.Plain

open Idealize.ShloMosaic Idealize.SL.Sem Cert.Kernel.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- A block below the diagonal, both heads at once. -/
theorem joint_spec (c : Dev nD) (a : Args) (x : In F) (s : Mut F) (i : grid0.Coords) (v1 v3 : Elt F .i32) (v6 : IVec S1024x128 1) (v24 v35 : BitVec 1) (hw2 : k0_chk2 v1 v3 v24 v35) :
    Branch c a x s (fun s' => ¬k0_cond3 v3 v24 v35 = 1#1 → s' = s) (s3 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 v6 v24 v35 hw2) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s3
  by_cases hC : k0_cond3 v3 v24 v35 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

end Cert.Kernel.Plain

end
-- ==== Proof.Plain.Diag.lean ====
/- The branch of a block on the diagonal. -/
module

public import proofs.«01_k».proof.Proof.Plain.Base

@[expose] public section

set_option maxRecDepth 16384

noncomputable section

namespace Cert.Kernel.Plain

open Idealize.ShloMosaic Idealize.SL.Sem Cert.Kernel.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- A block on the diagonal. -/
theorem diag_spec (c : Dev nD) (a : Args) (x : In F) (s : Mut F) (i : grid0.Coords) (v1 v3 : Elt F .i32) (hw5 : k0_chk5 v1 v3) (v6 : IVec S1024x128 1) :
    Branch c a x s (fun s' => ¬k0_cond8 v3 = 1#1 → s' = s) (s8 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 v1 v3 hw5 v6) := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20, arg21, harg21, arg22, harg22, arg23, harg23⟩ := a
  obtain ⟨ii, jj, kk, q, k, v, ck, dead, dO, ln, delta⟩ := x
  obtain ⟨dq, dkOut, dvOut, cs, rs, qs, qo, dos, acc, dk, dv⟩ := s
  intro R κ Q
  iintro H Hκ
  unfold s8
  by_cases hC : k0_cond8 v3 = 1#1
  · simp only [dif_pos hC, if_pos hC]
    try dsimp only
    icases (held_open c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23 _ _ _ _ _ _ _ _ _ _ _ _ _ _ _ _ _ _ _ _ _ _) $$ H
      with ⟨H2, H3, H4, H5, H6, H7, H8, H9, H10, H11, H12, H13, H14, H15, H16, H17, H18, H19, H20, H21, H22, H23⟩
    sl_exec!
    iapply (held_close c _ harg2 _ harg3 _ harg4 _ harg5 _ harg6 _ harg7 _ harg8 _ harg9 _ harg10 _ harg11 _ harg12 _ harg13 _ harg14
      _ harg15 _ harg16 _ harg17 _ harg18 _ harg19 _ harg20 _ harg21 _ harg22 _ harg23)
    iframe
    ipureintro; exact fun h => absurd hC h
  · simp only [dif_neg hC, if_neg hC]
    iapply Hκ $$ %_ [] [H]
    · ipureintro; exact fun _ => rfl
    · iexact H

end Cert.Kernel.Plain

end
-- ==== Proof.Plain.Body.lean ====
/- The body as a whole. -/
module

public import proofs.«01_k».proof.Proof.Plain.Loads
public import proofs.«01_k».proof.Proof.Plain.Small
public import proofs.«01_k».proof.Proof.Plain.Joint
public import proofs.«01_k».proof.Proof.Plain.Apart
public import proofs.«01_k».proof.Proof.Plain.Diag

@[expose] public section

set_option maxRecDepth 16384

noncomputable section

namespace Cert.Kernel.Plain

open Idealize.ShloMosaic Idealize.SL.Sem Cert.Kernel.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- The side conditions of the body's stores at a step, of the words that the tables hold for it and of any flags. -/
structure Fits (x : In F) (i : grid0.Coords) : Prop where
  h5 : k0_chk5 (x.jj (place i)) (x.kk (place i))
  h1 : k0_chk1 i (x.jj (place i)) (x.ii (place i))
  h2 : ∀ b b', k0_chk2 (x.jj (place i)) (x.kk (place i)) b b'
  h3 : ∀ b b', k0_chk3 (x.jj (place i)) (x.kk (place i)) b b'
  h4 : ∀ b b', k0_chk4 (x.jj (place i)) (x.kk (place i)) b b'

/-- What comes before the blocks: the words are read, and the operands and sums are made ready. -/
theorem prologue_spec (c : Dev nD) (a : Args) (x : In F) (s : Mut F) (i : grid0.Coords) (h : Fits x i)
    {R : Type} (κ : s1.K (F := F) i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 (R := R)) (Q : R → sProp 𝕄) :
    held c a x s ⊢ iprop((∀ s' y23 y28 y34, held c a x s' -∗ wp frame (wpE (defs₀ (F := F)) Variants.none (c : Thread nD τ) none) Set.univ (κ (x.jj (place i)) (x.kk (place i)) h.h5 k0_pay174 (x.ii (place i)) h.h1
        (Scalar.cmpf .olt (x.dead y23) (FloatOps.ofBits .f32 1056964608#32)) (Scalar.cmpf .olt (x.dead y28) (FloatOps.ofBits .f32 1056964608#32)) (h.h3 _ _) (Scalar.cmpf .olt (x.dead y34) (FloatOps.ofBits .f32 1056964608#32)) (h.h2 _ _)) Q) -∗
      wp frame (wpE (defs₀ (F := F)) Variants.none (c : Thread nD τ) none) Set.univ (s1 i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 κ) Q) := by
  iintro H Hκ
  unfold s1
  rw [k0_part27_eq_skeleton, wp_bind, p1.eq]
  iapply (tables_spec c a x s i h.h5) $$ [H]
  · iexact H
  iintro H
  rw [p2.eq]
  iapply (clear_spec c a x s i) $$ [H]
  · iexact H
  iintro %s' - H
  rw [p3.eq]
  iapply (begin_spec c a x s' i _) $$ [H]
  · iexact H
  iintro %s'' - H
  rw [p4.eq]
  iapply (flags_spec c a x s'' i _ _ h.h1 h.h3 h.h2) $$ [H]
  · iexact H
  iintro %y23 %y28 %y34 H
  unfold p4.tail
  dsimp only
  rw [wp_pure]; imodintro
  iapply Hκ $$ %s'' %y23 %y28 %y34
  iexact H

set_option maxHeartbeats 1000000 in
/-- The body keeps its buffers. -/
theorem body_spec (c : Dev nD) (a : Args) (x : In F) (s : Mut F) (i : grid0.Coords) (h : Fits x i) :
    held c a x s ⊢ wp frame (wpE (defs₀ (F := F)) Variants.none (c : Thread nD τ) none) Set.univ (cc0_fox_bwd i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23) (fun _ => iprop(∃ s', held c a x s')) := by
  iintro H
  rw [cc0_fox_bwd_eq_skeleton, s1.eq]
  iapply (prologue_spec c a x s i h) $$ [H]
  · iexact H
  iintro %t1 %y23 %y28 %y34 H
  rw [s2.eq]
  iapply (near_flag_spec c a x t1 i _ _ _ h.h1 _ (h.h4 _)) $$ [H]
  · iexact H
  iintro %y39 H
  rw [s3.eq]
  iapply (joint_spec c a x t1 i _ _ _ _ _ (h.h2 _ _)) $$ [H]
  · iexact H
  iintro %t3 - H
  rw [s4.eq]
  iapply (first_spec c a x t3 i _ _ _ _ _ (h.h2 _ _)) $$ [H]
  · iexact H
  iintro %t4 - H
  rw [s5.eq]
  iapply (first_near_spec c a x t4 i _ _ _ _ _ (h.h3 _ _)) $$ [H]
  · iexact H
  iintro %t5 - H
  rw [s6.eq]
  iapply (second_spec c a x t5 i _ _ _ _ _ (h.h2 _ _)) $$ [H]
  · iexact H
  iintro %t6 - H
  rw [s7.eq]
  iapply (second_near_spec c a x t6 i _ _ _ _ _ ⟨h.h4 _ _⟩) $$ [H]
  · iexact H
  iintro %t7 - H
  rw [s8.eq]
  iapply (diag_spec c a x t7 i _ _ h.h5 _) $$ [H]
  · iexact H
  iintro %t8 - H
  rw [s9.eq]
  iapply (rows_spec c a x t8 _ _) $$ [H]
  · iexact H
  iintro %t9 - H
  rw [s10.eq]
  iapply (cols_spec c a x t9 i) $$ [H]
  · iexact H
  iintro %t10 - H
  unfold s10.tail
  rw [wp_pure]; imodintro
  iexists t10
  iexact H

end Cert.Kernel.Plain

end
-- ==== Proof.Plain.Tables.lean ====
/- The contents of the three tables of steps. -/
module

public import proofs.«01_k».proof.Proof.Plain.Body
public import Idealize.ShloMosaic.PureOps.BitExact

@[expose] public section

set_option maxRecDepth 16384

noncomputable section

namespace Cert.Kernel.Plain

open Idealize.ShloMosaic Idealize.SL.Sem Cert.Kernel.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

/-- What the three tables hold: the block of rows, the block of columns, and whether the step is the diagonal's. -/
def steps : pre0.Contents (Elt F)
  | 0 => fun x => lit0 (S36.rowMajor x)
  | 1 => fun x => lit1 (S36.rowMajor x)
  | 2 => fun x => lit2 (S36.rowMajor x)
  | ⟨_ + 3, h⟩ => absurd h (Nat.not_lt.2 (Nat.le_add_left _ _))

/-- The blocks that the tables choose lie in their arrays. -/
theorem steps_ok_bits : ok0 (F := Bits) steps := by decide +kernel

theorem steps_ok : ok0 (F := F) steps := steps_ok_bits

/-- The tables' contents, admitted. -/
def adm : (p : Fin 1) → (pcfgs (F := F) p).Adm := fun _ => ⟨steps, steps_ok⟩

theorem chk5_all : ∀ i : grid0.Coords, k0_chk5 (lit1 (S36.rowMajor (place i))) (lit2 (S36.rowMajor (place i))) := by decide +kernel
theorem chk1_all : ∀ i : grid0.Coords, k0_chk1 i (lit1 (S36.rowMajor (place i))) (lit0 (S36.rowMajor (place i))) := by decide +kernel
theorem chk2_all : ∀ (i : grid0.Coords) (b b' : Fin 2), k0_chk2 (lit1 (S36.rowMajor (place i))) (lit2 (S36.rowMajor (place i))) (BitVec.ofFin b) (BitVec.ofFin b') := by decide +kernel
theorem chk3_all : ∀ (i : grid0.Coords) (b b' : Fin 2), k0_chk3 (lit1 (S36.rowMajor (place i))) (lit2 (S36.rowMajor (place i))) (BitVec.ofFin b) (BitVec.ofFin b') := by decide +kernel
theorem chk4_all : ∀ (i : grid0.Coords) (b b' : Fin 2), k0_chk4 (lit1 (S36.rowMajor (place i))) (lit2 (S36.rowMajor (place i))) (BitVec.ofFin b) (BitVec.ofFin b') := by decide +kernel

/-- At every step the body's stores lie in their buffers. -/
theorem steps_fit (x : In F) (hii : x.ii = (steps 0 : S36.Idx → Elt F .i32)) (hjj : x.jj = (steps 1 : S36.Idx → Elt F .i32)) (hkk : x.kk = (steps 2 : S36.Idx → Elt F .i32)) (i : grid0.Coords) : Fits x i where
  h5 := by rw [hjj, hkk]; exact chk5_all i
  h1 := by rw [hjj, hii]; exact chk1_all i
  h2 b b' := by rw [hjj, hkk]; exact chk2_all i b.toFin b'.toFin
  h3 b b' := by rw [hjj, hkk]; exact chk3_all i b.toFin b'.toFin
  h4 b b' := by rw [hjj, hkk]; exact chk4_all i b.toFin b'.toFin

end Cert.Kernel.Plain

end
-- ==== Proof.Same.lean ====
/- The frames of the further programs: each printed program is its ideal text, so one run serves both. -/
module

public import proofs.«01_k».proof.Defs
public import proofs.«01_k».proof.Proof.Gen.DwIn
public import proofs.«01_k».proof.Proof.Gen.DwInIdeal.Value
public import proofs.«01_k».proof.Proof.Gen.DwInRefIdeal.Run
public import proofs.«01_k».proof.Proof.Gen.DwFf2
public import proofs.«01_k».proof.Proof.Gen.DwFf2Ideal.Value
public import proofs.«01_k».proof.Proof.Gen.DwFf2RefIdeal.Run
public import proofs.«01_k».proof.Proof.Gen.DwFf1
public import proofs.«01_k».proof.Proof.Gen.DwFf1Ideal.Value
public import proofs.«01_k».proof.Proof.Gen.DwFf1RefIdeal.Run
public import proofs.«01_k».proof.Proof.Gen.InBwd
public import proofs.«01_k».proof.Proof.Gen.InBwdIdeal.Value
public import proofs.«01_k».proof.Proof.Gen.InBwdRefIdeal.Run
public import proofs.«01_k».proof.Proof.Gen.DwSq
public import proofs.«01_k».proof.Proof.Gen.DwSqIdeal.Value
public import proofs.«01_k».proof.Proof.Gen.DwSqRefIdeal.Run
public import proofs.«01_k».proof.Proof.Gen.DwBr
public import proofs.«01_k».proof.Proof.Gen.DwBrIdeal.Value
public import proofs.«01_k».proof.Proof.Gen.DwBrRefIdeal.Run
public import proofs.«01_k».proof.Proof.Gen.DwPle
public import proofs.«01_k».proof.Proof.Gen.DwPleIdeal.Value
public import proofs.«01_k».proof.Proof.Gen.DwPleRefIdeal.Run
public import proofs.«01_k».proof.Proof.Gen.Head
public import proofs.«01_k».proof.Proof.Gen.HeadIdeal.Value
public import proofs.«01_k».proof.Proof.Gen.HeadRefIdeal.Run
public import proofs.«01_k».proof.Proof.Gen.FfnBwd
public import proofs.«01_k».proof.Proof.Gen.FfnBwdIdeal.Value
public import proofs.«01_k».proof.Proof.Gen.FfnBwdRefIdeal.Run
public import proofs.«01_k».proof.Proof.Gen.MixFwd
public import proofs.«01_k».proof.Proof.Gen.MixFwdIdeal.Value
public import proofs.«01_k».proof.Proof.Gen.MixFwdRefIdeal.Run
public import proofs.«01_k».proof.Proof.Gen.AdIn
public import proofs.«01_k».proof.Proof.Gen.AdInIdeal.Value
public import proofs.«01_k».proof.Proof.Gen.AdInRefIdeal.Run
public import proofs.«01_k».proof.Proof.Gen.AdBr
public import proofs.«01_k».proof.Proof.Gen.AdBrIdeal.Value
public import proofs.«01_k».proof.Proof.Gen.AdBrRefIdeal.Run
public import proofs.«01_k».proof.Proof.Gen.AdSq
public import proofs.«01_k».proof.Proof.Gen.AdSqIdeal.Value
public import proofs.«01_k».proof.Proof.Gen.AdSqRefIdeal.Run
public import proofs.«01_k».proof.Proof.Gen.AdFf1
public import proofs.«01_k».proof.Proof.Gen.AdFf1Ideal.Value
public import proofs.«01_k».proof.Proof.Gen.AdFf1RefIdeal.Run
public import proofs.«01_k».proof.Proof.Gen.AdFf2
public import proofs.«01_k».proof.Proof.Gen.AdFf2Ideal.Value
public import proofs.«01_k».proof.Proof.Gen.AdFf2RefIdeal.Run
public import proofs.«01_k».proof.Proof.Gen.AdPle
public import proofs.«01_k».proof.Proof.Gen.AdPleIdeal.Value
public import proofs.«01_k».proof.Proof.Gen.AdPleRefIdeal.Run
public import proofs.«01_k».proof.Proof.Gen.AdSmall
public import proofs.«01_k».proof.Proof.Gen.AdSmallIdeal.Value
public import proofs.«01_k».proof.Proof.Gen.AdSmallRefIdeal.Run
public import Idealize.ShloMosaic.Lib.Quiescent

@[expose] public section

set_option maxHeartbeats 4000000

noncomputable section

namespace Cert.Same

open Idealize.ShloMosaic Idealize.SL.Sem

theorem bodies_DwIn : @Cert.DwIn.defs₀ Bits _ Cert.DwIn.Gen.facts = @Cert.DwInIdeal.defs₀ Bits _ Cert.DwInIdeal.Gen.facts :=
  congrArg Defs.onTc (funext fun l => by fin_cases l; rfl)

theorem frame_DwIn : @Cert.quiescent_DwIn Cert.DwIn.Gen.facts := fun m g _ => by
  rw [show @Cert.DwIn.defs Bits _ Cert.DwIn.Gen.facts = @Cert.DwInIdeal.defs Bits _ Cert.DwInIdeal.Gen.facts from congrArg (Pipeline.defs _) bodies_DwIn]
  exact (θ_run Cert.DwInIdeal.defs _ _).mono (fun _ h => h) (Cert.DwInIdeal.Gen.frame (F := Bits) m g)

theorem frame_DwInIdeal : @Cert.quiescent_DwInIdeal Cert.DwInIdeal.Gen.facts := fun m g _ => Cert.DwInIdeal.Gen.frame m g

theorem frame_DwInRefIdeal : @Cert.quiescent_DwInRefIdeal Cert.DwInRefIdeal.Gen.facts := fun m g _ =>
  (θ_run _ _ _).mono (fun r h => ⟨fun c => (h c).2, sem_eq_zero_of_no_sems (by decide) r.2⟩) (Cert.DwInRefIdeal.Value.run m g)

theorem bodies_DwFf2 : @Cert.DwFf2.defs₀ Bits _ Cert.DwFf2.Gen.facts = @Cert.DwFf2Ideal.defs₀ Bits _ Cert.DwFf2Ideal.Gen.facts :=
  congrArg Defs.onTc (funext fun l => by fin_cases l; rfl)

theorem frame_DwFf2 : @Cert.quiescent_DwFf2 Cert.DwFf2.Gen.facts := fun m g _ => by
  rw [show @Cert.DwFf2.defs Bits _ Cert.DwFf2.Gen.facts = @Cert.DwFf2Ideal.defs Bits _ Cert.DwFf2Ideal.Gen.facts from congrArg (Pipeline.defs _) bodies_DwFf2]
  exact (θ_run Cert.DwFf2Ideal.defs _ _).mono (fun _ h => h) (Cert.DwFf2Ideal.Gen.frame (F := Bits) m g)

theorem frame_DwFf2Ideal : @Cert.quiescent_DwFf2Ideal Cert.DwFf2Ideal.Gen.facts := fun m g _ => Cert.DwFf2Ideal.Gen.frame m g

theorem frame_DwFf2RefIdeal : @Cert.quiescent_DwFf2RefIdeal Cert.DwFf2RefIdeal.Gen.facts := fun m g _ =>
  (θ_run _ _ _).mono (fun r h => ⟨fun c => (h c).2, sem_eq_zero_of_no_sems (by decide) r.2⟩) (Cert.DwFf2RefIdeal.Value.run m g)

theorem bodies_DwFf1 : @Cert.DwFf1.defs₀ Bits _ Cert.DwFf1.Gen.facts = @Cert.DwFf1Ideal.defs₀ Bits _ Cert.DwFf1Ideal.Gen.facts :=
  congrArg Defs.onTc (funext fun l => by fin_cases l; rfl)

theorem frame_DwFf1 : @Cert.quiescent_DwFf1 Cert.DwFf1.Gen.facts := fun m g _ => by
  rw [show @Cert.DwFf1.defs Bits _ Cert.DwFf1.Gen.facts = @Cert.DwFf1Ideal.defs Bits _ Cert.DwFf1Ideal.Gen.facts from congrArg (Pipeline.defs _) bodies_DwFf1]
  exact (θ_run Cert.DwFf1Ideal.defs _ _).mono (fun _ h => h) (Cert.DwFf1Ideal.Gen.frame (F := Bits) m g)

theorem frame_DwFf1Ideal : @Cert.quiescent_DwFf1Ideal Cert.DwFf1Ideal.Gen.facts := fun m g _ => Cert.DwFf1Ideal.Gen.frame m g

theorem frame_DwFf1RefIdeal : @Cert.quiescent_DwFf1RefIdeal Cert.DwFf1RefIdeal.Gen.facts := fun m g _ =>
  (θ_run _ _ _).mono (fun r h => ⟨fun c => (h c).2, sem_eq_zero_of_no_sems (by decide) r.2⟩) (Cert.DwFf1RefIdeal.Value.run m g)

theorem bodies_InBwd : @Cert.InBwd.defs₀ Bits _ Cert.InBwd.Gen.facts = @Cert.InBwdIdeal.defs₀ Bits _ Cert.InBwdIdeal.Gen.facts :=
  congrArg Defs.onTc (funext fun l => by fin_cases l; rfl)

theorem frame_InBwd : @Cert.quiescent_InBwd Cert.InBwd.Gen.facts := fun m g _ => by
  rw [show @Cert.InBwd.defs Bits _ Cert.InBwd.Gen.facts = @Cert.InBwdIdeal.defs Bits _ Cert.InBwdIdeal.Gen.facts from congrArg (Pipeline.defs _) bodies_InBwd]
  exact (θ_run Cert.InBwdIdeal.defs _ _).mono (fun _ h => h) (Cert.InBwdIdeal.Gen.frame (F := Bits) m g)

theorem frame_InBwdIdeal : @Cert.quiescent_InBwdIdeal Cert.InBwdIdeal.Gen.facts := fun m g _ => Cert.InBwdIdeal.Gen.frame m g

theorem frame_InBwdRefIdeal : @Cert.quiescent_InBwdRefIdeal Cert.InBwdRefIdeal.Gen.facts := fun m g _ =>
  (θ_run _ _ _).mono (fun r h => ⟨fun c => (h c).2.2, sem_eq_zero_of_no_sems (by decide) r.2⟩) (Cert.InBwdRefIdeal.Value.run m g)

theorem bodies_DwSq : @Cert.DwSq.defs₀ Bits _ Cert.DwSq.Gen.facts = @Cert.DwSqIdeal.defs₀ Bits _ Cert.DwSqIdeal.Gen.facts :=
  congrArg Defs.onTc (funext fun l => by fin_cases l; rfl)

theorem frame_DwSq : @Cert.quiescent_DwSq Cert.DwSq.Gen.facts := fun m g _ => by
  rw [show @Cert.DwSq.defs Bits _ Cert.DwSq.Gen.facts = @Cert.DwSqIdeal.defs Bits _ Cert.DwSqIdeal.Gen.facts from congrArg (Pipeline.defs _) bodies_DwSq]
  exact (θ_run Cert.DwSqIdeal.defs _ _).mono (fun _ h => h) (Cert.DwSqIdeal.Gen.frame (F := Bits) m g)

theorem frame_DwSqIdeal : @Cert.quiescent_DwSqIdeal Cert.DwSqIdeal.Gen.facts := fun m g _ => Cert.DwSqIdeal.Gen.frame m g

theorem frame_DwSqRefIdeal : @Cert.quiescent_DwSqRefIdeal Cert.DwSqRefIdeal.Gen.facts := fun m g _ =>
  (θ_run _ _ _).mono (fun r h => ⟨fun c => (h c).2, sem_eq_zero_of_no_sems (by decide) r.2⟩) (Cert.DwSqRefIdeal.Value.run m g)

theorem bodies_DwBr : @Cert.DwBr.defs₀ Bits _ Cert.DwBr.Gen.facts = @Cert.DwBrIdeal.defs₀ Bits _ Cert.DwBrIdeal.Gen.facts :=
  congrArg Defs.onTc (funext fun l => by fin_cases l; rfl)

theorem frame_DwBr : @Cert.quiescent_DwBr Cert.DwBr.Gen.facts := fun m g _ => by
  rw [show @Cert.DwBr.defs Bits _ Cert.DwBr.Gen.facts = @Cert.DwBrIdeal.defs Bits _ Cert.DwBrIdeal.Gen.facts from congrArg (Pipeline.defs _) bodies_DwBr]
  exact (θ_run Cert.DwBrIdeal.defs _ _).mono (fun _ h => h) (Cert.DwBrIdeal.Gen.frame (F := Bits) m g)

theorem frame_DwBrIdeal : @Cert.quiescent_DwBrIdeal Cert.DwBrIdeal.Gen.facts := fun m g _ => Cert.DwBrIdeal.Gen.frame m g

theorem frame_DwBrRefIdeal : @Cert.quiescent_DwBrRefIdeal Cert.DwBrRefIdeal.Gen.facts := fun m g _ =>
  (θ_run _ _ _).mono (fun r h => ⟨fun c => (h c).2, sem_eq_zero_of_no_sems (by decide) r.2⟩) (Cert.DwBrRefIdeal.Value.run m g)

theorem bodies_DwPle : @Cert.DwPle.defs₀ Bits _ Cert.DwPle.Gen.facts = @Cert.DwPleIdeal.defs₀ Bits _ Cert.DwPleIdeal.Gen.facts :=
  congrArg Defs.onTc (funext fun l => by fin_cases l; rfl)

theorem frame_DwPle : @Cert.quiescent_DwPle Cert.DwPle.Gen.facts := fun m g _ => by
  rw [show @Cert.DwPle.defs Bits _ Cert.DwPle.Gen.facts = @Cert.DwPleIdeal.defs Bits _ Cert.DwPleIdeal.Gen.facts from congrArg (Pipeline.defs _) bodies_DwPle]
  exact (θ_run Cert.DwPleIdeal.defs _ _).mono (fun _ h => h) (Cert.DwPleIdeal.Gen.frame (F := Bits) m g)

theorem frame_DwPleIdeal : @Cert.quiescent_DwPleIdeal Cert.DwPleIdeal.Gen.facts := fun m g _ => Cert.DwPleIdeal.Gen.frame m g

theorem frame_DwPleRefIdeal : @Cert.quiescent_DwPleRefIdeal Cert.DwPleRefIdeal.Gen.facts := fun m g _ =>
  (θ_run _ _ _).mono (fun r h => ⟨fun c => (h c).2, sem_eq_zero_of_no_sems (by decide) r.2⟩) (Cert.DwPleRefIdeal.Value.run m g)

theorem bodies_Head : @Cert.Head.defs₀ Bits _ Cert.Head.Gen.facts = @Cert.HeadIdeal.defs₀ Bits _ Cert.HeadIdeal.Gen.facts :=
  congrArg Defs.onTc (funext fun l => by fin_cases l; rfl)

theorem frame_Head : @Cert.quiescent_Head Cert.Head.Gen.facts := fun m g _ => by
  rw [show @Cert.Head.defs Bits _ Cert.Head.Gen.facts = @Cert.HeadIdeal.defs Bits _ Cert.HeadIdeal.Gen.facts from congrArg (Pipeline.defs _) bodies_Head]
  exact (θ_run Cert.HeadIdeal.defs _ _).mono (fun _ h => h) (Cert.HeadIdeal.Gen.frame (F := Bits) m g)

theorem frame_HeadIdeal : @Cert.quiescent_HeadIdeal Cert.HeadIdeal.Gen.facts := fun m g _ => Cert.HeadIdeal.Gen.frame m g

theorem frame_HeadRefIdeal : @Cert.quiescent_HeadRefIdeal Cert.HeadRefIdeal.Gen.facts := fun m g _ =>
  (θ_run _ _ _).mono (fun r h => ⟨fun c => (h c).2.2.2.2.2.2.2.2.2, sem_eq_zero_of_no_sems (by decide) r.2⟩) (Cert.HeadRefIdeal.Value.run m g)

theorem bodies_FfnBwd : @Cert.FfnBwd.defs₀ Bits _ Cert.FfnBwd.Gen.facts = @Cert.FfnBwdIdeal.defs₀ Bits _ Cert.FfnBwdIdeal.Gen.facts :=
  congrArg Defs.onTc (funext fun l => by fin_cases l; rfl)

theorem frame_FfnBwd : @Cert.quiescent_FfnBwd Cert.FfnBwd.Gen.facts := fun m g _ => by
  rw [show @Cert.FfnBwd.defs Bits _ Cert.FfnBwd.Gen.facts = @Cert.FfnBwdIdeal.defs Bits _ Cert.FfnBwdIdeal.Gen.facts from congrArg (Pipeline.defs _) bodies_FfnBwd]
  exact (θ_run Cert.FfnBwdIdeal.defs _ _).mono (fun _ h => h) (Cert.FfnBwdIdeal.Gen.frame (F := Bits) m g)

theorem frame_FfnBwdIdeal : @Cert.quiescent_FfnBwdIdeal Cert.FfnBwdIdeal.Gen.facts := fun m g _ => Cert.FfnBwdIdeal.Gen.frame m g

theorem frame_FfnBwdRefIdeal : @Cert.quiescent_FfnBwdRefIdeal Cert.FfnBwdRefIdeal.Gen.facts := fun m g _ =>
  (θ_run _ _ _).mono (fun r h => ⟨fun c => (h c).2.2.2.2.2.2.2.2.2, sem_eq_zero_of_no_sems (by decide) r.2⟩) (Cert.FfnBwdRefIdeal.Value.run m g)

theorem bodies_MixFwd : @Cert.MixFwd.defs₀ Bits _ Cert.MixFwd.Gen.facts = @Cert.MixFwdIdeal.defs₀ Bits _ Cert.MixFwdIdeal.Gen.facts :=
  congrArg Defs.onTc (funext fun l => by fin_cases l; rfl)

theorem frame_MixFwd : @Cert.quiescent_MixFwd Cert.MixFwd.Gen.facts := fun m g _ => by
  rw [show @Cert.MixFwd.defs Bits _ Cert.MixFwd.Gen.facts = @Cert.MixFwdIdeal.defs Bits _ Cert.MixFwdIdeal.Gen.facts from congrArg (Pipeline.defs _) bodies_MixFwd]
  exact (θ_run Cert.MixFwdIdeal.defs _ _).mono (fun _ h => h) (Cert.MixFwdIdeal.Gen.frame (F := Bits) m g)

theorem frame_MixFwdIdeal : @Cert.quiescent_MixFwdIdeal Cert.MixFwdIdeal.Gen.facts := fun m g _ => Cert.MixFwdIdeal.Gen.frame m g

theorem frame_MixFwdRefIdeal : @Cert.quiescent_MixFwdRefIdeal Cert.MixFwdRefIdeal.Gen.facts := fun m g _ =>
  (θ_run _ _ _).mono (fun r h => ⟨fun c => (h c).2.2.2.2.2.2.2.2, sem_eq_zero_of_no_sems (by decide) r.2⟩) (Cert.MixFwdRefIdeal.Value.run m g)

theorem bodies_AdIn : @Cert.AdIn.defs₀ Bits _ Cert.AdIn.Gen.facts = @Cert.AdInIdeal.defs₀ Bits _ Cert.AdInIdeal.Gen.facts :=
  congrArg Defs.onTc (funext fun l => by fin_cases l; rfl)

theorem frame_AdIn : @Cert.quiescent_AdIn Cert.AdIn.Gen.facts := fun m g _ => by
  rw [show @Cert.AdIn.defs Bits _ Cert.AdIn.Gen.facts = @Cert.AdInIdeal.defs Bits _ Cert.AdInIdeal.Gen.facts from congrArg (Pipeline.defs _) bodies_AdIn]
  exact (θ_run Cert.AdInIdeal.defs _ _).mono (fun _ h => h) (Cert.AdInIdeal.Gen.frame (F := Bits) m g)

theorem frame_AdInIdeal : @Cert.quiescent_AdInIdeal Cert.AdInIdeal.Gen.facts := fun m g _ => Cert.AdInIdeal.Gen.frame m g

theorem frame_AdInRefIdeal : @Cert.quiescent_AdInRefIdeal Cert.AdInRefIdeal.Gen.facts := fun m g _ =>
  (θ_run _ _ _).mono (fun r h => ⟨fun c => (h c).2.2.2.2, sem_eq_zero_of_no_sems (by decide) r.2⟩) (Cert.AdInRefIdeal.Value.run m g)

theorem bodies_AdBr : @Cert.AdBr.defs₀ Bits _ Cert.AdBr.Gen.facts = @Cert.AdBrIdeal.defs₀ Bits _ Cert.AdBrIdeal.Gen.facts :=
  congrArg Defs.onTc (funext fun l => by fin_cases l; rfl)

theorem frame_AdBr : @Cert.quiescent_AdBr Cert.AdBr.Gen.facts := fun m g _ => by
  rw [show @Cert.AdBr.defs Bits _ Cert.AdBr.Gen.facts = @Cert.AdBrIdeal.defs Bits _ Cert.AdBrIdeal.Gen.facts from congrArg (Pipeline.defs _) bodies_AdBr]
  exact (θ_run Cert.AdBrIdeal.defs _ _).mono (fun _ h => h) (Cert.AdBrIdeal.Gen.frame (F := Bits) m g)

theorem frame_AdBrIdeal : @Cert.quiescent_AdBrIdeal Cert.AdBrIdeal.Gen.facts := fun m g _ => Cert.AdBrIdeal.Gen.frame m g

theorem frame_AdBrRefIdeal : @Cert.quiescent_AdBrRefIdeal Cert.AdBrRefIdeal.Gen.facts := fun m g _ =>
  (θ_run _ _ _).mono (fun r h => ⟨fun c => (h c).2.2.2.2, sem_eq_zero_of_no_sems (by decide) r.2⟩) (Cert.AdBrRefIdeal.Value.run m g)

theorem bodies_AdSq : @Cert.AdSq.defs₀ Bits _ Cert.AdSq.Gen.facts = @Cert.AdSqIdeal.defs₀ Bits _ Cert.AdSqIdeal.Gen.facts :=
  congrArg Defs.onTc (funext fun l => by fin_cases l; rfl)

theorem frame_AdSq : @Cert.quiescent_AdSq Cert.AdSq.Gen.facts := fun m g _ => by
  rw [show @Cert.AdSq.defs Bits _ Cert.AdSq.Gen.facts = @Cert.AdSqIdeal.defs Bits _ Cert.AdSqIdeal.Gen.facts from congrArg (Pipeline.defs _) bodies_AdSq]
  exact (θ_run Cert.AdSqIdeal.defs _ _).mono (fun _ h => h) (Cert.AdSqIdeal.Gen.frame (F := Bits) m g)

theorem frame_AdSqIdeal : @Cert.quiescent_AdSqIdeal Cert.AdSqIdeal.Gen.facts := fun m g _ => Cert.AdSqIdeal.Gen.frame m g

theorem frame_AdSqRefIdeal : @Cert.quiescent_AdSqRefIdeal Cert.AdSqRefIdeal.Gen.facts := fun m g _ =>
  (θ_run _ _ _).mono (fun r h => ⟨fun c => (h c).2.2.2.2, sem_eq_zero_of_no_sems (by decide) r.2⟩) (Cert.AdSqRefIdeal.Value.run m g)

theorem bodies_AdFf1 : @Cert.AdFf1.defs₀ Bits _ Cert.AdFf1.Gen.facts = @Cert.AdFf1Ideal.defs₀ Bits _ Cert.AdFf1Ideal.Gen.facts :=
  congrArg Defs.onTc (funext fun l => by fin_cases l; rfl)

theorem frame_AdFf1 : @Cert.quiescent_AdFf1 Cert.AdFf1.Gen.facts := fun m g _ => by
  rw [show @Cert.AdFf1.defs Bits _ Cert.AdFf1.Gen.facts = @Cert.AdFf1Ideal.defs Bits _ Cert.AdFf1Ideal.Gen.facts from congrArg (Pipeline.defs _) bodies_AdFf1]
  exact (θ_run Cert.AdFf1Ideal.defs _ _).mono (fun _ h => h) (Cert.AdFf1Ideal.Gen.frame (F := Bits) m g)

theorem frame_AdFf1Ideal : @Cert.quiescent_AdFf1Ideal Cert.AdFf1Ideal.Gen.facts := fun m g _ => Cert.AdFf1Ideal.Gen.frame m g

theorem frame_AdFf1RefIdeal : @Cert.quiescent_AdFf1RefIdeal Cert.AdFf1RefIdeal.Gen.facts := fun m g _ =>
  (θ_run _ _ _).mono (fun r h => ⟨fun c => (h c).2.2.2.2, sem_eq_zero_of_no_sems (by decide) r.2⟩) (Cert.AdFf1RefIdeal.Value.run m g)

theorem bodies_AdFf2 : @Cert.AdFf2.defs₀ Bits _ Cert.AdFf2.Gen.facts = @Cert.AdFf2Ideal.defs₀ Bits _ Cert.AdFf2Ideal.Gen.facts :=
  congrArg Defs.onTc (funext fun l => by fin_cases l; rfl)

theorem frame_AdFf2 : @Cert.quiescent_AdFf2 Cert.AdFf2.Gen.facts := fun m g _ => by
  rw [show @Cert.AdFf2.defs Bits _ Cert.AdFf2.Gen.facts = @Cert.AdFf2Ideal.defs Bits _ Cert.AdFf2Ideal.Gen.facts from congrArg (Pipeline.defs _) bodies_AdFf2]
  exact (θ_run Cert.AdFf2Ideal.defs _ _).mono (fun _ h => h) (Cert.AdFf2Ideal.Gen.frame (F := Bits) m g)

theorem frame_AdFf2Ideal : @Cert.quiescent_AdFf2Ideal Cert.AdFf2Ideal.Gen.facts := fun m g _ => Cert.AdFf2Ideal.Gen.frame m g

theorem frame_AdFf2RefIdeal : @Cert.quiescent_AdFf2RefIdeal Cert.AdFf2RefIdeal.Gen.facts := fun m g _ =>
  (θ_run _ _ _).mono (fun r h => ⟨fun c => (h c).2.2.2.2, sem_eq_zero_of_no_sems (by decide) r.2⟩) (Cert.AdFf2RefIdeal.Value.run m g)

theorem bodies_AdPle : @Cert.AdPle.defs₀ Bits _ Cert.AdPle.Gen.facts = @Cert.AdPleIdeal.defs₀ Bits _ Cert.AdPleIdeal.Gen.facts :=
  congrArg Defs.onTc (funext fun l => by fin_cases l; rfl)

theorem frame_AdPle : @Cert.quiescent_AdPle Cert.AdPle.Gen.facts := fun m g _ => by
  rw [show @Cert.AdPle.defs Bits _ Cert.AdPle.Gen.facts = @Cert.AdPleIdeal.defs Bits _ Cert.AdPleIdeal.Gen.facts from congrArg (Pipeline.defs _) bodies_AdPle]
  exact (θ_run Cert.AdPleIdeal.defs _ _).mono (fun _ h => h) (Cert.AdPleIdeal.Gen.frame (F := Bits) m g)

theorem frame_AdPleIdeal : @Cert.quiescent_AdPleIdeal Cert.AdPleIdeal.Gen.facts := fun m g _ => Cert.AdPleIdeal.Gen.frame m g

theorem frame_AdPleRefIdeal : @Cert.quiescent_AdPleRefIdeal Cert.AdPleRefIdeal.Gen.facts := fun m g _ =>
  (θ_run _ _ _).mono (fun r h => ⟨fun c => (h c).2.2.2.2, sem_eq_zero_of_no_sems (by decide) r.2⟩) (Cert.AdPleRefIdeal.Value.run m g)

theorem bodies_AdSmall : @Cert.AdSmall.defs₀ Bits _ Cert.AdSmall.Gen.facts = @Cert.AdSmallIdeal.defs₀ Bits _ Cert.AdSmallIdeal.Gen.facts :=
  congrArg Defs.onTc (funext fun l => by fin_cases l; rfl)

theorem frame_AdSmall : @Cert.quiescent_AdSmall Cert.AdSmall.Gen.facts := fun m g _ => by
  rw [show @Cert.AdSmall.defs Bits _ Cert.AdSmall.Gen.facts = @Cert.AdSmallIdeal.defs Bits _ Cert.AdSmallIdeal.Gen.facts from congrArg (Pipeline.defs _) bodies_AdSmall]
  exact (θ_run Cert.AdSmallIdeal.defs _ _).mono (fun _ h => h) (Cert.AdSmallIdeal.Gen.frame (F := Bits) m g)

theorem frame_AdSmallIdeal : @Cert.quiescent_AdSmallIdeal Cert.AdSmallIdeal.Gen.facts := fun m g _ => Cert.AdSmallIdeal.Gen.frame m g

theorem frame_AdSmallRefIdeal : @Cert.quiescent_AdSmallRefIdeal Cert.AdSmallRefIdeal.Gen.facts := fun m g _ =>
  (θ_run _ _ _).mono (fun r h => ⟨fun c => (h c).2.2.2.2, sem_eq_zero_of_no_sems (by decide) r.2⟩) (Cert.AdSmallRefIdeal.Value.run m g)

end Cert.Same

end
-- ==== Proof.Rows.Adam.lean ====
/- One step of the optimiser, on numbers. -/
module

public import Idealize.ShloMosaic.Lib.Pointwise
public import Idealize.ShloMosaic.Lib.IdealHost

@[expose] public section

noncomputable section

namespace Cert.Rows.Adam

open Idealize.ShloMosaic

/-- The gradient: the sum of the eight devices' terms. -/
def total (p : Fin 8 → EReal) : EReal := ∑ k, p k

theorem total_eq (p : Fin 8 → EReal) : p 0 + p 1 + p 2 + p 3 + p 4 + p 5 + p 6 + p 7 = total p := (Fin.sum_univ_eight p).symm

/-- The running mean of the gradient, and of its square. -/
def mean (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)

/-- The step of a weight. -/
def step (g w m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32) + Ideal.ofBits .f32 0x3C23D70A#32 * w)

end Cert.Rows.Adam

end
-- ==== Proof.Rows.Blocks.lean ====
/- Arrays read place by place, and arrays written block of rows by block of rows. -/
module

public import Idealize.ShloMosaic.Lib.Pointwise
public import Idealize.ShloMosaic.Lib.IdealHost

@[expose] public section

noncomputable section

namespace Cert.Rows.Blocks

open Idealize.ShloMosaic

theorem origin : (![0, 0] : Fin 2 → Nat) = fun _ => 0 := funext fun a => by fin_cases a <;> rfl

section Arrays

variable {R C T N : ℕ}

/-- Two arrays with the same entries. -/
theorem same {X Y : (⟨2, ![R, C]⟩ : Shape).Idx → EReal} (h : ∀ p q, X (ix2 p q) = Y (ix2 p q)) : X = Y := funext fun j => by
  obtain ⟨p, q, rfl⟩ : ∃ (p : Fin R) (q : Fin C), j = ix2 p q := ⟨j 0, j 1, by funext a; fin_cases a <;> rfl⟩
  exact h p q

/-- The row of a whole array that row `r` of block `t` is. -/
def row (h : R = N * T) (t : Fin N) (r : Fin T) : Fin R :=
  ⟨t.val * T + 1 * r.val, by subst h; rw [one_mul]; exact lt_of_lt_of_le (Nat.add_lt_add_left r.isLt _) (by rw [← Nat.succ_mul]; exact Nat.mul_le_mul_right _ t.isLt)⟩

/-- The place of a block's entry in the whole array. -/
theorem placed (h : R = N * T) (t : Fin N) (r : Fin T) (q : Fin C) (i : (⟨2, ![R, C]⟩ : Shape).Idx) (a b : ℕ) (hab : a = t.val ∧ b = 0)
    (h0 : (i 0).val = a * T + 1 * r.val) (h1 : (i 1).val = b * C + 1 * q.val) : i = ix2 (row h t r) q := by
  obtain ⟨rfl, rfl⟩ := hab
  funext x
  apply Fin.ext
  match x with
  | ⟨0, _⟩ => exact h0
  | ⟨1, _⟩ => exact h1.trans (by show 0 * C + 1 * q.val = q.val; ring)

/-- The same, for the eight devices' terms. -/
theorem placed' (h : R = N * T) (t : Fin N) (k : Fin 8) (r : Fin T) (q : Fin C) (i : (⟨3, ![8, R, C]⟩ : Shape).Idx) (o a b : ℕ) (hab : o = 0 ∧ a = t.val ∧ b = 0)
    (hk : (i 0).val = o * 8 + 1 * k.val) (h0 : (i 1).val = a * T + 1 * r.val) (h1 : (i 2).val = b * C + 1 * q.val) : i = ix3 k (row h t r) q := by
  obtain ⟨rfl, rfl, rfl⟩ := hab
  funext x
  apply Fin.ext
  match x with
  | ⟨0, _⟩ => exact hk.trans (by show 0 * 8 + 1 * k.val = k.val; ring)
  | ⟨1, _⟩ => exact h0
  | ⟨2, _⟩ => exact h1.trans (by show 0 * C + 1 * q.val = q.val; ring)

/-- An array known block by block. -/
theorem of_blocks (h : R = N * T) (hT : 0 < T) (X : (⟨2, ![R, C]⟩ : Shape).Idx → EReal) (f : Fin R → Fin C → EReal)
    (hb : ∀ t r q, X (ix2 (row h t r) q) = f (row h t r) q) (p : Fin R) (q : Fin C) : X (ix2 p q) = f p q := by
  have ht : p.val / T < N := by
    rw [Nat.div_lt_iff_lt_mul hT]; exact lt_of_lt_of_eq p.isLt h
  have e : row h ⟨p.val / T, ht⟩ ⟨p.val % T, Nat.mod_lt _ hT⟩ = p := Fin.ext (by show p.val / T * T + 1 * (p.val % T) = p.val; rw [one_mul]; exact Nat.div_add_mod' _ _)
  have := hb ⟨p.val / T, ht⟩ ⟨p.val % T, Nat.mod_lt _ hT⟩ q
  rwa [e] at this

end Arrays

/-- An array that every step reads whole. -/
theorem whole {S : Shape} (i x : S.Idx) (b : Fin S.rank → ℕ) (hb : ∀ a, b a = 0) (h : ∀ a, (x a).val = b a * S.size a + 1 * (i a).val) : x = i :=
  funext fun a => Fin.ext ((h a).trans (by rw [hb a]; omega))

end Cert.Rows.Blocks

end
-- ==== Proof.Rows.AdBr.lean ====
/- The optimiser's step on a branch projection's weights: the call, and the plain lines. -/
module

public import proofs.«01_k».proof.Defs
public import proofs.«01_k».proof.Proof.Rows.Adam
public import proofs.«01_k».proof.Proof.Rows.Blocks
public import proofs.«01_k».proof.Proof.Gen.AdBrIdeal.Value
public import proofs.«01_k».proof.Proof.Gen.AdBrRefIdeal.Run

@[expose] public section

noncomputable section

namespace Cert.AdBrIdeal.Rows

open Cert.AdBrIdeal Cert.AdBrIdeal.Gen Idealize.ShloMosaic Idealize.ShloMosaic.TcCoe Idealize.SL.Sem
open Cert.Rows.Adam Cert.Rows.Blocks

section Block

variable (x0 : S8x512x128.Idx → EReal) (x1 x2 x3 : S512x128.Idx → EReal) (r : Fin 512) (q : Fin 128)

theorem sum_at : k0_pay5 (F := Ideal) x0 x1 x2 x3 (ix2 r q) = total fun k => x0 (ix3 k r q) := by
  unfold k0_pay5
  pointwise [k0_pay4]
  exact total_eq fun k => x0 (ix3 k r q)

theorem total_at : out0_4 (F := Ideal) x0 x1 x2 x3 (ix2 r q) = total fun k => x0 (ix3 k r q) := by
  unfold out0_4
  rw [View.canon_unit_zero (S := S512x128) origin]
  exact sum_at x0 x1 x2 x3 r q

theorem mean_at : out0_6 (F := Ideal) x0 x1 x2 x3 (ix2 r q) = mean (total fun k => x0 (ix3 k r q)) (x2 (ix2 r q)) := by
  unfold out0_6
  rw [View.canon_unit_zero (S := S512x128) origin]
  pointwise [k0_pay1]
  rw [sum_at]; rfl

theorem square_at : out0_7 (F := Ideal) x0 x1 x2 x3 (ix2 r q) = square (total fun k => x0 (ix3 k r q)) (x3 (ix2 r q)) := by
  unfold out0_7
  rw [View.canon_unit_zero (S := S512x128) origin]
  pointwise [k0_pay2]
  rw [sum_at]; rfl

theorem step_at : out0_5 (F := Ideal) x0 x1 x2 x3 (ix2 r q) = step (total fun k => x0 (ix3 k r q)) (x1 (ix2 r q)) (x2 (ix2 r q)) (x3 (ix2 r q)) := by
  unfold out0_5
  rw [View.canon_unit_zero (S := S512x128) origin]
  pointwise [k0_pay3, k0_pay1, k0_pay2]
  rw [sum_at]; rfl

end Block

variable (m : (ℓ : Loc nD τ sig) → Buf (Elt Ideal) ℓ) (c : Dev nD)

/-- The arguments, at a place. -/
def part (k : Fin 8) (p : Fin 512) (q : Fin 128) : EReal := (m ((c : Thread nD τ).loc main_arg0) : S8x512x128.Idx → EReal) (ix3 k p q)
def arg1 (p : Fin 512) (q : Fin 128) : EReal := (m ((c : Thread nD τ).loc main_arg1) : S512x128.Idx → EReal) (ix2 p q)
def arg2 (p : Fin 512) (q : Fin 128) : EReal := (m ((c : Thread nD τ).loc main_arg2) : S512x128.Idx → EReal) (ix2 p q)
def arg3 (p : Fin 512) (q : Fin 128) : EReal := (m ((c : Thread nD τ).loc main_arg3) : S512x128.Idx → EReal) (ix2 p q)

theorem index0 : ∀ t : Fin cfg0.N, win0_0.index t 0 = 0 ∧ win0_0.index t 1 = t.val ∧ win0_0.index t 2 = 0 := (by decide +kernel : ∀ t : Fin grid0.N, _)
theorem index : ∀ t : Fin cfg0.N, win0_1.index t 0 = t.val ∧ win0_1.index t 1 = 0 := (by decide +kernel : ∀ t : Fin grid0.N, _)

theorem rows : 512 = cfg0.N * 512 := by rw [show cfg0.N = 1 from N_0]

/-- The blocks a step reads. -/
theorem part_at (t : Fin cfg0.N) (k : Fin 8) (r : Fin 512) (q : Fin 128) : (iblk m c 0 t : S8x512x128.Idx → EReal) (ix3 k r q) = part m c k (row rows t r) q := by
  unfold iblk
  rw [View.read_apply]
  show V m c main_arg0 _ = _
  rw [V_main_arg0]
  exact congrArg _ (placed' rows t k r q _ _ _ _ (index0 t) rfl rfl rfl)

theorem arg1_at (t : Fin cfg0.N) (r : Fin 512) (q : Fin 128) : (iblk m c 1 t : S512x128.Idx → EReal) (ix2 r q) = arg1 m c (row rows t r) q := by
  unfold iblk
  rw [View.read_apply]
  show V m c main_arg1 _ = _
  rw [V_main_arg1]
  exact congrArg _ (placed rows t r q _ _ _ (index t) rfl rfl)

theorem arg2_at (t : Fin cfg0.N) (r : Fin 512) (q : Fin 128) : (iblk m c 2 t : S512x128.Idx → EReal) (ix2 r q) = arg2 m c (row rows t r) q := by
  unfold iblk
  rw [View.read_apply]
  show V m c main_arg2 _ = _
  rw [V_main_arg2]
  exact congrArg _ (placed rows t r q _ _ _ (index t) rfl rfl)

theorem arg3_at (t : Fin cfg0.N) (r : Fin 512) (q : Fin 128) : (iblk m c 3 t : S512x128.Idx → EReal) (ix2 r q) = arg3 m c (row rows t r) q := by
  unfold iblk
  rw [View.read_apply]
  show V m c main_arg3 _ = _
  rw [V_main_arg3]
  exact congrArg _ (placed rows t r q _ _ _ (index t) rfl rfl)

theorem result4 (p : Fin 512) (q : Fin 128) : ((dats m 0 c).arrAt 4 cfg0.N : S512x128.Idx → EReal) (ix2 p q) = total fun k => part m c k p q := by
  refine of_blocks rows (by decide) _ (fun p q => total fun k => part m c k p q) (fun t r q => ?_) p q
  have e := congrFun (Value.blocks4 m c t (flush0_4 _)) (ix2 r q)
  rw [View.read_apply, Value.flushed4] at e
  exact (congrArg _ (placed rows t r q _ _ _ (index t) rfl rfl).symm).trans (e.trans ((total_at _ _ _ _ r q).trans (by simp only [part_at])))

theorem result5 (p : Fin 512) (q : Fin 128) : ((dats m 0 c).arrAt 5 cfg0.N : S512x128.Idx → EReal) (ix2 p q) = step (total fun k => part m c k p q) (arg1 m c p q) (arg2 m c p q) (arg3 m c p q) := by
  refine of_blocks rows (by decide) _ (fun p q => step (total fun k => part m c k p q) (arg1 m c p q) (arg2 m c p q) (arg3 m c p q)) (fun t r q => ?_) p q
  have e := congrFun (Value.blocks5 m c t (flush0_5 _)) (ix2 r q)
  rw [View.read_apply, Value.flushed5] at e
  exact (congrArg _ (placed rows t r q _ _ _ (index t) rfl rfl).symm).trans (e.trans ((step_at _ _ _ _ r q).trans (by simp only [part_at, arg1_at, arg2_at, arg3_at])))

theorem result6 (p : Fin 512) (q : Fin 128) : ((dats m 0 c).arrAt 6 cfg0.N : S512x128.Idx → EReal) (ix2 p q) = mean (total fun k => part m c k p q) (arg2 m c p q) := by
  refine of_blocks rows (by decide) _ (fun p q => mean (total fun k => part m c k p q) (arg2 m c p q)) (fun t r q => ?_) p q
  have e := congrFun (Value.blocks6 m c t (flush0_6 _)) (ix2 r q)
  rw [View.read_apply, Value.flushed6] at e
  exact (congrArg _ (placed rows t r q _ _ _ (index t) rfl rfl).symm).trans (e.trans ((mean_at _ _ _ _ r q).trans (by simp only [part_at, arg2_at])))

theorem result7 (p : Fin 512) (q : Fin 128) : ((dats m 0 c).arrAt 7 cfg0.N : S512x128.Idx → EReal) (ix2 p q) = square (total fun k => part m c k p q) (arg3 m c p q) := by
  refine of_blocks rows (by decide) _ (fun p q => square (total fun k => part m c k p q) (arg3 m c p q)) (fun t r q => ?_) p q
  have e := congrFun (Value.blocks7 m c t (flush0_7 _)) (ix2 r q)
  rw [View.read_apply, Value.flushed7] at e
  exact (congrArg _ (placed rows t r q _ _ _ (index t) rfl rfl).symm).trans (e.trans ((square_at _ _ _ _ r q).trans (by simp only [part_at, arg3_at])))

end Cert.AdBrIdeal.Rows

open Idealize.ShloMosaic Cert.AdBrIdeal.Rows in
/-- The call leaves the gradient, the step, and the two running means. -/
theorem Cert.adam_branch : @Cert.algebraic_AdBrIdeal_AdBrRefIdeal Cert.AdBrIdeal.Gen.facts Cert.AdBrRefIdeal.Gen.facts := by
  intro m g m' g' _ hm
  refine ⟨fun c => (Cert.AdBrIdeal.Gen.dats m 0 c).arrAt 4 Cert.AdBrIdeal.cfg0.N, fun c => (Cert.AdBrIdeal.Gen.dats m 0 c).arrAt 5 Cert.AdBrIdeal.cfg0.N, fun c => (Cert.AdBrIdeal.Gen.dats m 0 c).arrAt 6 Cert.AdBrIdeal.cfg0.N, fun c => (Cert.AdBrIdeal.Gen.dats m 0 c).arrAt 7 Cert.AdBrIdeal.cfg0.N, Cert.AdBrIdeal.Value.run_blocks m g, ?_⟩
  refine (Idealize.ShloMosaic.θ_run Cert.AdBrRefIdeal.defs _ _).mono
    (fun r h c => ⟨(h c).1.trans ?_, (h c).2.1.trans ?_, (h c).2.2.1.trans ?_, (h c).2.2.2.1.trans ?_, (h c).2.2.2.2⟩) (Cert.AdBrRefIdeal.Value.run m' g')
  · rw [(hm c).1]
    refine Cert.Rows.Blocks.same fun p q => Eq.trans ?_ (result4 m c p q).symm
    pointwise
    rfl
  · rw [(hm c).1, (hm c).2.1, (hm c).2.2.1, (hm c).2.2.2]
    refine Cert.Rows.Blocks.same fun p q => Eq.trans ?_ (result5 m c p q).symm
    pointwise
    rfl
  · rw [(hm c).1, (hm c).2.2.1]
    refine Cert.Rows.Blocks.same fun p q => Eq.trans ?_ (result6 m c p q).symm
    pointwise
    rfl
  · rw [(hm c).1, (hm c).2.2.2]
    refine Cert.Rows.Blocks.same fun p q => Eq.trans ?_ (result7 m c p q).symm
    pointwise
    rfl

end
-- ==== Proof.Rows.AdFf1.lean ====
/- The optimiser's step on the feed-forward layer's first weights: the call, and the plain lines. -/
module

public import proofs.«01_k».proof.Defs
public import proofs.«01_k».proof.Proof.Rows.Adam
public import proofs.«01_k».proof.Proof.Rows.Blocks
public import proofs.«01_k».proof.Proof.Gen.AdFf1Ideal.Value
public import proofs.«01_k».proof.Proof.Gen.AdFf1RefIdeal.Run

@[expose] public section

noncomputable section

namespace Cert.AdFf1Ideal.Rows

open Cert.AdFf1Ideal Cert.AdFf1Ideal.Gen Idealize.ShloMosaic Idealize.ShloMosaic.TcCoe Idealize.SL.Sem
open Cert.Rows.Adam Cert.Rows.Blocks

section Block

variable (x0 : S8x256x512.Idx → EReal) (x1 x2 x3 : S256x512.Idx → EReal) (r : Fin 256) (q : Fin 512)

theorem sum_at : k0_pay5 (F := Ideal) x0 x1 x2 x3 (ix2 r q) = total fun k => x0 (ix3 k r q) := by
  unfold k0_pay5
  pointwise [k0_pay4]
  exact total_eq fun k => x0 (ix3 k r q)

theorem total_at : out0_4 (F := Ideal) x0 x1 x2 x3 (ix2 r q) = total fun k => x0 (ix3 k r q) := by
  unfold out0_4
  rw [View.canon_unit_zero (S := S256x512) origin]
  exact sum_at x0 x1 x2 x3 r q

theorem mean_at : out0_6 (F := Ideal) x0 x1 x2 x3 (ix2 r q) = mean (total fun k => x0 (ix3 k r q)) (x2 (ix2 r q)) := by
  unfold out0_6
  rw [View.canon_unit_zero (S := S256x512) origin]
  pointwise [k0_pay1]
  rw [sum_at]; rfl

theorem square_at : out0_7 (F := Ideal) x0 x1 x2 x3 (ix2 r q) = square (total fun k => x0 (ix3 k r q)) (x3 (ix2 r q)) := by
  unfold out0_7
  rw [View.canon_unit_zero (S := S256x512) origin]
  pointwise [k0_pay2]
  rw [sum_at]; rfl

theorem step_at : out0_5 (F := Ideal) x0 x1 x2 x3 (ix2 r q) = step (total fun k => x0 (ix3 k r q)) (x1 (ix2 r q)) (x2 (ix2 r q)) (x3 (ix2 r q)) := by
  unfold out0_5
  rw [View.canon_unit_zero (S := S256x512) origin]
  pointwise [k0_pay3, k0_pay1, k0_pay2]
  rw [sum_at]; rfl

end Block

variable (m : (ℓ : Loc nD τ sig) → Buf (Elt Ideal) ℓ) (c : Dev nD)

/-- The arguments, at a place. -/
def part (k : Fin 8) (p : Fin 1024) (q : Fin 512) : EReal := (m ((c : Thread nD τ).loc main_arg0) : S8x1024x512.Idx → EReal) (ix3 k p q)
def arg1 (p : Fin 1024) (q : Fin 512) : EReal := (m ((c : Thread nD τ).loc main_arg1) : S1024x512.Idx → EReal) (ix2 p q)
def arg2 (p : Fin 1024) (q : Fin 512) : EReal := (m ((c : Thread nD τ).loc main_arg2) : S1024x512.Idx → EReal) (ix2 p q)
def arg3 (p : Fin 1024) (q : Fin 512) : EReal := (m ((c : Thread nD τ).loc main_arg3) : S1024x512.Idx → EReal) (ix2 p q)

theorem index0 : ∀ t : Fin cfg0.N, win0_0.index t 0 = 0 ∧ win0_0.index t 1 = t.val ∧ win0_0.index t 2 = 0 := (by decide +kernel : ∀ t : Fin grid0.N, _)
theorem index : ∀ t : Fin cfg0.N, win0_1.index t 0 = t.val ∧ win0_1.index t 1 = 0 := (by decide +kernel : ∀ t : Fin grid0.N, _)

theorem rows : 1024 = cfg0.N * 256 := by rw [show cfg0.N = 4 from N_0]

/-- The blocks a step reads. -/
theorem part_at (t : Fin cfg0.N) (k : Fin 8) (r : Fin 256) (q : Fin 512) : (iblk m c 0 t : S8x256x512.Idx → EReal) (ix3 k r q) = part m c k (row rows t r) q := by
  unfold iblk
  rw [View.read_apply]
  show V m c main_arg0 _ = _
  rw [V_main_arg0]
  exact congrArg _ (placed' rows t k r q _ _ _ _ (index0 t) rfl rfl rfl)

theorem arg1_at (t : Fin cfg0.N) (r : Fin 256) (q : Fin 512) : (iblk m c 1 t : S256x512.Idx → EReal) (ix2 r q) = arg1 m c (row rows t r) q := by
  unfold iblk
  rw [View.read_apply]
  show V m c main_arg1 _ = _
  rw [V_main_arg1]
  exact congrArg _ (placed rows t r q _ _ _ (index t) rfl rfl)

theorem arg2_at (t : Fin cfg0.N) (r : Fin 256) (q : Fin 512) : (iblk m c 2 t : S256x512.Idx → EReal) (ix2 r q) = arg2 m c (row rows t r) q := by
  unfold iblk
  rw [View.read_apply]
  show V m c main_arg2 _ = _
  rw [V_main_arg2]
  exact congrArg _ (placed rows t r q _ _ _ (index t) rfl rfl)

theorem arg3_at (t : Fin cfg0.N) (r : Fin 256) (q : Fin 512) : (iblk m c 3 t : S256x512.Idx → EReal) (ix2 r q) = arg3 m c (row rows t r) q := by
  unfold iblk
  rw [View.read_apply]
  show V m c main_arg3 _ = _
  rw [V_main_arg3]
  exact congrArg _ (placed rows t r q _ _ _ (index t) rfl rfl)

theorem result4 (p : Fin 1024) (q : Fin 512) : ((dats m 0 c).arrAt 4 cfg0.N : S1024x512.Idx → EReal) (ix2 p q) = total fun k => part m c k p q := by
  refine of_blocks rows (by decide) _ (fun p q => total fun k => part m c k p q) (fun t r q => ?_) p q
  have e := congrFun (Value.blocks4 m c t (flush0_4 _)) (ix2 r q)
  rw [View.read_apply, Value.flushed4] at e
  exact (congrArg _ (placed rows t r q _ _ _ (index t) rfl rfl).symm).trans (e.trans ((total_at _ _ _ _ r q).trans (by simp only [part_at])))

theorem result5 (p : Fin 1024) (q : Fin 512) : ((dats m 0 c).arrAt 5 cfg0.N : S1024x512.Idx → EReal) (ix2 p q) = step (total fun k => part m c k p q) (arg1 m c p q) (arg2 m c p q) (arg3 m c p q) := by
  refine of_blocks rows (by decide) _ (fun p q => step (total fun k => part m c k p q) (arg1 m c p q) (arg2 m c p q) (arg3 m c p q)) (fun t r q => ?_) p q
  have e := congrFun (Value.blocks5 m c t (flush0_5 _)) (ix2 r q)
  rw [View.read_apply, Value.flushed5] at e
  exact (congrArg _ (placed rows t r q _ _ _ (index t) rfl rfl).symm).trans (e.trans ((step_at _ _ _ _ r q).trans (by simp only [part_at, arg1_at, arg2_at, arg3_at])))

theorem result6 (p : Fin 1024) (q : Fin 512) : ((dats m 0 c).arrAt 6 cfg0.N : S1024x512.Idx → EReal) (ix2 p q) = mean (total fun k => part m c k p q) (arg2 m c p q) := by
  refine of_blocks rows (by decide) _ (fun p q => mean (total fun k => part m c k p q) (arg2 m c p q)) (fun t r q => ?_) p q
  have e := congrFun (Value.blocks6 m c t (flush0_6 _)) (ix2 r q)
  rw [View.read_apply, Value.flushed6] at e
  exact (congrArg _ (placed rows t r q _ _ _ (index t) rfl rfl).symm).trans (e.trans ((mean_at _ _ _ _ r q).trans (by simp only [part_at, arg2_at])))

theorem result7 (p : Fin 1024) (q : Fin 512) : ((dats m 0 c).arrAt 7 cfg0.N : S1024x512.Idx → EReal) (ix2 p q) = square (total fun k => part m c k p q) (arg3 m c p q) := by
  refine of_blocks rows (by decide) _ (fun p q => square (total fun k => part m c k p q) (arg3 m c p q)) (fun t r q => ?_) p q
  have e := congrFun (Value.blocks7 m c t (flush0_7 _)) (ix2 r q)
  rw [View.read_apply, Value.flushed7] at e
  exact (congrArg _ (placed rows t r q _ _ _ (index t) rfl rfl).symm).trans (e.trans ((square_at _ _ _ _ r q).trans (by simp only [part_at, arg3_at])))

end Cert.AdFf1Ideal.Rows

open Idealize.ShloMosaic Cert.AdFf1Ideal.Rows in
/-- The call leaves the gradient, the step, and the two running means. -/
theorem Cert.adam_ff1 : @Cert.algebraic_AdFf1Ideal_AdFf1RefIdeal Cert.AdFf1Ideal.Gen.facts Cert.AdFf1RefIdeal.Gen.facts := by
  intro m g m' g' _ hm
  refine ⟨fun c => (Cert.AdFf1Ideal.Gen.dats m 0 c).arrAt 4 Cert.AdFf1Ideal.cfg0.N, fun c => (Cert.AdFf1Ideal.Gen.dats m 0 c).arrAt 5 Cert.AdFf1Ideal.cfg0.N, fun c => (Cert.AdFf1Ideal.Gen.dats m 0 c).arrAt 6 Cert.AdFf1Ideal.cfg0.N, fun c => (Cert.AdFf1Ideal.Gen.dats m 0 c).arrAt 7 Cert.AdFf1Ideal.cfg0.N, Cert.AdFf1Ideal.Value.run_blocks m g, ?_⟩
  refine (Idealize.ShloMosaic.θ_run Cert.AdFf1RefIdeal.defs _ _).mono
    (fun r h c => ⟨(h c).1.trans ?_, (h c).2.1.trans ?_, (h c).2.2.1.trans ?_, (h c).2.2.2.1.trans ?_, (h c).2.2.2.2⟩) (Cert.AdFf1RefIdeal.Value.run m' g')
  · rw [(hm c).1]
    refine Cert.Rows.Blocks.same fun p q => Eq.trans ?_ (result4 m c p q).symm
    pointwise
    rfl
  · rw [(hm c).1, (hm c).2.1, (hm c).2.2.1, (hm c).2.2.2]
    refine Cert.Rows.Blocks.same fun p q => Eq.trans ?_ (result5 m c p q).symm
    pointwise
    rfl
  · rw [(hm c).1, (hm c).2.2.1]
    refine Cert.Rows.Blocks.same fun p q => Eq.trans ?_ (result6 m c p q).symm
    pointwise
    rfl
  · rw [(hm c).1, (hm c).2.2.2]
    refine Cert.Rows.Blocks.same fun p q => Eq.trans ?_ (result7 m c p q).symm
    pointwise
    rfl

end
-- ==== Proof.Rows.AdFf2.lean ====
/- The optimiser's step on the feed-forward layer's second weights: the call, and the plain lines. -/
module

public import proofs.«01_k».proof.Defs
public import proofs.«01_k».proof.Proof.Rows.Adam
public import proofs.«01_k».proof.Proof.Rows.Blocks
public import proofs.«01_k».proof.Proof.Gen.AdFf2Ideal.Value
public import proofs.«01_k».proof.Proof.Gen.AdFf2RefIdeal.Run

@[expose] public section

noncomputable section

namespace Cert.AdFf2Ideal.Rows

open Cert.AdFf2Ideal Cert.AdFf2Ideal.Gen Idealize.ShloMosaic Idealize.ShloMosaic.TcCoe Idealize.SL.Sem
open Cert.Rows.Adam Cert.Rows.Blocks

section Block

variable (x0 : S8x128x1024.Idx → EReal) (x1 x2 x3 : S128x1024.Idx → EReal) (r : Fin 128) (q : Fin 1024)

theorem sum_at : k0_pay5 (F := Ideal) x0 x1 x2 x3 (ix2 r q) = total fun k => x0 (ix3 k r q) := by
  unfold k0_pay5
  pointwise [k0_pay4]
  exact total_eq fun k => x0 (ix3 k r q)

theorem total_at : out0_4 (F := Ideal) x0 x1 x2 x3 (ix2 r q) = total fun k => x0 (ix3 k r q) := by
  unfold out0_4
  rw [View.canon_unit_zero (S := S128x1024) origin]
  exact sum_at x0 x1 x2 x3 r q

theorem mean_at : out0_6 (F := Ideal) x0 x1 x2 x3 (ix2 r q) = mean (total fun k => x0 (ix3 k r q)) (x2 (ix2 r q)) := by
  unfold out0_6
  rw [View.canon_unit_zero (S := S128x1024) origin]
  pointwise [k0_pay1]
  rw [sum_at]; rfl

theorem square_at : out0_7 (F := Ideal) x0 x1 x2 x3 (ix2 r q) = square (total fun k => x0 (ix3 k r q)) (x3 (ix2 r q)) := by
  unfold out0_7
  rw [View.canon_unit_zero (S := S128x1024) origin]
  pointwise [k0_pay2]
  rw [sum_at]; rfl

theorem step_at : out0_5 (F := Ideal) x0 x1 x2 x3 (ix2 r q) = step (total fun k => x0 (ix3 k r q)) (x1 (ix2 r q)) (x2 (ix2 r q)) (x3 (ix2 r q)) := by
  unfold out0_5
  rw [View.canon_unit_zero (S := S128x1024) origin]
  pointwise [k0_pay3, k0_pay1, k0_pay2]
  rw [sum_at]; rfl

end Block

variable (m : (ℓ : Loc nD τ sig) → Buf (Elt Ideal) ℓ) (c : Dev nD)

/-- The arguments, at a place. -/
def part (k : Fin 8) (p : Fin 512) (q : Fin 1024) : EReal := (m ((c : Thread nD τ).loc main_arg0) : S8x512x1024.Idx → EReal) (ix3 k p q)
def arg1 (p : Fin 512) (q : Fin 1024) : EReal := (m ((c : Thread nD τ).loc main_arg1) : S512x1024.Idx → EReal) (ix2 p q)
def arg2 (p : Fin 512) (q : Fin 1024) : EReal := (m ((c : Thread nD τ).loc main_arg2) : S512x1024.Idx → EReal) (ix2 p q)
def arg3 (p : Fin 512) (q : Fin 1024) : EReal := (m ((c : Thread nD τ).loc main_arg3) : S512x1024.Idx → EReal) (ix2 p q)

theorem index0 : ∀ t : Fin cfg0.N, win0_0.index t 0 = 0 ∧ win0_0.index t 1 = t.val ∧ win0_0.index t 2 = 0 := (by decide +kernel : ∀ t : Fin grid0.N, _)
theorem index : ∀ t : Fin cfg0.N, win0_1.index t 0 = t.val ∧ win0_1.index t 1 = 0 := (by decide +kernel : ∀ t : Fin grid0.N, _)

theorem rows : 512 = cfg0.N * 128 := by rw [show cfg0.N = 4 from N_0]

/-- The blocks a step reads. -/
theorem part_at (t : Fin cfg0.N) (k : Fin 8) (r : Fin 128) (q : Fin 1024) : (iblk m c 0 t : S8x128x1024.Idx → EReal) (ix3 k r q) = part m c k (row rows t r) q := by
  unfold iblk
  rw [View.read_apply]
  show V m c main_arg0 _ = _
  rw [V_main_arg0]
  exact congrArg _ (placed' rows t k r q _ _ _ _ (index0 t) rfl rfl rfl)

theorem arg1_at (t : Fin cfg0.N) (r : Fin 128) (q : Fin 1024) : (iblk m c 1 t : S128x1024.Idx → EReal) (ix2 r q) = arg1 m c (row rows t r) q := by
  unfold iblk
  rw [View.read_apply]
  show V m c main_arg1 _ = _
  rw [V_main_arg1]
  exact congrArg _ (placed rows t r q _ _ _ (index t) rfl rfl)

theorem arg2_at (t : Fin cfg0.N) (r : Fin 128) (q : Fin 1024) : (iblk m c 2 t : S128x1024.Idx → EReal) (ix2 r q) = arg2 m c (row rows t r) q := by
  unfold iblk
  rw [View.read_apply]
  show V m c main_arg2 _ = _
  rw [V_main_arg2]
  exact congrArg _ (placed rows t r q _ _ _ (index t) rfl rfl)

theorem arg3_at (t : Fin cfg0.N) (r : Fin 128) (q : Fin 1024) : (iblk m c 3 t : S128x1024.Idx → EReal) (ix2 r q) = arg3 m c (row rows t r) q := by
  unfold iblk
  rw [View.read_apply]
  show V m c main_arg3 _ = _
  rw [V_main_arg3]
  exact congrArg _ (placed rows t r q _ _ _ (index t) rfl rfl)

theorem result4 (p : Fin 512) (q : Fin 1024) : ((dats m 0 c).arrAt 4 cfg0.N : S512x1024.Idx → EReal) (ix2 p q) = total fun k => part m c k p q := by
  refine of_blocks rows (by decide) _ (fun p q => total fun k => part m c k p q) (fun t r q => ?_) p q
  have e := congrFun (Value.blocks4 m c t (flush0_4 _)) (ix2 r q)
  rw [View.read_apply, Value.flushed4] at e
  exact (congrArg _ (placed rows t r q _ _ _ (index t) rfl rfl).symm).trans (e.trans ((total_at _ _ _ _ r q).trans (by simp only [part_at])))

theorem result5 (p : Fin 512) (q : Fin 1024) : ((dats m 0 c).arrAt 5 cfg0.N : S512x1024.Idx → EReal) (ix2 p q) = step (total fun k => part m c k p q) (arg1 m c p q) (arg2 m c p q) (arg3 m c p q) := by
  refine of_blocks rows (by decide) _ (fun p q => step (total fun k => part m c k p q) (arg1 m c p q) (arg2 m c p q) (arg3 m c p q)) (fun t r q => ?_) p q
  have e := congrFun (Value.blocks5 m c t (flush0_5 _)) (ix2 r q)
  rw [View.read_apply, Value.flushed5] at e
  exact (congrArg _ (placed rows t r q _ _ _ (index t) rfl rfl).symm).trans (e.trans ((step_at _ _ _ _ r q).trans (by simp only [part_at, arg1_at, arg2_at, arg3_at])))

theorem result6 (p : Fin 512) (q : Fin 1024) : ((dats m 0 c).arrAt 6 cfg0.N : S512x1024.Idx → EReal) (ix2 p q) = mean (total fun k => part m c k p q) (arg2 m c p q) := by
  refine of_blocks rows (by decide) _ (fun p q => mean (total fun k => part m c k p q) (arg2 m c p q)) (fun t r q => ?_) p q
  have e := congrFun (Value.blocks6 m c t (flush0_6 _)) (ix2 r q)
  rw [View.read_apply, Value.flushed6] at e
  exact (congrArg _ (placed rows t r q _ _ _ (index t) rfl rfl).symm).trans (e.trans ((mean_at _ _ _ _ r q).trans (by simp only [part_at, arg2_at])))

theorem result7 (p : Fin 512) (q : Fin 1024) : ((dats m 0 c).arrAt 7 cfg0.N : S512x1024.Idx → EReal) (ix2 p q) = square (total fun k => part m c k p q) (arg3 m c p q) := by
  refine of_blocks rows (by decide) _ (fun p q => square (total fun k => part m c k p q) (arg3 m c p q)) (fun t r q => ?_) p q
  have e := congrFun (Value.blocks7 m c t (flush0_7 _)) (ix2 r q)
  rw [View.read_apply, Value.flushed7] at e
  exact (congrArg _ (placed rows t r q _ _ _ (index t) rfl rfl).symm).trans (e.trans ((square_at _ _ _ _ r q).trans (by simp only [part_at, arg3_at])))

end Cert.AdFf2Ideal.Rows

open Idealize.ShloMosaic Cert.AdFf2Ideal.Rows in
/-- The call leaves the gradient, the step, and the two running means. -/
theorem Cert.adam_ff2 : @Cert.algebraic_AdFf2Ideal_AdFf2RefIdeal Cert.AdFf2Ideal.Gen.facts Cert.AdFf2RefIdeal.Gen.facts := by
  intro m g m' g' _ hm
  refine ⟨fun c => (Cert.AdFf2Ideal.Gen.dats m 0 c).arrAt 4 Cert.AdFf2Ideal.cfg0.N, fun c => (Cert.AdFf2Ideal.Gen.dats m 0 c).arrAt 5 Cert.AdFf2Ideal.cfg0.N, fun c => (Cert.AdFf2Ideal.Gen.dats m 0 c).arrAt 6 Cert.AdFf2Ideal.cfg0.N, fun c => (Cert.AdFf2Ideal.Gen.dats m 0 c).arrAt 7 Cert.AdFf2Ideal.cfg0.N, Cert.AdFf2Ideal.Value.run_blocks m g, ?_⟩
  refine (Idealize.ShloMosaic.θ_run Cert.AdFf2RefIdeal.defs _ _).mono
    (fun r h c => ⟨(h c).1.trans ?_, (h c).2.1.trans ?_, (h c).2.2.1.trans ?_, (h c).2.2.2.1.trans ?_, (h c).2.2.2.2⟩) (Cert.AdFf2RefIdeal.Value.run m' g')
  · rw [(hm c).1]
    refine Cert.Rows.Blocks.same fun p q => Eq.trans ?_ (result4 m c p q).symm
    pointwise
    rfl
  · rw [(hm c).1, (hm c).2.1, (hm c).2.2.1, (hm c).2.2.2]
    refine Cert.Rows.Blocks.same fun p q => Eq.trans ?_ (result5 m c p q).symm
    pointwise
    rfl
  · rw [(hm c).1, (hm c).2.2.1]
    refine Cert.Rows.Blocks.same fun p q => Eq.trans ?_ (result6 m c p q).symm
    pointwise
    rfl
  · rw [(hm c).1, (hm c).2.2.2]
    refine Cert.Rows.Blocks.same fun p q => Eq.trans ?_ (result7 m c p q).symm
    pointwise
    rfl

end
-- ==== Proof.Rows.AdIn.lean ====
/- The optimiser's step on the first projection's weights: the call, and the plain lines. -/
module

public import proofs.«01_k».proof.Defs
public import proofs.«01_k».proof.Proof.Rows.Adam
public import proofs.«01_k».proof.Proof.Rows.Blocks
public import proofs.«01_k».proof.Proof.Gen.AdInIdeal.Value
public import proofs.«01_k».proof.Proof.Gen.AdInRefIdeal.Run

@[expose] public section

noncomputable section

namespace Cert.AdInIdeal.Rows

open Cert.AdInIdeal Cert.AdInIdeal.Gen Idealize.ShloMosaic Idealize.ShloMosaic.TcCoe Idealize.SL.Sem
open Cert.Rows.Adam Cert.Rows.Blocks

section Block

variable (x0 : S8x112x1024.Idx → EReal) (x1 x2 x3 : S112x1024.Idx → EReal) (r : Fin 112) (q : Fin 1024)

theorem sum_at : k0_pay5 (F := Ideal) x0 x1 x2 x3 (ix2 r q) = total fun k => x0 (ix3 k r q) := by
  unfold k0_pay5
  pointwise [k0_pay4]
  exact total_eq fun k => x0 (ix3 k r q)

theorem total_at : out0_4 (F := Ideal) x0 x1 x2 x3 (ix2 r q) = total fun k => x0 (ix3 k r q) := by
  unfold out0_4
  rw [View.canon_unit_zero (S := S112x1024) origin]
  exact sum_at x0 x1 x2 x3 r q

theorem mean_at : out0_6 (F := Ideal) x0 x1 x2 x3 (ix2 r q) = mean (total fun k => x0 (ix3 k r q)) (x2 (ix2 r q)) := by
  unfold out0_6
  rw [View.canon_unit_zero (S := S112x1024) origin]
  pointwise [k0_pay1]
  rw [sum_at]; rfl

theorem square_at : out0_7 (F := Ideal) x0 x1 x2 x3 (ix2 r q) = square (total fun k => x0 (ix3 k r q)) (x3 (ix2 r q)) := by
  unfold out0_7
  rw [View.canon_unit_zero (S := S112x1024) origin]
  pointwise [k0_pay2]
  rw [sum_at]; rfl

theorem step_at : out0_5 (F := Ideal) x0 x1 x2 x3 (ix2 r q) = step (total fun k => x0 (ix3 k r q)) (x1 (ix2 r q)) (x2 (ix2 r q)) (x3 (ix2 r q)) := by
  unfold out0_5
  rw [View.canon_unit_zero (S := S112x1024) origin]
  pointwise [k0_pay3, k0_pay1, k0_pay2]
  rw [sum_at]; rfl

end Block

variable (m : (ℓ : Loc nD τ sig) → Buf (Elt Ideal) ℓ) (c : Dev nD)

/-- The arguments, at a place. -/
def part (k : Fin 8) (p : Fin 560) (q : Fin 1024) : EReal := (m ((c : Thread nD τ).loc main_arg0) : S8x560x1024.Idx → EReal) (ix3 k p q)
def arg1 (p : Fin 560) (q : Fin 1024) : EReal := (m ((c : Thread nD τ).loc main_arg1) : S560x1024.Idx → EReal) (ix2 p q)
def arg2 (p : Fin 560) (q : Fin 1024) : EReal := (m ((c : Thread nD τ).loc main_arg2) : S560x1024.Idx → EReal) (ix2 p q)
def arg3 (p : Fin 560) (q : Fin 1024) : EReal := (m ((c : Thread nD τ).loc main_arg3) : S560x1024.Idx → EReal) (ix2 p q)

theorem index0 : ∀ t : Fin cfg0.N, win0_0.index t 0 = 0 ∧ win0_0.index t 1 = t.val ∧ win0_0.index t 2 = 0 := (by decide +kernel : ∀ t : Fin grid0.N, _)
theorem index : ∀ t : Fin cfg0.N, win0_1.index t 0 = t.val ∧ win0_1.index t 1 = 0 := (by decide +kernel : ∀ t : Fin grid0.N, _)

theorem rows : 560 = cfg0.N * 112 := by rw [show cfg0.N = 5 from N_0]

/-- The blocks a step reads. -/
theorem part_at (t : Fin cfg0.N) (k : Fin 8) (r : Fin 112) (q : Fin 1024) : (iblk m c 0 t : S8x112x1024.Idx → EReal) (ix3 k r q) = part m c k (row rows t r) q := by
  unfold iblk
  rw [View.read_apply]
  show V m c main_arg0 _ = _
  rw [V_main_arg0]
  exact congrArg _ (placed' rows t k r q _ _ _ _ (index0 t) rfl rfl rfl)

theorem arg1_at (t : Fin cfg0.N) (r : Fin 112) (q : Fin 1024) : (iblk m c 1 t : S112x1024.Idx → EReal) (ix2 r q) = arg1 m c (row rows t r) q := by
  unfold iblk
  rw [View.read_apply]
  show V m c main_arg1 _ = _
  rw [V_main_arg1]
  exact congrArg _ (placed rows t r q _ _ _ (index t) rfl rfl)

theorem arg2_at (t : Fin cfg0.N) (r : Fin 112) (q : Fin 1024) : (iblk m c 2 t : S112x1024.Idx → EReal) (ix2 r q) = arg2 m c (row rows t r) q := by
  unfold iblk
  rw [View.read_apply]
  show V m c main_arg2 _ = _
  rw [V_main_arg2]
  exact congrArg _ (placed rows t r q _ _ _ (index t) rfl rfl)

theorem arg3_at (t : Fin cfg0.N) (r : Fin 112) (q : Fin 1024) : (iblk m c 3 t : S112x1024.Idx → EReal) (ix2 r q) = arg3 m c (row rows t r) q := by
  unfold iblk
  rw [View.read_apply]
  show V m c main_arg3 _ = _
  rw [V_main_arg3]
  exact congrArg _ (placed rows t r q _ _ _ (index t) rfl rfl)

theorem result4 (p : Fin 560) (q : Fin 1024) : ((dats m 0 c).arrAt 4 cfg0.N : S560x1024.Idx → EReal) (ix2 p q) = total fun k => part m c k p q := by
  refine of_blocks rows (by decide) _ (fun p q => total fun k => part m c k p q) (fun t r q => ?_) p q
  have e := congrFun (Value.blocks4 m c t (flush0_4 _)) (ix2 r q)
  rw [View.read_apply, Value.flushed4] at e
  exact (congrArg _ (placed rows t r q _ _ _ (index t) rfl rfl).symm).trans (e.trans ((total_at _ _ _ _ r q).trans (by simp only [part_at])))

theorem result5 (p : Fin 560) (q : Fin 1024) : ((dats m 0 c).arrAt 5 cfg0.N : S560x1024.Idx → EReal) (ix2 p q) = step (total fun k => part m c k p q) (arg1 m c p q) (arg2 m c p q) (arg3 m c p q) := by
  refine of_blocks rows (by decide) _ (fun p q => step (total fun k => part m c k p q) (arg1 m c p q) (arg2 m c p q) (arg3 m c p q)) (fun t r q => ?_) p q
  have e := congrFun (Value.blocks5 m c t (flush0_5 _)) (ix2 r q)
  rw [View.read_apply, Value.flushed5] at e
  exact (congrArg _ (placed rows t r q _ _ _ (index t) rfl rfl).symm).trans (e.trans ((step_at _ _ _ _ r q).trans (by simp only [part_at, arg1_at, arg2_at, arg3_at])))

theorem result6 (p : Fin 560) (q : Fin 1024) : ((dats m 0 c).arrAt 6 cfg0.N : S560x1024.Idx → EReal) (ix2 p q) = mean (total fun k => part m c k p q) (arg2 m c p q) := by
  refine of_blocks rows (by decide) _ (fun p q => mean (total fun k => part m c k p q) (arg2 m c p q)) (fun t r q => ?_) p q
  have e := congrFun (Value.blocks6 m c t (flush0_6 _)) (ix2 r q)
  rw [View.read_apply, Value.flushed6] at e
  exact (congrArg _ (placed rows t r q _ _ _ (index t) rfl rfl).symm).trans (e.trans ((mean_at _ _ _ _ r q).trans (by simp only [part_at, arg2_at])))

theorem result7 (p : Fin 560) (q : Fin 1024) : ((dats m 0 c).arrAt 7 cfg0.N : S560x1024.Idx → EReal) (ix2 p q) = square (total fun k => part m c k p q) (arg3 m c p q) := by
  refine of_blocks rows (by decide) _ (fun p q => square (total fun k => part m c k p q) (arg3 m c p q)) (fun t r q => ?_) p q
  have e := congrFun (Value.blocks7 m c t (flush0_7 _)) (ix2 r q)
  rw [View.read_apply, Value.flushed7] at e
  exact (congrArg _ (placed rows t r q _ _ _ (index t) rfl rfl).symm).trans (e.trans ((square_at _ _ _ _ r q).trans (by simp only [part_at, arg3_at])))

end Cert.AdInIdeal.Rows

open Idealize.ShloMosaic Cert.AdInIdeal.Rows in
/-- The call leaves the gradient, the step, and the two running means. -/
theorem Cert.adam_in : @Cert.algebraic_AdInIdeal_AdInRefIdeal Cert.AdInIdeal.Gen.facts Cert.AdInRefIdeal.Gen.facts := by
  intro m g m' g' _ hm
  refine ⟨fun c => (Cert.AdInIdeal.Gen.dats m 0 c).arrAt 4 Cert.AdInIdeal.cfg0.N, fun c => (Cert.AdInIdeal.Gen.dats m 0 c).arrAt 5 Cert.AdInIdeal.cfg0.N, fun c => (Cert.AdInIdeal.Gen.dats m 0 c).arrAt 6 Cert.AdInIdeal.cfg0.N, fun c => (Cert.AdInIdeal.Gen.dats m 0 c).arrAt 7 Cert.AdInIdeal.cfg0.N, Cert.AdInIdeal.Value.run_blocks m g, ?_⟩
  refine (Idealize.ShloMosaic.θ_run Cert.AdInRefIdeal.defs _ _).mono
    (fun r h c => ⟨(h c).1.trans ?_, (h c).2.1.trans ?_, (h c).2.2.1.trans ?_, (h c).2.2.2.1.trans ?_, (h c).2.2.2.2⟩) (Cert.AdInRefIdeal.Value.run m' g')
  · rw [(hm c).1]
    refine Cert.Rows.Blocks.same fun p q => Eq.trans ?_ (result4 m c p q).symm
    pointwise
    rfl
  · rw [(hm c).1, (hm c).2.1, (hm c).2.2.1, (hm c).2.2.2]
    refine Cert.Rows.Blocks.same fun p q => Eq.trans ?_ (result5 m c p q).symm
    pointwise
    rfl
  · rw [(hm c).1, (hm c).2.2.1]
    refine Cert.Rows.Blocks.same fun p q => Eq.trans ?_ (result6 m c p q).symm
    pointwise
    rfl
  · rw [(hm c).1, (hm c).2.2.2]
    refine Cert.Rows.Blocks.same fun p q => Eq.trans ?_ (result7 m c p q).symm
    pointwise
    rfl

end
-- ==== Proof.Rows.AdPle.lean ====
/- The optimiser's step on the embeddings' projection's weights: the call, and the plain lines. -/
module

public import proofs.«01_k».proof.Defs
public import proofs.«01_k».proof.Proof.Rows.Adam
public import proofs.«01_k».proof.Proof.Rows.Blocks
public import proofs.«01_k».proof.Proof.Gen.AdPleIdeal.Value
public import proofs.«01_k».proof.Proof.Gen.AdPleRefIdeal.Run

@[expose] public section

noncomputable section

namespace Cert.AdPleIdeal.Rows

open Cert.AdPleIdeal Cert.AdPleIdeal.Gen Idealize.ShloMosaic Idealize.ShloMosaic.TcCoe Idealize.SL.Sem
open Cert.Rows.Adam Cert.Rows.Blocks

section Block

variable (x0 : S8x256x128.Idx → EReal) (x1 x2 x3 : S256x128.Idx → EReal) (r : Fin 256) (q : Fin 128)

theorem sum_at : k0_pay5 (F := Ideal) x0 x1 x2 x3 (ix2 r q) = total fun k => x0 (ix3 k r q) := by
  unfold k0_pay5
  pointwise [k0_pay4]
  exact total_eq fun k => x0 (ix3 k r q)

theorem total_at : out0_4 (F := Ideal) x0 x1 x2 x3 (ix2 r q) = total fun k => x0 (ix3 k r q) := by
  unfold out0_4
  rw [View.canon_unit_zero (S := S256x128) origin]
  exact sum_at x0 x1 x2 x3 r q

theorem mean_at : out0_6 (F := Ideal) x0 x1 x2 x3 (ix2 r q) = mean (total fun k => x0 (ix3 k r q)) (x2 (ix2 r q)) := by
  unfold out0_6
  rw [View.canon_unit_zero (S := S256x128) origin]
  pointwise [k0_pay1]
  rw [sum_at]; rfl

theorem square_at : out0_7 (F := Ideal) x0 x1 x2 x3 (ix2 r q) = square (total fun k => x0 (ix3 k r q)) (x3 (ix2 r q)) := by
  unfold out0_7
  rw [View.canon_unit_zero (S := S256x128) origin]
  pointwise [k0_pay2]
  rw [sum_at]; rfl

theorem step_at : out0_5 (F := Ideal) x0 x1 x2 x3 (ix2 r q) = step (total fun k => x0 (ix3 k r q)) (x1 (ix2 r q)) (x2 (ix2 r q)) (x3 (ix2 r q)) := by
  unfold out0_5
  rw [View.canon_unit_zero (S := S256x128) origin]
  pointwise [k0_pay3, k0_pay1, k0_pay2]
  rw [sum_at]; rfl

end Block

variable (m : (ℓ : Loc nD τ sig) → Buf (Elt Ideal) ℓ) (c : Dev nD)

/-- The arguments, at a place. -/
def part (k : Fin 8) (p : Fin 256) (q : Fin 128) : EReal := (m ((c : Thread nD τ).loc main_arg0) : S8x256x128.Idx → EReal) (ix3 k p q)
def arg1 (p : Fin 256) (q : Fin 128) : EReal := (m ((c : Thread nD τ).loc main_arg1) : S256x128.Idx → EReal) (ix2 p q)
def arg2 (p : Fin 256) (q : Fin 128) : EReal := (m ((c : Thread nD τ).loc main_arg2) : S256x128.Idx → EReal) (ix2 p q)
def arg3 (p : Fin 256) (q : Fin 128) : EReal := (m ((c : Thread nD τ).loc main_arg3) : S256x128.Idx → EReal) (ix2 p q)

theorem index0 : ∀ t : Fin cfg0.N, win0_0.index t 0 = 0 ∧ win0_0.index t 1 = t.val ∧ win0_0.index t 2 = 0 := (by decide +kernel : ∀ t : Fin grid0.N, _)
theorem index : ∀ t : Fin cfg0.N, win0_1.index t 0 = t.val ∧ win0_1.index t 1 = 0 := (by decide +kernel : ∀ t : Fin grid0.N, _)

theorem rows : 256 = cfg0.N * 256 := by rw [show cfg0.N = 1 from N_0]

/-- The blocks a step reads. -/
theorem part_at (t : Fin cfg0.N) (k : Fin 8) (r : Fin 256) (q : Fin 128) : (iblk m c 0 t : S8x256x128.Idx → EReal) (ix3 k r q) = part m c k (row rows t r) q := by
  unfold iblk
  rw [View.read_apply]
  show V m c main_arg0 _ = _
  rw [V_main_arg0]
  exact congrArg _ (placed' rows t k r q _ _ _ _ (index0 t) rfl rfl rfl)

theorem arg1_at (t : Fin cfg0.N) (r : Fin 256) (q : Fin 128) : (iblk m c 1 t : S256x128.Idx → EReal) (ix2 r q) = arg1 m c (row rows t r) q := by
  unfold iblk
  rw [View.read_apply]
  show V m c main_arg1 _ = _
  rw [V_main_arg1]
  exact congrArg _ (placed rows t r q _ _ _ (index t) rfl rfl)

theorem arg2_at (t : Fin cfg0.N) (r : Fin 256) (q : Fin 128) : (iblk m c 2 t : S256x128.Idx → EReal) (ix2 r q) = arg2 m c (row rows t r) q := by
  unfold iblk
  rw [View.read_apply]
  show V m c main_arg2 _ = _
  rw [V_main_arg2]
  exact congrArg _ (placed rows t r q _ _ _ (index t) rfl rfl)

theorem arg3_at (t : Fin cfg0.N) (r : Fin 256) (q : Fin 128) : (iblk m c 3 t : S256x128.Idx → EReal) (ix2 r q) = arg3 m c (row rows t r) q := by
  unfold iblk
  rw [View.read_apply]
  show V m c main_arg3 _ = _
  rw [V_main_arg3]
  exact congrArg _ (placed rows t r q _ _ _ (index t) rfl rfl)

theorem result4 (p : Fin 256) (q : Fin 128) : ((dats m 0 c).arrAt 4 cfg0.N : S256x128.Idx → EReal) (ix2 p q) = total fun k => part m c k p q := by
  refine of_blocks rows (by decide) _ (fun p q => total fun k => part m c k p q) (fun t r q => ?_) p q
  have e := congrFun (Value.blocks4 m c t (flush0_4 _)) (ix2 r q)
  rw [View.read_apply, Value.flushed4] at e
  exact (congrArg _ (placed rows t r q _ _ _ (index t) rfl rfl).symm).trans (e.trans ((total_at _ _ _ _ r q).trans (by simp only [part_at])))

theorem result5 (p : Fin 256) (q : Fin 128) : ((dats m 0 c).arrAt 5 cfg0.N : S256x128.Idx → EReal) (ix2 p q) = step (total fun k => part m c k p q) (arg1 m c p q) (arg2 m c p q) (arg3 m c p q) := by
  refine of_blocks rows (by decide) _ (fun p q => step (total fun k => part m c k p q) (arg1 m c p q) (arg2 m c p q) (arg3 m c p q)) (fun t r q => ?_) p q
  have e := congrFun (Value.blocks5 m c t (flush0_5 _)) (ix2 r q)
  rw [View.read_apply, Value.flushed5] at e
  exact (congrArg _ (placed rows t r q _ _ _ (index t) rfl rfl).symm).trans (e.trans ((step_at _ _ _ _ r q).trans (by simp only [part_at, arg1_at, arg2_at, arg3_at])))

theorem result6 (p : Fin 256) (q : Fin 128) : ((dats m 0 c).arrAt 6 cfg0.N : S256x128.Idx → EReal) (ix2 p q) = mean (total fun k => part m c k p q) (arg2 m c p q) := by
  refine of_blocks rows (by decide) _ (fun p q => mean (total fun k => part m c k p q) (arg2 m c p q)) (fun t r q => ?_) p q
  have e := congrFun (Value.blocks6 m c t (flush0_6 _)) (ix2 r q)
  rw [View.read_apply, Value.flushed6] at e
  exact (congrArg _ (placed rows t r q _ _ _ (index t) rfl rfl).symm).trans (e.trans ((mean_at _ _ _ _ r q).trans (by simp only [part_at, arg2_at])))

theorem result7 (p : Fin 256) (q : Fin 128) : ((dats m 0 c).arrAt 7 cfg0.N : S256x128.Idx → EReal) (ix2 p q) = square (total fun k => part m c k p q) (arg3 m c p q) := by
  refine of_blocks rows (by decide) _ (fun p q => square (total fun k => part m c k p q) (arg3 m c p q)) (fun t r q => ?_) p q
  have e := congrFun (Value.blocks7 m c t (flush0_7 _)) (ix2 r q)
  rw [View.read_apply, Value.flushed7] at e
  exact (congrArg _ (placed rows t r q _ _ _ (index t) rfl rfl).symm).trans (e.trans ((square_at _ _ _ _ r q).trans (by simp only [part_at, arg3_at])))

end Cert.AdPleIdeal.Rows

open Idealize.ShloMosaic Cert.AdPleIdeal.Rows in
/-- The call leaves the gradient, the step, and the two running means. -/
theorem Cert.adam_ple : @Cert.algebraic_AdPleIdeal_AdPleRefIdeal Cert.AdPleIdeal.Gen.facts Cert.AdPleRefIdeal.Gen.facts := by
  intro m g m' g' _ hm
  refine ⟨fun c => (Cert.AdPleIdeal.Gen.dats m 0 c).arrAt 4 Cert.AdPleIdeal.cfg0.N, fun c => (Cert.AdPleIdeal.Gen.dats m 0 c).arrAt 5 Cert.AdPleIdeal.cfg0.N, fun c => (Cert.AdPleIdeal.Gen.dats m 0 c).arrAt 6 Cert.AdPleIdeal.cfg0.N, fun c => (Cert.AdPleIdeal.Gen.dats m 0 c).arrAt 7 Cert.AdPleIdeal.cfg0.N, Cert.AdPleIdeal.Value.run_blocks m g, ?_⟩
  refine (Idealize.ShloMosaic.θ_run Cert.AdPleRefIdeal.defs _ _).mono
    (fun r h c => ⟨(h c).1.trans ?_, (h c).2.1.trans ?_, (h c).2.2.1.trans ?_, (h c).2.2.2.1.trans ?_, (h c).2.2.2.2⟩) (Cert.AdPleRefIdeal.Value.run m' g')
  · rw [(hm c).1]
    refine Cert.Rows.Blocks.same fun p q => Eq.trans ?_ (result4 m c p q).symm
    pointwise
    rfl
  · rw [(hm c).1, (hm c).2.1, (hm c).2.2.1, (hm c).2.2.2]
    refine Cert.Rows.Blocks.same fun p q => Eq.trans ?_ (result5 m c p q).symm
    pointwise
    rfl
  · rw [(hm c).1, (hm c).2.2.1]
    refine Cert.Rows.Blocks.same fun p q => Eq.trans ?_ (result6 m c p q).symm
    pointwise
    rfl
  · rw [(hm c).1, (hm c).2.2.2]
    refine Cert.Rows.Blocks.same fun p q => Eq.trans ?_ (result7 m c p q).symm
    pointwise
    rfl

end
-- ==== Proof.Rows.AdSmall.lean ====
/- The optimiser's step on the small weights, with the loss beside them: the call, and the plain lines. -/
module

public import proofs.«01_k».proof.Defs
public import proofs.«01_k».proof.Proof.Rows.Adam
public import proofs.«01_k».proof.Proof.Rows.Blocks
public import proofs.«01_k».proof.Proof.Gen.AdSmallIdeal.Value
public import proofs.«01_k».proof.Proof.Gen.AdSmallRefIdeal.Run

@[expose] public section

noncomputable section

namespace Cert.AdSmallIdeal.Rows

open Cert.AdSmallIdeal Cert.AdSmallIdeal.Gen Idealize.ShloMosaic Idealize.ShloMosaic.TcCoe Idealize.SL.Sem
open Cert.Rows.Adam Cert.Rows.Blocks

section Block

variable (x0 : S8x8x1024.Idx → EReal) (x1 x2 x3 : S8x1024.Idx → EReal) (r : Fin 8) (q : Fin 1024)

theorem sum_at : k0_pay5 (F := Ideal) x0 x1 x2 x3 (ix2 r q) = total fun k => x0 (ix3 k r q) := by
  unfold k0_pay5
  pointwise [k0_pay3]
  exact total_eq fun k => x0 (ix3 k r q)

theorem next_at : k0_pay6 (F := Ideal) x0 x1 x2 x3 (ix2 r q) = mean (total fun k => x0 (ix3 k r q)) (x2 (ix2 r q)) := by
  unfold k0_pay6
  pointwise [k0_pay4, k0_pay3]
  unfold mean
  rw [← total_eq]

theorem total_at : out0_4 (F := Ideal) x0 x1 x2 x3 (ix2 r q) = total fun k => x0 (ix3 k r q) := by
  unfold out0_4
  rw [View.canon_unit_zero (S := S8x1024) origin]
  exact sum_at x0 x1 x2 x3 r q

theorem mean_at : out0_6 (F := Ideal) x0 x1 x2 x3 (ix2 r q) = mean (total fun k => x0 (ix3 k r q)) (x2 (ix2 r q)) := by
  unfold out0_6
  rw [View.canon_unit_zero (S := S8x1024) origin]
  exact next_at x0 x1 x2 x3 r q

theorem square_at : out0_7 (F := Ideal) x0 x1 x2 x3 (ix2 r q) = square (total fun k => x0 (ix3 k r q)) (x3 (ix2 r q)) := by
  unfold out0_7
  rw [View.canon_unit_zero (S := S8x1024) origin]
  pointwise [k0_pay1]
  rw [sum_at]; rfl

theorem step_at : out0_5 (F := Ideal) x0 x1 x2 x3 (ix2 r q) = step (total fun k => x0 (ix3 k r q)) (x1 (ix2 r q)) (x2 (ix2 r q)) (x3 (ix2 r q)) := by
  unfold out0_5
  rw [View.canon_unit_zero (S := S8x1024) origin]
  pointwise [k0_pay2, k0_pay1]
  rw [sum_at, next_at]; rfl

end Block

variable (m : (ℓ : Loc nD τ sig) → Buf (Elt Ideal) ℓ) (c : Dev nD)

/-- The arguments, at a place. -/
def part (k : Fin 8) (p : Fin 8) (q : Fin 1024) : EReal := (m ((c : Thread nD τ).loc main_arg0) : S8x8x1024.Idx → EReal) (ix3 k p q)
def arg1 (p : Fin 8) (q : Fin 1024) : EReal := (m ((c : Thread nD τ).loc main_arg1) : S8x1024.Idx → EReal) (ix2 p q)
def arg2 (p : Fin 8) (q : Fin 1024) : EReal := (m ((c : Thread nD τ).loc main_arg2) : S8x1024.Idx → EReal) (ix2 p q)
def arg3 (p : Fin 8) (q : Fin 1024) : EReal := (m ((c : Thread nD τ).loc main_arg3) : S8x1024.Idx → EReal) (ix2 p q)

theorem index0 : ∀ t : Fin cfg0.N, win0_0.index t 0 = 0 ∧ win0_0.index t 1 = t.val ∧ win0_0.index t 2 = 0 := (by decide +kernel : ∀ t : Fin grid0.N, _)
theorem index : ∀ t : Fin cfg0.N, win0_1.index t 0 = t.val ∧ win0_1.index t 1 = 0 := (by decide +kernel : ∀ t : Fin grid0.N, _)

theorem rows : 8 = cfg0.N * 8 := by rw [show cfg0.N = 1 from N_0]

/-- The blocks a step reads. -/
theorem part_at (t : Fin cfg0.N) (k : Fin 8) (r : Fin 8) (q : Fin 1024) : (iblk m c 0 t : S8x8x1024.Idx → EReal) (ix3 k r q) = part m c k (row rows t r) q := by
  unfold iblk
  rw [View.read_apply]
  show V m c main_arg0 _ = _
  rw [V_main_arg0]
  exact congrArg _ (placed' rows t k r q _ _ _ _ (index0 t) rfl rfl rfl)

theorem arg1_at (t : Fin cfg0.N) (r : Fin 8) (q : Fin 1024) : (iblk m c 1 t : S8x1024.Idx → EReal) (ix2 r q) = arg1 m c (row rows t r) q := by
  unfold iblk
  rw [View.read_apply]
  show V m c main_arg1 _ = _
  rw [V_main_arg1]
  exact congrArg _ (placed rows t r q _ _ _ (index t) rfl rfl)

theorem arg2_at (t : Fin cfg0.N) (r : Fin 8) (q : Fin 1024) : (iblk m c 2 t : S8x1024.Idx → EReal) (ix2 r q) = arg2 m c (row rows t r) q := by
  unfold iblk
  rw [View.read_apply]
  show V m c main_arg2 _ = _
  rw [V_main_arg2]
  exact congrArg _ (placed rows t r q _ _ _ (index t) rfl rfl)

theorem arg3_at (t : Fin cfg0.N) (r : Fin 8) (q : Fin 1024) : (iblk m c 3 t : S8x1024.Idx → EReal) (ix2 r q) = arg3 m c (row rows t r) q := by
  unfold iblk
  rw [View.read_apply]
  show V m c main_arg3 _ = _
  rw [V_main_arg3]
  exact congrArg _ (placed rows t r q _ _ _ (index t) rfl rfl)

theorem result4 (p : Fin 8) (q : Fin 1024) : ((dats m 0 c).arrAt 4 cfg0.N : S8x1024.Idx → EReal) (ix2 p q) = total fun k => part m c k p q := by
  refine of_blocks rows (by decide) _ (fun p q => total fun k => part m c k p q) (fun t r q => ?_) p q
  have e := congrFun (Value.blocks4 m c t (flush0_4 _)) (ix2 r q)
  rw [View.read_apply, Value.flushed4] at e
  exact (congrArg _ (placed rows t r q _ _ _ (index t) rfl rfl).symm).trans (e.trans ((total_at _ _ _ _ r q).trans (by simp only [part_at])))

theorem result5 (p : Fin 8) (q : Fin 1024) : ((dats m 0 c).arrAt 5 cfg0.N : S8x1024.Idx → EReal) (ix2 p q) = step (total fun k => part m c k p q) (arg1 m c p q) (arg2 m c p q) (arg3 m c p q) := by
  refine of_blocks rows (by decide) _ (fun p q => step (total fun k => part m c k p q) (arg1 m c p q) (arg2 m c p q) (arg3 m c p q)) (fun t r q => ?_) p q
  have e := congrFun (Value.blocks5 m c t (flush0_5 _)) (ix2 r q)
  rw [View.read_apply, Value.flushed5] at e
  exact (congrArg _ (placed rows t r q _ _ _ (index t) rfl rfl).symm).trans (e.trans ((step_at _ _ _ _ r q).trans (by simp only [part_at, arg1_at, arg2_at, arg3_at])))

theorem result6 (p : Fin 8) (q : Fin 1024) : ((dats m 0 c).arrAt 6 cfg0.N : S8x1024.Idx → EReal) (ix2 p q) = mean (total fun k => part m c k p q) (arg2 m c p q) := by
  refine of_blocks rows (by decide) _ (fun p q => mean (total fun k => part m c k p q) (arg2 m c p q)) (fun t r q => ?_) p q
  have e := congrFun (Value.blocks6 m c t (flush0_6 _)) (ix2 r q)
  rw [View.read_apply, Value.flushed6] at e
  exact (congrArg _ (placed rows t r q _ _ _ (index t) rfl rfl).symm).trans (e.trans ((mean_at _ _ _ _ r q).trans (by simp only [part_at, arg2_at])))

theorem result7 (p : Fin 8) (q : Fin 1024) : ((dats m 0 c).arrAt 7 cfg0.N : S8x1024.Idx → EReal) (ix2 p q) = square (total fun k => part m c k p q) (arg3 m c p q) := by
  refine of_blocks rows (by decide) _ (fun p q => square (total fun k => part m c k p q) (arg3 m c p q)) (fun t r q => ?_) p q
  have e := congrFun (Value.blocks7 m c t (flush0_7 _)) (ix2 r q)
  rw [View.read_apply, Value.flushed7] at e
  exact (congrArg _ (placed rows t r q _ _ _ (index t) rfl rfl).symm).trans (e.trans ((square_at _ _ _ _ r q).trans (by simp only [part_at, arg3_at])))

end Cert.AdSmallIdeal.Rows

open Idealize.ShloMosaic Cert.AdSmallIdeal.Rows in
/-- The call leaves the gradient, the step, and the two running means. -/
theorem Cert.adam_small : @Cert.algebraic_AdSmallIdeal_AdSmallRefIdeal Cert.AdSmallIdeal.Gen.facts Cert.AdSmallRefIdeal.Gen.facts := by
  intro m g m' g' _ hm
  refine ⟨fun c => (Cert.AdSmallIdeal.Gen.dats m 0 c).arrAt 4 Cert.AdSmallIdeal.cfg0.N, fun c => (Cert.AdSmallIdeal.Gen.dats m 0 c).arrAt 5 Cert.AdSmallIdeal.cfg0.N, fun c => (Cert.AdSmallIdeal.Gen.dats m 0 c).arrAt 6 Cert.AdSmallIdeal.cfg0.N, fun c => (Cert.AdSmallIdeal.Gen.dats m 0 c).arrAt 7 Cert.AdSmallIdeal.cfg0.N, Cert.AdSmallIdeal.Value.run_blocks m g, ?_⟩
  refine (Idealize.ShloMosaic.θ_run Cert.AdSmallRefIdeal.defs _ _).mono
    (fun r h c => ⟨(h c).1.trans ?_, (h c).2.1.trans ?_, (h c).2.2.1.trans ?_, (h c).2.2.2.1.trans ?_, (h c).2.2.2.2⟩) (Cert.AdSmallRefIdeal.Value.run m' g')
  · rw [(hm c).1]
    refine Cert.Rows.Blocks.same fun p q => Eq.trans ?_ (result4 m c p q).symm
    pointwise
    rfl
  · rw [(hm c).1, (hm c).2.1, (hm c).2.2.1, (hm c).2.2.2]
    refine Cert.Rows.Blocks.same fun p q => Eq.trans ?_ (result5 m c p q).symm
    pointwise
    rfl
  · rw [(hm c).1, (hm c).2.2.1]
    refine Cert.Rows.Blocks.same fun p q => Eq.trans ?_ (result6 m c p q).symm
    pointwise
    rfl
  · rw [(hm c).1, (hm c).2.2.2]
    refine Cert.Rows.Blocks.same fun p q => Eq.trans ?_ (result7 m c p q).symm
    pointwise
    rfl

end
-- ==== Proof.Rows.AdSq.lean ====
/- The optimiser's step on the square weights: the call, and the plain lines. -/
module

public import proofs.«01_k».proof.Defs
public import proofs.«01_k».proof.Proof.Rows.Adam
public import proofs.«01_k».proof.Proof.Rows.Blocks
public import proofs.«01_k».proof.Proof.Gen.AdSqIdeal.Value
public import proofs.«01_k».proof.Proof.Gen.AdSqRefIdeal.Run

@[expose] public section

noncomputable section

namespace Cert.AdSqIdeal.Rows

open Cert.AdSqIdeal Cert.AdSqIdeal.Gen Idealize.ShloMosaic Idealize.ShloMosaic.TcCoe Idealize.SL.Sem
open Cert.Rows.Adam Cert.Rows.Blocks

section Block

variable (x0 : S8x128x1024.Idx → EReal) (x1 x2 x3 : S128x1024.Idx → EReal) (r : Fin 128) (q : Fin 1024)

theorem sum_at : k0_pay5 (F := Ideal) x0 x1 x2 x3 (ix2 r q) = total fun k => x0 (ix3 k r q) := by
  unfold k0_pay5
  pointwise [k0_pay4]
  exact total_eq fun k => x0 (ix3 k r q)

theorem total_at : out0_4 (F := Ideal) x0 x1 x2 x3 (ix2 r q) = total fun k => x0 (ix3 k r q) := by
  unfold out0_4
  rw [View.canon_unit_zero (S := S128x1024) origin]
  exact sum_at x0 x1 x2 x3 r q

theorem mean_at : out0_6 (F := Ideal) x0 x1 x2 x3 (ix2 r q) = mean (total fun k => x0 (ix3 k r q)) (x2 (ix2 r q)) := by
  unfold out0_6
  rw [View.canon_unit_zero (S := S128x1024) origin]
  pointwise [k0_pay1]
  rw [sum_at]; rfl

theorem square_at : out0_7 (F := Ideal) x0 x1 x2 x3 (ix2 r q) = square (total fun k => x0 (ix3 k r q)) (x3 (ix2 r q)) := by
  unfold out0_7
  rw [View.canon_unit_zero (S := S128x1024) origin]
  pointwise [k0_pay2]
  rw [sum_at]; rfl

theorem step_at : out0_5 (F := Ideal) x0 x1 x2 x3 (ix2 r q) = step (total fun k => x0 (ix3 k r q)) (x1 (ix2 r q)) (x2 (ix2 r q)) (x3 (ix2 r q)) := by
  unfold out0_5
  rw [View.canon_unit_zero (S := S128x1024) origin]
  pointwise [k0_pay3, k0_pay1, k0_pay2]
  rw [sum_at]; rfl

end Block

variable (m : (ℓ : Loc nD τ sig) → Buf (Elt Ideal) ℓ) (c : Dev nD)

/-- The arguments, at a place. -/
def part (k : Fin 8) (p : Fin 128) (q : Fin 1024) : EReal := (m ((c : Thread nD τ).loc main_arg0) : S8x128x1024.Idx → EReal) (ix3 k p q)
def arg1 (p : Fin 128) (q : Fin 1024) : EReal := (m ((c : Thread nD τ).loc main_arg1) : S128x1024.Idx → EReal) (ix2 p q)
def arg2 (p : Fin 128) (q : Fin 1024) : EReal := (m ((c : Thread nD τ).loc main_arg2) : S128x1024.Idx → EReal) (ix2 p q)
def arg3 (p : Fin 128) (q : Fin 1024) : EReal := (m ((c : Thread nD τ).loc main_arg3) : S128x1024.Idx → EReal) (ix2 p q)

theorem index0 : ∀ t : Fin cfg0.N, win0_0.index t 0 = 0 ∧ win0_0.index t 1 = t.val ∧ win0_0.index t 2 = 0 := (by decide +kernel : ∀ t : Fin grid0.N, _)
theorem index : ∀ t : Fin cfg0.N, win0_1.index t 0 = t.val ∧ win0_1.index t 1 = 0 := (by decide +kernel : ∀ t : Fin grid0.N, _)

theorem rows : 128 = cfg0.N * 128 := by rw [show cfg0.N = 1 from N_0]

/-- The blocks a step reads. -/
theorem part_at (t : Fin cfg0.N) (k : Fin 8) (r : Fin 128) (q : Fin 1024) : (iblk m c 0 t : S8x128x1024.Idx → EReal) (ix3 k r q) = part m c k (row rows t r) q := by
  unfold iblk
  rw [View.read_apply]
  show V m c main_arg0 _ = _
  rw [V_main_arg0]
  exact congrArg _ (placed' rows t k r q _ _ _ _ (index0 t) rfl rfl rfl)

theorem arg1_at (t : Fin cfg0.N) (r : Fin 128) (q : Fin 1024) : (iblk m c 1 t : S128x1024.Idx → EReal) (ix2 r q) = arg1 m c (row rows t r) q := by
  unfold iblk
  rw [View.read_apply]
  show V m c main_arg1 _ = _
  rw [V_main_arg1]
  exact congrArg _ (placed rows t r q _ _ _ (index t) rfl rfl)

theorem arg2_at (t : Fin cfg0.N) (r : Fin 128) (q : Fin 1024) : (iblk m c 2 t : S128x1024.Idx → EReal) (ix2 r q) = arg2 m c (row rows t r) q := by
  unfold iblk
  rw [View.read_apply]
  show V m c main_arg2 _ = _
  rw [V_main_arg2]
  exact congrArg _ (placed rows t r q _ _ _ (index t) rfl rfl)

theorem arg3_at (t : Fin cfg0.N) (r : Fin 128) (q : Fin 1024) : (iblk m c 3 t : S128x1024.Idx → EReal) (ix2 r q) = arg3 m c (row rows t r) q := by
  unfold iblk
  rw [View.read_apply]
  show V m c main_arg3 _ = _
  rw [V_main_arg3]
  exact congrArg _ (placed rows t r q _ _ _ (index t) rfl rfl)

theorem result4 (p : Fin 128) (q : Fin 1024) : ((dats m 0 c).arrAt 4 cfg0.N : S128x1024.Idx → EReal) (ix2 p q) = total fun k => part m c k p q := by
  refine of_blocks rows (by decide) _ (fun p q => total fun k => part m c k p q) (fun t r q => ?_) p q
  have e := congrFun (Value.blocks4 m c t (flush0_4 _)) (ix2 r q)
  rw [View.read_apply, Value.flushed4] at e
  exact (congrArg _ (placed rows t r q _ _ _ (index t) rfl rfl).symm).trans (e.trans ((total_at _ _ _ _ r q).trans (by simp only [part_at])))

theorem result5 (p : Fin 128) (q : Fin 1024) : ((dats m 0 c).arrAt 5 cfg0.N : S128x1024.Idx → EReal) (ix2 p q) = step (total fun k => part m c k p q) (arg1 m c p q) (arg2 m c p q) (arg3 m c p q) := by
  refine of_blocks rows (by decide) _ (fun p q => step (total fun k => part m c k p q) (arg1 m c p q) (arg2 m c p q) (arg3 m c p q)) (fun t r q => ?_) p q
  have e := congrFun (Value.blocks5 m c t (flush0_5 _)) (ix2 r q)
  rw [View.read_apply, Value.flushed5] at e
  exact (congrArg _ (placed rows t r q _ _ _ (index t) rfl rfl).symm).trans (e.trans ((step_at _ _ _ _ r q).trans (by simp only [part_at, arg1_at, arg2_at, arg3_at])))

theorem result6 (p : Fin 128) (q : Fin 1024) : ((dats m 0 c).arrAt 6 cfg0.N : S128x1024.Idx → EReal) (ix2 p q) = mean (total fun k => part m c k p q) (arg2 m c p q) := by
  refine of_blocks rows (by decide) _ (fun p q => mean (total fun k => part m c k p q) (arg2 m c p q)) (fun t r q => ?_) p q
  have e := congrFun (Value.blocks6 m c t (flush0_6 _)) (ix2 r q)
  rw [View.read_apply, Value.flushed6] at e
  exact (congrArg _ (placed rows t r q _ _ _ (index t) rfl rfl).symm).trans (e.trans ((mean_at _ _ _ _ r q).trans (by simp only [part_at, arg2_at])))

theorem result7 (p : Fin 128) (q : Fin 1024) : ((dats m 0 c).arrAt 7 cfg0.N : S128x1024.Idx → EReal) (ix2 p q) = square (total fun k => part m c k p q) (arg3 m c p q) := by
  refine of_blocks rows (by decide) _ (fun p q => square (total fun k => part m c k p q) (arg3 m c p q)) (fun t r q => ?_) p q
  have e := congrFun (Value.blocks7 m c t (flush0_7 _)) (ix2 r q)
  rw [View.read_apply, Value.flushed7] at e
  exact (congrArg _ (placed rows t r q _ _ _ (index t) rfl rfl).symm).trans (e.trans ((square_at _ _ _ _ r q).trans (by simp only [part_at, arg3_at])))

end Cert.AdSqIdeal.Rows

open Idealize.ShloMosaic Cert.AdSqIdeal.Rows in
/-- The call leaves the gradient, the step, and the two running means. -/
theorem Cert.adam_square : @Cert.algebraic_AdSqIdeal_AdSqRefIdeal Cert.AdSqIdeal.Gen.facts Cert.AdSqRefIdeal.Gen.facts := by
  intro m g m' g' _ hm
  refine ⟨fun c => (Cert.AdSqIdeal.Gen.dats m 0 c).arrAt 4 Cert.AdSqIdeal.cfg0.N, fun c => (Cert.AdSqIdeal.Gen.dats m 0 c).arrAt 5 Cert.AdSqIdeal.cfg0.N, fun c => (Cert.AdSqIdeal.Gen.dats m 0 c).arrAt 6 Cert.AdSqIdeal.cfg0.N, fun c => (Cert.AdSqIdeal.Gen.dats m 0 c).arrAt 7 Cert.AdSqIdeal.cfg0.N, Cert.AdSqIdeal.Value.run_blocks m g, ?_⟩
  refine (Idealize.ShloMosaic.θ_run Cert.AdSqRefIdeal.defs _ _).mono
    (fun r h c => ⟨(h c).1.trans ?_, (h c).2.1.trans ?_, (h c).2.2.1.trans ?_, (h c).2.2.2.1.trans ?_, (h c).2.2.2.2⟩) (Cert.AdSqRefIdeal.Value.run m' g')
  · rw [(hm c).1]
    refine Cert.Rows.Blocks.same fun p q => Eq.trans ?_ (result4 m c p q).symm
    pointwise
    rfl
  · rw [(hm c).1, (hm c).2.1, (hm c).2.2.1, (hm c).2.2.2]
    refine Cert.Rows.Blocks.same fun p q => Eq.trans ?_ (result5 m c p q).symm
    pointwise
    rfl
  · rw [(hm c).1, (hm c).2.2.1]
    refine Cert.Rows.Blocks.same fun p q => Eq.trans ?_ (result6 m c p q).symm
    pointwise
    rfl
  · rw [(hm c).1, (hm c).2.2.2]
    refine Cert.Rows.Blocks.same fun p q => Eq.trans ?_ (result7 m c p q).symm
    pointwise
    rfl

end
-- ==== Proof.Rows.FfnRun.lean ====
/- The feed-forward layer's inputs' gradient: what one step leaves. -/
module

public import proofs.«01_k».proof.Proof.Gen.FfnBwdIdeal.Value
public import Idealize.ShloMosaic.Lib.Pointwise

@[expose] public section

noncomputable section

namespace Cert.FfnBwdIdeal.Rows

open Cert.FfnBwdIdeal Cert.FfnBwdIdeal.Gen Idealize.ShloMosaic Idealize.ShloMosaic.TcCoe Idealize.SL.Sem

/-! ## A step's values, by name -/

theorem origin : (![0, 0] : Fin 2 → Nat) = fun _ => 0 := funext fun a => by fin_cases a <;> rfl

section Values

variable (x0 : Vec Ideal S256x4096 .bf16) (x1 : Vec Ideal S256x1024 .f32) (x2 : Vec Ideal S256x1024 .f32) (x3 : Vec Ideal S256x1024 .bf16) (x4 : Vec Ideal S256x1024 .bf16) (x5 : Vec Ideal S256x2176 .f32) (x6 : Vec Ideal S256x512 .bf16) (x7 : Vec Ideal S8x1024x512 .bf16) (x8 : Vec Ideal S1x1024 .f32) (x9 : Vec Ideal S1024x1024 .bf16) (x10 : Vec Ideal S8x512x128 .bf16) (x11 : Vec Ideal S8x512x128 .bf16)

/-- The gradient at the normed rows. -/
def upB : FVec Ideal S256x1024 .f32 :=
  k0_pay5 (k0_pay4 (View.ld x0 (Rect.unit ![0, 0] S256x512.size inb_S256x4096_S256x512_0_0)) (View.ld x7 (Rect.unit ![0, 0, 0] S1x1024x512.size inb_S8x1024x512_S1x1024x512_0_0_0)) (View.ld x0 (Rect.unit ![0, 512] S256x512.size inb_S256x4096_S256x512_0_512)) (View.ld x7 (Rect.unit ![1, 0, 0] S1x1024x512.size inb_S8x1024x512_S1x1024x512_1_0_0)) (View.ld x0 (Rect.unit ![0, 1024] S256x512.size inb_S256x4096_S256x512_0_1024)) (View.ld x7 (Rect.unit ![2, 0, 0] S1x1024x512.size inb_S8x1024x512_S1x1024x512_2_0_0)) (View.ld x0 (Rect.unit ![0, 1536] S256x512.size inb_S256x4096_S256x512_0_1536)) (View.ld x7 (Rect.unit ![3, 0, 0] S1x1024x512.size inb_S8x1024x512_S1x1024x512_3_0_0)) (View.ld x0 (Rect.unit ![0, 2048] S256x512.size inb_S256x4096_S256x512_0_2048)) (View.ld x7 (Rect.unit ![4, 0, 0] S1x1024x512.size inb_S8x1024x512_S1x1024x512_4_0_0))) (View.ld x0 (Rect.unit ![0, 2560] S256x512.size inb_S256x4096_S256x512_0_2560)) (View.ld x7 (Rect.unit ![5, 0, 0] S1x1024x512.size inb_S8x1024x512_S1x1024x512_5_0_0)) (View.ld x0 (Rect.unit ![0, 3072] S256x512.size inb_S256x4096_S256x512_0_3072)) (View.ld x7 (Rect.unit ![6, 0, 0] S1x1024x512.size inb_S8x1024x512_S1x1024x512_6_0_0)) (View.ld x0 (Rect.unit ![0, 3584] S256x512.size inb_S256x4096_S256x512_0_3584)) (View.ld x7 (Rect.unit ![7, 0, 0] S1x1024x512.size inb_S8x1024x512_S1x1024x512_7_0_0))

/-- The scaled gradient, less its part along the row. -/
def inB : FVec Ideal S256x1024 .f32 :=
  k0_pay8 (k0_pay4 (View.ld x0 (Rect.unit ![0, 0] S256x512.size inb_S256x4096_S256x512_0_0)) (View.ld x7 (Rect.unit ![0, 0, 0] S1x1024x512.size inb_S8x1024x512_S1x1024x512_0_0_0)) (View.ld x0 (Rect.unit ![0, 512] S256x512.size inb_S256x4096_S256x512_0_512)) (View.ld x7 (Rect.unit ![1, 0, 0] S1x1024x512.size inb_S8x1024x512_S1x1024x512_1_0_0)) (View.ld x0 (Rect.unit ![0, 1024] S256x512.size inb_S256x4096_S256x512_0_1024)) (View.ld x7 (Rect.unit ![2, 0, 0] S1x1024x512.size inb_S8x1024x512_S1x1024x512_2_0_0)) (View.ld x0 (Rect.unit ![0, 1536] S256x512.size inb_S256x4096_S256x512_0_1536)) (View.ld x7 (Rect.unit ![3, 0, 0] S1x1024x512.size inb_S8x1024x512_S1x1024x512_3_0_0)) (View.ld x0 (Rect.unit ![0, 2048] S256x512.size inb_S256x4096_S256x512_0_2048)) (View.ld x7 (Rect.unit ![4, 0, 0] S1x1024x512.size inb_S8x1024x512_S1x1024x512_4_0_0))) (View.ld x0 (Rect.unit ![0, 2560] S256x512.size inb_S256x4096_S256x512_0_2560)) (View.ld x7 (Rect.unit ![5, 0, 0] S1x1024x512.size inb_S8x1024x512_S1x1024x512_5_0_0)) (View.ld x0 (Rect.unit ![0, 3072] S256x512.size inb_S256x4096_S256x512_0_3072)) (View.ld x7 (Rect.unit ![6, 0, 0] S1x1024x512.size inb_S8x1024x512_S1x1024x512_6_0_0)) (View.ld x0 (Rect.unit ![0, 3584] S256x512.size inb_S256x4096_S256x512_0_3584)) (View.ld x7 (Rect.unit ![7, 0, 0] S1x1024x512.size inb_S8x1024x512_S1x1024x512_7_0_0)) x2 x8

/-- The gradient at the merged rows. -/
def dmB : FVec Ideal S256x1024 .f32 :=
  k0_pay14 (inB x0 x2 x7 x8) (k0_pay9 x2) x1 x9

/-- The first gate. -/
def gateA : FVec Ideal S256x1024 .f32 :=
  k0_pay15 (View.ld x5 (Rect.unit ![0, 128] S256x1024.size inb_S256x2176_S256x1024_0_128))

/-- The exponential the second gate is made of. -/
def expB : FVec Ideal S256x1024 .f32 :=
  k0_pay16 (View.ld x5 (Rect.unit ![0, 1152] S256x1024.size inb_S256x2176_S256x1024_0_1152))

/-- The gradient at the second branch's output. -/
def outB : FVec Ideal S256x512 .bf16 :=
  k0_pay29 (k0_pay19 (dmB x0 x1 x2 x7 x8 x9) (expB x5)) (k0_pay25 (View.ld x11 (Rect.unit ![0, 0, 0] S1x512x128.size inb_S8x512x128_S1x512x128_0_0_0))) (k0_pay26 (View.ld x11 (Rect.unit ![1, 0, 0] S1x512x128.size inb_S8x512x128_S1x512x128_1_0_0))) (k0_pay27 (View.ld x11 (Rect.unit ![2, 0, 0] S1x512x128.size inb_S8x512x128_S1x512x128_2_0_0))) (k0_pay28 (View.ld x11 (Rect.unit ![3, 0, 0] S1x512x128.size inb_S8x512x128_S1x512x128_3_0_0))) (View.ld x11 (Rect.unit ![4, 0, 0] S1x512x128.size inb_S8x512x128_S1x512x128_4_0_0)) (View.ld x11 (Rect.unit ![5, 0, 0] S1x512x128.size inb_S8x512x128_S1x512x128_5_0_0)) (View.ld x11 (Rect.unit ![6, 0, 0] S1x512x128.size inb_S8x512x128_S1x512x128_6_0_0)) (View.ld x11 (Rect.unit ![7, 0, 0] S1x512x128.size inb_S8x512x128_S1x512x128_7_0_0))

/-- Which of a pair of heads a column belongs to. -/
def pickB : FVec Ideal S128x256 .bf16 :=
  k0_pay32 (F := Ideal) k0_pay30 (iota .tc S128x256 32 [1] iota_S128x256_d1_w32) 128#32 k0_pay31

/-- The gradient at the gates' logits, in two pieces, the last one first. -/
def gatesB : List (View.Piece (Elt Ideal) S256x2048 .bf16) :=
  [⟨(Rect.unit ![0, 1024] S256x1024.size inb_S256x2048_S256x1024_0_1024), k0_pay21 (dmB x0 x1 x2 x7 x8 x9) (expB x5) x4⟩,
    ⟨(Rect.unit ![0, 0] S256x1024.size inb_S256x2048_S256x1024_0_0), k0_pay20 (dmB x0 x1 x2 x7 x8 x9) (gateA x5) x3⟩]

/-- The row sums of each head, in four pieces, the last one first. -/
def deltaB : List (View.Piece (Elt Ideal) S256x1024 .f32) :=
  [⟨(Rect.unit ![0, 768] S256x256.size inb_S256x1024_S256x256_0_768), k0_pay3 (outB x0 x1 x2 x5 x7 x8 x9 x11) pickB (View.ld x6 (Rect.unit ![0, 384] S256x128.size inb_S256x512_S256x128_0_384))⟩,
    ⟨(Rect.unit ![0, 512] S256x256.size inb_S256x1024_S256x256_0_512), k0_pay2 (outB x0 x1 x2 x5 x7 x8 x9 x11) pickB (View.ld x6 (Rect.unit ![0, 256] S256x128.size inb_S256x512_S256x128_0_256))⟩,
    ⟨(Rect.unit ![0, 256] S256x256.size inb_S256x1024_S256x256_0_256), k0_pay1 pickB (k0_pay34 (outB x0 x1 x2 x5 x7 x8 x9 x11) (View.ld x6 (Rect.unit ![0, 128] S256x128.size inb_S256x512_S256x128_0_128))) (k0_pay35 (outB x0 x1 x2 x5 x7 x8 x9 x11) (View.ld x6 (Rect.unit ![0, 128] S256x128.size inb_S256x512_S256x128_0_128)))⟩,
    ⟨(Rect.unit ![0, 0] S256x256.size inb_S256x1024_S256x256_0_0), k0_pay33 (outB x0 x1 x2 x5 x7 x8 x9 x11) k0_pay30 (iota .tc S128x256 32 [1] iota_S128x256_d1_w32) 128#32 k0_pay31 (View.ld x6 (Rect.unit ![0, 0] S256x128.size inb_S256x512_S256x128_0_0))⟩]

end Values

section Points

variable (c : Dev nD) (i : grid0.Coords)
  (a1 : Memref sig .tc .vmem S256x4096 .bf16) (h1 : a1.IsWhole)
  (a2 : Memref sig .tc .vmem S256x1024 .f32) (h2 : a2.IsWhole)
  (a3 : Memref sig .tc .vmem S256x1024 .f32) (h3 : a3.IsWhole)
  (a4 : Memref sig .tc .vmem S256x1024 .bf16) (h4 : a4.IsWhole)
  (a5 : Memref sig .tc .vmem S256x1024 .bf16) (h5 : a5.IsWhole)
  (a6 : Memref sig .tc .vmem S256x2176 .f32) (h6 : a6.IsWhole)
  (a7 : Memref sig .tc .vmem S256x512 .bf16) (h7 : a7.IsWhole)
  (a8 : Memref sig .tc .vmem S8x1024x512 .bf16) (h8 : a8.IsWhole)
  (a9 : Memref sig .tc .vmem S1x1024 .f32) (h9 : a9.IsWhole)
  (a10 : Memref sig .tc .vmem S1024x1024 .bf16) (h10 : a10.IsWhole)
  (a11 : Memref sig .tc .vmem S8x512x128 .bf16) (h11 : a11.IsWhole)
  (a12 : Memref sig .tc .vmem S8x512x128 .bf16) (h12 : a12.IsWhole)
  (a13 : Memref sig .tc .vmem S256x1024 .f32) (h13 : a13.IsWhole)
  (a14 : Memref sig .tc .vmem S256x1024 .bf16) (h14 : a14.IsWhole)
  (a15 : Memref sig .tc .vmem S256x2048 .bf16) (h15 : a15.IsWhole)
  (a16 : Memref sig .tc .vmem S256x1024 .bf16) (h16 : a16.IsWhole)
  (a17 : Memref sig .tc .vmem S256x1024 .bf16) (h17 : a17.IsWhole)
  (a18 : Memref sig .tc .vmem S256x512 .bf16) (h18 : a18.IsWhole)
  (a19 : Memref sig .tc .vmem S256x512 .bf16) (h19 : a19.IsWhole)
  (a20 : Memref sig .tc .vmem S256x1024 .f32) (h20 : a20.IsWhole)
  (a21 : Memref sig .tc .vmem S8x1024 .f32) (h21 : a21.IsWhole)
   (x0 : Vec Ideal S256x4096 .bf16) (x1 : Vec Ideal S256x1024 .f32) (x2 : Vec Ideal S256x1024 .f32) (x3 : Vec Ideal S256x1024 .bf16) (x4 : Vec Ideal S256x1024 .bf16) (x5 : Vec Ideal S256x2176 .f32) (x6 : Vec Ideal S256x512 .bf16) (x7 : Vec Ideal S8x1024x512 .bf16) (x8 : Vec Ideal S1x1024 .f32) (x9 : Vec Ideal S1024x1024 .bf16) (x10 : Vec Ideal S8x512x128 .bf16) (x11 : Vec Ideal S8x512x128 .bf16) (s20 : Vec Ideal S8x1024 .f32)

set_option maxHeartbeats 2000000 in
/-- What the first step leaves. -/
theorem first (hc0 : cond0_0 i) :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = k0_pay12 (inB x0 x2 x7 x8) (k0_pay9 x2) x1
    ∧ out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = k0_pay13 (inB x0 x2 x7 x8) (k0_pay9 x2) x1
    ∧ out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = View.canon (gatesB x0 x1 x2 x3 x4 x5 x7 x8 x9)
    ∧ out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = k0_pay18 (dmB x0 x1 x2 x7 x8 x9) (gateA x5)
    ∧ out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = k0_pay19 (dmB x0 x1 x2 x7 x8 x9) (expB x5)
    ∧ out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = k0_pay24 (k0_pay18 (dmB x0 x1 x2 x7 x8 x9) (gateA x5)) (k0_pay22 (View.ld x10 (Rect.unit ![0, 0, 0] S1x512x128.size inb_S8x512x128_S1x512x128_0_0_0))) (k0_pay23 (View.ld x10 (Rect.unit ![1, 0, 0] S1x512x128.size inb_S8x512x128_S1x512x128_1_0_0))) (View.ld x10 (Rect.unit ![2, 0, 0] S1x512x128.size inb_S8x512x128_S1x512x128_2_0_0)) (View.ld x10 (Rect.unit ![3, 0, 0] S1x512x128.size inb_S8x512x128_S1x512x128_3_0_0)) (View.ld x10 (Rect.unit ![4, 0, 0] S1x512x128.size inb_S8x512x128_S1x512x128_4_0_0)) (View.ld x10 (Rect.unit ![5, 0, 0] S1x512x128.size inb_S8x512x128_S1x512x128_5_0_0)) (View.ld x10 (Rect.unit ![6, 0, 0] S1x512x128.size inb_S8x512x128_S1x512x128_6_0_0)) (View.ld x10 (Rect.unit ![7, 0, 0] S1x512x128.size inb_S8x512x128_S1x512x128_7_0_0))
    ∧ out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = outB x0 x1 x2 x5 x7 x8 x9 x11
    ∧ out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = View.canon (deltaB x0 x1 x2 x5 x6 x7 x8 x9 x11)
    ∧ out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 = k0_pay11 (upB x0 x7) (k0_pay7 x2) (k0_pay10 (F := Ideal)) := by
  unfold out0_A_12 out0_A_13 out0_A_14 out0_A_15 out0_A_16 out0_A_17 out0_A_18 out0_A_19 out0_A_20
  refine ⟨(View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_,
    (View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11)).trans ?_⟩
  all_goals
    unfold kernelRun0_A
    dsimp only
    sl_unfold_words
    simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) origin, View.ld_unit_zero (S := S1x1024) origin, View.ld_unit_zero (S := S1024x1024) origin, View.ld_unit_zero (S := S256x512) origin,
    View.canon_unit_zero (S := S256x1024) origin, View.canon_unit_zero (S := S256x512) origin, View.canon_cons_unit_zero (S := S8x1024) origin, View.readCov_unit_zero (S := S8x1024) _ origin] <;> rfl

set_option maxHeartbeats 2000000 in
/-- What a later step leaves, over what the step before it left. -/
theorem later (hc0 : ¬cond0_0 i) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = k0_pay12 (inB x0 x2 x7 x8) (k0_pay9 x2) x1
    ∧ out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = k0_pay13 (inB x0 x2 x7 x8) (k0_pay9 x2) x1
    ∧ out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = View.canon (gatesB x0 x1 x2 x3 x4 x5 x7 x8 x9)
    ∧ out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = k0_pay18 (dmB x0 x1 x2 x7 x8 x9) (gateA x5)
    ∧ out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = k0_pay19 (dmB x0 x1 x2 x7 x8 x9) (expB x5)
    ∧ out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = k0_pay24 (k0_pay18 (dmB x0 x1 x2 x7 x8 x9) (gateA x5)) (k0_pay22 (View.ld x10 (Rect.unit ![0, 0, 0] S1x512x128.size inb_S8x512x128_S1x512x128_0_0_0))) (k0_pay23 (View.ld x10 (Rect.unit ![1, 0, 0] S1x512x128.size inb_S8x512x128_S1x512x128_1_0_0))) (View.ld x10 (Rect.unit ![2, 0, 0] S1x512x128.size inb_S8x512x128_S1x512x128_2_0_0)) (View.ld x10 (Rect.unit ![3, 0, 0] S1x512x128.size inb_S8x512x128_S1x512x128_3_0_0)) (View.ld x10 (Rect.unit ![4, 0, 0] S1x512x128.size inb_S8x512x128_S1x512x128_4_0_0)) (View.ld x10 (Rect.unit ![5, 0, 0] S1x512x128.size inb_S8x512x128_S1x512x128_5_0_0)) (View.ld x10 (Rect.unit ![6, 0, 0] S1x512x128.size inb_S8x512x128_S1x512x128_6_0_0)) (View.ld x10 (Rect.unit ![7, 0, 0] S1x512x128.size inb_S8x512x128_S1x512x128_7_0_0))
    ∧ out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = outB x0 x1 x2 x5 x7 x8 x9 x11
    ∧ out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = View.canon (deltaB x0 x1 x2 x5 x6 x7 x8 x9 x11)
    ∧ out0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20 = k0_pay11 (upB x0 x7) (k0_pay7 x2) s20 := by
  unfold out0_B_12 out0_B_13 out0_B_14 out0_B_15 out0_B_16 out0_B_17 out0_B_18 out0_B_19 out0_B_20
  refine ⟨(View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_,
    (View.read_writes_eq_canon _ _ _ (cover0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 x9 x10 x11 s20)).trans ?_⟩
  all_goals
    unfold kernelRun0_B
    dsimp only
    sl_unfold_words
    simp only [View.readAt_eq_ld, h1.read_unread, h2.read_unread, h3.read_unread, h4.read_unread, h5.read_unread, h6.read_unread, h7.read_unread, h8.read_unread, h9.read_unread, h10.read_unread, h11.read_unread, h12.read_unread, h21.read_unread, View.ld_unit_zero (S := S256x1024) origin, View.ld_unit_zero (S := S1x1024) origin, View.ld_unit_zero (S := S1024x1024) origin, View.ld_unit_zero (S := S256x512) origin, View.ld_unit_zero (S := S8x1024) origin,
    View.canon_unit_zero (S := S256x1024) origin, View.canon_unit_zero (S := S256x512) origin, View.canon_unit_zero (S := S8x1024) origin] <;> rfl

end Points

end Cert.FfnBwdIdeal.Rows

end
-- ==== Proof.Rows.Norm.lean ====
/- The backward pass of a root mean square norm along one row: two ways of writing it agree on real numbers. -/
module

public import Idealize.ShloMosaic.Lib.Pointwise
public import Idealize.ShloMosaic.Lib.IdealHost
public import Idealize.ShloMosaic.Lib.ReduceAll

@[expose] public section

noncomputable section

namespace Cert.Rows

open Idealize.ShloMosaic

/-- A number that is neither infinity. -/
def IsReal (x : EReal) : Prop := ∃ r : ℝ, x = (r : EReal)

theorem finite_of_abs_lt {x : EReal} (h : FloatOps.cmpf (F := Ideal) (φ := .f32) .olt (max x (-x)) (Ideal.ofBits .f32 0x7F800000#32) = 1#1) : IsReal x := by
  have hi : Ideal.ofBits .f32 0x7F800000#32 = ⊤ := by simp [Ideal.ofBits, Ideal.ieee]
  rw [hi] at h
  have h2 : max x (-x) < ⊤ := by
    by_contra hc
    revert h
    simp [FloatOps.cmpf, Ideal.cmp, hc]
  induction x using EReal.rec with
  | bot => simp at h2
  | top => simp at h2
  | coe r => exact ⟨r, rfl⟩

/-- A sum of real numbers, taken among the extended ones. -/
theorem coe_sum {ι : Type*} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, EReal.coe_add, ih]

theorem real_mul {x y : EReal} : IsReal x → IsReal y → IsReal (x * y)
  | ⟨a, ha⟩, ⟨b, hb⟩ => ⟨a * b, by rw [ha, hb, EReal.coe_mul]⟩

theorem real_sum {ι : Type*} [Fintype ι] {f : ι → EReal} (h : ∀ i, IsReal (f i)) : IsReal (∑ i, f i) := by
  choose g hg using h
  exact ⟨∑ i, g i, by rw [← coe_sum]; exact Finset.sum_congr rfl fun i _ => hg i⟩

theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

theorem width : Ideal.ofBits .f32 1149239296#32 = ((1024 : ℝ) : EReal) := by
  simp [Ideal.ofBits, Ideal.ieee, -EReal.coe_mul]; norm_num
theorem half : Ideal.ofBits .f32 3204448256#32 = ((-1 / 2 : ℝ) : EReal) := by
  simp [Ideal.ofBits, Ideal.ieee, -EReal.coe_mul]; rw [← EReal.coe_neg]; congr 1; norm_num
theorem two : Ideal.ofBits .f32 1073741824#32 = ((2 : ℝ) : EReal) := by
  simp [Ideal.ofBits, Ideal.ieee, -EReal.coe_mul]; norm_num
theorem eps : ∃ e : ℝ, 0 < e ∧ Ideal.ofBits .f32 897988541#32 = (e : EReal) := by
  refine ⟨8796093 * (2 ^ 43)⁻¹, by positivity, ?_⟩
  simp [Ideal.ofBits, Ideal.ieee, -EReal.coe_mul]

/-- One over the root mean square of a row. -/
def inv (x : Fin 1024 → EReal) : EReal :=
  Ideal.rsqrt (Ideal.div (∑ i, x i * x i) (Ideal.ofBits .f32 1149239296#32) + Ideal.ofBits .f32 897988541#32)

/-- The norm's gradient, as a row's correction of the scaled gradient `v`, and as the derivatives of its two factors. -/
theorem norm_grad (x v : Fin 1024 → EReal) (hx : ∀ i, IsReal (x i)) (hv : ∀ i, IsReal (v i)) (l : Fin 1024) :
    inv x * (v l - x l * inv x * Ideal.div (∑ i, v i * (x i * inv x)) (Ideal.ofBits .f32 1149239296#32))
      = v l * inv x + (∑ _i : Fin 1, Ideal.div ((∑ i, x i * v i) * (Ideal.ofBits .f32 3204448256#32 *
          Ideal.div (inv x) (Ideal.div (∑ i, x i * x i) (Ideal.ofBits .f32 1149239296#32) + Ideal.ofBits .f32 897988541#32)))
          (Ideal.ofBits .f32 1149239296#32)) * (Ideal.ofBits .f32 1073741824#32 * x l) := by
  choose x' hx using hx
  choose v' hv using hv
  obtain rfl : x = fun i => ((x' i : ℝ) : EReal) := funext hx
  obtain rfl : v = fun i => ((v' i : ℝ) : EReal) := funext hv
  obtain ⟨e, he, hE⟩ := eps
  unfold inv
  have hS : 0 < (∑ i, x' i * x' i) / 1024 + e :=
    add_pos_of_nonneg_of_pos (div_nonneg (Finset.sum_nonneg fun i _ => mul_self_nonneg _) (by norm_num)) he
  have hs := Real.sq_sqrt hS.le
  have hp := Real.sqrt_pos.2 hS
  simp only [hE, width, half, two, ← EReal.coe_mul, coe_sum, div_coe (show (1024 : ℝ) ≠ 0 by norm_num), ← EReal.coe_add,
    rsqrt_coe hS, div_coe hS.ne', ← EReal.coe_sub]
  rw [EReal.coe_eq_coe_iff]
  generalize hq : Real.sqrt ((∑ i, x' i * x' i) / 1024 + e) = q at hs hp
  rw [← hs]
  have e1 : ∑ i, v' i * (x' i * q⁻¹) = (∑ i, x' i * v' i) * q⁻¹ := by
    rw [Finset.sum_mul]; exact Finset.sum_congr rfl fun i _ => by ring
  rw [e1]
  simp only [Finset.univ_unique, Finset.sum_const, Finset.card_singleton, one_smul]
  field_simp
  ring

end Cert.Rows

end
-- ==== Proof.Rows.HeadSpec.lean ====
/- The last layers' backward pass, along one row: the values both texts are read as. -/
module

public import proofs.«01_k».proof.Proof.Rows.Norm

@[expose] public section

noncomputable section

namespace Cert.Rows.Head

open Idealize.ShloMosaic

/-- What one row's values are made of: the row of each array, and the weights. -/
structure Row where
  h : Fin 1024 → EReal
  p : Fin 256 → EReal
  t : Fin 1024 → EReal
  a : Fin 4096 → EReal
  gp : Fin 1024 → EReal
  gf : Fin 1024 → EReal
  wg : Fin 1024 → Fin 1024 → EReal
  wp : Fin 8 → Fin 256 → Fin 128 → EReal
  w2 : Fin 8 → Fin 512 → Fin 1024 → EReal

/-- The norm's gradient, as a correction of the scaled gradient. -/
def back (x v : Fin 1024 → EReal) (q : Fin 1024) : EReal :=
  inv x * (v q - x q * inv x * Ideal.div (∑ i, v i * (x i * inv x)) (Ideal.ofBits .f32 1149239296#32))

variable (R : Row)

/-- The normed row, the gate it gives, and the projected embeddings. -/
def Row.normed (q : Fin 1024) : EReal := R.h q * inv R.h * R.gp q
def Row.gate (q : Fin 1024) : EReal := Ideal.div 1 (1 + Ideal.exp (-∑ k, R.normed k * R.wg k q))
def Row.proj (q : Fin 1024) : EReal := ∑ k, R.p k * R.wp ⟨q.val / 128, by omega⟩ k ⟨q.val % 128, by omega⟩

/-- The last hidden state, and the error of its normed rows. -/
def Row.hid (q : Fin 1024) : EReal := R.h q + R.gate q * R.proj q
def Row.err (q : Fin 1024) : EReal := R.hid q * inv R.hid * R.gf q - R.t q
def Row.mean : EReal := Ideal.div (∑ q, R.err q * R.err q) (Ideal.ofBits .f32 1149239296#32)

/-- The gradients, from the error down. -/
def Row.dy (q : Fin 1024) : EReal := R.err q * Ideal.ofBits .f32 981467136#32
def Row.dn (q : Fin 1024) : EReal := R.dy q * R.gf q
def Row.dhid (q : Fin 1024) : EReal := back R.hid R.dn q
def Row.dproj (q : Fin 1024) : EReal := R.dhid q * R.gate q
def Row.dlogit (q : Fin 1024) : EReal := R.dhid q * R.proj q * R.gate q * (1 - R.gate q)
def Row.du (q : Fin 1024) : EReal := ∑ k, R.dlogit k * R.wg q k
def Row.dh (q : Fin 1024) : EReal := R.dhid q + back R.h (fun i => R.du i * R.gp i) q
def Row.da (n : Fin 8) (l : Fin 512) : EReal :=
  (∑ q, R.dh q * R.w2 n l q) * (Ideal.ofBits .f32 1073741824#32 * max (R.a ⟨512 * n.val + l.val, by omega⟩) 0)

/-- The row's part of the sums down the rows. -/
def Row.lossPart : EReal := Ideal.ofBits .f32 1056964608#32 * R.mean
def Row.lastPart (q : Fin 1024) : EReal := R.dy q * (R.hid q * inv R.hid)
def Row.gainPart (q : Fin 1024) : EReal := R.du q * (R.h q * inv R.h)

end Cert.Rows.Head

end
-- ==== Proof.Rows.HeadReal.lean ====
/- The last layers' backward pass, along one row: on finite inputs every value is a number. -/
module

public import proofs.«01_k».proof.Proof.Rows.HeadSpec

@[expose] public section

noncomputable section

namespace Cert.Rows

open Idealize.ShloMosaic

theorem real_add {x y : EReal} : IsReal x → IsReal y → IsReal (x + y)
  | ⟨a, ha⟩, ⟨b, hb⟩ => ⟨a + b, by rw [ha, hb, EReal.coe_add]⟩

theorem real_sub {x y : EReal} : IsReal x → IsReal y → IsReal (x - y)
  | ⟨a, ha⟩, ⟨b, hb⟩ => ⟨a - b, by rw [ha, hb, EReal.coe_sub]⟩

theorem real_one : IsReal 1 := ⟨1, rfl⟩

/-- A sum over the width, divided by it. -/
theorem real_mean {x : EReal} : IsReal x → IsReal (Ideal.div x (Ideal.ofBits .f32 1149239296#32))
  | ⟨a, ha⟩ => ⟨a / 1024, by rw [ha, width, div_coe (by norm_num)]⟩

theorem real_inv {x : Fin 1024 → EReal} (hx : ∀ i, IsReal (x i)) : IsReal (inv x) := by
  choose x' hx using hx
  obtain rfl : x = fun i => ((x' i : ℝ) : EReal) := funext hx
  obtain ⟨e, he, hE⟩ := eps
  have hS : 0 < (∑ i, x' i * x' i) / 1024 + e :=
    add_pos_of_nonneg_of_pos (div_nonneg (Finset.sum_nonneg fun i _ => mul_self_nonneg _) (by norm_num)) he
  unfold inv
  simp only [hE, width, ← EReal.coe_mul, coe_sum, div_coe (show (1024 : ℝ) ≠ 0 by norm_num), ← EReal.coe_add, rsqrt_coe hS]
  exact ⟨_, rfl⟩

theorem real_sigmoid {x : EReal} : IsReal x → IsReal (Ideal.div 1 (1 + Ideal.exp (-x)))
  | ⟨a, ha⟩ => ⟨1 / (1 + Real.exp (-a)), by
      rw [ha, ← EReal.coe_neg, Ideal.exp_coe, ← EReal.coe_one, ← EReal.coe_add, div_coe (by positivity)]⟩

theorem half' : Ideal.ofBits .f32 1056964608#32 = ((1 / 2 : ℝ) : EReal) := by
  simp [Ideal.ofBits, Ideal.ieee, -EReal.coe_mul]; norm_num
theorem over : Ideal.ofBits .f32 981467136#32 = ((1 / 1024 : ℝ) : EReal) := by
  simp [Ideal.ofBits, Ideal.ieee, -EReal.coe_mul]; norm_num

/-- A positive part's own slope changes nothing. -/
theorem kept (d w x e : EReal) : d * (w * max x 0) * (if 0 < x then 1 else if x = 0 then e else 0) = d * (w * max x 0) := by
  rcases lt_or_ge 0 x with h | h
  · rw [if_pos h, mul_one]
  · rw [max_eq_right h, mul_zero, mul_zero, zero_mul]

/-- The derivative of half the mean square, as the square's derivative scaled and as the mean's. -/
theorem half_mean {x : EReal} : IsReal x → Ideal.div (Ideal.ofBits .f32 1056964608#32) (Ideal.ofBits .f32 1149239296#32) * (Ideal.ofBits .f32 1073741824#32 * x) = x * Ideal.ofBits .f32 981467136#32
  | ⟨a, ha⟩ => by
      rw [ha, half', width, two, over, div_coe (by norm_num), ← EReal.coe_mul, ← EReal.coe_mul, ← EReal.coe_mul, EReal.coe_eq_coe_iff]
      ring

/-- A factor in front of a sum. -/
theorem half_sum {ι : Type*} [Fintype ι] {f : ι → EReal} (hf : ∀ i, IsReal (f i)) :
    Ideal.ofBits .f32 1056964608#32 * ∑ i, f i = ∑ i, Ideal.ofBits .f32 1056964608#32 * f i := by
  choose g hg using hf
  obtain rfl : f = fun i => ((g i : ℝ) : EReal) := funext hg
  simp only [half', coe_sum, ← EReal.coe_mul, Finset.mul_sum]

namespace Head

/-- What is asked of a row. -/
structure Row.Real (R : Row) : Prop where
  h : ∀ q, IsReal (R.h q)
  p : ∀ k, IsReal (R.p k)
  t : ∀ q, IsReal (R.t q)
  gp : ∀ q, IsReal (R.gp q)
  gf : ∀ q, IsReal (R.gf q)
  wg : ∀ k q, IsReal (R.wg k q)
  wp : ∀ n k l, IsReal (R.wp n k l)

variable {R : Row} (H : R.Real)

include H

theorem real_gate (q : Fin 1024) : IsReal (R.gate q) :=
  real_sigmoid (real_sum fun k => real_mul (real_mul (real_mul (H.h k) (real_inv H.h)) (H.gp k)) (H.wg k q))

theorem real_proj (q : Fin 1024) : IsReal (R.proj q) := real_sum fun k => real_mul (H.p k) (H.wp _ k _)

theorem real_hid (q : Fin 1024) : IsReal (R.hid q) := real_add (H.h q) (real_mul (real_gate H q) (real_proj H q))

theorem real_last (q : Fin 1024) : IsReal (R.hid q * inv R.hid) := real_mul (real_hid H q) (real_inv (real_hid H))

theorem real_err (q : Fin 1024) : IsReal (R.err q) := real_sub (real_mul (real_last H q) (H.gf q)) (H.t q)

theorem real_loss : IsReal R.mean := real_mean (real_sum fun q => real_mul (real_err H q) (real_err H q))

theorem real_dn (q : Fin 1024) : IsReal (R.dn q) := real_mul (real_mul (real_err H q) ⟨_, over⟩) (H.gf q)

theorem real_dhid (q : Fin 1024) : IsReal (R.dhid q) :=
  real_mul (real_inv (real_hid H)) (real_sub (real_dn H q) (real_mul (real_last H q) (real_mean (real_sum fun i => real_mul (real_dn H i) (real_last H i)))))

theorem real_du (q : Fin 1024) : IsReal (R.du q) :=
  real_sum fun k => real_mul (real_mul (real_mul (real_mul (real_dhid H k) (real_proj H k)) (real_gate H k)) (real_sub real_one (real_gate H k))) (H.wg q k)

end Head

end Cert.Rows

end
-- ==== Proof.Rows.FfnSpec.lean ====
/- The feed-forward layer's inputs' backward pass, along one row: the values both texts are read as. -/
module

public import proofs.«01_k».proof.Proof.Rows.HeadReal

@[expose] public section

noncomputable section

namespace Cert.Rows.Ffn

open Idealize.ShloMosaic

/-- What one row's values are made of: the row of each array, and the weights. -/
structure Row where
  da : Fin 4096 → EReal
  dh : Fin 1024 → EReal
  h : Fin 1024 → EReal
  ya : Fin 1024 → EReal
  yb : Fin 1024 → EReal
  z : Fin 2176 → EReal
  o : Fin 512 → EReal
  w1 : Fin 8 → Fin 1024 → Fin 512 → EReal
  g : Fin 1024 → EReal
  wm : Fin 1024 → Fin 1024 → EReal
  ws : Fin 8 → Fin 512 → Fin 128 → EReal
  wf : Fin 8 → Fin 512 → Fin 128 → EReal

variable (R : Row)

/-- The gradient at the normed row, and at the row itself. -/
def Row.du (q : Fin 1024) : EReal := ∑ k : Fin 4096, R.da k * R.w1 ⟨k.val / 512, by omega⟩ q ⟨k.val % 512, by omega⟩
def Row.dh1 (q : Fin 1024) : EReal := R.dh q + Cert.Rows.Head.back R.h (fun i => R.du i * R.g i) q

/-- The gradient at the merged row, and the two gates. -/
def Row.dm (q : Fin 1024) : EReal := ∑ k, R.dh1 k * R.wm q k
def Row.gateA (q : Fin 1024) : EReal := Ideal.div 1 (1 + Ideal.exp (-R.z ⟨128 + q.val, by omega⟩))
def Row.gateB (q : Fin 1024) : EReal := Ideal.div 1 (1 + Ideal.exp (-R.z ⟨1152 + q.val, by omega⟩))

/-- The gradients at the two branches' rows, and at the gates' logits. -/
def Row.dya (q : Fin 1024) : EReal := R.dm q * R.gateA q
def Row.dyb (q : Fin 1024) : EReal := R.dm q * R.gateB q
def Row.dla (q : Fin 1024) : EReal := R.dm q * R.ya q * R.gateA q * (1 - R.gateA q)
def Row.dlb (q : Fin 1024) : EReal := R.dm q * R.yb q * R.gateB q * (1 - R.gateB q)

/-- The gradients at the two attentions' outputs, and the row sums of each head of the second. -/
def Row.doa (n : Fin 512) : EReal := ∑ k : Fin 1024, R.dya k * R.ws ⟨k.val / 128, by omega⟩ n ⟨k.val % 128, by omega⟩
def Row.dob (n : Fin 512) : EReal := ∑ k : Fin 1024, R.dyb k * R.wf ⟨k.val / 128, by omega⟩ n ⟨k.val % 128, by omega⟩
def Row.delta (n : Fin 8) : EReal := ∑ j : Fin 64, R.dob ⟨64 * n.val + j.val, by omega⟩ * R.o ⟨64 * n.val + j.val, by omega⟩

/-- The row's part of the gain's gradient. -/
def Row.gainPart (q : Fin 1024) : EReal := R.du q * (R.h q * inv R.h)

/-- What is asked of a row. -/
structure Row.Real (R : Row) : Prop where
  da : ∀ k, IsReal (R.da k)
  dh : ∀ q, IsReal (R.dh q)
  h : ∀ q, IsReal (R.h q)
  o : ∀ k, IsReal (R.o k)
  w1 : ∀ n q k, IsReal (R.w1 n q k)
  g : ∀ q, IsReal (R.g q)
  wm : ∀ k q, IsReal (R.wm k q)
  wf : ∀ n k l, IsReal (R.wf n k l)

/-- A gate is a number whatever its logit is. -/
theorem real_gate (x : EReal) : IsReal (Ideal.div 1 (1 + Ideal.exp (-x))) := by
  induction x using EReal.rec with
  | coe x => exact real_sigmoid ⟨x, rfl⟩
  | bot =>
    rw [EReal.neg_bot]
    show IsReal (Ideal.div 1 (1 + ⊤))
    rw [show (1 : EReal) + ⊤ = ⊤ from rfl]
    exact ⟨0, by unfold Ideal.div; rw [if_neg (by simp), EReal.inv_top, mul_zero, EReal.coe_zero]⟩
  | top =>
    rw [EReal.neg_top]
    show IsReal (Ideal.div 1 (1 + 0))
    rw [add_zero]
    exact ⟨1 / 1, by rw [← EReal.coe_one, div_coe (by norm_num)]⟩

variable {R} (H : R.Real)

include H

theorem real_du (q : Fin 1024) : IsReal (R.du q) := real_sum fun k => real_mul (H.da k) (H.w1 _ _ _)

theorem real_up (q : Fin 1024) : IsReal (R.du q * R.g q) := real_mul (real_du H q) (H.g q)

theorem real_dh1 (q : Fin 1024) : IsReal (R.dh1 q) :=
  real_add (H.dh q) (real_mul (real_inv H.h) (real_sub (real_up H q) (real_mul (real_mul (H.h q) (real_inv H.h))
    (real_mean (real_sum fun i => real_mul (real_up H i) (real_mul (H.h i) (real_inv H.h)))))))

theorem real_dob (n : Fin 512) : IsReal (R.dob n) :=
  real_sum fun k => real_mul (real_mul (real_sum fun k => real_mul (real_dh1 H k) (H.wm _ _)) (real_gate _)) (H.wf _ _ _)

end Cert.Rows.Ffn

namespace Cert.Rows

open Idealize.ShloMosaic

/-- A number split into itself and what is left. -/
theorem real_left {x : EReal} : IsReal x → x - x = 0
  | ⟨a, ha⟩ => by rw [ha, ← EReal.coe_sub, sub_self, EReal.coe_zero]

/-- The columns of one head, picked out of a pair's by ones and zeros. -/
theorem picked (f : Fin 512 → EReal) (hf : ∀ n, IsReal (f n)) (p : Fin 4) (n : Fin 8) (l : Fin 256) (hn : n.val = 2 * p.val + l.val / 128)
    (h : ∀ k : Fin 128, 128 * p.val + k.val < 512) :
    (∑ k : Fin 128, f ⟨128 * p.val + k.val, h k⟩ * (if k.val / 64 = l.val / 128 then (1 : EReal) else 0))
      + ∑ k : Fin 128, (f ⟨128 * p.val + k.val, h k⟩ - f ⟨128 * p.val + k.val, h k⟩) * (if k.val / 64 = l.val / 128 then (1 : EReal) else 0)
      = ∑ j : Fin 64, f ⟨64 * n.val + j.val, by omega⟩ := by
  simp only [real_left (hf _), zero_mul, Finset.sum_const_zero, add_zero, mul_ite, mul_one, mul_zero, ite_self]
  rw [Fin.sum_univ_tiles 2 64 rfl fun k : Fin 128 => if k.val / 64 = l.val / 128 then f ⟨128 * p.val + k.val, h k⟩ else 0, Fin.sum_univ_two]
  have e : ∀ (a : Fin 2), (∑ j : Fin 64, if (a.val * 64 + j.val) / 64 = l.val / 128 then f ⟨128 * p.val + (a.val * 64 + j.val), by omega⟩ else 0)
      = if a.val = l.val / 128 then ∑ j : Fin 64, f ⟨64 * n.val + j.val, by omega⟩ else 0 := fun a => by
    split_ifs with ha
    · refine Finset.sum_congr rfl fun j _ => ?_
      rw [if_pos (by omega)]
      exact congrArg f (Fin.ext (by dsimp only; omega))
    · exact Finset.sum_eq_zero fun j _ => if_neg (by omega)
  refine (congrArg₂ (fun a b : EReal => a + b) (e 0) (e 1)).trans ?_
  by_cases hl : l.val / 128 = 0
  · rw [if_pos (show (0 : Fin 2).val = l.val / 128 from hl.symm), if_neg (show ¬(1 : Fin 2).val = l.val / 128 by rw [hl]; decide), add_zero]
  · have h1 : l.val / 128 = 1 := by omega
    rw [if_neg (show ¬(0 : Fin 2).val = l.val / 128 by rw [h1]; decide), if_pos (show (1 : Fin 2).val = l.val / 128 from h1.symm), zero_add]

end Cert.Rows

end
-- ==== Proof.Rows.Stack.lean ====
/- Weights kept as eight slices, one over the other: the slices side by side, and sums over them one after the other. -/
module

public import Idealize.ShloMosaic.Lib.Pointwise
public import Idealize.ShloMosaic.Lib.IdealHost

@[expose] public section

noncomputable section

namespace Cert.Rows

open Idealize.ShloMosaic

/-- Eight slices side by side, read at a column: the slice the column falls in. -/
theorem joined {R : ℕ} (w : (⟨3, ![8, R, 128]⟩ : Shape).Idx → EReal) (k : Fin R) (q : Fin 1024) :
    (if h : q.val < 128 then w (ix3 (0 : Fin 8) k (⟨q.val, h⟩ : Fin 128))
      else if h : q.val - 128 < 128 then w (ix3 (1 : Fin 8) k (⟨q.val - 128, h⟩ : Fin 128))
      else if h : q.val - 128 - 128 < 128 then w (ix3 (2 : Fin 8) k (⟨q.val - 128 - 128, h⟩ : Fin 128))
      else if h : q.val - 128 - 128 - 128 < 128 then w (ix3 (3 : Fin 8) k (⟨q.val - 128 - 128 - 128, h⟩ : Fin 128))
      else if h : q.val - 128 - 128 - 128 - 128 < 128 then w (ix3 (4 : Fin 8) k (⟨q.val - 128 - 128 - 128 - 128, h⟩ : Fin 128))
      else if h : q.val - 128 - 128 - 128 - 128 - 128 < 128 then w (ix3 (5 : Fin 8) k (⟨q.val - 128 - 128 - 128 - 128 - 128, h⟩ : Fin 128))
      else if h : q.val - 128 - 128 - 128 - 128 - 128 - 128 < 128 then w (ix3 (6 : Fin 8) k (⟨q.val - 128 - 128 - 128 - 128 - 128 - 128, h⟩ : Fin 128))
      else w (ix3 (7 : Fin 8) k (⟨q.val - 128 - 128 - 128 - 128 - 128 - 128 - 128, by omega⟩ : Fin 128)))
      = w (ix3 (⟨q.val / 128, by omega⟩ : Fin 8) k (⟨q.val % 128, by omega⟩ : Fin 128)) := by
  have e : ∀ (n : Fin 8) (l l' : Fin 128) (h1 : q.val / 128 < 8), n.val = q.val / 128 → l.val = l'.val → w (ix3 n k l) = w (ix3 ⟨q.val / 128, h1⟩ k l') := fun n l l' h1 hn hl => by
    rw [show n = ⟨q.val / 128, h1⟩ from Fin.ext hn, Fin.ext hl]
  split_ifs
  · exact e 0 _ _ _ (show 0 = q.val / 128 by omega) (by dsimp only; omega)
  · exact e 1 _ _ _ (show 1 = q.val / 128 by omega) (by dsimp only; omega)
  · exact e 2 _ _ _ (show 2 = q.val / 128 by omega) (by dsimp only; omega)
  · exact e 3 _ _ _ (show 3 = q.val / 128 by omega) (by dsimp only; omega)
  · exact e 4 _ _ _ (show 4 = q.val / 128 by omega) (by dsimp only; omega)
  · exact e 5 _ _ _ (show 5 = q.val / 128 by omega) (by dsimp only; omega)
  · exact e 6 _ _ _ (show 6 = q.val / 128 by omega) (by dsimp only; omega)
  · exact e 7 _ _ _ (show 7 = q.val / 128 by omega) (by dsimp only; omega)

/-- A sum over eight groups, group by group, is the sum over all. -/
theorem sum_groups (f : Fin 8 → Fin 512 → EReal) (b : EReal) :
    b + ∑ k, f 0 k + ∑ k, f 1 k + ∑ k, f 2 k + ∑ k, f 3 k + ∑ k, f 4 k + ∑ k, f 5 k + ∑ k, f 6 k + ∑ k, f 7 k
      = b + ∑ j : Fin 4096, f ⟨j.val / 512, by omega⟩ ⟨j.val % 512, by omega⟩ := by
  rw [Fin.sum_univ_tiles 8 512 rfl fun j : Fin 4096 => f ⟨j.val / 512, by omega⟩ ⟨j.val % 512, by omega⟩]
  have e : ∀ (n : Fin 8) (k : Fin 512) (h1 : (n.val * 512 + k.val) / 512 < 8) (h2 : (n.val * 512 + k.val) % 512 < 512),
      f ⟨(n.val * 512 + k.val) / 512, h1⟩ ⟨(n.val * 512 + k.val) % 512, h2⟩ = f n k := fun n k h1 h2 => by
    congr 1
    · exact Fin.ext (by dsimp only; omega)
    · exact Fin.ext (by dsimp only; omega)
  simp only [e, Fin.sum_univ_eight, add_assoc]

end Cert.Rows

end
-- ==== Proof.Rows.Ffn.lean ====
/- The feed-forward layer's inputs' backward pass: one block of rows. -/
module

public import proofs.«01_k».proof.Proof.Rows.FfnRun
public import proofs.«01_k».proof.Proof.Rows.FfnSpec
public import proofs.«01_k».proof.Proof.Rows.Stack

@[expose] public section

noncomputable section

namespace Cert.FfnBwdIdeal.Rows

open Cert.FfnBwdIdeal Cert.FfnBwdIdeal.Gen Idealize.ShloMosaic Idealize.ShloMosaic.TcCoe Idealize.SL.Sem
open Cert.Rows.Ffn (Row)

/-- The whole part of a row's number over sixty-four, as the picking matrix computes it. -/
theorem half_row : ∀ k : Fin 128, Scalar.select
      (IntOp.andi (IntOp.cmpi .ne (IntOp.subi (BitVec.setWidth 32 (IntOp.cmpi .sgt (BitVec.ofNat 32 k.val) 0#32)) (BitVec.setWidth 32 (IntOp.cmpi .slt (BitVec.ofNat 32 k.val) 0#32)))
        (Scalar.subi (Scalar.extui (Scalar.cmpi .sgt 64#32 0#32)) (Scalar.extui (Scalar.cmpi .slt 64#32 0#32))))
        (IntOp.cmpi .ne (IntOp.remsi .vector (BitVec.ofNat 32 k.val) 64#32) 0#32))
      (IntOp.subi (IntOp.divsi .vector (BitVec.ofNat 32 k.val) 64#32) 1#32)
      (IntOp.divsi .vector (BitVec.ofNat 32 k.val) 64#32) = BitVec.ofNat 32 (k.val / 64) := by decide +kernel

/-- The whole part of a column's number over a hundred and twenty-eight. -/
theorem half_col : ∀ l : Fin 256, Scalar.select
      (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32)))
        (Scalar.subi (Scalar.extui (Scalar.cmpi .sgt 128#32 0#32)) (Scalar.extui (Scalar.cmpi .slt 128#32 0#32))))
        (IntOp.cmpi .ne (IntOp.remsi .vector (BitVec.ofNat 32 l.val) 128#32) 0#32))
      (IntOp.subi (IntOp.divsi .vector (BitVec.ofNat 32 l.val) 128#32) 1#32)
      (IntOp.divsi .vector (BitVec.ofNat 32 l.val) 128#32) = BitVec.ofNat 32 (l.val / 128) := by decide +kernel

/-- Which half of a pair's columns a row of the picking matrix names. -/
theorem pick_at (k : Fin 128) (l : Fin 256) : pickB (ix2 k l) = if k.val / 64 = l.val / 128 then (1 : EReal) else 0 := by
  unfold pickB
  pointwise [k0_pay32, k0_pay30, k0_pay31]
  refine Eq.trans (congrArg (fun v => FloatOps.sitofp (F := Ideal) FTy.f32 (BitVec.setWidth 32 v)) (congrArg₂ (IntOp.cmpi .eq) (half_row k) (half_col l))) ?_
  have b : ∀ a b : Fin 2, (BitVec.setWidth 32 (IntOp.cmpi .eq (BitVec.ofNat 32 a.val) (BitVec.ofNat 32 b.val))).toInt = if a.val = b.val then 1 else 0 := by decide +kernel
  have c := b ⟨k.val / 64, by omega⟩ ⟨l.val / 128, by omega⟩
  show (((BitVec.setWidth 32 (IntOp.cmpi .eq (BitVec.ofNat 32 (k.val / 64)) (BitVec.ofNat 32 (l.val / 128)))).toInt : ℝ) : EReal) = _
  rw [c]
  dsimp only
  split <;> simp

/-- A block, from its entries by row and column. -/
def blockOf (W : ℕ) (f : Fin 256 → Fin W → EReal) (i : (⟨2, ![256, W]⟩ : Shape).Idx) : EReal := f (i 0) (i 1)

/-- A piece of columns, in its place. -/
theorem placed (B W : ℕ) (f : Fin 256 → Fin W → EReal) (o : ℕ)
    (inb : ∀ a, (![0, o] : Fin 2 → ℕ) a + (⟨2, ![256, B]⟩ : Shape).size a ≤ (⟨2, ![256, W]⟩ : Shape).size a) (w : (⟨2, ![256, B]⟩ : Shape).Idx → EReal)
    (hw : ∀ (r : Fin 256) (l : Fin B) (h : o + l.val < W), w (ix2 r l) = f r ⟨o + l.val, h⟩) (x : (⟨2, ![256, B]⟩ : Shape).Idx) :
    w x = blockOf W f ((Rect.unit (s := ⟨2, ![256, W]⟩) ![0, o] (⟨2, ![256, B]⟩ : Shape).size inb).emb x) := by
  obtain ⟨r, l, rfl⟩ : ∃ (r : Fin 256) (l : Fin B), x = ix2 r l := ⟨x 0, x 1, by funext a; match a with | ⟨0, _⟩ => rfl | ⟨1, _⟩ => rfl⟩
  have h : o + l.val < W := lt_of_lt_of_le (Nat.add_lt_add_left l.isLt o) (inb 1)
  rw [hw r l h]
  unfold blockOf
  congr 1
  · apply Fin.ext; rw [Rect.emb_apply]; show r.val = 0 + 1 * r.val; omega
  · apply Fin.ext; rw [Rect.emb_apply]; show o + l.val = o + 1 * l.val; omega

section Block

variable (x0 : Vec Ideal S256x4096 .bf16) (x1 : Vec Ideal S256x1024 .f32) (x2 : Vec Ideal S256x1024 .f32) (x3 : Vec Ideal S256x1024 .bf16) (x4 : Vec Ideal S256x1024 .bf16) (x5 : Vec Ideal S256x2176 .f32) (x6 : Vec Ideal S256x512 .bf16) (x7 : Vec Ideal S8x1024x512 .bf16) (x8 : Vec Ideal S1x1024 .f32) (x9 : Vec Ideal S1024x1024 .bf16) (x10 : Vec Ideal S8x512x128 .bf16) (x11 : Vec Ideal S8x512x128 .bf16)

/-- A row of the block, with the weights. -/
def rowB (r : Fin 256) : Row where
  da k := x0 (ix2 r k)
  dh q := x1 (ix2 r q)
  h q := x2 (ix2 r q)
  ya q := x3 (ix2 r q)
  yb q := x4 (ix2 r q)
  z k := x5 (ix2 r k)
  o k := x6 (ix2 r k)
  w1 n q k := x7 (ix3 n q k)
  g q := x8 (ix2 0 q)
  wm k q := x9 (ix2 k q)
  ws n k l := x10 (ix3 n k l)
  wf n k l := x11 (ix3 n k l)

variable (r : Fin 256)

theorem scaled_at (q : Fin 1024) : k0_pay7 (F := Ideal) x2 (ix2 r q) = (rowB x0 x1 x2 x3 x4 x5 x6 x7 x8 x9 x10 x11 r).h q * Cert.Rows.inv (rowB x0 x1 x2 x3 x4 x5 x6 x7 x8 x9 x10 x11 r).h := by
  pointwise [k0_pay7, k0_pay6]
  rfl

theorem up_at (q : Fin 1024) : upB x0 x7 (ix2 r q) = (rowB x0 x1 x2 x3 x4 x5 x6 x7 x8 x9 x10 x11 r).du q := by
  unfold upB
  pointwise [k0_pay5, k0_pay4]
  have e := Cert.Rows.sum_groups (fun n k => (rowB x0 x1 x2 x3 x4 x5 x6 x7 x8 x9 x10 x11 r).da ⟨512 * n.val + k.val, by omega⟩ * (rowB x0 x1 x2 x3 x4 x5 x6 x7 x8 x9 x10 x11 r).w1 n q k) 0
  rw [zero_add, zero_add] at e
  refine Eq.trans ?_ (e.trans ?_)
  · have z : ∀ k : Fin 512, (⟨512 * (0 : Fin 8).val + k.val, by omega⟩ : Fin 4096) = ⟨k.val, by omega⟩ := fun k => Fin.ext (show 512 * 0 + k.val = k.val by omega)
    simp only [z]
    rfl
  · refine Finset.sum_congr rfl fun k _ => ?_
    exact congrArg (fun a => (rowB x0 x1 x2 x3 x4 x5 x6 x7 x8 x9 x10 x11 r).da a * _) (Fin.ext (show 512 * (k.val / 512) + k.val % 512 = k.val by omega))

theorem in_at (q : Fin 1024) : inB x0 x2 x7 x8 (ix2 r q) = (rowB x0 x1 x2 x3 x4 x5 x6 x7 x8 x9 x10 x11 r).du q * (rowB x0 x1 x2 x3 x4 x5 x6 x7 x8 x9 x10 x11 r).g q - (rowB x0 x1 x2 x3 x4 x5 x6 x7 x8 x9 x10 x11 r).h q * Cert.Rows.inv (rowB x0 x1 x2 x3 x4 x5 x6 x7 x8 x9 x10 x11 r).h *
    Ideal.div (∑ i, (rowB x0 x1 x2 x3 x4 x5 x6 x7 x8 x9 x10 x11 r).du i * (rowB x0 x1 x2 x3 x4 x5 x6 x7 x8 x9 x10 x11 r).g i * ((rowB x0 x1 x2 x3 x4 x5 x6 x7 x8 x9 x10 x11 r).h i * Cert.Rows.inv (rowB x0 x1 x2 x3 x4 x5 x6 x7 x8 x9 x10 x11 r).h)) (Ideal.ofBits .f32 1149239296#32) := by
  unfold inB
  pointwise [k0_pay8]
  have u : ∀ q : Fin 1024, k0_pay5 (k0_pay4 (View.ld x0 (Rect.unit ![0, 0] S256x512.size inb_S256x4096_S256x512_0_0)) (View.ld x7 (Rect.unit ![0, 0, 0] S1x1024x512.size inb_S8x1024x512_S1x1024x512_0_0_0)) (View.ld x0 (Rect.unit ![0, 512] S256x512.size inb_S256x4096_S256x512_0_512)) (View.ld x7 (Rect.unit ![1, 0, 0] S1x1024x512.size inb_S8x1024x512_S1x1024x512_1_0_0)) (View.ld x0 (Rect.unit ![0, 1024] S256x512.size inb_S256x4096_S256x512_0_1024)) (View.ld x7 (Rect.unit ![2, 0, 0] S1x1024x512.size inb_S8x1024x512_S1x1024x512_2_0_0)) (View.ld x0 (Rect.unit ![0, 1536] S256x512.size inb_S256x4096_S256x512_0_1536)) (View.ld x7 (Rect.unit ![3, 0, 0] S1x1024x512.size inb_S8x1024x512_S1x1024x512_3_0_0)) (View.ld x0 (Rect.unit ![0, 2048] S256x512.size inb_S256x4096_S256x512_0_2048)) (View.ld x7 (Rect.unit ![4, 0, 0] S1x1024x512.size inb_S8x1024x512_S1x1024x512_4_0_0))) (View.ld x0 (Rect.unit ![0, 2560] S256x512.size inb_S256x4096_S256x512_0_2560)) (View.ld x7 (Rect.unit ![5, 0, 0] S1x1024x512.size inb_S8x1024x512_S1x1024x512_5_0_0)) (View.ld x0 (Rect.unit ![0, 3072] S256x512.size inb_S256x4096_S256x512_0_3072)) (View.ld x7 (Rect.unit ![6, 0, 0] S1x1024x512.size inb_S8x1024x512_S1x1024x512_6_0_0)) (View.ld x0 (Rect.unit ![0, 3584] S256x512.size inb_S256x4096_S256x512_0_3584)) (View.ld x7 (Rect.unit ![7, 0, 0] S1x1024x512.size inb_S8x1024x512_S1x1024x512_7_0_0)) (ix2 r q) = (rowB x0 x1 x2 x3 x4 x5 x6 x7 x8 x9 x10 x11 r).du q := up_at x0 x1 x2 x3 x4 x5 x6 x7 x8 x9 x10 x11 r
  simp only [u, scaled_at x0 x1 x2 x3 x4 x5 x6 x7 x8 x9 x10 x11]
  rfl

theorem dh1_at (q : Fin 1024) : k0_pay12 (inB x0 x2 x7 x8) (k0_pay9 x2) x1 (ix2 r q) = (rowB x0 x1 x2 x3 x4 x5 x6 x7 x8 x9 x10 x11 r).dh1 q := by
  pointwise [k0_pay12, k0_pay9, k0_pay6]
  rw [in_at x0 x1 x2 x3 x4 x5 x6 x7 x8 x9 x10 x11]
  rfl

theorem low_at (q : Fin 1024) : k0_pay13 (inB x0 x2 x7 x8) (k0_pay9 x2) x1 (ix2 r q) = (rowB x0 x1 x2 x3 x4 x5 x6 x7 x8 x9 x10 x11 r).dh1 q := by
  pointwise [k0_pay13]
  exact dh1_at x0 x1 x2 x3 x4 x5 x6 x7 x8 x9 x10 x11 r q

theorem dm_at (q : Fin 1024) : dmB x0 x1 x2 x7 x8 x9 (ix2 r q) = (rowB x0 x1 x2 x3 x4 x5 x6 x7 x8 x9 x10 x11 r).dm q := by
  unfold dmB
  pointwise [k0_pay14]
  simp only [low_at x0 x1 x2 x3 x4 x5 x6 x7 x8 x9 x10 x11]
  rfl

theorem gateA_at (q : Fin 1024) : gateA x5 (ix2 r q) = (rowB x0 x1 x2 x3 x4 x5 x6 x7 x8 x9 x10 x11 r).gateA q := by
  unfold gateA
  pointwise [k0_pay15]
  rw [zero_sub]
  rfl

theorem gateB_at (q : Fin 1024) : k0_pay17 (expB x5) (ix2 r q) = (rowB x0 x1 x2 x3 x4 x5 x6 x7 x8 x9 x10 x11 r).gateB q := by
  unfold expB
  pointwise [k0_pay17, k0_pay16]
  rw [zero_sub]
  rfl

theorem dya_at (q : Fin 1024) : k0_pay18 (dmB x0 x1 x2 x7 x8 x9) (gateA x5) (ix2 r q) = (rowB x0 x1 x2 x3 x4 x5 x6 x7 x8 x9 x10 x11 r).dya q := by
  pointwise [k0_pay18]
  rw [dm_at x0 x1 x2 x3 x4 x5 x6 x7 x8 x9 x10 x11, gateA_at x0 x1 x2 x3 x4 x5 x6 x7 x8 x9 x10 x11]
  rfl

theorem dyb_at (q : Fin 1024) : k0_pay19 (dmB x0 x1 x2 x7 x8 x9) (expB x5) (ix2 r q) = (rowB x0 x1 x2 x3 x4 x5 x6 x7 x8 x9 x10 x11 r).dyb q := by
  pointwise [k0_pay19]
  rw [dm_at x0 x1 x2 x3 x4 x5 x6 x7 x8 x9 x10 x11, gateB_at x0 x1 x2 x3 x4 x5 x6 x7 x8 x9 x10 x11]
  rfl

theorem dla_at (q : Fin 1024) : k0_pay20 (dmB x0 x1 x2 x7 x8 x9) (gateA x5) x3 (ix2 r q) = (rowB x0 x1 x2 x3 x4 x5 x6 x7 x8 x9 x10 x11 r).dla q := by
  pointwise [k0_pay20]
  rw [dm_at x0 x1 x2 x3 x4 x5 x6 x7 x8 x9 x10 x11, gateA_at x0 x1 x2 x3 x4 x5 x6 x7 x8 x9 x10 x11]
  rfl

theorem dlb_at (q : Fin 1024) : k0_pay21 (dmB x0 x1 x2 x7 x8 x9) (expB x5) x4 (ix2 r q) = (rowB x0 x1 x2 x3 x4 x5 x6 x7 x8 x9 x10 x11 r).dlb q := by
  pointwise [k0_pay21]
  rw [dm_at x0 x1 x2 x3 x4 x5 x6 x7 x8 x9 x10 x11, gateB_at x0 x1 x2 x3 x4 x5 x6 x7 x8 x9 x10 x11]
  rfl

theorem doa_at (n : Fin 512) : k0_pay24 (k0_pay18 (dmB x0 x1 x2 x7 x8 x9) (gateA x5)) (k0_pay22 (View.ld x10 (Rect.unit ![0, 0, 0] S1x512x128.size inb_S8x512x128_S1x512x128_0_0_0))) (k0_pay23 (View.ld x10 (Rect.unit ![1, 0, 0] S1x512x128.size inb_S8x512x128_S1x512x128_1_0_0))) (View.ld x10 (Rect.unit ![2, 0, 0] S1x512x128.size inb_S8x512x128_S1x512x128_2_0_0)) (View.ld x10 (Rect.unit ![3, 0, 0] S1x512x128.size inb_S8x512x128_S1x512x128_3_0_0)) (View.ld x10 (Rect.unit ![4, 0, 0] S1x512x128.size inb_S8x512x128_S1x512x128_4_0_0)) (View.ld x10 (Rect.unit ![5, 0, 0] S1x512x128.size inb_S8x512x128_S1x512x128_5_0_0)) (View.ld x10 (Rect.unit ![6, 0, 0] S1x512x128.size inb_S8x512x128_S1x512x128_6_0_0)) (View.ld x10 (Rect.unit ![7, 0, 0] S1x512x128.size inb_S8x512x128_S1x512x128_7_0_0)) (ix2 r n) = (rowB x0 x1 x2 x3 x4 x5 x6 x7 x8 x9 x10 x11 r).doa n := by
  pointwise [k0_pay24, k0_pay22, k0_pay23]
  exact Finset.sum_congr rfl fun k _ => congrArg₂ (fun a b : EReal => a * b) (dya_at x0 x1 x2 x3 x4 x5 x6 x7 x8 x9 x10 x11 r k) (Cert.Rows.joined x10 n k)

theorem dob_at (n : Fin 512) : outB x0 x1 x2 x5 x7 x8 x9 x11 (ix2 r n) = (rowB x0 x1 x2 x3 x4 x5 x6 x7 x8 x9 x10 x11 r).dob n := by
  unfold outB
  pointwise [k0_pay29, k0_pay25, k0_pay26, k0_pay27, k0_pay28]
  exact Finset.sum_congr rfl fun k _ => congrArg₂ (fun a b : EReal => a * b) (dyb_at x0 x1 x2 x3 x4 x5 x6 x7 x8 x9 x10 x11 r k) (Cert.Rows.joined x11 n k)

/-- The row's part of the gain's gradient, added to what is carried. -/
theorem gainPart_at (s : S8x1024.Idx → EReal) (p : Fin 8) (q : Fin 1024) :
    k0_pay11 (upB x0 x7) (k0_pay7 x2) s (ix2 p q) = s (ix2 p q) + ∑ k : Fin 256, (rowB x0 x1 x2 x3 x4 x5 x6 x7 x8 x9 x10 x11 k).gainPart q := by
  pointwise [k0_pay11]
  simp only [up_at x0 x1 x2 x3 x4 x5 x6 x7 x8 x9 x10 x11, scaled_at x0 x1 x2 x3 x4 x5 x6 x7 x8 x9 x10 x11]
  rfl

theorem gates_all (i : S256x2048.Idx) : View.canon (gatesB x0 x1 x2 x3 x4 x5 x7 x8 x9) i
    = blockOf 2048 (fun r q => if h : q.val < 1024 then (rowB x0 x1 x2 x3 x4 x5 x6 x7 x8 x9 x10 x11 r).dla ⟨q.val, h⟩ else (rowB x0 x1 x2 x3 x4 x5 x6 x7 x8 x9 x10 x11 r).dlb ⟨q.val - 1024, by omega⟩) i := by
  have hc := View.cover_of_tiledL (gatesB x0 x1 x2 x3 x4 x5 x7 x8 x9) S256x1024.size (by sl_kernel_rfl) i
  revert hc
  unfold gatesB
  refine View.canon_apply_of_pieces _ _ ?_ i
  simp only [List.mem_cons, List.not_mem_nil, or_false]
  rintro p (rfl | rfl)
  · refine placed 1024 2048 _ 1024 inb_S256x2048_S256x1024_0_1024 _ fun r l h => ?_
    rw [dif_neg (show ¬1024 + l.val < 1024 by omega)]
    exact (dlb_at x0 x1 x2 x3 x4 x5 x6 x7 x8 x9 x10 x11 r l).trans (congrArg (rowB x0 x1 x2 x3 x4 x5 x6 x7 x8 x9 x10 x11 r).dlb (Fin.ext (show l.val = 1024 + l.val - 1024 by omega)))
  · refine placed 1024 2048 _ 0 inb_S256x2048_S256x1024_0_0 _ fun r l h => ?_
    rw [dif_pos (show 0 + l.val < 1024 by omega)]
    exact (dla_at x0 x1 x2 x3 x4 x5 x6 x7 x8 x9 x10 x11 r l).trans (congrArg (rowB x0 x1 x2 x3 x4 x5 x6 x7 x8 x9 x10 x11 r).dla (Fin.ext (show l.val = 0 + l.val by omega)))

theorem gates_at (q : Fin 2048) : View.canon (gatesB x0 x1 x2 x3 x4 x5 x7 x8 x9) (ix2 r q)
    = if h : q.val < 1024 then (rowB x0 x1 x2 x3 x4 x5 x6 x7 x8 x9 x10 x11 r).dla ⟨q.val, h⟩ else (rowB x0 x1 x2 x3 x4 x5 x6 x7 x8 x9 x10 x11 r).dlb ⟨q.val - 1024, by omega⟩ := gates_all x0 x1 x2 x3 x4 x5 x6 x7 x8 x9 x10 x11 (ix2 r q)

theorem pair3_at (H : ∀ r, (rowB x0 x1 x2 x3 x4 x5 x6 x7 x8 x9 x10 x11 r).Real) (l : Fin 256) (h : 768 + l.val < 1024) :
    (k0_pay3 (outB x0 x1 x2 x5 x7 x8 x9 x11) pickB (View.ld x6 (Rect.unit ![0, 384] S256x128.size inb_S256x512_S256x128_0_384))) (ix2 r l) = (rowB x0 x1 x2 x3 x4 x5 x6 x7 x8 x9 x10 x11 r).delta ⟨(768 + l.val) / 128, by omega⟩ := by
  pointwise [k0_pay3]
  have k := pick_at
  simp only [dob_at x0 x1 x2 x3 x4 x5 x6 x7 x8 x9 x10 x11, k]
  exact Cert.Rows.picked (fun n => (rowB x0 x1 x2 x3 x4 x5 x6 x7 x8 x9 x10 x11 r).dob n * (rowB x0 x1 x2 x3 x4 x5 x6 x7 x8 x9 x10 x11 r).o n) (fun n => Cert.Rows.real_mul (Cert.Rows.Ffn.real_dob (H r) n) ((H r).o n)) 3 ⟨(768 + l.val) / 128, by omega⟩ l
    (show (768 + l.val) / 128 = 2 * 3 + l.val / 128 by omega) fun k => (show 128 * 3 + k.val < 512 by omega)

theorem pair2_at (H : ∀ r, (rowB x0 x1 x2 x3 x4 x5 x6 x7 x8 x9 x10 x11 r).Real) (l : Fin 256) (h : 512 + l.val < 1024) :
    (k0_pay2 (outB x0 x1 x2 x5 x7 x8 x9 x11) pickB (View.ld x6 (Rect.unit ![0, 256] S256x128.size inb_S256x512_S256x128_0_256))) (ix2 r l) = (rowB x0 x1 x2 x3 x4 x5 x6 x7 x8 x9 x10 x11 r).delta ⟨(512 + l.val) / 128, by omega⟩ := by
  pointwise [k0_pay2]
  have k := pick_at
  simp only [dob_at x0 x1 x2 x3 x4 x5 x6 x7 x8 x9 x10 x11, k]
  exact Cert.Rows.picked (fun n => (rowB x0 x1 x2 x3 x4 x5 x6 x7 x8 x9 x10 x11 r).dob n * (rowB x0 x1 x2 x3 x4 x5 x6 x7 x8 x9 x10 x11 r).o n) (fun n => Cert.Rows.real_mul (Cert.Rows.Ffn.real_dob (H r) n) ((H r).o n)) 2 ⟨(512 + l.val) / 128, by omega⟩ l
    (show (512 + l.val) / 128 = 2 * 2 + l.val / 128 by omega) fun k => (show 128 * 2 + k.val < 512 by omega)

theorem pair1_at (H : ∀ r, (rowB x0 x1 x2 x3 x4 x5 x6 x7 x8 x9 x10 x11 r).Real) (l : Fin 256) (h : 256 + l.val < 1024) :
    (k0_pay1 pickB (k0_pay34 (outB x0 x1 x2 x5 x7 x8 x9 x11) (View.ld x6 (Rect.unit ![0, 128] S256x128.size inb_S256x512_S256x128_0_128))) (k0_pay35 (outB x0 x1 x2 x5 x7 x8 x9 x11) (View.ld x6 (Rect.unit ![0, 128] S256x128.size inb_S256x512_S256x128_0_128)))) (ix2 r l) = (rowB x0 x1 x2 x3 x4 x5 x6 x7 x8 x9 x10 x11 r).delta ⟨(256 + l.val) / 128, by omega⟩ := by
  pointwise [k0_pay1, k0_pay35, k0_pay34]
  have k := pick_at
  simp only [dob_at x0 x1 x2 x3 x4 x5 x6 x7 x8 x9 x10 x11, k]
  exact Cert.Rows.picked (fun n => (rowB x0 x1 x2 x3 x4 x5 x6 x7 x8 x9 x10 x11 r).dob n * (rowB x0 x1 x2 x3 x4 x5 x6 x7 x8 x9 x10 x11 r).o n) (fun n => Cert.Rows.real_mul (Cert.Rows.Ffn.real_dob (H r) n) ((H r).o n)) 1 ⟨(256 + l.val) / 128, by omega⟩ l
    (show (256 + l.val) / 128 = 2 * 1 + l.val / 128 by omega) fun k => (show 128 * 1 + k.val < 512 by omega)

theorem pair0_at (H : ∀ r, (rowB x0 x1 x2 x3 x4 x5 x6 x7 x8 x9 x10 x11 r).Real) (l : Fin 256) (h : 0 + l.val < 1024) :
    (k0_pay33 (outB x0 x1 x2 x5 x7 x8 x9 x11) k0_pay30 (iota .tc S128x256 32 [1] iota_S128x256_d1_w32) 128#32 k0_pay31 (View.ld x6 (Rect.unit ![0, 0] S256x128.size inb_S256x512_S256x128_0_0))) (ix2 r l) = (rowB x0 x1 x2 x3 x4 x5 x6 x7 x8 x9 x10 x11 r).delta ⟨(0 + l.val) / 128, by omega⟩ := by
  pointwise [k0_pay33]
  have k : ∀ k l, k0_pay32 (F := Ideal) k0_pay30 (iota .tc S128x256 32 [1] iota_S128x256_d1_w32) 128#32 k0_pay31 (ix2 k l) = if k.val / 64 = l.val / 128 then (1 : EReal) else 0 := pick_at
  simp only [dob_at x0 x1 x2 x3 x4 x5 x6 x7 x8 x9 x10 x11, k]
  have e := Cert.Rows.picked (fun n => (rowB x0 x1 x2 x3 x4 x5 x6 x7 x8 x9 x10 x11 r).dob n * (rowB x0 x1 x2 x3 x4 x5 x6 x7 x8 x9 x10 x11 r).o n) (fun n => Cert.Rows.real_mul (Cert.Rows.Ffn.real_dob (H r) n) ((H r).o n)) 0 ⟨l.val / 128, by omega⟩ l
    (show l.val / 128 = 2 * 0 + l.val / 128 by omega) fun k => (show 128 * 0 + k.val < 512 by omega)
  have z : ∀ k : Fin 128, (⟨128 * (0 : Fin 4).val + k.val, by show 128 * 0 + k.val < 512; omega⟩ : Fin 512) = ⟨k.val, by omega⟩ :=
    fun k => Fin.ext (show 128 * 0 + k.val = k.val by omega)
  simp only [z] at e
  exact e

/-- The row sums of each head, on rows of numbers. -/
theorem delta_all (H : ∀ r, (rowB x0 x1 x2 x3 x4 x5 x6 x7 x8 x9 x10 x11 r).Real) (i : S256x1024.Idx) : View.canon (deltaB x0 x1 x2 x5 x6 x7 x8 x9 x11) i
    = blockOf 1024 (fun r q => (rowB x0 x1 x2 x3 x4 x5 x6 x7 x8 x9 x10 x11 r).delta ⟨q.val / 128, by omega⟩) i := by
  have hc := View.cover_of_tiledL (deltaB x0 x1 x2 x5 x6 x7 x8 x9 x11) S256x256.size (by sl_kernel_rfl) i
  revert hc
  unfold deltaB
  refine View.canon_apply_of_pieces _ _ ?_ i
  simp only [List.mem_cons, List.not_mem_nil, or_false]
  rintro p (rfl | rfl | rfl | rfl)
  · exact placed 256 1024 _ 768 inb_S256x1024_S256x256_0_768 _ fun r l h => pair3_at x0 x1 x2 x3 x4 x5 x6 x7 x8 x9 x10 x11 r H l h
  · exact placed 256 1024 _ 512 inb_S256x1024_S256x256_0_512 _ fun r l h => pair2_at x0 x1 x2 x3 x4 x5 x6 x7 x8 x9 x10 x11 r H l h
  · exact placed 256 1024 _ 256 inb_S256x1024_S256x256_0_256 _ fun r l h => pair1_at x0 x1 x2 x3 x4 x5 x6 x7 x8 x9 x10 x11 r H l h
  · exact placed 256 1024 _ 0 inb_S256x1024_S256x256_0_0 _ fun r l h => pair0_at x0 x1 x2 x3 x4 x5 x6 x7 x8 x9 x10 x11 r H l h

theorem delta_at (H : ∀ r, (rowB x0 x1 x2 x3 x4 x5 x6 x7 x8 x9 x10 x11 r).Real) (q : Fin 1024) : View.canon (deltaB x0 x1 x2 x5 x6 x7 x8 x9 x11) (ix2 r q)
    = (rowB x0 x1 x2 x3 x4 x5 x6 x7 x8 x9 x10 x11 r).delta ⟨q.val / 128, by omega⟩ := delta_all x0 x1 x2 x3 x4 x5 x6 x7 x8 x9 x10 x11 H (ix2 r q)

end Block

end Cert.FfnBwdIdeal.Rows

end
-- ==== Proof.Weights.Sums.lean ====
/- A sum that is carried from block to block of rows. -/
module

public import Idealize.ShloMosaic.PureOps.Ideal

@[expose] public section

namespace Cert.Weights

/-- A block of `n` terms added to the sum of the terms before it. -/
theorem range_add_block (f : ℕ → EReal) (s n : ℕ) :
    (∑ x ∈ Finset.range (n * s), f x) + (∑ x : Fin n, f (n * s + x)) = ∑ x ∈ Finset.range (n * (s + 1)), f x := by
  rw [show n * (s + 1) = n * s + n from by ring, Finset.sum_range_add, Finset.sum_range (n := n)]

/-- A sum carried from block to block is the sum over the blocks' rows so far. -/
theorem running {N R : ℕ} (f : ℕ → EReal) (acc : ∀ n, n < N → EReal) (h0 : ∀ h : 0 < N, acc 0 h = ∑ k : Fin R, f k)
    (hs : ∀ n (h : n + 1 < N), acc (n + 1) h = acc n (Nat.lt_of_succ_lt h) + ∑ k : Fin R, f (R * (n + 1) + k)) :
    ∀ n (h : n < N), acc n h = ∑ x ∈ Finset.range (R * (n + 1)), f x := by
  intro n
  induction n with
  | zero => intro h; rw [h0 h]; simpa using range_add_block f 0 R
  | succ n ih => intro h; rw [hs n h, ih, range_add_block f (n + 1) R]

end Cert.Weights
-- ==== Proof.Rows.FfnSum.lean ====
/- The feed-forward layer's inputs' backward pass: what the call leaves. -/
module

public import proofs.«01_k».proof.Defs
public import proofs.«01_k».proof.Proof.Rows.Ffn
public import proofs.«01_k».proof.Proof.Weights.Sums
public import proofs.«01_k».proof.Proof.Gen.FfnBwdIdeal.Value

@[expose] public section

noncomputable section

namespace Cert.FfnBwdIdeal.Rows

open Cert.FfnBwdIdeal Cert.FfnBwdIdeal.Gen Idealize.ShloMosaic Idealize.ShloMosaic.TcCoe Idealize.SL.Sem
open Cert.Rows.Ffn (Row)

variable (m : (ℓ : Loc nD τ sig) → Buf (Elt Ideal) ℓ) (c : Dev nD)

/-- The arguments. -/
abbrev dinn : S8192x4096.Idx → EReal := m ((c : Thread nD τ).loc main_arg0)
abbrev dhid : S8192x1024.Idx → EReal := m ((c : Thread nD τ).loc main_arg1)
abbrev hids : S8192x1024.Idx → EReal := m ((c : Thread nD τ).loc main_arg2)
abbrev outA : S8192x1024.Idx → EReal := m ((c : Thread nD τ).loc main_arg3)
abbrev outsB : S8192x1024.Idx → EReal := m ((c : Thread nD τ).loc main_arg4)
abbrev lins : S8192x2176.Idx → EReal := m ((c : Thread nD τ).loc main_arg5)
abbrev attn : S8192x512.Idx → EReal := m ((c : Thread nD τ).loc main_arg6)
abbrev winn : S8x1024x512.Idx → EReal := m ((c : Thread nD τ).loc main_arg7)
abbrev gain : S1x1024.Idx → EReal := m ((c : Thread nD τ).loc main_arg8)
abbrev wmix : S1024x1024.Idx → EReal := m ((c : Thread nD τ).loc main_arg9)
abbrev wbrA : S8x512x128.Idx → EReal := m ((c : Thread nD τ).loc main_arg10)
abbrev wbrB : S8x512x128.Idx → EReal := m ((c : Thread nD τ).loc main_arg11)

/-- A row of the arrays, with the weights. -/
def rowOf (p : Fin 8192) : Row where
  da k := dinn m c (ix2 p k)
  dh q := dhid m c (ix2 p q)
  h q := hids m c (ix2 p q)
  ya q := outA m c (ix2 p q)
  yb q := outsB m c (ix2 p q)
  z k := lins m c (ix2 p k)
  o k := attn m c (ix2 p k)
  w1 n q k := winn m c (ix3 n q k)
  g q := gain m c (ix2 0 q)
  wm k q := wmix m c (ix2 k q)
  ws n k l := wbrA m c (ix3 n k l)
  wf n k l := wbrB m c (ix3 n k l)

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index12 : ∀ t : Fin cfg0.N, win0_12.index t 0 = t.val ∧ win0_12.index t 1 = 0 := (by decide +kernel : ∀ t : Fin grid0.N, _)
theorem index13 : ∀ t : Fin cfg0.N, win0_13.index t 0 = t.val ∧ win0_13.index t 1 = 0 := (by decide +kernel : ∀ t : Fin grid0.N, _)
theorem index14 : ∀ t : Fin cfg0.N, win0_14.index t 0 = t.val ∧ win0_14.index t 1 = 0 := (by decide +kernel : ∀ t : Fin grid0.N, _)
theorem index15 : ∀ t : Fin cfg0.N, win0_15.index t 0 = t.val ∧ win0_15.index t 1 = 0 := (by decide +kernel : ∀ t : Fin grid0.N, _)
theorem index16 : ∀ t : Fin cfg0.N, win0_16.index t 0 = t.val ∧ win0_16.index t 1 = 0 := (by decide +kernel : ∀ t : Fin grid0.N, _)
theorem index17 : ∀ t : Fin cfg0.N, win0_17.index t 0 = t.val ∧ win0_17.index t 1 = 0 := (by decide +kernel : ∀ t : Fin grid0.N, _)
theorem index18 : ∀ t : Fin cfg0.N, win0_18.index t 0 = t.val ∧ win0_18.index t 1 = 0 := (by decide +kernel : ∀ t : Fin grid0.N, _)
theorem index19 : ∀ t : Fin cfg0.N, win0_19.index t 0 = t.val ∧ win0_19.index t 1 = 0 := (by decide +kernel : ∀ t : Fin grid0.N, _)
theorem index7 : ∀ t : Fin cfg0.N, ∀ a, win0_7.index t a = 0 := (by decide +kernel : ∀ t : Fin grid0.N, _)
theorem index8 : ∀ t : Fin cfg0.N, ∀ a, win0_8.index t a = 0 := (by decide +kernel : ∀ t : Fin grid0.N, _)
theorem index9 : ∀ t : Fin cfg0.N, ∀ a, win0_9.index t a = 0 := (by decide +kernel : ∀ t : Fin grid0.N, _)
theorem index10 : ∀ t : Fin cfg0.N, ∀ a, win0_10.index t a = 0 := (by decide +kernel : ∀ t : Fin grid0.N, _)
theorem index11 : ∀ t : Fin cfg0.N, ∀ a, win0_11.index t a = 0 := (by decide +kernel : ∀ t : Fin grid0.N, _)
theorem index20 : ∀ t : Fin cfg0.N, ∀ a, win0_20.index t a = 0 := (by decide +kernel : ∀ t : Fin grid0.N, _)

/-- The row of the whole arrays that a block's row is. -/
def at' (t : Fin cfg0.N) (r : Fin 256) : Fin 8192 :=
  ⟨256 * t.val + r.val, by have := lt_of_lt_of_eq t.isLt N_0; have := r.isLt; omega⟩

/-- The blocks a step reads. -/
theorem dinn_at (t : Fin cfg0.N) (r : Fin 256) (l : Fin 4096) : (iblk m c 0 t : S256x4096.Idx → EReal) (ix2 r l) = dinn m c (ix2 (at' t r) l) := by
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [(index0 t).1]; ring
  | ⟨1, _⟩ => show win0_0.index t 1 * 4096 + 1 * l.val = l.val; rw [(index0 t).2]; ring

theorem dhid_at (t : Fin cfg0.N) (r : Fin 256) (l : Fin 1024) : (iblk m c 1 t : S256x1024.Idx → EReal) (ix2 r l) = dhid m c (ix2 (at' t r) l) := by
  unfold iblk
  rw [View.read_apply]
  show V m c main_arg1 _ = _
  rw [V_main_arg1]
  congr 1
  funext a
  apply Fin.ext
  match a with
  | ⟨0, _⟩ => show win0_1.index t 0 * 256 + 1 * r.val = 256 * t.val + r.val; rw [(index1 t).1]; ring
  | ⟨1, _⟩ => show win0_1.index t 1 * 1024 + 1 * l.val = l.val; rw [(index1 t).2]; ring

theorem hids_at (t : Fin cfg0.N) (r : Fin 256) (l : Fin 1024) : (iblk m c 2 t : S256x1024.Idx → EReal) (ix2 r l) = hids m c (ix2 (at' t r) l) := by
  unfold iblk
  rw [View.read_apply]
  show V m c main_arg2 _ = _
  rw [V_main_arg2]
  congr 1
  funext a
  apply Fin.ext
  match a with
  | ⟨0, _⟩ => show win0_2.index t 0 * 256 + 1 * r.val = 256 * t.val + r.val; rw [(index2 t).1]; ring
  | ⟨1, _⟩ => show win0_2.index t 1 * 1024 + 1 * l.val = l.val; rw [(index2 t).2]; ring

theorem outA_at (t : Fin cfg0.N) (r : Fin 256) (l : Fin 1024) : (iblk m c 3 t : S256x1024.Idx → EReal) (ix2 r l) = outA m c (ix2 (at' t r) l) := by
  unfold iblk
  rw [View.read_apply]
  show V m c main_arg3 _ = _
  rw [V_main_arg3]
  congr 1
  funext a
  apply Fin.ext
  match a with
  | ⟨0, _⟩ => show win0_3.index t 0 * 256 + 1 * r.val = 256 * t.val + r.val; rw [(index3 t).1]; ring
  | ⟨1, _⟩ => show win0_3.index t 1 * 1024 + 1 * l.val = l.val; rw [(index3 t).2]; ring

theorem outsB_at (t : Fin cfg0.N) (r : Fin 256) (l : Fin 1024) : (iblk m c 4 t : S256x1024.Idx → EReal) (ix2 r l) = outsB m c (ix2 (at' t r) l) := by
  unfold iblk
  rw [View.read_apply]
  show V m c main_arg4 _ = _
  rw [V_main_arg4]
  congr 1
  funext a
  apply Fin.ext
  match a with
  | ⟨0, _⟩ => show win0_4.index t 0 * 256 + 1 * r.val = 256 * t.val + r.val; rw [(index4 t).1]; ring
  | ⟨1, _⟩ => show win0_4.index t 1 * 1024 + 1 * l.val = l.val; rw [(index4 t).2]; ring

theorem lins_at (t : Fin cfg0.N) (r : Fin 256) (l : Fin 2176) : (iblk m c 5 t : S256x2176.Idx → EReal) (ix2 r l) = lins m c (ix2 (at' t r) l) := by
  unfold iblk
  rw [View.read_apply]
  show V m c main_arg5 _ = _
  rw [V_main_arg5]
  congr 1
  funext a
  apply Fin.ext
  match a with
  | ⟨0, _⟩ => show win0_5.index t 0 * 256 + 1 * r.val = 256 * t.val + r.val; rw [(index5 t).1]; ring
  | ⟨1, _⟩ => show win0_5.index t 1 * 2176 + 1 * l.val = l.val; rw [(index5 t).2]; ring

theorem attn_at (t : Fin cfg0.N) (r : Fin 256) (l : Fin 512) : (iblk m c 6 t : S256x512.Idx → EReal) (ix2 r l) = attn m c (ix2 (at' t r) l) := by
  unfold iblk
  rw [View.read_apply]
  show V m c main_arg6 _ = _
  rw [V_main_arg6]
  congr 1
  funext a
  apply Fin.ext
  match a with
  | ⟨0, _⟩ => show win0_6.index t 0 * 256 + 1 * r.val = 256 * t.val + r.val; rw [(index6 t).1]; ring
  | ⟨1, _⟩ => show win0_6.index t 1 * 512 + 1 * l.val = l.val; rw [(index6 t).2]; ring

theorem winn_at (t : Fin cfg0.N) : (iblk m c 7 t : S8x1024x512.Idx → EReal) = winn m c := by
  funext i
  unfold iblk
  rw [View.read_apply]
  show V m c main_arg7 _ = _
  rw [V_main_arg7]
  congr 1
  funext a
  apply Fin.ext
  match a with
  | ⟨0, _⟩ => show win0_7.index t 0 * 8 + 1 * (i 0).val = (i 0).val; rw [index7 t 0]; ring
  | ⟨1, _⟩ => show win0_7.index t 1 * 1024 + 1 * (i 1).val = (i 1).val; rw [index7 t 1]; ring
  | ⟨2, _⟩ => show win0_7.index t 2 * 512 + 1 * (i 2).val = (i 2).val; rw [index7 t 2]; ring

theorem gain_at (t : Fin cfg0.N) : (iblk m c 8 t : S1x1024.Idx → EReal) = gain m c := by
  funext i
  unfold iblk
  rw [View.read_apply]
  show V m c main_arg8 _ = _
  rw [V_main_arg8]
  congr 1
  funext a
  apply Fin.ext
  match a with
  | ⟨0, _⟩ => show win0_8.index t 0 * 1 + 1 * (i 0).val = (i 0).val; rw [index8 t 0]; ring
  | ⟨1, _⟩ => show win0_8.index t 1 * 1024 + 1 * (i 1).val = (i 1).val; rw [index8 t 1]; ring

theorem wmix_at (t : Fin cfg0.N) : (iblk m c 9 t : S1024x1024.Idx → EReal) = wmix m c := by
  funext i
  unfold iblk
  rw [View.read_apply]
  show V m c main_arg9 _ = _
  rw [V_main_arg9]
  congr 1
  funext a
  apply Fin.ext
  match a with
  | ⟨0, _⟩ => show win0_9.index t 0 * 1024 + 1 * (i 0).val = (i 0).val; rw [index9 t 0]; ring
  | ⟨1, _⟩ => show win0_9.index t 1 * 1024 + 1 * (i 1).val = (i 1).val; rw [index9 t 1]; ring

theorem wbrA_at (t : Fin cfg0.N) : (iblk m c 10 t : S8x512x128.Idx → EReal) = wbrA m c := by
  funext i
  unfold iblk
  rw [View.read_apply]
  show V m c main_arg10 _ = _
  rw [V_main_arg10]
  congr 1
  funext a
  apply Fin.ext
  match a with
  | ⟨0, _⟩ => show win0_10.index t 0 * 8 + 1 * (i 0).val = (i 0).val; rw [index10 t 0]; ring
  | ⟨1, _⟩ => show win0_10.index t 1 * 512 + 1 * (i 1).val = (i 1).val; rw [index10 t 1]; ring
  | ⟨2, _⟩ => show win0_10.index t 2 * 128 + 1 * (i 2).val = (i 2).val; rw [index10 t 2]; ring

theorem wbrB_at (t : Fin cfg0.N) : (iblk m c 11 t : S8x512x128.Idx → EReal) = wbrB m c := by
  funext i
  unfold iblk
  rw [View.read_apply]
  show V m c main_arg11 _ = _
  rw [V_main_arg11]
  congr 1
  funext a
  apply Fin.ext
  match a with
  | ⟨0, _⟩ => show win0_11.index t 0 * 8 + 1 * (i 0).val = (i 0).val; rw [index11 t 0]; ring
  | ⟨1, _⟩ => show win0_11.index t 1 * 512 + 1 * (i 1).val = (i 1).val; rw [index11 t 1]; ring
  | ⟨2, _⟩ => show win0_11.index t 2 * 128 + 1 * (i 2).val = (i 2).val; rw [index11 t 2]; ring

theorem row_at (t : Fin cfg0.N) (r : Fin 256) : rowB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r = rowOf m c (at' t r) := by
  unfold rowB rowOf
  simp only [dinn_at, dhid_at, hids_at, outA_at, outsB_at, lins_at, attn_at, winn_at, gain_at, wmix_at, wbrA_at, wbrB_at]

/-- What a step leaves at the rows. -/
theorem written (t : Fin cfg0.N) :
    (outsAt0 m c t.val t.isLt).1 = k0_pay12 (inB (iblk m c 0 t) (iblk m c 2 t) (iblk m c 7 t) (iblk m c 8 t)) (k0_pay9 (iblk m c 2 t)) (iblk m c 1 t)
    ∧ (outsAt0 m c t.val t.isLt).2.1 = k0_pay13 (inB (iblk m c 0 t) (iblk m c 2 t) (iblk m c 7 t) (iblk m c 8 t)) (k0_pay9 (iblk m c 2 t)) (iblk m c 1 t)
    ∧ (outsAt0 m c t.val t.isLt).2.2.1 = View.canon (gatesB (iblk m c 0 t) (iblk m c 1 t) (iblk m c 2 t) (iblk m c 3 t) (iblk m c 4 t) (iblk m c 5 t) (iblk m c 7 t) (iblk m c 8 t) (iblk m c 9 t))
    ∧ (outsAt0 m c t.val t.isLt).2.2.2.1 = k0_pay18 (dmB (iblk m c 0 t) (iblk m c 1 t) (iblk m c 2 t) (iblk m c 7 t) (iblk m c 8 t) (iblk m c 9 t)) (gateA (iblk m c 5 t))
    ∧ (outsAt0 m c t.val t.isLt).2.2.2.2.1 = k0_pay19 (dmB (iblk m c 0 t) (iblk m c 1 t) (iblk m c 2 t) (iblk m c 7 t) (iblk m c 8 t) (iblk m c 9 t)) (expB (iblk m c 5 t))
    ∧ (outsAt0 m c t.val t.isLt).2.2.2.2.2.1 = k0_pay24 (k0_pay18 (dmB (iblk m c 0 t) (iblk m c 1 t) (iblk m c 2 t) (iblk m c 7 t) (iblk m c 8 t) (iblk m c 9 t)) (gateA (iblk m c 5 t))) (k0_pay22 (View.ld (iblk m c 10 t) (Rect.unit ![0, 0, 0] S1x512x128.size inb_S8x512x128_S1x512x128_0_0_0))) (k0_pay23 (View.ld (iblk m c 10 t) (Rect.unit ![1, 0, 0] S1x512x128.size inb_S8x512x128_S1x512x128_1_0_0))) (View.ld (iblk m c 10 t) (Rect.unit ![2, 0, 0] S1x512x128.size inb_S8x512x128_S1x512x128_2_0_0)) (View.ld (iblk m c 10 t) (Rect.unit ![3, 0, 0] S1x512x128.size inb_S8x512x128_S1x512x128_3_0_0)) (View.ld (iblk m c 10 t) (Rect.unit ![4, 0, 0] S1x512x128.size inb_S8x512x128_S1x512x128_4_0_0)) (View.ld (iblk m c 10 t) (Rect.unit ![5, 0, 0] S1x512x128.size inb_S8x512x128_S1x512x128_5_0_0)) (View.ld (iblk m c 10 t) (Rect.unit ![6, 0, 0] S1x512x128.size inb_S8x512x128_S1x512x128_6_0_0)) (View.ld (iblk m c 10 t) (Rect.unit ![7, 0, 0] S1x512x128.size inb_S8x512x128_S1x512x128_7_0_0))
    ∧ (outsAt0 m c t.val t.isLt).2.2.2.2.2.2.1 = outB (iblk m c 0 t) (iblk m c 1 t) (iblk m c 2 t) (iblk m c 5 t) (iblk m c 7 t) (iblk m c 8 t) (iblk m c 9 t) (iblk m c 11 t)
    ∧ (outsAt0 m c t.val t.isLt).2.2.2.2.2.2.2.1 = View.canon (deltaB (iblk m c 0 t) (iblk m c 1 t) (iblk m c 2 t) (iblk m c 5 t) (iblk m c 6 t) (iblk m c 7 t) (iblk m c 8 t) (iblk m c 9 t) (iblk m c 11 t)) := by
  by_cases h : t.val % 32 = 0
  · rw [outsAt0_A m c t h]
    refine ⟨?_, ?_, ?_, ?_, ?_, ?_, ?_, ?_⟩
    · dsimp only; rw [(first ..).1]
    · dsimp only; rw [(first ..).2.1]
    · dsimp only; rw [(first ..).2.2.1]
    · dsimp only; rw [(first ..).2.2.2.1]
    · dsimp only; rw [(first ..).2.2.2.2.1]
    · dsimp only; rw [(first ..).2.2.2.2.2.1]; rfl
    · dsimp only; rw [(first ..).2.2.2.2.2.2.1]
    · dsimp only; rw [(first ..).2.2.2.2.2.2.2.1]
  · rw [outsAt0_B m c t h]
    refine ⟨?_, ?_, ?_, ?_, ?_, ?_, ?_, ?_⟩
    · dsimp only; rw [(later ..).1]
    · dsimp only; rw [(later ..).2.1]
    · dsimp only; rw [(later ..).2.2.1]
    · dsimp only; rw [(later ..).2.2.2.1]
    · dsimp only; rw [(later ..).2.2.2.2.1]
    · dsimp only; rw [(later ..).2.2.2.2.2.1]; rfl
    · dsimp only; rw [(later ..).2.2.2.2.2.2.1]
    · dsimp only; rw [(later ..).2.2.2.2.2.2.2.1]

/-- A quantity of the rows, by row number. -/
def down (f : Row → EReal) (x : ℕ) : EReal := if h : x < 8192 then f (rowOf m c ⟨x, h⟩) else 0

theorem down_block (f : Row → EReal) (t : Fin cfg0.N) : (∑ k : Fin 256, f (rowOf m c (at' t k))) = ∑ k : Fin 256, down m c f (256 * t.val + k) :=
  Finset.sum_congr rfl fun k _ => by
    unfold down
    have hk : 256 * t.val + k.val < 8192 := (at' t k).isLt
    rw [dif_pos hk]
    rfl

theorem down_all (f : Row → EReal) : (∑ x ∈ Finset.range (256 * (31 + 1)), down m c f x) = ∑ x, f (rowOf m c x) := by
  rw [Finset.sum_range]
  refine Finset.sum_congr rfl fun x _ => ?_
  unfold down
  rw [dif_pos x.isLt]

/-- The sum after a point: over the rows so far. -/
theorem carried (p : Fin 8) (q : Fin 1024) : ∀ (n : ℕ) (hn : n < cfg0.N),
    (outsAt0 m c n hn).2.2.2.2.2.2.2.2 (ix2 p q) = ∑ x ∈ Finset.range (256 * (n + 1)), down m c (Row.gainPart · q) x := by
  intro n
  induction n with
  | zero =>
    intro hn
    rw [outsAt0_A m c ⟨0, hn⟩ rfl]
    dsimp only
    rw [(first ..).2.2.2.2.2.2.2.2]
    refine (gainPart_at (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) _ p q).trans ?_
    simp only [row_at]
    rw [show k0_pay10 (F := Ideal) (ix2 p q) = 0 by pointwise [k0_pay10, Ideal.ofBits_zero_f32], down_block m c (Row.gainPart · q), ← Cert.Weights.range_add_block _ 0 256]
    simp
  | succ n ih =>
    intro hn
    have hN : n + 1 < 32 := lt_of_lt_of_eq hn N_0
    have h : ¬(⟨n + 1, hn⟩ : Fin cfg0.N).val % 32 = 0 := by dsimp only; omega
    rw [outsAt0_B m c ⟨n + 1, hn⟩ h]
    dsimp only
    rw [(later ..).2.2.2.2.2.2.2.2]
    refine (gainPart_at (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) _ p q).trans ?_
    simp only [row_at]
    rw [down_block m c (Row.gainPart · q), ← Cert.Weights.range_add_block _ (n + 1) 256]
    exact congrArg (fun a : EReal => a + _) (ih (Nat.lt_of_succ_lt hn))

/-! ## The results -/

theorem result12 (p : Fin 8192) (q : Fin 1024) : ((dats m 0 c).arrAt 12 cfg0.N : S8192x1024.Idx → EReal) (ix2 p q) = (rowOf m c p).dh1 q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks12 m c ⟨p.val / 256, ht⟩ (flush0_12 _)) (ix2 ⟨p.val % 256, hr⟩ q)
  rw [View.read_apply, Value.flushed12, (written m c ⟨p.val / 256, ht⟩).1] at e
  refine Eq.trans (congrArg _ ?_) (e.trans ((dh1_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ q).trans (by rw [row_at, hp])))
  funext a
  apply Fin.ext
  match a with
  | ⟨0, _⟩ => show p.val = win0_12.index ⟨p.val / 256, ht⟩ 0 * 256 + 1 * (p.val % 256); rw [(index12 _).1]; dsimp only; omega
  | ⟨1, _⟩ => show q.val = win0_12.index ⟨p.val / 256, ht⟩ 1 * 1024 + 1 * q.val; rw [(index12 _).2]; ring

theorem result13 (p : Fin 8192) (q : Fin 1024) : ((dats m 0 c).arrAt 13 cfg0.N : S8192x1024.Idx → EReal) (ix2 p q) = (rowOf m c p).dh1 q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks13 m c ⟨p.val / 256, ht⟩ (flush0_13 _)) (ix2 ⟨p.val % 256, hr⟩ q)
  rw [View.read_apply, Value.flushed13, (written m c ⟨p.val / 256, ht⟩).2.1] at e
  refine Eq.trans (congrArg _ ?_) (e.trans ((low_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ q).trans (by rw [row_at, hp])))
  funext a
  apply Fin.ext
  match a with
  | ⟨0, _⟩ => show p.val = win0_13.index ⟨p.val / 256, ht⟩ 0 * 256 + 1 * (p.val % 256); rw [(index13 _).1]; dsimp only; omega
  | ⟨1, _⟩ => show q.val = win0_13.index ⟨p.val / 256, ht⟩ 1 * 1024 + 1 * q.val; rw [(index13 _).2]; ring

theorem result14 (p : Fin 8192) (q : Fin 2048) : ((dats m 0 c).arrAt 14 cfg0.N : S8192x2048.Idx → EReal) (ix2 p q) = if h : q.val < 1024 then (rowOf m c p).dla ⟨q.val, h⟩ else (rowOf m c p).dlb ⟨q.val - 1024, by omega⟩ := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks14 m c ⟨p.val / 256, ht⟩ (flush0_14 _)) (ix2 ⟨p.val % 256, hr⟩ q)
  rw [View.read_apply, Value.flushed14, (written m c ⟨p.val / 256, ht⟩).2.2.1] at e
  refine Eq.trans (congrArg _ ?_) (e.trans ((gates_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ q).trans (by rw [row_at, hp])))
  funext a
  apply Fin.ext
  match a with
  | ⟨0, _⟩ => show p.val = win0_14.index ⟨p.val / 256, ht⟩ 0 * 256 + 1 * (p.val % 256); rw [(index14 _).1]; dsimp only; omega
  | ⟨1, _⟩ => show q.val = win0_14.index ⟨p.val / 256, ht⟩ 1 * 2048 + 1 * q.val; rw [(index14 _).2]; ring

theorem result15 (p : Fin 8192) (q : Fin 1024) : ((dats m 0 c).arrAt 15 cfg0.N : S8192x1024.Idx → EReal) (ix2 p q) = (rowOf m c p).dya q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks15 m c ⟨p.val / 256, ht⟩ (flush0_15 _)) (ix2 ⟨p.val % 256, hr⟩ q)
  rw [View.read_apply, Value.flushed15, (written m c ⟨p.val / 256, ht⟩).2.2.2.1] at e
  refine Eq.trans (congrArg _ ?_) (e.trans ((dya_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ q).trans (by rw [row_at, hp])))
  funext a
  apply Fin.ext
  match a with
  | ⟨0, _⟩ => show p.val = win0_15.index ⟨p.val / 256, ht⟩ 0 * 256 + 1 * (p.val % 256); rw [(index15 _).1]; dsimp only; omega
  | ⟨1, _⟩ => show q.val = win0_15.index ⟨p.val / 256, ht⟩ 1 * 1024 + 1 * q.val; rw [(index15 _).2]; ring

theorem result16 (p : Fin 8192) (q : Fin 1024) : ((dats m 0 c).arrAt 16 cfg0.N : S8192x1024.Idx → EReal) (ix2 p q) = (rowOf m c p).dyb q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks16 m c ⟨p.val / 256, ht⟩ (flush0_16 _)) (ix2 ⟨p.val % 256, hr⟩ q)
  rw [View.read_apply, Value.flushed16, (written m c ⟨p.val / 256, ht⟩).2.2.2.2.1] at e
  refine Eq.trans (congrArg _ ?_) (e.trans ((dyb_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ q).trans (by rw [row_at, hp])))
  funext a
  apply Fin.ext
  match a with
  | ⟨0, _⟩ => show p.val = win0_16.index ⟨p.val / 256, ht⟩ 0 * 256 + 1 * (p.val % 256); rw [(index16 _).1]; dsimp only; omega
  | ⟨1, _⟩ => show q.val = win0_16.index ⟨p.val / 256, ht⟩ 1 * 1024 + 1 * q.val; rw [(index16 _).2]; ring

theorem result17 (p : Fin 8192) (q : Fin 512) : ((dats m 0 c).arrAt 17 cfg0.N : S8192x512.Idx → EReal) (ix2 p q) = (rowOf m c p).doa q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks17 m c ⟨p.val / 256, ht⟩ (flush0_17 _)) (ix2 ⟨p.val % 256, hr⟩ q)
  rw [View.read_apply, Value.flushed17, (written m c ⟨p.val / 256, ht⟩).2.2.2.2.2.1] at e
  refine Eq.trans (congrArg _ ?_) (e.trans ((doa_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ q).trans (by rw [row_at, hp])))
  funext a
  apply Fin.ext
  match a with
  | ⟨0, _⟩ => show p.val = win0_17.index ⟨p.val / 256, ht⟩ 0 * 256 + 1 * (p.val % 256); rw [(index17 _).1]; dsimp only; omega
  | ⟨1, _⟩ => show q.val = win0_17.index ⟨p.val / 256, ht⟩ 1 * 512 + 1 * q.val; rw [(index17 _).2]; ring

theorem result18 (p : Fin 8192) (q : Fin 512) : ((dats m 0 c).arrAt 18 cfg0.N : S8192x512.Idx → EReal) (ix2 p q) = (rowOf m c p).dob q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks18 m c ⟨p.val / 256, ht⟩ (flush0_18 _)) (ix2 ⟨p.val % 256, hr⟩ q)
  rw [View.read_apply, Value.flushed18, (written m c ⟨p.val / 256, ht⟩).2.2.2.2.2.2.1] at e
  refine Eq.trans (congrArg _ ?_) (e.trans ((dob_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ q).trans (by rw [row_at, hp])))
  funext a
  apply Fin.ext
  match a with
  | ⟨0, _⟩ => show p.val = win0_18.index ⟨p.val / 256, ht⟩ 0 * 256 + 1 * (p.val % 256); rw [(index18 _).1]; dsimp only; omega
  | ⟨1, _⟩ => show q.val = win0_18.index ⟨p.val / 256, ht⟩ 1 * 512 + 1 * q.val; rw [(index18 _).2]; ring

theorem result19 (H : ∀ p, (rowOf m c p).Real) (p : Fin 8192) (q : Fin 1024) : ((dats m 0 c).arrAt 19 cfg0.N : S8192x1024.Idx → EReal) (ix2 p q) = (rowOf m c p).delta ⟨q.val / 128, by omega⟩ := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks19 m c ⟨p.val / 256, ht⟩ (flush0_19 _)) (ix2 ⟨p.val % 256, hr⟩ q)
  rw [View.read_apply, Value.flushed19, (written m c ⟨p.val / 256, ht⟩).2.2.2.2.2.2.2] at e
  refine Eq.trans (congrArg _ ?_) (e.trans ((delta_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (iblk m c 9 ⟨p.val / 256, ht⟩) (iblk m c 10 ⟨p.val / 256, ht⟩) (iblk m c 11 ⟨p.val / 256, ht⟩) ⟨p.val % 256, hr⟩ (fun r => by rw [row_at]; exact H _) q).trans (by rw [row_at, hp])))
  funext a
  apply Fin.ext
  match a with
  | ⟨0, _⟩ => show p.val = win0_19.index ⟨p.val / 256, ht⟩ 0 * 256 + 1 * (p.val % 256); rw [(index19 _).1]; dsimp only; omega
  | ⟨1, _⟩ => show q.val = win0_19.index ⟨p.val / 256, ht⟩ 1 * 1024 + 1 * q.val; rw [(index19 _).2]; ring

theorem last : ∃ t : Fin cfg0.N, t.val = 31 := ⟨⟨31, by rw [show cfg0.N = 32 from N_0]; decide⟩, rfl⟩

/-- The block is written back at the last point alone. -/
theorem disjoint20 : ∀ t t' : Fin cfg0.N, (cfg0.win 20).flush t = true → (cfg0.win 20).flush t' = true → t ≠ t' →
    Disjoint ((cfg0.win 20).blk t).view.set ((cfg0.win 20).blk t').view.set := fun t t' h h' hne => by
  have := (flush0_20 t).1 h; have := (flush0_20 t').1 h'
  have := lt_of_lt_of_eq t.isLt N_0; have := lt_of_lt_of_eq t'.isLt N_0
  exact absurd (Fin.ext (by omega)) hne

theorem result20 (p : Fin 8) (q : Fin 1024) : ((dats m 0 c).arrAt 20 cfg0.N : S8x1024.Idx → EReal) (ix2 p q) = ∑ x, (rowOf m c x).gainPart q := by
  obtain ⟨t, ht⟩ := last
  have e := congrFun ((dats m 0 c).read_blk_arrAt_eq_flushed 20 disjoint20 cfg0.N t t.isLt ((flush0_20 _).2 (by rw [ht]))) (ix2 p q)
  rw [View.read_apply, Value.flushed20] at e
  refine Eq.trans (congrArg _ ?_) (e.trans ((carried m c p q t.val t.isLt).trans (Eq.trans (by rw [ht]) (down_all m c (Row.gainPart · q)))))
  funext a
  apply Fin.ext
  match a with
  | ⟨0, _⟩ => show p.val = win0_20.index t 0 * 8 + 1 * p.val; rw [index20 _ 0]; ring
  | ⟨1, _⟩ => show q.val = win0_20.index t 1 * 1024 + 1 * q.val; rw [index20 _ 1]; ring

end Cert.FfnBwdIdeal.Rows

end
-- ==== Proof.Rows.FfnPlain.lean ====
/- The feed-forward layer's inputs' backward pass: the plain lines, read row by row, and the call matched with them. -/
module

public import proofs.«01_k».proof.Proof.Rows.FfnSum
public import proofs.«01_k».proof.Proof.Rows.HeadReal
public import proofs.«01_k».proof.Proof.Gen.FfnBwdRefIdeal.Run

@[expose] public section

noncomputable section

namespace Cert.FfnBwdRefIdeal.Rows

open Cert.FfnBwdRefIdeal Cert.FfnBwdRefIdeal.Gen Idealize.ShloMosaic Idealize.ShloMosaic.TcCoe
open Cert.Rows.Ffn (Row)

/-! ## The plain lines, by name -/

/-- The norm's gradient. -/
def back (x v : FVec Ideal S8192x1024 .f32) : FVec Ideal S8192x1024 .f32 :=
  addf (mulf v (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (broadcastInDim S8192x1024 ![0] bcast_S8192_S8192x1024_0 (Host.reduceAdd (Host.divf (mulf (shapeCast _ (Host.reduceAdd (mulf x v) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) (mulf (broadcastInDim S8192x1024 ![] bcast_S_S8192x1024 (constant S_ .f32 0x40000000#32)) x))

/-- A norm's rows, before the gain. -/
def scaled (x : FVec Ideal S8192x1024 .f32) : FVec Ideal S8192x1024 .f32 :=
  mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))

/-- A gradient past a gain. -/
def gained (d : FVec Ideal S8192x1024 .f32) (g : FVec Ideal S1x1024 .f32) : FVec Ideal S8192x1024 .f32 :=
  mulf d (broadcastInDim S8192x1024 ![0, 1] bcast_S1x1024_S8192x1024_0_1 g)

/-- A gain's gradient, in every row of a block. -/
def columns (x d : FVec Ideal S8192x1024 .f32) : FVec Ideal S8x1024 .f32 :=
  broadcastInDim S8x1024 ![0, 1] bcast_S1x1024_S8x1024_0_1 (shapeCast _ (Host.reduceAdd (mulf x d) (constant S_ .f32 0x00000000#32) reducesTo_S8192x1024_S1024_d0 h_S_) shapeCasts_S1024_S1x1024)

/-- The gradient at the normed rows. -/
def up (a : FVec Ideal S8192x4096 .bf16) (w : FVec Ideal S8x1024x512 .bf16) : FVec Ideal S8192x1024 .f32 :=
  Host.dotGeneral dot_S8192x4096_S1024x4096_S8192x1024_1_1_0_0_n_n none (extf .f32 a bitsLt_bf16_f32) (shapeCast _ (transpose S1024x8x512 [1, 0, 2] (extf .f32 w bitsLt_bf16_f32) transposes_S8x1024x512_S1024x8x512_1_0_2) shapeCasts_S1024x8x512_S1024x4096)

/-- The first gate. -/
def gateA (z : FVec Ideal S8192x2176 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 128] z slices_S8192x2176_S8192x1024_0_128))))

/-- The second gate. -/
def gateB (z : FVec Ideal S8192x2176 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1152] z slices_S8192x2176_S8192x1024_0_1152))))

/-- The gradient at the merged rows. -/
def mixed (d : FVec Ideal S8192x1024 .f32) (w : FVec Ideal S1024x1024 .bf16) : FVec Ideal S8192x1024 .f32 :=
  Host.dotGeneral dot_S8192x1024_S1024x1024_S8192x1024_1_1_0_0_n_n none d (extf .f32 w bitsLt_bf16_f32)

/-- The gradient at a gate's logits. -/
def dlogit (d : FVec Ideal S8192x1024 .f32) (y : FVec Ideal S8192x1024 .bf16) (s : FVec Ideal S8192x1024 .f32) : FVec Ideal S8192x1024 .f32 :=
  mulf (mulf d (extf .f32 y bitsLt_bf16_f32)) (mulf s (subf (broadcastInDim S8192x1024 ![] bcast_S_S8192x1024 (constant S_ .f32 0x3F800000#32)) s))

/-- The gradient at an attention's output. -/
def dout (d : FVec Ideal S8192x1024 .f32) (w : FVec Ideal S8x512x128 .bf16) : FVec Ideal S8192x512 .f32 :=
  Host.dotGeneral dot_S8192x1024_S512x1024_S8192x512_1_1_0_0_n_n none d (shapeCast _ (transpose S512x8x128 [1, 0, 2] (extf .f32 w bitsLt_bf16_f32) transposes_S8x512x128_S512x8x128_1_0_2) shapeCasts_S512x8x128_S512x1024)

/-- The row sums of each head, repeated. -/
def delta (d : FVec Ideal S8192x512 .f32) (o : FVec Ideal S8192x512 .bf16) : FVec Ideal S8192x1024 .f32 :=
  shapeCast _ (broadcastInDim S8192x8x128 ![0, 1] bcast_S8192x8_S8192x8x128_0_1 (Host.reduceAdd (shapeCast _ (mulf d (extf .f32 o bitsLt_bf16_f32)) shapeCasts_S8192x512_S8192x8x64) (constant S_ .f32 0x00000000#32) reducesTo_S8192x8x64_S8192x8_d2 h_S_)) shapeCasts_S8192x8x128_S8192x1024

/-- The gradient at the rows, at the merged rows, and at the two branches' rows. -/
def dh1A (a : FVec Ideal S8192x4096 .bf16) (dh h : FVec Ideal S8192x1024 .f32) (w1 : FVec Ideal S8x1024x512 .bf16) (g : FVec Ideal S1x1024 .f32) : FVec Ideal S8192x1024 .f32 :=
  addf dh (back h (gained (up a w1) g))
def dmA (a : FVec Ideal S8192x4096 .bf16) (dh h : FVec Ideal S8192x1024 .f32) (w1 : FVec Ideal S8x1024x512 .bf16) (g : FVec Ideal S1x1024 .f32) (wm : FVec Ideal S1024x1024 .bf16) : FVec Ideal S8192x1024 .f32 :=
  mixed (dh1A a dh h w1 g) wm
def dyA (a : FVec Ideal S8192x4096 .bf16) (dh h : FVec Ideal S8192x1024 .f32) (z : FVec Ideal S8192x2176 .f32) (w1 : FVec Ideal S8x1024x512 .bf16) (g : FVec Ideal S1x1024 .f32) (wm : FVec Ideal S1024x1024 .bf16) : FVec Ideal S8192x1024 .f32 :=
  mulf (gateA z) (dmA a dh h w1 g wm)
def dyB (a : FVec Ideal S8192x4096 .bf16) (dh h : FVec Ideal S8192x1024 .f32) (z : FVec Ideal S8192x2176 .f32) (w1 : FVec Ideal S8x1024x512 .bf16) (g : FVec Ideal S1x1024 .f32) (wm : FVec Ideal S1024x1024 .bf16) : FVec Ideal S8192x1024 .f32 :=
  mulf (gateB z) (dmA a dh h w1 g wm)

/-- Two arrays' columns, one after the other's. -/
def beside (x y : FVec Ideal S8192x1024 .f32) : FVec Ideal S8192x2048 .f32 := concatenate S8192x2048 1 [⟨S8192x1024, x⟩, ⟨S8192x1024, y⟩] concatenates_S8192x1024_S8192x1024_S8192x2048_d1

/-! ## Row by row -/

/-- The norm's gradient, on rows of numbers. -/
theorem back_at (x v : FVec Ideal S8192x1024 .f32) (r : Fin 8192) (hx : ∀ i, Cert.Rows.IsReal (x (ix2 r i))) (hv : ∀ i, Cert.Rows.IsReal (v (ix2 r i))) (q : Fin 1024) :
    back x v (ix2 r q) = Cert.Rows.Head.back (fun i => x (ix2 r i)) (fun i => v (ix2 r i)) q := by
  refine Eq.trans ?_ (Cert.Rows.norm_grad (fun i => x (ix2 r i)) (fun i => v (ix2 r i)) hx hv q).symm
  unfold back
  pointwise
  rfl

theorem scaled_at (x : FVec Ideal S8192x1024 .f32) (r : Fin 8192) (q : Fin 1024) : scaled x (ix2 r q) = (x (ix2 r q) * Cert.Rows.inv (fun i => x (ix2 r i)) : EReal) := by
  unfold scaled
  pointwise
  rfl

theorem gained_at (d : FVec Ideal S8192x1024 .f32) (g : FVec Ideal S1x1024 .f32) (r : Fin 8192) (q : Fin 1024) : gained d g (ix2 r q) = (d (ix2 r q) * g (ix2 0 q) : EReal) := by
  unfold gained
  pointwise

theorem columns_at (x d : FVec Ideal S8192x1024 .f32) (p : Fin 8) (q : Fin 1024) : columns x d (ix2 p q) = (∑ r, x (ix2 r q) * d (ix2 r q) : EReal) := by
  unfold columns
  pointwise

theorem beside_at (x y : FVec Ideal S8192x1024 .f32) (r : Fin 8192) (q : Fin 2048) :
    beside x y (ix2 r q) = if h : q.val < 1024 then (x (ix2 r ⟨q.val, h⟩) : EReal) else y (ix2 r ⟨q.val - 1024, by omega⟩) := by
  unfold beside
  pointwise

theorem dlogit_at (d : FVec Ideal S8192x1024 .f32) (y : FVec Ideal S8192x1024 .bf16) (s : FVec Ideal S8192x1024 .f32) (r : Fin 8192) (q : Fin 1024) :
    dlogit d y s (ix2 r q) = (d (ix2 r q) * y (ix2 r q) * s (ix2 r q) * (1 - s (ix2 r q)) : EReal) := by
  unfold dlogit
  pointwise
  exact (mul_assoc (G := EReal) _ _ _).symm

theorem dout_at (d : FVec Ideal S8192x1024 .f32) (w : FVec Ideal S8x512x128 .bf16) (r : Fin 8192) (n : Fin 512) :
    dout d w (ix2 r n) = (∑ k : Fin 1024, d (ix2 r k) * w (ix3 ⟨k.val / 128, by omega⟩ n ⟨k.val % 128, by omega⟩) : EReal) := by
  unfold dout
  pointwise

theorem delta_at (d : FVec Ideal S8192x512 .f32) (o : FVec Ideal S8192x512 .bf16) (r : Fin 8192) (q : Fin 1024) :
    delta d o (ix2 r q) = (∑ j : Fin 64, d (ix2 r ⟨64 * (q.val / 128) + j.val, by omega⟩) * o (ix2 r ⟨64 * (q.val / 128) + j.val, by omega⟩) : EReal) := by
  unfold delta
  pointwise
  have e : ∀ j : Fin 64, (⟨q.val / 128 * 64 + j.val, by omega⟩ : Fin 512) = ⟨64 * (q.val / 128) + j.val, by omega⟩ := fun j => Fin.ext (by dsimp only; omega)
  simp only [e]

section Read

variable (a : FVec Ideal S8192x4096 .bf16) (dh : FVec Ideal S8192x1024 .f32) (h : FVec Ideal S8192x1024 .f32) (ya : FVec Ideal S8192x1024 .bf16) (yb : FVec Ideal S8192x1024 .bf16) (z : FVec Ideal S8192x2176 .f32) (o : FVec Ideal S8192x512 .bf16) (w1 : FVec Ideal S8x1024x512 .bf16) (g : FVec Ideal S1x1024 .f32) (wm : FVec Ideal S1024x1024 .bf16) (ws : FVec Ideal S8x512x128 .bf16) (wf : FVec Ideal S8x512x128 .bf16)

/-- A row of the arrays, with the weights. -/
def rowA (r : Fin 8192) : Row where
  da k := a (ix2 r k)
  dh q := dh (ix2 r q)
  h q := h (ix2 r q)
  ya q := ya (ix2 r q)
  yb q := yb (ix2 r q)
  z k := z (ix2 r k)
  o k := o (ix2 r k)
  w1 n q k := w1 (ix3 n q k)
  g q := g (ix2 0 q)
  wm k q := wm (ix2 k q)
  ws n k l := ws (ix3 n k l)
  wf n k l := wf (ix3 n k l)

theorem up_at (r : Fin 8192) (q : Fin 1024) : up a w1 (ix2 r q) = (rowA a dh h ya yb z o w1 g wm ws wf r).du q := by
  unfold up
  pointwise
  rfl

theorem gateA_at (r : Fin 8192) (q : Fin 1024) : gateA z (ix2 r q) = (rowA a dh h ya yb z o w1 g wm ws wf r).gateA q := by
  unfold gateA
  pointwise
  rfl

theorem gateB_at (r : Fin 8192) (q : Fin 1024) : gateB z (ix2 r q) = (rowA a dh h ya yb z o w1 g wm ws wf r).gateB q := by
  unfold gateB
  pointwise
  rfl

variable (H : ∀ r, (rowA a dh h ya yb z o w1 g wm ws wf r).Real)

include H

theorem dh1_at (r : Fin 8192) (q : Fin 1024) : dh1A a dh h w1 g (ix2 r q) = (rowA a dh h ya yb z o w1 g wm ws wf r).dh1 q := by
  unfold dh1A
  pointwise
  rw [back_at h _ r (H r).h (fun i => ?_) q]
  · simp only [gained_at, up_at a dh h ya yb z o w1 g wm ws wf]
    rfl
  · rw [gained_at, up_at a dh h ya yb z o w1 g wm ws wf]; exact Cert.Rows.Ffn.real_up (H r) i

theorem dm_at (r : Fin 8192) (q : Fin 1024) : dmA a dh h w1 g wm (ix2 r q) = (rowA a dh h ya yb z o w1 g wm ws wf r).dm q := by
  unfold dmA mixed
  pointwise
  simp only [dh1_at a dh h ya yb z o w1 g wm ws wf H]
  rfl

theorem dya_at (r : Fin 8192) (q : Fin 1024) : dyA a dh h z w1 g wm (ix2 r q) = (rowA a dh h ya yb z o w1 g wm ws wf r).dya q := by
  unfold dyA
  pointwise
  rw [gateA_at a dh h ya yb z o w1 g wm ws wf, dm_at a dh h ya yb z o w1 g wm ws wf H]
  exact mul_comm (G := EReal) _ _

theorem dyb_at (r : Fin 8192) (q : Fin 1024) : dyB a dh h z w1 g wm (ix2 r q) = (rowA a dh h ya yb z o w1 g wm ws wf r).dyb q := by
  unfold dyB
  pointwise
  rw [gateB_at a dh h ya yb z o w1 g wm ws wf, dm_at a dh h ya yb z o w1 g wm ws wf H]
  exact mul_comm (G := EReal) _ _

theorem dla_at (r : Fin 8192) (q : Fin 1024) : dlogit (dmA a dh h w1 g wm) ya (gateA z) (ix2 r q) = (rowA a dh h ya yb z o w1 g wm ws wf r).dla q := by
  rw [dlogit_at, dm_at a dh h ya yb z o w1 g wm ws wf H, gateA_at a dh h ya yb z o w1 g wm ws wf]
  rfl

theorem dlb_at (r : Fin 8192) (q : Fin 1024) : dlogit (dmA a dh h w1 g wm) yb (gateB z) (ix2 r q) = (rowA a dh h ya yb z o w1 g wm ws wf r).dlb q := by
  rw [dlogit_at, dm_at a dh h ya yb z o w1 g wm ws wf H, gateB_at a dh h ya yb z o w1 g wm ws wf]
  rfl

theorem doa_at (r : Fin 8192) (n : Fin 512) : dout (dyA a dh h z w1 g wm) ws (ix2 r n) = (rowA a dh h ya yb z o w1 g wm ws wf r).doa n := by
  rw [dout_at]
  simp only [dya_at a dh h ya yb z o w1 g wm ws wf H]
  rfl

theorem dob_at (r : Fin 8192) (n : Fin 512) : dout (dyB a dh h z w1 g wm) wf (ix2 r n) = (rowA a dh h ya yb z o w1 g wm ws wf r).dob n := by
  rw [dout_at]
  simp only [dyb_at a dh h ya yb z o w1 g wm ws wf H]
  rfl

theorem sums_at (r : Fin 8192) (q : Fin 1024) : delta (dout (dyB a dh h z w1 g wm) wf) o (ix2 r q) = (rowA a dh h ya yb z o w1 g wm ws wf r).delta ⟨q.val / 128, by omega⟩ := by
  rw [delta_at]
  simp only [dob_at a dh h ya yb z o w1 g wm ws wf H]
  rfl

end Read

section Term

variable (m : (ℓ : Loc nD τ sig) → Buf (Elt Ideal) ℓ) (c : Dev nD)

theorem term_v94 : Value.res_main_v94 m c = truncf .bf16 (beside (dlogit (dmA (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg3)) (gateA (m ((c.tc : Thread nD τ).loc main_arg5)))) (dlogit (dmA (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg4)) (gateB (m ((c.tc : Thread nD τ).loc main_arg5))))) bitsLt_bf16_f32 := by
  unfold Value.res_main_v94
  rfl

end Term

end Cert.FfnBwdRefIdeal.Rows

namespace Cert.Pre_finite_ffn

open Idealize.ShloMosaic

/-- The condition's side conditions on its shapes. -/
instance facts : Cert.Pre_finite_ffn.Facts where
  bitsLt_bf16_f32 := by decide
  bcast_S_S8192x4096 := by decide
  reducesTo_S8192x4096_S_d0_1 := by decide
  h_S_ := by decide
  bcast_S_S8192x1024 := by decide
  reducesTo_S8192x1024_S_d0_1 := by decide
  bcast_S_S8192x512 := by decide
  reducesTo_S8192x512_S_d0_1 := by decide
  bcast_S_S8x1024x512 := by decide
  reducesTo_S8x1024x512_S_d0_1_2 := by decide
  bcast_S_S1x1024 := by decide
  reducesTo_S1x1024_S_d0_1 := by decide
  bcast_S_S1024x1024 := by decide
  reducesTo_S1024x1024_S_d0_1 := by decide
  bcast_S_S8x512x128 := by decide
  reducesTo_S8x512x128_S_d0_1_2 := by decide

instance one : Subsingleton S_.Idx := ⟨fun a b => funext fun i => i.elim0⟩

/-- What the condition says of the arrays it reads. -/
theorem reals (a : FVec Ideal S8192x4096 .bf16) (dh : FVec Ideal S8192x1024 .f32) (h : FVec Ideal S8192x1024 .f32) (ya : FVec Ideal S8192x1024 .bf16) (yb : FVec Ideal S8192x1024 .bf16) (z : FVec Ideal S8192x2176 .f32) (o : FVec Ideal S8192x512 .bf16) (w1 : FVec Ideal S8x1024x512 .bf16) (g : FVec Ideal S1x1024 .f32) (wm : FVec Ideal S1024x1024 .bf16) (ws : FVec Ideal S8x512x128 .bf16) (wf : FVec Ideal S8x512x128 .bf16)
    (e : fn (F := Ideal) a dh h ya yb z o w1 g wm ws wf = fun _ => 1#1) (r : Fin 8192) :
    (Cert.FfnBwdRefIdeal.Rows.rowA a dh h ya yb z o w1 g wm ws wf r).Real := by
  have h0 := congrFun e (fun i => i.elim0)
  unfold fn fn_part1 fn_part2 at h0
  dsimp only at h0
  obtain ⟨h1, hwf⟩ := IntOp.andi_eq_one.1 h0
  obtain ⟨h2, hwm⟩ := IntOp.andi_eq_one.1 h1
  obtain ⟨h3, hg⟩ := IntOp.andi_eq_one.1 h2
  obtain ⟨h4, hw1⟩ := IntOp.andi_eq_one.1 h3
  obtain ⟨h5, ho⟩ := IntOp.andi_eq_one.1 h4
  obtain ⟨h6, hh⟩ := IntOp.andi_eq_one.1 h5
  obtain ⟨ha, hd⟩ := IntOp.andi_eq_one.1 h6
  exact ⟨fun k => Cert.Rows.finite_of_abs_lt (Host.reduce_andi_all _ _ _ _ _ ha _),
    fun q => Cert.Rows.finite_of_abs_lt (Host.reduce_andi_all _ _ _ _ _ hd _),
    fun q => Cert.Rows.finite_of_abs_lt (Host.reduce_andi_all _ _ _ _ _ hh _),
    fun k => Cert.Rows.finite_of_abs_lt (Host.reduce_andi_all _ _ _ _ _ ho _),
    fun n q k => Cert.Rows.finite_of_abs_lt (Host.reduce_andi_all _ _ _ _ _ hw1 _),
    fun q => Cert.Rows.finite_of_abs_lt (Host.reduce_andi_all _ _ _ _ _ hg _),
    fun k q => Cert.Rows.finite_of_abs_lt (Host.reduce_andi_all _ _ _ _ _ hwm _),
    fun n k l => Cert.Rows.finite_of_abs_lt (Host.reduce_andi_all _ _ _ _ _ hwf _)⟩

end Cert.Pre_finite_ffn

set_option maxHeartbeats 1000000 in
open Idealize.ShloMosaic in
/-- The call leaves the gradients that the feed-forward layer's inputs and the two branches get, on finite inputs. -/
theorem Cert.ffn_bwd : @Cert.algebraic_FfnBwdIdeal_FfnBwdRefIdeal_pre_finite_ffn Cert.FfnBwdIdeal.Gen.facts Cert.FfnBwdRefIdeal.Gen.facts Cert.Pre_finite_ffn.facts := by
  intro m g m' g' hp hm
  refine ⟨fun c => (Cert.FfnBwdIdeal.Gen.dats m 0 c).arrAt 12 Cert.FfnBwdIdeal.cfg0.N, fun c => (Cert.FfnBwdIdeal.Gen.dats m 0 c).arrAt 13 Cert.FfnBwdIdeal.cfg0.N, fun c => (Cert.FfnBwdIdeal.Gen.dats m 0 c).arrAt 14 Cert.FfnBwdIdeal.cfg0.N, fun c => (Cert.FfnBwdIdeal.Gen.dats m 0 c).arrAt 15 Cert.FfnBwdIdeal.cfg0.N, fun c => (Cert.FfnBwdIdeal.Gen.dats m 0 c).arrAt 16 Cert.FfnBwdIdeal.cfg0.N, fun c => (Cert.FfnBwdIdeal.Gen.dats m 0 c).arrAt 17 Cert.FfnBwdIdeal.cfg0.N, fun c => (Cert.FfnBwdIdeal.Gen.dats m 0 c).arrAt 18 Cert.FfnBwdIdeal.cfg0.N, fun c => (Cert.FfnBwdIdeal.Gen.dats m 0 c).arrAt 19 Cert.FfnBwdIdeal.cfg0.N, fun c => (Cert.FfnBwdIdeal.Gen.dats m 0 c).arrAt 20 Cert.FfnBwdIdeal.cfg0.N,
    Cert.FfnBwdIdeal.Value.run_blocks m g, ?_⟩
  have H := fun c : Dev Cert.FfnBwdIdeal.nD => Cert.Pre_finite_ffn.reals _ _ _ _ _ _ _ _ _ _ _ _ (hp c)
  refine (Idealize.ShloMosaic.θ_run Cert.FfnBwdRefIdeal.defs _ _).mono
    (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.FfnBwdRefIdeal.Value.run m' g')
  · change Cert.FfnBwdRefIdeal.Rows.dh1A (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg1)) (m' ((c.tc : Idealize.ShloMosaic.Thread Cert.FfnBwdRefIdeal.nD Cert.FfnBwdRefIdeal.τ).loc Cert.FfnBwdRefIdeal.main_arg2)) (m' ((c.tc : Idealize.ShloMosaic.Thread Cert.FfnBwdRefIdeal.nD Cert.FfnBwdRefIdeal.τ).loc Cert.FfnBwdRefIdeal.main_arg7)) (m' ((c.tc : Idealize.ShloMosaic.Thread Cert.FfnBwdRefIdeal.nD Cert.FfnBwdRefIdeal.τ).loc Cert.FfnBwdRefIdeal.main_arg8)) = _
    rw [(hm c).1, (hm c).2.1, (hm c).2.2.1, (hm c).2.2.2.2.2.2.2.1, (hm c).2.2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.FfnBwdIdeal.Rows.result12 m c p q).symm
    exact Cert.FfnBwdRefIdeal.Rows.dh1_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c) p q
  · change truncf .bf16 (Cert.FfnBwdRefIdeal.Rows.dh1A (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg1)) (m' ((c.tc : Idealize.ShloMosaic.Thread Cert.FfnBwdRefIdeal.nD Cert.FfnBwdRefIdeal.τ).loc Cert.FfnBwdRefIdeal.main_arg2)) (m' ((c.tc : Idealize.ShloMosaic.Thread Cert.FfnBwdRefIdeal.nD Cert.FfnBwdRefIdeal.τ).loc Cert.FfnBwdRefIdeal.main_arg7)) (m' ((c.tc : Idealize.ShloMosaic.Thread Cert.FfnBwdRefIdeal.nD Cert.FfnBwdRefIdeal.τ).loc Cert.FfnBwdRefIdeal.main_arg8))) Cert.FfnBwdRefIdeal.Gen.facts.bitsLt_bf16_f32 = _
    rw [(hm c).1, (hm c).2.1, (hm c).2.2.1, (hm c).2.2.2.2.2.2.2.1, (hm c).2.2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.FfnBwdIdeal.Rows.result13 m c p q).symm
    exact Cert.FfnBwdRefIdeal.Rows.dh1_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c) p q
  · rw [Cert.FfnBwdRefIdeal.Rows.term_v94]
    rw [(hm c).1, (hm c).2.1, (hm c).2.2.1, (hm c).2.2.2.1, (hm c).2.2.2.2.1, (hm c).2.2.2.2.2.1, (hm c).2.2.2.2.2.2.2.1, (hm c).2.2.2.2.2.2.2.2.1, (hm c).2.2.2.2.2.2.2.2.2.1]
    funext j
    obtain ⟨p, q, rfl⟩ : ∃ (p : Fin 8192) (q : Fin 2048), j = Idealize.ShloMosaic.ix2 p q := ⟨j 0, j 1, by funext a; fin_cases a <;> rfl⟩
    refine Eq.trans ?_ (Cert.FfnBwdIdeal.Rows.result14 m c p q).symm
    refine (Cert.FfnBwdRefIdeal.Rows.beside_at _ _ p q).trans ?_
    simp only [Cert.FfnBwdRefIdeal.Rows.dla_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c), Cert.FfnBwdRefIdeal.Rows.dlb_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c)]
    rfl
  · change truncf .bf16 (Cert.FfnBwdRefIdeal.Rows.dyA (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg1)) (m' ((c.tc : Idealize.ShloMosaic.Thread Cert.FfnBwdRefIdeal.nD Cert.FfnBwdRefIdeal.τ).loc Cert.FfnBwdRefIdeal.main_arg2)) (m' ((c.tc : Idealize.ShloMosaic.Thread Cert.FfnBwdRefIdeal.nD Cert.FfnBwdRefIdeal.τ).loc Cert.FfnBwdRefIdeal.main_arg5)) (m' ((c.tc : Idealize.ShloMosaic.Thread Cert.FfnBwdRefIdeal.nD Cert.FfnBwdRefIdeal.τ).loc Cert.FfnBwdRefIdeal.main_arg7)) (m' ((c.tc : Idealize.ShloMosaic.Thread Cert.FfnBwdRefIdeal.nD Cert.FfnBwdRefIdeal.τ).loc Cert.FfnBwdRefIdeal.main_arg8)) (m' ((c.tc : Idealize.ShloMosaic.Thread Cert.FfnBwdRefIdeal.nD Cert.FfnBwdRefIdeal.τ).loc Cert.FfnBwdRefIdeal.main_arg9))) Cert.FfnBwdRefIdeal.Gen.facts.bitsLt_bf16_f32 = _
    rw [(hm c).1, (hm c).2.1, (hm c).2.2.1, (hm c).2.2.2.2.2.1, (hm c).2.2.2.2.2.2.2.1, (hm c).2.2.2.2.2.2.2.2.1, (hm c).2.2.2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.FfnBwdIdeal.Rows.result15 m c p q).symm
    exact Cert.FfnBwdRefIdeal.Rows.dya_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c) p q
  · change truncf .bf16 (Cert.FfnBwdRefIdeal.Rows.dyB (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg1)) (m' ((c.tc : Idealize.ShloMosaic.Thread Cert.FfnBwdRefIdeal.nD Cert.FfnBwdRefIdeal.τ).loc Cert.FfnBwdRefIdeal.main_arg2)) (m' ((c.tc : Idealize.ShloMosaic.Thread Cert.FfnBwdRefIdeal.nD Cert.FfnBwdRefIdeal.τ).loc Cert.FfnBwdRefIdeal.main_arg5)) (m' ((c.tc : Idealize.ShloMosaic.Thread Cert.FfnBwdRefIdeal.nD Cert.FfnBwdRefIdeal.τ).loc Cert.FfnBwdRefIdeal.main_arg7)) (m' ((c.tc : Idealize.ShloMosaic.Thread Cert.FfnBwdRefIdeal.nD Cert.FfnBwdRefIdeal.τ).loc Cert.FfnBwdRefIdeal.main_arg8)) (m' ((c.tc : Idealize.ShloMosaic.Thread Cert.FfnBwdRefIdeal.nD Cert.FfnBwdRefIdeal.τ).loc Cert.FfnBwdRefIdeal.main_arg9))) Cert.FfnBwdRefIdeal.Gen.facts.bitsLt_bf16_f32 = _
    rw [(hm c).1, (hm c).2.1, (hm c).2.2.1, (hm c).2.2.2.2.2.1, (hm c).2.2.2.2.2.2.2.1, (hm c).2.2.2.2.2.2.2.2.1, (hm c).2.2.2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.FfnBwdIdeal.Rows.result16 m c p q).symm
    exact Cert.FfnBwdRefIdeal.Rows.dyb_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c) p q
  · change truncf .bf16 (Cert.FfnBwdRefIdeal.Rows.dout (Cert.FfnBwdRefIdeal.Rows.dyA (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg1)) (m' ((c.tc : Idealize.ShloMosaic.Thread Cert.FfnBwdRefIdeal.nD Cert.FfnBwdRefIdeal.τ).loc Cert.FfnBwdRefIdeal.main_arg2)) (m' ((c.tc : Idealize.ShloMosaic.Thread Cert.FfnBwdRefIdeal.nD Cert.FfnBwdRefIdeal.τ).loc Cert.FfnBwdRefIdeal.main_arg5)) (m' ((c.tc : Idealize.ShloMosaic.Thread Cert.FfnBwdRefIdeal.nD Cert.FfnBwdRefIdeal.τ).loc Cert.FfnBwdRefIdeal.main_arg7)) (m' ((c.tc : Idealize.ShloMosaic.Thread Cert.FfnBwdRefIdeal.nD Cert.FfnBwdRefIdeal.τ).loc Cert.FfnBwdRefIdeal.main_arg8)) (m' ((c.tc : Idealize.ShloMosaic.Thread Cert.FfnBwdRefIdeal.nD Cert.FfnBwdRefIdeal.τ).loc Cert.FfnBwdRefIdeal.main_arg9))) (m' ((c.tc : Idealize.ShloMosaic.Thread Cert.FfnBwdRefIdeal.nD Cert.FfnBwdRefIdeal.τ).loc Cert.FfnBwdRefIdeal.main_arg10))) Cert.FfnBwdRefIdeal.Gen.facts.bitsLt_bf16_f32 = _
    rw [(hm c).1, (hm c).2.1, (hm c).2.2.1, (hm c).2.2.2.2.2.1, (hm c).2.2.2.2.2.2.2.1, (hm c).2.2.2.2.2.2.2.2.1, (hm c).2.2.2.2.2.2.2.2.2.1, (hm c).2.2.2.2.2.2.2.2.2.2.1]
    funext j
    obtain ⟨p, q, rfl⟩ : ∃ (p : Fin 8192) (q : Fin 512), j = Idealize.ShloMosaic.ix2 p q := ⟨j 0, j 1, by funext a; fin_cases a <;> rfl⟩
    refine Eq.trans ?_ (Cert.FfnBwdIdeal.Rows.result17 m c p q).symm
    exact Cert.FfnBwdRefIdeal.Rows.doa_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c) p q
  · change truncf .bf16 (Cert.FfnBwdRefIdeal.Rows.dout (Cert.FfnBwdRefIdeal.Rows.dyB (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg1)) (m' ((c.tc : Idealize.ShloMosaic.Thread Cert.FfnBwdRefIdeal.nD Cert.FfnBwdRefIdeal.τ).loc Cert.FfnBwdRefIdeal.main_arg2)) (m' ((c.tc : Idealize.ShloMosaic.Thread Cert.FfnBwdRefIdeal.nD Cert.FfnBwdRefIdeal.τ).loc Cert.FfnBwdRefIdeal.main_arg5)) (m' ((c.tc : Idealize.ShloMosaic.Thread Cert.FfnBwdRefIdeal.nD Cert.FfnBwdRefIdeal.τ).loc Cert.FfnBwdRefIdeal.main_arg7)) (m' ((c.tc : Idealize.ShloMosaic.Thread Cert.FfnBwdRefIdeal.nD Cert.FfnBwdRefIdeal.τ).loc Cert.FfnBwdRefIdeal.main_arg8)) (m' ((c.tc : Idealize.ShloMosaic.Thread Cert.FfnBwdRefIdeal.nD Cert.FfnBwdRefIdeal.τ).loc Cert.FfnBwdRefIdeal.main_arg9))) (m' ((c.tc : Idealize.ShloMosaic.Thread Cert.FfnBwdRefIdeal.nD Cert.FfnBwdRefIdeal.τ).loc Cert.FfnBwdRefIdeal.main_arg11))) Cert.FfnBwdRefIdeal.Gen.facts.bitsLt_bf16_f32 = _
    rw [(hm c).1, (hm c).2.1, (hm c).2.2.1, (hm c).2.2.2.2.2.1, (hm c).2.2.2.2.2.2.2.1, (hm c).2.2.2.2.2.2.2.2.1, (hm c).2.2.2.2.2.2.2.2.2.1, (hm c).2.2.2.2.2.2.2.2.2.2.2]
    funext j
    obtain ⟨p, q, rfl⟩ : ∃ (p : Fin 8192) (q : Fin 512), j = Idealize.ShloMosaic.ix2 p q := ⟨j 0, j 1, by funext a; fin_cases a <;> rfl⟩
    refine Eq.trans ?_ (Cert.FfnBwdIdeal.Rows.result18 m c p q).symm
    exact Cert.FfnBwdRefIdeal.Rows.dob_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c) p q
  · change Cert.FfnBwdRefIdeal.Rows.delta (Cert.FfnBwdRefIdeal.Rows.dout (Cert.FfnBwdRefIdeal.Rows.dyB (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg1)) (m' ((c.tc : Idealize.ShloMosaic.Thread Cert.FfnBwdRefIdeal.nD Cert.FfnBwdRefIdeal.τ).loc Cert.FfnBwdRefIdeal.main_arg2)) (m' ((c.tc : Idealize.ShloMosaic.Thread Cert.FfnBwdRefIdeal.nD Cert.FfnBwdRefIdeal.τ).loc Cert.FfnBwdRefIdeal.main_arg5)) (m' ((c.tc : Idealize.ShloMosaic.Thread Cert.FfnBwdRefIdeal.nD Cert.FfnBwdRefIdeal.τ).loc Cert.FfnBwdRefIdeal.main_arg7)) (m' ((c.tc : Idealize.ShloMosaic.Thread Cert.FfnBwdRefIdeal.nD Cert.FfnBwdRefIdeal.τ).loc Cert.FfnBwdRefIdeal.main_arg8)) (m' ((c.tc : Idealize.ShloMosaic.Thread Cert.FfnBwdRefIdeal.nD Cert.FfnBwdRefIdeal.τ).loc Cert.FfnBwdRefIdeal.main_arg9))) (m' ((c.tc : Idealize.ShloMosaic.Thread Cert.FfnBwdRefIdeal.nD Cert.FfnBwdRefIdeal.τ).loc Cert.FfnBwdRefIdeal.main_arg11))) (m' ((c.tc : Idealize.ShloMosaic.Thread Cert.FfnBwdRefIdeal.nD Cert.FfnBwdRefIdeal.τ).loc Cert.FfnBwdRefIdeal.main_arg6)) = _
    rw [(hm c).1, (hm c).2.1, (hm c).2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.2]
    funext j
    obtain ⟨p, q, rfl⟩ : ∃ (p : Fin 8192) (q : Fin 1024), j = Idealize.ShloMosaic.ix2 p q := ⟨j 0, j 1, by funext a; fin_cases a <;> rfl⟩
    refine Eq.trans ?_ (Cert.FfnBwdIdeal.Rows.result19 m c (H c) p q).symm
    exact Cert.FfnBwdRefIdeal.Rows.sums_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c) (H c) p q
  · change Cert.FfnBwdRefIdeal.Rows.columns (Cert.FfnBwdRefIdeal.Rows.scaled (m' ((c.tc : Idealize.ShloMosaic.Thread Cert.FfnBwdRefIdeal.nD Cert.FfnBwdRefIdeal.τ).loc Cert.FfnBwdRefIdeal.main_arg2))) (Cert.FfnBwdRefIdeal.Rows.up (m' ((c.tc : Idealize.ShloMosaic.Thread Cert.FfnBwdRefIdeal.nD Cert.FfnBwdRefIdeal.τ).loc Cert.FfnBwdRefIdeal.main_arg0)) (m' ((c.tc : Idealize.ShloMosaic.Thread Cert.FfnBwdRefIdeal.nD Cert.FfnBwdRefIdeal.τ).loc Cert.FfnBwdRefIdeal.main_arg7))) = _
    rw [(hm c).1, (hm c).2.2.1, (hm c).2.2.2.2.2.2.2.1]
    funext j
    obtain ⟨p, q, rfl⟩ : ∃ (p : Fin 8) (q : Fin 1024), j = Idealize.ShloMosaic.ix2 p q := ⟨j 0, j 1, by funext a; fin_cases a <;> rfl⟩
    refine Eq.trans ?_ (Cert.FfnBwdIdeal.Rows.result20 m c p q).symm
    rw [Cert.FfnBwdRefIdeal.Rows.columns_at]
    simp only [Cert.FfnBwdRefIdeal.Rows.scaled_at, Cert.FfnBwdRefIdeal.Rows.up_at (Cert.FfnBwdIdeal.Rows.dinn m c) (Cert.FfnBwdIdeal.Rows.dhid m c) (Cert.FfnBwdIdeal.Rows.hids m c) (Cert.FfnBwdIdeal.Rows.outA m c) (Cert.FfnBwdIdeal.Rows.outsB m c) (Cert.FfnBwdIdeal.Rows.lins m c) (Cert.FfnBwdIdeal.Rows.attn m c) (Cert.FfnBwdIdeal.Rows.winn m c) (Cert.FfnBwdIdeal.Rows.gain m c) (Cert.FfnBwdIdeal.Rows.wmix m c) (Cert.FfnBwdIdeal.Rows.wbrA m c) (Cert.FfnBwdIdeal.Rows.wbrB m c)]
    exact Finset.sum_congr (M := EReal) rfl fun x _ => mul_comm (G := EReal) _ _

end
-- ==== Proof.Rows.HeadRun.lean ====
/- The head and the feed-forward layer's gradient: what one step leaves. -/
module

public import proofs.«01_k».proof.Proof.Gen.HeadIdeal.Value
public import Idealize.ShloMosaic.Lib.Pointwise

@[expose] public section

noncomputable section

namespace Cert.HeadIdeal.Rows

open Cert.HeadIdeal Cert.HeadIdeal.Gen Idealize.ShloMosaic Idealize.ShloMosaic.TcCoe Idealize.SL.Sem

/-! ## A step's values, by name -/

theorem origin : (![0, 0] : Fin 2 → Nat) = fun _ => 0 := funext fun a => by fin_cases a <;> rfl

section Values

variable (x0 : Vec Ideal S256x1024 .f32) (x1 : Vec Ideal S256x256 .f32) (x2 : Vec Ideal S256x1024 .f32) (x3 : Vec Ideal S256x4096 .bf16) (x4 : Vec Ideal S1x1024 .f32) (x5 : Vec Ideal S1024x1024 .bf16) (x6 : Vec Ideal S8x256x128 .bf16) (x7 : Vec Ideal S1x1024 .f32) (x8 : Vec Ideal S8x512x1024 .bf16)

/-- The gate, and the projected embeddings. -/
def gateB : FVec Ideal S256x1024 .f32 := k0_pay3 x0 x4 x5
def projB : FVec Ideal S256x1024 .f32 := k0_pay7 (k0_pay4 (F := Ideal) x1) (k0_pay5 (View.ld x6 (Rect.unit ![0, 0, 0] S1x256x128.size inb_S8x256x128_S1x256x128_0_0_0))) (k0_pay6 (View.ld x6 (Rect.unit ![1, 0, 0] S1x256x128.size inb_S8x256x128_S1x256x128_1_0_0)))
    (View.ld x6 (Rect.unit ![2, 0, 0] S1x256x128.size inb_S8x256x128_S1x256x128_2_0_0))
    (View.ld x6 (Rect.unit ![3, 0, 0] S1x256x128.size inb_S8x256x128_S1x256x128_3_0_0))
    (View.ld x6 (Rect.unit ![4, 0, 0] S1x256x128.size inb_S8x256x128_S1x256x128_4_0_0))
    (View.ld x6 (Rect.unit ![5, 0, 0] S1x256x128.size inb_S8x256x128_S1x256x128_5_0_0))
    (View.ld x6 (Rect.unit ![6, 0, 0] S1x256x128.size inb_S8x256x128_S1x256x128_6_0_0))
    (View.ld x6 (Rect.unit ![7, 0, 0] S1x256x128.size inb_S8x256x128_S1x256x128_7_0_0))

/-- The last norm's scale and its rows, and the error. -/
def scaleB : FVec Ideal S256x1 .f32 := k0_pay9 x0 (gateB x0 x4 x5) (k0_pay4 (F := Ideal) x1) (k0_pay5 (View.ld x6 (Rect.unit ![0, 0, 0] S1x256x128.size inb_S8x256x128_S1x256x128_0_0_0))) (k0_pay6 (View.ld x6 (Rect.unit ![1, 0, 0] S1x256x128.size inb_S8x256x128_S1x256x128_1_0_0)))
    (View.ld x6 (Rect.unit ![2, 0, 0] S1x256x128.size inb_S8x256x128_S1x256x128_2_0_0))
    (View.ld x6 (Rect.unit ![3, 0, 0] S1x256x128.size inb_S8x256x128_S1x256x128_3_0_0))
    (View.ld x6 (Rect.unit ![4, 0, 0] S1x256x128.size inb_S8x256x128_S1x256x128_4_0_0))
    (View.ld x6 (Rect.unit ![5, 0, 0] S1x256x128.size inb_S8x256x128_S1x256x128_5_0_0))
    (View.ld x6 (Rect.unit ![6, 0, 0] S1x256x128.size inb_S8x256x128_S1x256x128_6_0_0))
    (View.ld x6 (Rect.unit ![7, 0, 0] S1x256x128.size inb_S8x256x128_S1x256x128_7_0_0))
def lastB : FVec Ideal S256x1024 .f32 := k0_pay10 x0 (gateB x0 x4 x5) (k0_pay4 (F := Ideal) x1) (k0_pay5 (View.ld x6 (Rect.unit ![0, 0, 0] S1x256x128.size inb_S8x256x128_S1x256x128_0_0_0))) (k0_pay6 (View.ld x6 (Rect.unit ![1, 0, 0] S1x256x128.size inb_S8x256x128_S1x256x128_1_0_0)))
    (View.ld x6 (Rect.unit ![2, 0, 0] S1x256x128.size inb_S8x256x128_S1x256x128_2_0_0))
    (View.ld x6 (Rect.unit ![3, 0, 0] S1x256x128.size inb_S8x256x128_S1x256x128_3_0_0))
    (View.ld x6 (Rect.unit ![4, 0, 0] S1x256x128.size inb_S8x256x128_S1x256x128_4_0_0))
    (View.ld x6 (Rect.unit ![5, 0, 0] S1x256x128.size inb_S8x256x128_S1x256x128_5_0_0))
    (View.ld x6 (Rect.unit ![6, 0, 0] S1x256x128.size inb_S8x256x128_S1x256x128_6_0_0))
    (View.ld x6 (Rect.unit ![7, 0, 0] S1x256x128.size inb_S8x256x128_S1x256x128_7_0_0))
def errB : FVec Ideal S256x1024 .f32 := k0_pay11 x0 (gateB x0 x4 x5) (k0_pay4 (F := Ideal) x1) (k0_pay5 (View.ld x6 (Rect.unit ![0, 0, 0] S1x256x128.size inb_S8x256x128_S1x256x128_0_0_0))) (k0_pay6 (View.ld x6 (Rect.unit ![1, 0, 0] S1x256x128.size inb_S8x256x128_S1x256x128_1_0_0)))
    (View.ld x6 (Rect.unit ![2, 0, 0] S1x256x128.size inb_S8x256x128_S1x256x128_2_0_0))
    (View.ld x6 (Rect.unit ![3, 0, 0] S1x256x128.size inb_S8x256x128_S1x256x128_3_0_0))
    (View.ld x6 (Rect.unit ![4, 0, 0] S1x256x128.size inb_S8x256x128_S1x256x128_4_0_0))
    (View.ld x6 (Rect.unit ![5, 0, 0] S1x256x128.size inb_S8x256x128_S1x256x128_5_0_0))
    (View.ld x6 (Rect.unit ![6, 0, 0] S1x256x128.size inb_S8x256x128_S1x256x128_6_0_0))
    (View.ld x6 (Rect.unit ![7, 0, 0] S1x256x128.size inb_S8x256x128_S1x256x128_7_0_0)) x7 x2
def lossB : FVec Ideal S256x1 .f32 := k0_pay12 x0 (gateB x0 x4 x5) (k0_pay4 (F := Ideal) x1) (k0_pay5 (View.ld x6 (Rect.unit ![0, 0, 0] S1x256x128.size inb_S8x256x128_S1x256x128_0_0_0))) (k0_pay6 (View.ld x6 (Rect.unit ![1, 0, 0] S1x256x128.size inb_S8x256x128_S1x256x128_1_0_0)))
    (View.ld x6 (Rect.unit ![2, 0, 0] S1x256x128.size inb_S8x256x128_S1x256x128_2_0_0))
    (View.ld x6 (Rect.unit ![3, 0, 0] S1x256x128.size inb_S8x256x128_S1x256x128_3_0_0))
    (View.ld x6 (Rect.unit ![4, 0, 0] S1x256x128.size inb_S8x256x128_S1x256x128_4_0_0))
    (View.ld x6 (Rect.unit ![5, 0, 0] S1x256x128.size inb_S8x256x128_S1x256x128_5_0_0))
    (View.ld x6 (Rect.unit ![6, 0, 0] S1x256x128.size inb_S8x256x128_S1x256x128_6_0_0))
    (View.ld x6 (Rect.unit ![7, 0, 0] S1x256x128.size inb_S8x256x128_S1x256x128_7_0_0)) x7 x2

/-- The gradient at the last norm's rows, and the part of it along them. -/
def gradB : FVec Ideal S256x1024 .f32 := k0_pay18 x7 (errB x0 x1 x2 x4 x5 x6 x7)
def alongB : FVec Ideal S256x1024 .f32 := k0_pay19 (lastB x0 x1 x4 x5 x6) x7 (errB x0 x1 x2 x4 x5 x6 x7)

/-- The gradient through the embeddings' norm. -/
def backB : FVec Ideal S256x1024 .f32 := k0_pay26 x0 x4 (gateB x0 x4 x5) (projB x1 x6) (scaleB x0 x1 x4 x5 x6) (gradB x0 x1 x2 x4 x5 x6 x7) (alongB x0 x1 x2 x4 x5 x6 x7) x5

/-- The hidden state's gradient, before the norm's part is added. -/
def headB : FVec Ideal S256x1024 .f32 := k0_pay20 (scaleB x0 x1 x4 x5 x6) (gradB x0 x1 x2 x4 x5 x6 x7) (alongB x0 x1 x2 x4 x5 x6 x7)
def lowB : FVec Ideal S256x1024 .bf16 := k0_pay31 (headB x0 x1 x2 x4 x5 x6 x7) (backB x0 x1 x2 x4 x5 x6 x7)

/-- The gradient at the feed-forward layer's inner values, in eight pieces, the last one first. -/
def innerB : List (View.Piece (Elt Ideal) S256x4096 .bf16) :=
  [⟨Rect.unit ![0, 3584] S256x512.size inb_S256x4096_S256x512_0_3584, k0_pay1 (lowB x0 x1 x2 x4 x5 x6 x7) (View.ld x8 (Rect.unit ![7, 0, 0] S1x512x1024.size inb_S8x512x1024_S1x512x1024_7_0_0)) (View.ld x3 (Rect.unit ![0, 3584] S256x512.size inb_S256x4096_S256x512_0_3584))⟩,
    ⟨Rect.unit ![0, 3072] S256x512.size inb_S256x4096_S256x512_0_3072, k0_pay41 (lowB x0 x1 x2 x4 x5 x6 x7) (View.ld x8 (Rect.unit ![6, 0, 0] S1x512x1024.size inb_S8x512x1024_S1x512x1024_6_0_0)) (View.ld x3 (Rect.unit ![0, 3072] S256x512.size inb_S256x4096_S256x512_0_3072))⟩,
    ⟨Rect.unit ![0, 2560] S256x512.size inb_S256x4096_S256x512_0_2560, k0_pay40 (lowB x0 x1 x2 x4 x5 x6 x7) (View.ld x8 (Rect.unit ![5, 0, 0] S1x512x1024.size inb_S8x512x1024_S1x512x1024_5_0_0)) (View.ld x3 (Rect.unit ![0, 2560] S256x512.size inb_S256x4096_S256x512_0_2560))⟩,
    ⟨Rect.unit ![0, 2048] S256x512.size inb_S256x4096_S256x512_0_2048, k0_pay39 (lowB x0 x1 x2 x4 x5 x6 x7) (k0_pay38 (View.ld x8 (Rect.unit ![4, 0, 0] S1x512x1024.size inb_S8x512x1024_S1x512x1024_4_0_0))) (View.ld x3 (Rect.unit ![0, 2048] S256x512.size inb_S256x4096_S256x512_0_2048))⟩,
    ⟨Rect.unit ![0, 1536] S256x512.size inb_S256x4096_S256x512_0_1536, k0_pay37 (lowB x0 x1 x2 x4 x5 x6 x7) (View.ld x8 (Rect.unit ![3, 0, 0] S1x512x1024.size inb_S8x512x1024_S1x512x1024_3_0_0)) (View.ld x3 (Rect.unit ![0, 1536] S256x512.size inb_S256x4096_S256x512_0_1536))⟩,
    ⟨Rect.unit ![0, 1024] S256x512.size inb_S256x4096_S256x512_0_1024, k0_pay36 (lowB x0 x1 x2 x4 x5 x6 x7) (View.ld x8 (Rect.unit ![2, 0, 0] S1x512x1024.size inb_S8x512x1024_S1x512x1024_2_0_0)) (View.ld x3 (Rect.unit ![0, 1024] S256x512.size inb_S256x4096_S256x512_0_1024))⟩,
    ⟨Rect.unit ![0, 512] S256x512.size inb_S256x4096_S256x512_0_512, k0_pay35 (k0_pay33 (headB x0 x1 x2 x4 x5 x6 x7) (backB x0 x1 x2 x4 x5 x6 x7) (View.ld x8 (Rect.unit ![1, 0, 0] S1x512x1024.size inb_S8x512x1024_S1x512x1024_1_0_0))) (k0_pay34 (View.ld x3 (Rect.unit ![0, 512] S256x512.size inb_S256x4096_S256x512_0_512)))⟩,
    ⟨Rect.unit ![0, 0] S256x512.size inb_S256x4096_S256x512_0_0, k0_pay32 (headB x0 x1 x2 x4 x5 x6 x7) (backB x0 x1 x2 x4 x5 x6 x7) (View.ld x8 (Rect.unit ![0, 0, 0] S1x512x1024.size inb_S8x512x1024_S1x512x1024_0_0_0)) (View.ld x3 (Rect.unit ![0, 0] S256x512.size inb_S256x4096_S256x512_0_0))⟩]

end Values

section Points

variable (c : Dev nD) (i : grid0.Coords)
  (a1 : Memref sig .tc .vmem S256x1024 .f32) (h1 : a1.IsWhole)
  (a2 : Memref sig .tc .vmem S256x256 .f32) (h2 : a2.IsWhole)
  (a3 : Memref sig .tc .vmem S256x1024 .f32) (h3 : a3.IsWhole)
  (a4 : Memref sig .tc .vmem S256x4096 .bf16) (h4 : a4.IsWhole)
  (a5 : Memref sig .tc .vmem S1x1024 .f32) (h5 : a5.IsWhole)
  (a6 : Memref sig .tc .vmem S1024x1024 .bf16) (h6 : a6.IsWhole)
  (a7 : Memref sig .tc .vmem S8x256x128 .bf16) (h7 : a7.IsWhole)
  (a8 : Memref sig .tc .vmem S1x1024 .f32) (h8 : a8.IsWhole)
  (a9 : Memref sig .tc .vmem S8x512x1024 .bf16) (h9 : a9.IsWhole)
  (a10 : Memref sig .tc .vmem S256x1024 .bf16) (h10 : a10.IsWhole)
  (a11 : Memref sig .tc .vmem S256x1024 .bf16) (h11 : a11.IsWhole)
  (a12 : Memref sig .tc .vmem S256x1024 .bf16) (h12 : a12.IsWhole)
  (a13 : Memref sig .tc .vmem S256x1024 .f32) (h13 : a13.IsWhole)
  (a14 : Memref sig .tc .vmem S256x1024 .bf16) (h14 : a14.IsWhole)
  (a15 : Memref sig .tc .vmem S256x4096 .bf16) (h15 : a15.IsWhole)
  (a16 : Memref sig .tc .vmem S8x128 .f32) (h16 : a16.IsWhole)
  (a17 : Memref sig .tc .vmem S8x1024 .f32) (h17 : a17.IsWhole)
  (a18 : Memref sig .tc .vmem S8x1024 .f32) (h18 : a18.IsWhole)
   (x0 : Vec Ideal S256x1024 .f32) (x1 : Vec Ideal S256x256 .f32) (x2 : Vec Ideal S256x1024 .f32) (x3 : Vec Ideal S256x4096 .bf16) (x4 : Vec Ideal S1x1024 .f32) (x5 : Vec Ideal S1024x1024 .bf16) (x6 : Vec Ideal S8x256x128 .bf16) (x7 : Vec Ideal S1x1024 .f32) (x8 : Vec Ideal S8x512x1024 .bf16) (s15 : Vec Ideal S8x128 .f32) (s16 s17 : Vec Ideal S8x1024 .f32)

/-- What the first step leaves. -/
theorem first (hc0 : cond0_0 i) (hc1 : cond0_1 i) (hc2 : cond0_2 i) :
    out0_A_9 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = k0_pay22 (gateB x0 x4 x5) (projB x1 x6) (scaleB x0 x1 x4 x5 x6) (gradB x0 x1 x2 x4 x5 x6 x7) (alongB x0 x1 x2 x4 x5 x6 x7)
    ∧ out0_A_10 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = k0_pay21 (gateB x0 x4 x5) (scaleB x0 x1 x4 x5 x6) (gradB x0 x1 x2 x4 x5 x6 x7) (alongB x0 x1 x2 x4 x5 x6 x7)
    ∧ out0_A_11 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = k0_pay2 (F := Ideal) x0 x4
    ∧ out0_A_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = k0_pay30 (headB x0 x1 x2 x4 x5 x6 x7) (backB x0 x1 x2 x4 x5 x6 x7)
    ∧ out0_A_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = lowB x0 x1 x2 x4 x5 x6 x7
    ∧ out0_A_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = View.canon (innerB x0 x1 x2 x3 x4 x5 x6 x7 x8)
    ∧ out0_A_15 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = k0_pay14 (lossB x0 x1 x2 x4 x5 x6 x7) (k0_pay13 (F := Ideal))
    ∧ out0_A_16 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = k0_pay17 (lastB x0 x1 x4 x5 x6) (errB x0 x1 x2 x4 x5 x6 x7) (k0_pay16 (F := Ideal))
    ∧ out0_A_17 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 = k0_pay29 (k0_pay27 x0 (gateB x0 x4 x5) (projB x1 x6) (scaleB x0 x1 x4 x5 x6) (gradB x0 x1 x2 x4 x5 x6 x7) (alongB x0 x1 x2 x4 x5 x6 x7) x5) (k0_pay28 (F := Ideal)) := by
  unfold out0_A_9 out0_A_10 out0_A_11 out0_A_12 out0_A_13 out0_A_14 out0_A_15 out0_A_16 out0_A_17
  refine ⟨(View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_,
    (View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8)).trans ?_⟩
  all_goals
    unfold kernelRun0_A
    dsimp only
    sl_unfold_words
    simp only [View.readAt_eq_ld, h1.read_unread, h2.read_unread, h3.read_unread, h4.read_unread, h5.read_unread, h6.read_unread, h7.read_unread, h8.read_unread, h9.read_unread, View.ld_unit_zero (S := S256x1024) origin, View.ld_unit_zero (S := S256x256) origin, View.ld_unit_zero (S := S1x1024) origin, View.ld_unit_zero (S := S1024x1024) origin,
    View.canon_unit_zero (S := S256x1024) origin, View.canon_cons_unit_zero (S := S8x128) origin, View.readCov_unit_zero (S := S8x128) _ origin, View.canon_cons_unit_zero (S := S8x1024) origin, View.readCov_unit_zero (S := S8x1024) _ origin] <;> rfl

/-- What a later step leaves, over what the step before it left. -/
theorem later (hc0 : ¬cond0_0 i) (hc1 : ¬cond0_1 i) (hc2 : ¬cond0_2 i) :
    out0_B_9 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = k0_pay22 (gateB x0 x4 x5) (projB x1 x6) (scaleB x0 x1 x4 x5 x6) (gradB x0 x1 x2 x4 x5 x6 x7) (alongB x0 x1 x2 x4 x5 x6 x7)
    ∧ out0_B_10 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = k0_pay21 (gateB x0 x4 x5) (scaleB x0 x1 x4 x5 x6) (gradB x0 x1 x2 x4 x5 x6 x7) (alongB x0 x1 x2 x4 x5 x6 x7)
    ∧ out0_B_11 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = k0_pay2 (F := Ideal) x0 x4
    ∧ out0_B_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = k0_pay30 (headB x0 x1 x2 x4 x5 x6 x7) (backB x0 x1 x2 x4 x5 x6 x7)
    ∧ out0_B_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = lowB x0 x1 x2 x4 x5 x6 x7
    ∧ out0_B_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = View.canon (innerB x0 x1 x2 x3 x4 x5 x6 x7 x8)
    ∧ out0_B_15 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = k0_pay14 (lossB x0 x1 x2 x4 x5 x6 x7) s15
    ∧ out0_B_16 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = k0_pay17 (lastB x0 x1 x4 x5 x6) (errB x0 x1 x2 x4 x5 x6 x7) s16
    ∧ out0_B_17 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17 = k0_pay29 (k0_pay27 x0 (gateB x0 x4 x5) (projB x1 x6) (scaleB x0 x1 x4 x5 x6) (gradB x0 x1 x2 x4 x5 x6 x7) (alongB x0 x1 x2 x4 x5 x6 x7) x5) s17 := by
  unfold out0_B_9 out0_B_10 out0_B_11 out0_B_12 out0_B_13 out0_B_14 out0_B_15 out0_B_16 out0_B_17
  refine ⟨(View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_,
    (View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 s15 s16 s17)).trans ?_⟩
  all_goals
    unfold kernelRun0_B
    dsimp only
    sl_unfold_words
    simp only [View.readAt_eq_ld, h1.read_unread, h2.read_unread, h3.read_unread, h4.read_unread, h5.read_unread, h6.read_unread, h7.read_unread, h8.read_unread, h9.read_unread, h16.read_unread, h17.read_unread, h18.read_unread, View.ld_unit_zero (S := S256x1024) origin, View.ld_unit_zero (S := S256x256) origin, View.ld_unit_zero (S := S1x1024) origin, View.ld_unit_zero (S := S1024x1024) origin, View.ld_unit_zero (S := S8x128) origin, View.ld_unit_zero (S := S8x1024) origin,
    View.canon_unit_zero (S := S256x1024) origin, View.canon_unit_zero (S := S8x128) origin, View.canon_unit_zero (S := S8x1024) origin] <;> rfl

end Points

end Cert.HeadIdeal.Rows

end
-- ==== Proof.Rows.Head.lean ====
/- The last layers' backward pass: one block of rows. -/
module

public import proofs.«01_k».proof.Proof.Rows.HeadRun
public import proofs.«01_k».proof.Proof.Rows.HeadSpec
public import proofs.«01_k».proof.Proof.Rows.Stack

@[expose] public section

noncomputable section

namespace Cert.HeadIdeal.Rows

open Cert.HeadIdeal Cert.HeadIdeal.Gen Idealize.ShloMosaic Idealize.ShloMosaic.TcCoe Idealize.SL.Sem
open Cert.Rows.Head (Row)

section Block

variable (x0 : Vec Ideal S256x1024 .f32) (x1 : Vec Ideal S256x256 .f32) (x2 : Vec Ideal S256x1024 .f32) (x3 : Vec Ideal S256x4096 .bf16) (x4 : Vec Ideal S1x1024 .f32) (x5 : Vec Ideal S1024x1024 .bf16) (x6 : Vec Ideal S8x256x128 .bf16) (x7 : Vec Ideal S1x1024 .f32) (x8 : Vec Ideal S8x512x1024 .bf16)

/-- A row of the block, with the weights. -/
def rowB (r : Fin 256) : Row where
  h q := x0 (ix2 r q)
  p k := x1 (ix2 r k)
  t q := x2 (ix2 r q)
  a k := x3 (ix2 r k)
  gp q := x4 (ix2 0 q)
  gf q := x7 (ix2 0 q)
  wg k q := x5 (ix2 k q)
  wp n k l := x6 (ix3 n k l)
  w2 n l q := x8 (ix3 n l q)

variable (r : Fin 256)

theorem normed_at (q : Fin 1024) : k0_pay2 (F := Ideal) x0 x4 (ix2 r q) = (rowB x0 x1 x2 x3 x4 x5 x6 x7 x8 r).normed q := by
  pointwise [k0_pay2]
  rfl

theorem gate_at (q : Fin 1024) : gateB x0 x4 x5 (ix2 r q) = (rowB x0 x1 x2 x3 x4 x5 x6 x7 x8 r).gate q := by
  unfold gateB
  pointwise [k0_pay3]
  rw [zero_sub]
  simp only [normed_at x0 x1 x2 x3 x4 x5 x6 x7 x8]
  rfl

theorem proj_at (q : Fin 1024) : k0_pay7 (k0_pay4 (F := Ideal) x1) (k0_pay5 (View.ld x6 (Rect.unit ![0, 0, 0] S1x256x128.size inb_S8x256x128_S1x256x128_0_0_0))) (k0_pay6 (View.ld x6 (Rect.unit ![1, 0, 0] S1x256x128.size inb_S8x256x128_S1x256x128_1_0_0)))
    (View.ld x6 (Rect.unit ![2, 0, 0] S1x256x128.size inb_S8x256x128_S1x256x128_2_0_0))
    (View.ld x6 (Rect.unit ![3, 0, 0] S1x256x128.size inb_S8x256x128_S1x256x128_3_0_0))
    (View.ld x6 (Rect.unit ![4, 0, 0] S1x256x128.size inb_S8x256x128_S1x256x128_4_0_0))
    (View.ld x6 (Rect.unit ![5, 0, 0] S1x256x128.size inb_S8x256x128_S1x256x128_5_0_0))
    (View.ld x6 (Rect.unit ![6, 0, 0] S1x256x128.size inb_S8x256x128_S1x256x128_6_0_0))
    (View.ld x6 (Rect.unit ![7, 0, 0] S1x256x128.size inb_S8x256x128_S1x256x128_7_0_0)) (ix2 r q) = (rowB x0 x1 x2 x3 x4 x5 x6 x7 x8 r).proj q := by
  pointwise [k0_pay7, k0_pay4, k0_pay5, k0_pay6]
  exact Finset.sum_congr rfl fun k _ => congrArg (x1 (ix2 r k) * ·) (Cert.Rows.joined x6 k q)

theorem hid_at (q : Fin 1024) : k0_pay8 x0 (gateB x0 x4 x5) (k0_pay4 (F := Ideal) x1) (k0_pay5 (View.ld x6 (Rect.unit ![0, 0, 0] S1x256x128.size inb_S8x256x128_S1x256x128_0_0_0))) (k0_pay6 (View.ld x6 (Rect.unit ![1, 0, 0] S1x256x128.size inb_S8x256x128_S1x256x128_1_0_0)))
    (View.ld x6 (Rect.unit ![2, 0, 0] S1x256x128.size inb_S8x256x128_S1x256x128_2_0_0))
    (View.ld x6 (Rect.unit ![3, 0, 0] S1x256x128.size inb_S8x256x128_S1x256x128_3_0_0))
    (View.ld x6 (Rect.unit ![4, 0, 0] S1x256x128.size inb_S8x256x128_S1x256x128_4_0_0))
    (View.ld x6 (Rect.unit ![5, 0, 0] S1x256x128.size inb_S8x256x128_S1x256x128_5_0_0))
    (View.ld x6 (Rect.unit ![6, 0, 0] S1x256x128.size inb_S8x256x128_S1x256x128_6_0_0))
    (View.ld x6 (Rect.unit ![7, 0, 0] S1x256x128.size inb_S8x256x128_S1x256x128_7_0_0)) (ix2 r q) = (rowB x0 x1 x2 x3 x4 x5 x6 x7 x8 r).hid q := by
  pointwise [k0_pay8]
  simp only [gate_at x0 x1 x2 x3 x4 x5 x6 x7 x8, proj_at x0 x1 x2 x3 x4 x5 x6 x7 x8]
  rfl

theorem scale_at : scaleB x0 x1 x4 x5 x6 (ix2 r 0) = Cert.Rows.inv (rowB x0 x1 x2 x3 x4 x5 x6 x7 x8 r).hid := by
  unfold scaleB
  pointwise [k0_pay9]
  simp only [hid_at x0 x1 x2 x3 x4 x5 x6 x7 x8]
  rfl

theorem last_at (q : Fin 1024) : lastB x0 x1 x4 x5 x6 (ix2 r q) = (rowB x0 x1 x2 x3 x4 x5 x6 x7 x8 r).hid q * Cert.Rows.inv (rowB x0 x1 x2 x3 x4 x5 x6 x7 x8 r).hid := by
  unfold lastB
  pointwise [k0_pay10]
  rw [hid_at x0 x1 x2 x3 x4 x5 x6 x7 x8]
  exact congrArg ((rowB x0 x1 x2 x3 x4 x5 x6 x7 x8 r).hid q * ·) (scale_at x0 x1 x2 x3 x4 x5 x6 x7 x8 r)

theorem err_at (q : Fin 1024) : errB x0 x1 x2 x4 x5 x6 x7 (ix2 r q) = (rowB x0 x1 x2 x3 x4 x5 x6 x7 x8 r).err q := by
  unfold errB
  pointwise [k0_pay11]
  exact congrArg (fun a : EReal => a * x7 (ix2 0 q) - x2 (ix2 r q)) (last_at x0 x1 x2 x3 x4 x5 x6 x7 x8 r q)

theorem mean_at : lossB x0 x1 x2 x4 x5 x6 x7 (ix2 r 0) = (rowB x0 x1 x2 x3 x4 x5 x6 x7 x8 r).mean := by
  unfold lossB
  pointwise [k0_pay12]
  exact congrArg (fun a : EReal => Ideal.div a (Ideal.ofBits .f32 1149239296#32)) (Finset.sum_congr rfl fun q _ => congrArg (fun a : EReal => a * a) (err_at x0 x1 x2 x3 x4 x5 x6 x7 x8 r q))

theorem grad_at (q : Fin 1024) : gradB x0 x1 x2 x4 x5 x6 x7 (ix2 r q) = (rowB x0 x1 x2 x3 x4 x5 x6 x7 x8 r).dn q := by
  unfold gradB
  pointwise [k0_pay18, k0_pay15]
  rw [err_at x0 x1 x2 x3 x4 x5 x6 x7 x8]
  rfl

theorem along_at (q : Fin 1024) : alongB x0 x1 x2 x4 x5 x6 x7 (ix2 r q) = (rowB x0 x1 x2 x3 x4 x5 x6 x7 x8 r).hid q * Cert.Rows.inv (rowB x0 x1 x2 x3 x4 x5 x6 x7 x8 r).hid *
    Ideal.div (∑ i, (rowB x0 x1 x2 x3 x4 x5 x6 x7 x8 r).dn i * ((rowB x0 x1 x2 x3 x4 x5 x6 x7 x8 r).hid i * Cert.Rows.inv (rowB x0 x1 x2 x3 x4 x5 x6 x7 x8 r).hid)) (Ideal.ofBits .f32 1149239296#32) := by
  unfold alongB
  pointwise [k0_pay19]
  simp only [last_at x0 x1 x2 x3 x4 x5 x6 x7 x8]
  exact congrArg (fun a : EReal => (rowB x0 x1 x2 x3 x4 x5 x6 x7 x8 r).hid q * Cert.Rows.inv (rowB x0 x1 x2 x3 x4 x5 x6 x7 x8 r).hid * Ideal.div a (Ideal.ofBits .f32 1149239296#32)) (Finset.sum_congr rfl fun i _ => congrArg (fun a : EReal => a * ((rowB x0 x1 x2 x3 x4 x5 x6 x7 x8 r).hid i * Cert.Rows.inv (rowB x0 x1 x2 x3 x4 x5 x6 x7 x8 r).hid)) (grad_at x0 x1 x2 x3 x4 x5 x6 x7 x8 r i))

theorem dhid_at (q : Fin 1024) : k0_pay20 (scaleB x0 x1 x4 x5 x6) (gradB x0 x1 x2 x4 x5 x6 x7) (alongB x0 x1 x2 x4 x5 x6 x7) (ix2 r q) = (rowB x0 x1 x2 x3 x4 x5 x6 x7 x8 r).dhid q := by
  pointwise [k0_pay20]
  rw [grad_at x0 x1 x2 x3 x4 x5 x6 x7 x8, along_at x0 x1 x2 x3 x4 x5 x6 x7 x8]
  exact congrArg (fun a : EReal => a * _) (scale_at x0 x1 x2 x3 x4 x5 x6 x7 x8 r)

theorem dproj_at (q : Fin 1024) : k0_pay21 (gateB x0 x4 x5) (scaleB x0 x1 x4 x5 x6) (gradB x0 x1 x2 x4 x5 x6 x7) (alongB x0 x1 x2 x4 x5 x6 x7) (ix2 r q) = (rowB x0 x1 x2 x3 x4 x5 x6 x7 x8 r).dproj q := by
  pointwise [k0_pay21]
  rw [dhid_at x0 x1 x2 x3 x4 x5 x6 x7 x8, gate_at x0 x1 x2 x3 x4 x5 x6 x7 x8]
  rfl

theorem dlogit_at (q : Fin 1024) : k0_pay22 (gateB x0 x4 x5) (projB x1 x6) (scaleB x0 x1 x4 x5 x6) (gradB x0 x1 x2 x4 x5 x6 x7) (alongB x0 x1 x2 x4 x5 x6 x7) (ix2 r q) = (rowB x0 x1 x2 x3 x4 x5 x6 x7 x8 r).dlogit q := by
  pointwise [k0_pay22]
  rw [dhid_at x0 x1 x2 x3 x4 x5 x6 x7 x8, gate_at x0 x1 x2 x3 x4 x5 x6 x7 x8]
  exact congrArg (fun a : EReal => (rowB x0 x1 x2 x3 x4 x5 x6 x7 x8 r).dhid q * a * (rowB x0 x1 x2 x3 x4 x5 x6 x7 x8 r).gate q * (1 - (rowB x0 x1 x2 x3 x4 x5 x6 x7 x8 r).gate q)) (proj_at x0 x1 x2 x3 x4 x5 x6 x7 x8 r q)

theorem du_at (q : Fin 1024) : k0_pay23 (gateB x0 x4 x5) (projB x1 x6) (scaleB x0 x1 x4 x5 x6) (gradB x0 x1 x2 x4 x5 x6 x7) (alongB x0 x1 x2 x4 x5 x6 x7) x5 (ix2 r q) = (rowB x0 x1 x2 x3 x4 x5 x6 x7 x8 r).du q := by
  pointwise [k0_pay23]
  simp only [dlogit_at x0 x1 x2 x3 x4 x5 x6 x7 x8]
  rfl

theorem back_at (q : Fin 1024) : backB x0 x1 x2 x4 x5 x6 x7 (ix2 r q) = Cert.Rows.Head.back (rowB x0 x1 x2 x3 x4 x5 x6 x7 x8 r).h (fun i => (rowB x0 x1 x2 x3 x4 x5 x6 x7 x8 r).du i * (rowB x0 x1 x2 x3 x4 x5 x6 x7 x8 r).gp i) q := by
  unfold backB
  pointwise [k0_pay26, k0_pay25, k0_pay24]
  simp only [du_at x0 x1 x2 x3 x4 x5 x6 x7 x8]
  rfl

theorem dh_at (q : Fin 1024) : k0_pay30 (headB x0 x1 x2 x4 x5 x6 x7) (backB x0 x1 x2 x4 x5 x6 x7) (ix2 r q) = (rowB x0 x1 x2 x3 x4 x5 x6 x7 x8 r).dh q := by
  pointwise [k0_pay30]
  rw [back_at x0 x1 x2 x3 x4 x5 x6 x7 x8]
  exact congrArg (fun a : EReal => a + _) (dhid_at x0 x1 x2 x3 x4 x5 x6 x7 x8 r q)

theorem low_at (q : Fin 1024) : lowB x0 x1 x2 x4 x5 x6 x7 (ix2 r q) = (rowB x0 x1 x2 x3 x4 x5 x6 x7 x8 r).dh q := by
  unfold lowB
  pointwise [k0_pay31]
  exact dh_at x0 x1 x2 x3 x4 x5 x6 x7 x8 r q

/-- The rows' part of the sums, added to what is carried. -/
theorem loss_at (s : S8x128.Idx → EReal) (p : Fin 8) (q : Fin 128) :
    k0_pay14 (lossB x0 x1 x2 x4 x5 x6 x7) s (ix2 p q) = s (ix2 p q) + ∑ k : Fin 256, (rowB x0 x1 x2 x3 x4 x5 x6 x7 x8 k).lossPart := by
  pointwise [k0_pay14]
  refine congrArg (_ + ·) (Finset.sum_congr rfl fun k _ => ?_)
  exact congrArg (Ideal.ofBits .f32 1056964608#32 * ·) (mean_at x0 x1 x2 x3 x4 x5 x6 x7 x8 k)

theorem lastPart_at (s : S8x1024.Idx → EReal) (p : Fin 8) (q : Fin 1024) :
    k0_pay17 (lastB x0 x1 x4 x5 x6) (errB x0 x1 x2 x4 x5 x6 x7) s (ix2 p q) = s (ix2 p q) + ∑ k : Fin 256, (rowB x0 x1 x2 x3 x4 x5 x6 x7 x8 k).lastPart q := by
  pointwise [k0_pay17, k0_pay15]
  simp only [last_at x0 x1 x2 x3 x4 x5 x6 x7 x8, err_at x0 x1 x2 x3 x4 x5 x6 x7 x8]
  rfl

theorem gainPart_at (s : S8x1024.Idx → EReal) (p : Fin 8) (q : Fin 1024) :
    k0_pay29 (k0_pay27 x0 (gateB x0 x4 x5) (projB x1 x6) (scaleB x0 x1 x4 x5 x6) (gradB x0 x1 x2 x4 x5 x6 x7) (alongB x0 x1 x2 x4 x5 x6 x7) x5) s (ix2 p q) = s (ix2 p q) + ∑ k : Fin 256, (rowB x0 x1 x2 x3 x4 x5 x6 x7 x8 k).gainPart q := by
  pointwise [k0_pay29, k0_pay27, k0_pay25, k0_pay24]
  simp only [du_at x0 x1 x2 x3 x4 x5 x6 x7 x8]
  rfl

/-- The rows' inner values, as one block. -/
def blockOf (f : Fin 256 → Fin 8 → Fin 512 → EReal) (i : S256x4096.Idx) : EReal :=
  f (i 0) ⟨(i 1).val / 512, by have : (i 1).val < 4096 := (i 1).isLt; omega⟩ ⟨(i 1).val % 512, by omega⟩

theorem blockOf_at (f : Fin 256 → Fin 8 → Fin 512 → EReal) (r : Fin 256) (q : Fin 4096) :
    blockOf f (ix2 r q) = f r ⟨q.val / 512, by omega⟩ ⟨q.val % 512, by omega⟩ := rfl

/-- A group's piece, at its columns. -/
theorem placed (f : Fin 256 → Fin 8 → Fin 512 → EReal) (n : Fin 8) (o : ℕ) (ho : o = 512 * n.val)
    (inb : ∀ a, (![0, o] : Fin 2 → ℕ) a + S256x512.size a ≤ S256x4096.size a) (w : S256x512.Idx → EReal)
    (hw : ∀ r l, w (ix2 r l) = f r n l) (x : S256x512.Idx) : w x = blockOf f ((Rect.unit (s := S256x4096) ![0, o] S256x512.size inb).emb x) := by
  obtain ⟨r, l, rfl⟩ : ∃ (r : Fin 256) (l : Fin 512), x = ix2 r l := ⟨x 0, x 1, by funext a; match a with | ⟨0, _⟩ => rfl | ⟨1, _⟩ => rfl⟩
  rw [hw]
  unfold blockOf
  have e1 : (((Rect.unit (s := S256x4096) ![0, o] S256x512.size inb).emb (ix2 r l)) 1).val = o + l.val := by
    rw [Rect.emb_apply]; show o + 1 * l.val = _; omega
  have e0 : ((Rect.unit (s := S256x4096) ![0, o] S256x512.size inb).emb (ix2 r l)) 0 = r := by
    apply Fin.ext; rw [Rect.emb_apply]; show 0 + 1 * r.val = _; omega
  congr 1
  · rw [e0]
  · apply Fin.ext; dsimp only; rw [e1]; omega
  · apply Fin.ext; dsimp only; rw [e1]; omega

theorem inner_at (i : S256x4096.Idx) : View.canon (innerB x0 x1 x2 x3 x4 x5 x6 x7 x8) i = blockOf (fun r => (rowB x0 x1 x2 x3 x4 x5 x6 x7 x8 r).da) i := by
  have hc := View.cover_of_tiledL (innerB x0 x1 x2 x3 x4 x5 x6 x7 x8) S256x512.size (by sl_kernel_rfl) i
  revert hc
  unfold innerB
  refine View.canon_apply_of_pieces _ _ ?_ i
  simp only [List.mem_cons, List.not_mem_nil, or_false]
  rintro p (rfl | rfl | rfl | rfl | rfl | rfl | rfl | rfl)
  · exact placed (fun r => (rowB x0 x1 x2 x3 x4 x5 x6 x7 x8 r).da) 7 3584 rfl inb_S256x4096_S256x512_0_3584 _ fun r l => by
      pointwise [k0_pay1]
      exact congrArg (fun a : EReal => a * _) (Finset.sum_congr rfl fun k _ => congrArg (fun a : EReal => a * x8 (ix3 7 l k)) (low_at x0 x1 x2 x3 x4 x5 x6 x7 x8 r k))
  · exact placed (fun r => (rowB x0 x1 x2 x3 x4 x5 x6 x7 x8 r).da) 6 3072 rfl inb_S256x4096_S256x512_0_3072 _ fun r l => by
      pointwise [k0_pay41]
      exact congrArg (fun a : EReal => a * _) (Finset.sum_congr rfl fun k _ => congrArg (fun a : EReal => a * x8 (ix3 6 l k)) (low_at x0 x1 x2 x3 x4 x5 x6 x7 x8 r k))
  · exact placed (fun r => (rowB x0 x1 x2 x3 x4 x5 x6 x7 x8 r).da) 5 2560 rfl inb_S256x4096_S256x512_0_2560 _ fun r l => by
      pointwise [k0_pay40]
      exact congrArg (fun a : EReal => a * _) (Finset.sum_congr rfl fun k _ => congrArg (fun a : EReal => a * x8 (ix3 5 l k)) (low_at x0 x1 x2 x3 x4 x5 x6 x7 x8 r k))
  · exact placed (fun r => (rowB x0 x1 x2 x3 x4 x5 x6 x7 x8 r).da) 4 2048 rfl inb_S256x4096_S256x512_0_2048 _ fun r l => by
      pointwise [k0_pay39, k0_pay38]
      exact congrArg (fun a : EReal => a * _) (Finset.sum_congr rfl fun k _ => congrArg (fun a : EReal => a * x8 (ix3 4 l k)) (low_at x0 x1 x2 x3 x4 x5 x6 x7 x8 r k))
  · exact placed (fun r => (rowB x0 x1 x2 x3 x4 x5 x6 x7 x8 r).da) 3 1536 rfl inb_S256x4096_S256x512_0_1536 _ fun r l => by
      pointwise [k0_pay37]
      exact congrArg (fun a : EReal => a * _) (Finset.sum_congr rfl fun k _ => congrArg (fun a : EReal => a * x8 (ix3 3 l k)) (low_at x0 x1 x2 x3 x4 x5 x6 x7 x8 r k))
  · exact placed (fun r => (rowB x0 x1 x2 x3 x4 x5 x6 x7 x8 r).da) 2 1024 rfl inb_S256x4096_S256x512_0_1024 _ fun r l => by
      pointwise [k0_pay36]
      exact congrArg (fun a : EReal => a * _) (Finset.sum_congr rfl fun k _ => congrArg (fun a : EReal => a * x8 (ix3 2 l k)) (low_at x0 x1 x2 x3 x4 x5 x6 x7 x8 r k))
  · exact placed (fun r => (rowB x0 x1 x2 x3 x4 x5 x6 x7 x8 r).da) 1 512 rfl inb_S256x4096_S256x512_0_512 _ fun r l => by
      pointwise [k0_pay35, k0_pay34, k0_pay33]
      exact congrArg (fun a : EReal => a * _) (Finset.sum_congr rfl fun k _ => congrArg (fun a : EReal => a * x8 (ix3 1 l k)) (low_at x0 x1 x2 x3 x4 x5 x6 x7 x8 r k))
  · exact placed (fun r => (rowB x0 x1 x2 x3 x4 x5 x6 x7 x8 r).da) 0 0 rfl inb_S256x4096_S256x512_0_0 _ fun r l => by
      pointwise [k0_pay32]
      exact congrArg₂ (fun (a : EReal) (b : Fin 4096) => a * (Ideal.ofBits .f32 1073741824#32 * max (x3 (ix2 r b)) 0)) (Finset.sum_congr rfl fun k _ => congrArg (fun a : EReal => a * x8 (ix3 0 l k)) (low_at x0 x1 x2 x3 x4 x5 x6 x7 x8 r k)) (Fin.ext (show l.val = 512 * 0 + l.val by omega))

end Block

end Cert.HeadIdeal.Rows

end
-- ==== Proof.Rows.HeadSum.lean ====
/- The last layers' backward pass: what the call leaves. -/
module

public import proofs.«01_k».proof.Defs
public import proofs.«01_k».proof.Proof.Rows.Head
public import proofs.«01_k».proof.Proof.Weights.Sums
public import proofs.«01_k».proof.Proof.Gen.HeadIdeal.Value

@[expose] public section

noncomputable section

namespace Cert.HeadIdeal.Rows

open Cert.HeadIdeal Cert.HeadIdeal.Gen Idealize.ShloMosaic Idealize.ShloMosaic.TcCoe Idealize.SL.Sem
open Cert.Rows.Head (Row)

variable (m : (ℓ : Loc nD τ sig) → Buf (Elt Ideal) ℓ) (c : Dev nD)

/-- The arguments. -/
abbrev hids : S8192x1024.Idx → EReal := m ((c : Thread nD τ).loc main_arg0)
abbrev embs : S8192x256.Idx → EReal := m ((c : Thread nD τ).loc main_arg1)
abbrev tgts : S8192x1024.Idx → EReal := m ((c : Thread nD τ).loc main_arg2)
abbrev acts : S8192x4096.Idx → EReal := m ((c : Thread nD τ).loc main_arg3)
abbrev gainP : S1x1024.Idx → EReal := m ((c : Thread nD τ).loc main_arg4)
abbrev wgate : S1024x1024.Idx → EReal := m ((c : Thread nD τ).loc main_arg5)
abbrev wproj : S8x256x128.Idx → EReal := m ((c : Thread nD τ).loc main_arg6)
abbrev gainF : S1x1024.Idx → EReal := m ((c : Thread nD τ).loc main_arg7)
abbrev wout : S8x512x1024.Idx → EReal := m ((c : Thread nD τ).loc main_arg8)

/-- A row of the arrays, with the weights. -/
def rowOf (p : Fin 8192) : Row where
  h q := hids m c (ix2 p q)
  p k := embs m c (ix2 p k)
  t q := tgts m c (ix2 p q)
  a k := acts m c (ix2 p k)
  gp q := gainP m c (ix2 0 q)
  gf q := gainF m c (ix2 0 q)
  wg k q := wgate m c (ix2 k q)
  wp n k l := wproj m c (ix3 n k l)
  w2 n l q := wout m c (ix3 n l q)

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index9 : ∀ t : Fin cfg0.N, win0_9.index t 0 = t.val ∧ win0_9.index t 1 = 0 := (by decide +kernel : ∀ t : Fin grid0.N, _)
theorem index10 : ∀ t : Fin cfg0.N, win0_10.index t 0 = t.val ∧ win0_10.index t 1 = 0 := (by decide +kernel : ∀ t : Fin grid0.N, _)
theorem index11 : ∀ t : Fin cfg0.N, win0_11.index t 0 = t.val ∧ win0_11.index t 1 = 0 := (by decide +kernel : ∀ t : Fin grid0.N, _)
theorem index12 : ∀ t : Fin cfg0.N, win0_12.index t 0 = t.val ∧ win0_12.index t 1 = 0 := (by decide +kernel : ∀ t : Fin grid0.N, _)
theorem index13 : ∀ t : Fin cfg0.N, win0_13.index t 0 = t.val ∧ win0_13.index t 1 = 0 := (by decide +kernel : ∀ t : Fin grid0.N, _)
theorem index14 : ∀ t : Fin cfg0.N, win0_14.index t 0 = t.val ∧ win0_14.index t 1 = 0 := (by decide +kernel : ∀ t : Fin grid0.N, _)
theorem index4 : ∀ t : Fin cfg0.N, ∀ a, win0_4.index t a = 0 := (by decide +kernel : ∀ t : Fin grid0.N, _)
theorem index5 : ∀ t : Fin cfg0.N, ∀ a, win0_5.index t a = 0 := (by decide +kernel : ∀ t : Fin grid0.N, _)
theorem index6 : ∀ t : Fin cfg0.N, ∀ a, win0_6.index t a = 0 := (by decide +kernel : ∀ t : Fin grid0.N, _)
theorem index7 : ∀ t : Fin cfg0.N, ∀ a, win0_7.index t a = 0 := (by decide +kernel : ∀ t : Fin grid0.N, _)
theorem index8 : ∀ t : Fin cfg0.N, ∀ a, win0_8.index t a = 0 := (by decide +kernel : ∀ t : Fin grid0.N, _)
theorem index15 : ∀ t : Fin cfg0.N, ∀ a, win0_15.index t a = 0 := (by decide +kernel : ∀ t : Fin grid0.N, _)
theorem index16 : ∀ t : Fin cfg0.N, ∀ a, win0_16.index t a = 0 := (by decide +kernel : ∀ t : Fin grid0.N, _)
theorem index17 : ∀ t : Fin cfg0.N, ∀ a, win0_17.index t a = 0 := (by decide +kernel : ∀ t : Fin grid0.N, _)

/-- The row of the whole arrays that a block's row is. -/
def at' (t : Fin cfg0.N) (r : Fin 256) : Fin 8192 :=
  ⟨256 * t.val + r.val, by have := lt_of_lt_of_eq t.isLt N_0; have := r.isLt; omega⟩

/-- The blocks a step reads. -/
theorem hids_at (t : Fin cfg0.N) (r : Fin 256) (l : Fin 1024) : (iblk m c 0 t : S256x1024.Idx → EReal) (ix2 r l) = hids m c (ix2 (at' t r) l) := by
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [(index0 t).1]; ring
  | ⟨1, _⟩ => show win0_0.index t 1 * 1024 + 1 * l.val = l.val; rw [(index0 t).2]; ring

theorem embs_at (t : Fin cfg0.N) (r : Fin 256) (l : Fin 256) : (iblk m c 1 t : S256x256.Idx → EReal) (ix2 r l) = embs m c (ix2 (at' t r) l) := by
  unfold iblk
  rw [View.read_apply]
  show V m c main_arg1 _ = _
  rw [V_main_arg1]
  congr 1
  funext a
  apply Fin.ext
  match a with
  | ⟨0, _⟩ => show win0_1.index t 0 * 256 + 1 * r.val = 256 * t.val + r.val; rw [(index1 t).1]; ring
  | ⟨1, _⟩ => show win0_1.index t 1 * 256 + 1 * l.val = l.val; rw [(index1 t).2]; ring

theorem tgts_at (t : Fin cfg0.N) (r : Fin 256) (l : Fin 1024) : (iblk m c 2 t : S256x1024.Idx → EReal) (ix2 r l) = tgts m c (ix2 (at' t r) l) := by
  unfold iblk
  rw [View.read_apply]
  show V m c main_arg2 _ = _
  rw [V_main_arg2]
  congr 1
  funext a
  apply Fin.ext
  match a with
  | ⟨0, _⟩ => show win0_2.index t 0 * 256 + 1 * r.val = 256 * t.val + r.val; rw [(index2 t).1]; ring
  | ⟨1, _⟩ => show win0_2.index t 1 * 1024 + 1 * l.val = l.val; rw [(index2 t).2]; ring

theorem acts_at (t : Fin cfg0.N) (r : Fin 256) (l : Fin 4096) : (iblk m c 3 t : S256x4096.Idx → EReal) (ix2 r l) = acts m c (ix2 (at' t r) l) := by
  unfold iblk
  rw [View.read_apply]
  show V m c main_arg3 _ = _
  rw [V_main_arg3]
  congr 1
  funext a
  apply Fin.ext
  match a with
  | ⟨0, _⟩ => show win0_3.index t 0 * 256 + 1 * r.val = 256 * t.val + r.val; rw [(index3 t).1]; ring
  | ⟨1, _⟩ => show win0_3.index t 1 * 4096 + 1 * l.val = l.val; rw [(index3 t).2]; ring

theorem gainP_at (t : Fin cfg0.N) : (iblk m c 4 t : S1x1024.Idx → EReal) = gainP m c := by
  funext i
  unfold iblk
  rw [View.read_apply]
  show V m c main_arg4 _ = _
  rw [V_main_arg4]
  congr 1
  funext a
  apply Fin.ext
  match a with
  | ⟨0, _⟩ => show win0_4.index t 0 * 1 + 1 * (i 0).val = (i 0).val; rw [index4 t 0]; ring
  | ⟨1, _⟩ => show win0_4.index t 1 * 1024 + 1 * (i 1).val = (i 1).val; rw [index4 t 1]; ring

theorem wgate_at (t : Fin cfg0.N) : (iblk m c 5 t : S1024x1024.Idx → EReal) = wgate m c := by
  funext i
  unfold iblk
  rw [View.read_apply]
  show V m c main_arg5 _ = _
  rw [V_main_arg5]
  congr 1
  funext a
  apply Fin.ext
  match a with
  | ⟨0, _⟩ => show win0_5.index t 0 * 1024 + 1 * (i 0).val = (i 0).val; rw [index5 t 0]; ring
  | ⟨1, _⟩ => show win0_5.index t 1 * 1024 + 1 * (i 1).val = (i 1).val; rw [index5 t 1]; ring

theorem wproj_at (t : Fin cfg0.N) : (iblk m c 6 t : S8x256x128.Idx → EReal) = wproj m c := by
  funext i
  unfold iblk
  rw [View.read_apply]
  show V m c main_arg6 _ = _
  rw [V_main_arg6]
  congr 1
  funext a
  apply Fin.ext
  match a with
  | ⟨0, _⟩ => show win0_6.index t 0 * 8 + 1 * (i 0).val = (i 0).val; rw [index6 t 0]; ring
  | ⟨1, _⟩ => show win0_6.index t 1 * 256 + 1 * (i 1).val = (i 1).val; rw [index6 t 1]; ring
  | ⟨2, _⟩ => show win0_6.index t 2 * 128 + 1 * (i 2).val = (i 2).val; rw [index6 t 2]; ring

theorem gainF_at (t : Fin cfg0.N) : (iblk m c 7 t : S1x1024.Idx → EReal) = gainF m c := by
  funext i
  unfold iblk
  rw [View.read_apply]
  show V m c main_arg7 _ = _
  rw [V_main_arg7]
  congr 1
  funext a
  apply Fin.ext
  match a with
  | ⟨0, _⟩ => show win0_7.index t 0 * 1 + 1 * (i 0).val = (i 0).val; rw [index7 t 0]; ring
  | ⟨1, _⟩ => show win0_7.index t 1 * 1024 + 1 * (i 1).val = (i 1).val; rw [index7 t 1]; ring

theorem wout_at (t : Fin cfg0.N) : (iblk m c 8 t : S8x512x1024.Idx → EReal) = wout m c := by
  funext i
  unfold iblk
  rw [View.read_apply]
  show V m c main_arg8 _ = _
  rw [V_main_arg8]
  congr 1
  funext a
  apply Fin.ext
  match a with
  | ⟨0, _⟩ => show win0_8.index t 0 * 8 + 1 * (i 0).val = (i 0).val; rw [index8 t 0]; ring
  | ⟨1, _⟩ => show win0_8.index t 1 * 512 + 1 * (i 1).val = (i 1).val; rw [index8 t 1]; ring
  | ⟨2, _⟩ => show win0_8.index t 2 * 1024 + 1 * (i 2).val = (i 2).val; rw [index8 t 2]; ring

theorem row_at (t : Fin cfg0.N) (r : Fin 256) : rowB (iblk m c 0 t) (iblk m c 1 t) (iblk m c 2 t) (iblk m c 3 t) (iblk m c 4 t) (iblk m c 5 t) (iblk m c 6 t) (iblk m c 7 t) (iblk m c 8 t) r = rowOf m c (at' t r) := by
  unfold rowB rowOf
  simp only [hids_at, embs_at, tgts_at, acts_at, gainP_at, wgate_at, wproj_at, gainF_at, wout_at]

/-- What a step leaves at the rows. -/
theorem written (t : Fin cfg0.N) :
    (outsAt0 m c t.val t.isLt).1 = k0_pay22 (gateB (iblk m c 0 t) (iblk m c 4 t) (iblk m c 5 t)) (projB (iblk m c 1 t) (iblk m c 6 t)) (scaleB (iblk m c 0 t) (iblk m c 1 t) (iblk m c 4 t) (iblk m c 5 t) (iblk m c 6 t)) (gradB (iblk m c 0 t) (iblk m c 1 t) (iblk m c 2 t) (iblk m c 4 t) (iblk m c 5 t) (iblk m c 6 t) (iblk m c 7 t)) (alongB (iblk m c 0 t) (iblk m c 1 t) (iblk m c 2 t) (iblk m c 4 t) (iblk m c 5 t) (iblk m c 6 t) (iblk m c 7 t))
    ∧ (outsAt0 m c t.val t.isLt).2.1 = k0_pay21 (gateB (iblk m c 0 t) (iblk m c 4 t) (iblk m c 5 t)) (scaleB (iblk m c 0 t) (iblk m c 1 t) (iblk m c 4 t) (iblk m c 5 t) (iblk m c 6 t)) (gradB (iblk m c 0 t) (iblk m c 1 t) (iblk m c 2 t) (iblk m c 4 t) (iblk m c 5 t) (iblk m c 6 t) (iblk m c 7 t)) (alongB (iblk m c 0 t) (iblk m c 1 t) (iblk m c 2 t) (iblk m c 4 t) (iblk m c 5 t) (iblk m c 6 t) (iblk m c 7 t))
    ∧ (outsAt0 m c t.val t.isLt).2.2.1 = k0_pay2 (F := Ideal) (iblk m c 0 t) (iblk m c 4 t)
    ∧ (outsAt0 m c t.val t.isLt).2.2.2.1 = k0_pay30 (headB (iblk m c 0 t) (iblk m c 1 t) (iblk m c 2 t) (iblk m c 4 t) (iblk m c 5 t) (iblk m c 6 t) (iblk m c 7 t)) (backB (iblk m c 0 t) (iblk m c 1 t) (iblk m c 2 t) (iblk m c 4 t) (iblk m c 5 t) (iblk m c 6 t) (iblk m c 7 t))
    ∧ (outsAt0 m c t.val t.isLt).2.2.2.2.1 = lowB (iblk m c 0 t) (iblk m c 1 t) (iblk m c 2 t) (iblk m c 4 t) (iblk m c 5 t) (iblk m c 6 t) (iblk m c 7 t)
    ∧ (outsAt0 m c t.val t.isLt).2.2.2.2.2.1 = View.canon (innerB (iblk m c 0 t) (iblk m c 1 t) (iblk m c 2 t) (iblk m c 3 t) (iblk m c 4 t) (iblk m c 5 t) (iblk m c 6 t) (iblk m c 7 t) (iblk m c 8 t)) := by
  by_cases h : t.val % 32 = 0
  · rw [outsAt0_A m c t h h h]
    refine ⟨?_, ?_, ?_, ?_, ?_, ?_⟩
    · dsimp only; rw [(first ..).1]
    · dsimp only; rw [(first ..).2.1]
    · dsimp only; rw [(first ..).2.2.1]
    · dsimp only; rw [(first ..).2.2.2.1]
    · dsimp only; rw [(first ..).2.2.2.2.1]
    · dsimp only; rw [(first ..).2.2.2.2.2.1]
  · rw [outsAt0_B m c t h h h]
    refine ⟨?_, ?_, ?_, ?_, ?_, ?_⟩
    · dsimp only; rw [(later ..).1]
    · dsimp only; rw [(later ..).2.1]
    · dsimp only; rw [(later ..).2.2.1]
    · dsimp only; rw [(later ..).2.2.2.1]
    · dsimp only; rw [(later ..).2.2.2.2.1]
    · dsimp only; rw [(later ..).2.2.2.2.2.1]

/-- A quantity of the rows, by row number. -/
def down (f : Row → EReal) (x : ℕ) : EReal := if h : x < 8192 then f (rowOf m c ⟨x, h⟩) else 0

theorem down_block (f : Row → EReal) (t : Fin cfg0.N) : (∑ k : Fin 256, f (rowOf m c (at' t k))) = ∑ k : Fin 256, down m c f (256 * t.val + k) :=
  Finset.sum_congr rfl fun k _ => by
    unfold down
    have hk : 256 * t.val + k.val < 8192 := (at' t k).isLt
    rw [dif_pos hk]
    rfl

theorem down_all (f : Row → EReal) : (∑ x ∈ Finset.range (256 * (31 + 1)), down m c f x) = ∑ x, f (rowOf m c x) := by
  rw [Finset.sum_range]
  refine Finset.sum_congr rfl fun x _ => ?_
  unfold down
  rw [dif_pos x.isLt]

/-- The sums after a point: over the rows so far. -/
theorem carried (p : Fin 8) (l : Fin 128) (q : Fin 1024) : ∀ (n : ℕ) (hn : n < cfg0.N),
    (outsAt0 m c n hn).2.2.2.2.2.2.1 (ix2 p l) = ∑ x ∈ Finset.range (256 * (n + 1)), down m c Row.lossPart x
    ∧ (outsAt0 m c n hn).2.2.2.2.2.2.2.1 (ix2 p q) = ∑ x ∈ Finset.range (256 * (n + 1)), down m c (Row.lastPart · q) x
    ∧ (outsAt0 m c n hn).2.2.2.2.2.2.2.2 (ix2 p q) = ∑ x ∈ Finset.range (256 * (n + 1)), down m c (Row.gainPart · q) x := by
  intro n
  induction n with
  | zero =>
    intro hn
    rw [outsAt0_A m c ⟨0, hn⟩ rfl rfl rfl]
    have z : ∀ f : Row → EReal, 0 + ∑ k : Fin 256, f (rowOf m c (at' ⟨0, hn⟩ k)) = ∑ x ∈ Finset.range (256 * (0 + 1)), down m c f x := fun f => by
      rw [down_block, ← Cert.Weights.range_add_block _ 0 256]
      simp
    refine ⟨?_, ?_, ?_⟩
    · dsimp only; rw [(first ..).2.2.2.2.2.2.1]
      refine (loss_at _ _ _ (iblk m c 3 ⟨0, hn⟩) _ _ _ _ (iblk m c 8 ⟨0, hn⟩) _ _ _).trans ?_
      simp only [row_at]
      rw [show k0_pay13 (F := Ideal) (ix2 p l) = 0 by pointwise [k0_pay13, Ideal.ofBits_zero_f32]]
      exact z _
    · dsimp only; rw [(first ..).2.2.2.2.2.2.2.1]
      refine (lastPart_at _ _ _ (iblk m c 3 ⟨0, hn⟩) _ _ _ _ (iblk m c 8 ⟨0, hn⟩) _ _ _).trans ?_
      simp only [row_at]
      rw [show k0_pay16 (F := Ideal) (ix2 p q) = 0 by pointwise [k0_pay16, Ideal.ofBits_zero_f32]]
      exact z (Row.lastPart · q)
    · dsimp only; rw [(first ..).2.2.2.2.2.2.2.2]
      refine (gainPart_at _ _ _ (iblk m c 3 ⟨0, hn⟩) _ _ _ _ (iblk m c 8 ⟨0, hn⟩) _ _ _).trans ?_
      simp only [row_at]
      rw [show k0_pay28 (F := Ideal) (ix2 p q) = 0 by pointwise [k0_pay28, Ideal.ofBits_zero_f32]]
      exact z (Row.gainPart · q)
  | succ n ih =>
    intro hn
    have hN : n + 1 < 32 := lt_of_lt_of_eq hn N_0
    have h : ¬(⟨n + 1, hn⟩ : Fin cfg0.N).val % 32 = 0 := by dsimp only; omega
    rw [outsAt0_B m c ⟨n + 1, hn⟩ h h h]
    obtain ⟨i1, i2, i3⟩ := ih (Nat.lt_of_succ_lt hn)
    refine ⟨?_, ?_, ?_⟩
    · dsimp only; rw [(later ..).2.2.2.2.2.2.1]
      refine (loss_at _ _ _ (iblk m c 3 ⟨n + 1, hn⟩) _ _ _ _ (iblk m c 8 ⟨n + 1, hn⟩) _ _ _).trans ?_
      simp only [row_at]
      rw [down_block, ← Cert.Weights.range_add_block _ (n + 1) 256]
      exact congrArg (fun a : EReal => a + _) i1
    · dsimp only; rw [(later ..).2.2.2.2.2.2.2.1]
      refine (lastPart_at _ _ _ (iblk m c 3 ⟨n + 1, hn⟩) _ _ _ _ (iblk m c 8 ⟨n + 1, hn⟩) _ _ _).trans ?_
      simp only [row_at]
      rw [down_block m c (Row.lastPart · q), ← Cert.Weights.range_add_block _ (n + 1) 256]
      exact congrArg (fun a : EReal => a + _) i2
    · dsimp only; rw [(later ..).2.2.2.2.2.2.2.2]
      refine (gainPart_at _ _ _ (iblk m c 3 ⟨n + 1, hn⟩) _ _ _ _ (iblk m c 8 ⟨n + 1, hn⟩) _ _ _).trans ?_
      simp only [row_at]
      rw [down_block m c (Row.gainPart · q), ← Cert.Weights.range_add_block _ (n + 1) 256]
      exact congrArg (fun a : EReal => a + _) i3

/-! ## The results -/

theorem result9 (p : Fin 8192) (q : Fin 1024) : ((dats m 0 c).arrAt 9 cfg0.N : S8192x1024.Idx → EReal) (ix2 p q) = (rowOf m c p).dlogit q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks9 m c ⟨p.val / 256, ht⟩ (flush0_9 _)) (ix2 ⟨p.val % 256, hr⟩ q)
  rw [View.read_apply, Value.flushed9, (written m c ⟨p.val / 256, ht⟩).1] at e
  refine Eq.trans (congrArg _ ?_) (e.trans ((dlogit_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) ⟨p.val % 256, hr⟩ q).trans (by rw [row_at, hp])))
  funext a
  apply Fin.ext
  match a with
  | ⟨0, _⟩ => show p.val = win0_9.index ⟨p.val / 256, ht⟩ 0 * 256 + 1 * (p.val % 256); rw [(index9 _).1]; dsimp only; omega
  | ⟨1, _⟩ => show q.val = win0_9.index ⟨p.val / 256, ht⟩ 1 * 1024 + 1 * q.val; rw [(index9 _).2]; ring

theorem result10 (p : Fin 8192) (q : Fin 1024) : ((dats m 0 c).arrAt 10 cfg0.N : S8192x1024.Idx → EReal) (ix2 p q) = (rowOf m c p).dproj q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks10 m c ⟨p.val / 256, ht⟩ (flush0_10 _)) (ix2 ⟨p.val % 256, hr⟩ q)
  rw [View.read_apply, Value.flushed10, (written m c ⟨p.val / 256, ht⟩).2.1] at e
  refine Eq.trans (congrArg _ ?_) (e.trans ((dproj_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) ⟨p.val % 256, hr⟩ q).trans (by rw [row_at, hp])))
  funext a
  apply Fin.ext
  match a with
  | ⟨0, _⟩ => show p.val = win0_10.index ⟨p.val / 256, ht⟩ 0 * 256 + 1 * (p.val % 256); rw [(index10 _).1]; dsimp only; omega
  | ⟨1, _⟩ => show q.val = win0_10.index ⟨p.val / 256, ht⟩ 1 * 1024 + 1 * q.val; rw [(index10 _).2]; ring

theorem result11 (p : Fin 8192) (q : Fin 1024) : ((dats m 0 c).arrAt 11 cfg0.N : S8192x1024.Idx → EReal) (ix2 p q) = (rowOf m c p).normed q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks11 m c ⟨p.val / 256, ht⟩ (flush0_11 _)) (ix2 ⟨p.val % 256, hr⟩ q)
  rw [View.read_apply, Value.flushed11, (written m c ⟨p.val / 256, ht⟩).2.2.1] at e
  refine Eq.trans (congrArg _ ?_) (e.trans ((normed_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) ⟨p.val % 256, hr⟩ q).trans (by rw [row_at, hp])))
  funext a
  apply Fin.ext
  match a with
  | ⟨0, _⟩ => show p.val = win0_11.index ⟨p.val / 256, ht⟩ 0 * 256 + 1 * (p.val % 256); rw [(index11 _).1]; dsimp only; omega
  | ⟨1, _⟩ => show q.val = win0_11.index ⟨p.val / 256, ht⟩ 1 * 1024 + 1 * q.val; rw [(index11 _).2]; ring

theorem result12 (p : Fin 8192) (q : Fin 1024) : ((dats m 0 c).arrAt 12 cfg0.N : S8192x1024.Idx → EReal) (ix2 p q) = (rowOf m c p).dh q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks12 m c ⟨p.val / 256, ht⟩ (flush0_12 _)) (ix2 ⟨p.val % 256, hr⟩ q)
  rw [View.read_apply, Value.flushed12, (written m c ⟨p.val / 256, ht⟩).2.2.2.1] at e
  refine Eq.trans (congrArg _ ?_) (e.trans ((dh_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) ⟨p.val % 256, hr⟩ q).trans (by rw [row_at, hp])))
  funext a
  apply Fin.ext
  match a with
  | ⟨0, _⟩ => show p.val = win0_12.index ⟨p.val / 256, ht⟩ 0 * 256 + 1 * (p.val % 256); rw [(index12 _).1]; dsimp only; omega
  | ⟨1, _⟩ => show q.val = win0_12.index ⟨p.val / 256, ht⟩ 1 * 1024 + 1 * q.val; rw [(index12 _).2]; ring

theorem result13 (p : Fin 8192) (q : Fin 1024) : ((dats m 0 c).arrAt 13 cfg0.N : S8192x1024.Idx → EReal) (ix2 p q) = (rowOf m c p).dh q := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks13 m c ⟨p.val / 256, ht⟩ (flush0_13 _)) (ix2 ⟨p.val % 256, hr⟩ q)
  rw [View.read_apply, Value.flushed13, (written m c ⟨p.val / 256, ht⟩).2.2.2.2.1] at e
  refine Eq.trans (congrArg _ ?_) (e.trans ((low_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) ⟨p.val % 256, hr⟩ q).trans (by rw [row_at, hp])))
  funext a
  apply Fin.ext
  match a with
  | ⟨0, _⟩ => show p.val = win0_13.index ⟨p.val / 256, ht⟩ 0 * 256 + 1 * (p.val % 256); rw [(index13 _).1]; dsimp only; omega
  | ⟨1, _⟩ => show q.val = win0_13.index ⟨p.val / 256, ht⟩ 1 * 1024 + 1 * q.val; rw [(index13 _).2]; ring

theorem result14 (p : Fin 8192) (q : Fin 4096) : ((dats m 0 c).arrAt 14 cfg0.N : S8192x4096.Idx → EReal) (ix2 p q) = (rowOf m c p).da ⟨q.val / 512, by omega⟩ ⟨q.val % 512, by omega⟩ := by
  have ht : p.val / 256 < cfg0.N := by rw [show cfg0.N = 32 from N_0]; omega
  have hr : p.val % 256 < 256 := Nat.mod_lt _ (by decide)
  have hp : at' ⟨p.val / 256, ht⟩ ⟨p.val % 256, hr⟩ = p := Fin.ext (by show 256 * (p.val / 256) + p.val % 256 = p.val; omega)
  have e := congrFun (Value.blocks14 m c ⟨p.val / 256, ht⟩ (flush0_14 _)) (ix2 ⟨p.val % 256, hr⟩ q)
  rw [View.read_apply, Value.flushed14, (written m c ⟨p.val / 256, ht⟩).2.2.2.2.2] at e
  refine Eq.trans (congrArg _ ?_) (e.trans ((inner_at (iblk m c 0 ⟨p.val / 256, ht⟩) (iblk m c 1 ⟨p.val / 256, ht⟩) (iblk m c 2 ⟨p.val / 256, ht⟩) (iblk m c 3 ⟨p.val / 256, ht⟩) (iblk m c 4 ⟨p.val / 256, ht⟩) (iblk m c 5 ⟨p.val / 256, ht⟩) (iblk m c 6 ⟨p.val / 256, ht⟩) (iblk m c 7 ⟨p.val / 256, ht⟩) (iblk m c 8 ⟨p.val / 256, ht⟩) (ix2 ⟨p.val % 256, hr⟩ q)).trans ((blockOf_at _ _ _).trans (by rw [row_at, hp]))))
  funext a
  apply Fin.ext
  match a with
  | ⟨0, _⟩ => show p.val = win0_14.index ⟨p.val / 256, ht⟩ 0 * 256 + 1 * (p.val % 256); rw [(index14 _).1]; dsimp only; omega
  | ⟨1, _⟩ => show q.val = win0_14.index ⟨p.val / 256, ht⟩ 1 * 4096 + 1 * q.val; rw [(index14 _).2]; ring

theorem last : ∃ t : Fin cfg0.N, t.val = 31 := ⟨⟨31, by rw [show cfg0.N = 32 from N_0]; decide⟩, rfl⟩

/-- The block is written back at the last point alone. -/
theorem disjoint15 : ∀ t t' : Fin cfg0.N, (cfg0.win 15).flush t = true → (cfg0.win 15).flush t' = true → t ≠ t' →
    Disjoint ((cfg0.win 15).blk t).view.set ((cfg0.win 15).blk t').view.set := fun t t' h h' hne => by
  have := (flush0_15 t).1 h; have := (flush0_15 t').1 h'
  have := lt_of_lt_of_eq t.isLt N_0; have := lt_of_lt_of_eq t'.isLt N_0
  exact absurd (Fin.ext (by omega)) hne

theorem result15 (p : Fin 8) (q : Fin 128) : ((dats m 0 c).arrAt 15 cfg0.N : S8x128.Idx → EReal) (ix2 p q) = ∑ x, (rowOf m c x).lossPart := by
  obtain ⟨t, ht⟩ := last
  have e := congrFun ((dats m 0 c).read_blk_arrAt_eq_flushed 15 disjoint15 cfg0.N t t.isLt ((flush0_15 _).2 (by rw [ht]))) (ix2 p q)
  rw [View.read_apply, Value.flushed15] at e
  refine Eq.trans (congrArg _ ?_) (e.trans ((carried m c p q 0 t.val t.isLt).1.trans (Eq.trans (by rw [ht]) (down_all m c Row.lossPart))))
  funext a
  apply Fin.ext
  match a with
  | ⟨0, _⟩ => show p.val = win0_15.index t 0 * 8 + 1 * p.val; rw [index15 _ 0]; ring
  | ⟨1, _⟩ => show q.val = win0_15.index t 1 * 128 + 1 * q.val; rw [index15 _ 1]; ring

/-- The block is written back at the last point alone. -/
theorem disjoint16 : ∀ t t' : Fin cfg0.N, (cfg0.win 16).flush t = true → (cfg0.win 16).flush t' = true → t ≠ t' →
    Disjoint ((cfg0.win 16).blk t).view.set ((cfg0.win 16).blk t').view.set := fun t t' h h' hne => by
  have := (flush0_16 t).1 h; have := (flush0_16 t').1 h'
  have := lt_of_lt_of_eq t.isLt N_0; have := lt_of_lt_of_eq t'.isLt N_0
  exact absurd (Fin.ext (by omega)) hne

theorem result16 (p : Fin 8) (q : Fin 1024) : ((dats m 0 c).arrAt 16 cfg0.N : S8x1024.Idx → EReal) (ix2 p q) = ∑ x, (rowOf m c x).lastPart q := by
  obtain ⟨t, ht⟩ := last
  have e := congrFun ((dats m 0 c).read_blk_arrAt_eq_flushed 16 disjoint16 cfg0.N t t.isLt ((flush0_16 _).2 (by rw [ht]))) (ix2 p q)
  rw [View.read_apply, Value.flushed16] at e
  refine Eq.trans (congrArg _ ?_) (e.trans ((carried m c p 0 q t.val t.isLt).2.1.trans (Eq.trans (by rw [ht]) (down_all m c (Row.lastPart · q)))))
  funext a
  apply Fin.ext
  match a with
  | ⟨0, _⟩ => show p.val = win0_16.index t 0 * 8 + 1 * p.val; rw [index16 _ 0]; ring
  | ⟨1, _⟩ => show q.val = win0_16.index t 1 * 1024 + 1 * q.val; rw [index16 _ 1]; ring

/-- The block is written back at the last point alone. -/
theorem disjoint17 : ∀ t t' : Fin cfg0.N, (cfg0.win 17).flush t = true → (cfg0.win 17).flush t' = true → t ≠ t' →
    Disjoint ((cfg0.win 17).blk t).view.set ((cfg0.win 17).blk t').view.set := fun t t' h h' hne => by
  have := (flush0_17 t).1 h; have := (flush0_17 t').1 h'
  have := lt_of_lt_of_eq t.isLt N_0; have := lt_of_lt_of_eq t'.isLt N_0
  exact absurd (Fin.ext (by omega)) hne

theorem result17 (p : Fin 8) (q : Fin 1024) : ((dats m 0 c).arrAt 17 cfg0.N : S8x1024.Idx → EReal) (ix2 p q) = ∑ x, (rowOf m c x).gainPart q := by
  obtain ⟨t, ht⟩ := last
  have e := congrFun ((dats m 0 c).read_blk_arrAt_eq_flushed 17 disjoint17 cfg0.N t t.isLt ((flush0_17 _).2 (by rw [ht]))) (ix2 p q)
  rw [View.read_apply, Value.flushed17] at e
  refine Eq.trans (congrArg _ ?_) (e.trans ((carried m c p 0 q t.val t.isLt).2.2.trans (Eq.trans (by rw [ht]) (down_all m c (Row.gainPart · q)))))
  funext a
  apply Fin.ext
  match a with
  | ⟨0, _⟩ => show p.val = win0_17.index t 0 * 8 + 1 * p.val; rw [index17 _ 0]; ring
  | ⟨1, _⟩ => show q.val = win0_17.index t 1 * 1024 + 1 * q.val; rw [index17 _ 1]; ring

end Cert.HeadIdeal.Rows

end
-- ==== Proof.Rows.HeadPlain.lean ====
/- The last layers' backward pass: the plain lines, read row by row, and the call matched with them. -/
module

public import proofs.«01_k».proof.Proof.Rows.HeadSum
public import proofs.«01_k».proof.Proof.Rows.HeadReal
public import proofs.«01_k».proof.Proof.Gen.HeadRefIdeal.Run

@[expose] public section

noncomputable section

namespace Cert.HeadRefIdeal.Rows

open Cert.HeadRefIdeal Cert.HeadRefIdeal.Gen Idealize.ShloMosaic Idealize.ShloMosaic.TcCoe
open Cert.Rows.Head (Row)

/-! ## The plain lines, by name -/

/-- The norm's gradient. -/
def back (x v : FVec Ideal S8192x1024 .f32) : FVec Ideal S8192x1024 .f32 :=
  addf (mulf v (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (broadcastInDim S8192x1024 ![0] bcast_S8192_S8192x1024_0 (Host.reduceAdd (Host.divf (mulf (shapeCast _ (Host.reduceAdd (mulf x v) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) (mulf (broadcastInDim S8192x1024 ![] bcast_S_S8192x1024 (constant S_ .f32 0x40000000#32)) x))

/-- The gate. -/
def gate (x : FVec Ideal S8192x1024 .f32) (g : FVec Ideal S1x1024 .f32) (w : FVec Ideal S1024x1024 .bf16) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (Host.dotGeneral dot_S8192x1024_S1024x1024_S8192x1024_1_0_0_1_n_n none (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)) (extf .f32 w bitsLt_bf16_f32)))))

/-- The projected embeddings. -/
def proj (p : FVec Ideal S8192x256 .f32) (w : FVec Ideal S8x256x128 .bf16) : FVec Ideal S8192x1024 .f32 :=
  Host.dotGeneral dot_S8192x256_S256x1024_S8192x1024_1_0_0_1_n_n none p (shapeCast _ (transpose S256x8x128 [1, 0, 2] (extf .f32 w bitsLt_bf16_f32) transposes_S8x256x128_S256x8x128_1_0_2) shapeCasts_S256x8x128_S256x1024)

/-- The last hidden state. -/
def hid (x s p : FVec Ideal S8192x1024 .f32) : FVec Ideal S8192x1024 .f32 :=
  addf x (mulf s p)

/-- A norm's rows, before the gain. -/
def scaled (x : FVec Ideal S8192x1024 .f32) : FVec Ideal S8192x1024 .f32 :=
  mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))

/-- The error. -/
def err (x : FVec Ideal S8192x1024 .f32) (g : FVec Ideal S1x1024 .f32) (t : FVec Ideal S8192x1024 .f32) : FVec Ideal S8192x1024 .f32 :=
  subf (mulf (scaled x) (broadcastInDim S8192x1024 ![0, 1] bcast_S1x1024_S8192x1024_0_1 g)) t

/-- The loss's gradient at the predictions. -/
def dy (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)

/-- A gradient past a gain. -/
def gained (d : FVec Ideal S8192x1024 .f32) (g : FVec Ideal S1x1024 .f32) : FVec Ideal S8192x1024 .f32 :=
  mulf d (broadcastInDim S8192x1024 ![0, 1] bcast_S1x1024_S8192x1024_0_1 g)

/-- The gradient at the gate's logits. -/
def dlogit (d s p : FVec Ideal S8192x1024 .f32) : FVec Ideal S8192x1024 .f32 :=
  mulf (mulf d p) (mulf s (subf (broadcastInDim S8192x1024 ![] bcast_S_S8192x1024 (constant S_ .f32 0x3F800000#32)) s))

/-- The gradient at the normed rows. -/
def du (z : FVec Ideal S8192x1024 .f32) (w : FVec Ideal S1024x1024 .bf16) : FVec Ideal S8192x1024 .f32 :=
  Host.dotGeneral dot_S8192x1024_S1024x1024_S8192x1024_1_1_0_0_n_n none z (extf .f32 w bitsLt_bf16_f32)

/-- The gradient at the feed-forward layer's inner values. -/
def da (d : FVec Ideal S8192x1024 .f32) (a : FVec Ideal S8192x4096 .bf16) (w : FVec Ideal S8x512x1024 .bf16) : FVec Ideal S8192x4096 .f32 :=
  mulf (mulf (Host.dotGeneral dot_S8192x1024_S4096x1024_S8192x4096_1_1_0_0_n_n none d (shapeCast _ (extf .f32 w bitsLt_bf16_f32) shapeCasts_S8x512x1024_S4096x1024)) (mulf (broadcastInDim S8192x4096 ![] bcast_S_S8192x4096 (constant S_ .f32 0x40000000#32)) (maximumf (extf .f32 a bitsLt_bf16_f32) (broadcastInDim S8192x4096 ![] bcast_S_S8192x4096 (constant S_ .f32 0x00000000#32))))) (select (cmpf .ogt (extf .f32 a bitsLt_bf16_f32) (broadcastInDim S8192x4096 ![] bcast_S_S8192x4096 (constant S_ .f32 0x00000000#32))) (broadcastInDim S8192x4096 ![] bcast_S_S8192x4096 (constant S_ .f32 0x3F800000#32)) (select (cmpf .oeq (extf .f32 a bitsLt_bf16_f32) (broadcastInDim S8192x4096 ![] bcast_S_S8192x4096 (constant S_ .f32 0x00000000#32))) (broadcastInDim S8192x4096 ![] bcast_S_S8192x4096 (constant S_ .f32 0x3F000000#32)) (broadcastInDim S8192x4096 ![] bcast_S_S8192x4096 (constant S_ .f32 0x00000000#32))))

/-- The loss, in every place of a block. -/
def loss (e : FVec Ideal S8192x1024 .f32) : FVec Ideal S8x128 .f32 :=
  broadcastInDim S8x128 ![] bcast_S_S8x128 (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

/-- A gain's gradient, in every row of a block. -/
def columns (x d : FVec Ideal S8192x1024 .f32) : FVec Ideal S8x1024 .f32 :=
  broadcastInDim S8x1024 ![0, 1] bcast_S1x1024_S8x1024_0_1 (shapeCast _ (Host.reduceAdd (mulf x d) (constant S_ .f32 0x00000000#32) reducesTo_S8192x1024_S1024_d0 h_S_) shapeCasts_S1024_S1x1024)

section Arrays

variable (h : FVec Ideal S8192x1024 .f32) (p : FVec Ideal S8192x256 .f32) (t : FVec Ideal S8192x1024 .f32) (a : FVec Ideal S8192x4096 .bf16) (gp : FVec Ideal S1x1024 .f32)
  (wg : FVec Ideal S1024x1024 .bf16) (wp : FVec Ideal S8x256x128 .bf16) (gf : FVec Ideal S1x1024 .f32) (w2 : FVec Ideal S8x512x1024 .bf16)

def hidA : FVec Ideal S8192x1024 .f32 := hid h (gate h gp wg) (proj p wp)
def dyA : FVec Ideal S8192x1024 .f32 := dy (err (hidA h p gp wg wp) gf t)
def dhidA : FVec Ideal S8192x1024 .f32 := back (hidA h p gp wg wp) (gained (dyA h p t gp wg wp gf) gf)
def dlogitA : FVec Ideal S8192x1024 .f32 := dlogit (dhidA h p t gp wg wp gf) (gate h gp wg) (proj p wp)
def duA : FVec Ideal S8192x1024 .f32 := du (dlogitA h p t gp wg wp gf) wg
def dhA : FVec Ideal S8192x1024 .f32 := addf (dhidA h p t gp wg wp gf) (back h (gained (duA h p t gp wg wp gf) gp))

end Arrays

/-! ## Row by row -/

/-- The norm's gradient, on rows of numbers. -/
theorem back_at (x v : FVec Ideal S8192x1024 .f32) (r : Fin 8192) (hx : ∀ i, Cert.Rows.IsReal (x (ix2 r i))) (hv : ∀ i, Cert.Rows.IsReal (v (ix2 r i))) (q : Fin 1024) :
    back x v (ix2 r q) = Cert.Rows.Head.back (fun i => x (ix2 r i)) (fun i => v (ix2 r i)) q := by
  refine Eq.trans ?_ (Cert.Rows.norm_grad (fun i => x (ix2 r i)) (fun i => v (ix2 r i)) hx hv q).symm
  unfold back
  pointwise
  rfl

theorem scaled_at (x : FVec Ideal S8192x1024 .f32) (r : Fin 8192) (q : Fin 1024) : scaled x (ix2 r q) = (x (ix2 r q) * Cert.Rows.inv (fun i => x (ix2 r i)) : EReal) := by
  unfold scaled
  pointwise
  rfl

theorem gained_at (d : FVec Ideal S8192x1024 .f32) (g : FVec Ideal S1x1024 .f32) (r : Fin 8192) (q : Fin 1024) : gained d g (ix2 r q) = (d (ix2 r q) * g (ix2 0 q) : EReal) := by
  unfold gained
  pointwise

theorem columns_at (x d : FVec Ideal S8192x1024 .f32) (p : Fin 8) (q : Fin 1024) : columns x d (ix2 p q) = (∑ r, x (ix2 r q) * d (ix2 r q) : EReal) := by
  unfold columns
  pointwise

section Read

variable (h : FVec Ideal S8192x1024 .f32) (p : FVec Ideal S8192x256 .f32) (t : FVec Ideal S8192x1024 .f32) (a : FVec Ideal S8192x4096 .bf16) (gp : FVec Ideal S1x1024 .f32)
  (wg : FVec Ideal S1024x1024 .bf16) (wp : FVec Ideal S8x256x128 .bf16) (gf : FVec Ideal S1x1024 .f32) (w2 : FVec Ideal S8x512x1024 .bf16)

/-- A row of the arrays, with the weights. -/
def rowA (r : Fin 8192) : Row where
  h q := h (ix2 r q)
  p k := p (ix2 r k)
  t q := t (ix2 r q)
  a k := a (ix2 r k)
  gp q := gp (ix2 0 q)
  gf q := gf (ix2 0 q)
  wg k q := wg (ix2 k q)
  wp n k l := wp (ix3 n k l)
  w2 n l q := w2 (ix3 n l q)

theorem gate_at (r : Fin 8192) (q : Fin 1024) : gate h gp wg (ix2 r q) = (rowA h p t a gp wg wp gf w2 r).gate q := by
  unfold gate
  pointwise
  rfl

theorem proj_at (r : Fin 8192) (q : Fin 1024) : proj p wp (ix2 r q) = (rowA h p t a gp wg wp gf w2 r).proj q := by
  unfold proj
  pointwise
  rfl

theorem hid_at (r : Fin 8192) (q : Fin 1024) : hidA h p gp wg wp (ix2 r q) = (rowA h p t a gp wg wp gf w2 r).hid q := by
  unfold hidA hid
  pointwise
  rw [gate_at h p t a gp wg wp gf w2, proj_at h p t a gp wg wp gf w2]
  rfl

theorem last_at (r : Fin 8192) (q : Fin 1024) : scaled (hidA h p gp wg wp) (ix2 r q) = (rowA h p t a gp wg wp gf w2 r).hid q * Cert.Rows.inv (rowA h p t a gp wg wp gf w2 r).hid := by
  rw [scaled_at]
  simp only [hid_at h p t a gp wg wp gf w2]

theorem err_at (r : Fin 8192) (q : Fin 1024) : err (hidA h p gp wg wp) gf t (ix2 r q) = (rowA h p t a gp wg wp gf w2 r).err q := by
  unfold err
  pointwise
  rw [last_at h p t a gp wg wp gf w2]
  rfl

variable (H : ∀ r, (rowA h p t a gp wg wp gf w2 r).Real)

include H

theorem dy_at (r : Fin 8192) (q : Fin 1024) : dyA h p t gp wg wp gf (ix2 r q) = (rowA h p t a gp wg wp gf w2 r).dy q := by
  unfold dyA dy
  pointwise
  rw [err_at h p t a gp wg wp gf w2]
  exact Cert.Rows.half_mean (Cert.Rows.Head.real_err (H r) q)

theorem dn_at (r : Fin 8192) (q : Fin 1024) : gained (dyA h p t gp wg wp gf) gf (ix2 r q) = (rowA h p t a gp wg wp gf w2 r).dn q := by
  rw [gained_at, dy_at h p t a gp wg wp gf w2 H]
  rfl

theorem dhid_at (r : Fin 8192) (q : Fin 1024) : dhidA h p t gp wg wp gf (ix2 r q) = (rowA h p t a gp wg wp gf w2 r).dhid q := by
  unfold dhidA
  refine (back_at _ _ r (fun i => ?_) (fun i => ?_) q).trans ?_
  · rw [hid_at h p t a gp wg wp gf w2]; exact Cert.Rows.Head.real_hid (H r) i
  · rw [dn_at h p t a gp wg wp gf w2 H]; exact Cert.Rows.Head.real_dn (H r) i
  · simp only [hid_at h p t a gp wg wp gf w2, dn_at h p t a gp wg wp gf w2 H]
    rfl

theorem dlogit_at (r : Fin 8192) (q : Fin 1024) : dlogitA h p t gp wg wp gf (ix2 r q) = (rowA h p t a gp wg wp gf w2 r).dlogit q := by
  unfold dlogitA dlogit
  pointwise
  rw [dhid_at h p t a gp wg wp gf w2 H, gate_at h p t a gp wg wp gf w2, proj_at h p t a gp wg wp gf w2]
  exact (mul_assoc (G := EReal) _ _ _).symm

theorem du_at (r : Fin 8192) (q : Fin 1024) : duA h p t gp wg wp gf (ix2 r q) = (rowA h p t a gp wg wp gf w2 r).du q := by
  unfold duA du
  pointwise
  simp only [dlogit_at h p t a gp wg wp gf w2 H]
  rfl

theorem dh_at (r : Fin 8192) (q : Fin 1024) : dhA h p t gp wg wp gf (ix2 r q) = (rowA h p t a gp wg wp gf w2 r).dh q := by
  unfold dhA
  pointwise
  rw [dhid_at h p t a gp wg wp gf w2 H, back_at h _ r (H r).h (fun i => ?_) q]
  · simp only [gained_at, du_at h p t a gp wg wp gf w2 H]
    rfl
  · rw [gained_at, du_at h p t a gp wg wp gf w2 H]; exact Cert.Rows.real_mul (Cert.Rows.Head.real_du (H r) i) ((H r).gp i)

theorem da_at (r : Fin 8192) (q : Fin 4096) : da (dhA h p t gp wg wp gf) a w2 (ix2 r q) = (rowA h p t a gp wg wp gf w2 r).da ⟨q.val / 512, by omega⟩ ⟨q.val % 512, by omega⟩ := by
  unfold da
  pointwise
  simp only [dh_at h p t a gp wg wp gf w2 H]
  have e : (⟨512 * (q.val / 512) + q.val % 512, by omega⟩ : Fin 4096) = q := Fin.ext (by show 512 * (q.val / 512) + q.val % 512 = q.val; omega)
  show _ = (∑ x, _) * (Ideal.ofBits .f32 1073741824#32 * max (a (ix2 r ⟨512 * (q.val / 512) + q.val % 512, by omega⟩)) 0)
  rw [e]
  exact Cert.Rows.kept _ _ _ _

theorem loss_at (p' : Fin 8) (q : Fin 128) : loss (err (hidA h p gp wg wp) gf t) (ix2 p' q) = ∑ r, (rowA h p t a gp wg wp gf w2 r).lossPart := by
  unfold loss
  pointwise
  simp only [err_at h p t a gp wg wp gf w2]
  exact Cert.Rows.half_sum fun r => Cert.Rows.Head.real_loss (H r)

end Read

section Terms

variable (m : (ℓ : Loc nD τ sig) → Buf (Elt Ideal) ℓ) (c : Dev nD)

theorem term_v126 : Value.res_main_v126 m c = truncf .bf16 (dlogitA (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) bitsLt_bf16_f32 := by
  unfold Value.res_main_v126
  rfl

theorem term_v127 : Value.res_main_v127 m c = truncf .bf16 (mulf (gate (m ((c.tc : Thread nD τ).loc main_arg0)) (m ((c.tc : Thread nD τ).loc main_arg4)) (m ((c.tc : Thread nD τ).loc main_arg5))) (dhidA (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)))) bitsLt_bf16_f32 := by
  unfold Value.res_main_v127
  rfl

theorem term_v104 : Value.res_main_v104 m c = dhA (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  unfold Value.res_main_v104
  rfl

theorem term_v129 : Value.res_main_v129 m c = truncf .bf16 (dhA (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) bitsLt_bf16_f32 := by
  unfold Value.res_main_v129
  rfl

theorem term_v130 : Value.res_main_v130 m c = truncf .bf16 (da (dhA (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg3)) (m ((c.tc : Thread nD τ).loc main_arg8))) bitsLt_bf16_f32 := by
  unfold Value.res_main_v130
  rfl

theorem term_v131 : Value.res_main_v131 m c = loss (err (hidA (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg2))) := by
  unfold Value.res_main_v131
  rfl

theorem term_v132 : Value.res_main_v132 m c = columns (scaled (hidA (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)))) (dyA (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) := by
  unfold Value.res_main_v132
  rfl

theorem term_v133 : Value.res_main_v133 m c = columns (scaled (m ((c.tc : Thread nD τ).loc main_arg0))) (duA (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) := by
  unfold Value.res_main_v133
  rfl

end Terms

end Cert.HeadRefIdeal.Rows

namespace Cert.Pre_finite_head

open Idealize.ShloMosaic

/-- The condition's side conditions on its shapes. -/
instance facts : Cert.Pre_finite_head.Facts where
  bcast_S_S8192x1024 := by decide
  reducesTo_S8192x1024_S_d0_1 := by decide
  h_S_ := by decide
  bcast_S_S8192x256 := by decide
  reducesTo_S8192x256_S_d0_1 := by decide
  bcast_S_S1x1024 := by decide
  reducesTo_S1x1024_S_d0_1 := by decide
  bitsLt_bf16_f32 := by decide
  bcast_S_S1024x1024 := by decide
  reducesTo_S1024x1024_S_d0_1 := by decide
  bcast_S_S8x256x128 := by decide
  reducesTo_S8x256x128_S_d0_1_2 := by decide

instance one : Subsingleton S_.Idx := ⟨fun a b => funext fun i => i.elim0⟩

/-- What the condition says of the arrays it reads. -/
theorem reals (h : FVec Ideal S8192x1024 .f32) (p : FVec Ideal S8192x256 .f32) (t : FVec Ideal S8192x1024 .f32) (a : FVec Ideal S8192x4096 .bf16)
    (gp : FVec Ideal S1x1024 .f32) (wg : FVec Ideal S1024x1024 .bf16) (wp : FVec Ideal S8x256x128 .bf16) (gf : FVec Ideal S1x1024 .f32)
    (w2 : FVec Ideal S8x512x1024 .bf16) (e : fn (F := Ideal) h p t a gp wg wp gf w2 = fun _ => 1#1) (r : Fin 8192) :
    (Cert.HeadRefIdeal.Rows.rowA h p t a gp wg wp gf w2 r).Real := by
  have h0 := congrFun e (fun i => i.elim0)
  unfold fn fn_part1 fn_part2 at h0
  dsimp only at h0
  obtain ⟨h1, hgf⟩ := IntOp.andi_eq_one.1 h0
  obtain ⟨h2, hwp⟩ := IntOp.andi_eq_one.1 h1
  obtain ⟨h3, hwg⟩ := IntOp.andi_eq_one.1 h2
  obtain ⟨h4, hgp⟩ := IntOp.andi_eq_one.1 h3
  obtain ⟨h5, ht⟩ := IntOp.andi_eq_one.1 h4
  obtain ⟨hh, hp⟩ := IntOp.andi_eq_one.1 h5
  exact ⟨fun q => Cert.Rows.finite_of_abs_lt (Host.reduce_andi_all _ _ _ _ _ hh _),
    fun k => Cert.Rows.finite_of_abs_lt (Host.reduce_andi_all _ _ _ _ _ hp _),
    fun q => Cert.Rows.finite_of_abs_lt (Host.reduce_andi_all _ _ _ _ _ ht _),
    fun q => Cert.Rows.finite_of_abs_lt (Host.reduce_andi_all _ _ _ _ _ hgp _),
    fun q => Cert.Rows.finite_of_abs_lt (Host.reduce_andi_all _ _ _ _ _ hgf _),
    fun k q => Cert.Rows.finite_of_abs_lt (Host.reduce_andi_all _ _ _ _ _ hwg _),
    fun n k l => Cert.Rows.finite_of_abs_lt (Host.reduce_andi_all _ _ _ _ _ hwp _)⟩

end Cert.Pre_finite_head

open Idealize.ShloMosaic in
/-- The call leaves the gradients of the last layers, the loss, and the gains' gradients, on finite inputs. -/
theorem Cert.head : @Cert.algebraic_HeadIdeal_HeadRefIdeal_pre_finite_head Cert.HeadIdeal.Gen.facts Cert.HeadRefIdeal.Gen.facts Cert.Pre_finite_head.facts := by
  intro m g m' g' hp hm
  refine ⟨fun c => (Cert.HeadIdeal.Gen.dats m 0 c).arrAt 9 Cert.HeadIdeal.cfg0.N, fun c => (Cert.HeadIdeal.Gen.dats m 0 c).arrAt 10 Cert.HeadIdeal.cfg0.N, fun c => (Cert.HeadIdeal.Gen.dats m 0 c).arrAt 11 Cert.HeadIdeal.cfg0.N, fun c => (Cert.HeadIdeal.Gen.dats m 0 c).arrAt 12 Cert.HeadIdeal.cfg0.N, fun c => (Cert.HeadIdeal.Gen.dats m 0 c).arrAt 13 Cert.HeadIdeal.cfg0.N, fun c => (Cert.HeadIdeal.Gen.dats m 0 c).arrAt 14 Cert.HeadIdeal.cfg0.N, fun c => (Cert.HeadIdeal.Gen.dats m 0 c).arrAt 15 Cert.HeadIdeal.cfg0.N, fun c => (Cert.HeadIdeal.Gen.dats m 0 c).arrAt 16 Cert.HeadIdeal.cfg0.N, fun c => (Cert.HeadIdeal.Gen.dats m 0 c).arrAt 17 Cert.HeadIdeal.cfg0.N,
    Cert.HeadIdeal.Value.run_blocks m g, ?_⟩
  have H := fun c : Dev Cert.HeadIdeal.nD => Cert.Pre_finite_head.reals _ _ _ _ _ _ _ _ _ (hp c)
  refine (Idealize.ShloMosaic.θ_run Cert.HeadRefIdeal.defs _ _).mono
    (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.HeadRefIdeal.Value.run m' g')
  · rw [Cert.HeadRefIdeal.Rows.term_v126]; rw [(hm c).1, (hm c).2.1, (hm c).2.2.1, (hm c).2.2.2.2.1, (hm c).2.2.2.2.2.1, (hm c).2.2.2.2.2.2.1, (hm c).2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.HeadIdeal.Rows.result9 m c p q).symm
    exact Cert.HeadRefIdeal.Rows.dlogit_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c) p q
  · rw [Cert.HeadRefIdeal.Rows.term_v127]; rw [(hm c).1, (hm c).2.1, (hm c).2.2.1, (hm c).2.2.2.2.1, (hm c).2.2.2.2.2.1, (hm c).2.2.2.2.2.2.1, (hm c).2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.HeadIdeal.Rows.result10 m c p q).symm
    pointwise
    rw [Cert.HeadRefIdeal.Rows.gate_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c), Cert.HeadRefIdeal.Rows.dhid_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c)]
    exact mul_comm (G := EReal) _ _
  · rw [(hm c).1, (hm c).2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.HeadIdeal.Rows.result11 m c p q).symm
    pointwise
    rfl
  · rw [Cert.HeadRefIdeal.Rows.term_v104]; rw [(hm c).1, (hm c).2.1, (hm c).2.2.1, (hm c).2.2.2.2.1, (hm c).2.2.2.2.2.1, (hm c).2.2.2.2.2.2.1, (hm c).2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.HeadIdeal.Rows.result12 m c p q).symm
    exact Cert.HeadRefIdeal.Rows.dh_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c) p q
  · rw [Cert.HeadRefIdeal.Rows.term_v129]; rw [(hm c).1, (hm c).2.1, (hm c).2.2.1, (hm c).2.2.2.2.1, (hm c).2.2.2.2.2.1, (hm c).2.2.2.2.2.2.1, (hm c).2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.HeadIdeal.Rows.result13 m c p q).symm
    exact Cert.HeadRefIdeal.Rows.dh_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c) p q
  · rw [Cert.HeadRefIdeal.Rows.term_v130]; rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2]
    funext j
    obtain ⟨p, q, rfl⟩ : ∃ (p : Fin 8192) (q : Fin 4096), j = Idealize.ShloMosaic.ix2 p q := ⟨j 0, j 1, by funext a; fin_cases a <;> rfl⟩
    refine Eq.trans ?_ (Cert.HeadIdeal.Rows.result14 m c p q).symm
    exact Cert.HeadRefIdeal.Rows.da_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c) p q
  · rw [Cert.HeadRefIdeal.Rows.term_v131]; rw [(hm c).1, (hm c).2.1, (hm c).2.2.1, (hm c).2.2.2.2.1, (hm c).2.2.2.2.2.1, (hm c).2.2.2.2.2.2.1, (hm c).2.2.2.2.2.2.2.1]
    funext j
    obtain ⟨p, q, rfl⟩ : ∃ (p : Fin 8) (q : Fin 128), j = Idealize.ShloMosaic.ix2 p q := ⟨j 0, j 1, by funext a; fin_cases a <;> rfl⟩
    refine Eq.trans ?_ (Cert.HeadIdeal.Rows.result15 m c p q).symm
    exact Cert.HeadRefIdeal.Rows.loss_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c) p q
  · rw [Cert.HeadRefIdeal.Rows.term_v132]; rw [(hm c).1, (hm c).2.1, (hm c).2.2.1, (hm c).2.2.2.2.1, (hm c).2.2.2.2.2.1, (hm c).2.2.2.2.2.2.1, (hm c).2.2.2.2.2.2.2.1]
    funext j
    obtain ⟨p, q, rfl⟩ : ∃ (p : Fin 8) (q : Fin 1024), j = Idealize.ShloMosaic.ix2 p q := ⟨j 0, j 1, by funext a; fin_cases a <;> rfl⟩
    refine Eq.trans ?_ (Cert.HeadIdeal.Rows.result16 m c p q).symm
    rw [Cert.HeadRefIdeal.Rows.columns_at]
    simp only [Cert.HeadRefIdeal.Rows.last_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c), Cert.HeadRefIdeal.Rows.dy_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c)]
    exact Finset.sum_congr (M := EReal) rfl fun x _ => mul_comm (G := EReal) _ _
  · rw [Cert.HeadRefIdeal.Rows.term_v133]; rw [(hm c).1, (hm c).2.1, (hm c).2.2.1, (hm c).2.2.2.2.1, (hm c).2.2.2.2.2.1, (hm c).2.2.2.2.2.2.1, (hm c).2.2.2.2.2.2.2.1]
    funext j
    obtain ⟨p, q, rfl⟩ : ∃ (p : Fin 8) (q : Fin 1024), j = Idealize.ShloMosaic.ix2 p q := ⟨j 0, j 1, by funext a; fin_cases a <;> rfl⟩
    refine Eq.trans ?_ (Cert.HeadIdeal.Rows.result17 m c p q).symm
    rw [Cert.HeadRefIdeal.Rows.columns_at]
    simp only [Cert.HeadRefIdeal.Rows.scaled_at, Cert.HeadRefIdeal.Rows.du_at (Cert.HeadIdeal.Rows.hids m c) (Cert.HeadIdeal.Rows.embs m c) (Cert.HeadIdeal.Rows.tgts m c) (Cert.HeadIdeal.Rows.acts m c) (Cert.HeadIdeal.Rows.gainP m c) (Cert.HeadIdeal.Rows.wgate m c) (Cert.HeadIdeal.Rows.wproj m c) (Cert.HeadIdeal.Rows.gainF m c) (Cert.HeadIdeal.Rows.wout m c) (H c)]
    exact Finset.sum_congr (M := EReal) rfl fun x _ => mul_comm (G := EReal) _ _

end
-- ==== Proof.Rows.InBwd.lean ====
/- The input projection's backward pass: what the call leaves, and what the gradients of the plain lines give. -/
module

public import proofs.«01_k».proof.Defs
public import proofs.«01_k».proof.Proof.Rows.Blocks
public import proofs.«01_k».proof.Proof.Rows.Norm
public import proofs.«01_k».proof.Proof.Weights.Sums
public import proofs.«01_k».proof.Proof.Gen.InBwdIdeal.Value
public import proofs.«01_k».proof.Proof.Gen.InBwdRefIdeal.Run

@[expose] public section

noncomputable section

namespace Cert.InBwdIdeal.Rows

open Cert.InBwdIdeal Cert.InBwdIdeal.Gen Idealize.ShloMosaic Idealize.ShloMosaic.TcCoe Idealize.SL.Sem

theorem origin : (![0, 0] : Fin 2 → Nat) = fun _ => 0 := funext fun a => by fin_cases a <;> rfl

section Points

variable (c : Dev nD) (i : grid0.Coords) (a1 : Memref sig .tc .vmem S512x4480 .bf16) (h1 : a1.IsWhole)
  (a2 : Memref sig .tc .vmem S512x1024 .f32) (h2 : a2.IsWhole) (a3 : Memref sig .tc .vmem S512x1024 .f32) (h3 : a3.IsWhole)
  (a4 : Memref sig .tc .vmem S4480x1024 .bf16) (h4 : a4.IsWhole) (a5 : Memref sig .tc .vmem S1x1024 .f32) (h5 : a5.IsWhole)
  (a6 : Memref sig .tc .vmem S512x1024 .f32) (h6 : a6.IsWhole) (a7 : Memref sig .tc .vmem S8x1024 .f32) (h7 : a7.IsWhole)
  (z : Vec Ideal S512x4480 .bf16) (d : Vec Ideal S512x1024 .f32) (x : Vec Ideal S512x1024 .f32) (w : Vec Ideal S4480x1024 .bf16)
  (g : Vec Ideal S1x1024 .f32) (s : Vec Ideal S8x1024 .f32)

/-- The rows written at the first point. -/
theorem rows_first (hc : cond0_0 i) :
    out0_A_5 c i a1 h1 a2 h2 a3 h3 a4 h4 a5 h5 a6 h6 a7 h7 hc z d x w g = k0_pay1 (F := Ideal) (k0_pay5 z w x g) d := by
  unfold out0_A_5
  rw [View.read_writes_eq_canon _ _ _ (cover0_A_5 c i a1 h1 a2 h2 a3 h3 a4 h4 a5 h5 a6 h6 a7 h7 hc z d x w g)]
  unfold kernelRun0_A
  dsimp only
  sl_unfold_words
  rw [View.canon_unit_zero (S := S512x1024) origin]
  simp only [View.readAt_eq_ld, h1.read_unread, h2.read_unread, h3.read_unread, h4.read_unread, h5.read_unread, View.ld_unit_zero (S := S512x4480) origin, View.ld_unit_zero (S := S512x1024) origin, View.ld_unit_zero (S := S4480x1024) origin, View.ld_unit_zero (S := S1x1024) origin]

/-- The rows written at the later points. -/
theorem rows_later (hc : ¬cond0_0 i) :
    out0_B_5 c i a1 h1 a2 h2 a3 h3 a4 h4 a5 h5 a6 h6 a7 h7 hc z d x w g s = k0_pay1 (F := Ideal) (k0_pay5 z w x g) d := by
  unfold out0_B_5
  rw [View.read_writes_eq_canon _ _ _ (cover0_B_5 c i a1 h1 a2 h2 a3 h3 a4 h4 a5 h5 a6 h6 a7 h7 hc z d x w g s)]
  unfold kernelRun0_B
  dsimp only
  sl_unfold_words
  rw [View.canon_unit_zero (S := S512x1024) origin]
  simp only [View.readAt_eq_ld, h1.read_unread, h2.read_unread, h3.read_unread, h4.read_unread, h5.read_unread, View.ld_unit_zero (S := S512x4480) origin, View.ld_unit_zero (S := S512x1024) origin, View.ld_unit_zero (S := S4480x1024) origin, View.ld_unit_zero (S := S1x1024) origin]

/-- The column sums start from zero. -/
theorem sums_first (hc : cond0_0 i) :
    out0_A_6 c i a1 h1 a2 h2 a3 h3 a4 h4 a5 h5 a6 h6 a7 h7 hc z d x w g = k0_pay7 (F := Ideal) z w x (k0_pay6 (F := Ideal)) := by
  unfold out0_A_6
  rw [View.read_writes_eq_canon _ _ _ (cover0_A_6 c i a1 h1 a2 h2 a3 h3 a4 h4 a5 h5 a6 h6 a7 h7 hc z d x w g)]
  unfold kernelRun0_A
  dsimp only
  sl_unfold_words
  rw [View.canon_cons_unit_zero (S := S8x1024) origin, View.readCov_unit_zero (S := S8x1024) _ origin]
  simp only [View.readAt_eq_ld, h1.read_unread, h3.read_unread, h4.read_unread, View.ld_unit_zero (S := S512x4480) origin, View.ld_unit_zero (S := S512x1024) origin, View.ld_unit_zero (S := S4480x1024) origin]

/-- The column sums are carried on. -/
theorem sums_later (hc : ¬cond0_0 i) :
    out0_B_6 c i a1 h1 a2 h2 a3 h3 a4 h4 a5 h5 a6 h6 a7 h7 hc z d x w g s = k0_pay7 (F := Ideal) z w x s := by
  unfold out0_B_6
  rw [View.read_writes_eq_canon _ _ _ (cover0_B_6 c i a1 h1 a2 h2 a3 h3 a4 h4 a5 h5 a6 h6 a7 h7 hc z d x w g s)]
  unfold kernelRun0_B
  dsimp only
  sl_unfold_words
  rw [View.canon_unit_zero (S := S8x1024) origin]
  simp only [View.readAt_eq_ld, h1.read_unread, h3.read_unread, h4.read_unread, h7.read_unread, View.ld_unit_zero (S := S512x4480) origin, View.ld_unit_zero (S := S512x1024) origin, View.ld_unit_zero (S := S4480x1024) origin, View.ld_unit_zero (S := S8x1024) origin]

end Points

variable (m : (ℓ : Loc nD τ sig) → Buf (Elt Ideal) ℓ) (c : Dev nD)

/-- The arguments. -/
abbrev dz : S8192x4480.Idx → EReal := m ((c : Thread nD τ).loc main_arg0)
abbrev dh : S8192x1024.Idx → EReal := m ((c : Thread nD τ).loc main_arg1)
abbrev hid : S8192x1024.Idx → EReal := m ((c : Thread nD τ).loc main_arg2)
abbrev wgt : S4480x1024.Idx → EReal := m ((c : Thread nD τ).loc main_arg3)
abbrev gain : S1x1024.Idx → EReal := m ((c : Thread nD τ).loc main_arg4)

/-- A row of the hidden state, and the gradient at the normed hidden state. -/
abbrev row (p : Fin 8192) : Fin 1024 → EReal := fun i => hid m c (ix2 p i)
abbrev du (p : Fin 8192) (q : Fin 1024) : EReal := ∑ k : Fin 4480, dz m c (ix2 p k) * wgt m c (ix2 k q)

/-- The products the norm's gain sums, by row. -/
def term (q : Fin 1024) (p : ℕ) : EReal :=
  if h : p < 8192 then du m c ⟨p, h⟩ q * (row m c ⟨p, h⟩ q * Cert.Rows.inv (row m c ⟨p, h⟩)) else 0

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = 0 ∧ win0_6.index t 1 = 0 := (by decide +kernel : ∀ t : Fin grid0.N, _)

/-- The row of the whole arrays that a block's row is. -/
def at' (t : Fin cfg0.N) (r : Fin 512) : Fin 8192 :=
  ⟨512 * t.val + r.val, by have := lt_of_lt_of_eq t.isLt N_0; have := r.isLt; omega⟩

/-- The blocks a step reads. -/
abbrev dzAt (t : Fin cfg0.N) : S512x4480.Idx → EReal := iblk m c 0 t
abbrev dhAt (t : Fin cfg0.N) : S512x1024.Idx → EReal := iblk m c 1 t
abbrev hidAt (t : Fin cfg0.N) : S512x1024.Idx → EReal := iblk m c 2 t
abbrev wgtAt (t : Fin cfg0.N) : S4480x1024.Idx → EReal := iblk m c 3 t
abbrev gainAt (t : Fin cfg0.N) : S1x1024.Idx → EReal := iblk m c 4 t

theorem dz_at (t : Fin cfg0.N) (r : Fin 512) (l : Fin 4480) : dzAt m c t (ix2 r l) = dz m c (ix2 (at' t r) l) := by
  unfold dzAt iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(index0 t).1]; ring
  | ⟨1, _⟩ => show win0_0.index t 1 * 4480 + 1 * l.val = l.val; rw [(index0 t).2]; ring

theorem dh_at (t : Fin cfg0.N) (r : Fin 512) (l : Fin 1024) : dhAt m c t (ix2 r l) = dh m c (ix2 (at' t r) l) := by
  unfold dhAt iblk
  rw [View.read_apply]
  show V m c main_arg1 _ = _
  rw [V_main_arg1]
  congr 1
  funext a
  apply Fin.ext
  match a with
  | ⟨0, _⟩ => show win0_1.index t 0 * 512 + 1 * r.val = 512 * t.val + r.val; rw [(index1 t).1]; ring
  | ⟨1, _⟩ => show win0_1.index t 1 * 1024 + 1 * l.val = l.val; rw [(index1 t).2]; ring

theorem hid_at (t : Fin cfg0.N) (r : Fin 512) (l : Fin 1024) : hidAt m c t (ix2 r l) = hid m c (ix2 (at' t r) l) := by
  unfold hidAt iblk
  rw [View.read_apply]
  show V m c main_arg2 _ = _
  rw [V_main_arg2]
  congr 1
  funext a
  apply Fin.ext
  match a with
  | ⟨0, _⟩ => show win0_2.index t 0 * 512 + 1 * r.val = 512 * t.val + r.val; rw [(index2 t).1]; ring
  | ⟨1, _⟩ => show win0_2.index t 1 * 1024 + 1 * l.val = l.val; rw [(index2 t).2]; ring

theorem wgt_at (t : Fin cfg0.N) (r : Fin 4480) (l : Fin 1024) : wgtAt m c t (ix2 r l) = wgt m c (ix2 r l) := by
  unfold wgtAt iblk
  rw [View.read_apply]
  show V m c main_arg3 _ = _
  rw [V_main_arg3]
  exact congrArg _ (Cert.Rows.Blocks.whole _ _ _ (Fin.forall_fin_two.2 (index3 t)) fun _ => rfl)

theorem gain_at (t : Fin cfg0.N) (r : Fin 1) (l : Fin 1024) : gainAt m c t (ix2 r l) = gain m c (ix2 r l) := by
  unfold gainAt iblk
  rw [View.read_apply]
  show V m c main_arg4 _ = _
  rw [V_main_arg4]
  exact congrArg _ (Cert.Rows.Blocks.whole _ _ _ (Fin.forall_fin_two.2 (index4 t)) fun _ => rfl)

/-- One block's rows of the hidden state's gradient. -/
theorem rows_at (t : Fin cfg0.N) (r : Fin 512) (l : Fin 1024) :
    k0_pay1 (F := Ideal) (k0_pay5 (dzAt m c t) (wgtAt m c t) (hidAt m c t) (gainAt m c t)) (dhAt m c t) (ix2 r l)
      = dh m c (ix2 (at' t r) l) + Cert.Rows.inv (row m c (at' t r)) *
        (du m c (at' t r) l * gain m c (ix2 0 l) - row m c (at' t r) l * Cert.Rows.inv (row m c (at' t r)) *
          Ideal.div (∑ i, (du m c (at' t r) i * gain m c (ix2 0 i)) * (row m c (at' t r) i * Cert.Rows.inv (row m c (at' t r))))
            (Ideal.ofBits .f32 1149239296#32)) := by
  pointwise [k0_pay1, k0_pay2, k0_pay3, k0_pay4, k0_pay5]
  simp only [dz_at, dh_at, hid_at, wgt_at, gain_at]
  rfl

/-- One block's products, added to what is carried. -/
theorem sums_at (t : Fin cfg0.N) (s : S8x1024.Idx → EReal) (r : Fin 8) (l : Fin 1024) :
    k0_pay7 (F := Ideal) (dzAt m c t) (wgtAt m c t) (hidAt m c t) s (ix2 r l)
      = s (ix2 r l) + ∑ k : Fin 512, term m c l (512 * t.val + k) := by
  pointwise [k0_pay2, k0_pay3, k0_pay4, k0_pay7]
  simp only [dz_at, hid_at, wgt_at]
  refine congrArg (_ + ·) (Finset.sum_congr rfl fun k _ => ?_)
  unfold term
  have hk : 512 * t.val + k.val < 8192 := (at' t k).isLt
  rw [dif_pos hk]
  rfl

/-- The column sums after a point: the products of the rows so far. -/
theorem carried (r : Fin 8) (l : Fin 1024) : ∀ (n : ℕ) (hn : n < cfg0.N),
    (outsAt0 m c n hn).2 (ix2 r l) = ∑ x ∈ Finset.range (512 * (n + 1)), term m c l x := by
  intro n
  induction n with
  | zero =>
    intro hn
    rw [outsAt0_A m c ⟨0, hn⟩ rfl]
    dsimp only
    rw [sums_first]
    refine (sums_at m c ⟨0, hn⟩ _ r l).trans ?_
    have e := Cert.Weights.range_add_block (term m c l) 0 512
    have ez : k0_pay6 (F := Ideal) (ix2 r l) = 0 := by pointwise [k0_pay6, Ideal.ofBits_zero_f32]
    rw [ez]
    simpa using e
  | succ n ih =>
    intro hn
    have hN : n + 1 < 16 := lt_of_lt_of_eq hn N_0
    rw [outsAt0_B m c ⟨n + 1, hn⟩ (by dsimp only; omega)]
    dsimp only
    rw [sums_later]
    refine (sums_at m c ⟨n + 1, hn⟩ _ r l).trans ?_
    rw [← Cert.Weights.range_add_block (term m c l) (n + 1) 512]
    exact congrArg (· + _) (ih (Nat.lt_of_succ_lt hn))

/-- The rows after a point. -/
theorem written (t : Fin cfg0.N) : (outsAt0 m c t.val t.isLt).1
    = k0_pay1 (F := Ideal) (k0_pay5 (dzAt m c t) (wgtAt m c t) (hidAt m c t) (gainAt m c t)) (dhAt m c t) := by
  by_cases h : t.val % 16 = 0
  · rw [outsAt0_A m c t h]; dsimp only; rw [rows_first]
  · rw [outsAt0_B m c t h]; dsimp only; rw [rows_later]

/-- The hidden state's gradient after the run. -/
theorem rows_result (p : Fin 8192) (q : Fin 1024) :
    ((dats m 0 c).arrAt 5 cfg0.N : S8192x1024.Idx → EReal) (ix2 p q)
      = dh m c (ix2 p q) + Cert.Rows.inv (row m c p) *
        (du m c p q * gain m c (ix2 0 q) - row m c p q * Cert.Rows.inv (row m c p) *
          Ideal.div (∑ i, (du m c p i * gain m c (ix2 0 i)) * (row m c p i * Cert.Rows.inv (row m c p)))
            (Ideal.ofBits .f32 1149239296#32)) := by
  have ht : p.val / 512 < cfg0.N := by rw [show cfg0.N = 16 from N_0]; omega
  have hr : p.val % 512 < 512 := Nat.mod_lt _ (by decide)
  have hp : at' ⟨p.val / 512, ht⟩ ⟨p.val % 512, hr⟩ = p := Fin.ext (by show 512 * (p.val / 512) + p.val % 512 = p.val; omega)
  have e := congrFun (Value.blocks5 m c ⟨p.val / 512, ht⟩ (flush0_5 _)) (ix2 ⟨p.val % 512, hr⟩ q)
  rw [View.read_apply, Value.flushed5, written] at e
  refine Eq.trans (congrArg _ ?_) (e.trans ((rows_at m c ⟨p.val / 512, ht⟩ ⟨p.val % 512, hr⟩ q).trans (by rw [hp])))
  funext a
  apply Fin.ext
  match a with
  | ⟨0, _⟩ => show p.val = win0_5.index ⟨p.val / 512, ht⟩ 0 * 512 + 1 * (p.val % 512); rw [(index5 _).1]; dsimp only; omega
  | ⟨1, _⟩ => show q.val = win0_5.index ⟨p.val / 512, ht⟩ 1 * 1024 + 1 * q.val; rw [(index5 _).2]; ring

/-- The sums' block is written back at the last point alone. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have := (flush0_6 t).1 h; have := (flush0_6 t').1 h'
  have := lt_of_lt_of_eq t.isLt N_0; have := lt_of_lt_of_eq t'.isLt N_0
  exact absurd (Fin.ext (by omega)) hne

/-- The gain's gradient after the run. -/
theorem sums_result (p : Fin 8) (q : Fin 1024) :
    ((dats m 0 c).arrAt 6 cfg0.N : S8x1024.Idx → EReal) (ix2 p q)
      = ∑ x : Fin 8192, du m c x q * (row m c x q * Cert.Rows.inv (row m c x)) := by
  have ht : 15 < cfg0.N := by rw [show cfg0.N = 16 from N_0]; decide
  have e := congrFun ((dats m 0 c).read_blk_arrAt_eq_flushed 6 disjoint6 cfg0.N ⟨15, ht⟩ ht ((flush0_6 _).2 rfl)) (ix2 p q)
  rw [View.read_apply, Value.flushed6] at e
  refine Eq.trans (congrArg _ ?_) (e.trans ((carried m c p q 15 ht).trans ?_))
  · funext a
    apply Fin.ext
    match a with
    | ⟨0, _⟩ => show p.val = win0_6.index ⟨15, ht⟩ 0 * 8 + 1 * p.val; rw [(index6 _).1]; ring
    | ⟨1, _⟩ => show q.val = win0_6.index ⟨15, ht⟩ 1 * 1024 + 1 * q.val; rw [(index6 _).2]; ring
  · rw [Finset.sum_range]
    refine Finset.sum_congr rfl fun x _ => ?_
    unfold term
    rw [dif_pos x.isLt]

end Cert.InBwdIdeal.Rows

namespace Cert.Pre_finite

open Idealize.ShloMosaic

/-- The condition's side conditions on its shapes. -/
instance facts : Cert.Pre_finite.Facts where
  bitsLt_bf16_f32 := by decide
  bcast_S_S8192x4480 := by decide
  reducesTo_S8192x4480_S_d0_1 := by decide
  h_S_ := by decide
  bcast_S_S8192x1024 := by decide
  reducesTo_S8192x1024_S_d0_1 := by decide
  bcast_S_S4480x1024 := by decide
  reducesTo_S4480x1024_S_d0_1 := by decide
  bcast_S_S1x1024 := by decide
  reducesTo_S1x1024_S_d0_1 := by decide

instance one : Subsingleton S_.Idx := ⟨fun a b => funext fun i => i.elim0⟩

/-- What the condition says of the arrays it reads. -/
theorem reals (z : FVec Ideal S8192x4480 .bf16) (d x : FVec Ideal S8192x1024 .f32) (w : FVec Ideal S4480x1024 .bf16)
    (g : FVec Ideal S1x1024 .f32) (h : fn (F := Ideal) z d x w g = fun _ => 1#1) :
    (∀ i, Cert.Rows.IsReal (z i)) ∧ (∀ i, Cert.Rows.IsReal (x i)) ∧ (∀ i, Cert.Rows.IsReal (w i)) ∧ (∀ i, Cert.Rows.IsReal (g i)) := by
  have h0 := congrFun h (fun i => i.elim0)
  unfold fn fn_part1 at h0
  dsimp only at h0
  obtain ⟨h1, hg⟩ := IntOp.andi_eq_one.1 h0
  obtain ⟨h2, hw⟩ := IntOp.andi_eq_one.1 h1
  obtain ⟨hz, hx⟩ := IntOp.andi_eq_one.1 h2
  exact ⟨fun i => Cert.Rows.finite_of_abs_lt (Host.reduce_andi_all _ _ _ _ _ hz i),
    fun i => Cert.Rows.finite_of_abs_lt (Host.reduce_andi_all _ _ _ _ _ hx i),
    fun i => Cert.Rows.finite_of_abs_lt (Host.reduce_andi_all _ _ _ _ _ hw i),
    fun i => Cert.Rows.finite_of_abs_lt (Host.reduce_andi_all _ _ _ _ _ hg i)⟩

end Cert.Pre_finite

open Idealize.ShloMosaic in
/-- The call leaves the gradients of the hidden state and of the norm's gain, on finite inputs. -/
theorem Cert.in_bwd : @Cert.algebraic_InBwdIdeal_InBwdRefIdeal_pre_finite Cert.InBwdIdeal.Gen.facts Cert.InBwdRefIdeal.Gen.facts Cert.Pre_finite.facts := by
  intro m g m' g' hp hm
  refine ⟨fun c => (Cert.InBwdIdeal.Gen.dats m 0 c).arrAt 5 Cert.InBwdIdeal.cfg0.N,
    fun c => (Cert.InBwdIdeal.Gen.dats m 0 c).arrAt 6 Cert.InBwdIdeal.cfg0.N, Cert.InBwdIdeal.Value.run_blocks m g, ?_⟩
  refine (Idealize.ShloMosaic.θ_run Cert.InBwdRefIdeal.defs _ _).mono
    (fun r h c => ⟨(h c).1.trans ?_, (h c).2.1.trans ?_, (h c).2.2⟩) (Cert.InBwdRefIdeal.Value.run m' g')
  · obtain ⟨rz, rx, rw', rg⟩ := Cert.Pre_finite.reals _ _ _ _ _ (hp c)
    rw [(hm c).1, (hm c).2.1, (hm c).2.2.1, (hm c).2.2.2.1, (hm c).2.2.2.2]
    funext j
    obtain ⟨p, q, rfl⟩ : ∃ (p : Fin 8192) (q : Fin 1024), j = Idealize.ShloMosaic.ix2 p q := ⟨j 0, j 1, by funext a; fin_cases a <;> rfl⟩
    refine Eq.trans ?_ (Cert.InBwdIdeal.Rows.rows_result m c p q).symm
    pointwise
    refine congrArg (fun a : EReal => Cert.InBwdIdeal.Rows.dh m c (ix2 p q) + a) (Eq.symm (Cert.Rows.norm_grad _ (fun i => Cert.InBwdIdeal.Rows.du m c p i * Cert.InBwdIdeal.Rows.gain m c (ix2 0 i)) (fun i => rx _) (fun i => ?_) q))
    exact Cert.Rows.real_mul (Cert.Rows.real_sum fun k => Cert.Rows.real_mul (rz _) (rw' _)) (rg _)
  · rw [(hm c).1, (hm c).2.2.1, (hm c).2.2.2.1]
    funext j
    obtain ⟨p, q, rfl⟩ : ∃ (p : Fin 8) (q : Fin 1024), j = Idealize.ShloMosaic.ix2 p q := ⟨j 0, j 1, by funext a; fin_cases a <;> rfl⟩
    refine Eq.trans ?_ (Cert.InBwdIdeal.Rows.sums_result m c p q).symm
    pointwise
    exact Finset.sum_congr (M := EReal) rfl fun x _ => mul_comm (G := EReal) _ _

end
-- ==== Proof.Rows.Mix.lean ====
/- The merge of the branches and the feed-forward layer: what the call leaves, and what the plain lines give. -/
module

public import proofs.«01_k».proof.Defs
public import proofs.«01_k».proof.Proof.Rows.Blocks
public import proofs.«01_k».proof.Proof.Rows.Norm
public import proofs.«01_k».proof.Proof.Rows.Stack
public import proofs.«01_k».proof.Proof.Gen.MixFwdIdeal.Value

@[expose] public section

noncomputable section

namespace Cert.MixFwdIdeal.Rows

open Cert.MixFwdIdeal Cert.MixFwdIdeal.Gen Idealize.ShloMosaic Idealize.ShloMosaic.TcCoe Idealize.SL.Sem

open Cert.Rows.Blocks (origin row of_blocks)

/-! ## One row -/

section Row

variable (aa ab : Fin 512 → EReal) (zg : Fin 2176 → EReal) (x : Fin 1024 → EReal) (wsa wfo : S8x512x128.Idx → EReal)
  (wmo : S1024x1024.Idx → EReal) (g : S1x1024.Idx → EReal) (w1 : S8x1024x512.Idx → EReal) (w2 : S8x512x1024.Idx → EReal)

/-- A branch's projection. -/
def branch (a : Fin 512 → EReal) (w : S8x512x128.Idx → EReal) (q : Fin 1024) : EReal :=
  ∑ k, a k * w (ix3 (⟨q.val / 128, by omega⟩ : Fin 8) k (⟨q.val % 128, by omega⟩ : Fin 128))

/-- The gates of the two branches. -/
def gate0 (q : Fin 1024) : EReal := Ideal.div 1 (1 + Ideal.exp (-zg ⟨128 + q.val, by omega⟩))
def gate1 (q : Fin 1024) : EReal := Ideal.div 1 (1 + Ideal.exp (-zg ⟨128 + (1024 + q.val), by omega⟩))

/-- The branches, gated and added. -/
def mixed (q : Fin 1024) : EReal := gate0 zg q * branch aa wsa q + gate1 zg q * branch ab wfo q

/-- The hidden state after the merge. -/
def mid (q : Fin 1024) : EReal := x q + ∑ k, mixed aa ab zg wsa wfo k * wmo (ix2 k q)

/-- The same, normed. -/
def normed (q : Fin 1024) : EReal :=
  mid aa ab zg x wsa wfo wmo q * Cert.Rows.inv (mid aa ab zg x wsa wfo wmo) * g (ix2 0 q)

/-- The feed-forward layer's inner values, in eight groups, before and after the squared rectifier. -/
def inner (n : Fin 8) (l : Fin 512) : EReal := ∑ k, normed aa ab zg x wsa wfo wmo g k * w1 (ix3 n k l)
def squared (n : Fin 8) (l : Fin 512) : EReal := max (inner aa ab zg x wsa wfo wmo g w1 n l) 0 * max (inner aa ab zg x wsa wfo wmo g w1 n l) 0

/-- The hidden state after the layer. -/
def after (q : Fin 1024) : EReal :=
  mid aa ab zg x wsa wfo wmo q + ∑ j : Fin 4096, squared aa ab zg x wsa wfo wmo g w1 ⟨j.val / 512, by omega⟩ ⟨j.val % 512, by omega⟩
    * w2 (ix3 (⟨j.val / 512, by omega⟩ : Fin 8) (⟨j.val % 512, by omega⟩ : Fin 512) q)

end Row

/-! ## One block of rows -/

section Block

variable (x0 x1 : S256x512.Idx → EReal) (x2 : S256x2176.Idx → EReal) (x3 : S256x1024.Idx → EReal) (x4 x5 : S8x512x128.Idx → EReal)
  (x6 : S1024x1024.Idx → EReal) (x7 : S1x1024.Idx → EReal) (x8 : S8x1024x512.Idx → EReal) (x9 : S8x512x1024.Idx → EReal) (r : Fin 256)

theorem branch0_at (q : Fin 1024) : k0_pay40 (F := Ideal) x0 x1 x2 x3 x4 x5 x6 x7 x8 x9 (ix2 r q) = branch (fun k => x0 (ix2 r k)) x4 q := by
  unfold k0_pay40
  pointwise [k0_pay6]
  exact Finset.sum_congr rfl fun k _ => congrArg (x0 (ix2 r k) * ·) (Cert.Rows.joined x4 k q)

theorem branch1_at (q : Fin 1024) : k0_pay41 (F := Ideal) x0 x1 x2 x3 x4 x5 x6 x7 x8 x9 (ix2 r q) = branch (fun k => x1 (ix2 r k)) x5 q := by
  unfold k0_pay41
  pointwise [k0_pay7, k0_pay8, k0_pay9]
  exact Finset.sum_congr rfl fun k _ => congrArg (x1 (ix2 r k) * ·) (Cert.Rows.joined x5 k q)

theorem gate1_at (q : Fin 1024) : k0_pay42 (F := Ideal) x0 x1 x2 x3 x4 x5 x6 x7 x8 x9 (ix2 r q) = gate1 (fun k => x2 (ix2 r k)) q := by
  unfold k0_pay42
  pointwise [k0_pay10]
  rw [zero_sub]
  unfold gate1
  exact congrArg (fun i => Ideal.div 1 (1 + Ideal.exp (-x2 (ix2 r i)))) (Fin.ext (by dsimp only; omega))

theorem gated0_at (q : Fin 1024) : k0_pay43 (F := Ideal) x0 x1 x2 x3 x4 x5 x6 x7 x8 x9 (ix2 r q)
    = gate0 (fun k => x2 (ix2 r k)) q * branch (fun k => x0 (ix2 r k)) x4 q := by
  unfold k0_pay43
  pointwise [k0_pay11]
  rw [branch0_at, zero_sub]
  rfl

theorem mixed_at (q : Fin 1024) : out0_12 (F := Ideal) x0 x1 x2 x3 x4 x5 x6 x7 x8 x9 (ix2 r q)
    = mixed (fun k => x0 (ix2 r k)) (fun k => x1 (ix2 r k)) (fun k => x2 (ix2 r k)) x4 x5 q := by
  unfold out0_12
  rw [View.canon_unit_zero (S := S256x1024) origin]
  pointwise [k0_pay12]
  rw [branch1_at, gate1_at, gated0_at]
  rfl

theorem mid_at (q : Fin 1024) : k0_pay15 (F := Ideal) (k0_pay41 x0 x1 x2 x3 x4 x5 x6 x7 x8 x9) (k0_pay42 x0 x1 x2 x3 x4 x5 x6 x7 x8 x9)
    (k0_pay43 x0 x1 x2 x3 x4 x5 x6 x7 x8 x9) (View.ld x3 r0_11) (View.ld x6 r0_12) (ix2 r q)
      = mid (fun k => x0 (ix2 r k)) (fun k => x1 (ix2 r k)) (fun k => x2 (ix2 r k)) (fun k => x3 (ix2 r k)) x4 x5 x6 q := by
  pointwise [k0_pay15, k0_pay12]
  simp only [branch1_at, gate1_at, gated0_at]
  rfl

theorem normed_at (q : Fin 1024) : k0_pay44 (F := Ideal) x0 x1 x2 x3 x4 x5 x6 x7 x8 x9 (ix2 r q)
      = normed (fun k => x0 (ix2 r k)) (fun k => x1 (ix2 r k)) (fun k => x2 (ix2 r k)) (fun k => x3 (ix2 r k)) x4 x5 x6 x7 q := by
  unfold k0_pay44
  pointwise [k0_pay16]
  simp only [mid_at]
  rfl

/-- The rows' inner values, as one block. -/
def blockOf (f : Fin 256 → Fin 8 → Fin 512 → EReal) (i : S256x4096.Idx) : EReal :=
  f (i 0) ⟨(i 1).val / 512, by have : (i 1).val < 4096 := (i 1).isLt; omega⟩ ⟨(i 1).val % 512, by omega⟩

theorem blockOf_at (f : Fin 256 → Fin 8 → Fin 512 → EReal) (r : Fin 256) (q : Fin 4096) :
    blockOf f (ix2 r q) = f r ⟨q.val / 512, by omega⟩ ⟨q.val % 512, by omega⟩ := rfl

/-- A group's piece, at its columns. -/
theorem placed (f : Fin 256 → Fin 8 → Fin 512 → EReal) (n : Fin 8) (o : ℕ) (ho : o = 512 * n.val)
    (inb : ∀ a, (![0, o] : Fin 2 → ℕ) a + S256x512.size a ≤ S256x4096.size a) (w : S256x512.Idx → EReal)
    (hw : ∀ r l, w (ix2 r l) = f r n l) (x : S256x512.Idx) : w x = blockOf f ((Rect.unit (s := S256x4096) ![0, o] S256x512.size inb).emb x) := by
  obtain ⟨r, l, rfl⟩ : ∃ (r : Fin 256) (l : Fin 512), x = ix2 r l := ⟨x 0, x 1, by funext a; match a with | ⟨0, _⟩ => rfl | ⟨1, _⟩ => rfl⟩
  rw [hw]
  unfold blockOf
  have e1 : (((Rect.unit (s := S256x4096) ![0, o] S256x512.size inb).emb (ix2 r l)) 1).val = o + l.val := by
    rw [Rect.emb_apply]; show o + 1 * l.val = _; omega
  have e0 : ((Rect.unit (s := S256x4096) ![0, o] S256x512.size inb).emb (ix2 r l)) 0 = r := by
    apply Fin.ext; rw [Rect.emb_apply]; show 0 + 1 * r.val = _; omega
  congr 1
  · rw [e0]
  · apply Fin.ext; dsimp only; rw [e1]; omega
  · apply Fin.ext; dsimp only; rw [e1]; omega

theorem inner0_at (l : Fin 512) : k0_pay45 (F := Ideal) x0 x1 x2 x3 x4 x5 x6 x7 x8 x9 (ix2 r l) = inner (fun k => x0 (ix2 r k)) (fun k => x1 (ix2 r k)) (fun k => x2 (ix2 r k)) (fun k => x3 (ix2 r k)) x4 x5 x6 x7 x8 0 l := by
  unfold k0_pay45
  pointwise [k0_pay17]
  exact Finset.sum_congr rfl fun k _ => congrArg (· * x8 (ix3 0 k l)) (normed_at x0 x1 x2 x3 x4 x5 x6 x7 x8 x9 r k)

theorem inner2_at (l : Fin 512) : k0_pay46 (F := Ideal) x0 x1 x2 x3 x4 x5 x6 x7 x8 x9 (ix2 r l) = inner (fun k => x0 (ix2 r k)) (fun k => x1 (ix2 r k)) (fun k => x2 (ix2 r k)) (fun k => x3 (ix2 r k)) x4 x5 x6 x7 x8 2 l := by
  unfold k0_pay46
  pointwise [k0_pay24]
  simp only [normed_at]
  rfl

theorem inner4_at (l : Fin 512) : k0_pay47 (F := Ideal) x0 x1 x2 x3 x4 x5 x6 x7 x8 x9 (ix2 r l) = inner (fun k => x0 (ix2 r k)) (fun k => x1 (ix2 r k)) (fun k => x2 (ix2 r k)) (fun k => x3 (ix2 r k)) x4 x5 x6 x7 x8 4 l := by
  unfold k0_pay47
  pointwise [k0_pay31]
  simp only [normed_at]
  rfl

theorem inner6_at (l : Fin 512) : k0_pay48 (F := Ideal) x0 x1 x2 x3 x4 x5 x6 x7 x8 x9 (ix2 r l) = inner (fun k => x0 (ix2 r k)) (fun k => x1 (ix2 r k)) (fun k => x2 (ix2 r k)) (fun k => x3 (ix2 r k)) x4 x5 x6 x7 x8 6 l := by
  unfold k0_pay48
  pointwise [k0_pay38]
  simp only [normed_at]
  rfl

theorem squared0_at (l : Fin 512) : k0_pay19 (F := Ideal) (k0_pay45 x0 x1 x2 x3 x4 x5 x6 x7 x8 x9) (ix2 r l) = squared (fun k => x0 (ix2 r k)) (fun k => x1 (ix2 r k)) (fun k => x2 (ix2 r k)) (fun k => x3 (ix2 r k)) x4 x5 x6 x7 x8 0 l := by
  pointwise [k0_pay19]
  simp only [inner0_at]
  rfl

theorem squared1_at (l : Fin 512) : k0_pay22 (F := Ideal) (k0_pay44 x0 x1 x2 x3 x4 x5 x6 x7 x8 x9) (View.ld x8 r0_17) (ix2 r l) = squared (fun k => x0 (ix2 r k)) (fun k => x1 (ix2 r k)) (fun k => x2 (ix2 r k)) (fun k => x3 (ix2 r k)) x4 x5 x6 x7 x8 1 l := by
  pointwise [k0_pay20, k0_pay22]
  simp only [normed_at]
  rfl

theorem squared2_at (l : Fin 512) : k0_pay26 (F := Ideal) (k0_pay46 x0 x1 x2 x3 x4 x5 x6 x7 x8 x9) (ix2 r l) = squared (fun k => x0 (ix2 r k)) (fun k => x1 (ix2 r k)) (fun k => x2 (ix2 r k)) (fun k => x3 (ix2 r k)) x4 x5 x6 x7 x8 2 l := by
  pointwise [k0_pay26]
  simp only [inner2_at]
  rfl

theorem squared3_at (l : Fin 512) : k0_pay29 (F := Ideal) (k0_pay44 x0 x1 x2 x3 x4 x5 x6 x7 x8 x9) (View.ld x8 r0_23) (ix2 r l) = squared (fun k => x0 (ix2 r k)) (fun k => x1 (ix2 r k)) (fun k => x2 (ix2 r k)) (fun k => x3 (ix2 r k)) x4 x5 x6 x7 x8 3 l := by
  pointwise [k0_pay27, k0_pay29]
  simp only [normed_at]
  rfl

theorem squared4_at (l : Fin 512) : k0_pay33 (F := Ideal) (k0_pay47 x0 x1 x2 x3 x4 x5 x6 x7 x8 x9) (ix2 r l) = squared (fun k => x0 (ix2 r k)) (fun k => x1 (ix2 r k)) (fun k => x2 (ix2 r k)) (fun k => x3 (ix2 r k)) x4 x5 x6 x7 x8 4 l := by
  pointwise [k0_pay33]
  simp only [inner4_at]
  rfl

theorem squared5_at (l : Fin 512) : k0_pay36 (F := Ideal) (k0_pay44 x0 x1 x2 x3 x4 x5 x6 x7 x8 x9) (View.ld x8 r0_29) (ix2 r l) = squared (fun k => x0 (ix2 r k)) (fun k => x1 (ix2 r k)) (fun k => x2 (ix2 r k)) (fun k => x3 (ix2 r k)) x4 x5 x6 x7 x8 5 l := by
  pointwise [k0_pay34, k0_pay36]
  simp only [normed_at]
  rfl

theorem squared6_at (z : EReal) (hz : z = 0) (l : Fin 512) : k0_pay1 (F := Ideal) (k0_pay48 x0 x1 x2 x3 x4 x5 x6 x7 x8 x9) z (ix2 r l) = squared (fun k => x0 (ix2 r k)) (fun k => x1 (ix2 r k)) (fun k => x2 (ix2 r k)) (fun k => x3 (ix2 r k)) x4 x5 x6 x7 x8 6 l := by
  pointwise [k0_pay1]
  simp only [inner6_at, hz]
  rfl

theorem squared7_at (l : Fin 512) : k0_pay4 (F := Ideal) (k0_pay44 x0 x1 x2 x3 x4 x5 x6 x7 x8 x9) (View.ld x8 r0_35) (ix2 r l) = squared (fun k => x0 (ix2 r k)) (fun k => x1 (ix2 r k)) (fun k => x2 (ix2 r k)) (fun k => x3 (ix2 r k)) x4 x5 x6 x7 x8 7 l := by
  pointwise [k0_pay2, k0_pay4]
  simp only [normed_at]
  rfl

theorem inner_at (i : S256x4096.Idx) : out0_15 (F := Ideal) x0 x1 x2 x3 x4 x5 x6 x7 x8 x9 i = blockOf (fun r => inner (fun k => x0 (ix2 r k)) (fun k => x1 (ix2 r k)) (fun k => x2 (ix2 r k)) (fun k => x3 (ix2 r k)) x4 x5 x6 x7 x8) i := by
  unfold out0_15
  refine View.canon_apply_of_pieces _ _ ?_ i (cover0_15 _ _ _ _ _ _ _ _ i)
  simp only [List.mem_cons, List.not_mem_nil, or_false]
  rintro p (rfl | rfl | rfl | rfl | rfl | rfl | rfl | rfl)
  · exact placed (fun r => inner (fun k => x0 (ix2 r k)) (fun k => x1 (ix2 r k)) (fun k => x2 (ix2 r k)) (fun k => x3 (ix2 r k)) x4 x5 x6 x7 x8) 7 3584 rfl inb_S256x4096_S256x512_0_3584 _ fun r l => by
      pointwise [k0_pay2, k0_pay3]
      simp only [normed_at]
      rfl
  · exact placed (fun r => inner (fun k => x0 (ix2 r k)) (fun k => x1 (ix2 r k)) (fun k => x2 (ix2 r k)) (fun k => x3 (ix2 r k)) x4 x5 x6 x7 x8) 6 3072 rfl inb_S256x4096_S256x512_0_3072 _ fun r l => by
      pointwise [k0_pay38, k0_pay39]
      simp only [normed_at]
      rfl
  · exact placed (fun r => inner (fun k => x0 (ix2 r k)) (fun k => x1 (ix2 r k)) (fun k => x2 (ix2 r k)) (fun k => x3 (ix2 r k)) x4 x5 x6 x7 x8) 5 2560 rfl inb_S256x4096_S256x512_0_2560 _ fun r l => by
      pointwise [k0_pay34, k0_pay35]
      simp only [normed_at]
      rfl
  · exact placed (fun r => inner (fun k => x0 (ix2 r k)) (fun k => x1 (ix2 r k)) (fun k => x2 (ix2 r k)) (fun k => x3 (ix2 r k)) x4 x5 x6 x7 x8) 4 2048 rfl inb_S256x4096_S256x512_0_2048 _ fun r l => by
      pointwise [k0_pay31, k0_pay32]
      simp only [normed_at]
      rfl
  · exact placed (fun r => inner (fun k => x0 (ix2 r k)) (fun k => x1 (ix2 r k)) (fun k => x2 (ix2 r k)) (fun k => x3 (ix2 r k)) x4 x5 x6 x7 x8) 3 1536 rfl inb_S256x4096_S256x512_0_1536 _ fun r l => by
      pointwise [k0_pay27, k0_pay28]
      simp only [normed_at]
      rfl
  · exact placed (fun r => inner (fun k => x0 (ix2 r k)) (fun k => x1 (ix2 r k)) (fun k => x2 (ix2 r k)) (fun k => x3 (ix2 r k)) x4 x5 x6 x7 x8) 2 1024 rfl inb_S256x4096_S256x512_0_1024 _ fun r l => by
      pointwise [k0_pay24, k0_pay25]
      simp only [normed_at]
      rfl
  · exact placed (fun r => inner (fun k => x0 (ix2 r k)) (fun k => x1 (ix2 r k)) (fun k => x2 (ix2 r k)) (fun k => x3 (ix2 r k)) x4 x5 x6 x7 x8) 1 512 rfl inb_S256x4096_S256x512_0_512 _ fun r l => by
      pointwise [k0_pay20, k0_pay21]
      simp only [normed_at]
      rfl
  · exact placed (fun r => inner (fun k => x0 (ix2 r k)) (fun k => x1 (ix2 r k)) (fun k => x2 (ix2 r k)) (fun k => x3 (ix2 r k)) x4 x5 x6 x7 x8) 0 0 rfl inb_S256x4096_S256x512_0_0 _ fun r l => by
      pointwise [k0_pay18]
      exact inner0_at x0 x1 x2 x3 x4 x5 x6 x7 x8 x9 r l

theorem squared_at (i : S256x4096.Idx) : out0_16 (F := Ideal) x0 x1 x2 x3 x4 x5 x6 x7 x8 x9 i = blockOf (fun r => squared (fun k => x0 (ix2 r k)) (fun k => x1 (ix2 r k)) (fun k => x2 (ix2 r k)) (fun k => x3 (ix2 r k)) x4 x5 x6 x7 x8) i := by
  unfold out0_16
  refine View.canon_apply_of_pieces _ _ ?_ i (cover0_16 _ _ _ _ _ _ _ _ i)
  simp only [List.mem_cons, List.not_mem_nil, or_false]
  rintro p (rfl | rfl | rfl | rfl | rfl | rfl | rfl | rfl)
  · exact placed (fun r => squared (fun k => x0 (ix2 r k)) (fun k => x1 (ix2 r k)) (fun k => x2 (ix2 r k)) (fun k => x3 (ix2 r k)) x4 x5 x6 x7 x8) 7 3584 rfl inb_S256x4096_S256x512_0_3584 _ fun r l => squared7_at x0 x1 x2 x3 x4 x5 x6 x7 x8 x9 r l
  · exact placed (fun r => squared (fun k => x0 (ix2 r k)) (fun k => x1 (ix2 r k)) (fun k => x2 (ix2 r k)) (fun k => x3 (ix2 r k)) x4 x5 x6 x7 x8) 6 3072 rfl inb_S256x4096_S256x512_0_3072 _ fun r l => squared6_at x0 x1 x2 x3 x4 x5 x6 x7 x8 x9 r _ (by pointwise) l
  · exact placed (fun r => squared (fun k => x0 (ix2 r k)) (fun k => x1 (ix2 r k)) (fun k => x2 (ix2 r k)) (fun k => x3 (ix2 r k)) x4 x5 x6 x7 x8) 5 2560 rfl inb_S256x4096_S256x512_0_2560 _ fun r l => squared5_at x0 x1 x2 x3 x4 x5 x6 x7 x8 x9 r l
  · exact placed (fun r => squared (fun k => x0 (ix2 r k)) (fun k => x1 (ix2 r k)) (fun k => x2 (ix2 r k)) (fun k => x3 (ix2 r k)) x4 x5 x6 x7 x8) 4 2048 rfl inb_S256x4096_S256x512_0_2048 _ fun r l => squared4_at x0 x1 x2 x3 x4 x5 x6 x7 x8 x9 r l
  · exact placed (fun r => squared (fun k => x0 (ix2 r k)) (fun k => x1 (ix2 r k)) (fun k => x2 (ix2 r k)) (fun k => x3 (ix2 r k)) x4 x5 x6 x7 x8) 3 1536 rfl inb_S256x4096_S256x512_0_1536 _ fun r l => squared3_at x0 x1 x2 x3 x4 x5 x6 x7 x8 x9 r l
  · exact placed (fun r => squared (fun k => x0 (ix2 r k)) (fun k => x1 (ix2 r k)) (fun k => x2 (ix2 r k)) (fun k => x3 (ix2 r k)) x4 x5 x6 x7 x8) 2 1024 rfl inb_S256x4096_S256x512_0_1024 _ fun r l => squared2_at x0 x1 x2 x3 x4 x5 x6 x7 x8 x9 r l
  · exact placed (fun r => squared (fun k => x0 (ix2 r k)) (fun k => x1 (ix2 r k)) (fun k => x2 (ix2 r k)) (fun k => x3 (ix2 r k)) x4 x5 x6 x7 x8) 1 512 rfl inb_S256x4096_S256x512_0_512 _ fun r l => squared1_at x0 x1 x2 x3 x4 x5 x6 x7 x8 x9 r l
  · exact placed (fun r => squared (fun k => x0 (ix2 r k)) (fun k => x1 (ix2 r k)) (fun k => x2 (ix2 r k)) (fun k => x3 (ix2 r k)) x4 x5 x6 x7 x8) 0 0 rfl inb_S256x4096_S256x512_0_0 _ fun r l => squared0_at x0 x1 x2 x3 x4 x5 x6 x7 x8 x9 r l

theorem after_at (q : Fin 1024) : out0_17 (F := Ideal) x0 x1 x2 x3 x4 x5 x6 x7 x8 x9 (ix2 r q) = after (fun k => x0 (ix2 r k)) (fun k => x1 (ix2 r k)) (fun k => x2 (ix2 r k)) (fun k => x3 (ix2 r k)) x4 x5 x6 x7 x8 x9 q := by
  unfold out0_17
  rw [View.canon_unit_zero (S := S256x1024) origin]
  pointwise [k0_pay5, k0_pay37, k0_pay30, k0_pay23, k0_pay2, k0_pay20, k0_pay27, k0_pay34]
  simp only [mid_at, squared0_at, squared1_at, squared2_at, squared3_at, squared4_at, squared5_at, squared6_at _ _ _ _ _ _ _ _ _ _ _ (0 : EReal) rfl, squared7_at]
  exact Cert.Rows.sum_groups (fun n l => squared (fun k => x0 (ix2 r k)) (fun k => x1 (ix2 r k)) (fun k => x2 (ix2 r k)) (fun k => x3 (ix2 r k)) x4 x5 x6 x7 x8 n l * x9 (ix3 n l q)) _

end Block

/-! ## The arrays -/

variable (m : (ℓ : Loc nD τ sig) → Buf (Elt Ideal) ℓ) (c : Dev nD)

/-- The arguments. -/
abbrev attnA : S8192x512.Idx → EReal := m ((c : Thread nD τ).loc main_arg0)
abbrev attnB : S8192x512.Idx → EReal := m ((c : Thread nD τ).loc main_arg1)
abbrev zs : S8192x2176.Idx → EReal := m ((c : Thread nD τ).loc main_arg2)
abbrev hid : S8192x1024.Idx → EReal := m ((c : Thread nD τ).loc main_arg3)
abbrev wsa : S8x512x128.Idx → EReal := m ((c : Thread nD τ).loc main_arg4)
abbrev wfo : S8x512x128.Idx → EReal := m ((c : Thread nD τ).loc main_arg5)
abbrev wmo : S1024x1024.Idx → EReal := m ((c : Thread nD τ).loc main_arg6)
abbrev gain : S1x1024.Idx → EReal := m ((c : Thread nD τ).loc main_arg7)
abbrev w1 : S8x1024x512.Idx → EReal := m ((c : Thread nD τ).loc main_arg8)
abbrev w2 : S8x512x1024.Idx → EReal := m ((c : Thread nD τ).loc main_arg9)

/-- The row-by-row functions, of the arguments' rows. -/
abbrev mixedOf (p : Fin 8192) := mixed (fun k => attnA m c (ix2 p k)) (fun k => attnB m c (ix2 p k)) (fun k => zs m c (ix2 p k)) (wsa m c) (wfo m c)
abbrev midOf (p : Fin 8192) := mid (fun k => attnA m c (ix2 p k)) (fun k => attnB m c (ix2 p k)) (fun k => zs m c (ix2 p k)) (fun k => hid m c (ix2 p k)) (wsa m c) (wfo m c) (wmo m c)
abbrev normedOf (p : Fin 8192) := normed (fun k => attnA m c (ix2 p k)) (fun k => attnB m c (ix2 p k)) (fun k => zs m c (ix2 p k)) (fun k => hid m c (ix2 p k)) (wsa m c) (wfo m c) (wmo m c) (gain m c)
abbrev innerOf (p : Fin 8192) := inner (fun k => attnA m c (ix2 p k)) (fun k => attnB m c (ix2 p k)) (fun k => zs m c (ix2 p k)) (fun k => hid m c (ix2 p k)) (wsa m c) (wfo m c) (wmo m c) (gain m c) (w1 m c)
abbrev squaredOf (p : Fin 8192) := squared (fun k => attnA m c (ix2 p k)) (fun k => attnB m c (ix2 p k)) (fun k => zs m c (ix2 p k)) (fun k => hid m c (ix2 p k)) (wsa m c) (wfo m c) (wmo m c) (gain m c) (w1 m c)
abbrev afterOf (p : Fin 8192) := after (fun k => attnA m c (ix2 p k)) (fun k => attnB m c (ix2 p k)) (fun k => zs m c (ix2 p k)) (fun k => hid m c (ix2 p k)) (wsa m c) (wfo m c) (wmo m c) (gain m c) (w1 m c) (w2 m c)

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = t.val ∧ win0_2.index t 1 = 0 := (by decide +kernel : ∀ t : Fin grid0.N, _)
theorem index3 : ∀ t : Fin cfg0.N, win0_3.index t 0 = t.val ∧ win0_3.index t 1 = 0 := (by decide +kernel : ∀ t : Fin grid0.N, _)
theorem index10 : ∀ t : Fin cfg0.N, win0_10.index t 0 = t.val ∧ win0_10.index t 1 = 0 := (by decide +kernel : ∀ t : Fin grid0.N, _)
theorem index11 : ∀ t : Fin cfg0.N, win0_11.index t 0 = t.val ∧ win0_11.index t 1 = 0 := (by decide +kernel : ∀ t : Fin grid0.N, _)
theorem index12 : ∀ t : Fin cfg0.N, win0_12.index t 0 = t.val ∧ win0_12.index t 1 = 0 := (by decide +kernel : ∀ t : Fin grid0.N, _)
theorem index13 : ∀ t : Fin cfg0.N, win0_13.index t 0 = t.val ∧ win0_13.index t 1 = 0 := (by decide +kernel : ∀ t : Fin grid0.N, _)
theorem index14 : ∀ t : Fin cfg0.N, win0_14.index t 0 = t.val ∧ win0_14.index t 1 = 0 := (by decide +kernel : ∀ t : Fin grid0.N, _)
theorem index15 : ∀ t : Fin cfg0.N, win0_15.index t 0 = t.val ∧ win0_15.index t 1 = 0 := (by decide +kernel : ∀ t : Fin grid0.N, _)
theorem index16 : ∀ t : Fin cfg0.N, win0_16.index t 0 = t.val ∧ win0_16.index t 1 = 0 := (by decide +kernel : ∀ t : Fin grid0.N, _)
theorem index17 : ∀ t : Fin cfg0.N, win0_17.index t 0 = t.val ∧ win0_17.index t 1 = 0 := (by decide +kernel : ∀ t : Fin grid0.N, _)
theorem index4 : ∀ t : Fin cfg0.N, ∀ a, win0_4.index t a = 0 := (by decide +kernel : ∀ t : Fin grid0.N, _)
theorem index5 : ∀ t : Fin cfg0.N, ∀ a, win0_5.index t a = 0 := (by decide +kernel : ∀ t : Fin grid0.N, _)
theorem index6 : ∀ t : Fin cfg0.N, ∀ a, win0_6.index t a = 0 := (by decide +kernel : ∀ t : Fin grid0.N, _)
theorem index7 : ∀ t : Fin cfg0.N, ∀ a, win0_7.index t a = 0 := (by decide +kernel : ∀ t : Fin grid0.N, _)
theorem index8 : ∀ t : Fin cfg0.N, ∀ a, win0_8.index t a = 0 := (by decide +kernel : ∀ t : Fin grid0.N, _)
theorem index9 : ∀ t : Fin cfg0.N, ∀ a, win0_9.index t a = 0 := (by decide +kernel : ∀ t : Fin grid0.N, _)

theorem rows : 8192 = cfg0.N * 256 := by rw [show cfg0.N = 32 from N_0]

/-- The row of the whole arrays that a block's row is. -/
abbrev at' (t : Fin cfg0.N) (r : Fin 256) : Fin 8192 := row rows t r

/-- The blocks a step reads. -/
theorem attnA_at (t : Fin cfg0.N) (r : Fin 256) (l : Fin 512) : (iblk m c 0 t : S256x512.Idx → EReal) (ix2 r l) = attnA m c (ix2 (at' t r) l) := by
  unfold iblk
  rw [View.read_apply]
  show V m c main_arg0 _ = _
  rw [V_main_arg0]
  exact congrArg _ (Cert.Rows.Blocks.placed rows t r l _ _ _ (index0 t) rfl rfl)

theorem attnB_at (t : Fin cfg0.N) (r : Fin 256) (l : Fin 512) : (iblk m c 1 t : S256x512.Idx → EReal) (ix2 r l) = attnB m c (ix2 (at' t r) l) := by
  unfold iblk
  rw [View.read_apply]
  show V m c main_arg1 _ = _
  rw [V_main_arg1]
  exact congrArg _ (Cert.Rows.Blocks.placed rows t r l _ _ _ (index1 t) rfl rfl)

theorem zs_at (t : Fin cfg0.N) (r : Fin 256) (l : Fin 2176) : (iblk m c 2 t : S256x2176.Idx → EReal) (ix2 r l) = zs m c (ix2 (at' t r) l) := by
  unfold iblk
  rw [View.read_apply]
  show V m c main_arg2 _ = _
  rw [V_main_arg2]
  exact congrArg _ (Cert.Rows.Blocks.placed rows t r l _ _ _ (index2 t) rfl rfl)

theorem hid_at (t : Fin cfg0.N) (r : Fin 256) (l : Fin 1024) : (iblk m c 3 t : S256x1024.Idx → EReal) (ix2 r l) = hid m c (ix2 (at' t r) l) := by
  unfold iblk
  rw [View.read_apply]
  show V m c main_arg3 _ = _
  rw [V_main_arg3]
  exact congrArg _ (Cert.Rows.Blocks.placed rows t r l _ _ _ (index3 t) rfl rfl)

theorem wsa_at (t : Fin cfg0.N) : (iblk m c 4 t : S8x512x128.Idx → EReal) = wsa m c := by
  funext i
  unfold iblk
  rw [View.read_apply]
  show V m c main_arg4 _ = _
  rw [V_main_arg4]
  exact congrArg _ (Cert.Rows.Blocks.whole i _ _ (index4 t) fun _ => rfl)

theorem wfo_at (t : Fin cfg0.N) : (iblk m c 5 t : S8x512x128.Idx → EReal) = wfo m c := by
  funext i
  unfold iblk
  rw [View.read_apply]
  show V m c main_arg5 _ = _
  rw [V_main_arg5]
  exact congrArg _ (Cert.Rows.Blocks.whole i _ _ (index5 t) fun _ => rfl)

theorem wmo_at (t : Fin cfg0.N) : (iblk m c 6 t : S1024x1024.Idx → EReal) = wmo m c := by
  funext i
  unfold iblk
  rw [View.read_apply]
  show V m c main_arg6 _ = _
  rw [V_main_arg6]
  exact congrArg _ (Cert.Rows.Blocks.whole i _ _ (index6 t) fun _ => rfl)

theorem gain_at (t : Fin cfg0.N) : (iblk m c 7 t : S1x1024.Idx → EReal) = gain m c := by
  funext i
  unfold iblk
  rw [View.read_apply]
  show V m c main_arg7 _ = _
  rw [V_main_arg7]
  exact congrArg _ (Cert.Rows.Blocks.whole i _ _ (index7 t) fun _ => rfl)

theorem w1_at (t : Fin cfg0.N) : (iblk m c 8 t : S8x1024x512.Idx → EReal) = w1 m c := by
  funext i
  unfold iblk
  rw [View.read_apply]
  show V m c main_arg8 _ = _
  rw [V_main_arg8]
  exact congrArg _ (Cert.Rows.Blocks.whole i _ _ (index8 t) fun _ => rfl)

theorem w2_at (t : Fin cfg0.N) : (iblk m c 9 t : S8x512x1024.Idx → EReal) = w2 m c := by
  funext i
  unfold iblk
  rw [View.read_apply]
  show V m c main_arg9 _ = _
  rw [V_main_arg9]
  exact congrArg _ (Cert.Rows.Blocks.whole i _ _ (index9 t) fun _ => rfl)

/-! ## The results -/

theorem block10 (t : Fin cfg0.N) (r : Fin 256) (q : Fin 1024) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = branch (fun k => attnA m c (ix2 (at' t r) k)) (wsa m c) q := by
  unfold out0_10
  rw [View.canon_unit_zero (S := S256x1024) origin]
  pointwise [k0_pay13]
  refine (branch0_at _ _ _ _ _ _ _ _ _ _ r q).trans ?_
  simp only [wsa_at, wfo_at, wmo_at, gain_at, w1_at, w2_at, attnA_at, attnB_at, zs_at, hid_at]

theorem result10 (p : Fin 8192) (q : Fin 1024) : ((dats m 0 c).arrAt 10 cfg0.N : S8192x1024.Idx → EReal) (ix2 p q)
    = branch (fun k => attnA m c (ix2 p k)) (wsa m c) q := by
  refine of_blocks rows (by decide) _ (fun p (q : Fin 1024) => branch (fun k => attnA m c (ix2 p k)) (wsa m c) q) (fun t r q => ?_) p q
  have e := congrFun (Value.blocks10 m c t (flush0_10 _)) (ix2 r q)
  rw [View.read_apply, Value.flushed10] at e
  exact (congrArg _ (Cert.Rows.Blocks.placed rows t r q _ _ _ (index10 t) rfl rfl).symm).trans (e.trans (block10 m c t r q))

theorem block11 (t : Fin cfg0.N) (r : Fin 256) (q : Fin 1024) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = branch (fun k => attnB m c (ix2 (at' t r) k)) (wfo m c) q := by
  unfold out0_11
  rw [View.canon_unit_zero (S := S256x1024) origin]
  pointwise [k0_pay14]
  refine (branch1_at _ _ _ _ _ _ _ _ _ _ r q).trans ?_
  simp only [wsa_at, wfo_at, wmo_at, gain_at, w1_at, w2_at, attnA_at, attnB_at, zs_at, hid_at]

theorem result11 (p : Fin 8192) (q : Fin 1024) : ((dats m 0 c).arrAt 11 cfg0.N : S8192x1024.Idx → EReal) (ix2 p q)
    = branch (fun k => attnB m c (ix2 p k)) (wfo m c) q := by
  refine of_blocks rows (by decide) _ (fun p (q : Fin 1024) => branch (fun k => attnB m c (ix2 p k)) (wfo m c) q) (fun t r q => ?_) p q
  have e := congrFun (Value.blocks11 m c t (flush0_11 _)) (ix2 r q)
  rw [View.read_apply, Value.flushed11] at e
  exact (congrArg _ (Cert.Rows.Blocks.placed rows t r q _ _ _ (index11 t) rfl rfl).symm).trans (e.trans (block11 m c t r q))

theorem block12 (t : Fin cfg0.N) (r : Fin 256) (q : Fin 1024) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = mixedOf m c (at' t r) q := by
  refine (mixed_at _ _ _ _ _ _ _ _ _ _ r q).trans ?_
  simp only [wsa_at, wfo_at, wmo_at, gain_at, w1_at, w2_at, attnA_at, attnB_at, zs_at, hid_at]

theorem result12 (p : Fin 8192) (q : Fin 1024) : ((dats m 0 c).arrAt 12 cfg0.N : S8192x1024.Idx → EReal) (ix2 p q)
    = mixedOf m c p q := by
  refine of_blocks rows (by decide) _ (fun p (q : Fin 1024) => mixedOf m c p q) (fun t r q => ?_) p q
  have e := congrFun (Value.blocks12 m c t (flush0_12 _)) (ix2 r q)
  rw [View.read_apply, Value.flushed12] at e
  exact (congrArg _ (Cert.Rows.Blocks.placed rows t r q _ _ _ (index12 t) rfl rfl).symm).trans (e.trans (block12 m c t r q))

theorem block13 (t : Fin cfg0.N) (r : Fin 256) (q : Fin 1024) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = midOf m c (at' t r) q := by
  unfold out0_13
  rw [View.canon_unit_zero (S := S256x1024) origin]
  refine (mid_at _ _ _ _ _ _ _ _ _ _ r q).trans ?_
  simp only [wsa_at, wfo_at, wmo_at, gain_at, w1_at, w2_at, attnA_at, attnB_at, zs_at, hid_at]

theorem result13 (p : Fin 8192) (q : Fin 1024) : ((dats m 0 c).arrAt 13 cfg0.N : S8192x1024.Idx → EReal) (ix2 p q)
    = midOf m c p q := by
  refine of_blocks rows (by decide) _ (fun p (q : Fin 1024) => midOf m c p q) (fun t r q => ?_) p q
  have e := congrFun (Value.blocks13 m c t (flush0_13 _)) (ix2 r q)
  rw [View.read_apply, Value.flushed13] at e
  exact (congrArg _ (Cert.Rows.Blocks.placed rows t r q _ _ _ (index13 t) rfl rfl).symm).trans (e.trans (block13 m c t r q))

theorem block14 (t : Fin cfg0.N) (r : Fin 256) (q : Fin 1024) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = normedOf m c (at' t r) q := by
  unfold out0_14
  rw [View.canon_unit_zero (S := S256x1024) origin]
  refine (normed_at _ _ _ _ _ _ _ _ _ _ r q).trans ?_
  simp only [wsa_at, wfo_at, wmo_at, gain_at, w1_at, w2_at, attnA_at, attnB_at, zs_at, hid_at]

theorem result14 (p : Fin 8192) (q : Fin 1024) : ((dats m 0 c).arrAt 14 cfg0.N : S8192x1024.Idx → EReal) (ix2 p q)
    = normedOf m c p q := by
  refine of_blocks rows (by decide) _ (fun p (q : Fin 1024) => normedOf m c p q) (fun t r q => ?_) p q
  have e := congrFun (Value.blocks14 m c t (flush0_14 _)) (ix2 r q)
  rw [View.read_apply, Value.flushed14] at e
  exact (congrArg _ (Cert.Rows.Blocks.placed rows t r q _ _ _ (index14 t) rfl rfl).symm).trans (e.trans (block14 m c t r q))

theorem block17 (t : Fin cfg0.N) (r : Fin 256) (q : Fin 1024) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = afterOf m c (at' t r) q := by
  refine (after_at _ _ _ _ _ _ _ _ _ _ r q).trans ?_
  simp only [wsa_at, wfo_at, wmo_at, gain_at, w1_at, w2_at, attnA_at, attnB_at, zs_at, hid_at]

theorem result17 (p : Fin 8192) (q : Fin 1024) : ((dats m 0 c).arrAt 17 cfg0.N : S8192x1024.Idx → EReal) (ix2 p q)
    = afterOf m c p q := by
  refine of_blocks rows (by decide) _ (fun p (q : Fin 1024) => afterOf m c p q) (fun t r q => ?_) p q
  have e := congrFun (Value.blocks17 m c t (flush0_17 _)) (ix2 r q)
  rw [View.read_apply, Value.flushed17] at e
  exact (congrArg _ (Cert.Rows.Blocks.placed rows t r q _ _ _ (index17 t) rfl rfl).symm).trans (e.trans (block17 m c t r q))

theorem block15 (t : Fin cfg0.N) (r : Fin 256) (q : Fin 4096) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
    = innerOf m c (at' t r) ⟨q.val / 512, by omega⟩ ⟨q.val % 512, by omega⟩ := by
  refine (inner_at _ _ _ _ _ _ _ _ _ _ (ix2 r q)).trans ?_
  rw [blockOf_at]
  simp only [wsa_at, wfo_at, wmo_at, gain_at, w1_at, w2_at, attnA_at, attnB_at, zs_at, hid_at]

theorem result15 (p : Fin 8192) (q : Fin 4096) : ((dats m 0 c).arrAt 15 cfg0.N : S8192x4096.Idx → EReal) (ix2 p q)
    = innerOf m c p ⟨q.val / 512, by omega⟩ ⟨q.val % 512, by omega⟩ := by
  refine of_blocks rows (by decide) _ (fun p (q : Fin 4096) => innerOf m c p ⟨q.val / 512, by omega⟩ ⟨q.val % 512, by omega⟩) (fun t r q => ?_) p q
  have e := congrFun (Value.blocks15 m c t (flush0_15 _)) (ix2 r q)
  rw [View.read_apply, Value.flushed15] at e
  exact (congrArg _ (Cert.Rows.Blocks.placed rows t r q _ _ _ (index15 t) rfl rfl).symm).trans (e.trans (block15 m c t r q))

theorem block16 (t : Fin cfg0.N) (r : Fin 256) (q : Fin 4096) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
    = squaredOf m c (at' t r) ⟨q.val / 512, by omega⟩ ⟨q.val % 512, by omega⟩ := by
  refine (squared_at _ _ _ _ _ _ _ _ _ _ (ix2 r q)).trans ?_
  rw [blockOf_at]
  simp only [wsa_at, wfo_at, wmo_at, gain_at, w1_at, w2_at, attnA_at, attnB_at, zs_at, hid_at]

theorem result16 (p : Fin 8192) (q : Fin 4096) : ((dats m 0 c).arrAt 16 cfg0.N : S8192x4096.Idx → EReal) (ix2 p q)
    = squaredOf m c p ⟨q.val / 512, by omega⟩ ⟨q.val % 512, by omega⟩ := by
  refine of_blocks rows (by decide) _ (fun p (q : Fin 4096) => squaredOf m c p ⟨q.val / 512, by omega⟩ ⟨q.val % 512, by omega⟩) (fun t r q => ?_) p q
  have e := congrFun (Value.blocks16 m c t (flush0_16 _)) (ix2 r q)
  rw [View.read_apply, Value.flushed16] at e
  exact (congrArg _ (Cert.Rows.Blocks.placed rows t r q _ _ _ (index16 t) rfl rfl).symm).trans (e.trans (block16 m c t r q))

end Cert.MixFwdIdeal.Rows

end
-- ==== Proof.Rows.MixPlain.lean ====
/- The merge of the branches and the feed-forward layer: the call and the plain lines, matched. -/
module

public import proofs.«01_k».proof.Proof.Rows.Mix
public import proofs.«01_k».proof.Proof.Gen.MixFwdRefIdeal.Run

@[expose] public section

noncomputable section

namespace Cert.MixFwdRefIdeal.Rows

open Cert.MixFwdRefIdeal Cert.MixFwdRefIdeal.Gen Idealize.ShloMosaic Idealize.ShloMosaic.TcCoe

/-- The feed-forward layer's second half, on any rows. -/
theorem second_at (H : FVec Ideal S8192x1024 .f32) (R : FVec Ideal S8192x4096 .f32) (w : FVec Ideal S8x512x1024 .bf16) (p : Fin 8192) (q : Fin 1024) :
    addf H (Host.dotGeneral dot_S8192x4096_S4096x1024_S8192x1024_1_0_0_1_n_n none R
      (shapeCast S4096x1024 (extf .f32 w bitsLt_bf16_f32) shapeCasts_S8x512x1024_S4096x1024)) (ix2 p q)
      = (H (ix2 p q) + ∑ j : Fin 4096, R (ix2 p j) * w (ix3 (⟨j.val / 512, by omega⟩ : Fin 8) (⟨j.val % 512, by omega⟩ : Fin 512) q) : EReal) := by
  pointwise

end Cert.MixFwdRefIdeal.Rows

open Idealize.ShloMosaic in
set_option maxHeartbeats 1000000 in
/-- The call leaves the merged and fed-forward rows. -/
theorem Cert.mix_fwd : @Cert.algebraic_MixFwdIdeal_MixFwdRefIdeal Cert.MixFwdIdeal.Gen.facts Cert.MixFwdRefIdeal.Gen.facts := by
  intro m g m' g' _ hm
  refine ⟨fun c => (Cert.MixFwdIdeal.Gen.dats m 0 c).arrAt 10 Cert.MixFwdIdeal.cfg0.N, fun c => (Cert.MixFwdIdeal.Gen.dats m 0 c).arrAt 11 Cert.MixFwdIdeal.cfg0.N, fun c => (Cert.MixFwdIdeal.Gen.dats m 0 c).arrAt 12 Cert.MixFwdIdeal.cfg0.N, fun c => (Cert.MixFwdIdeal.Gen.dats m 0 c).arrAt 13 Cert.MixFwdIdeal.cfg0.N, fun c => (Cert.MixFwdIdeal.Gen.dats m 0 c).arrAt 14 Cert.MixFwdIdeal.cfg0.N, fun c => (Cert.MixFwdIdeal.Gen.dats m 0 c).arrAt 15 Cert.MixFwdIdeal.cfg0.N, fun c => (Cert.MixFwdIdeal.Gen.dats m 0 c).arrAt 16 Cert.MixFwdIdeal.cfg0.N, fun c => (Cert.MixFwdIdeal.Gen.dats m 0 c).arrAt 17 Cert.MixFwdIdeal.cfg0.N,
    Cert.MixFwdIdeal.Value.run_blocks m g, ?_⟩
  refine (Idealize.ShloMosaic.θ_run Cert.MixFwdRefIdeal.defs _ _).mono
    (fun r h c => ?_) (Cert.MixFwdRefIdeal.Value.run m' g')
  have e13 : r.2.mem ((c.tc : Thread Cert.MixFwdRefIdeal.nD Cert.MixFwdRefIdeal.τ).loc Cert.MixFwdRefIdeal.main_v24) = (Cert.MixFwdIdeal.Gen.dats m 0 c).arrAt 13 Cert.MixFwdIdeal.cfg0.N := by
    refine (h c).2.2.2.1.trans ?_
    rw [(hm c).1, (hm c).2.1, (hm c).2.2.1, (hm c).2.2.2.1, (hm c).2.2.2.2.1, (hm c).2.2.2.2.2.1, (hm c).2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.MixFwdIdeal.Rows.result13 m c p q).symm
    pointwise
    rfl
  have at13 : ∀ (p : Fin 8192) (q : Fin 1024), (r.2.mem ((c.tc : Thread Cert.MixFwdRefIdeal.nD Cert.MixFwdRefIdeal.τ).loc Cert.MixFwdRefIdeal.main_v24) : Cert.MixFwdIdeal.S8192x1024.Idx → EReal) (ix2 p q) = Cert.MixFwdIdeal.Rows.midOf m c p q := fun p q => (congrFun e13 _).trans (Cert.MixFwdIdeal.Rows.result13 m c p q)
  refine ⟨(h c).1.trans ?_, (h c).2.1.trans ?_, (h c).2.2.1.trans ?_, e13, (h c).2.2.2.2.1.trans ?_,
    (h c).2.2.2.2.2.1.trans ?_, (h c).2.2.2.2.2.2.1.trans ?_, (h c).2.2.2.2.2.2.2.1.trans ?_, (h c).2.2.2.2.2.2.2.2⟩
  · rw [(hm c).1, (hm c).2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.MixFwdIdeal.Rows.result10 m c p q).symm
    pointwise
    rfl
  · rw [(hm c).2.1, (hm c).2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.MixFwdIdeal.Rows.result11 m c p q).symm
    pointwise
    rfl
  · rw [(hm c).1, (hm c).2.1, (hm c).2.2.1, (hm c).2.2.2.2.1, (hm c).2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.MixFwdIdeal.Rows.result12 m c p q).symm
    pointwise
    rfl
  · unfold Cert.MixFwdRefIdeal.Value.res_main_v51
    rw [← (h c).2.2.2.1, (hm c).2.2.2.2.2.2.2.1]
    funext j
    obtain ⟨p, q, rfl⟩ : ∃ (p : Fin 8192) (q : Fin 1024), j = Idealize.ShloMosaic.ix2 p q := ⟨j 0, j 1, by funext a; fin_cases a <;> rfl⟩
    refine Eq.trans ?_ (Cert.MixFwdIdeal.Rows.result14 m c p q).symm
    pointwise
    simp only [at13]
    rfl
  · unfold Cert.MixFwdRefIdeal.Value.res_main_v52
    rw [← (h c).2.2.2.1, (hm c).2.2.2.2.2.2.2.1, (hm c).2.2.2.2.2.2.2.2.1]
    funext j
    obtain ⟨p, q, rfl⟩ : ∃ (p : Fin 8192) (q : Fin 4096), j = Idealize.ShloMosaic.ix2 p q := ⟨j 0, j 1, by funext a; fin_cases a <;> rfl⟩
    refine Eq.trans ?_ (Cert.MixFwdIdeal.Rows.result15 m c p q).symm
    pointwise
    simp only [at13]
    rfl
  · unfold Cert.MixFwdRefIdeal.Value.res_main_v53
    rw [← (h c).2.2.2.1, (hm c).2.2.2.2.2.2.2.1, (hm c).2.2.2.2.2.2.2.2.1]
    funext j
    obtain ⟨p, q, rfl⟩ : ∃ (p : Fin 8192) (q : Fin 4096), j = Idealize.ShloMosaic.ix2 p q := ⟨j 0, j 1, by funext a; fin_cases a <;> rfl⟩
    refine Eq.trans ?_ (Cert.MixFwdIdeal.Rows.result16 m c p q).symm
    pointwise
    simp only [at13]
    rfl
  · unfold Cert.MixFwdRefIdeal.Value.res_main_v47
    rw [← (h c).2.2.2.1, (hm c).2.2.2.2.2.2.2.1, (hm c).2.2.2.2.2.2.2.2.1, (hm c).2.2.2.2.2.2.2.2.2]
    funext j
    obtain ⟨p, q, rfl⟩ : ∃ (p : Fin 8192) (q : Fin 1024), j = Idealize.ShloMosaic.ix2 p q := ⟨j 0, j 1, by funext a; fin_cases a <;> rfl⟩
    refine Eq.trans ?_ (Cert.MixFwdIdeal.Rows.result17 m c p q).symm
    refine (Cert.MixFwdRefIdeal.Rows.second_at _ _ _ p q).trans ?_
    rw [at13]
    refine congrArg (fun a : EReal => Cert.MixFwdIdeal.Rows.midOf m c p q + a) (Finset.sum_congr (M := EReal) rfl fun j _ => congrArg (fun a : EReal => a * _) ?_)
    pointwise
    simp only [at13]
    rfl

end
-- ==== Proof.Weights.Branch.lean ====
/- The gradient of a branch's projection: what the blocked product leaves, and what one product gives. -/
module

public import proofs.«01_k».proof.Defs
public import proofs.«01_k».proof.Proof.Weights.Sums
public import proofs.«01_k».proof.Proof.Gen.DwBrIdeal.Value
public import proofs.«01_k».proof.Proof.Gen.DwBrRefIdeal.Run
public import Idealize.ShloMosaic.Lib.Pointwise
public import Idealize.ShloMosaic.Lib.IdealHost

@[expose] public section

noncomputable section

namespace Cert.DwBrIdeal.Weights

open Cert.DwBrIdeal Cert.DwBrIdeal.Gen Idealize.ShloMosaic Idealize.ShloMosaic.TcCoe Idealize.SL.Sem

theorem origin : (![0, 0] : Fin 2 → Nat) = fun _ => 0 := funext fun a => by fin_cases a <;> rfl

section Points

variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S8x512x128 .bf16) (h5 : a5.IsWhole)
  (a6 : Memref sig .tc .vmem S512x1024 .f32) (h6 : a6.IsWhole) (x : Vec Ideal S2048x512 .bf16) (y : Vec Ideal S2048x1024 .bf16)
  (s : Vec Ideal S512x1024 .f32)

/-- The first block of rows starts from zero. -/
theorem first (hc0 : cond0_0 i) (hc1 : ¬cond0_1 i) :
    sout0_A_0 c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) origin, View.readCov_unit_zero (S := S512x1024) _ origin]
  simp only [View.readAt_eq_ld, h3.read_unread, h4.read_unread, View.ld_unit_zero (S := S2048x512) origin, View.ld_unit_zero (S := S2048x1024) origin]

/-- A block of rows in the middle is added. -/
theorem middle (hc0 : ¬cond0_0 i) (hc1 : ¬cond0_1 i) :
    sout0_B_0 c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S512x1024) origin]
  simp only [View.readAt_eq_ld, h3.read_unread, h4.read_unread, h6.read_unread, View.ld_unit_zero (S := S2048x512) origin, View.ld_unit_zero (S := S2048x1024) origin, View.ld_unit_zero (S := S512x1024) origin]

/-- A sum as it is written out: its columns in eight slices, one over the other. -/
def slices (v : S512x1024.Idx → EReal) : S8x512x128.Idx → EReal :=
  fun j => v (ix2 (j 1 : Fin 512) (⟨128 * (j 0 : Fin 8).val + (j 2 : Fin 128).val, by have h0 : (j 0 : Fin 8).val < 8 := (j 0 : Fin 8).isLt; have h2 : (j 2 : Fin 128).val < 128 := (j 2 : Fin 128).isLt; omega⟩ : Fin 1024))

/-- One write of the whole accumulator covers it. -/
theorem whole (w : S512x1024.Idx → EReal) (z : S512x1024.Idx) :
    ∃ p ∈ [(⟨Rect.unit ![0, 0] S512x1024.size inb_S512x1024_S512x1024_0_0, w⟩ : View.Piece (Elt Ideal) S512x1024 .f32)], z ∈ p.1.set :=
  ⟨_, List.mem_cons_self, View.mem_set_unit_zero origin inb_S512x1024_S512x1024_0_0 z⟩

/-- The last block of rows is added and the sum written out. -/
theorem last (hc0 : ¬cond0_0 i) (hc1 : cond0_1 i) :
    out0_C_2 c i a3 h3 a4 h4 a5 h5 a6 h6 hc0 hc1 x y s = slices (k0_pay2 (F := Ideal) s x y) := by
  unfold out0_C_2
  rw [View.read_writes_eq_canon _ _ _ (cover0_C_2 c i a3 h3 a4 h4 a5 h5 a6 h6 hc0 hc1 x y s)]
  funext j
  refine View.canon_apply_of_pieces (slices (k0_pay2 (F := Ideal) s x y)) _ ?_ j (cover0_C_2 c i a3 h3 a4 h4 a5 h5 a6 h6 hc0 hc1 x y s j)
  unfold kernelRun0_C
  dsimp only
  sl_unfold_words
  simp only [View.readCov_eq_canon_ld _ _ _ (whole _), View.canon_unit_zero (S := S512x1024) origin,
    View.readAt_eq_ld, h3.read_unread, h4.read_unread, h6.read_unread, View.ld_unit_zero (S := S2048x512) origin, View.ld_unit_zero (S := S2048x1024) origin, View.ld_unit_zero (S := S512x1024) origin]
  generalize k0_pay2 (F := Ideal) s x y = v
  intro p hp z
  simp only [List.mem_cons, List.not_mem_nil, or_false] at hp
  rcases hp with rfl | rfl | rfl | rfl | rfl | rfl | rfl | rfl <;>
  · obtain ⟨q, l, rfl⟩ : ∃ (q : Fin 512) (l : Fin 128), z = ix3 (0 : Fin 1) q l := ⟨z 1, z 2, by funext a; fin_cases a <;> first | rfl | exact Subsingleton.elim (α := Fin 1) _ _⟩
    dsimp only
    pointwise [k0_pay3, k0_pay4, k0_pay5, k0_pay6, k0_pay7, k0_pay8, k0_pay9, k0_pay10, slices]
    exact congrArg v (funext fun a => Fin.ext (by fin_cases a <;> simp [Rect.emb, Rect.unit, ix2, ix3]))

/-- One block's product, at an entry. -/
theorem pay2_at (r : Fin 512) (l : Fin 1024) :
    k0_pay2 (F := Ideal) s x y (ix2 r l) = s (ix2 r l) + ∑ k : Fin 2048, x (ix2 k r) * y (ix2 k l) := by
  pointwise [k0_pay2, Ideal.ofBits_zero_f32, zero_add]

theorem pay1_at (r : Fin 512) (l : Fin 1024) : k0_pay1 (F := Ideal) (ix2 r l) = 0 := by
  pointwise [k0_pay1, Ideal.ofBits_zero_f32]

end Points

variable (m : (ℓ : Loc nD τ sig) → Buf (Elt Ideal) ℓ) (c : Dev nD)

/-- The operands. -/
abbrev lhs : S8192x512.Idx → EReal := m ((c : Thread nD τ).loc main_arg0)
abbrev rhs : S8192x1024.Idx → EReal := m ((c : Thread nD τ).loc main_arg1)

/-- The products that an entry sums, by row. -/
def term (p : Fin 512) (q : Fin 1024) (x : ℕ) : EReal :=
  if h : x < 8192 then lhs m c (ix2 ⟨x, h⟩ p) * rhs m c (ix2 ⟨x, h⟩ q) else 0

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)

/-- The blocks a step reads. -/
abbrev lhsAt (t : Fin cfg0.N) : S2048x512.Idx → EReal := iblk m c 0 t
abbrev rhsAt (t : Fin cfg0.N) : S2048x1024.Idx → EReal := iblk m c 1 t

/-- A block's products are the terms of its rows. -/
theorem block_sum (t : Fin cfg0.N) (r : Fin 512) (l : Fin 1024) :
    (∑ k : Fin 2048, lhsAt m c t (ix2 k r) * rhsAt m c t (ix2 k l)) = ∑ k : Fin 2048, term m c r l (2048 * t.val + k) := by
  have ht : t.val < 4 := lt_of_lt_of_eq t.isLt N_0
  refine Finset.sum_congr rfl fun k _ => ?_
  have hk : 2048 * t.val + k.val < 8192 := by omega
  unfold term
  rw [dif_pos hk]
  congr 1
  · unfold lhsAt iblk
    rw [View.read_apply]
    show V m c main_arg0 _ = m (c.tc.loc main_arg0) _
    rw [V_main_arg0]
    congr 1
    funext a
    apply Fin.ext
    match a with
    | ⟨0, _⟩ => show win0_0.index t 0 * 2048 + 1 * k.val = 2048 * t.val + k.val; rw [(index0 t).1]; ring
    | ⟨1, _⟩ => show win0_0.index t 1 * 512 + 1 * r.val = r.val; rw [(index0 t).2]; ring
  · unfold rhsAt iblk
    rw [View.read_apply]
    show V m c main_arg1 _ = m (c.tc.loc main_arg1) _
    rw [V_main_arg1]
    congr 1
    funext a
    apply Fin.ext
    match a with
    | ⟨0, _⟩ => show win0_1.index t 0 * 2048 + 1 * k.val = 2048 * t.val + k.val; rw [(index1 t).1]; ring
    | ⟨1, _⟩ => show win0_1.index t 1 * 1024 + 1 * l.val = l.val; rw [(index1 t).2]; ring

/-- What the accumulator holds before the last block: the terms of the rows so far. -/
theorem carried (r : Fin 512) (l : Fin 1024) : ∀ (n : ℕ) (hn : n < 3),
    (outsAt0 m c n (lt_of_lt_of_eq (by omega : n < 4) N_0.symm)).2 (ix2 r l) = ∑ x ∈ Finset.range (2048 * (n + 1)), term m c r l x :=
  Cert.Weights.running (N := 3) (R := 2048) (term m c r l) (fun n hn => (outsAt0 m c n (lt_of_lt_of_eq (by omega : n < 4) N_0.symm)).2 (ix2 r l))
    (fun h => by
      rw [outsAt0_A m c ⟨0, lt_of_lt_of_eq (by decide : 0 < 4) N_0.symm⟩ rfl (by decide)]
      dsimp only
      rw [first, pay2_at, pay1_at, block_sum]
      simp)
    (fun n h => by
      rw [outsAt0_B m c ⟨n + 1, lt_of_lt_of_eq (by omega : n + 1 < 4) N_0.symm⟩ (by dsimp only; omega) (by dsimp only; omega)]
      dsimp only
      rw [middle, pay2_at, block_sum]
      rfl)

/-- The accumulator with the last block added: every row is summed. -/
theorem total (h : 3 < cfg0.N) (h' : 3 - 1 < cfg0.N) (r : Fin 512) (l : Fin 1024) :
    k0_pay2 (F := Ideal) (outsAt0 m c (3 - 1) h').2 (lhsAt m c ⟨3, h⟩) (rhsAt m c ⟨3, h⟩) (ix2 r l)
      = ∑ x : Fin 8192, lhs m c (ix2 x r) * rhs m c (ix2 x l) := by
  rw [pay2_at, block_sum, carried m c r l 2 (by decide), Cert.Weights.range_add_block (term m c r l) 3 2048, Finset.sum_range]
  refine Finset.sum_congr rfl fun x _ => ?_
  unfold term
  rw [dif_pos x.isLt]

/-- The array after the run. -/
theorem result (a : Fin 8) (p : Fin 512) (q : Fin 128) :
    (Value.G2 m c : S8x512x128.Idx → EReal) (ix3 a p q)
      = ∑ x : Fin 8192, lhs m c (ix2 x p) * rhs m c (ix2 x (⟨a.val * 128 + q.val, by omega⟩ : Fin 1024)) := by
  have e4 : Value.pt2Of (ix3 a p q) = 3 := by
    show 4 * Value.run2Of (ix3 a p q) + 3 = _; unfold Value.run2Of; simp
  have hpt : Value.pt2Of (ix3 a p q) < cfg0.N := by rw [e4, show cfg0.N = 4 from N_0]; decide
  unfold Value.G2
  rw [dif_pos hpt, ← Value.outsAt0_sweep m c (Value.pt2Of (ix3 a p q)) hpt]
  have el : Value.loc2Of (ix3 a p q) = ix3 a p q := by
    funext b; apply Fin.ext
    match b with
    | ⟨0, _⟩ => show a.val % 8 = a.val; omega
    | ⟨1, _⟩ => show p.val % 512 = p.val; omega
    | ⟨2, _⟩ => show q.val % 128 = q.val; omega
  generalize Value.pt2Of (ix3 a p q) = n at hpt e4
  subst e4
  rw [el, outsAt0_C m c ⟨_, hpt⟩ (show ¬3 % 4 = 0 by decide) (show 3 % 4 = 3 by decide)]
  dsimp only
  rw [last]
  refine (total m c hpt (Nat.lt_of_le_of_lt (Nat.sub_le _ _) hpt) p (⟨128 * a.val + q.val, by omega⟩ : Fin 1024)).trans ?_
  rw [show (⟨128 * a.val + q.val, by omega⟩ : Fin 1024) = ⟨a.val * 128 + q.val, by omega⟩ from Fin.ext (by dsimp only; ring)]

end Cert.DwBrIdeal.Weights

open Idealize.ShloMosaic in
/-- The blocked product and the one product agree, whatever the operands. -/
theorem Cert.dw_branch : @Cert.algebraic_DwBrIdeal_DwBrRefIdeal Cert.DwBrIdeal.Gen.facts Cert.DwBrRefIdeal.Gen.facts := by
  intro m g m' g' _ hm
  refine ⟨fun c => Cert.DwBrIdeal.Value.G2 m c, Cert.DwBrIdeal.Value.run m g, ?_⟩
  refine (Idealize.ShloMosaic.θ_run Cert.DwBrRefIdeal.defs _ _).mono (fun r h c => ⟨(h c).1.trans ?_, (h c).2⟩) (Cert.DwBrRefIdeal.Value.run m' g')
  rw [(hm c).1, (hm c).2]
  funext j
  obtain ⟨a, p, q, rfl⟩ : ∃ (a : Fin 8) (p : Fin 512) (q : Fin 128), j = ix3 a p q := ⟨j 0, j 1, j 2, by funext a; fin_cases a <;> rfl⟩
  refine Eq.trans ?_ ((Cert.DwBrIdeal.Weights.result m c a p q).trans (Finset.sum_congr (M := EReal) rfl fun x _ => mul_comm (G := EReal) _ _)).symm
  pointwise

end
-- ==== Proof.Weights.Ff1.lean ====
/- The gradient of the feed-forward's first weight: what the blocked product leaves, and what one product gives. -/
module

public import proofs.«01_k».proof.Defs
public import proofs.«01_k».proof.Proof.Weights.Sums
public import proofs.«01_k».proof.Proof.Gen.DwFf1Ideal.Value
public import proofs.«01_k».proof.Proof.Gen.DwFf1RefIdeal.Run
public import Idealize.ShloMosaic.Lib.Pointwise
public import Idealize.ShloMosaic.Lib.IdealHost

@[expose] public section

noncomputable section

namespace Cert.DwFf1Ideal.Weights

open Cert.DwFf1Ideal Cert.DwFf1Ideal.Gen Idealize.ShloMosaic Idealize.ShloMosaic.TcCoe Idealize.SL.Sem

theorem origin : (![0, 0] : Fin 2 → Nat) = fun _ => 0 := funext fun a => by fin_cases a <;> rfl

section Points

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S2x1024x512 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

/-- The first block of rows starts from zero. -/
theorem first (hc0 : cond0_0 i) (hc1 : ¬cond0_1 i) :
    sout0_A_0 c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S2048x1024) origin]

/-- A block of rows in the middle is added. -/
theorem middle (hc0 : ¬cond0_0 i) (hc1 : ¬cond0_1 i) :
    sout0_B_0 c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x1024) origin]
  simp only [View.readAt_eq_ld, h3.read_unread, h4.read_unread, h6.read_unread, View.ld_unit_zero (S := S2048x1024) origin, View.ld_unit_zero (S := S1024x1024) origin]

/-- A sum as it is written out: its columns in two halves, one over the other. -/
def halves (v : S1024x1024.Idx → EReal) : S2x1024x512.Idx → EReal :=
  fun j => v (ix2 (j 1 : Fin 1024) (⟨512 * (j 0 : Fin 2).val + (j 2 : Fin 512).val, by have h0 : (j 0 : Fin 2).val < 2 := (j 0 : Fin 2).isLt; have h2 : (j 2 : Fin 512).val < 512 := (j 2 : Fin 512).isLt; omega⟩ : Fin 1024))

/-- One write of the whole accumulator covers it. -/
theorem whole (w : S1024x1024.Idx → EReal) (z : S1024x1024.Idx) :
    ∃ p ∈ [(⟨Rect.unit ![0, 0] S1024x1024.size inb_S1024x1024_S1024x1024_0_0, w⟩ : View.Piece (Elt Ideal) S1024x1024 .f32)], z ∈ p.1.set :=
  ⟨_, List.mem_cons_self, View.mem_set_unit_zero origin inb_S1024x1024_S1024x1024_0_0 z⟩

/-- The last block of rows is added and the sum written out. -/
theorem last (hc0 : ¬cond0_0 i) (hc1 : cond0_1 i) :
    out0_C_2 c i a3 h3 a4 h4 a5 h5 a6 h6 hc0 hc1 x y s = halves (k0_pay2 (F := Ideal) s x y) := by
  unfold out0_C_2
  rw [View.read_writes_eq_canon _ _ _ (cover0_C_2 c i a3 h3 a4 h4 a5 h5 a6 h6 hc0 hc1 x y s)]
  funext j
  refine View.canon_apply_of_pieces (halves (k0_pay2 (F := Ideal) s x y)) _ ?_ j (cover0_C_2 c i a3 h3 a4 h4 a5 h5 a6 h6 hc0 hc1 x y s j)
  unfold kernelRun0_C
  dsimp only
  sl_unfold_words
  simp only [View.readCov_eq_canon_ld _ _ _ (whole _), View.canon_unit_zero (S := S1024x1024) origin,
    View.readAt_eq_ld, h3.read_unread, h4.read_unread, h6.read_unread, View.ld_unit_zero (S := S2048x1024) origin, View.ld_unit_zero (S := S1024x1024) origin]
  generalize k0_pay2 (F := Ideal) s x y = v
  intro p hp z
  rcases List.mem_cons.mp hp with rfl | hp
  · obtain ⟨q, l, rfl⟩ : ∃ (q : Fin 1024) (l : Fin 512), z = ix3 (0 : Fin 1) q l := ⟨z 1, z 2, by funext a; fin_cases a <;> first | rfl | exact Subsingleton.elim (α := Fin 1) _ _⟩
    dsimp only
    pointwise [k0_pay4, halves]
    exact congrArg v (funext fun a => Fin.ext (by fin_cases a <;> simp [Rect.emb, Rect.unit, ix2, ix3]))
  · obtain rfl := List.mem_singleton.mp hp
    obtain ⟨q, l, rfl⟩ : ∃ (q : Fin 1024) (l : Fin 512), z = ix3 (0 : Fin 1) q l := ⟨z 1, z 2, by funext a; fin_cases a <;> first | rfl | exact Subsingleton.elim (α := Fin 1) _ _⟩
    dsimp only
    pointwise [k0_pay3, halves]
    exact congrArg v (funext fun a => Fin.ext (by fin_cases a <;> simp [Rect.emb, Rect.unit, ix2, ix3]))

/-- One block's product, at an entry. -/
theorem pay2_at (r : Fin 1024) (l : Fin 1024) :
    k0_pay2 (F := Ideal) s x y (ix2 r l) = s (ix2 r l) + ∑ k : Fin 2048, x (ix2 k r) * y (ix2 k l) := by
  pointwise [k0_pay2, Ideal.ofBits_zero_f32, zero_add]

theorem pay1_at (r : Fin 1024) (l : Fin 1024) : k0_pay1 (F := Ideal) (ix2 r l) = 0 := by
  pointwise [k0_pay1, Ideal.ofBits_zero_f32]

end Points

variable (m : (ℓ : Loc nD τ sig) → Buf (Elt Ideal) ℓ) (c : Dev nD)

/-- The operands. -/
abbrev lhs : S8192x1024.Idx → EReal := m ((c : Thread nD τ).loc main_arg0)
abbrev rhs : S8192x4096.Idx → EReal := m ((c : Thread nD τ).loc main_arg1)

/-- The products that an entry sums, by row. -/
def term (p : ℕ) (q : ℕ) (x : ℕ) : EReal :=
  if h : x < 8192 ∧ p < 1024 ∧ q < 4096 then lhs m c (ix2 ⟨x, h.1⟩ ⟨p, h.2.1⟩) * rhs m c (ix2 ⟨x, h.1⟩ ⟨q, h.2.2⟩) else 0

theorem index0 : ∀ t : Fin cfg0.N, win0_0.index t 0 = t.val % 4 ∧ win0_0.index t 1 = 0 := (by decide +kernel : ∀ t : Fin grid0.N, _)
theorem index1 : ∀ t : Fin cfg0.N, win0_1.index t 0 = t.val % 4 ∧ win0_1.index t 1 = t.val / 4 := (by decide +kernel : ∀ t : Fin grid0.N, _)

/-- The blocks a step reads. -/
abbrev lhsAt (t : Fin cfg0.N) : S2048x1024.Idx → EReal := iblk m c 0 t
abbrev rhsAt (t : Fin cfg0.N) : S2048x1024.Idx → EReal := iblk m c 1 t

/-- A block's products are the terms of its rows. -/
theorem block_sum (t : Fin cfg0.N) (r : Fin 1024) (l : Fin 1024) :
    (∑ k : Fin 2048, lhsAt m c t (ix2 k r) * rhsAt m c t (ix2 k l))
      = ∑ k : Fin 2048, term m c r (1024 * (t.val / 4) + l) (2048 * (t.val % 4) + k) := by
  have ht : t.val < 16 := lt_of_lt_of_eq t.isLt N_0
  refine Finset.sum_congr rfl fun k _ => ?_
  have hk : 2048 * (t.val % 4) + k.val < 8192 ∧ r.val < 1024 ∧ 1024 * (t.val / 4) + l.val < 4096 := by omega
  unfold term
  rw [dif_pos hk]
  congr 1
  · unfold lhsAt iblk
    rw [View.read_apply]
    show V m c main_arg0 _ = m (c.tc.loc main_arg0) _
    unfold V
    congr 1
    funext a
    apply Fin.ext
    match a with
    | ⟨0, _⟩ => show win0_0.index t 0 * 2048 + 1 * k.val = 2048 * (t.val % 4) + k.val; rw [(index0 t).1]; ring
    | ⟨1, _⟩ => show win0_0.index t 1 * 1024 + 1 * r.val = r.val; rw [(index0 t).2]; ring
  · unfold rhsAt iblk
    rw [View.read_apply]
    show V m c main_arg1 _ = m (c.tc.loc main_arg1) _
    unfold V
    congr 1
    funext a
    apply Fin.ext
    match a with
    | ⟨0, _⟩ => show win0_1.index t 0 * 2048 + 1 * k.val = 2048 * (t.val % 4) + k.val; rw [(index1 t).1]; ring
    | ⟨1, _⟩ => show win0_1.index t 1 * 1024 + 1 * l.val = 1024 * (t.val / 4) + l.val; rw [(index1 t).2]; ring

/-- What the accumulator holds before the last block of a column of blocks: the terms of the rows so far. -/
theorem carried (r : Fin 1024) (l : Fin 1024) : ∀ (n : ℕ) (hn : n < cfg0.N), ¬n % 4 = 3 →
    (outsAt0 m c n hn).2 (ix2 r l) = ∑ x ∈ Finset.range (2048 * (n % 4 + 1)), term m c r (1024 * (n / 4) + l) x := by
  intro n
  induction n with
  | zero =>
    intro hn h1
    rw [outsAt0_A m c ⟨0, hn⟩ rfl h1]
    dsimp only
    rw [first, pay2_at, pay1_at, block_sum]
    have e := Cert.Weights.range_add_block (term m c r (1024 * (0 / 4) + l)) 0 2048
    simpa using e
  | succ n ih =>
    intro hn h1
    have hN : n + 1 < 16 := lt_of_lt_of_eq hn N_0
    by_cases h0 : (n + 1) % 4 = 0
    · rw [outsAt0_A m c ⟨n + 1, hn⟩ h0 h1]
      dsimp only
      rw [first, pay2_at, pay1_at, block_sum]
      have e := Cert.Weights.range_add_block (term m c r (1024 * ((n + 1) / 4) + l)) 0 2048
      simpa [h0] using e
    · rw [outsAt0_B m c ⟨n + 1, hn⟩ h0 h1]
      dsimp only
      rw [middle, pay2_at, block_sum]
      have e := Cert.Weights.range_add_block (term m c r (1024 * ((n + 1) / 4) + l)) ((n + 1) % 4) 2048
      rw [← e]
      have hp := ih (Nat.lt_of_succ_lt hn) (by omega)
      rw [show n % 4 + 1 = (n + 1) % 4 from by omega, show n / 4 = (n + 1) / 4 from by omega] at hp
      exact congrArg (· + _) hp

/-- The array after the run: every row of the operands is summed. -/
theorem result (a : Fin 8) (p : Fin 1024) (q : Fin 512) :
    (Value.G2 m c : S8x1024x512.Idx → EReal) (ix3 a p q)
      = ∑ x : Fin 8192, lhs m c (ix2 x p) * rhs m c (ix2 x (⟨a.val * 512 + q.val, by omega⟩ : Fin 4096)) := by
  have hpt : Value.pt2Of (ix3 a p q) < cfg0.N := by
    rw [show cfg0.N = 16 from N_0]; show 4 * Value.run2Of (ix3 a p q) + 3 < 16; unfold Value.run2Of; simp; omega
  have e4 : Value.pt2Of (ix3 a p q) = 4 * (a.val / 2) + 3 := by
    show 4 * Value.run2Of (ix3 a p q) + 3 = _; unfold Value.run2Of; simp; omega
  unfold Value.G2
  rw [dif_pos hpt, ← Value.outsAt0_sweep m c (Value.pt2Of (ix3 a p q)) hpt]
  have el : Value.loc2Of (ix3 a p q) = ix3 (⟨a.val % 2, Nat.mod_lt _ (by decide)⟩ : Fin 2) p q := by
    funext b; apply Fin.ext
    match b with
    | ⟨0, _⟩ => rfl
    | ⟨1, _⟩ => show p.val % 1024 = p.val; omega
    | ⟨2, _⟩ => show q.val % 512 = q.val; omega
  generalize Value.pt2Of (ix3 a p q) = n at hpt e4
  subst e4
  rw [el, outsAt0_C m c ⟨_, hpt⟩ (by dsimp only; omega) (by dsimp only; omega)]
  dsimp only
  rw [last]
  show k0_pay2 (F := Ideal) _ _ _ (ix2 p (⟨512 * (a.val % 2) + q.val, by omega⟩ : Fin 1024)) = _
  rw [pay2_at, block_sum, carried m c _ _ _ _ (by omega)]
  dsimp only
  rw [show (4 * (a.val / 2) + 3 - 1) % 4 + 1 = 3 from by omega, show (4 * (a.val / 2) + 3 - 1) / 4 = a.val / 2 from by omega,
    show (4 * (a.val / 2) + 3) % 4 = 3 from by omega, show (4 * (a.val / 2) + 3) / 4 = a.val / 2 from by omega,
    show 1024 * (a.val / 2) + (512 * (a.val % 2) + q.val) = a.val * 512 + q.val from by omega,
    Cert.Weights.range_add_block (term m c p (a.val * 512 + q.val)) 3 2048, Finset.sum_range]
  refine Finset.sum_congr rfl fun x _ => ?_
  unfold term
  rw [dif_pos ⟨x.isLt, p.isLt, (by omega : a.val * 512 + q.val < 4096)⟩]

end Cert.DwFf1Ideal.Weights

open Idealize.ShloMosaic in
/-- The blocked product and the one product agree, whatever the operands. -/
theorem Cert.dw_ff1 : @Cert.algebraic_DwFf1Ideal_DwFf1RefIdeal Cert.DwFf1Ideal.Gen.facts Cert.DwFf1RefIdeal.Gen.facts := by
  intro m g m' g' _ hm
  refine ⟨fun c => Cert.DwFf1Ideal.Value.G2 m c, Cert.DwFf1Ideal.Value.run m g, ?_⟩
  refine (Idealize.ShloMosaic.θ_run Cert.DwFf1RefIdeal.defs _ _).mono (fun r h c => ⟨(h c).1.trans ?_, (h c).2⟩) (Cert.DwFf1RefIdeal.Value.run m' g')
  rw [(hm c).1, (hm c).2]
  funext j
  obtain ⟨a, p, q, rfl⟩ : ∃ (a : Fin 8) (p : Fin 1024) (q : Fin 512), j = ix3 a p q := ⟨j 0, j 1, j 2, by funext a; fin_cases a <;> rfl⟩
  refine Eq.trans ?_ ((Cert.DwFf1Ideal.Weights.result m c a p q).trans (Finset.sum_congr (M := EReal) rfl fun x _ => mul_comm (G := EReal) _ _)).symm
  pointwise

end
-- ==== Proof.Weights.Ff2.lean ====
/- The gradient of the feed-forward's second weight: what the blocked product leaves, and what one product gives. -/
module

public import proofs.«01_k».proof.Defs
public import proofs.«01_k».proof.Proof.Weights.Sums
public import proofs.«01_k».proof.Proof.Gen.DwFf2Ideal.Value
public import proofs.«01_k».proof.Proof.Gen.DwFf2RefIdeal.Run
public import Idealize.ShloMosaic.Lib.Pointwise
public import Idealize.ShloMosaic.Lib.IdealHost

@[expose] public section

noncomputable section

namespace Cert.DwFf2Ideal.Weights

open Cert.DwFf2Ideal Cert.DwFf2Ideal.Gen Idealize.ShloMosaic Idealize.ShloMosaic.TcCoe Idealize.SL.Sem

theorem origin : (![0, 0] : Fin 2 → Nat) = fun _ => 0 := funext fun a => by fin_cases a <;> rfl

section Points

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

/-- The first block of rows starts from zero. -/
theorem first (hc0 : cond0_0 i) (hc1 : ¬cond0_1 i) :
    sout0_A_0 c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S2048x1024) origin]

/-- A block of rows in the middle is added. -/
theorem middle (hc0 : ¬cond0_0 i) (hc1 : ¬cond0_1 i) :
    sout0_B_0 c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x1024) origin]
  simp only [View.readAt_eq_ld, h3.read_unread, h4.read_unread, h6.read_unread, View.ld_unit_zero (S := S2048x1024) origin, View.ld_unit_zero (S := S1024x1024) origin]

/-- The last block of rows is added and the sum written out. -/
theorem last (hc0 : ¬cond0_0 i) (hc1 : cond0_1 i) :
    out0_C_2 c i a3 h3 a4 h4 a5 h5 a6 h6 hc0 hc1 x y s = k0_pay3 (F := Ideal) (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S2048x1024) origin, View.ld_unit_zero (S := S1024x1024) origin]

/-- One block's product, at an entry. -/
theorem pay2_at (r : Fin 1024) (l : Fin 1024) :
    k0_pay2 (F := Ideal) s x y (ix2 r l) = s (ix2 r l) + ∑ k : Fin 2048, x (ix2 k r) * y (ix2 k l) := by
  pointwise [k0_pay2, Ideal.ofBits_zero_f32, zero_add]

theorem pay1_at (r : Fin 1024) (l : Fin 1024) : k0_pay1 (F := Ideal) (ix2 r l) = 0 := by
  pointwise [k0_pay1, Ideal.ofBits_zero_f32]

end Points

variable (m : (ℓ : Loc nD τ sig) → Buf (Elt Ideal) ℓ) (c : Dev nD)

/-- The operands. -/
abbrev lhs : S8192x4096.Idx → EReal := m ((c : Thread nD τ).loc main_arg0)
abbrev rhs : S8192x1024.Idx → EReal := m ((c : Thread nD τ).loc main_arg1)

/-- The products that an entry sums, by row. -/
def term (p : ℕ) (q : ℕ) (x : ℕ) : EReal :=
  if h : x < 8192 ∧ p < 4096 ∧ q < 1024 then lhs m c (ix2 ⟨x, h.1⟩ ⟨p, h.2.1⟩) * rhs m c (ix2 ⟨x, h.1⟩ ⟨q, h.2.2⟩) else 0

theorem index0 : ∀ t : Fin cfg0.N, win0_0.index t 0 = t.val % 4 ∧ win0_0.index t 1 = t.val / 4 := (by decide +kernel : ∀ t : Fin grid0.N, _)
theorem index1 : ∀ t : Fin cfg0.N, win0_1.index t 0 = t.val % 4 ∧ win0_1.index t 1 = 0 := (by decide +kernel : ∀ t : Fin grid0.N, _)

/-- The blocks a step reads. -/
abbrev lhsAt (t : Fin cfg0.N) : S2048x1024.Idx → EReal := iblk m c 0 t
abbrev rhsAt (t : Fin cfg0.N) : S2048x1024.Idx → EReal := iblk m c 1 t

/-- A block's products are the terms of its rows. -/
theorem block_sum (t : Fin cfg0.N) (r : Fin 1024) (l : Fin 1024) :
    (∑ k : Fin 2048, lhsAt m c t (ix2 k r) * rhsAt m c t (ix2 k l))
      = ∑ k : Fin 2048, term m c (1024 * (t.val / 4) + r) l (2048 * (t.val % 4) + k) := by
  have ht : t.val < 16 := lt_of_lt_of_eq t.isLt N_0
  refine Finset.sum_congr rfl fun k _ => ?_
  have hk : 2048 * (t.val % 4) + k.val < 8192 ∧ 1024 * (t.val / 4) + r.val < 4096 ∧ l.val < 1024 := by omega
  unfold term
  rw [dif_pos hk]
  congr 1
  · unfold lhsAt iblk
    rw [View.read_apply]
    show V m c main_arg0 _ = m (c.tc.loc main_arg0) _
    unfold V
    congr 1
    funext a
    apply Fin.ext
    match a with
    | ⟨0, _⟩ => show win0_0.index t 0 * 2048 + 1 * k.val = 2048 * (t.val % 4) + k.val; rw [(index0 t).1]; ring
    | ⟨1, _⟩ => show win0_0.index t 1 * 1024 + 1 * r.val = 1024 * (t.val / 4) + r.val; rw [(index0 t).2]; ring
  · unfold rhsAt iblk
    rw [View.read_apply]
    show V m c main_arg1 _ = m (c.tc.loc main_arg1) _
    unfold V
    congr 1
    funext a
    apply Fin.ext
    match a with
    | ⟨0, _⟩ => show win0_1.index t 0 * 2048 + 1 * k.val = 2048 * (t.val % 4) + k.val; rw [(index1 t).1]; ring
    | ⟨1, _⟩ => show win0_1.index t 1 * 1024 + 1 * l.val = l.val; rw [(index1 t).2]; ring

/-- What the accumulator holds before the last block of a column of blocks: the terms of the rows so far. -/
theorem carried (r : Fin 1024) (l : Fin 1024) : ∀ (n : ℕ) (hn : n < cfg0.N), ¬n % 4 = 3 →
    (outsAt0 m c n hn).2 (ix2 r l) = ∑ x ∈ Finset.range (2048 * (n % 4 + 1)), term m c (1024 * (n / 4) + r) l x := by
  intro n
  induction n with
  | zero =>
    intro hn h1
    rw [outsAt0_A m c ⟨0, hn⟩ rfl h1]
    dsimp only
    rw [first, pay2_at, pay1_at, block_sum]
    have e := Cert.Weights.range_add_block (term m c (1024 * (0 / 4) + r) l) 0 2048
    simpa using e
  | succ n ih =>
    intro hn h1
    have hN : n + 1 < 16 := lt_of_lt_of_eq hn N_0
    by_cases h0 : (n + 1) % 4 = 0
    · rw [outsAt0_A m c ⟨n + 1, hn⟩ h0 h1]
      dsimp only
      rw [first, pay2_at, pay1_at, block_sum]
      have e := Cert.Weights.range_add_block (term m c (1024 * ((n + 1) / 4) + r) l) 0 2048
      simpa [h0] using e
    · rw [outsAt0_B m c ⟨n + 1, hn⟩ h0 h1]
      dsimp only
      rw [middle, pay2_at, block_sum]
      have e := Cert.Weights.range_add_block (term m c (1024 * ((n + 1) / 4) + r) l) ((n + 1) % 4) 2048
      rw [← e]
      have hp := ih (Nat.lt_of_succ_lt hn) (by omega)
      rw [show n % 4 + 1 = (n + 1) % 4 from by omega, show n / 4 = (n + 1) / 4 from by omega] at hp
      exact congrArg (· + _) hp

/-- The array after the run: every row of the operands is summed. -/
theorem result (p : Fin 4096) (q : Fin 1024) :
    (Value.G2 m c : S4096x1024.Idx → EReal) (ix2 p q) = ∑ x : Fin 8192, lhs m c (ix2 x p) * rhs m c (ix2 x q) := by
  have hpt : Value.pt2Of (ix2 p q) < cfg0.N := by
    rw [show cfg0.N = 16 from N_0]; show 4 * (1 * (p.val / 1024 - 0) + 1 * (q.val / 1024 - 0)) + 3 < 16; omega
  have e4 : Value.pt2Of (ix2 p q) = 4 * (p.val / 1024) + 3 := by
    show 4 * (1 * (p.val / 1024 - 0) + 1 * (q.val / 1024 - 0)) + 3 = _; omega
  unfold Value.G2
  rw [dif_pos hpt, ← Value.outsAt0_sweep m c (Value.pt2Of (ix2 p q)) hpt]
  have el : Value.loc2Of (ix2 p q) = ix2 (⟨p.val % 1024, Nat.mod_lt _ (by decide)⟩ : Fin 1024) q := by
    funext a; apply Fin.ext
    match a with
    | ⟨0, _⟩ => rfl
    | ⟨1, _⟩ => show q.val % 1024 = q.val; omega
  generalize Value.pt2Of (ix2 p q) = n at hpt e4
  subst e4
  rw [el, outsAt0_C m c ⟨_, hpt⟩ (by dsimp only; omega) (by dsimp only; omega)]
  dsimp only
  rw [last]
  show k0_pay2 (F := Ideal) _ _ _ (ix2 _ _) = _
  rw [pay2_at, block_sum, carried m c _ _ _ _ (by omega)]
  dsimp only
  rw [show (4 * (p.val / 1024) + 3 - 1) % 4 + 1 = 3 from by omega, show (4 * (p.val / 1024) + 3 - 1) / 4 = p.val / 1024 from by omega,
    show (4 * (p.val / 1024) + 3) % 4 = 3 from by omega, show (4 * (p.val / 1024) + 3) / 4 = p.val / 1024 from by omega,
    show 1024 * (p.val / 1024) + p.val % 1024 = p.val from by omega,
    Cert.Weights.range_add_block (term m c p q) 3 2048, Finset.sum_range]
  refine Finset.sum_congr rfl fun x _ => ?_
  unfold term
  rw [dif_pos ⟨x.isLt, p.isLt, q.isLt⟩]

end Cert.DwFf2Ideal.Weights

open Idealize.ShloMosaic in
/-- The blocked product and the one product agree, whatever the operands. -/
theorem Cert.dw_ff2 : @Cert.algebraic_DwFf2Ideal_DwFf2RefIdeal Cert.DwFf2Ideal.Gen.facts Cert.DwFf2RefIdeal.Gen.facts := by
  intro m g m' g' _ hm
  refine ⟨fun c => Cert.DwFf2Ideal.Value.G2 m c, Cert.DwFf2Ideal.Value.run m g, ?_⟩
  refine (Idealize.ShloMosaic.θ_run Cert.DwFf2RefIdeal.defs _ _).mono (fun r h c => ⟨(h c).1.trans ?_, (h c).2⟩) (Cert.DwFf2RefIdeal.Value.run m' g')
  rw [(hm c).1, (hm c).2]
  funext j
  obtain ⟨p, q, rfl⟩ : ∃ (p : Fin 4096) (q : Fin 1024), j = Idealize.ShloMosaic.ix2 p q := ⟨j 0, j 1, by funext a; fin_cases a <;> rfl⟩
  refine Eq.trans ?_ ((Cert.DwFf2Ideal.Weights.result m c p q).trans (Finset.sum_congr (M := EReal) rfl fun x _ => mul_comm (G := EReal) _ _)).symm
  pointwise

end
-- ==== Proof.Weights.In.lean ====
/- The gradient of the input projection's weight: what the blocked product leaves, and what one product gives. -/
module

public import proofs.«01_k».proof.Defs
public import proofs.«01_k».proof.Proof.Weights.Sums
public import proofs.«01_k».proof.Proof.Gen.DwInIdeal.Value
public import proofs.«01_k».proof.Proof.Gen.DwInRefIdeal.Run
public import Idealize.ShloMosaic.Lib.Pointwise
public import Idealize.ShloMosaic.Lib.IdealHost

@[expose] public section

noncomputable section

namespace Cert.DwInIdeal.Weights

open Cert.DwInIdeal Cert.DwInIdeal.Gen Idealize.ShloMosaic Idealize.ShloMosaic.TcCoe Idealize.SL.Sem

theorem origin : (![0, 0] : Fin 2 → Nat) = fun _ => 0 := funext fun a => by fin_cases a <;> rfl

section Points

variable (c : Dev nD) (i : grid0.Coords) (a3 : Memref sig .tc .vmem S2048x896 .bf16) (h3 : a3.IsWhole)
  (a4 : Memref sig .tc .vmem S2048x1024 .bf16) (h4 : a4.IsWhole) (a5 : Memref sig .tc .vmem S896x1024 .bf16) (h5 : a5.IsWhole)
  (a6 : Memref sig .tc .vmem S896x1024 .f32) (h6 : a6.IsWhole) (x : Vec Ideal S2048x896 .bf16) (y : Vec Ideal S2048x1024 .bf16)
  (s : Vec Ideal S896x1024 .f32)

/-- The first block of rows starts from zero. -/
theorem first (hc0 : cond0_0 i) (hc1 : ¬cond0_1 i) :
    sout0_A_0 c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S896x1024) origin, View.readCov_unit_zero (S := S896x1024) _ origin]
  simp only [View.readAt_eq_ld, h3.read_unread, h4.read_unread, View.ld_unit_zero (S := S2048x896) origin, View.ld_unit_zero (S := S2048x1024) origin]

/-- A block of rows in the middle is added. -/
theorem middle (hc0 : ¬cond0_0 i) (hc1 : ¬cond0_1 i) :
    sout0_B_0 c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S896x1024) origin]
  simp only [View.readAt_eq_ld, h3.read_unread, h4.read_unread, h6.read_unread, View.ld_unit_zero (S := S2048x896) origin, View.ld_unit_zero (S := S2048x1024) origin, View.ld_unit_zero (S := S896x1024) origin]

/-- The last block of rows is added and the sum written out. -/
theorem last (hc0 : ¬cond0_0 i) (hc1 : cond0_1 i) :
    out0_C_2 c i a3 h3 a4 h4 a5 h5 a6 h6 hc0 hc1 x y s = k0_pay3 (F := Ideal) (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S896x1024) origin, View.readCov_unit_zero (S := S896x1024) _ origin]
  simp only [View.readAt_eq_ld, h3.read_unread, h4.read_unread, h6.read_unread, View.ld_unit_zero (S := S2048x896) origin, View.ld_unit_zero (S := S2048x1024) origin, View.ld_unit_zero (S := S896x1024) origin]

/-- One block's product, at an entry. -/
theorem pay2_at (r : Fin 896) (l : Fin 1024) :
    k0_pay2 (F := Ideal) s x y (ix2 r l) = s (ix2 r l) + ∑ k : Fin 2048, x (ix2 k r) * y (ix2 k l) := by
  pointwise [k0_pay2, Ideal.ofBits_zero_f32, zero_add]

theorem pay1_at (r : Fin 896) (l : Fin 1024) : k0_pay1 (F := Ideal) (ix2 r l) = 0 := by
  pointwise [k0_pay1, Ideal.ofBits_zero_f32]

end Points

variable (m : (ℓ : Loc nD τ sig) → Buf (Elt Ideal) ℓ) (c : Dev nD)

/-- The operands. -/
abbrev lhs : S8192x4480.Idx → EReal := m ((c : Thread nD τ).loc main_arg0)
abbrev rhs : S8192x1024.Idx → EReal := m ((c : Thread nD τ).loc main_arg1)

/-- The products that an entry sums, by row. -/
def term (p : ℕ) (q : ℕ) (x : ℕ) : EReal :=
  if h : x < 8192 ∧ p < 4480 ∧ q < 1024 then lhs m c (ix2 ⟨x, h.1⟩ ⟨p, h.2.1⟩) * rhs m c (ix2 ⟨x, h.1⟩ ⟨q, h.2.2⟩) else 0

theorem index0 : ∀ t : Fin cfg0.N, win0_0.index t 0 = t.val % 4 ∧ win0_0.index t 1 = t.val / 4 := (by decide +kernel : ∀ t : Fin grid0.N, _)
theorem index1 : ∀ t : Fin cfg0.N, win0_1.index t 0 = t.val % 4 ∧ win0_1.index t 1 = 0 := (by decide +kernel : ∀ t : Fin grid0.N, _)

/-- The blocks a step reads. -/
abbrev lhsAt (t : Fin cfg0.N) : S2048x896.Idx → EReal := iblk m c 0 t
abbrev rhsAt (t : Fin cfg0.N) : S2048x1024.Idx → EReal := iblk m c 1 t

/-- A block's products are the terms of its rows. -/
theorem block_sum (t : Fin cfg0.N) (r : Fin 896) (l : Fin 1024) :
    (∑ k : Fin 2048, lhsAt m c t (ix2 k r) * rhsAt m c t (ix2 k l))
      = ∑ k : Fin 2048, term m c (896 * (t.val / 4) + r) l (2048 * (t.val % 4) + k) := by
  have ht : t.val < 20 := lt_of_lt_of_eq t.isLt N_0
  refine Finset.sum_congr rfl fun k _ => ?_
  have hk : 2048 * (t.val % 4) + k.val < 8192 ∧ 896 * (t.val / 4) + r.val < 4480 ∧ l.val < 1024 := by omega
  unfold term
  rw [dif_pos hk]
  congr 1
  · unfold lhsAt iblk
    rw [View.read_apply]
    show V m c main_arg0 _ = m (c.tc.loc main_arg0) _
    unfold V
    congr 1
    funext a
    apply Fin.ext
    match a with
    | ⟨0, _⟩ => show win0_0.index t 0 * 2048 + 1 * k.val = 2048 * (t.val % 4) + k.val; rw [(index0 t).1]; ring
    | ⟨1, _⟩ => show win0_0.index t 1 * 896 + 1 * r.val = 896 * (t.val / 4) + r.val; rw [(index0 t).2]; ring
  · unfold rhsAt iblk
    rw [View.read_apply]
    show V m c main_arg1 _ = m (c.tc.loc main_arg1) _
    unfold V
    congr 1
    funext a
    apply Fin.ext
    match a with
    | ⟨0, _⟩ => show win0_1.index t 0 * 2048 + 1 * k.val = 2048 * (t.val % 4) + k.val; rw [(index1 t).1]; ring
    | ⟨1, _⟩ => show win0_1.index t 1 * 1024 + 1 * l.val = l.val; rw [(index1 t).2]; ring

/-- What the accumulator holds before the last block of a column of blocks: the terms of the rows so far. -/
theorem carried (r : Fin 896) (l : Fin 1024) : ∀ (n : ℕ) (hn : n < cfg0.N), ¬n % 4 = 3 →
    (outsAt0 m c n hn).2 (ix2 r l) = ∑ x ∈ Finset.range (2048 * (n % 4 + 1)), term m c (896 * (n / 4) + r) l x := by
  intro n
  induction n with
  | zero =>
    intro hn h1
    rw [outsAt0_A m c ⟨0, hn⟩ rfl h1]
    dsimp only
    rw [first, pay2_at, pay1_at, block_sum]
    have e := Cert.Weights.range_add_block (term m c (896 * (0 / 4) + r) l) 0 2048
    simpa using e
  | succ n ih =>
    intro hn h1
    have hN : n + 1 < 20 := lt_of_lt_of_eq hn N_0
    by_cases h0 : (n + 1) % 4 = 0
    · rw [outsAt0_A m c ⟨n + 1, hn⟩ h0 h1]
      dsimp only
      rw [first, pay2_at, pay1_at, block_sum]
      have e := Cert.Weights.range_add_block (term m c (896 * ((n + 1) / 4) + r) l) 0 2048
      simpa [h0] using e
    · rw [outsAt0_B m c ⟨n + 1, hn⟩ h0 h1]
      dsimp only
      rw [middle, pay2_at, block_sum]
      have e := Cert.Weights.range_add_block (term m c (896 * ((n + 1) / 4) + r) l) ((n + 1) % 4) 2048
      rw [← e]
      have hp := ih (Nat.lt_of_succ_lt hn) (by omega)
      rw [show n % 4 + 1 = (n + 1) % 4 from by omega, show n / 4 = (n + 1) / 4 from by omega] at hp
      exact congrArg (· + _) hp

/-- The array after the run: every row of the operands is summed. -/
theorem result (p : Fin 4480) (q : Fin 1024) :
    (Value.G2 m c : S4480x1024.Idx → EReal) (ix2 p q) = ∑ x : Fin 8192, lhs m c (ix2 x p) * rhs m c (ix2 x q) := by
  have hpt : Value.pt2Of (ix2 p q) < cfg0.N := by
    rw [show cfg0.N = 20 from N_0]; show 4 * (1 * (p.val / 896 - 0) + 1 * (q.val / 1024 - 0)) + 3 < 20; omega
  have e4 : Value.pt2Of (ix2 p q) = 4 * (p.val / 896) + 3 := by
    show 4 * (1 * (p.val / 896 - 0) + 1 * (q.val / 1024 - 0)) + 3 = _; omega
  unfold Value.G2
  rw [dif_pos hpt, ← Value.outsAt0_sweep m c (Value.pt2Of (ix2 p q)) hpt]
  have el : Value.loc2Of (ix2 p q) = ix2 (⟨p.val % 896, Nat.mod_lt _ (by decide)⟩ : Fin 896) q := by
    funext a; apply Fin.ext
    match a with
    | ⟨0, _⟩ => rfl
    | ⟨1, _⟩ => show q.val % 1024 = q.val; omega
  generalize Value.pt2Of (ix2 p q) = n at hpt e4
  subst e4
  rw [el, outsAt0_C m c ⟨_, hpt⟩ (by dsimp only; omega) (by dsimp only; omega)]
  dsimp only
  rw [last]
  show k0_pay2 (F := Ideal) _ _ _ (ix2 _ _) = _
  rw [pay2_at, block_sum, carried m c _ _ _ _ (by omega)]
  dsimp only
  rw [show (4 * (p.val / 896) + 3 - 1) % 4 + 1 = 3 from by omega, show (4 * (p.val / 896) + 3 - 1) / 4 = p.val / 896 from by omega,
    show (4 * (p.val / 896) + 3) % 4 = 3 from by omega, show (4 * (p.val / 896) + 3) / 4 = p.val / 896 from by omega,
    show 896 * (p.val / 896) + p.val % 896 = p.val from by omega,
    Cert.Weights.range_add_block (term m c p q) 3 2048, Finset.sum_range]
  refine Finset.sum_congr rfl fun x _ => ?_
  unfold term
  rw [dif_pos ⟨x.isLt, p.isLt, q.isLt⟩]

end Cert.DwInIdeal.Weights

open Idealize.ShloMosaic in
/-- The blocked product and the one product agree, whatever the operands. -/
theorem Cert.dw_in : @Cert.algebraic_DwInIdeal_DwInRefIdeal Cert.DwInIdeal.Gen.facts Cert.DwInRefIdeal.Gen.facts := by
  intro m g m' g' _ hm
  refine ⟨fun c => Cert.DwInIdeal.Value.G2 m c, Cert.DwInIdeal.Value.run m g, ?_⟩
  refine (Idealize.ShloMosaic.θ_run Cert.DwInRefIdeal.defs _ _).mono (fun r h c => ⟨(h c).1.trans ?_, (h c).2⟩) (Cert.DwInRefIdeal.Value.run m' g')
  rw [(hm c).1, (hm c).2]
  funext j
  obtain ⟨p, q, rfl⟩ : ∃ (p : Fin 4480) (q : Fin 1024), j = Idealize.ShloMosaic.ix2 p q := ⟨j 0, j 1, by funext a; fin_cases a <;> rfl⟩
  refine Eq.trans ?_ (Cert.DwInIdeal.Weights.result m c p q).symm
  pointwise

end
-- ==== Proof.Weights.Ple.lean ====
/- The gradient of the embeddings' projection: what the blocked product leaves, and what one product gives. -/
module

public import proofs.«01_k».proof.Defs
public import proofs.«01_k».proof.Proof.Weights.Sums
public import proofs.«01_k».proof.Proof.Gen.DwPleIdeal.Value
public import proofs.«01_k».proof.Proof.Gen.DwPleRefIdeal.Run
public import Idealize.ShloMosaic.Lib.Pointwise
public import Idealize.ShloMosaic.Lib.IdealHost

@[expose] public section

noncomputable section

namespace Cert.DwPleIdeal.Weights

open Cert.DwPleIdeal Cert.DwPleIdeal.Gen Idealize.ShloMosaic Idealize.ShloMosaic.TcCoe Idealize.SL.Sem

theorem origin : (![0, 0] : Fin 2 → Nat) = fun _ => 0 := funext fun a => by fin_cases a <;> rfl

section Points

variable (c : Dev nD) (i : grid0.Coords) (a3 : Memref sig .tc .vmem S2048x256 .f32) (h3 : a3.IsWhole)
  (a4 : Memref sig .tc .vmem S2048x1024 .bf16) (h4 : a4.IsWhole) (a5 : Memref sig .tc .vmem S8x256x128 .bf16) (h5 : a5.IsWhole)
  (a6 : Memref sig .tc .vmem S256x1024 .f32) (h6 : a6.IsWhole) (x : Vec Ideal S2048x256 .f32) (y : Vec Ideal S2048x1024 .bf16)
  (s : Vec Ideal S256x1024 .f32)

/-- The first block of rows starts from zero. -/
theorem first (hc0 : cond0_0 i) (hc1 : ¬cond0_1 i) :
    sout0_A_0 c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S256x1024) origin, View.readCov_unit_zero (S := S256x1024) _ origin]
  simp only [View.readAt_eq_ld, h3.read_unread, h4.read_unread, View.ld_unit_zero (S := S2048x256) origin, View.ld_unit_zero (S := S2048x1024) origin]

/-- A block of rows in the middle is added. -/
theorem middle (hc0 : ¬cond0_0 i) (hc1 : ¬cond0_1 i) :
    sout0_B_0 c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S256x1024) origin]
  simp only [View.readAt_eq_ld, h3.read_unread, h4.read_unread, h6.read_unread, View.ld_unit_zero (S := S2048x256) origin, View.ld_unit_zero (S := S2048x1024) origin, View.ld_unit_zero (S := S256x1024) origin]

/-- A sum as it is written out: its columns in eight slices, one over the other. -/
def slices (v : S256x1024.Idx → EReal) : S8x256x128.Idx → EReal :=
  fun j => v (ix2 (j 1 : Fin 256) (⟨128 * (j 0 : Fin 8).val + (j 2 : Fin 128).val, by have h0 : (j 0 : Fin 8).val < 8 := (j 0 : Fin 8).isLt; have h2 : (j 2 : Fin 128).val < 128 := (j 2 : Fin 128).isLt; omega⟩ : Fin 1024))

/-- One write of the whole accumulator covers it. -/
theorem whole (w : S256x1024.Idx → EReal) (z : S256x1024.Idx) :
    ∃ p ∈ [(⟨Rect.unit ![0, 0] S256x1024.size inb_S256x1024_S256x1024_0_0, w⟩ : View.Piece (Elt Ideal) S256x1024 .f32)], z ∈ p.1.set :=
  ⟨_, List.mem_cons_self, View.mem_set_unit_zero origin inb_S256x1024_S256x1024_0_0 z⟩

/-- The last block of rows is added and the sum written out. -/
theorem last (hc0 : ¬cond0_0 i) (hc1 : cond0_1 i) :
    out0_C_2 c i a3 h3 a4 h4 a5 h5 a6 h6 hc0 hc1 x y s = slices (k0_pay2 (F := Ideal) s x y) := by
  unfold out0_C_2
  rw [View.read_writes_eq_canon _ _ _ (cover0_C_2 c i a3 h3 a4 h4 a5 h5 a6 h6 hc0 hc1 x y s)]
  funext j
  refine View.canon_apply_of_pieces (slices (k0_pay2 (F := Ideal) s x y)) _ ?_ j (cover0_C_2 c i a3 h3 a4 h4 a5 h5 a6 h6 hc0 hc1 x y s j)
  unfold kernelRun0_C
  dsimp only
  sl_unfold_words
  simp only [View.readCov_eq_canon_ld _ _ _ (whole _), View.canon_unit_zero (S := S256x1024) origin,
    View.readAt_eq_ld, h3.read_unread, h4.read_unread, h6.read_unread, View.ld_unit_zero (S := S2048x256) origin, View.ld_unit_zero (S := S2048x1024) origin, View.ld_unit_zero (S := S256x1024) origin]
  generalize k0_pay2 (F := Ideal) s x y = v
  intro p hp z
  simp only [List.mem_cons, List.not_mem_nil, or_false] at hp
  rcases hp with rfl | rfl | rfl | rfl | rfl | rfl | rfl | rfl <;>
  · obtain ⟨q, l, rfl⟩ : ∃ (q : Fin 256) (l : Fin 128), z = ix3 (0 : Fin 1) q l := ⟨z 1, z 2, by funext a; fin_cases a <;> first | rfl | exact Subsingleton.elim (α := Fin 1) _ _⟩
    dsimp only
    pointwise [k0_pay3, k0_pay4, k0_pay5, k0_pay6, k0_pay7, k0_pay8, k0_pay9, k0_pay10, slices]
    exact congrArg v (funext fun a => Fin.ext (by fin_cases a <;> simp [Rect.emb, Rect.unit, ix2, ix3]))

/-- One block's product, at an entry. -/
theorem pay2_at (r : Fin 256) (l : Fin 1024) :
    k0_pay2 (F := Ideal) s x y (ix2 r l) = s (ix2 r l) + ∑ k : Fin 2048, x (ix2 k r) * y (ix2 k l) := by
  pointwise [k0_pay2, Ideal.ofBits_zero_f32, zero_add]

theorem pay1_at (r : Fin 256) (l : Fin 1024) : k0_pay1 (F := Ideal) (ix2 r l) = 0 := by
  pointwise [k0_pay1, Ideal.ofBits_zero_f32]

end Points

variable (m : (ℓ : Loc nD τ sig) → Buf (Elt Ideal) ℓ) (c : Dev nD)

/-- The operands. -/
abbrev lhs : S8192x256.Idx → EReal := m ((c : Thread nD τ).loc main_arg0)
abbrev rhs : S8192x1024.Idx → EReal := m ((c : Thread nD τ).loc main_arg1)

/-- The products that an entry sums, by row. -/
def term (p : Fin 256) (q : Fin 1024) (x : ℕ) : EReal :=
  if h : x < 8192 then lhs m c (ix2 ⟨x, h⟩ p) * rhs m c (ix2 ⟨x, h⟩ q) else 0

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)

/-- The blocks a step reads. -/
abbrev lhsAt (t : Fin cfg0.N) : S2048x256.Idx → EReal := iblk m c 0 t
abbrev rhsAt (t : Fin cfg0.N) : S2048x1024.Idx → EReal := iblk m c 1 t

/-- A block's products are the terms of its rows. -/
theorem block_sum (t : Fin cfg0.N) (r : Fin 256) (l : Fin 1024) :
    (∑ k : Fin 2048, lhsAt m c t (ix2 k r) * rhsAt m c t (ix2 k l)) = ∑ k : Fin 2048, term m c r l (2048 * t.val + k) := by
  have ht : t.val < 4 := lt_of_lt_of_eq t.isLt N_0
  refine Finset.sum_congr rfl fun k _ => ?_
  have hk : 2048 * t.val + k.val < 8192 := by omega
  unfold term
  rw [dif_pos hk]
  congr 1
  · unfold lhsAt iblk
    rw [View.read_apply]
    show V m c main_arg0 _ = m (c.tc.loc main_arg0) _
    rw [V_main_arg0]
    congr 1
    funext a
    apply Fin.ext
    match a with
    | ⟨0, _⟩ => show win0_0.index t 0 * 2048 + 1 * k.val = 2048 * t.val + k.val; rw [(index0 t).1]; ring
    | ⟨1, _⟩ => show win0_0.index t 1 * 256 + 1 * r.val = r.val; rw [(index0 t).2]; ring
  · unfold rhsAt iblk
    rw [View.read_apply]
    show V m c main_arg1 _ = m (c.tc.loc main_arg1) _
    rw [V_main_arg1]
    congr 1
    funext a
    apply Fin.ext
    match a with
    | ⟨0, _⟩ => show win0_1.index t 0 * 2048 + 1 * k.val = 2048 * t.val + k.val; rw [(index1 t).1]; ring
    | ⟨1, _⟩ => show win0_1.index t 1 * 1024 + 1 * l.val = l.val; rw [(index1 t).2]; ring

/-- What the accumulator holds before the last block: the terms of the rows so far. -/
theorem carried (r : Fin 256) (l : Fin 1024) : ∀ (n : ℕ) (hn : n < 3),
    (outsAt0 m c n (lt_of_lt_of_eq (by omega : n < 4) N_0.symm)).2 (ix2 r l) = ∑ x ∈ Finset.range (2048 * (n + 1)), term m c r l x :=
  Cert.Weights.running (N := 3) (R := 2048) (term m c r l) (fun n hn => (outsAt0 m c n (lt_of_lt_of_eq (by omega : n < 4) N_0.symm)).2 (ix2 r l))
    (fun h => by
      rw [outsAt0_A m c ⟨0, lt_of_lt_of_eq (by decide : 0 < 4) N_0.symm⟩ rfl (by decide)]
      dsimp only
      rw [first, pay2_at, pay1_at, block_sum]
      simp)
    (fun n h => by
      rw [outsAt0_B m c ⟨n + 1, lt_of_lt_of_eq (by omega : n + 1 < 4) N_0.symm⟩ (by dsimp only; omega) (by dsimp only; omega)]
      dsimp only
      rw [middle, pay2_at, block_sum]
      rfl)

/-- The accumulator with the last block added: every row is summed. -/
theorem total (h : 3 < cfg0.N) (h' : 3 - 1 < cfg0.N) (r : Fin 256) (l : Fin 1024) :
    k0_pay2 (F := Ideal) (outsAt0 m c (3 - 1) h').2 (lhsAt m c ⟨3, h⟩) (rhsAt m c ⟨3, h⟩) (ix2 r l)
      = ∑ x : Fin 8192, lhs m c (ix2 x r) * rhs m c (ix2 x l) := by
  rw [pay2_at, block_sum, carried m c r l 2 (by decide), Cert.Weights.range_add_block (term m c r l) 3 2048, Finset.sum_range]
  refine Finset.sum_congr rfl fun x _ => ?_
  unfold term
  rw [dif_pos x.isLt]

/-- The array after the run. -/
theorem result (a : Fin 8) (p : Fin 256) (q : Fin 128) :
    (Value.G2 m c : S8x256x128.Idx → EReal) (ix3 a p q)
      = ∑ x : Fin 8192, lhs m c (ix2 x p) * rhs m c (ix2 x (⟨a.val * 128 + q.val, by omega⟩ : Fin 1024)) := by
  have e4 : Value.pt2Of (ix3 a p q) = 3 := by
    show 4 * Value.run2Of (ix3 a p q) + 3 = _; unfold Value.run2Of; simp
  have hpt : Value.pt2Of (ix3 a p q) < cfg0.N := by rw [e4, show cfg0.N = 4 from N_0]; decide
  unfold Value.G2
  rw [dif_pos hpt, ← Value.outsAt0_sweep m c (Value.pt2Of (ix3 a p q)) hpt]
  have el : Value.loc2Of (ix3 a p q) = ix3 a p q := by
    funext b; apply Fin.ext
    match b with
    | ⟨0, _⟩ => show a.val % 8 = a.val; omega
    | ⟨1, _⟩ => show p.val % 256 = p.val; omega
    | ⟨2, _⟩ => show q.val % 128 = q.val; omega
  generalize Value.pt2Of (ix3 a p q) = n at hpt e4
  subst e4
  rw [el, outsAt0_C m c ⟨_, hpt⟩ (show ¬3 % 4 = 0 by decide) (show 3 % 4 = 3 by decide)]
  dsimp only
  rw [last]
  refine (total m c hpt (Nat.lt_of_le_of_lt (Nat.sub_le _ _) hpt) p (⟨128 * a.val + q.val, by omega⟩ : Fin 1024)).trans ?_
  rw [show (⟨128 * a.val + q.val, by omega⟩ : Fin 1024) = ⟨a.val * 128 + q.val, by omega⟩ from Fin.ext (by dsimp only; ring)]

end Cert.DwPleIdeal.Weights

open Idealize.ShloMosaic in
/-- The blocked product and the one product agree, whatever the operands. -/
theorem Cert.dw_ple : @Cert.algebraic_DwPleIdeal_DwPleRefIdeal Cert.DwPleIdeal.Gen.facts Cert.DwPleRefIdeal.Gen.facts := by
  intro m g m' g' _ hm
  refine ⟨fun c => Cert.DwPleIdeal.Value.G2 m c, Cert.DwPleIdeal.Value.run m g, ?_⟩
  refine (Idealize.ShloMosaic.θ_run Cert.DwPleRefIdeal.defs _ _).mono (fun r h c => ⟨(h c).1.trans ?_, (h c).2⟩) (Cert.DwPleRefIdeal.Value.run m' g')
  rw [(hm c).1, (hm c).2]
  funext j
  obtain ⟨a, p, q, rfl⟩ : ∃ (a : Fin 8) (p : Fin 256) (q : Fin 128), j = ix3 a p q := ⟨j 0, j 1, j 2, by funext a; fin_cases a <;> rfl⟩
  refine Eq.trans ?_ ((Cert.DwPleIdeal.Weights.result m c a p q).trans (Finset.sum_congr (M := EReal) rfl fun x _ => mul_comm (G := EReal) _ _)).symm
  pointwise

end
-- ==== Proof.Weights.Square.lean ====
/- The gradient of a square weight (the merge's and the gate's projections): what the blocked product leaves, and what one product gives. -/
module

public import proofs.«01_k».proof.Defs
public import proofs.«01_k».proof.Proof.Weights.Sums
public import proofs.«01_k».proof.Proof.Gen.DwSqIdeal.Value
public import proofs.«01_k».proof.Proof.Gen.DwSqRefIdeal.Run
public import Idealize.ShloMosaic.Lib.Pointwise
public import Idealize.ShloMosaic.Lib.IdealHost

@[expose] public section

noncomputable section

namespace Cert.DwSqIdeal.Weights

open Cert.DwSqIdeal Cert.DwSqIdeal.Gen Idealize.ShloMosaic Idealize.ShloMosaic.TcCoe Idealize.SL.Sem

theorem origin : (![0, 0] : Fin 2 → Nat) = fun _ => 0 := funext fun a => by fin_cases a <;> rfl

section Points

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

/-- The first block of rows starts from zero. -/
theorem first (hc0 : cond0_0 i) (hc1 : ¬cond0_1 i) :
    sout0_A_0 c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S2048x1024) origin, View.ld_unit_zero (S := S2048x1024) origin]

/-- A block of rows in the middle is added. -/
theorem middle (hc0 : ¬cond0_0 i) (hc1 : ¬cond0_1 i) :
    sout0_B_0 c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  rw [View.canon_unit_zero (S := S1024x1024) origin]
  simp only [View.readAt_eq_ld, h3.read_unread, h4.read_unread, h6.read_unread, View.ld_unit_zero (S := S2048x1024) origin, View.ld_unit_zero (S := S2048x1024) origin, View.ld_unit_zero (S := S1024x1024) origin]

/-- The last block of rows is added and the sum written out. -/
theorem last (hc0 : ¬cond0_0 i) (hc1 : cond0_1 i) :
    out0_C_2 c i a3 h3 a4 h4 a5 h5 a6 h6 hc0 hc1 x y s = k0_pay3 (F := Ideal) (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S2048x1024) origin, View.ld_unit_zero (S := S2048x1024) origin, View.ld_unit_zero (S := S1024x1024) origin]

/-- One block's product, at an entry. -/
theorem pay2_at (r : Fin 1024) (l : Fin 1024) :
    k0_pay2 (F := Ideal) s x y (ix2 r l) = s (ix2 r l) + ∑ k : Fin 2048, x (ix2 k r) * y (ix2 k l) := by
  pointwise [k0_pay2, Ideal.ofBits_zero_f32, zero_add]

theorem pay1_at (r : Fin 1024) (l : Fin 1024) : k0_pay1 (F := Ideal) (ix2 r l) = 0 := by
  pointwise [k0_pay1, Ideal.ofBits_zero_f32]

end Points

variable (m : (ℓ : Loc nD τ sig) → Buf (Elt Ideal) ℓ) (c : Dev nD)

/-- The operands. -/
abbrev lhs : S8192x1024.Idx → EReal := m ((c : Thread nD τ).loc main_arg0)
abbrev rhs : S8192x1024.Idx → EReal := m ((c : Thread nD τ).loc main_arg1)

/-- The products that an entry sums, by row. -/
def term (p : Fin 1024) (q : Fin 1024) (x : ℕ) : EReal :=
  if h : x < 8192 then lhs m c (ix2 ⟨x, h⟩ p) * rhs m c (ix2 ⟨x, h⟩ q) else 0

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)

/-- The blocks a step reads. -/
abbrev lhsAt (t : Fin cfg0.N) : S2048x1024.Idx → EReal := iblk m c 0 t
abbrev rhsAt (t : Fin cfg0.N) : S2048x1024.Idx → EReal := iblk m c 1 t

/-- A block's products are the terms of its rows. -/
theorem block_sum (t : Fin cfg0.N) (r : Fin 1024) (l : Fin 1024) :
    (∑ k : Fin 2048, lhsAt m c t (ix2 k r) * rhsAt m c t (ix2 k l)) = ∑ k : Fin 2048, term m c r l (2048 * t.val + k) := by
  have ht : t.val < 4 := lt_of_lt_of_eq t.isLt N_0
  refine Finset.sum_congr rfl fun k _ => ?_
  have hk : 2048 * t.val + k.val < 8192 := by omega
  unfold term
  rw [dif_pos hk]
  congr 1
  · unfold lhsAt iblk
    rw [View.read_apply]
    show V m c main_arg0 _ = m (c.tc.loc main_arg0) _
    rw [V_main_arg0]
    congr 1
    funext a
    apply Fin.ext
    match a with
    | ⟨0, _⟩ => show win0_0.index t 0 * 2048 + 1 * k.val = 2048 * t.val + k.val; rw [(index0 t).1]; ring
    | ⟨1, _⟩ => show win0_0.index t 1 * 1024 + 1 * r.val = r.val; rw [(index0 t).2]; ring
  · unfold rhsAt iblk
    rw [View.read_apply]
    show V m c main_arg1 _ = m (c.tc.loc main_arg1) _
    rw [V_main_arg1]
    congr 1
    funext a
    apply Fin.ext
    match a with
    | ⟨0, _⟩ => show win0_1.index t 0 * 2048 + 1 * k.val = 2048 * t.val + k.val; rw [(index1 t).1]; ring
    | ⟨1, _⟩ => show win0_1.index t 1 * 1024 + 1 * l.val = l.val; rw [(index1 t).2]; ring

/-- What the accumulator holds before the last block: the terms of the rows so far. -/
theorem carried (r : Fin 1024) (l : Fin 1024) : ∀ (n : ℕ) (hn : n < 3),
    (outsAt0 m c n (lt_of_lt_of_eq (by omega : n < 4) N_0.symm)).2 (ix2 r l) = ∑ x ∈ Finset.range (2048 * (n + 1)), term m c r l x :=
  Cert.Weights.running (N := 3) (R := 2048) (term m c r l) (fun n hn => (outsAt0 m c n (lt_of_lt_of_eq (by omega : n < 4) N_0.symm)).2 (ix2 r l))
    (fun h => by
      rw [outsAt0_A m c ⟨0, lt_of_lt_of_eq (by decide : 0 < 4) N_0.symm⟩ rfl (by decide)]
      dsimp only
      rw [first, pay2_at, pay1_at, block_sum]
      simp)
    (fun n h => by
      rw [outsAt0_B m c ⟨n + 1, lt_of_lt_of_eq (by omega : n + 1 < 4) N_0.symm⟩ (by dsimp only; omega) (by dsimp only; omega)]
      dsimp only
      rw [middle, pay2_at, block_sum]
      rfl)

/-- The accumulator with the last block added: every row is summed. -/
theorem total (h : 3 < cfg0.N) (h' : 3 - 1 < cfg0.N) (r : Fin 1024) (l : Fin 1024) :
    k0_pay2 (F := Ideal) (outsAt0 m c (3 - 1) h').2 (lhsAt m c ⟨3, h⟩) (rhsAt m c ⟨3, h⟩) (ix2 r l)
      = ∑ x : Fin 8192, lhs m c (ix2 x r) * rhs m c (ix2 x l) := by
  rw [pay2_at, block_sum, carried m c r l 2 (by decide), Cert.Weights.range_add_block (term m c r l) 3 2048, Finset.sum_range]
  refine Finset.sum_congr rfl fun x _ => ?_
  unfold term
  rw [dif_pos x.isLt]

/-- The array after the run. -/
theorem result (p : Fin 1024) (q : Fin 1024) :
    (Value.G2 m c : S1024x1024.Idx → EReal) (ix2 p q) = ∑ x : Fin 8192, lhs m c (ix2 x p) * rhs m c (ix2 x q) := by
  have hpt : Value.pt2Of (ix2 p q) < cfg0.N := by
    rw [show cfg0.N = 4 from N_0]; show 4 * (1 * (p.val / 1024 - 0) + 1 * (q.val / 1024 - 0)) + 3 < 4; omega
  have e4 : Value.pt2Of (ix2 p q) = 3 := by
    show 4 * (1 * (p.val / 1024 - 0) + 1 * (q.val / 1024 - 0)) + 3 = _; omega
  unfold Value.G2
  rw [dif_pos hpt, ← Value.outsAt0_sweep m c (Value.pt2Of (ix2 p q)) hpt]
  have el : Value.loc2Of (ix2 p q) = ix2 p q := by
    funext a; apply Fin.ext
    match a with
    | ⟨0, _⟩ => show p.val % 1024 = p.val; omega
    | ⟨1, _⟩ => show q.val % 1024 = q.val; omega
  generalize Value.pt2Of (ix2 p q) = n at hpt e4
  subst e4
  rw [el, outsAt0_C m c ⟨_, hpt⟩ (show ¬3 % 4 = 0 by decide) (show 3 % 4 = 3 by decide)]
  dsimp only
  rw [last]
  exact total m c hpt _ p q

end Cert.DwSqIdeal.Weights

open Idealize.ShloMosaic in
/-- The blocked product and the one product agree, whatever the operands. -/
theorem Cert.dw_square : @Cert.algebraic_DwSqIdeal_DwSqRefIdeal Cert.DwSqIdeal.Gen.facts Cert.DwSqRefIdeal.Gen.facts := by
  intro m g m' g' _ hm
  refine ⟨fun c => Cert.DwSqIdeal.Value.G2 m c, Cert.DwSqIdeal.Value.run m g, ?_⟩
  refine (Idealize.ShloMosaic.θ_run Cert.DwSqRefIdeal.defs _ _).mono (fun r h c => ⟨(h c).1.trans ?_, (h c).2⟩) (Cert.DwSqRefIdeal.Value.run m' g')
  rw [(hm c).1, (hm c).2]
  funext j
  obtain ⟨p, q, rfl⟩ : ∃ (p : Fin 1024) (q : Fin 1024), j = Idealize.ShloMosaic.ix2 p q := ⟨j 0, j 1, by funext a; fin_cases a <;> rfl⟩
  refine Eq.trans ?_ ((Cert.DwSqIdeal.Weights.result m c p q).trans (Finset.sum_congr (M := EReal) rfl fun x _ => mul_comm (G := EReal) _ _)).symm
  pointwise

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.DwInIdeal.Value
public import proofs.«01_k».proof.Proof.Gen.DwInRefIdeal.Run
public import proofs.«01_k».proof.Proof.Gen.DwFf2Ideal.Value
public import proofs.«01_k».proof.Proof.Gen.DwFf2RefIdeal.Run
public import proofs.«01_k».proof.Proof.Gen.DwFf1Ideal.Value
public import proofs.«01_k».proof.Proof.Gen.DwFf1RefIdeal.Run
public import proofs.«01_k».proof.Proof.Gen.InBwdIdeal.Value
public import proofs.«01_k».proof.Proof.Gen.InBwdRefIdeal.Run
public import proofs.«01_k».proof.Proof.Gen.DwSqIdeal.Value
public import proofs.«01_k».proof.Proof.Gen.DwSqRefIdeal.Run
public import proofs.«01_k».proof.Proof.Gen.DwBrIdeal.Value
public import proofs.«01_k».proof.Proof.Gen.DwBrRefIdeal.Run
public import proofs.«01_k».proof.Proof.Gen.DwPleIdeal.Value
public import proofs.«01_k».proof.Proof.Gen.DwPleRefIdeal.Run
public import proofs.«01_k».proof.Proof.Gen.HeadIdeal.Value
public import proofs.«01_k».proof.Proof.Gen.HeadRefIdeal.Run
public import proofs.«01_k».proof.Proof.Gen.FfnBwdIdeal.Value
public import proofs.«01_k».proof.Proof.Gen.FfnBwdRefIdeal.Run
public import proofs.«01_k».proof.Proof.Gen.MixFwdIdeal.Value
public import proofs.«01_k».proof.Proof.Gen.MixFwdRefIdeal.Run
public import proofs.«01_k».proof.Proof.Gen.AdInIdeal.Value
public import proofs.«01_k».proof.Proof.Gen.AdInRefIdeal.Run
public import proofs.«01_k».proof.Proof.Gen.AdBrIdeal.Value
public import proofs.«01_k».proof.Proof.Gen.AdBrRefIdeal.Run
public import proofs.«01_k».proof.Proof.Gen.AdSqIdeal.Value
public import proofs.«01_k».proof.Proof.Gen.AdSqRefIdeal.Run
public import proofs.«01_k».proof.Proof.Gen.AdFf1Ideal.Value
public import proofs.«01_k».proof.Proof.Gen.AdFf1RefIdeal.Run
public import proofs.«01_k».proof.Proof.Gen.AdFf2Ideal.Value
public import proofs.«01_k».proof.Proof.Gen.AdFf2RefIdeal.Run
public import proofs.«01_k».proof.Proof.Gen.AdPleIdeal.Value
public import proofs.«01_k».proof.Proof.Gen.AdPleRefIdeal.Run
public import proofs.«01_k».proof.Proof.Gen.AdSmallIdeal.Value
public import proofs.«01_k».proof.Proof.Gen.AdSmallRefIdeal.Run
public import proofs.«01_k».proof.Proof.Fox.Run
public import proofs.«01_k».proof.Proof.Plain.Run
public import proofs.«01_k».proof.Proof.Same
public import proofs.«01_k».proof.Proof.Rows.AdBr
public import proofs.«01_k».proof.Proof.Rows.AdFf1
public import proofs.«01_k».proof.Proof.Rows.AdFf2
public import proofs.«01_k».proof.Proof.Rows.AdIn
public import proofs.«01_k».proof.Proof.Rows.AdPle
public import proofs.«01_k».proof.Proof.Rows.AdSmall
public import proofs.«01_k».proof.Proof.Rows.AdSq
public import proofs.«01_k».proof.Proof.Rows.FfnPlain
public import proofs.«01_k».proof.Proof.Rows.HeadPlain
public import proofs.«01_k».proof.Proof.Rows.InBwd
public import proofs.«01_k».proof.Proof.Rows.MixPlain
public import proofs.«01_k».proof.Proof.Weights.Branch
public import proofs.«01_k».proof.Proof.Weights.Ff1
public import proofs.«01_k».proof.Proof.Weights.Ff2
public import proofs.«01_k».proof.Proof.Weights.In
public import proofs.«01_k».proof.Proof.Weights.Ple
public import proofs.«01_k».proof.Proof.Weights.Square
public import Idealize.ShloMosaic.Adequacy
public import Idealize.ShloMosaic.Init
public import Idealize.ShloMosaic.Lib.Quiescent

@[expose] public section

noncomputable section

namespace Cert.Proof

open Idealize.ShloMosaic Idealize.SL.Sem

/-- The reference keeps its arguments; it has no semaphore, so every counter ends at zero. -/
theorem reference_frame : @Cert.quiescent_ReferenceIdeal Cert.ReferenceIdeal.Gen.facts := fun m g _ =>
  (θ_run _ _ _).mono (fun r h => ⟨fun c => (h c).2.2.2.2.2, sem_eq_zero_of_no_sems (by decide) r.2⟩)
    (Cert.ReferenceIdeal.Value.run m g)

theorem claim : Cert.Claim :=
  ⟨Cert.Kernel.Gen.facts, Cert.KernelIdeal.Gen.facts, Cert.ReferenceIdeal.Gen.facts,
    Cert.DwIn.Gen.facts, Cert.DwInIdeal.Gen.facts, Cert.DwInRefIdeal.Gen.facts,
    Cert.DwFf2.Gen.facts, Cert.DwFf2Ideal.Gen.facts, Cert.DwFf2RefIdeal.Gen.facts,
    Cert.DwFf1.Gen.facts, Cert.DwFf1Ideal.Gen.facts, Cert.DwFf1RefIdeal.Gen.facts,
    Cert.InBwd.Gen.facts, Cert.InBwdIdeal.Gen.facts, Cert.InBwdRefIdeal.Gen.facts,
    Cert.DwSq.Gen.facts, Cert.DwSqIdeal.Gen.facts, Cert.DwSqRefIdeal.Gen.facts,
    Cert.DwBr.Gen.facts, Cert.DwBrIdeal.Gen.facts, Cert.DwBrRefIdeal.Gen.facts,
    Cert.DwPle.Gen.facts, Cert.DwPleIdeal.Gen.facts, Cert.DwPleRefIdeal.Gen.facts,
    Cert.Head.Gen.facts, Cert.HeadIdeal.Gen.facts, Cert.HeadRefIdeal.Gen.facts,
    Cert.FfnBwd.Gen.facts, Cert.FfnBwdIdeal.Gen.facts, Cert.FfnBwdRefIdeal.Gen.facts,
    Cert.MixFwd.Gen.facts, Cert.MixFwdIdeal.Gen.facts, Cert.MixFwdRefIdeal.Gen.facts,
    Cert.AdIn.Gen.facts, Cert.AdInIdeal.Gen.facts, Cert.AdInRefIdeal.Gen.facts,
    Cert.AdBr.Gen.facts, Cert.AdBrIdeal.Gen.facts, Cert.AdBrRefIdeal.Gen.facts,
    Cert.AdSq.Gen.facts, Cert.AdSqIdeal.Gen.facts, Cert.AdSqRefIdeal.Gen.facts,
    Cert.AdFf1.Gen.facts, Cert.AdFf1Ideal.Gen.facts, Cert.AdFf1RefIdeal.Gen.facts,
    Cert.AdFf2.Gen.facts, Cert.AdFf2Ideal.Gen.facts, Cert.AdFf2RefIdeal.Gen.facts,
    Cert.AdPle.Gen.facts, Cert.AdPleIdeal.Gen.facts, Cert.AdPleRefIdeal.Gen.facts,
    Cert.AdSmall.Gen.facts, Cert.AdSmallIdeal.Gen.facts, Cert.AdSmallRefIdeal.Gen.facts,
    Cert.Pre_finite.facts,
    Cert.Pre_finite_head.facts,
    Cert.Pre_finite_ffn.facts,
    fun m g _ => Cert.Kernel.Plain.frame_run m g, fun m g _ => Cert.KernelIdeal.Fox.frame_run m g, reference_frame,
    Cert.Same.frame_DwIn, Cert.Same.frame_DwInIdeal, Cert.Same.frame_DwInRefIdeal,
    Cert.Same.frame_DwFf2, Cert.Same.frame_DwFf2Ideal, Cert.Same.frame_DwFf2RefIdeal,
    Cert.Same.frame_DwFf1, Cert.Same.frame_DwFf1Ideal, Cert.Same.frame_DwFf1RefIdeal,
    Cert.Same.frame_InBwd, Cert.Same.frame_InBwdIdeal, fun m g _ => Cert.Same.frame_InBwdIdeal m g trivial,
    Cert.Same.frame_InBwdRefIdeal, fun m g _ => Cert.Same.frame_InBwdRefIdeal m g trivial,
    Cert.Same.frame_DwSq, Cert.Same.frame_DwSqIdeal, Cert.Same.frame_DwSqRefIdeal,
    Cert.Same.frame_DwBr, Cert.Same.frame_DwBrIdeal, Cert.Same.frame_DwBrRefIdeal,
    Cert.Same.frame_DwPle, Cert.Same.frame_DwPleIdeal, Cert.Same.frame_DwPleRefIdeal,
    Cert.Same.frame_Head, Cert.Same.frame_HeadIdeal, fun m g _ => Cert.Same.frame_HeadIdeal m g trivial,
    Cert.Same.frame_HeadRefIdeal, fun m g _ => Cert.Same.frame_HeadRefIdeal m g trivial,
    Cert.Same.frame_FfnBwd, Cert.Same.frame_FfnBwdIdeal, fun m g _ => Cert.Same.frame_FfnBwdIdeal m g trivial,
    Cert.Same.frame_FfnBwdRefIdeal, fun m g _ => Cert.Same.frame_FfnBwdRefIdeal m g trivial,
    Cert.Same.frame_MixFwd, Cert.Same.frame_MixFwdIdeal, Cert.Same.frame_MixFwdRefIdeal,
    Cert.Same.frame_AdIn, Cert.Same.frame_AdInIdeal, Cert.Same.frame_AdInRefIdeal,
    Cert.Same.frame_AdBr, Cert.Same.frame_AdBrIdeal, Cert.Same.frame_AdBrRefIdeal,
    Cert.Same.frame_AdSq, Cert.Same.frame_AdSqIdeal, Cert.Same.frame_AdSqRefIdeal,
    Cert.Same.frame_AdFf1, Cert.Same.frame_AdFf1Ideal, Cert.Same.frame_AdFf1RefIdeal,
    Cert.Same.frame_AdFf2, Cert.Same.frame_AdFf2Ideal, Cert.Same.frame_AdFf2RefIdeal,
    Cert.Same.frame_AdPle, Cert.Same.frame_AdPleIdeal, Cert.Same.frame_AdPleRefIdeal,
    Cert.Same.frame_AdSmall, Cert.Same.frame_AdSmallIdeal, Cert.Same.frame_AdSmallRefIdeal,
    IdealRules.named_const.statement _ _ _ _ _ rfl,
    trivial, Cert.dw_in,
    trivial, Cert.dw_ff2,
    trivial, Cert.dw_ff1,
    trivial, Cert.in_bwd,
    trivial, Cert.dw_square,
    trivial, Cert.dw_branch,
    trivial, Cert.dw_ple,
    trivial, Cert.head,
    trivial, Cert.ffn_bwd,
    trivial, Cert.mix_fwd,
    trivial, Cert.adam_in,
    trivial, Cert.adam_branch,
    trivial, Cert.adam_square,
    trivial, Cert.adam_ff1,
    trivial, Cert.adam_ff2,
    trivial, Cert.adam_ple,
    trivial, Cert.adam_small⟩

end Cert.Proof

end
